-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v85)) (v1 : (c : Dev Cert.Kernel2Ideal.nD) → Buf (Elt Ideal) ((c.tc : Thread Cert.Kernel2Ideal.nD Cert.Kernel2Ideal.τ).loc Cert.Kernel2Ideal.main_v86)) (v2 : (c : Dev Cert.Kernel2Ideal.nD) → Buf (Elt Ideal) ((c.tc : Thread Cert.Kernel2Ideal.nD Cert.Kernel2Ideal.τ).loc Cert.Kernel2Ideal.main_v87)) (v3 : (c : Dev Cert.Kernel2Ideal.nD) → Buf (Elt Ideal) ((c.tc : Thread Cert.Kernel2Ideal.nD Cert.Kernel2Ideal.τ).loc Cert.Kernel2Ideal.main_v89)) (v4 : (c : Dev Cert.Kernel2Ideal.nD) → Buf (Elt Ideal) ((c.tc : Thread Cert.Kernel2Ideal.nD Cert.Kernel2Ideal.τ).loc Cert.Kernel2Ideal.main_v84)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v85) = v0 c
          ∧ r.2.mem ((c.tc : Thread Cert.Kernel2Ideal.nD Cert.Kernel2Ideal.τ).loc Cert.Kernel2Ideal.main_v86) = v1 c
          ∧ r.2.mem ((c.tc : Thread Cert.Kernel2Ideal.nD Cert.Kernel2Ideal.τ).loc Cert.Kernel2Ideal.main_v87) = v2 c
          ∧ r.2.mem ((c.tc : Thread Cert.Kernel2Ideal.nD Cert.Kernel2Ideal.τ).loc Cert.Kernel2Ideal.main_v89) = v3 c
          ∧ r.2.mem ((c.tc : Thread Cert.Kernel2Ideal.nD Cert.Kernel2Ideal.τ).loc Cert.Kernel2Ideal.main_v84) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v61) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v42) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "ln2" .f32 0x3F317218#32 ((Real.log 2 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v69)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v69) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v124) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "s96" .f32 0x3DD105EC#32 (((Real.sqrt 96)⁻¹ : ℝ) : EReal)
  ∧ IdealRules.named_const.Statement Cert.Kernel6Ideal.κ "ln2" .f32 0x3F317218#32 ((Real.log 2 : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v75_0)) (v1 : (c : Dev Cert.Kernel6Ideal.nD) → Buf (Elt Ideal) ((c.tc : Thread Cert.Kernel6Ideal.nD Cert.Kernel6Ideal.τ).loc Cert.Kernel6Ideal.main_v75_1)) (v2 : (c : Dev Cert.Kernel6Ideal.nD) → Buf (Elt Ideal) ((c.tc : Thread Cert.Kernel6Ideal.nD Cert.Kernel6Ideal.τ).loc Cert.Kernel6Ideal.main_v75_2)) (v3 : (c : Dev Cert.Kernel6Ideal.nD) → Buf (Elt Ideal) ((c.tc : Thread Cert.Kernel6Ideal.nD Cert.Kernel6Ideal.τ).loc Cert.Kernel6Ideal.main_v75_3)) (v4 : (c : Dev Cert.Kernel6Ideal.nD) → Buf (Elt Ideal) ((c.tc : Thread Cert.Kernel6Ideal.nD Cert.Kernel6Ideal.τ).loc Cert.Kernel6Ideal.main_v75_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v75_0) = v0 c
          ∧ r.2.mem ((c.tc : Thread Cert.Kernel6Ideal.nD Cert.Kernel6Ideal.τ).loc Cert.Kernel6Ideal.main_v75_1) = v1 c
          ∧ r.2.mem ((c.tc : Thread Cert.Kernel6Ideal.nD Cert.Kernel6Ideal.τ).loc Cert.Kernel6Ideal.main_v75_2) = v2 c
          ∧ r.2.mem ((c.tc : Thread Cert.Kernel6Ideal.nD Cert.Kernel6Ideal.τ).loc Cert.Kernel6Ideal.main_v75_3) = v3 c
          ∧ r.2.mem ((c.tc : Thread Cert.Kernel6Ideal.nD Cert.Kernel6Ideal.τ).loc Cert.Kernel6Ideal.main_v75_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v188) = v0 c
          ∧ r.2.mem ((c.tc : Thread Cert.Reference6Ideal.nD Cert.Reference6Ideal.τ).loc Cert.Reference6Ideal.main_v192) = v1 c
          ∧ r.2.mem ((c.tc : Thread Cert.Reference6Ideal.nD Cert.Reference6Ideal.τ).loc Cert.Reference6Ideal.main_v194) = v2 c
          ∧ r.2.mem ((c.tc : Thread Cert.Reference6Ideal.nD Cert.Reference6Ideal.τ).loc Cert.Reference6Ideal.main_v195) = v3 c
          ∧ r.2.mem ((c.tc : Thread Cert.Reference6Ideal.nD Cert.Reference6Ideal.τ).loc Cert.Reference6Ideal.main_v196) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  IdealRules.named_const.Statement Cert.Kernel7Ideal.κ "mask" .f32 0xF149F2CA#32 ⊥
  ∧ IdealRules.named_const.Statement Cert.Kernel7Ideal.κ "log2e" .f32 0x3FB8AA3B#32 (((Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v18_0)) (v1 : (c : Dev Cert.Kernel7Ideal.nD) → Buf (Elt Ideal) ((c.tc : Thread Cert.Kernel7Ideal.nD Cert.Kernel7Ideal.τ).loc Cert.Kernel7Ideal.main_v18_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18_0) = v0 c
          ∧ r.2.mem ((c.tc : Thread Cert.Kernel7Ideal.nD Cert.Kernel7Ideal.τ).loc Cert.Kernel7Ideal.main_v18_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  IdealRules.named_const.Statement Cert.Kernel8Ideal.κ "mask" .f32 0xF149F2CA#32 ⊥

def preserves_Kernel9_Kernel9Ideal : Prop :=
  IdealRules.named_const.Statement Cert.Kernel9Ideal.κ "mask" .f32 0xF149F2CA#32 ⊥

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  IdealRules.named_const.Statement Cert.Kernel12Ideal.κ "log2e" .f32 0x3FB8AA3B#32 (((Real.log 2)⁻¹ : ℝ) : EReal)

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v30_0)) (v1 : (c : Dev Cert.Kernel12Ideal.nD) → Buf (Elt Ideal) ((c.tc : Thread Cert.Kernel12Ideal.nD Cert.Kernel12Ideal.τ).loc Cert.Kernel12Ideal.main_v30_1)) (v2 : (c : Dev Cert.Kernel12Ideal.nD) → Buf (Elt Ideal) ((c.tc : Thread Cert.Kernel12Ideal.nD Cert.Kernel12Ideal.τ).loc Cert.Kernel12Ideal.main_v30_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v30_0) = v0 c
          ∧ r.2.mem ((c.tc : Thread Cert.Kernel12Ideal.nD Cert.Kernel12Ideal.τ).loc Cert.Kernel12Ideal.main_v30_1) = v1 c
          ∧ r.2.mem ((c.tc : Thread Cert.Kernel12Ideal.nD Cert.Kernel12Ideal.τ).loc Cert.Kernel12Ideal.main_v30_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v21) = v1 c
          ∧ r.2.mem ((c.tc : Thread Cert.Reference12Ideal.nD Cert.Reference12Ideal.τ).loc Cert.Reference12Ideal.main_v33) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "qscale" .f32 0x3E38AA3B#32 (((Real.log 256)⁻¹ : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v43_0)) (v1 : (c : Dev Cert.Kernel13Ideal.nD) → Buf (Elt Ideal) ((c.tc : Thread Cert.Kernel13Ideal.nD Cert.Kernel13Ideal.τ).loc Cert.Kernel13Ideal.main_v43_1)) (v2 : (c : Dev Cert.Kernel13Ideal.nD) → Buf (Elt Ideal) ((c.tc : Thread Cert.Kernel13Ideal.nD Cert.Kernel13Ideal.τ).loc Cert.Kernel13Ideal.main_v43_2)) (v3 : (c : Dev Cert.Kernel13Ideal.nD) → Buf (Elt Ideal) ((c.tc : Thread Cert.Kernel13Ideal.nD Cert.Kernel13Ideal.τ).loc Cert.Kernel13Ideal.main_v43_3)) (v4 : (c : Dev Cert.Kernel13Ideal.nD) → Buf (Elt Ideal) ((c.tc : Thread Cert.Kernel13Ideal.nD Cert.Kernel13Ideal.τ).loc Cert.Kernel13Ideal.main_v43_4)) (v5 : (c : Dev Cert.Kernel13Ideal.nD) → Buf (Elt Ideal) ((c.tc : Thread Cert.Kernel13Ideal.nD Cert.Kernel13Ideal.τ).loc Cert.Kernel13Ideal.main_v43_5)) (v6 : (c : Dev Cert.Kernel13Ideal.nD) → Buf (Elt Ideal) ((c.tc : Thread Cert.Kernel13Ideal.nD Cert.Kernel13Ideal.τ).loc Cert.Kernel13Ideal.main_v43_6)) (v7 : (c : Dev Cert.Kernel13Ideal.nD) → Buf (Elt Ideal) ((c.tc : Thread Cert.Kernel13Ideal.nD Cert.Kernel13Ideal.τ).loc Cert.Kernel13Ideal.main_v43_7)) (v8 : (c : Dev Cert.Kernel13Ideal.nD) → Buf (Elt Ideal) ((c.tc : Thread Cert.Kernel13Ideal.nD Cert.Kernel13Ideal.τ).loc Cert.Kernel13Ideal.main_v43_8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v43_0) = v0 c
          ∧ r.2.mem ((c.tc : Thread Cert.Kernel13Ideal.nD Cert.Kernel13Ideal.τ).loc Cert.Kernel13Ideal.main_v43_1) = v1 c
          ∧ r.2.mem ((c.tc : Thread Cert.Kernel13Ideal.nD Cert.Kernel13Ideal.τ).loc Cert.Kernel13Ideal.main_v43_2) = v2 c
          ∧ r.2.mem ((c.tc : Thread Cert.Kernel13Ideal.nD Cert.Kernel13Ideal.τ).loc Cert.Kernel13Ideal.main_v43_3) = v3 c
          ∧ r.2.mem ((c.tc : Thread Cert.Kernel13Ideal.nD Cert.Kernel13Ideal.τ).loc Cert.Kernel13Ideal.main_v43_4) = v4 c
          ∧ r.2.mem ((c.tc : Thread Cert.Kernel13Ideal.nD Cert.Kernel13Ideal.τ).loc Cert.Kernel13Ideal.main_v43_5) = v5 c
          ∧ r.2.mem ((c.tc : Thread Cert.Kernel13Ideal.nD Cert.Kernel13Ideal.τ).loc Cert.Kernel13Ideal.main_v43_6) = v6 c
          ∧ r.2.mem ((c.tc : Thread Cert.Kernel13Ideal.nD Cert.Kernel13Ideal.τ).loc Cert.Kernel13Ideal.main_v43_7) = v7 c
          ∧ r.2.mem ((c.tc : Thread Cert.Kernel13Ideal.nD Cert.Kernel13Ideal.τ).loc Cert.Kernel13Ideal.main_v43_8) = v8 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v171) = v0 c
          ∧ r.2.mem ((c.tc : Thread Cert.Reference13Ideal.nD Cert.Reference13Ideal.τ).loc Cert.Reference13Ideal.main_v173) = v1 c
          ∧ r.2.mem ((c.tc : Thread Cert.Reference13Ideal.nD Cert.Reference13Ideal.τ).loc Cert.Reference13Ideal.main_v175) = v2 c
          ∧ r.2.mem ((c.tc : Thread Cert.Reference13Ideal.nD Cert.Reference13Ideal.τ).loc Cert.Reference13Ideal.main_v177) = v3 c
          ∧ r.2.mem ((c.tc : Thread Cert.Reference13Ideal.nD Cert.Reference13Ideal.τ).loc Cert.Reference13Ideal.main_v179) = v4 c
          ∧ r.2.mem ((c.tc : Thread Cert.Reference13Ideal.nD Cert.Reference13Ideal.τ).loc Cert.Reference13Ideal.main_v181) = v5 c
          ∧ r.2.mem ((c.tc : Thread Cert.Reference13Ideal.nD Cert.Reference13Ideal.τ).loc Cert.Reference13Ideal.main_v183) = v6 c
          ∧ r.2.mem ((c.tc : Thread Cert.Reference13Ideal.nD Cert.Reference13Ideal.τ).loc Cert.Reference13Ideal.main_v185) = v7 c
          ∧ r.2.mem ((c.tc : Thread Cert.Reference13Ideal.nD Cert.Reference13Ideal.τ).loc Cert.Reference13Ideal.main_v187) = v8 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  IdealRules.named_const.Statement Cert.Kernel14Ideal.κ "qscale" .f32 0x3E16C740#32 ((((Real.sqrt 96) * (Real.log 2))⁻¹ : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v59_0)) (v1 : (c : Dev Cert.Kernel14Ideal.nD) → Buf (Elt Ideal) ((c.tc : Thread Cert.Kernel14Ideal.nD Cert.Kernel14Ideal.τ).loc Cert.Kernel14Ideal.main_v59_1)) (v2 : (c : Dev Cert.Kernel14Ideal.nD) → Buf (Elt Ideal) ((c.tc : Thread Cert.Kernel14Ideal.nD Cert.Kernel14Ideal.τ).loc Cert.Kernel14Ideal.main_v59_2)) (v3 : (c : Dev Cert.Kernel14Ideal.nD) → Buf (Elt Ideal) ((c.tc : Thread Cert.Kernel14Ideal.nD Cert.Kernel14Ideal.τ).loc Cert.Kernel14Ideal.main_v59_3)) (v4 : (c : Dev Cert.Kernel14Ideal.nD) → Buf (Elt Ideal) ((c.tc : Thread Cert.Kernel14Ideal.nD Cert.Kernel14Ideal.τ).loc Cert.Kernel14Ideal.main_v59_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v59_0) = v0 c
          ∧ r.2.mem ((c.tc : Thread Cert.Kernel14Ideal.nD Cert.Kernel14Ideal.τ).loc Cert.Kernel14Ideal.main_v59_1) = v1 c
          ∧ r.2.mem ((c.tc : Thread Cert.Kernel14Ideal.nD Cert.Kernel14Ideal.τ).loc Cert.Kernel14Ideal.main_v59_2) = v2 c
          ∧ r.2.mem ((c.tc : Thread Cert.Kernel14Ideal.nD Cert.Kernel14Ideal.τ).loc Cert.Kernel14Ideal.main_v59_3) = v3 c
          ∧ r.2.mem ((c.tc : Thread Cert.Kernel14Ideal.nD Cert.Kernel14Ideal.τ).loc Cert.Kernel14Ideal.main_v59_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v91) = v0 c
          ∧ r.2.mem ((c.tc : Thread Cert.Reference14Ideal.nD Cert.Reference14Ideal.τ).loc Cert.Reference14Ideal.main_v95) = v1 c
          ∧ r.2.mem ((c.tc : Thread Cert.Reference14Ideal.nD Cert.Reference14Ideal.τ).loc Cert.Reference14Ideal.main_v98) = v2 c
          ∧ r.2.mem ((c.tc : Thread Cert.Reference14Ideal.nD Cert.Reference14Ideal.τ).loc Cert.Reference14Ideal.main_v99) = v3 c
          ∧ r.2.mem ((c.tc : Thread Cert.Reference14Ideal.nD Cert.Reference14Ideal.τ).loc Cert.Reference14Ideal.main_v100) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  IdealRules.named_const.Statement Cert.Kernel15Ideal.κ "mask" .f32 0xF149F2CA#32 ⊥
  ∧ IdealRules.named_const.Statement Cert.Kernel15Ideal.κ "log2e" .f32 0x3FB8AA3B#32 (((Real.log 2)⁻¹ : ℝ) : EReal)

def preserves_Kernel16_Kernel16Ideal : Prop :=
  IdealRules.named_const.Statement Cert.Kernel16Ideal.κ "mask" .f32 0xF149F2CA#32 ⊥
  ∧ IdealRules.named_const.Statement Cert.Kernel16Ideal.κ "log2e" .f32 0x3FB8AA3B#32 (((Real.log 2)⁻¹ : ℝ) : EReal)

def preserves_Kernel17_Kernel17Ideal : Prop :=
  IdealRules.named_const.Statement Cert.Kernel17Ideal.κ "mask" .f32 0xF149F2CA#32 ⊥
  ∧ IdealRules.named_const.Statement Cert.Kernel17Ideal.κ "log2e" .f32 0x3FB8AA3B#32 (((Real.log 2)⁻¹ : ℝ) : EReal)

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v9)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v9) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v10) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v25) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v27) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite2 : Cert.Pre_finite2.Facts) (hPre_finite3 : Cert.Pre_finite3.Facts) (hPre_finite4 : Cert.Pre_finite4.Facts) (hPre_finite6 : Cert.Pre_finite6.Facts) (hPre_finite7 : Cert.Pre_finite7.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ preserves_Kernel9_Kernel9Ideal
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ preserves_Kernel16_Kernel16Ideal
    ∧ preserves_Kernel17_Kernel17Ideal
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S8192x1024 : Shape := ⟨2, ![8192, 1024]⟩
abbrev S8192x6304 : Shape := ⟨2, ![8192, 6304]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x6304 : S_.BroadcastsInDim S8192x6304 (![] : Fin 0 → Fin S8192x6304.rank)
  reducesTo_S8192x6304_S_d0_1 : S8192x6304.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x1024 .f32) (main_arg1 : FVec F S8192x6304 .f32) (main_arg2 : FVec F S8192x512 .f32) (main_arg3 : FVec F S8192x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x6304 .f32 := Host.absf main_arg1
  let main_cst_0 : FVec F S_ .f32 := constant S_ .f32 0x7F800000#32
  let main_v5 : FVec F S8192x6304 .f32 := broadcastInDim S8192x6304 ![] bcast_S_S8192x6304 main_cst_0
  let main_v6 : IVec S8192x6304 1 := cmpf .olt main_v4 main_v5
  let main_c_1 : IVec S_ 1 := constantI S_ 1 1#1
  let main_v7 : IVec S_ 1 := (fun x v => Host.reduce IntOp.andi x v reducesTo_S8192x6304_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_finite12.lean ====
abbrev S8192x512 : Shape := ⟨2, ![8192, 512]⟩
abbrev S8192x6304 : Shape := ⟨2, ![8192, 6304]⟩
abbrev S3x8192x8x64 : Shape := ⟨4, ![3, 8192, 8, 64]⟩
abbrev S3x8192x8 : Shape := ⟨3, ![3, 8192, 8]⟩
abbrev S_ : Shape := ⟨0, ![]⟩

class Facts : Prop where
  bcast_S_S3x8192x8 : S_.BroadcastsInDim S3x8192x8 (![] : Fin 0 → Fin S3x8192x8.rank)
  reducesTo_S3x8192x8_S_d0_1_2 : S3x8192x8.ReducesTo [0, 1, 2] S_
  h_S_ : 0 < S_.numel

variable [Facts]

def fn {F : FTy → Type} [FloatOps F] (main_arg0 : FVec F S8192x512 .f32) (main_arg1 : FVec F S8192x6304 .f32) (main_arg2 : FVec F S3x8192x8x64 .f32) (main_arg3 : FVec F S3x8192x8 .f32) : IVec S_ 1 :=
  let main_v0 : FVec F S3x8192x8 .f32 := Host.absf main_arg3
  let main_cst : FVec F S_ .f32 := constant S_ .f32 0x7F800000#32
  let main_v1 : FVec F S3x8192x8 .f32 := broadcastInDim S3x8192x8 ![] bcast_S_S3x8192x8 main_cst
  let main_v2 : IVec S3x8192x8 1 := cmpf .olt main_v0 main_v1
  let main_c : IVec S_ 1 := constantI S_ 1 1#1
  let main_v3 : IVec S_ 1 := (fun x v => Host.reduce IntOp.andi x v reducesTo_S3x8192x8_S_d0_1_2 h_S_) main_v2 main_c
  main_v3
-- ==== Pre_finite2.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8x32 : S_.BroadcastsInDim S8192x8x32 (![] : Fin 0 → Fin S8192x8x32.rank)
  reducesTo_S8192x8x32_S_d0_1_2 : S8192x8x32.ReducesTo [0, 1, 2] S_
  bcast_S_S8192x32 : S_.BroadcastsInDim S8192x32 (![] : Fin 0 → Fin S8192x32.rank)
  reducesTo_S8192x32_S_d0_1 : S8192x32.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S8192x8x64 .f32) (main_arg5 : FVec F S8192x512 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  main_v28

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) (main_arg5 : FVec F S8192x512 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x32 .f32 := Host.absf main_arg1
  let main_cst_0 : FVec F S_ .f32 := constant S_ .f32 0x7F800000#32
  let main_v5 : FVec F S8192x8x32 .f32 := broadcastInDim S8192x8x32 ![] bcast_S_S8192x8x32 main_cst_0
  let main_v6 : IVec S8192x8x32 1 := cmpf .olt main_v4 main_v5
  let main_c_1 : IVec S_ 1 := constantI S_ 1 1#1
  let main_v7 : IVec S_ 1 := (fun x v => Host.reduce IntOp.andi x v reducesTo_S8192x8x32_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_v13 main_v16
-- ==== Pre_finite3.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite4.lean ====
abbrev S8192x6304 : Shape := ⟨2, ![8192, 6304]⟩
abbrev S1024x6304 : Shape := ⟨2, ![1024, 6304]⟩
abbrev S8192x1024 : Shape := ⟨2, ![8192, 1024]⟩
abbrev S1024 : Shape := ⟨1, ![1024]⟩
abbrev S_ : Shape := ⟨0, ![]⟩

class Facts : Prop where
  bcast_S_S8192x6304 : S_.BroadcastsInDim S8192x6304 (![] : Fin 0 → Fin S8192x6304.rank)
  reducesTo_S8192x6304_S_d0_1 : S8192x6304.ReducesTo [0, 1] S_
  h_S_ : 0 < S_.numel
  bcast_S_S1024x6304 : S_.BroadcastsInDim S1024x6304 (![] : Fin 0 → Fin S1024x6304.rank)
  reducesTo_S1024x6304_S_d0_1 : S1024x6304.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x6304 .f32) (main_arg1 : FVec F S1024x6304 .f32) (main_arg2 : FVec F S8192x1024 .f32) (main_arg3 : FVec F S1024 .f32) (main_arg4 : FVec F S8192x1024 .f32) : IVec S_ 1 :=
  let main_v0 : FVec F S8192x6304 .f32 := Host.absf main_arg0
  let main_cst : FVec F S_ .f32 := constant S_ .f32 0x7F800000#32
  let main_v1 : FVec F S8192x6304 .f32 := broadcastInDim S8192x6304 ![] bcast_S_S8192x6304 main_cst
  let main_v2 : IVec S8192x6304 1 := cmpf .olt main_v0 main_v1
  let main_c : IVec S_ 1 := constantI S_ 1 1#1
  let main_v3 : IVec S_ 1 := (fun x v => Host.reduce IntOp.andi x v reducesTo_S8192x6304_S_d0_1 h_S_) main_v2 main_c
  let main_v4 : FVec F S1024x6304 .f32 := Host.absf main_arg1
  let main_cst_0 : FVec F S_ .f32 := constant S_ .f32 0x7F800000#32
  let main_v5 : FVec F S1024x6304 .f32 := broadcastInDim S1024x6304 ![] bcast_S_S1024x6304 main_cst_0
  let main_v6 : IVec S1024x6304 1 := cmpf .olt main_v4 main_v5
  let main_c_1 : IVec S_ 1 := constantI S_ 1 1#1
  let main_v7 : IVec S_ 1 := (fun x v => Host.reduce IntOp.andi x v reducesTo_S1024x6304_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite6.lean ====
abbrev S8192x8x64 : Shape := ⟨3, ![8192, 8, 64]⟩
abbrev S8192x8x32 : Shape := ⟨3, ![8192, 8, 32]⟩
abbrev S8192x384 : Shape := ⟨2, ![8192, 384]⟩
abbrev S8192x256 : Shape := ⟨2, ![8192, 256]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8x32 : S_.BroadcastsInDim S8192x8x32 (![] : Fin 0 → Fin S8192x8x32.rank)
  reducesTo_S8192x8x32_S_d0_1_2 : S8192x8x32.ReducesTo [0, 1, 2] S_
  bcast_S_S8192x384 : S_.BroadcastsInDim S8192x384 (![] : Fin 0 → Fin S8192x384.rank)
  reducesTo_S8192x384_S_d0_1 : S8192x384.ReducesTo [0, 1] S_
  bcast_S_S8192x256 : S_.BroadcastsInDim S8192x256 (![] : Fin 0 → Fin S8192x256.rank)
  reducesTo_S8192x256_S_d0_1 : S8192x256.ReducesTo [0, 1] S_
  bcast_S_S384 : S_.BroadcastsInDim S384 (![] : Fin 0 → Fin S384.rank)
  reducesTo_S384_S_d0 : S384.ReducesTo [0] S_
  bcast_S_S256 : S_.BroadcastsInDim S256 (![] : Fin 0 → Fin S256.rank)
  reducesTo_S256_S_d0 : S256.ReducesTo [0] S_
  bcast_S_S384x768 : S_.BroadcastsInDim S384x768 (![] : Fin 0 → Fin S384x768.rank)
  reducesTo_S384x768_S_d0_1 : S384x768.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part3 {F : FTy → Type} [FloatOps F] (main_v48 : IVec S_ 1) (main_v49 : FVec F S256x1024 .f32) (main_v50 : FVec F S256x1024 .f32) : IVec S_ 1 :=
  let main_v51 : IVec S256x1024 1 := cmpf .olt main_v49 main_v50
  let main_c_19 : IVec S_ 1 := constantI S_ 1 1#1
  let main_v52 : IVec S_ 1 := (fun x v => Host.reduce IntOp.andi x v reducesTo_S256x1024_S_d0_1 h_S_) main_v51 main_c_19
  let main_v53 : IVec S_ 1 := andi main_v48 main_v52
  main_v53

def fn_part2 {F : FTy → Type} [FloatOps F] (main_arg7 : FVec F S384 .f32) (main_arg8 : FVec F S256 .f32) (main_arg9 : FVec F S384x768 .f32) (main_arg10 : FVec F S256x1024 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S384x768 .f32 := Host.absf main_arg9
  let main_cst_16 : FVec F S_ .f32 := constant S_ .f32 0x7F800000#32
  let main_v45 : FVec F S384x768 .f32 := broadcastInDim S384x768 ![] bcast_S_S384x768 main_cst_16
  let main_v46 : IVec S384x768 1 := cmpf .olt main_v44 main_v45
  let main_c_17 : IVec S_ 1 := constantI S_ 1 1#1
  let main_v47 : IVec S_ 1 := (fun x v => Host.reduce IntOp.andi x v reducesTo_S384x768_S_d0_1 h_S_) main_v46 main_c_17
  let main_v48 : IVec S_ 1 := andi main_v43 main_v47
  let main_v49 : FVec F S256x1024 .f32 := Host.absf main_arg10
  let main_cst_18 : FVec F S_ .f32 := constant S_ .f32 0x7F800000#32
  let main_v50 : FVec F S256x1024 .f32 := broadcastInDim S256x1024 ![] bcast_S_S256x1024 main_cst_18
  fn_part3 (F := F) main_v48 main_v49 main_v50

def fn_part1 {F : FTy → Type} [FloatOps F] (main_arg4 : FVec F S8192x8x64 .f32) (main_arg5 : FVec F S8192x384 .f32) (main_arg6 : FVec F S8192x256 .f32) (main_arg7 : FVec F S384 .f32) (main_arg8 : FVec F S256 .f32) (main_arg9 : FVec F S384x768 .f32) (main_arg10 : FVec F S256x1024 .f32) (main_v13 : IVec S_ 1) (main_v16 : IVec S8192x8x32 1) : IVec S_ 1 :=
  let main_c_5 : IVec S_ 1 := constantI S_ 1 1#1
  let main_v17 : IVec S_ 1 := (fun x v => Host.reduce IntOp.andi x v reducesTo_S8192x8x32_S_d0_1_2 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  let main_v24 : FVec F S8192x384 .f32 := Host.absf main_arg5
  let main_cst_8 : FVec F S_ .f32 := constant S_ .f32 0x7F800000#32
  let main_v25 : FVec F S8192x384 .f32 := broadcastInDim S8192x384 ![] bcast_S_S8192x384 main_cst_8
  let main_v26 : IVec S8192x384 1 := cmpf .olt main_v24 main_v25
  let main_c_9 : IVec S_ 1 := constantI S_ 1 1#1
  let main_v27 : IVec S_ 1 := (fun x v => Host.reduce IntOp.andi x v reducesTo_S8192x384_S_d0_1 h_S_) main_v26 main_c_9
  let main_v28 : IVec S_ 1 := andi main_v23 main_v27
  let main_v29 : FVec F S8192x256 .f32 := Host.absf main_arg6
  let main_cst_10 : FVec F S_ .f32 := constant S_ .f32 0x7F800000#32
  let main_v30 : FVec F S8192x256 .f32 := broadcastInDim S8192x256 ![] bcast_S_S8192x256 main_cst_10
  let main_v31 : IVec S8192x256 1 := cmpf .olt main_v29 main_v30
  let main_c_11 : IVec S_ 1 := constantI S_ 1 1#1
  let main_v32 : IVec S_ 1 := (fun x v => Host.reduce IntOp.andi x v reducesTo_S8192x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x8x64 .f32) (main_arg1 : FVec F S8192x8x32 .f32) (main_arg2 : FVec F S8192x8x64 .f32) (main_arg3 : FVec F S8192x8x32 .f32) (main_arg4 : FVec F S8192x8x64 .f32) (main_arg5 : FVec F S8192x384 .f32) (main_arg6 : FVec F S8192x256 .f32) (main_arg7 : FVec F S384 .f32) (main_arg8 : FVec F S256 .f32) (main_arg9 : FVec F S384x768 .f32) (main_arg10 : FVec F S256x1024 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x32 .f32 := Host.absf main_arg1
  let main_cst_0 : FVec F S_ .f32 := constant S_ .f32 0x7F800000#32
  let main_v5 : FVec F S8192x8x32 .f32 := broadcastInDim S8192x8x32 ![] bcast_S_S8192x8x32 main_cst_0
  let main_v6 : IVec S8192x8x32 1 := cmpf .olt main_v4 main_v5
  let main_c_1 : IVec S_ 1 := constantI S_ 1 1#1
  let main_v7 : IVec S_ 1 := (fun x v => Host.reduce IntOp.andi x v reducesTo_S8192x8x32_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8x32 .f32 := Host.absf main_arg3
  let main_cst_4 : FVec F S_ .f32 := constant S_ .f32 0x7F800000#32
  let main_v15 : FVec F S8192x8x32 .f32 := broadcastInDim S8192x8x32 ![] bcast_S_S8192x8x32 main_cst_4
  let main_v16 : IVec S8192x8x32 1 := cmpf .olt main_v14 main_v15
  fn_part1 (F := F) main_arg4 main_arg5 main_arg6 main_arg7 main_arg8 main_arg9 main_arg10 main_v13 main_v16
-- ==== Pre_finite7.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8x32 : S_.BroadcastsInDim S8192x8x32 (![] : Fin 0 → Fin S8192x8x32.rank)
  reducesTo_S8192x8x32_S_d0_1_2 : S8192x8x32.ReducesTo [0, 1, 2] S_
  bcast_S_S8192x32 : S_.BroadcastsInDim S8192x32 (![] : Fin 0 → Fin S8192x32.rank)
  reducesTo_S8192x32_S_d0_1 : S8192x32.ReducesTo [0, 1] S_

variable [Facts]

def fn_part1 {F : FTy → Type} [FloatOps F] (main_arg4 : FVec F S8192x8x64 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x8x64 .f32 := Host.absf main_arg4
  let main_cst_6 : FVec F S_ .f32 := constant S_ .f32 0x7F800000#32
  let main_v20 : FVec F S8192x8x64 .f32 := broadcastInDim S8192x8x64 ![] bcast_S_S8192x8x64 main_cst_6
  let main_v21 : IVec S8192x8x64 1 := cmpf .olt main_v19 main_v20
  let main_c_7 : IVec S_ 1 := constantI S_ 1 1#1
  let main_v22 : IVec S_ 1 := (fun x v => Host.reduce IntOp.andi x v reducesTo_S8192x8x64_S_d0_1_2 h_S_) main_v21 main_c_7
  let main_v23 : IVec S_ 1 := andi main_v18 main_v22
  main_v23

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x32 .f32 := Host.absf main_arg1
  let main_cst_0 : FVec F S_ .f32 := constant S_ .f32 0x7F800000#32
  let main_v5 : FVec F S8192x8x32 .f32 := broadcastInDim S8192x8x32 ![] bcast_S_S8192x8x32 main_cst_0
  let main_v6 : IVec S8192x8x32 1 := cmpf .olt main_v4 main_v5
  let main_c_1 : IVec S_ 1 := constantI S_ 1 1#1
  let main_v7 : IVec S_ 1 := (fun x v => Host.reduce IntOp.andi x v reducesTo_S8192x8x32_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_v13 main_v16
-- ==== Kernel.lean ====
abbrev S8192x1024 : Shape := ⟨2, ![8192, 1024]⟩
abbrev S8192x6304 : Shape := ⟨2, ![8192, 6304]⟩
abbrev S8192x512 : Shape := ⟨2, ![8192, 512]⟩
abbrev S8192x640 : Shape := ⟨2, ![8192, 640]⟩
abbrev S_ : Shape := ⟨0, ![]⟩
abbrev S8192x64 : Shape := ⟨2, ![8192, 64]⟩
abbrev S8192x32 : Shape := ⟨2, ![8192, 32]⟩
abbrev S8192x256 : Shape := ⟨2, ![8192, 256]⟩
abbrev S8192x4608 : Shape := ⟨2, ![8192, 4608]⟩
abbrev S8192x6656 : Shape := ⟨2, ![8192, 6656]⟩
abbrev S8192x8 : Shape := ⟨2, ![8192, 8]⟩
abbrev S512x512 : Shape := ⟨2, ![512, 512]⟩
abbrev S512x8 : Shape := ⟨2, ![512, 8]⟩
abbrev S512x1024 : Shape := ⟨2, ![512, 1024]⟩

abbrev nBuf : Space → Nat
  | .hbm => 22
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x6304, .f32⟩
  | .hbm, ⟨2, _⟩ => ⟨S8192x512, .f32⟩
  | .hbm, ⟨3, _⟩ => ⟨S8192x512, .f32⟩
  | .hbm, ⟨4, _⟩ => ⟨S8192x640, .f32⟩
  | .hbm, ⟨5, _⟩ => ⟨S_, .f32⟩
  | .hbm, ⟨6, _⟩ => ⟨S8192x64, .f32⟩
  | .hbm, ⟨7, _⟩ => ⟨S8192x32, .f32⟩
  | .hbm, ⟨8, _⟩ => ⟨S_, .f32⟩
  | .hbm, ⟨9, _⟩ => ⟨S8192x32, .f32⟩
  | .hbm, ⟨10, _⟩ => ⟨S_, .f32⟩
  | .hbm, ⟨11, _⟩ => ⟨S8192x256, .f32⟩
  | .hbm, ⟨12, _⟩ => ⟨S8192x512, .f32⟩
  | .hbm, ⟨13, _⟩ => ⟨S8192x512, .f32⟩
  | .hbm, ⟨14, _⟩ => ⟨S8192x4608, .f32⟩
  | .hbm, ⟨15, _⟩ => ⟨S8192x6656, .f32⟩
  | .hbm, ⟨16, _⟩ => ⟨S8192x6656, .bf16⟩
  | .hbm, ⟨17, _⟩ => ⟨S8192x512, .bf16⟩
  | .hbm, ⟨18, _⟩ => ⟨S8192x512, .bf16⟩
  | .hbm, ⟨19, _⟩ => ⟨S8192x8, .f32⟩
  | .hbm, ⟨20, _⟩ => ⟨S8192x8, .f32⟩
  | .hbm, ⟨21, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x8, .f32⟩
  | .local _ .vmem, ⟨17, _⟩ => ⟨S512x8, .f32⟩
  | .local _ .vmem, ⟨18, _⟩ => ⟨S512x8, .f32⟩
  | .local _ .vmem, ⟨19, _⟩ => ⟨S512x8, .f32⟩
  | .local _ .vmem, ⟨20, _⟩ => ⟨S512x1024, .bf16⟩
  | .local _ .vmem, ⟨21, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x1024 : Shape := ⟨2, ![8192, 1024]⟩
abbrev S8192x6304 : Shape := ⟨2, ![8192, 6304]⟩
abbrev S8192x512 : Shape := ⟨2, ![8192, 512]⟩
abbrev S8192x384 : Shape := ⟨2, ![8192, 384]⟩
abbrev S8192x256 : Shape := ⟨2, ![8192, 256]⟩
abbrev S8192x32 : Shape := ⟨2, ![8192, 32]⟩
abbrev S8192x4608 : Shape := ⟨2, ![8192, 4608]⟩
abbrev S_ : Shape := ⟨0, ![]⟩
abbrev S8192x8x64 : Shape := ⟨3, ![8192, 8, 64]⟩
abbrev S8192x8 : Shape := ⟨2, ![8192, 8]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6304, .f32⟩
  | .hbm, ⟨2, _⟩ => ⟨S8192x512, .f32⟩
  | .hbm, ⟨3, _⟩ => ⟨S8192x512, .f32⟩
  | .hbm, ⟨4, _⟩ => ⟨S8192x384, .f32⟩
  | .hbm, ⟨5, _⟩ => ⟨S8192x256, .f32⟩
  | .hbm, ⟨6, _⟩ => ⟨S8192x32, .f32⟩
  | .hbm, ⟨7, _⟩ => ⟨S8192x512, .f32⟩
  | .hbm, ⟨8, _⟩ => ⟨S8192x4608, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .bf16⟩
  | .hbm, ⟨54, _⟩ => ⟨S8192x512, .bf16⟩
  | .hbm, ⟨55, _⟩ => ⟨S8192x512, .f32⟩
  | .hbm, ⟨56, _⟩ => ⟨S8192x8x64, .f32⟩
  | .hbm, ⟨57, _⟩ => ⟨S_, .f32⟩
  | .hbm, ⟨58, _⟩ => ⟨S8192x8, .f32⟩
  | .hbm, ⟨59, _⟩ => ⟨S8192x512, .f32⟩
  | .hbm, ⟨60, _⟩ => ⟨S8192x8x64, .f32⟩
  | .hbm, ⟨61, _⟩ => ⟨S_, .f32⟩
  | .hbm, ⟨62, _⟩ => ⟨S8192x8, .f32⟩
  | .hbm, ⟨63, _⟩ => ⟨S8192x1024, .f32⟩
  | .hbm, ⟨64, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v8_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v8_1 : Ref sig .tc := ⟨.hbm, 35, rfl⟩
abbrev main_v8_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_0 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩

abbrev nD : Nat := 1
abbrev τ : Topo := Topo.v7x

variable {F : FTy → Type} [FloatOps F]
-- ==== Kernel2.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S_ : Shape := ⟨0, ![]⟩
abbrev S8192x1x32 : Shape := ⟨3, ![8192, 1, 32]⟩
abbrev S8192x8x128 : Shape := ⟨3, ![8192, 8, 128]⟩
abbrev S8192x1024 : Shape := ⟨2, ![8192, 1024]⟩
abbrev S8x8192x8192 : Shape := ⟨3, ![8, 8192, 8192]⟩
abbrev S8192x8192x8 : Shape := ⟨3, ![8192, 8192, 8]⟩
abbrev S8x8192 : Shape := ⟨2, ![8, 8192]⟩
abbrev S8x8192x1 : Shape := ⟨3, ![8, 8192, 1]⟩
abbrev S4x2x8192 : Shape := ⟨3, ![4, 2, 8192]⟩
abbrev S8x64x8192 : Shape := ⟨3, ![8, 64, 8192]⟩
abbrev S8192x8 : Shape := ⟨2, ![8192, 8]⟩
abbrev S1024x8192 : Shape := ⟨2, ![1024, 8192]⟩
abbrev S512x8192 : Shape := ⟨2, ![512, 8192]⟩
abbrev S4x8192x2 : Shape := ⟨3, ![4, 8192, 2]⟩
abbrev S8192x4x2 : Shape := ⟨3, ![8192, 4, 2]⟩
abbrev S1024x256 : Shape := ⟨2, ![1024, 256]⟩
abbrev S2048x256 : Shape := ⟨2, ![2048, 256]⟩
abbrev S2048x128 : Shape := ⟨2, ![2048, 128]⟩
abbrev S256x1024 : Shape := ⟨2, ![256, 1024]⟩
abbrev S1024x128 : Shape := ⟨2, ![1024, 128]⟩
abbrev S128x1024 : Shape := ⟨2, ![128, 1024]⟩
abbrev S1x1024x2 : Shape := ⟨3, ![1, 1024, 2]⟩
abbrev S8192x256 : Shape := ⟨2, ![8192, 256]⟩
abbrev S256x2048 : Shape := ⟨2, ![256, 2048]⟩
abbrev S128x2048 : Shape := ⟨2, ![128, 2048]⟩
abbrev S1024x2048 : Shape := ⟨2, ![1024, 2048]⟩
abbrev S1x1024x1 : Shape := ⟨3, ![1, 1024, 1]⟩
abbrev S1024x1 : Shape := ⟨2, ![1024, 1]⟩
abbrev S64x2048 : Shape := ⟨2, ![64, 2048]⟩
abbrev S64x1024 : Shape := ⟨2, ![64, 1024]⟩

abbrev nBuf : Space → Nat
  | .hbm => 112
  | .vmem => 25
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x8x32, .f32⟩
  | .hbm, ⟨10, _⟩ => ⟨S8192x1x32, .f32⟩
  | .hbm, ⟨11, _⟩ => ⟨S8192x8x32, .f32⟩
  | .hbm, ⟨12, _⟩ => ⟨S8192x8x128, .f32⟩
  | .hbm, ⟨13, _⟩ => ⟨S8192x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x8x128, .f32⟩
  | .hbm, ⟨22, _⟩ => ⟨S8192x1024, .f32⟩
  | .hbm, ⟨23, _⟩ => ⟨S8192x1024, .bf16⟩
  | .hbm, ⟨24, _⟩ => ⟨S8192x512, .f32⟩
  | .hbm, ⟨25, _⟩ => ⟨S8192x512, .bf16⟩
  | .hbm, ⟨26, _⟩ => ⟨S8192x512, .bf16⟩
  | .hbm, ⟨27, _⟩ => ⟨S8x8192x8192, .f32⟩
  | .hbm, ⟨28, _⟩ => ⟨S8192x8192x8, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8x8192, .f32⟩
  | .hbm, ⟨50, _⟩ => ⟨S8x8192, .f32⟩
  | .hbm, ⟨51, _⟩ => ⟨S4x2x8192, .f32⟩
  | .hbm, ⟨52, _⟩ => ⟨S8x8192x8192, .f32⟩
  | .hbm, ⟨53, _⟩ => ⟨S8192x8192x8, .f32⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S_, .f32⟩
  | .hbm, ⟨64, _⟩ => ⟨S8x8192, .f32⟩
  | .hbm, ⟨65, _⟩ => ⟨S8x8192, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x8192, .f32⟩
  | .hbm, ⟨74, _⟩ => ⟨S8x8192x8192, .f32⟩
  | .hbm, ⟨75, _⟩ => ⟨S8x64x8192, .f32⟩
  | .hbm, ⟨76, _⟩ => ⟨S8192x8x64, .f32⟩
  | .hbm, ⟨77, _⟩ => ⟨S8192x512, .f32⟩
  | .hbm, ⟨78, _⟩ => ⟨S8192x512, .f32⟩
  | .hbm, ⟨79, _⟩ => ⟨S8192x8x64, .f32⟩
  | .hbm, ⟨80, _⟩ => ⟨S_, .f32⟩
  | .hbm, ⟨81, _⟩ => ⟨S8192x8, .f32⟩
  | .hbm, ⟨82, _⟩ => ⟨S1024x8192, .bf16⟩
  | .hbm, ⟨83, _⟩ => ⟨S512x8192, .bf16⟩
  | .hbm, ⟨84, _⟩ => ⟨S4x8192x2, .f32⟩
  | .hbm, ⟨85, _⟩ => ⟨S8192x4x2, .f32⟩
  | .hbm, ⟨86, _⟩ => ⟨S4x8192x2, .f32⟩
  | .hbm, ⟨87, _⟩ => ⟨S8192x1024, .bf16⟩
  | .hbm, ⟨88, _⟩ => ⟨S1024x8192, .bf16⟩
  | .hbm, ⟨89, _⟩ => ⟨S512x8192, .bf16⟩
  | .hbm, ⟨90, _⟩ => ⟨S8192x1024, .f32⟩
  | .hbm, ⟨91, _⟩ => ⟨S8192x8x128, .f32⟩
  | .hbm, ⟨92, _⟩ => ⟨S_, .f32⟩
  | .hbm, ⟨93, _⟩ => ⟨S8192x8x128, .f32⟩
  | .hbm, ⟨94, _⟩ => ⟨S8192x8x128, .f32⟩
  | .hbm, ⟨95, _⟩ => ⟨S8192x1024, .bf16⟩
  | .hbm, ⟨96, _⟩ => ⟨S8192x1024, .f32⟩
  | .hbm, ⟨97, _⟩ => ⟨S8192x8x128, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8192x8x128, .f32⟩
  | .hbm, ⟨102, _⟩ => ⟨S8192x8x128, .f32⟩
  | .hbm, ⟨103, _⟩ => ⟨S8192x512, .bf16⟩
  | .hbm, ⟨104, _⟩ => ⟨S8192x512, .f32⟩
  | .hbm, ⟨105, _⟩ => ⟨S8192x8x64, .f32⟩
  | .hbm, ⟨106, _⟩ => ⟨S8192x8x64, .f32⟩
  | .hbm, ⟨107, _⟩ => ⟨S8192x8x32, .f32⟩
  | .hbm, ⟨108, _⟩ => ⟨S8192x8x64, .f32⟩
  | .hbm, ⟨109, _⟩ => ⟨S8192x8x32, .f32⟩
  | .hbm, ⟨110, _⟩ => ⟨S_, .f32⟩
  | .hbm, ⟨111, _⟩ => ⟨S8192x32, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x1024, .bf16⟩
  | .local _ .vmem, ⟨7, _⟩ => ⟨S256x1024, .bf16⟩
  | .local _ .vmem, ⟨8, _⟩ => ⟨S1024x128, .bf16⟩
  | .local _ .vmem, ⟨9, _⟩ => ⟨S1024x128, .bf16⟩
  | .local _ .vmem, ⟨10, _⟩ => ⟨S128x1024, .bf16⟩
  | .local _ .vmem, ⟨11, _⟩ => ⟨S128x1024, .bf16⟩
  | .local _ .vmem, ⟨12, _⟩ => ⟨S1x1024x2, .f32⟩
  | .local _ .vmem, ⟨13, _⟩ => ⟨S1x1024x2, .f32⟩
  | .local _ .vmem, ⟨14, _⟩ => ⟨S1x1024x2, .f32⟩
  | .local _ .vmem, ⟨15, _⟩ => ⟨S1x1024x2, .f32⟩
  | .local _ .vmem, ⟨16, _⟩ => ⟨S8192x256, .bf16⟩
  | .local _ .vmem, ⟨17, _⟩ => ⟨S8192x256, .bf16⟩
  | .local _ .vmem, ⟨18, _⟩ => ⟨S256x2048, .bf16⟩
  | .local _ .vmem, ⟨19, _⟩ => ⟨S256x2048, .bf16⟩
  | .local _ .vmem, ⟨20, _⟩ => ⟨S128x2048, .bf16⟩
  | .local _ .vmem, ⟨21, _⟩ => ⟨S128x2048, .bf16⟩
  | .local _ .vmem, ⟨22, _⟩ => ⟨S8192x256, .f32⟩
  | .local _ .vmem, ⟨23, _⟩ => ⟨S256x2048, .f32⟩
  | .local _ .vmem, ⟨24, _⟩ => ⟨S128x2048, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69_0 : Ref sig .tc := ⟨.hbm, 87, rfl⟩
abbrev main_v69_1 : Ref sig .tc := ⟨.hbm, 88, rfl⟩
abbrev main_v69_2 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_11 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_12 : Ref sig .tc := ⟨.hbm, 110, rfl⟩
abbrev main_v89 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1024_i32 : BitVec 32 := 1024#32
  let v15 : BitVec 32 := Scalar.muli arg2 c1024_i32
  v15
def k0_off1 (i : grid0.Coords) : Fin 2 → Nat :=
  let arg2 : BitVec 32 := BitVec.ofNat 32 (i 2).val
  let c1024_i32 : BitVec 32 := 1024#32
  let v15 : BitVec 32 := Scalar.muli arg2 c1024_i32
  let v16 : BitVec 32 := v15
  let v45 : Index := Scalar.indexCast v16
  let c0_26 : Index := 0#32
  ![v45.toNat, 0]
def k0_off2 (i : grid0.Coords) : Fin 2 → Nat :=
  let arg2 : BitVec 32 := BitVec.ofNat 32 (i 2).val
  let c1024_i32 : BitVec 32 := 1024#32
  let v15 : BitVec 32 := Scalar.muli arg2 c1024_i32
  let v16 : BitVec 32 := v15
  let v90 : Index := Scalar.indexCast v16
  let c128_54 : Index := 128#32
  ![v90.toNat, 128]
def k0_cond4 (i : grid0.Coords) : BitVec 1 :=
  let arg1 : BitVec 32 := BitVec.ofNat 32 (i 1).val
  let c3_i32 : BitVec 32 := 3#32
  let v109 : BitVec 1 := Scalar.cmpi .eq arg1 c3_i32
  let arg2 : BitVec 32 := BitVec.ofNat 32 (i 2).val
  let c7_i32_65 : BitVec 32 := 7#32
  let v110 : BitVec 1 := Scalar.cmpi .eq arg2 c7_i32_65
  let v111 : BitVec 1 := Scalar.andi v109 v110
  let v112 : BitVec 32 := Scalar.extui v111
  let c0_i32_66 : BitVec 32 := 0#32
  let v113 : BitVec 1 := Scalar.cmpi .ne v112 c0_i32_66
  v113

def k0_cond3 (i : grid0.Coords) : BitVec 1 :=
  let arg2 : BitVec 32 := BitVec.ofNat 32 (i 2).val
  let c7_i32 : BitVec 32 := 7#32
  let v106 : BitVec 1 := Scalar.cmpi .eq arg2 c7_i32
  let v107 : BitVec 32 := Scalar.extui v106
  let c0_i32_64 : BitVec 32 := 0#32
  let v108 : BitVec 1 := Scalar.cmpi .ne v107 c0_i32_64
  v108

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1024x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S8192x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference2Ideal.lean ====
abbrev S8192x8x64 : Shape := ⟨3, ![8192, 8, 64]⟩
abbrev S8192x8x32 : Shape := ⟨3, ![8192, 8, 32]⟩
abbrev S8192x32 : Shape := ⟨2, ![8192, 32]⟩
abbrev S8192x512 : Shape := ⟨2, ![8192, 512]⟩
abbrev S8x8192x8192 : Shape := ⟨3, ![8, 8192, 8192]⟩
abbrev S8192x8192x8 : Shape := ⟨3, ![8192, 8192, 8]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x64 : Shape := ⟨3, ![8, 8192, 64]⟩

abbrev nBuf : Space → Nat
  | .hbm => 83
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x512, .f32⟩
  | .hbm, ⟨6, _⟩ => ⟨S8x8192x8192, .f32⟩
  | .hbm, ⟨7, _⟩ => ⟨S8192x8192x8, .f32⟩
  | .hbm, ⟨8, _⟩ => ⟨S8x8192x8192, .f32⟩
  | .hbm, ⟨9, _⟩ => ⟨S8x8192x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .i1⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S_, .f32⟩
  | .hbm, ⟨24, _⟩ => ⟨S8x8192, .f32⟩
  | .hbm, ⟨25, _⟩ => ⟨S8x8192, .f32⟩
  | .hbm, ⟨26, _⟩ => ⟨S_, .f32⟩
  | .hbm, ⟨27, _⟩ => ⟨S8x8192, .f32⟩
  | .hbm, ⟨28, _⟩ => ⟨S8x8192, .i1⟩
  | .hbm, ⟨29, _⟩ => ⟨S_, .f32⟩
  | .hbm, ⟨30, _⟩ => ⟨S8x8192, .f32⟩
  | .hbm, ⟨31, _⟩ => ⟨S8x8192, .i1⟩
  | .hbm, ⟨32, _⟩ => ⟨S_, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x1, .f32⟩
  | .hbm, ⟨50, _⟩ => ⟨S_, .f32⟩
  | .hbm, ⟨51, _⟩ => ⟨S8x8192x1, .f32⟩
  | .hbm, ⟨52, _⟩ => ⟨S8x8192x1, .f32⟩
  | .hbm, ⟨53, _⟩ => ⟨S8x64x8192, .f32⟩
  | .hbm, ⟨54, _⟩ => ⟨S8192x8x64, .f32⟩
  | .hbm, ⟨55, _⟩ => ⟨S8192x8x64, .f32⟩
  | .hbm, ⟨56, _⟩ => ⟨S8x64x8192, .f32⟩
  | .hbm, ⟨57, _⟩ => ⟨S8x8192x8192, .f32⟩
  | .hbm, ⟨58, _⟩ => ⟨S8x64x8192, .f32⟩
  | .hbm, ⟨59, _⟩ => ⟨S8192x8x64, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192, .f32⟩
  | .hbm, ⟨71, _⟩ => ⟨S8x8192x8192, .f32⟩
  | .hbm, ⟨72, _⟩ => ⟨S8x8192x8192, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S8192x8192x8, .f32⟩
  | .hbm, ⟨77, _⟩ => ⟨S8192x8x32, .f32⟩
  | .hbm, ⟨78, _⟩ => ⟨S8192x32, .f32⟩
  | .hbm, ⟨79, _⟩ => ⟨S8x8192x64, .f32⟩
  | .hbm, ⟨80, _⟩ => ⟨S8192x8x64, .f32⟩
  | .hbm, ⟨81, _⟩ => ⟨S8x8192x64, .f32⟩
  | .hbm, ⟨82, _⟩ => ⟨S8192x8x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_17 : BitVec 32 := 0#32
  let v51 : BitVec 1 := Scalar.cmpi .ne v50 c0_i32_17
  v51

def k0_cond2 (i : grid0.Coords) : BitVec 1 :=
  let arg0 : BitVec 32 := BitVec.ofNat 32 (i 0).val
  let c0_i32_18 : BitVec 32 := 0#32
  let v52 : BitVec 1 := Scalar.cmpi .sgt arg0 c0_i32_18
  let v53 : BitVec 32 := Scalar.extui v52
  let c0_i32_19 : BitVec 32 := 0#32
  let v54 : BitVec 1 := Scalar.cmpi .ne v53 c0_i32_19
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel4.lean ====
abbrev S8192x6304 : Shape := ⟨2, ![8192, 6304]⟩
abbrev S1024x6304 : Shape := ⟨2, ![1024, 6304]⟩
abbrev S8192x1024 : Shape := ⟨2, ![8192, 1024]⟩
abbrev S1024 : Shape := ⟨1, ![1024]⟩
abbrev S8192x640 : Shape := ⟨2, ![8192, 640]⟩
abbrev S_ : Shape := ⟨0, ![]⟩
abbrev S8192x64 : Shape := ⟨2, ![8192, 64]⟩
abbrev S8192x32 : Shape := ⟨2, ![8192, 32]⟩
abbrev S8192x256 : Shape := ⟨2, ![8192, 256]⟩
abbrev S8192x512 : Shape := ⟨2, ![8192, 512]⟩
abbrev S8192x4608 : Shape := ⟨2, ![8192, 4608]⟩
abbrev S8192x6656 : Shape := ⟨2, ![8192, 6656]⟩
abbrev S1024x640 : Shape := ⟨2, ![1024, 640]⟩
abbrev S1024x64 : Shape := ⟨2, ![1024, 64]⟩
abbrev S1024x32 : Shape := ⟨2, ![1024, 32]⟩
abbrev S1024x256 : Shape := ⟨2, ![1024, 256]⟩
abbrev S1024x512 : Shape := ⟨2, ![1024, 512]⟩
abbrev S1024x4608 : Shape := ⟨2, ![1024, 4608]⟩
abbrev S1024x6656 : Shape := ⟨2, ![1024, 6656]⟩
abbrev S6656x1024 : Shape := ⟨2, ![6656, 1024]⟩
abbrev S8192x2048 : Shape := ⟨2, ![8192, 2048]⟩
abbrev S2048x1024 : Shape := ⟨2, ![2048, 1024]⟩
abbrev S4608x1024 : Shape := ⟨2, ![4608, 1024]⟩
abbrev S1x1024 : Shape := ⟨2, ![1, 1024]⟩
abbrev S512x2304 : Shape := ⟨2, ![512, 2304]⟩
abbrev S2304x1024 : Shape := ⟨2, ![2304, 1024]⟩
abbrev S512x1024 : Shape := ⟨2, ![512, 1024]⟩
abbrev S512 : Shape := ⟨1, ![512]⟩
abbrev S512x1 : Shape := ⟨2, ![512, 1]⟩

abbrev nBuf : Space → Nat
  | .hbm => 40
  | .vmem => 15
  | .smem => 0
  | _ => 0

abbrev bufTy : (tb : Table) → Fin (tcTables nBuf tb) → BufTy
  | .hbm, ⟨0, _⟩ => ⟨S8192x6304, .f32⟩
  | .hbm, ⟨1, _⟩ => ⟨S1024x6304, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x640, .f32⟩
  | .hbm, ⟨6, _⟩ => ⟨S_, .f32⟩
  | .hbm, ⟨7, _⟩ => ⟨S8192x64, .f32⟩
  | .hbm, ⟨8, _⟩ => ⟨S8192x32, .f32⟩
  | .hbm, ⟨9, _⟩ => ⟨S_, .f32⟩
  | .hbm, ⟨10, _⟩ => ⟨S8192x32, .f32⟩
  | .hbm, ⟨11, _⟩ => ⟨S_, .f32⟩
  | .hbm, ⟨12, _⟩ => ⟨S8192x256, .f32⟩
  | .hbm, ⟨13, _⟩ => ⟨S8192x512, .f32⟩
  | .hbm, ⟨14, _⟩ => ⟨S8192x512, .f32⟩
  | .hbm, ⟨15, _⟩ => ⟨S8192x4608, .f32⟩
  | .hbm, ⟨16, _⟩ => ⟨S8192x6656, .f32⟩
  | .hbm, ⟨17, _⟩ => ⟨S8192x6656, .bf16⟩
  | .hbm, ⟨18, _⟩ => ⟨S1024x640, .f32⟩
  | .hbm, ⟨19, _⟩ => ⟨S_, .f32⟩
  | .hbm, ⟨20, _⟩ => ⟨S1024x64, .f32⟩
  | .hbm, ⟨21, _⟩ => ⟨S1024x32, .f32⟩
  | .hbm, ⟨22, _⟩ => ⟨S_, .f32⟩
  | .hbm, ⟨23, _⟩ => ⟨S1024x32, .f32⟩
  | .hbm, ⟨24, _⟩ => ⟨S_, .f32⟩
  | .hbm, ⟨25, _⟩ => ⟨S1024x256, .f32⟩
  | .hbm, ⟨26, _⟩ => ⟨S1024x512, .f32⟩
  | .hbm, ⟨27, _⟩ => ⟨S1024x512, .f32⟩
  | .hbm, ⟨28, _⟩ => ⟨S1024x4608, .f32⟩
  | .hbm, ⟨29, _⟩ => ⟨S1024x6656, .f32⟩
  | .hbm, ⟨30, _⟩ => ⟨S1024x6656, .bf16⟩
  | .hbm, ⟨31, _⟩ => ⟨S6656x1024, .bf16⟩
  | .hbm, ⟨32, _⟩ => ⟨S8192x2048, .bf16⟩
  | .hbm, ⟨33, _⟩ => ⟨S2048x1024, .bf16⟩
  | .hbm, ⟨34, _⟩ => ⟨S8192x1024, .f32⟩
  | .hbm, ⟨35, _⟩ => ⟨S8192x4608, .bf16⟩
  | .hbm, ⟨36, _⟩ => ⟨S4608x1024, .bf16⟩
  | .hbm, ⟨37, _⟩ => ⟨S1x1024, .f32⟩
  | .hbm, ⟨38, _⟩ => ⟨S8192x1024, .f32⟩
  | .hbm, ⟨39, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S2304x1024, .bf16⟩
  | .local _ .vmem, ⟨3, _⟩ => ⟨S2304x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S8192x6304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_9 : BitVec 32 := 0#32
  let v18 : BitVec 1 := Scalar.cmpi .ne v17 c0_i32_9
  v18

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_3 : BitVec 32 := 0#32
  let v6 : BitVec 1 := Scalar.cmpi .eq arg1 c0_i32_3
  let v7 : BitVec 1 := Scalar.andi v5 v6
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference4Ideal.lean ====
abbrev S8192x6304 : Shape := ⟨2, ![8192, 6304]⟩
abbrev S1024x6304 : Shape := ⟨2, ![1024, 6304]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x6304, .f32⟩
  | .hbm, ⟨1, _⟩ => ⟨S1024x6304, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x6304, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x6304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S8192x24x64 : Shape := ⟨3, ![8192, 24, 64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x0 : Shape := ⟨2, ![8192, 0]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x3x512 : Shape := ⟨3, ![8192, 3, 512]⟩
abbrev S8192x1x512 : Shape := ⟨3, ![8192, 1, 512]⟩
abbrev S8192x512 : Shape := ⟨2, ![8192, 512]⟩
abbrev S8192x4608 : Shape := ⟨2, ![8192, 4608]⟩
abbrev S512x512 : Shape := ⟨2, ![512, 512]⟩
abbrev S512x128 : Shape := ⟨2, ![512, 128]⟩
abbrev S512x4608 : Shape := ⟨2, ![512, 4608]⟩

abbrev nBuf : Space → Nat
  | .hbm => 86
  | .vmem => 26
  | .smem => 0
  | _ => 0

abbrev bufTy : (tb : Table) → Fin (tcTables nBuf tb) → BufTy
  | .hbm, ⟨0, _⟩ => ⟨S8192x24x64, .f32⟩
  | .hbm, ⟨1, _⟩ => ⟨S8192x24x64, .f32⟩
  | .hbm, ⟨2, _⟩ => ⟨S8192x24x64, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8192, .f32⟩
  | .hbm, ⟨20, _⟩ => ⟨S8192x1, .f32⟩
  | .hbm, ⟨21, _⟩ => ⟨S1x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x0, .f32⟩
  | .hbm, ⟨29, _⟩ => ⟨S_, .f32⟩
  | .hbm, ⟨30, _⟩ => ⟨S8192x48, .f32⟩
  | .hbm, ⟨31, _⟩ => ⟨S8192x64, .f32⟩
  | .hbm, ⟨32, _⟩ => ⟨S1x8192x1x64, .f32⟩
  | .hbm, ⟨33, _⟩ => ⟨S1x8192x2x64, .f32⟩
  | .hbm, ⟨34, _⟩ => ⟨S8192x128, .f32⟩
  | .hbm, ⟨35, _⟩ => ⟨S_, .f32⟩
  | .hbm, ⟨36, _⟩ => ⟨S8192x0, .f32⟩
  | .hbm, ⟨37, _⟩ => ⟨S8192x8, .f32⟩
  | .hbm, ⟨38, _⟩ => ⟨S_, .f32⟩
  | .hbm, ⟨39, _⟩ => ⟨S8192x8, .f32⟩
  | .hbm, ⟨40, _⟩ => ⟨S_, .f32⟩
  | .hbm, ⟨41, _⟩ => ⟨S8192x48, .f32⟩
  | .hbm, ⟨42, _⟩ => ⟨S8192x64, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S_, .f32⟩
  | .hbm, ⟨47, _⟩ => ⟨S8192x8, .f32⟩
  | .hbm, ⟨48, _⟩ => ⟨S_, .f32⟩
  | .hbm, ⟨49, _⟩ => ⟨S8192x48, .f32⟩
  | .hbm, ⟨50, _⟩ => ⟨S8192x64, .f32⟩
  | .hbm, ⟨51, _⟩ => ⟨S1x8192x1x64, .f32⟩
  | .hbm, ⟨52, _⟩ => ⟨S1x8192x2x64, .f32⟩
  | .hbm, ⟨53, _⟩ => ⟨S8192x128, .f32⟩
  | .hbm, ⟨54, _⟩ => ⟨S8192x3x512, .f32⟩
  | .hbm, ⟨55, _⟩ => ⟨S8192x3x512, .bf16⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192x24x64, .f32⟩
  | .hbm, ⟨60, _⟩ => ⟨S8192x24x64, .f32⟩
  | .hbm, ⟨61, _⟩ => ⟨S8192x3x512, .f32⟩
  | .hbm, ⟨62, _⟩ => ⟨S8192x3x512, .bf16⟩
  | .hbm, ⟨63, _⟩ => ⟨S8192x3x512, .f32⟩
  | .hbm, ⟨64, _⟩ => ⟨S8192x3x512, .bf16⟩
  | .hbm, ⟨65, _⟩ => ⟨S8192x1x512, .bf16⟩
  | .hbm, ⟨66, _⟩ => ⟨S8192x512, .bf16⟩
  | .hbm, ⟨67, _⟩ => ⟨S8192x1x512, .bf16⟩
  | .hbm, ⟨68, _⟩ => ⟨S8192x512, .bf16⟩
  | .hbm, ⟨69, _⟩ => ⟨S8192x1x512, .bf16⟩
  | .hbm, ⟨70, _⟩ => ⟨S8192x512, .bf16⟩
  | .hbm, ⟨71, _⟩ => ⟨S8192x1x512, .bf16⟩
  | .hbm, ⟨72, _⟩ => ⟨S8192x512, .bf16⟩
  | .hbm, ⟨73, _⟩ => ⟨S8192x1x512, .bf16⟩
  | .hbm, ⟨74, _⟩ => ⟨S8192x512, .bf16⟩
  | .hbm, ⟨75, _⟩ => ⟨S8192x1x512, .bf16⟩
  | .hbm, ⟨76, _⟩ => ⟨S8192x512, .bf16⟩
  | .hbm, ⟨77, _⟩ => ⟨S8192x1x512, .bf16⟩
  | .hbm, ⟨78, _⟩ => ⟨S8192x512, .bf16⟩
  | .hbm, ⟨79, _⟩ => ⟨S8192x1x512, .bf16⟩
  | .hbm, ⟨80, _⟩ => ⟨S8192x512, .bf16⟩
  | .hbm, ⟨81, _⟩ => ⟨S8192x1x512, .bf16⟩
  | .hbm, ⟨82, _⟩ => ⟨S8192x512, .bf16⟩
  | .hbm, ⟨83, _⟩ => ⟨S8192x128, .f32⟩
  | .hbm, ⟨84, _⟩ => ⟨S8192x128, .f32⟩
  | .hbm, ⟨85, _⟩ => ⟨S8192x4608, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x4608, .bf16⟩
  | .local _ .vmem, ⟨25, _⟩ => ⟨S512x4608, .bf16⟩
  | _, _ => ⟨S8192x24x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x4608 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel5Ideal.lean ====
variable {F : FTy → Type} [FloatOps F] [Named F]
def κ : String → Option EReal := fun
  | "ln2" => some ((Real.log 2 : ℝ) : EReal)
  | _ => none
-- ==== Reference5Ideal.lean ====
abbrev S8192x24x64 : Shape := ⟨3, ![8192, 24, 64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x4608 : Shape := ⟨2, ![8192, 4608]⟩
abbrev S8192x3x3x512 : Shape := ⟨4, ![8192, 3, 3, 512]⟩
abbrev S8192x3x1x512 : Shape := ⟨4, ![8192, 3, 1, 512]⟩
abbrev S8192x3x512 : Shape := ⟨3, ![8192, 3, 512]⟩
abbrev S8192x24x16 : Shape := ⟨3, ![8192, 24, 16]⟩
abbrev S8192x24x8 : Shape := ⟨3, ![8192, 24, 8]⟩
abbrev S8192x1x8 : Shape := ⟨3, ![8192, 1, 8]⟩
abbrev S8192x24x48 : Shape := ⟨3, ![8192, 24, 48]⟩

abbrev nBuf : Space → Nat
  | .hbm => 143
  | .vmem => 0
  | .smem => 0
  | _ => 0

abbrev hbmTy0_0 (i : Nat) : BufTy := match i % 128 with
  | 0 => ⟨S8192x24x64, .f32⟩
  | 1 => ⟨S8192x24x64, .f32⟩
  | 2 => ⟨S8192x24x64, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8192, .f32⟩
  | 20 => ⟨S8192x1, .f32⟩
  | 21 => ⟨S1x8, .f32⟩
  | 22 => ⟨S8192x8, .f32⟩
  | 23 => ⟨S8192x8, .f32⟩
  | 24 => ⟨S8192x8, .f32⟩
  | 25 => ⟨S8192x8, .f32⟩
  | 26 => ⟨S8192x8, .f32⟩
  | 27 => ⟨S_, .f32⟩
  | 28 => ⟨S8192x4608, .f32⟩
  | 29 => ⟨S8192x3x3x512, .f32⟩
  | 30 => ⟨S8192x3x1x512, .f32⟩
  | 31 => ⟨S8192x3x512, .f32⟩
  | 32 => ⟨S8192x24x64, .f32⟩
  | 33 => ⟨S8192x3x3x512, .f32⟩
  | 34 => ⟨S8192x3x1x512, .f32⟩
  | 35 => ⟨S8192x3x512, .f32⟩
  | 36 => ⟨S8192x24x64, .f32⟩
  | 37 => ⟨S8192x3x3x512, .f32⟩
  | 38 => ⟨S8192x3x1x512, .f32⟩
  | 39 => ⟨S8192x3x512, .f32⟩
  | 40 => ⟨S8192x24x64, .f32⟩
  | 41 => ⟨S8192x24x16, .f32⟩
  | 42 => ⟨S8192x24x8, .f32⟩
  | 43 => ⟨S8192x24x8, .f32⟩
  | 44 => ⟨S8192x1x8, .f32⟩
  | 45 => ⟨S8192x1x8, .f32⟩
  | 46 => ⟨S8192x24x8, .f32⟩
  | 47 => ⟨S8192x24x8, .f32⟩
  | 48 => ⟨S8192x24x8, .f32⟩
  | 49 => ⟨S8192x24x8, .f32⟩
  | 50 => ⟨S8192x24x8, .f32⟩
  | 51 => ⟨S8192x24x8, .f32⟩
  | 52 => ⟨S8192x24x8, .f32⟩
  | 53 => ⟨S8192x24x8, .f32⟩
  | 54 => ⟨S8192x24x8, .f32⟩
  | 55 => ⟨S8192x24x8, .f32⟩
  | 56 => ⟨S8192x24x16, .f32⟩
  | 57 => ⟨S8192x24x48, .f32⟩
  | 58 => ⟨S8192x24x64, .f32⟩
  | 59 => ⟨S_, .f32⟩
  | 60 => ⟨S8192x24x64, .f32⟩
  | 61 => ⟨S8192x24x64, .f32⟩
  | 62 => ⟨S8192x24x16, .f32⟩
  | 63 => ⟨S8192x24x8, .f32⟩
  | 64 => ⟨S8192x24x8, .f32⟩
  | 65 => ⟨S8192x1x8, .f32⟩
  | 66 => ⟨S8192x1x8, .f32⟩
  | 67 => ⟨S8192x24x8, .f32⟩
  | 68 => ⟨S8192x24x8, .f32⟩
  | 69 => ⟨S8192x24x8, .f32⟩
  | 70 => ⟨S8192x24x8, .f32⟩
  | 71 => ⟨S8192x24x8, .f32⟩
  | 72 => ⟨S8192x24x8, .f32⟩
  | 73 => ⟨S8192x24x8, .f32⟩
  | 74 => ⟨S8192x24x8, .f32⟩
  | 75 => ⟨S8192x24x8, .f32⟩
  | 76 => ⟨S8192x24x8, .f32⟩
  | 77 => ⟨S8192x24x16, .f32⟩
  | 78 => ⟨S8192x24x48, .f32⟩
  | 79 => ⟨S8192x24x64, .f32⟩
  | 80 => ⟨S8192x24x16, .f32⟩
  | 81 => ⟨S8192x24x48, .f32⟩
  | 82 => ⟨S_, .f32⟩
  | 83 => ⟨S8192x24x64, .f32⟩
  | 84 => ⟨S8192x24x8, .f32⟩
  | 85 => ⟨S8192x24x8, .f32⟩
  | 86 => ⟨S8192x24x8, .f32⟩
  | 87 => ⟨S8192x24x8, .f32⟩
  | 88 => ⟨S8192x24x8, .f32⟩
  | 89 => ⟨S8192x24x8, .f32⟩
  | 90 => ⟨S8192x24x8, .f32⟩
  | 91 => ⟨S8192x24x8, .f32⟩
  | 92 => ⟨S8192x24x8, .f32⟩
  | 93 => ⟨S8192x24x8, .f32⟩
  | 94 => ⟨S8192x24x8, .f32⟩
  | 95 => ⟨S8192x24x8, .f32⟩
  | 96 => ⟨S8192x24x8, .f32⟩
  | 97 => ⟨S8192x24x16, .f32⟩
  | 98 => ⟨S_, .f32⟩
  | 99 => ⟨S8192x24x64, .f32⟩
  | 100 => ⟨S8192x24x64, .f32⟩
  | 101 => ⟨S_, .f32⟩
  | 102 => ⟨S8192x24x64, .f32⟩
  | 103 => ⟨S8192x24x64, .f32⟩
  | 104 => ⟨S8192x24x16, .f32⟩
  | 105 => ⟨S8192x24x48, .f32⟩
  | 106 => ⟨S_, .f32⟩
  | 107 => ⟨S8192x24x64, .f32⟩
  | 108 => ⟨S8192x24x8, .f32⟩
  | 109 => ⟨S8192x24x8, .f32⟩
  | 110 => ⟨S8192x24x8, .f32⟩
  | 111 => ⟨S8192x24x8, .f32⟩
  | 112 => ⟨S8192x24x8, .f32⟩
  | 113 => ⟨S8192x24x8, .f32⟩
  | 114 => ⟨S8192x24x8, .f32⟩
  | 115 => ⟨S8192x24x8, .f32⟩
  | 116 => ⟨S8192x24x8, .f32⟩
  | 117 => ⟨S8192x24x8, .f32⟩
  | 118 => ⟨S8192x24x8, .f32⟩
  | 119 => ⟨S8192x24x8, .f32⟩
  | 120 => ⟨S8192x24x8, .f32⟩
  | 121 => ⟨S8192x24x16, .f32⟩
  | 122 => ⟨S_, .f32⟩
  | 123 => ⟨S8192x24x64, .f32⟩
  | 124 => ⟨S8192x24x64, .f32⟩
  | 125 => ⟨S8192x3x512, .f32⟩
  | 126 => ⟨S8192x3x1x512, .f32⟩
  | 127 => ⟨S_, .f32⟩
  | _ => ⟨S8192x24x64, .f32⟩

abbrev hbmTy0_1 (i : Nat) : BufTy := match i % 128 with
  | 0 => ⟨S8192x3x3x512, .f32⟩
  | 1 => ⟨S8192x4608, .f32⟩
  | 2 => ⟨S8192x3x512, .f32⟩
  | 3 => ⟨S8192x3x1x512, .f32⟩
  | 4 => ⟨S_, .f32⟩
  | 5 => ⟨S8192x3x3x512, .f32⟩
  | 6 => ⟨S8192x4608, .f32⟩
  | 7 => ⟨S8192x4608, .f32⟩
  | 8 => ⟨S8192x3x512, .f32⟩
  | 9 => ⟨S8192x3x1x512, .f32⟩
  | 10 => ⟨S_, .f32⟩
  | 11 => ⟨S8192x3x3x512, .f32⟩
  | 12 => ⟨S8192x4608, .f32⟩
  | 13 => ⟨S8192x4608, .f32⟩
  | 14 => ⟨S8192x4608, .bf16⟩
  | _ => ⟨S8192x24x64, .f32⟩

abbrev hbmTy (i : Nat) : BufTy := match i / 128 with
  | 0 => hbmTy0_0 i
  | 1 => hbmTy0_1 i
  | _ => ⟨S8192x24x64, .f32⟩

abbrev bufTy : (tb : Table) → Fin (tcTables nBuf tb) → BufTy
  | .hbm, ⟨i, _⟩ => hbmTy i
  | _, _ => ⟨S8192x24x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_6 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_7 : Ref sig .tc := ⟨.hbm, 98, rfl⟩
abbrev main_v87 : Ref sig .tc := ⟨.hbm, 99, rfl⟩
abbrev main_v88 : Ref sig .tc := ⟨.hbm, 100, rfl⟩
abbrev main_cst_8 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_9 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_cst_10 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_cst_11 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_cst_12 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_cst_13 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩

abbrev nD : Nat := 1
abbrev τ : Topo := Topo.v7x

variable {F : FTy → Type} [FloatOps F]
-- ==== Kernel6.lean ====
abbrev S8192x8x64 : Shape := ⟨3, ![8192, 8, 64]⟩
abbrev S8192x8x32 : Shape := ⟨3, ![8192, 8, 32]⟩
abbrev S8192x384 : Shape := ⟨2, ![8192, 384]⟩
abbrev S8192x256 : Shape := ⟨2, ![8192, 256]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S8192x8x128 : Shape := ⟨3, ![8192, 8, 128]⟩
abbrev S8192x1024 : Shape := ⟨2, ![8192, 1024]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S1024x384 : Shape := ⟨2, ![1024, 384]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩
abbrev S1536x256 : Shape := ⟨2, ![1536, 256]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S1x8192x1x128 : Shape := ⟨4, ![1, 8192, 1, 128]⟩
abbrev S8192x80 : Shape := ⟨2, ![8192, 80]⟩
abbrev S8192x512 : Shape := ⟨2, ![8192, 512]⟩
abbrev S1x384 : Shape := ⟨2, ![1, 384]⟩
abbrev S1x256 : Shape := ⟨2, ![1, 256]⟩
abbrev S8192x1536 : Shape := ⟨2, ![8192, 1536]⟩
abbrev S512x1024 : Shape := ⟨2, ![512, 1024]⟩
abbrev S512x512 : Shape := ⟨2, ![512, 512]⟩
abbrev S512x128 : Shape := ⟨2, ![512, 128]⟩
abbrev S512x1536 : Shape := ⟨2, ![512, 1536]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 108
  | .vmem => 26
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x8x32, .f32⟩
  | .hbm, ⟨4, _⟩ => ⟨S8192x8x64, .f32⟩
  | .hbm, ⟨5, _⟩ => ⟨S8192x384, .f32⟩
  | .hbm, ⟨6, _⟩ => ⟨S8192x256, .f32⟩
  | .hbm, ⟨7, _⟩ => ⟨S384, .f32⟩
  | .hbm, ⟨8, _⟩ => ⟨S256, .f32⟩
  | .hbm, ⟨9, _⟩ => ⟨S384x768, .f32⟩
  | .hbm, ⟨10, _⟩ => ⟨S256x1024, .f32⟩
  | .hbm, ⟨11, _⟩ => ⟨S_, .f32⟩
  | .hbm, ⟨12, _⟩ => ⟨S8192x8x32, .f32⟩
  | .hbm, ⟨13, _⟩ => ⟨S8192x8x128, .f32⟩
  | .hbm, ⟨14, _⟩ => ⟨S8192x1024, .f32⟩
  | .hbm, ⟨15, _⟩ => ⟨S8192x1024, .bf16⟩
  | .hbm, ⟨16, _⟩ => ⟨S8192x8x128, .f32⟩
  | .hbm, ⟨17, _⟩ => ⟨S8192x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S_, .f32⟩
  | .hbm, ⟨25, _⟩ => ⟨S8192x384, .f32⟩
  | .hbm, ⟨26, _⟩ => ⟨S8192x1024, .f32⟩
  | .hbm, ⟨27, _⟩ => ⟨S8192x1024, .bf16⟩
  | .hbm, ⟨28, _⟩ => ⟨S384x8x96, .f32⟩
  | .hbm, ⟨29, _⟩ => ⟨S_, .f32⟩
  | .hbm, ⟨30, _⟩ => ⟨S384x8x32, .f32⟩
  | .hbm, ⟨31, _⟩ => ⟨S384x8x128, .f32⟩
  | .hbm, ⟨32, _⟩ => ⟨S384x1024, .f32⟩
  | .hbm, ⟨33, _⟩ => ⟨S384x1024, .bf16⟩
  | .hbm, ⟨34, _⟩ => ⟨S1024x384, .bf16⟩
  | .hbm, ⟨35, _⟩ => ⟨S256x8x128, .f32⟩
  | .hbm, ⟨36, _⟩ => ⟨S256x8x64, .f32⟩
  | .hbm, ⟨37, _⟩ => ⟨S_, .f32⟩
  | .hbm, ⟨38, _⟩ => ⟨S256x8x64, .f32⟩
  | .hbm, ⟨39, _⟩ => ⟨S256x8x128, .f32⟩
  | .hbm, ⟨40, _⟩ => ⟨S256x1024, .f32⟩
  | .hbm, ⟨41, _⟩ => ⟨S256x8x64, .f32⟩
  | .hbm, ⟨42, _⟩ => ⟨S256x512, .f32⟩
  | .hbm, ⟨43, _⟩ => ⟨S256x1536, .f32⟩
  | .hbm, ⟨44, _⟩ => ⟨S256x1536, .bf16⟩
  | .hbm, ⟨45, _⟩ => ⟨S1536x256, .bf16⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S8192, .f32⟩
  | .hbm, ⟨63, _⟩ => ⟨S8192x1, .f32⟩
  | .hbm, ⟨64, _⟩ => ⟨S1x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S_, .f32⟩
  | .hbm, ⟨71, _⟩ => ⟨S8192x64, .f32⟩
  | .hbm, ⟨72, _⟩ => ⟨S_, .f32⟩
  | .hbm, ⟨73, _⟩ => ⟨S8192x32, .f32⟩
  | .hbm, ⟨74, _⟩ => ⟨S8192x128, .f32⟩
  | .hbm, ⟨75, _⟩ => ⟨S1x8192x1x128, .f32⟩
  | .hbm, ⟨76, _⟩ => ⟨S1x8192x1x128, .f32⟩
  | .hbm, ⟨77, _⟩ => ⟨S8192x128, .f32⟩
  | .hbm, ⟨78, _⟩ => ⟨S_, .f32⟩
  | .hbm, ⟨79, _⟩ => ⟨S8192x64, .f32⟩
  | .hbm, ⟨80, _⟩ => ⟨S8192x16, .f32⟩
  | .hbm, ⟨81, _⟩ => ⟨S_, .f32⟩
  | .hbm, ⟨82, _⟩ => ⟨S8192x16, .f32⟩
  | .hbm, ⟨83, _⟩ => ⟨S_, .f32⟩
  | .hbm, ⟨84, _⟩ => ⟨S8192x32, .f32⟩
  | .hbm, ⟨85, _⟩ => ⟨S8192x128, .f32⟩
  | .hbm, ⟨86, _⟩ => ⟨S1x8192x1x128, .f32⟩
  | .hbm, ⟨87, _⟩ => ⟨S1x8192x1x128, .f32⟩
  | .hbm, ⟨88, _⟩ => ⟨S8192x128, .f32⟩
  | .hbm, ⟨89, _⟩ => ⟨S_, .f32⟩
  | .hbm, ⟨90, _⟩ => ⟨S8192x80, .f32⟩
  | .hbm, ⟨91, _⟩ => ⟨S_, .f32⟩
  | .hbm, ⟨92, _⟩ => ⟨S8192x32, .f32⟩
  | .hbm, ⟨93, _⟩ => ⟨S8192x128, .f32⟩
  | .hbm, ⟨94, _⟩ => ⟨S1x8192x1x128, .f32⟩
  | .hbm, ⟨95, _⟩ => ⟨S1x8192x1x128, .f32⟩
  | .hbm, ⟨96, _⟩ => ⟨S8192x128, .f32⟩
  | .hbm, ⟨97, _⟩ => ⟨S8192x512, .f32⟩
  | .hbm, ⟨98, _⟩ => ⟨S8192x512, .bf16⟩
  | .hbm, ⟨99, _⟩ => ⟨S1x384, .f32⟩
  | .hbm, ⟨100, _⟩ => ⟨S1x256, .f32⟩
  | .hbm, ⟨101, _⟩ => ⟨S8192x128, .f32⟩
  | .hbm, ⟨102, _⟩ => ⟨S8192x128, .f32⟩
  | .hbm, ⟨103, _⟩ => ⟨S8192x1024, .bf16⟩
  | .hbm, ⟨104, _⟩ => ⟨S8192x1024, .bf16⟩
  | .hbm, ⟨105, _⟩ => ⟨S8192x1536, .bf16⟩
  | .hbm, ⟨106, _⟩ => ⟨S1x384, .f32⟩
  | .hbm, ⟨107, _⟩ => ⟨S1x256, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x384, .f32⟩
  | .local _ .vmem, ⟨9, _⟩ => ⟨S1x256, .f32⟩
  | .local _ .vmem, ⟨10, _⟩ => ⟨S1024x384, .bf16⟩
  | .local _ .vmem, ⟨11, _⟩ => ⟨S1536x256, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1536, .bf16⟩
  | .local _ .vmem, ⟨23, _⟩ => ⟨S512x1536, .bf16⟩
  | .local _ .vmem, ⟨24, _⟩ => ⟨S1x384, .f32⟩
  | .local _ .vmem, ⟨25, _⟩ => ⟨S1x256, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75_0 : Ref sig .tc := ⟨.hbm, 103, rfl⟩
abbrev main_v75_1 : Ref sig .tc := ⟨.hbm, 104, rfl⟩
abbrev main_v75_2 : Ref sig .tc := ⟨.hbm, 105, rfl⟩
abbrev main_v75_3 : Ref sig .tc := ⟨.hbm, 106, rfl⟩
abbrev main_v75_4 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v287 : BitVec 1 := Scalar.cmpi .eq arg0 c0_i32
  let v288 : BitVec 32 := Scalar.extui v287
  let c0_i32_137 : BitVec 32 := 0#32
  let v289 : BitVec 1 := Scalar.cmpi .ne v288 c0_i32_137
  v289

def k0_cond2 (i : grid0.Coords) : BitVec 1 :=
  let arg0 : BitVec 32 := BitVec.ofNat 32 (i 0).val
  let c0_i32_138 : BitVec 32 := 0#32
  let v290 : BitVec 1 := Scalar.cmpi .sgt arg0 c0_i32_138
  let v291 : BitVec 32 := Scalar.extui v290
  let c0_i32_139 : BitVec 32 := 0#32
  let v292 : BitVec 1 := Scalar.cmpi .ne v291 c0_i32_139
  v292

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel6Ideal.lean ====
variable {F : FTy → Type} [FloatOps F] [Named F]
def κ : String → Option EReal := fun
  | "ln2" => some ((Real.log 2 : ℝ) : EReal)
  | "s96" => some (((Real.sqrt 96)⁻¹ : ℝ) : EReal)
  | _ => none
-- ==== Reference6Ideal.lean ====
abbrev S8192x8x64 : Shape := ⟨3, ![8192, 8, 64]⟩
abbrev S8192x8x32 : Shape := ⟨3, ![8192, 8, 32]⟩
abbrev S8192x384 : Shape := ⟨2, ![8192, 384]⟩
abbrev S8192x256 : Shape := ⟨2, ![8192, 256]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x1024 : Shape := ⟨2, ![8192, 1024]⟩
abbrev S8192x768 : Shape := ⟨2, ![8192, 768]⟩
abbrev S8192x32 : Shape := ⟨2, ![8192, 32]⟩
abbrev S8192x8x96 : Shape := ⟨3, ![8192, 8, 96]⟩
abbrev S8192x8x128 : Shape := ⟨3, ![8192, 8, 128]⟩
abbrev S8192x1x32 : Shape := ⟨3, ![8192, 1, 32]⟩
abbrev S8192x1x16 : Shape := ⟨3, ![8192, 1, 16]⟩
abbrev S8192x8x16 : Shape := ⟨3, ![8192, 8, 16]⟩
abbrev S1x384 : Shape := ⟨2, ![1, 384]⟩
abbrev S1x256 : Shape := ⟨2, ![1, 256]⟩
abbrev S8192x512 : Shape := ⟨2, ![8192, 512]⟩
abbrev S8192x64 : Shape := ⟨2, ![8192, 64]⟩
abbrev S8192x288 : Shape := ⟨2, ![8192, 288]⟩
abbrev S8192x1536 : Shape := ⟨2, ![8192, 1536]⟩

abbrev nBuf : Space → Nat
  | .hbm => 240
  | .vmem => 0
  | .smem => 0
  | _ => 0

abbrev hbmTy0_0 (i : Nat) : BufTy := match i % 128 with
  | 0 => ⟨S8192x8x64, .f32⟩
  | 1 => ⟨S8192x8x32, .f32⟩
  | 2 => ⟨S8192x8x64, .f32⟩
  | 3 => ⟨S8192x8x32, .f32⟩
  | 4 => ⟨S8192x8x64, .f32⟩
  | 5 => ⟨S8192x384, .f32⟩
  | 6 => ⟨S8192x256, .f32⟩
  | 7 => ⟨S384, .f32⟩
  | 8 => ⟨S256, .f32⟩
  | 9 => ⟨S384x768, .f32⟩
  | 10 => ⟨S256x1024, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S8192, .f32⟩
  | 28 => ⟨S8192x1, .f32⟩
  | 29 => ⟨S1x16, .f32⟩
  | 30 => ⟨S8192x16, .f32⟩
  | 31 => ⟨S8192x16, .f32⟩
  | 32 => ⟨S8192x16, .f32⟩
  | 33 => ⟨S8192x16, .f32⟩
  | 34 => ⟨S8192x16, .f32⟩
  | 35 => ⟨S_, .f32⟩
  | 36 => ⟨S8192x1024, .f32⟩
  | 37 => ⟨S8192x768, .f32⟩
  | 38 => ⟨S8192x32, .f32⟩
  | 39 => ⟨S8192x8x96, .f32⟩
  | 40 => ⟨S8192x8x128, .f32⟩
  | 41 => ⟨S_, .f32⟩
  | 42 => ⟨S_, .f32⟩
  | 43 => ⟨S8192x1x32, .f32⟩
  | 44 => ⟨S8192x1x16, .f32⟩
  | 45 => ⟨S8192x1x16, .f32⟩
  | 46 => ⟨S8192x1x16, .f32⟩
  | 47 => ⟨S8192x1x16, .f32⟩
  | 48 => ⟨S8192x1x16, .f32⟩
  | 49 => ⟨S8192x1x16, .f32⟩
  | 50 => ⟨S8192x1x16, .f32⟩
  | 51 => ⟨S8192x1x16, .f32⟩
  | 52 => ⟨S8192x1x16, .f32⟩
  | 53 => ⟨S8192x1x16, .f32⟩
  | 54 => ⟨S8192x1x32, .f32⟩
  | 55 => ⟨S8192x8x32, .f32⟩
  | 56 => ⟨S8192x8x64, .f32⟩
  | 57 => ⟨S_, .f32⟩
  | 58 => ⟨S8192x8x64, .f32⟩
  | 59 => ⟨S8192x8x64, .f32⟩
  | 60 => ⟨S8192x8x32, .f32⟩
  | 61 => ⟨S8192x8x16, .f32⟩
  | 62 => ⟨S8192x8x16, .f32⟩
  | 63 => ⟨S8192x1x16, .f32⟩
  | 64 => ⟨S8192x1x16, .f32⟩
  | 65 => ⟨S8192x8x16, .f32⟩
  | 66 => ⟨S8192x8x16, .f32⟩
  | 67 => ⟨S8192x8x16, .f32⟩
  | 68 => ⟨S8192x8x16, .f32⟩
  | 69 => ⟨S8192x8x16, .f32⟩
  | 70 => ⟨S8192x8x16, .f32⟩
  | 71 => ⟨S8192x8x16, .f32⟩
  | 72 => ⟨S8192x8x16, .f32⟩
  | 73 => ⟨S8192x8x16, .f32⟩
  | 74 => ⟨S8192x8x16, .f32⟩
  | 75 => ⟨S8192x8x32, .f32⟩
  | 76 => ⟨S_, .f32⟩
  | 77 => ⟨S8192x8x32, .f32⟩
  | 78 => ⟨S8192x8x32, .f32⟩
  | 79 => ⟨S8192x8x64, .f32⟩
  | 80 => ⟨S8192x8x64, .f32⟩
  | 81 => ⟨S_, .f32⟩
  | 82 => ⟨S8192x8x128, .f32⟩
  | 83 => ⟨S_, .f32⟩
  | 84 => ⟨S8192x8x128, .f32⟩
  | 85 => ⟨S8192x8x128, .f32⟩
  | 86 => ⟨S8192x8x32, .f32⟩
  | 87 => ⟨S8192x8x32, .f32⟩
  | 88 => ⟨S8192x8x16, .f32⟩
  | 89 => ⟨S8192x8x16, .f32⟩
  | 90 => ⟨S8192x8x16, .f32⟩
  | 91 => ⟨S8192x8x16, .f32⟩
  | 92 => ⟨S8192x8x16, .f32⟩
  | 93 => ⟨S8192x8x16, .f32⟩
  | 94 => ⟨S8192x8x16, .f32⟩
  | 95 => ⟨S8192x8x16, .f32⟩
  | 96 => ⟨S8192x8x16, .f32⟩
  | 97 => ⟨S8192x8x16, .f32⟩
  | 98 => ⟨S8192x8x16, .f32⟩
  | 99 => ⟨S8192x8x16, .f32⟩
  | 100 => ⟨S8192x8x16, .f32⟩
  | 101 => ⟨S8192x8x32, .f32⟩
  | 102 => ⟨S_, .f32⟩
  | 103 => ⟨S8192x8x96, .f32⟩
  | 104 => ⟨S8192x8x64, .f32⟩
  | 105 => ⟨S8192x8x64, .f32⟩
  | 106 => ⟨S_, .f32⟩
  | 107 => ⟨S8192x8x96, .f32⟩
  | 108 => ⟨S8192x8x96, .f32⟩
  | 109 => ⟨S_, .f32⟩
  | 110 => ⟨S8192x32, .f32⟩
  | 111 => ⟨S8192x1x32, .f32⟩
  | 112 => ⟨S8192x1x16, .f32⟩
  | 113 => ⟨S8192x1x16, .f32⟩
  | 114 => ⟨S8192x1x16, .f32⟩
  | 115 => ⟨S8192x1x16, .f32⟩
  | 116 => ⟨S8192x1x16, .f32⟩
  | 117 => ⟨S8192x1x16, .f32⟩
  | 118 => ⟨S8192x1x16, .f32⟩
  | 119 => ⟨S8192x1x16, .f32⟩
  | 120 => ⟨S8192x1x16, .f32⟩
  | 121 => ⟨S8192x1x32, .f32⟩
  | 122 => ⟨S_, .f32⟩
  | 123 => ⟨S8192x32, .f32⟩
  | 124 => ⟨S8192x1024, .f32⟩
  | 125 => ⟨S8192x768, .f32⟩
  | 126 => ⟨S8192x384, .f32⟩
  | 127 => ⟨S_, .f32⟩
  | _ => ⟨S8192x8x64, .f32⟩

abbrev hbmTy0_1 (i : Nat) : BufTy := match i % 128 with
  | 0 => ⟨S8192, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192x1, .f32⟩
  | 7 => ⟨S8192x1, .f32⟩
  | 8 => ⟨S8192x1, .f32⟩
  | 9 => ⟨S8192x1, .f32⟩
  | 10 => ⟨S_, .f32⟩
  | 11 => ⟨S8192x1, .f32⟩
  | 12 => ⟨S8192x1, .f32⟩
  | 13 => ⟨S8192x384, .f32⟩
  | 14 => ⟨S8192x384, .f32⟩
  | 15 => ⟨S1x384, .f32⟩
  | 16 => ⟨S8192x384, .f32⟩
  | 17 => ⟨S8192x384, .f32⟩
  | 18 => ⟨S8192x768, .f32⟩
  | 19 => ⟨S8192x256, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x256, .f32⟩
  | 35 => ⟨S8192x256, .f32⟩
  | 36 => ⟨S1x256, .f32⟩
  | 37 => ⟨S8192x256, .f32⟩
  | 38 => ⟨S8192x256, .f32⟩
  | 39 => ⟨S8192x1024, .f32⟩
  | 40 => ⟨S8192x256, .f32⟩
  | 41 => ⟨S8192x256, .f32⟩
  | 42 => ⟨S_, .f32⟩
  | 43 => ⟨S256, .f32⟩
  | 44 => ⟨S1x256, .f32⟩
  | 45 => ⟨S8192x256, .f32⟩
  | 46 => ⟨S8192x256, .f32⟩
  | 47 => ⟨S_, .f32⟩
  | 48 => ⟨S256, .f32⟩
  | 49 => ⟨S8192x256, .f32⟩
  | 50 => ⟨S_, .f32⟩
  | 51 => ⟨S8192, .f32⟩
  | 52 => ⟨S8192x1, .f32⟩
  | 53 => ⟨S8192x256, .f32⟩
  | 54 => ⟨S8192x256, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x256, .f32⟩
  | 62 => ⟨S8192x256, .f32⟩
  | 63 => ⟨S8192x256, .f32⟩
  | 64 => ⟨S8192x256, .f32⟩
  | 65 => ⟨S8192x256, .f32⟩
  | 66 => ⟨S8192x384, .f32⟩
  | 67 => ⟨S8192x384, .f32⟩
  | 68 => ⟨S_, .f32⟩
  | 69 => ⟨S384, .f32⟩
  | 70 => ⟨S1x384, .f32⟩
  | 71 => ⟨S8192x384, .f32⟩
  | 72 => ⟨S8192x384, .f32⟩
  | 73 => ⟨S_, .f32⟩
  | 74 => ⟨S384, .f32⟩
  | 75 => ⟨S8192x384, .f32⟩
  | 76 => ⟨S_, .f32⟩
  | 77 => ⟨S8192, .f32⟩
  | 78 => ⟨S8192x1, .f32⟩
  | 79 => ⟨S8192x384, .f32⟩
  | 80 => ⟨S8192x384, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192, .f32⟩
  | 87 => ⟨S8192x384, .f32⟩
  | 88 => ⟨S8192x384, .f32⟩
  | 89 => ⟨S8192x384, .f32⟩
  | 90 => ⟨S8192x384, .f32⟩
  | 91 => ⟨S8192x384, .f32⟩
  | 92 => ⟨S_, .f32⟩
  | 93 => ⟨S8192x8x32, .f32⟩
  | 94 => ⟨S8192x8x128, .f32⟩
  | 95 => ⟨S8192x8x64, .f32⟩
  | 96 => ⟨S8192x8x128, .f32⟩
  | 97 => ⟨S8192x1024, .f32⟩
  | 98 => ⟨S8192x8x64, .f32⟩
  | 99 => ⟨S8192x512, .f32⟩
  | 100 => ⟨S8192x64, .f32⟩
  | 101 => ⟨S8192x288, .f32⟩
  | 102 => ⟨S8192x1024, .f32⟩
  | 103 => ⟨S8192x1024, .bf16⟩
  | 104 => ⟨S8192x8x96, .f32⟩
  | 105 => ⟨S8192x8x128, .f32⟩
  | 106 => ⟨S8192x1024, .f32⟩
  | 107 => ⟨S8192x1024, .bf16⟩
  | 108 => ⟨S8192x1536, .f32⟩
  | 109 => ⟨S8192x1536, .bf16⟩
  | 110 => ⟨S1x384, .f32⟩
  | 111 => ⟨S1x256, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_8 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_9 : Ref sig .tc := ⟨.hbm, 106, rfl⟩
abbrev main_v85 : Ref sig .tc := ⟨.hbm, 107, rfl⟩
abbrev main_v86 : Ref sig .tc := ⟨.hbm, 108, rfl⟩
abbrev main_cst_10 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_11 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_12 : Ref sig .tc := ⟨.hbm, 127, rfl⟩
abbrev main_v103 : Ref sig .tc := ⟨.hbm, 128, rfl⟩
abbrev main_v104 : Ref sig .tc := ⟨.hbm, 129, rfl⟩
abbrev main_cst_13 : Ref sig .tc := ⟨.hbm, 130, rfl⟩
abbrev main_v105 : Ref sig .tc := ⟨.hbm, 131, rfl⟩
abbrev main_v106 : Ref sig .tc := ⟨.hbm, 132, rfl⟩
abbrev main_cst_14 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_15 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_16 : Ref sig .tc := ⟨.hbm, 148, rfl⟩
abbrev main_v120 : Ref sig .tc := ⟨.hbm, 149, rfl⟩
abbrev main_v121 : Ref sig .tc := ⟨.hbm, 150, rfl⟩
abbrev main_cst_17 : Ref sig .tc := ⟨.hbm, 151, rfl⟩
abbrev main_v122 : Ref sig .tc := ⟨.hbm, 152, rfl⟩
abbrev main_v123 : Ref sig .tc := ⟨.hbm, 153, rfl⟩
abbrev main_cst_18 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_19 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_20 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_21 : Ref sig .tc := ⟨.hbm, 175, rfl⟩
abbrev main_v142 : Ref sig .tc := ⟨.hbm, 176, rfl⟩
abbrev main_v143 : Ref sig .tc := ⟨.hbm, 177, rfl⟩
abbrev main_cst_22 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_23 : Ref sig .tc := ⟨.hbm, 184, rfl⟩
abbrev main_v149 : Ref sig .tc := ⟨.hbm, 185, rfl⟩
abbrev main_v150 : Ref sig .tc := ⟨.hbm, 186, rfl⟩
abbrev main_cst_24 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_25 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_26 : Ref sig .tc := ⟨.hbm, 201, rfl⟩
abbrev main_v163 : Ref sig .tc := ⟨.hbm, 202, rfl⟩
abbrev main_v164 : Ref sig .tc := ⟨.hbm, 203, rfl⟩
abbrev main_cst_27 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_cst_28 : Ref sig .tc := ⟨.hbm, 210, rfl⟩
abbrev main_v170 : Ref sig .tc := ⟨.hbm, 211, rfl⟩
abbrev main_v171 : Ref sig .tc := ⟨.hbm, 212, rfl⟩
abbrev main_cst_29 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_cst_30 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩

abbrev nD : Nat := 1
abbrev τ : Topo := Topo.v7x

variable {F : FTy → Type} [FloatOps F]
-- ==== Kernel7.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩
abbrev S8192x1x32 : Shape := ⟨3, ![8192, 1, 32]⟩
abbrev S8192x8x128 : Shape := ⟨3, ![8192, 8, 128]⟩
abbrev S8192x1024 : Shape := ⟨2, ![8192, 1024]⟩
abbrev S8192x512 : Shape := ⟨2, ![8192, 512]⟩
abbrev S512x8192 : Shape := ⟨2, ![512, 8192]⟩
abbrev S4x2x8192 : Shape := ⟨3, ![4, 2, 8192]⟩
abbrev S512x256 : Shape := ⟨2, ![512, 256]⟩
abbrev S4096x256 : Shape := ⟨2, ![4096, 256]⟩
abbrev S128x4096 : Shape := ⟨2, ![128, 4096]⟩
abbrev S512x128 : Shape := ⟨2, ![512, 128]⟩
abbrev S1x2x512 : Shape := ⟨3, ![1, 2, 512]⟩
abbrev S1x512 : Shape := ⟨2, ![1, 512]⟩
abbrev S64x512 : Shape := ⟨2, ![64, 512]⟩
abbrev S4096x128 : Shape := ⟨2, ![4096, 128]⟩
abbrev S4096x512 : Shape := ⟨2, ![4096, 512]⟩
abbrev S512 : Shape := ⟨1, ![512]⟩
abbrev S64x4096 : Shape := ⟨2, ![64, 4096]⟩
abbrev S128x512 : Shape := ⟨2, ![128, 512]⟩
abbrev S2x512 : Shape := ⟨2, ![2, 512]⟩

abbrev nBuf : Space → Nat
  | .hbm => 28
  | .vmem => 16
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S_, .f32⟩
  | .hbm, ⟨6, _⟩ => ⟨S8192x8x32, .f32⟩
  | .hbm, ⟨7, _⟩ => ⟨S8192x1x32, .f32⟩
  | .hbm, ⟨8, _⟩ => ⟨S8192x8x32, .f32⟩
  | .hbm, ⟨9, _⟩ => ⟨S8192x8x128, .f32⟩
  | .hbm, ⟨10, _⟩ => ⟨S8192x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x8x128, .f32⟩
  | .hbm, ⟨21, _⟩ => ⟨S8192x1024, .f32⟩
  | .hbm, ⟨22, _⟩ => ⟨S8192x1024, .bf16⟩
  | .hbm, ⟨23, _⟩ => ⟨S8192x512, .f32⟩
  | .hbm, ⟨24, _⟩ => ⟨S8192x512, .bf16⟩
  | .hbm, ⟨25, _⟩ => ⟨S512x8192, .bf16⟩
  | .hbm, ⟨26, _⟩ => ⟨S8192x512, .f32⟩
  | .hbm, ⟨27, _⟩ => ⟨S4x2x8192, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S128x4096, .bf16⟩
  | .local _ .vmem, ⟨5, _⟩ => ⟨S128x4096, .bf16⟩
  | .local _ .vmem, ⟨6, _⟩ => ⟨S512x128, .f32⟩
  | .local _ .vmem, ⟨7, _⟩ => ⟨S512x128, .f32⟩
  | .local _ .vmem, ⟨8, _⟩ => ⟨S1x2x512, .f32⟩
  | .local _ .vmem, ⟨9, _⟩ => ⟨S1x2x512, .f32⟩
  | .local _ .vmem, ⟨10, _⟩ => ⟨S1x512, .f32⟩
  | .local _ .vmem, ⟨11, _⟩ => ⟨S1x512, .f32⟩
  | .local _ .vmem, ⟨12, _⟩ => ⟨S64x512, .f32⟩
  | .local _ .vmem, ⟨13, _⟩ => ⟨S1x512, .f32⟩
  | .local _ .vmem, ⟨14, _⟩ => ⟨S1x512, .f32⟩
  | .local _ .vmem, ⟨15, _⟩ => ⟨S64x512, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v75 : BitVec 1 := Scalar.cmpi .eq arg2 c1_i32
  let v76 : BitVec 32 := Scalar.extui v75
  let c0_i32_41 : BitVec 32 := 0#32
  let v77 : BitVec 1 := Scalar.cmpi .ne v76 c0_i32_41
  v77

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel7Ideal.lean ====
variable {F : FTy → Type} [FloatOps F] [Named F]
def κ : String → Option EReal := fun
  | "log2e" => some (((Real.log 2)⁻¹ : ℝ) : EReal)
  | "mask" => some ⊥
  | _ => none
-- ==== Reference7Ideal.lean ====
abbrev S8192x8x64 : Shape := ⟨3, ![8192, 8, 64]⟩
abbrev S8192x8x32 : Shape := ⟨3, ![8192, 8, 32]⟩
abbrev S8192x32 : Shape := ⟨2, ![8192, 32]⟩
abbrev S8x8192x8192 : Shape := ⟨3, ![8, 8192, 8192]⟩
abbrev S8192x8192x8 : Shape := ⟨3, ![8192, 8192, 8]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8192x512 : Shape := ⟨2, ![8192, 512]⟩
abbrev S4x2x8192 : Shape := ⟨3, ![4, 2, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8x8192x8192, .f32⟩
  | .hbm, ⟨6, _⟩ => ⟨S8192x8192x8, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S8x8192, .f32⟩
  | .hbm, ⟨24, _⟩ => ⟨S8x8192x8192, .f32⟩
  | .hbm, ⟨25, _⟩ => ⟨S8192x8192x8, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x64x8192, .f32⟩
  | .hbm, ⟨48, _⟩ => ⟨S8192x8x64, .f32⟩
  | .hbm, ⟨49, _⟩ => ⟨S8192x512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8x8192, .f32⟩
  | .hbm, ⟨54, _⟩ => ⟨S8x8192, .f32⟩
  | .hbm, ⟨55, _⟩ => ⟨S4x2x8192, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel8.lean ====
abbrev S3x8192x8x64 : Shape := ⟨4, ![3, 8192, 8, 64]⟩
abbrev S8192x512 : Shape := ⟨2, ![8192, 512]⟩
abbrev S1x8192x8x64 : Shape := ⟨4, ![1, 8192, 8, 64]⟩
abbrev S8192x8x64 : Shape := ⟨3, ![8192, 8, 64]⟩
abbrev S8192x1x8x64 : Shape := ⟨4, ![8192, 1, 8, 64]⟩
abbrev S_ : Shape := ⟨0, ![]⟩
abbrev S1x64x8x64 : Shape := ⟨4, ![1, 64, 8, 64]⟩
abbrev S8192 : Shape := ⟨1, ![8192]⟩
abbrev S128x64 : Shape := ⟨2, ![128, 64]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S128x64x1 : Shape := ⟨3, ![128, 64, 1]⟩
abbrev S128x1x192 : Shape := ⟨3, ![128, 1, 192]⟩
abbrev S128x64x192 : Shape := ⟨3, ![128, 64, 192]⟩
abbrev S1x128x64x8x64 : Shape := ⟨5, ![1, 128, 64, 8, 64]⟩
abbrev S1x8320x8x64 : Shape := ⟨4, ![1, 8320, 8, 64]⟩
abbrev S1x130x64x8x64 : Shape := ⟨5, ![1, 130, 64, 8, 64]⟩
abbrev S1x128x192x8x64 : Shape := ⟨5, ![1, 128, 192, 8, 64]⟩
abbrev S1x128x8x64x192 : Shape := ⟨5, ![1, 128, 8, 64, 192]⟩
abbrev S1x128x1x64x192 : Shape := ⟨5, ![1, 128, 1, 64, 192]⟩
abbrev S1x128x8x64 : Shape := ⟨4, ![1, 128, 8, 64]⟩
abbrev S1x128x8x64x1 : Shape := ⟨5, ![1, 128, 8, 64, 1]⟩
abbrev S1x128x8x64x64 : Shape := ⟨5, ![1, 128, 8, 64, 64]⟩
abbrev S1x128x64x8 : Shape := ⟨4, ![1, 128, 64, 8]⟩
abbrev S1x8192x8 : Shape := ⟨3, ![1, 8192, 8]⟩
abbrev S8192x1x8 : Shape := ⟨3, ![8192, 1, 8]⟩
abbrev S8192x8 : Shape := ⟨2, ![8192, 8]⟩
abbrev S2048x4x8x64 : Shape := ⟨4, ![2048, 4, 8, 64]⟩
abbrev S4x2048x8x64 : Shape := ⟨4, ![4, 2048, 8, 64]⟩
abbrev S4x64x8x64 : Shape := ⟨4, ![4, 64, 8, 64]⟩
abbrev S2048 : Shape := ⟨1, ![2048]⟩
abbrev S32x64 : Shape := ⟨2, ![32, 64]⟩
abbrev S32 : Shape := ⟨1, ![32]⟩
abbrev S32x1 : Shape := ⟨2, ![32, 1]⟩
abbrev S32x192 : Shape := ⟨2, ![32, 192]⟩
abbrev S32x64x1 : Shape := ⟨3, ![32, 64, 1]⟩
abbrev S32x1x192 : Shape := ⟨3, ![32, 1, 192]⟩
abbrev S32x64x192 : Shape := ⟨3, ![32, 64, 192]⟩
abbrev S4x32x64x8x64 : Shape := ⟨5, ![4, 32, 64, 8, 64]⟩
abbrev S4x2176x8x64 : Shape := ⟨4, ![4, 2176, 8, 64]⟩
abbrev S4x34x64x8x64 : Shape := ⟨5, ![4, 34, 64, 8, 64]⟩
abbrev S4x32x192x8x64 : Shape := ⟨5, ![4, 32, 192, 8, 64]⟩
abbrev S4x32x8x64x192 : Shape := ⟨5, ![4, 32, 8, 64, 192]⟩
abbrev S1x32x1x64x192 : Shape := ⟨5, ![1, 32, 1, 64, 192]⟩
abbrev S4x32x8x64 : Shape := ⟨4, ![4, 32, 8, 64]⟩
abbrev S4x32x8x64x1 : Shape := ⟨5, ![4, 32, 8, 64, 1]⟩
abbrev S4x32x8x64x64 : Shape := ⟨5, ![4, 32, 8, 64, 64]⟩
abbrev S4x32x64x8 : Shape := ⟨4, ![4, 32, 64, 8]⟩
abbrev S4x2048x8 : Shape := ⟨3, ![4, 2048, 8]⟩
abbrev S2048x4x8 : Shape := ⟨3, ![2048, 4, 8]⟩
abbrev S512x16x8x64 : Shape := ⟨4, ![512, 16, 8, 64]⟩
abbrev S16x512x8x64 : Shape := ⟨4, ![16, 512, 8, 64]⟩
abbrev S16x64x8x64 : Shape := ⟨4, ![16, 64, 8, 64]⟩
abbrev S512 : Shape := ⟨1, ![512]⟩
abbrev S8x64 : Shape := ⟨2, ![8, 64]⟩
abbrev S8 : Shape := ⟨1, ![8]⟩
abbrev S8x1 : Shape := ⟨2, ![8, 1]⟩
abbrev S8x192 : Shape := ⟨2, ![8, 192]⟩
abbrev S8x64x1 : Shape := ⟨3, ![8, 64, 1]⟩
abbrev S8x1x192 : Shape := ⟨3, ![8, 1, 192]⟩
abbrev S8x64x192 : Shape := ⟨3, ![8, 64, 192]⟩
abbrev S16x8x64x8x64 : Shape := ⟨5, ![16, 8, 64, 8, 64]⟩
abbrev S16x640x8x64 : Shape := ⟨4, ![16, 640, 8, 64]⟩
abbrev S16x10x64x8x64 : Shape := ⟨5, ![16, 10, 64, 8, 64]⟩
abbrev S16x8x192x8x64 : Shape := ⟨5, ![16, 8, 192, 8, 64]⟩
abbrev S16x8x8x64x192 : Shape := ⟨5, ![16, 8, 8, 64, 192]⟩
abbrev S1x8x1x64x192 : Shape := ⟨5, ![1, 8, 1, 64, 192]⟩
abbrev S16x8x8x64 : Shape := ⟨4, ![16, 8, 8, 64]⟩
abbrev S16x8x8x64x1 : Shape := ⟨5, ![16, 8, 8, 64, 1]⟩
abbrev S16x8x8x64x64 : Shape := ⟨5, ![16, 8, 8, 64, 64]⟩
abbrev S16x8x64x8 : Shape := ⟨4, ![16, 8, 64, 8]⟩
abbrev S16x512x8 : Shape := ⟨3, ![16, 512, 8]⟩
abbrev S512x16x8 : Shape := ⟨3, ![512, 16, 8]⟩
abbrev S8192x8x1 : Shape := ⟨3, ![8192, 8, 1]⟩
abbrev S512x16x512 : Shape := ⟨3, ![512, 16, 512]⟩
abbrev S16x512x512 : Shape := ⟨3, ![16, 512, 512]⟩
abbrev S16x8x512 : Shape := ⟨3, ![16, 8, 512]⟩
abbrev S16x4x2x512 : Shape := ⟨4, ![16, 4, 2, 512]⟩
abbrev S1x512x128 : Shape := ⟨3, ![1, 512, 128]⟩
abbrev S1x1x2x512 : Shape := ⟨4, ![1, 1, 2, 512]⟩
abbrev S512x128 : Shape := ⟨2, ![512, 128]⟩
abbrev S128x128 : Shape := ⟨2, ![128, 128]⟩
abbrev S1x256x128 : Shape := ⟨3, ![1, 256, 128]⟩
abbrev S256x128 : Shape := ⟨2, ![256, 128]⟩
abbrev S1x128x128 : Shape := ⟨3, ![1, 128, 128]⟩
abbrev S1x1x1x128 : Shape := ⟨4, ![1, 1, 1, 128]⟩
abbrev S1x128 : Shape := ⟨2, ![1, 128]⟩
abbrev S1x256 : Shape := ⟨2, ![1, 256]⟩
abbrev S256x256 : Shape := ⟨2, ![256, 256]⟩

abbrev nBuf : Space → Nat
  | .hbm => 392
  | .vmem => 22
  | .smem => 0
  | _ => 0

abbrev hbmTy0_0 (i : Nat) : BufTy := match i % 128 with
  | 0 => ⟨S3x8192x8x64, .f32⟩
  | 1 => ⟨S3x8192x8x64, .f32⟩
  | 2 => ⟨S3x8192x8x64, .f32⟩
  | 3 => ⟨S8192x512, .f32⟩
  | 4 => ⟨S1x8192x8x64, .f32⟩
  | 5 => ⟨S8192x8x64, .f32⟩
  | 6 => ⟨S1x8192x8x64, .f32⟩
  | 7 => ⟨S8192x8x64, .f32⟩
  | 8 => ⟨S1x8192x8x64, .f32⟩
  | 9 => ⟨S8192x8x64, .f32⟩
  | 10 => ⟨S8192x1x8x64, .f32⟩
  | 11 => ⟨S1x8192x8x64, .f32⟩
  | 12 => ⟨S8192x1x8x64, .f32⟩
  | 13 => ⟨S1x8192x8x64, .f32⟩
  | 14 => ⟨S8192x1x8x64, .f32⟩
  | 15 => ⟨S1x8192x8x64, .f32⟩
  | 16 => ⟨S_, .f32⟩
  | 17 => ⟨S1x64x8x64, .f32⟩
  | 18 => ⟨S8192, .i32⟩
  | 19 => ⟨S128x64, .i32⟩
  | 20 => ⟨S128, .i32⟩
  | 21 => ⟨S128x1, .i32⟩
  | 22 => ⟨S_, .i32⟩
  | 23 => ⟨S128x1, .i32⟩
  | 24 => ⟨S128x1, .i32⟩
  | 25 => ⟨S_, .i32⟩
  | 26 => ⟨S128x1, .i32⟩
  | 27 => ⟨S128x1, .i32⟩
  | 28 => ⟨S192, .i32⟩
  | 29 => ⟨S1x192, .i32⟩
  | 30 => ⟨S128x192, .i32⟩
  | 31 => ⟨S128x192, .i32⟩
  | 32 => ⟨S128x192, .i32⟩
  | 33 => ⟨S128x64x1, .i32⟩
  | 34 => ⟨S128x1x192, .i32⟩
  | 35 => ⟨S128x64x192, .i32⟩
  | 36 => ⟨S128x64x192, .i32⟩
  | 37 => ⟨S128x64x192, .i32⟩
  | 38 => ⟨S128x64x192, .i32⟩
  | 39 => ⟨S_, .i32⟩
  | 40 => ⟨S128x64x192, .i32⟩
  | 41 => ⟨S128x64x192, .i1⟩
  | 42 => ⟨S128x1x192, .i32⟩
  | 43 => ⟨S_, .i32⟩
  | 44 => ⟨S128x1x192, .i32⟩
  | 45 => ⟨S128x1x192, .i1⟩
  | 46 => ⟨S128x64x192, .i1⟩
  | 47 => ⟨S128x64x192, .i1⟩
  | 48 => ⟨S128x1x192, .i32⟩
  | 49 => ⟨S_, .i32⟩
  | 50 => ⟨S128x1x192, .i32⟩
  | 51 => ⟨S128x1x192, .i1⟩
  | 52 => ⟨S128x64x192, .i1⟩
  | 53 => ⟨S128x64x192, .i1⟩
  | 54 => ⟨S1x128x64x8x64, .f32⟩
  | 55 => ⟨S1x8320x8x64, .f32⟩
  | 56 => ⟨S1x130x64x8x64, .f32⟩
  | 57 => ⟨S1x128x64x8x64, .f32⟩
  | 58 => ⟨S1x128x64x8x64, .f32⟩
  | 59 => ⟨S1x128x64x8x64, .f32⟩
  | 60 => ⟨S1x128x192x8x64, .f32⟩
  | 61 => ⟨S1x128x8x64x192, .f32⟩
  | 62 => ⟨S_, .f32⟩
  | 63 => ⟨S1x128x8x64x192, .f32⟩
  | 64 => ⟨S1x128x8x64x192, .f32⟩
  | 65 => ⟨S1x128x1x64x192, .i1⟩
  | 66 => ⟨S_, .f32⟩
  | 67 => ⟨S_, .f32⟩
  | 68 => ⟨S1x128x8x64x192, .i1⟩
  | 69 => ⟨S1x128x8x64x192, .f32⟩
  | 70 => ⟨S1x128x8x64x192, .f32⟩
  | 71 => ⟨S_, .f32⟩
  | 72 => ⟨S1x128x8x64, .f32⟩
  | 73 => ⟨S1x128x8x64x1, .f32⟩
  | 74 => ⟨S1x128x8x64x192, .f32⟩
  | 75 => ⟨S1x128x8x64x192, .f32⟩
  | 76 => ⟨S1x128x8x64x192, .f32⟩
  | 77 => ⟨S_, .f32⟩
  | 78 => ⟨S1x128x8x64, .f32⟩
  | 79 => ⟨S1x128x8x64x1, .f32⟩
  | 80 => ⟨S1x128x8x64x192, .f32⟩
  | 81 => ⟨S1x128x8x64x192, .f32⟩
  | 82 => ⟨S1x8320x8x64, .f32⟩
  | 83 => ⟨S1x130x64x8x64, .f32⟩
  | 84 => ⟨S1x128x64x8x64, .f32⟩
  | 85 => ⟨S1x128x64x8x64, .f32⟩
  | 86 => ⟨S1x128x64x8x64, .f32⟩
  | 87 => ⟨S1x128x192x8x64, .f32⟩
  | 88 => ⟨S1x128x8x64x64, .f32⟩
  | 89 => ⟨S1x128x64x8x64, .f32⟩
  | 90 => ⟨S1x8192x8x64, .f32⟩
  | 91 => ⟨S1x128x8x64x1, .f32⟩
  | 92 => ⟨S1x128x8x64x1, .f32⟩
  | 93 => ⟨S1x128x8x64, .f32⟩
  | 94 => ⟨S1x128x64x8, .f32⟩
  | 95 => ⟨S1x8192x8, .f32⟩
  | 96 => ⟨S8192x1x8x64, .f32⟩
  | 97 => ⟨S8192x8x64, .f32⟩
  | 98 => ⟨S8192x1x8, .f32⟩
  | 99 => ⟨S8192x8, .f32⟩
  | 100 => ⟨S1x8192x8x64, .f32⟩
  | 101 => ⟨S8192x8x64, .f32⟩
  | 102 => ⟨S1x8192x8x64, .f32⟩
  | 103 => ⟨S8192x8x64, .f32⟩
  | 104 => ⟨S1x8192x8x64, .f32⟩
  | 105 => ⟨S8192x8x64, .f32⟩
  | 106 => ⟨S2048x4x8x64, .f32⟩
  | 107 => ⟨S4x2048x8x64, .f32⟩
  | 108 => ⟨S2048x4x8x64, .f32⟩
  | 109 => ⟨S4x2048x8x64, .f32⟩
  | 110 => ⟨S2048x4x8x64, .f32⟩
  | 111 => ⟨S4x2048x8x64, .f32⟩
  | 112 => ⟨S_, .f32⟩
  | 113 => ⟨S4x64x8x64, .f32⟩
  | 114 => ⟨S2048, .i32⟩
  | 115 => ⟨S32x64, .i32⟩
  | 116 => ⟨S32, .i32⟩
  | 117 => ⟨S32x1, .i32⟩
  | 118 => ⟨S_, .i32⟩
  | 119 => ⟨S32x1, .i32⟩
  | 120 => ⟨S32x1, .i32⟩
  | 121 => ⟨S_, .i32⟩
  | 122 => ⟨S32x1, .i32⟩
  | 123 => ⟨S32x1, .i32⟩
  | 124 => ⟨S192, .i32⟩
  | 125 => ⟨S1x192, .i32⟩
  | 126 => ⟨S32x192, .i32⟩
  | 127 => ⟨S32x192, .i32⟩
  | _ => ⟨S3x8192x8x64, .f32⟩

abbrev hbmTy0_1 (i : Nat) : BufTy := match i % 128 with
  | 0 => ⟨S32x192, .i32⟩
  | 1 => ⟨S32x64x1, .i32⟩
  | 2 => ⟨S32x1x192, .i32⟩
  | 3 => ⟨S32x64x192, .i32⟩
  | 4 => ⟨S32x64x192, .i32⟩
  | 5 => ⟨S32x64x192, .i32⟩
  | 6 => ⟨S32x64x192, .i32⟩
  | 7 => ⟨S_, .i32⟩
  | 8 => ⟨S32x64x192, .i32⟩
  | 9 => ⟨S32x64x192, .i1⟩
  | 10 => ⟨S32x1x192, .i32⟩
  | 11 => ⟨S_, .i32⟩
  | 12 => ⟨S32x1x192, .i32⟩
  | 13 => ⟨S32x1x192, .i1⟩
  | 14 => ⟨S32x64x192, .i1⟩
  | 15 => ⟨S32x64x192, .i1⟩
  | 16 => ⟨S32x1x192, .i32⟩
  | 17 => ⟨S_, .i32⟩
  | 18 => ⟨S32x1x192, .i32⟩
  | 19 => ⟨S32x1x192, .i1⟩
  | 20 => ⟨S32x64x192, .i1⟩
  | 21 => ⟨S32x64x192, .i1⟩
  | 22 => ⟨S4x32x64x8x64, .f32⟩
  | 23 => ⟨S4x2176x8x64, .f32⟩
  | 24 => ⟨S4x34x64x8x64, .f32⟩
  | 25 => ⟨S4x32x64x8x64, .f32⟩
  | 26 => ⟨S4x32x64x8x64, .f32⟩
  | 27 => ⟨S4x32x64x8x64, .f32⟩
  | 28 => ⟨S4x32x192x8x64, .f32⟩
  | 29 => ⟨S4x32x8x64x192, .f32⟩
  | 30 => ⟨S_, .f32⟩
  | 31 => ⟨S4x32x8x64x192, .f32⟩
  | 32 => ⟨S4x32x8x64x192, .f32⟩
  | 33 => ⟨S1x32x1x64x192, .i1⟩
  | 34 => ⟨S_, .f32⟩
  | 35 => ⟨S_, .f32⟩
  | 36 => ⟨S4x32x8x64x192, .i1⟩
  | 37 => ⟨S4x32x8x64x192, .f32⟩
  | 38 => ⟨S4x32x8x64x192, .f32⟩
  | 39 => ⟨S_, .f32⟩
  | 40 => ⟨S4x32x8x64, .f32⟩
  | 41 => ⟨S4x32x8x64x1, .f32⟩
  | 42 => ⟨S4x32x8x64x192, .f32⟩
  | 43 => ⟨S4x32x8x64x192, .f32⟩
  | 44 => ⟨S4x32x8x64x192, .f32⟩
  | 45 => ⟨S_, .f32⟩
  | 46 => ⟨S4x32x8x64, .f32⟩
  | 47 => ⟨S4x32x8x64x1, .f32⟩
  | 48 => ⟨S4x32x8x64x192, .f32⟩
  | 49 => ⟨S4x32x8x64x192, .f32⟩
  | 50 => ⟨S4x2176x8x64, .f32⟩
  | 51 => ⟨S4x34x64x8x64, .f32⟩
  | 52 => ⟨S4x32x64x8x64, .f32⟩
  | 53 => ⟨S4x32x64x8x64, .f32⟩
  | 54 => ⟨S4x32x64x8x64, .f32⟩
  | 55 => ⟨S4x32x192x8x64, .f32⟩
  | 56 => ⟨S4x32x8x64x64, .f32⟩
  | 57 => ⟨S4x32x64x8x64, .f32⟩
  | 58 => ⟨S4x2048x8x64, .f32⟩
  | 59 => ⟨S4x32x8x64x1, .f32⟩
  | 60 => ⟨S4x32x8x64x1, .f32⟩
  | 61 => ⟨S4x32x8x64, .f32⟩
  | 62 => ⟨S4x32x64x8, .f32⟩
  | 63 => ⟨S4x2048x8, .f32⟩
  | 64 => ⟨S2048x4x8x64, .f32⟩
  | 65 => ⟨S8192x8x64, .f32⟩
  | 66 => ⟨S2048x4x8, .f32⟩
  | 67 => ⟨S8192x8, .f32⟩
  | 68 => ⟨S1x8192x8x64, .f32⟩
  | 69 => ⟨S8192x8x64, .f32⟩
  | 70 => ⟨S1x8192x8x64, .f32⟩
  | 71 => ⟨S8192x8x64, .f32⟩
  | 72 => ⟨S1x8192x8x64, .f32⟩
  | 73 => ⟨S8192x8x64, .f32⟩
  | 74 => ⟨S512x16x8x64, .f32⟩
  | 75 => ⟨S16x512x8x64, .f32⟩
  | 76 => ⟨S512x16x8x64, .f32⟩
  | 77 => ⟨S16x512x8x64, .f32⟩
  | 78 => ⟨S512x16x8x64, .f32⟩
  | 79 => ⟨S16x512x8x64, .f32⟩
  | 80 => ⟨S_, .f32⟩
  | 81 => ⟨S16x64x8x64, .f32⟩
  | 82 => ⟨S512, .i32⟩
  | 83 => ⟨S8x64, .i32⟩
  | 84 => ⟨S8, .i32⟩
  | 85 => ⟨S8x1, .i32⟩
  | 86 => ⟨S_, .i32⟩
  | 87 => ⟨S8x1, .i32⟩
  | 88 => ⟨S8x1, .i32⟩
  | 89 => ⟨S_, .i32⟩
  | 90 => ⟨S8x1, .i32⟩
  | 91 => ⟨S8x1, .i32⟩
  | 92 => ⟨S192, .i32⟩
  | 93 => ⟨S1x192, .i32⟩
  | 94 => ⟨S8x192, .i32⟩
  | 95 => ⟨S8x192, .i32⟩
  | 96 => ⟨S8x192, .i32⟩
  | 97 => ⟨S8x64x1, .i32⟩
  | 98 => ⟨S8x1x192, .i32⟩
  | 99 => ⟨S8x64x192, .i32⟩
  | 100 => ⟨S8x64x192, .i32⟩
  | 101 => ⟨S8x64x192, .i32⟩
  | 102 => ⟨S8x64x192, .i32⟩
  | 103 => ⟨S_, .i32⟩
  | 104 => ⟨S8x64x192, .i32⟩
  | 105 => ⟨S8x64x192, .i1⟩
  | 106 => ⟨S8x1x192, .i32⟩
  | 107 => ⟨S_, .i32⟩
  | 108 => ⟨S8x1x192, .i32⟩
  | 109 => ⟨S8x1x192, .i1⟩
  | 110 => ⟨S8x64x192, .i1⟩
  | 111 => ⟨S8x64x192, .i1⟩
  | 112 => ⟨S8x1x192, .i32⟩
  | 113 => ⟨S_, .i32⟩
  | 114 => ⟨S8x1x192, .i32⟩
  | 115 => ⟨S8x1x192, .i1⟩
  | 116 => ⟨S8x64x192, .i1⟩
  | 117 => ⟨S8x64x192, .i1⟩
  | 118 => ⟨S16x8x64x8x64, .f32⟩
  | 119 => ⟨S16x640x8x64, .f32⟩
  | 120 => ⟨S16x10x64x8x64, .f32⟩
  | 121 => ⟨S16x8x64x8x64, .f32⟩
  | 122 => ⟨S16x8x64x8x64, .f32⟩
  | 123 => ⟨S16x8x64x8x64, .f32⟩
  | 124 => ⟨S16x8x192x8x64, .f32⟩
  | 125 => ⟨S16x8x8x64x192, .f32⟩
  | 126 => ⟨S_, .f32⟩
  | 127 => ⟨S16x8x8x64x192, .f32⟩
  | _ => ⟨S3x8192x8x64, .f32⟩

abbrev hbmTy0_2 (i : Nat) : BufTy := match i % 128 with
  | 0 => ⟨S16x8x8x64x192, .f32⟩
  | 1 => ⟨S1x8x1x64x192, .i1⟩
  | 2 => ⟨S_, .f32⟩
  | 3 => ⟨S_, .f32⟩
  | 4 => ⟨S16x8x8x64x192, .i1⟩
  | 5 => ⟨S16x8x8x64x192, .f32⟩
  | 6 => ⟨S16x8x8x64x192, .f32⟩
  | 7 => ⟨S_, .f32⟩
  | 8 => ⟨S16x8x8x64, .f32⟩
  | 9 => ⟨S16x8x8x64x1, .f32⟩
  | 10 => ⟨S16x8x8x64x192, .f32⟩
  | 11 => ⟨S16x8x8x64x192, .f32⟩
  | 12 => ⟨S16x8x8x64x192, .f32⟩
  | 13 => ⟨S_, .f32⟩
  | 14 => ⟨S16x8x8x64, .f32⟩
  | 15 => ⟨S16x8x8x64x1, .f32⟩
  | 16 => ⟨S16x8x8x64x192, .f32⟩
  | 17 => ⟨S16x8x8x64x192, .f32⟩
  | 18 => ⟨S16x640x8x64, .f32⟩
  | 19 => ⟨S16x10x64x8x64, .f32⟩
  | 20 => ⟨S16x8x64x8x64, .f32⟩
  | 21 => ⟨S16x8x64x8x64, .f32⟩
  | 22 => ⟨S16x8x64x8x64, .f32⟩
  | 23 => ⟨S16x8x192x8x64, .f32⟩
  | 24 => ⟨S16x8x8x64x64, .f32⟩
  | 25 => ⟨S16x8x64x8x64, .f32⟩
  | 26 => ⟨S16x512x8x64, .f32⟩
  | 27 => ⟨S16x8x8x64x1, .f32⟩
  | 28 => ⟨S16x8x8x64x1, .f32⟩
  | 29 => ⟨S16x8x8x64, .f32⟩
  | 30 => ⟨S16x8x64x8, .f32⟩
  | 31 => ⟨S16x512x8, .f32⟩
  | 32 => ⟨S512x16x8x64, .f32⟩
  | 33 => ⟨S8192x8x64, .f32⟩
  | 34 => ⟨S512x16x8, .f32⟩
  | 35 => ⟨S8192x8, .f32⟩
  | 36 => ⟨S8192x8, .f32⟩
  | 37 => ⟨S8192x8, .f32⟩
  | 38 => ⟨S8192x8, .f32⟩
  | 39 => ⟨S8192x8, .f32⟩
  | 40 => ⟨S8192x8, .f32⟩
  | 41 => ⟨S8192x8, .f32⟩
  | 42 => ⟨S8192x8, .f32⟩
  | 43 => ⟨S8192x8, .f32⟩
  | 44 => ⟨S_, .f32⟩
  | 45 => ⟨S8192x8, .f32⟩
  | 46 => ⟨S8192x8, .f32⟩
  | 47 => ⟨S8192x8, .f32⟩
  | 48 => ⟨S8192x8, .f32⟩
  | 49 => ⟨S8192x8, .f32⟩
  | 50 => ⟨S8192x8x1, .f32⟩
  | 51 => ⟨S8192x8x64, .f32⟩
  | 52 => ⟨S8192x8x64, .f32⟩
  | 53 => ⟨S_, .f32⟩
  | 54 => ⟨S8192x8x64, .f32⟩
  | 55 => ⟨S8192x8x64, .f32⟩
  | 56 => ⟨S8192x8, .f32⟩
  | 57 => ⟨S8192x8x1, .f32⟩
  | 58 => ⟨S8192x8x64, .f32⟩
  | 59 => ⟨S8192x8x64, .f32⟩
  | 60 => ⟨S8192x8x64, .f32⟩
  | 61 => ⟨S8192x8, .f32⟩
  | 62 => ⟨S8192x8x1, .f32⟩
  | 63 => ⟨S8192x8x64, .f32⟩
  | 64 => ⟨S8192x8x64, .f32⟩
  | 65 => ⟨S8192x8x64, .f32⟩
  | 66 => ⟨S8192x8, .f32⟩
  | 67 => ⟨S8192x8, .f32⟩
  | 68 => ⟨S_, .f32⟩
  | 69 => ⟨S_, .f32⟩
  | 70 => ⟨S_, .f32⟩
  | 71 => ⟨S8192x8, .f32⟩
  | 72 => ⟨S8192x8, .f32⟩
  | 73 => ⟨S8192x8x64, .f32⟩
  | 74 => ⟨S8192x8x64, .f32⟩
  | 75 => ⟨S_, .f32⟩
  | 76 => ⟨S8192x8, .f32⟩
  | 77 => ⟨S1x8192x8x64, .f32⟩
  | 78 => ⟨S8192x8x64, .f32⟩
  | 79 => ⟨S_, .f32⟩
  | 80 => ⟨S_, .f32⟩
  | 81 => ⟨S_, .f32⟩
  | 82 => ⟨S_, .f32⟩
  | 83 => ⟨S_, .f32⟩
  | 84 => ⟨S8192x8x64, .f32⟩
  | 85 => ⟨S8192x8x64, .f32⟩
  | 86 => ⟨S8192x512, .f32⟩
  | 87 => ⟨S512x16x512, .f32⟩
  | 88 => ⟨S16x512x512, .f32⟩
  | 89 => ⟨S16x512x512, .bf16⟩
  | 90 => ⟨S1x8192x8x64, .f32⟩
  | 91 => ⟨S8192x8x64, .f32⟩
  | 92 => ⟨S8192x512, .f32⟩
  | 93 => ⟨S512x16x512, .f32⟩
  | 94 => ⟨S16x512x512, .f32⟩
  | 95 => ⟨S16x512x512, .bf16⟩
  | 96 => ⟨S1x8192x8x64, .f32⟩
  | 97 => ⟨S8192x8x64, .f32⟩
  | 98 => ⟨S8192x512, .f32⟩
  | 99 => ⟨S512x16x512, .f32⟩
  | 100 => ⟨S16x512x512, .f32⟩
  | 101 => ⟨S16x512x512, .bf16⟩
  | 102 => ⟨S512x16x512, .f32⟩
  | 103 => ⟨S16x512x512, .f32⟩
  | 104 => ⟨S16x512x512, .bf16⟩
  | 105 => ⟨S512x16x8, .f32⟩
  | 106 => ⟨S16x512x8, .f32⟩
  | 107 => ⟨S16x8x512, .f32⟩
  | 108 => ⟨S16x4x2x512, .f32⟩
  | 109 => ⟨S512x16x8, .f32⟩
  | 110 => ⟨S16x512x8, .f32⟩
  | 111 => ⟨S16x8x512, .f32⟩
  | 112 => ⟨S16x4x2x512, .f32⟩
  | 113 => ⟨S16x512x512, .bf16⟩
  | 114 => ⟨S16x512x512, .bf16⟩
  | 115 => ⟨S16x512x512, .bf16⟩
  | 116 => ⟨S512x16x512, .bf16⟩
  | 117 => ⟨S8192x512, .bf16⟩
  | 118 => ⟨S8192x512, .f32⟩
  | 119 => ⟨S8192x8x64, .f32⟩
  | 120 => ⟨S_, .f32⟩
  | 121 => ⟨S8192x8x64, .f32⟩
  | 122 => ⟨S8192x8x64, .f32⟩
  | 123 => ⟨S512x16x512, .bf16⟩
  | 124 => ⟨S8192x512, .bf16⟩
  | 125 => ⟨S8192x512, .f32⟩
  | 126 => ⟨S8192x8x64, .f32⟩
  | 127 => ⟨S_, .f32⟩
  | _ => ⟨S3x8192x8x64, .f32⟩

abbrev hbmTy0_3 (i : Nat) : BufTy := match i % 128 with
  | 0 => ⟨S_, .f32⟩
  | 1 => ⟨S_, .f32⟩
  | 2 => ⟨S8192x8x64, .f32⟩
  | 3 => ⟨S8192x8x64, .f32⟩
  | 4 => ⟨S512x16x512, .bf16⟩
  | 5 => ⟨S8192x512, .bf16⟩
  | 6 => ⟨S8192x512, .f32⟩
  | 7 => ⟨S8192x8x64, .f32⟩
  | _ => ⟨S3x8192x8x64, .f32⟩

abbrev hbmTy (i : Nat) : BufTy := match i / 128 with
  | 0 => hbmTy0_0 i
  | 1 => hbmTy0_1 i
  | 2 => hbmTy0_2 i
  | 3 => hbmTy0_3 i
  | _ => ⟨S3x8192x8x64, .f32⟩

abbrev bufTy : (tb : Table) → Fin (tcTables nBuf tb) → BufTy
  | .hbm, ⟨i, _⟩ => hbmTy i
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x1x2x512, .f32⟩
  | .local _ .vmem, ⟨9, _⟩ => ⟨S1x1x2x512, .f32⟩
  | .local _ .vmem, ⟨10, _⟩ => ⟨S1x1x2x512, .f32⟩
  | .local _ .vmem, ⟨11, _⟩ => ⟨S1x1x2x512, .f32⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S3x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_8 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_c_9 : Ref sig .tc := ⟨.hbm, 118, rfl⟩
abbrev main_v100 : Ref sig .tc := ⟨.hbm, 119, rfl⟩
abbrev main_v101 : Ref sig .tc := ⟨.hbm, 120, rfl⟩
abbrev main_c_10 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_c_11 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_c_12 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_c_13 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_cst_14 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_15 : Ref sig .tc := ⟨.hbm, 162, rfl⟩
abbrev main_call1_v0 : Ref sig .tc := ⟨.hbm, 163, rfl⟩
abbrev main_call1_v1 : Ref sig .tc := ⟨.hbm, 164, rfl⟩
abbrev main_call1_v2 : Ref sig .tc := ⟨.hbm, 165, rfl⟩
abbrev main_v138 : Ref sig .tc := ⟨.hbm, 166, rfl⟩
abbrev main_cst_16 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_17 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_cst_18 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_c_19 : Ref sig .tc := ⟨.hbm, 214, rfl⟩
abbrev main_v183 : Ref sig .tc := ⟨.hbm, 215, rfl⟩
abbrev main_v184 : Ref sig .tc := ⟨.hbm, 216, rfl⟩
abbrev main_c_20 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_c_21 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_c_22 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_c_23 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_cst_24 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_cst_25 : Ref sig .tc := ⟨.hbm, 258, rfl⟩
abbrev main_call2_v0 : Ref sig .tc := ⟨.hbm, 259, rfl⟩
abbrev main_call2_v1 : Ref sig .tc := ⟨.hbm, 260, rfl⟩
abbrev main_call2_v2 : Ref sig .tc := ⟨.hbm, 261, rfl⟩
abbrev main_v221 : Ref sig .tc := ⟨.hbm, 262, rfl⟩
abbrev main_cst_26 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_cst_27 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_cst_28 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_cst_29 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_cst_30 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_cst_31 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_cst_32 : Ref sig .tc := ⟨.hbm, 335, rfl⟩
abbrev main_v288 : Ref sig .tc := ⟨.hbm, 336, rfl⟩
abbrev main_cst_33 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320_0 : Ref sig .tc := ⟨.hbm, 369, rfl⟩
abbrev main_v320_1 : Ref sig .tc := ⟨.hbm, 370, rfl⟩
abbrev main_v320_2 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_cst_34 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_cst_35 : Ref sig .tc := ⟨.hbm, 383, rfl⟩
abbrev main_v331 : Ref sig .tc := ⟨.hbm, 384, rfl⟩
abbrev main_v332 : Ref sig .tc := ⟨.hbm, 385, rfl⟩
abbrev main_v333 : Ref sig .tc := ⟨.hbm, 386, rfl⟩
abbrev main_v334 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 4, 1], ![false, false, false]⟩

def k0_mult1 (i : grid0.Coords) : BitVec 32 :=
  let c0_i32_7 : BitVec 32 := 0#32
  let c0_i32_6 : BitVec 32 := 0#32
  let arg2 : BitVec 32 := BitVec.ofNat 32 (i 2).val
  let c512_i32 : BitVec 32 := 512#32
  let v14 : BitVec 32 := Scalar.muli arg2 c512_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  v17
def k0_mult2 (i : grid0.Coords) : BitVec 32 :=
  let c256_i32 : BitVec 32 := 256#32
  let c0_i32_11 : BitVec 32 := 0#32
  let arg2 : BitVec 32 := BitVec.ofNat 32 (i 2).val
  let c512_i32_8 : BitVec 32 := 512#32
  let v19 : BitVec 32 := Scalar.muli arg2 c512_i32_8
  let c0_i32_9 : BitVec 32 := 0#32
  let v20 : BitVec 32 := Scalar.addi v19 c0_i32_9
  let c64_i32_10 : BitVec 32 := 64#32
  let v21 : BitVec 32 := Scalar.subi v20 c64_i32_10
  let v22 : BitVec 32 := Scalar.maxsi c0_i32_11 v21
  let v23 : BitVec 32 := Scalar.minsi c256_i32 v22
  v23
def k0_mult3 (i : grid0.Coords) : BitVec 32 :=
  let c256_i32 : BitVec 32 := 256#32
  let c0_i32_11 : BitVec 32 := 0#32
  let arg2 : BitVec 32 := BitVec.ofNat 32 (i 2).val
  let c512_i32_8 : BitVec 32 := 512#32
  let v19 : BitVec 32 := Scalar.muli arg2 c512_i32_8
  let c0_i32_9 : BitVec 32 := 0#32
  let v20 : BitVec 32 := Scalar.addi v19 c0_i32_9
  let c64_i32_10 : BitVec 32 := 64#32
  let v21 : BitVec 32 := Scalar.subi v20 c64_i32_10
  let v22 : BitVec 32 := Scalar.maxsi c0_i32_11 v21
  let v23 : BitVec 32 := Scalar.minsi c256_i32 v22
  let v24 : BitVec 32 := v23
  let c0_i32_7 : BitVec 32 := 0#32
  let c0_i32_6 : BitVec 32 := 0#32
  let c512_i32 : BitVec 32 := 512#32
  let v14 : BitVec 32 := Scalar.muli arg2 c512_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v25 : BitVec 32 := Scalar.subi v24 v18
  v25
def k0_off1 (i : grid0.Coords) (c0_i32_9 : BitVec 32) : Fin 3 → Nat :=
  let c0_12 : Index := 0#32
  let c256_i32 : BitVec 32 := 256#32
  let c0_i32_11 : BitVec 32 := 0#32
  let arg2 : BitVec 32 := BitVec.ofNat 32 (i 2).val
  let c512_i32_8 : BitVec 32 := 512#32
  let v19 : BitVec 32 := Scalar.muli arg2 c512_i32_8
  let v20 : BitVec 32 := Scalar.addi v19 c0_i32_9
  let c64_i32_10 : BitVec 32 := 64#32
  let v21 : BitVec 32 := Scalar.subi v20 c64_i32_10
  let v22 : BitVec 32 := Scalar.maxsi c0_i32_11 v21
  let v23 : BitVec 32 := Scalar.minsi c256_i32 v22
  let v24 : BitVec 32 := v23
  let v27 : Index := Scalar.indexCast v24
  let c0_13 : Index := 0#32
  ![0, v27.toNat, 0]
def k0_off2 (i : grid0.Coords) (c0_i32_9 : BitVec 32) : Fin 2 → Nat :=
  let c256_i32 : BitVec 32 := 256#32
  let c0_i32_11 : BitVec 32 := 0#32
  let arg2 : BitVec 32 := BitVec.ofNat 32 (i 2).val
  let c512_i32_8 : BitVec 32 := 512#32
  let v19 : BitVec 32 := Scalar.muli arg2 c512_i32_8
  let v20 : BitVec 32 := Scalar.addi v19 c0_i32_9
  let c64_i32_10 : BitVec 32 := 64#32
  let v21 : BitVec 32 := Scalar.subi v20 c64_i32_10
  let v22 : BitVec 32 := Scalar.maxsi c0_i32_11 v21
  let v23 : BitVec 32 := Scalar.minsi c256_i32 v22
  let v24 : BitVec 32 := v23
  let c0_i32_7 : BitVec 32 := 0#32
  let c0_i32_6 : BitVec 32 := 0#32
  let c512_i32 : BitVec 32 := 512#32
  let v14 : BitVec 32 := Scalar.muli arg2 c512_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v25 : BitVec 32 := Scalar.subi v24 v18
  let v26 : BitVec 32 := v25
  let v86 : Index := Scalar.indexCast v26
  let c0_46 : Index := 0#32
  ![v86.toNat, 0]
def k0_mult4 (i : grid0.Coords) : BitVec 32 :=
  let c256_i32_61 : BitVec 32 := 256#32
  let c0_i32_60 : BitVec 32 := 0#32
  let arg2 : BitVec 32 := BitVec.ofNat 32 (i 2).val
  let c512_i32_57 : BitVec 32 := 512#32
  let v116 : BitVec 32 := Scalar.muli arg2 c512_i32_57
  let c128_i32_58 : BitVec 32 := 128#32
  let v117 : BitVec 32 := Scalar.addi v116 c128_i32_58
  let c64_i32_59 : BitVec 32 := 64#32
  let v118 : BitVec 32 := Scalar.subi v117 c64_i32_59
  let v119 : BitVec 32 := Scalar.maxsi c0_i32_60 v118
  let v120 : BitVec 32 := Scalar.minsi c256_i32_61 v119
  v120
def k0_mult5 (i : grid0.Coords) : BitVec 32 :=
  let c256_i32_61 : BitVec 32 := 256#32
  let c0_i32_60 : BitVec 32 := 0#32
  let arg2 : BitVec 32 := BitVec.ofNat 32 (i 2).val
  let c512_i32_57 : BitVec 32 := 512#32
  let v116 : BitVec 32 := Scalar.muli arg2 c512_i32_57
  let c128_i32_58 : BitVec 32 := 128#32
  let v117 : BitVec 32 := Scalar.addi v116 c128_i32_58
  let c64_i32_59 : BitVec 32 := 64#32
  let v118 : BitVec 32 := Scalar.subi v117 c64_i32_59
  let v119 : BitVec 32 := Scalar.maxsi c0_i32_60 v118
  let v120 : BitVec 32 := Scalar.minsi c256_i32_61 v119
  let v121 : BitVec 32 := v120
  let c0_i32_7 : BitVec 32 := 0#32
  let c0_i32_6 : BitVec 32 := 0#32
  let c512_i32 : BitVec 32 := 512#32
  let v14 : BitVec 32 := Scalar.muli arg2 c512_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v122 : BitVec 32 := Scalar.subi v121 v18
  v122
def k0_mult6 (i : grid0.Coords) : BitVec 32 :=
  let c256_i32_113 : BitVec 32 := 256#32
  let c0_i32_112 : BitVec 32 := 0#32
  let arg2 : BitVec 32 := BitVec.ofNat 32 (i 2).val
  let c512_i32_109 : BitVec 32 := 512#32
  let v213 : BitVec 32 := Scalar.muli arg2 c512_i32_109
  let c256_i32_110 : BitVec 32 := 256#32
  let v214 : BitVec 32 := Scalar.addi v213 c256_i32_110
  let c64_i32_111 : BitVec 32 := 64#32
  let v215 : BitVec 32 := Scalar.subi v214 c64_i32_111
  let v216 : BitVec 32 := Scalar.maxsi c0_i32_112 v215
  let v217 : BitVec 32 := Scalar.minsi c256_i32_113 v216
  v217
def k0_mult7 (i : grid0.Coords) : BitVec 32 :=
  let c256_i32_113 : BitVec 32 := 256#32
  let c0_i32_112 : BitVec 32 := 0#32
  let arg2 : BitVec 32 := BitVec.ofNat 32 (i 2).val
  let c512_i32_109 : BitVec 32 := 512#32
  let v213 : BitVec 32 := Scalar.muli arg2 c512_i32_109
  let c256_i32_110 : BitVec 32 := 256#32
  let v214 : BitVec 32 := Scalar.addi v213 c256_i32_110
  let c64_i32_111 : BitVec 32 := 64#32
  let v215 : BitVec 32 := Scalar.subi v214 c64_i32_111
  let v216 : BitVec 32 := Scalar.maxsi c0_i32_112 v215
  let v217 : BitVec 32 := Scalar.minsi c256_i32_113 v216
  let v218 : BitVec 32 := v217
  let c0_i32_7 : BitVec 32 := 0#32
  let c0_i32_6 : BitVec 32 := 0#32
  let c512_i32 : BitVec 32 := 512#32
  let v14 : BitVec 32 := Scalar.muli arg2 c512_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v219 : BitVec 32 := Scalar.subi v218 v18
  v219
def k0_mult8 (i : grid0.Coords) : BitVec 32 :=
  let c256_i32_164 : BitVec 32 := 256#32
  let c0_i32_163 : BitVec 32 := 0#32
  let arg2 : BitVec 32 := BitVec.ofNat 32 (i 2).val
  let c512_i32_161 : BitVec 32 := 512#32
  let v310 : BitVec 32 := Scalar.muli arg2 c512_i32_161
  let c384_i32 : BitVec 32 := 384#32
  let v311 : BitVec 32 := Scalar.addi v310 c384_i32
  let c64_i32_162 : BitVec 32 := 64#32
  let v312 : BitVec 32 := Scalar.subi v311 c64_i32_162
  let v313 : BitVec 32 := Scalar.maxsi c0_i32_163 v312
  let v314 : BitVec 32 := Scalar.minsi c256_i32_164 v313
  v314
def k0_mult9 (i : grid0.Coords) : BitVec 32 :=
  let c256_i32_164 : BitVec 32 := 256#32
  let c0_i32_163 : BitVec 32 := 0#32
  let arg2 : BitVec 32 := BitVec.ofNat 32 (i 2).val
  let c512_i32_161 : BitVec 32 := 512#32
  let v310 : BitVec 32 := Scalar.muli arg2 c512_i32_161
  let c384_i32 : BitVec 32 := 384#32
  let v311 : BitVec 32 := Scalar.addi v310 c384_i32
  let c64_i32_162 : BitVec 32 := 64#32
  let v312 : BitVec 32 := Scalar.subi v311 c64_i32_162
  let v313 : BitVec 32 := Scalar.maxsi c0_i32_163 v312
  let v314 : BitVec 32 := Scalar.minsi c256_i32_164 v313
  let v315 : BitVec 32 := v314
  let c0_i32_7 : BitVec 32 := 0#32
  let c0_i32_6 : BitVec 32 := 0#32
  let c512_i32 : BitVec 32 := 512#32
  let v14 : BitVec 32 := Scalar.muli arg2 c512_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v316 : BitVec 32 := Scalar.subi v315 v18
  v316
def k0_off3 (i : grid0.Coords) : Fin 2 → Nat :=
  let c0_i32_7 : BitVec 32 := 0#32
  let c0_i32_6 : BitVec 32 := 0#32
  let arg2 : BitVec 32 := BitVec.ofNat 32 (i 2).val
  let c512_i32 : BitVec 32 := 512#32
  let v14 : BitVec 32 := Scalar.muli arg2 c512_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v407 : Index := Scalar.indexCast v18
  let c0_212 : Index := 0#32
  ![v407.toNat, 0]
def k0_cond2 (i : grid0.Coords) : BitVec 1 :=
  let arg2 : BitVec 32 := BitVec.ofNat 32 (i 2).val
  let c0_i32_220 : BitVec 32 := 0#32
  let v423 : BitVec 1 := Scalar.cmpi .eq arg2 c0_i32_220
  let v424 : BitVec 32 := Scalar.extui v423
  let c0_i32_221 : BitVec 32 := 0#32
  let v425 : BitVec 1 := Scalar.cmpi .ne v424 c0_i32_221
  v425

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Kernel8Ideal.lean ====
variable {F : FTy → Type} [FloatOps F] [Named F]
def κ : String → Option EReal := fun
  | "mask" => some ⊥
  | _ => none
-- ==== Reference8Ideal.lean ====
abbrev S3x8192x8x64 : Shape := ⟨4, ![3, 8192, 8, 64]⟩
abbrev S8192x512 : Shape := ⟨2, ![8192, 512]⟩
abbrev S1x8192x8x64 : Shape := ⟨4, ![1, 8192, 8, 64]⟩
abbrev S8192x8x64 : Shape := ⟨3, ![8192, 8, 64]⟩
abbrev S8192x1x8x64 : Shape := ⟨4, ![8192, 1, 8, 64]⟩
abbrev S_ : Shape := ⟨0, ![]⟩
abbrev S1x64x8x64 : Shape := ⟨4, ![1, 64, 8, 64]⟩
abbrev S8192 : Shape := ⟨1, ![8192]⟩
abbrev S128x64 : Shape := ⟨2, ![128, 64]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S128x64x1 : Shape := ⟨3, ![128, 64, 1]⟩
abbrev S128x1x192 : Shape := ⟨3, ![128, 1, 192]⟩
abbrev S128x64x192 : Shape := ⟨3, ![128, 64, 192]⟩
abbrev S1x128x64x8x64 : Shape := ⟨5, ![1, 128, 64, 8, 64]⟩
abbrev S1x8320x8x64 : Shape := ⟨4, ![1, 8320, 8, 64]⟩
abbrev S1x130x64x8x64 : Shape := ⟨5, ![1, 130, 64, 8, 64]⟩
abbrev S1x128x192x8x64 : Shape := ⟨5, ![1, 128, 192, 8, 64]⟩
abbrev S1x128x8x64x192 : Shape := ⟨5, ![1, 128, 8, 64, 192]⟩
abbrev S1x128x1x64x192 : Shape := ⟨5, ![1, 128, 1, 64, 192]⟩
abbrev S1x128x8x64 : Shape := ⟨4, ![1, 128, 8, 64]⟩
abbrev S1x128x8x64x1 : Shape := ⟨5, ![1, 128, 8, 64, 1]⟩
abbrev S1x128x8x64x64 : Shape := ⟨5, ![1, 128, 8, 64, 64]⟩
abbrev S1x128x64x8 : Shape := ⟨4, ![1, 128, 64, 8]⟩
abbrev S1x8192x8 : Shape := ⟨3, ![1, 8192, 8]⟩
abbrev S8192x1x8 : Shape := ⟨3, ![8192, 1, 8]⟩
abbrev S8192x8 : Shape := ⟨2, ![8192, 8]⟩
abbrev S2048x4x8x64 : Shape := ⟨4, ![2048, 4, 8, 64]⟩
abbrev S4x2048x8x64 : Shape := ⟨4, ![4, 2048, 8, 64]⟩
abbrev S4x64x8x64 : Shape := ⟨4, ![4, 64, 8, 64]⟩
abbrev S2048 : Shape := ⟨1, ![2048]⟩
abbrev S32x64 : Shape := ⟨2, ![32, 64]⟩
abbrev S32 : Shape := ⟨1, ![32]⟩
abbrev S32x1 : Shape := ⟨2, ![32, 1]⟩
abbrev S32x192 : Shape := ⟨2, ![32, 192]⟩
abbrev S32x64x1 : Shape := ⟨3, ![32, 64, 1]⟩
abbrev S32x1x192 : Shape := ⟨3, ![32, 1, 192]⟩
abbrev S32x64x192 : Shape := ⟨3, ![32, 64, 192]⟩
abbrev S4x32x64x8x64 : Shape := ⟨5, ![4, 32, 64, 8, 64]⟩
abbrev S4x2176x8x64 : Shape := ⟨4, ![4, 2176, 8, 64]⟩
abbrev S4x34x64x8x64 : Shape := ⟨5, ![4, 34, 64, 8, 64]⟩
abbrev S4x32x192x8x64 : Shape := ⟨5, ![4, 32, 192, 8, 64]⟩
abbrev S4x32x8x64x192 : Shape := ⟨5, ![4, 32, 8, 64, 192]⟩
abbrev S1x32x1x64x192 : Shape := ⟨5, ![1, 32, 1, 64, 192]⟩
abbrev S4x32x8x64 : Shape := ⟨4, ![4, 32, 8, 64]⟩
abbrev S4x32x8x64x1 : Shape := ⟨5, ![4, 32, 8, 64, 1]⟩
abbrev S4x32x8x64x64 : Shape := ⟨5, ![4, 32, 8, 64, 64]⟩
abbrev S4x32x64x8 : Shape := ⟨4, ![4, 32, 64, 8]⟩
abbrev S4x2048x8 : Shape := ⟨3, ![4, 2048, 8]⟩
abbrev S2048x4x8 : Shape := ⟨3, ![2048, 4, 8]⟩
abbrev S512x16x8x64 : Shape := ⟨4, ![512, 16, 8, 64]⟩
abbrev S16x512x8x64 : Shape := ⟨4, ![16, 512, 8, 64]⟩
abbrev S16x64x8x64 : Shape := ⟨4, ![16, 64, 8, 64]⟩
abbrev S512 : Shape := ⟨1, ![512]⟩
abbrev S8x64 : Shape := ⟨2, ![8, 64]⟩
abbrev S8 : Shape := ⟨1, ![8]⟩
abbrev S8x1 : Shape := ⟨2, ![8, 1]⟩
abbrev S8x192 : Shape := ⟨2, ![8, 192]⟩
abbrev S8x64x1 : Shape := ⟨3, ![8, 64, 1]⟩
abbrev S8x1x192 : Shape := ⟨3, ![8, 1, 192]⟩
abbrev S8x64x192 : Shape := ⟨3, ![8, 64, 192]⟩
abbrev S16x8x64x8x64 : Shape := ⟨5, ![16, 8, 64, 8, 64]⟩
abbrev S16x640x8x64 : Shape := ⟨4, ![16, 640, 8, 64]⟩
abbrev S16x10x64x8x64 : Shape := ⟨5, ![16, 10, 64, 8, 64]⟩
abbrev S16x8x192x8x64 : Shape := ⟨5, ![16, 8, 192, 8, 64]⟩
abbrev S16x8x8x64x192 : Shape := ⟨5, ![16, 8, 8, 64, 192]⟩
abbrev S1x8x1x64x192 : Shape := ⟨5, ![1, 8, 1, 64, 192]⟩
abbrev S16x8x8x64 : Shape := ⟨4, ![16, 8, 8, 64]⟩
abbrev S16x8x8x64x1 : Shape := ⟨5, ![16, 8, 8, 64, 1]⟩
abbrev S16x8x8x64x64 : Shape := ⟨5, ![16, 8, 8, 64, 64]⟩
abbrev S16x8x64x8 : Shape := ⟨4, ![16, 8, 64, 8]⟩
abbrev S16x512x8 : Shape := ⟨3, ![16, 512, 8]⟩
abbrev S512x16x8 : Shape := ⟨3, ![512, 16, 8]⟩
abbrev S3x8192x8 : Shape := ⟨3, ![3, 8192, 8]⟩
abbrev S3x8192x8x1 : Shape := ⟨4, ![3, 8192, 8, 1]⟩
abbrev S16x8x8x192x64 : Shape := ⟨5, ![16, 8, 8, 192, 64]⟩

abbrev nBuf : Space → Nat
  | .hbm => 589
  | .vmem => 0
  | .smem => 0
  | _ => 0

abbrev hbmTy0_0 (i : Nat) : BufTy := match i % 128 with
  | 0 => ⟨S3x8192x8x64, .f32⟩
  | 1 => ⟨S3x8192x8x64, .f32⟩
  | 2 => ⟨S3x8192x8x64, .f32⟩
  | 3 => ⟨S8192x512, .f32⟩
  | 4 => ⟨S1x8192x8x64, .f32⟩
  | 5 => ⟨S8192x8x64, .f32⟩
  | 6 => ⟨S1x8192x8x64, .f32⟩
  | 7 => ⟨S8192x8x64, .f32⟩
  | 8 => ⟨S1x8192x8x64, .f32⟩
  | 9 => ⟨S8192x8x64, .f32⟩
  | 10 => ⟨S8192x1x8x64, .f32⟩
  | 11 => ⟨S1x8192x8x64, .f32⟩
  | 12 => ⟨S8192x1x8x64, .f32⟩
  | 13 => ⟨S1x8192x8x64, .f32⟩
  | 14 => ⟨S8192x1x8x64, .f32⟩
  | 15 => ⟨S1x8192x8x64, .f32⟩
  | 16 => ⟨S_, .f32⟩
  | 17 => ⟨S1x64x8x64, .f32⟩
  | 18 => ⟨S8192, .i32⟩
  | 19 => ⟨S128x64, .i32⟩
  | 20 => ⟨S128, .i32⟩
  | 21 => ⟨S128x1, .i32⟩
  | 22 => ⟨S_, .i32⟩
  | 23 => ⟨S128x1, .i32⟩
  | 24 => ⟨S128x1, .i32⟩
  | 25 => ⟨S_, .i32⟩
  | 26 => ⟨S128x1, .i32⟩
  | 27 => ⟨S128x1, .i32⟩
  | 28 => ⟨S192, .i32⟩
  | 29 => ⟨S1x192, .i32⟩
  | 30 => ⟨S128x192, .i32⟩
  | 31 => ⟨S128x192, .i32⟩
  | 32 => ⟨S128x192, .i32⟩
  | 33 => ⟨S128x64x1, .i32⟩
  | 34 => ⟨S128x1x192, .i32⟩
  | 35 => ⟨S128x64x192, .i32⟩
  | 36 => ⟨S128x64x192, .i32⟩
  | 37 => ⟨S128x64x192, .i32⟩
  | 38 => ⟨S128x64x192, .i32⟩
  | 39 => ⟨S_, .i32⟩
  | 40 => ⟨S128x64x192, .i32⟩
  | 41 => ⟨S128x64x192, .i1⟩
  | 42 => ⟨S128x1x192, .i32⟩
  | 43 => ⟨S_, .i32⟩
  | 44 => ⟨S128x1x192, .i32⟩
  | 45 => ⟨S128x1x192, .i1⟩
  | 46 => ⟨S128x64x192, .i1⟩
  | 47 => ⟨S128x64x192, .i1⟩
  | 48 => ⟨S128x1x192, .i32⟩
  | 49 => ⟨S_, .i32⟩
  | 50 => ⟨S128x1x192, .i32⟩
  | 51 => ⟨S128x1x192, .i1⟩
  | 52 => ⟨S128x64x192, .i1⟩
  | 53 => ⟨S128x64x192, .i1⟩
  | 54 => ⟨S1x128x64x8x64, .f32⟩
  | 55 => ⟨S1x8320x8x64, .f32⟩
  | 56 => ⟨S1x130x64x8x64, .f32⟩
  | 57 => ⟨S1x128x64x8x64, .f32⟩
  | 58 => ⟨S1x128x64x8x64, .f32⟩
  | 59 => ⟨S1x128x64x8x64, .f32⟩
  | 60 => ⟨S1x128x192x8x64, .f32⟩
  | 61 => ⟨S1x128x8x64x192, .f32⟩
  | 62 => ⟨S_, .f32⟩
  | 63 => ⟨S1x128x8x64x192, .f32⟩
  | 64 => ⟨S1x128x8x64x192, .f32⟩
  | 65 => ⟨S1x128x1x64x192, .i1⟩
  | 66 => ⟨S_, .f32⟩
  | 67 => ⟨S_, .f32⟩
  | 68 => ⟨S1x128x8x64x192, .i1⟩
  | 69 => ⟨S1x128x8x64x192, .f32⟩
  | 70 => ⟨S1x128x8x64x192, .f32⟩
  | 71 => ⟨S_, .f32⟩
  | 72 => ⟨S1x128x8x64, .f32⟩
  | 73 => ⟨S1x128x8x64x1, .f32⟩
  | 74 => ⟨S1x128x8x64x192, .f32⟩
  | 75 => ⟨S1x128x8x64x192, .f32⟩
  | 76 => ⟨S1x128x8x64x192, .f32⟩
  | 77 => ⟨S_, .f32⟩
  | 78 => ⟨S1x128x8x64, .f32⟩
  | 79 => ⟨S1x128x8x64x1, .f32⟩
  | 80 => ⟨S1x128x8x64x192, .f32⟩
  | 81 => ⟨S1x128x8x64x192, .f32⟩
  | 82 => ⟨S1x8320x8x64, .f32⟩
  | 83 => ⟨S1x130x64x8x64, .f32⟩
  | 84 => ⟨S1x128x64x8x64, .f32⟩
  | 85 => ⟨S1x128x64x8x64, .f32⟩
  | 86 => ⟨S1x128x64x8x64, .f32⟩
  | 87 => ⟨S1x128x192x8x64, .f32⟩
  | 88 => ⟨S1x128x8x64x64, .f32⟩
  | 89 => ⟨S1x128x64x8x64, .f32⟩
  | 90 => ⟨S1x8192x8x64, .f32⟩
  | 91 => ⟨S1x128x8x64x1, .f32⟩
  | 92 => ⟨S1x128x8x64x1, .f32⟩
  | 93 => ⟨S1x128x8x64, .f32⟩
  | 94 => ⟨S1x128x64x8, .f32⟩
  | 95 => ⟨S1x8192x8, .f32⟩
  | 96 => ⟨S8192x1x8x64, .f32⟩
  | 97 => ⟨S8192x8x64, .f32⟩
  | 98 => ⟨S8192x1x8, .f32⟩
  | 99 => ⟨S8192x8, .f32⟩
  | 100 => ⟨S1x8192x8x64, .f32⟩
  | 101 => ⟨S8192x8x64, .f32⟩
  | 102 => ⟨S1x8192x8x64, .f32⟩
  | 103 => ⟨S8192x8x64, .f32⟩
  | 104 => ⟨S1x8192x8x64, .f32⟩
  | 105 => ⟨S8192x8x64, .f32⟩
  | 106 => ⟨S2048x4x8x64, .f32⟩
  | 107 => ⟨S4x2048x8x64, .f32⟩
  | 108 => ⟨S2048x4x8x64, .f32⟩
  | 109 => ⟨S4x2048x8x64, .f32⟩
  | 110 => ⟨S2048x4x8x64, .f32⟩
  | 111 => ⟨S4x2048x8x64, .f32⟩
  | 112 => ⟨S_, .f32⟩
  | 113 => ⟨S4x64x8x64, .f32⟩
  | 114 => ⟨S2048, .i32⟩
  | 115 => ⟨S32x64, .i32⟩
  | 116 => ⟨S32, .i32⟩
  | 117 => ⟨S32x1, .i32⟩
  | 118 => ⟨S_, .i32⟩
  | 119 => ⟨S32x1, .i32⟩
  | 120 => ⟨S32x1, .i32⟩
  | 121 => ⟨S_, .i32⟩
  | 122 => ⟨S32x1, .i32⟩
  | 123 => ⟨S32x1, .i32⟩
  | 124 => ⟨S192, .i32⟩
  | 125 => ⟨S1x192, .i32⟩
  | 126 => ⟨S32x192, .i32⟩
  | 127 => ⟨S32x192, .i32⟩
  | _ => ⟨S3x8192x8x64, .f32⟩

abbrev hbmTy0_1 (i : Nat) : BufTy := match i % 128 with
  | 0 => ⟨S32x192, .i32⟩
  | 1 => ⟨S32x64x1, .i32⟩
  | 2 => ⟨S32x1x192, .i32⟩
  | 3 => ⟨S32x64x192, .i32⟩
  | 4 => ⟨S32x64x192, .i32⟩
  | 5 => ⟨S32x64x192, .i32⟩
  | 6 => ⟨S32x64x192, .i32⟩
  | 7 => ⟨S_, .i32⟩
  | 8 => ⟨S32x64x192, .i32⟩
  | 9 => ⟨S32x64x192, .i1⟩
  | 10 => ⟨S32x1x192, .i32⟩
  | 11 => ⟨S_, .i32⟩
  | 12 => ⟨S32x1x192, .i32⟩
  | 13 => ⟨S32x1x192, .i1⟩
  | 14 => ⟨S32x64x192, .i1⟩
  | 15 => ⟨S32x64x192, .i1⟩
  | 16 => ⟨S32x1x192, .i32⟩
  | 17 => ⟨S_, .i32⟩
  | 18 => ⟨S32x1x192, .i32⟩
  | 19 => ⟨S32x1x192, .i1⟩
  | 20 => ⟨S32x64x192, .i1⟩
  | 21 => ⟨S32x64x192, .i1⟩
  | 22 => ⟨S4x32x64x8x64, .f32⟩
  | 23 => ⟨S4x2176x8x64, .f32⟩
  | 24 => ⟨S4x34x64x8x64, .f32⟩
  | 25 => ⟨S4x32x64x8x64, .f32⟩
  | 26 => ⟨S4x32x64x8x64, .f32⟩
  | 27 => ⟨S4x32x64x8x64, .f32⟩
  | 28 => ⟨S4x32x192x8x64, .f32⟩
  | 29 => ⟨S4x32x8x64x192, .f32⟩
  | 30 => ⟨S_, .f32⟩
  | 31 => ⟨S4x32x8x64x192, .f32⟩
  | 32 => ⟨S4x32x8x64x192, .f32⟩
  | 33 => ⟨S1x32x1x64x192, .i1⟩
  | 34 => ⟨S_, .f32⟩
  | 35 => ⟨S_, .f32⟩
  | 36 => ⟨S4x32x8x64x192, .i1⟩
  | 37 => ⟨S4x32x8x64x192, .f32⟩
  | 38 => ⟨S4x32x8x64x192, .f32⟩
  | 39 => ⟨S_, .f32⟩
  | 40 => ⟨S4x32x8x64, .f32⟩
  | 41 => ⟨S4x32x8x64x1, .f32⟩
  | 42 => ⟨S4x32x8x64x192, .f32⟩
  | 43 => ⟨S4x32x8x64x192, .f32⟩
  | 44 => ⟨S4x32x8x64x192, .f32⟩
  | 45 => ⟨S_, .f32⟩
  | 46 => ⟨S4x32x8x64, .f32⟩
  | 47 => ⟨S4x32x8x64x1, .f32⟩
  | 48 => ⟨S4x32x8x64x192, .f32⟩
  | 49 => ⟨S4x32x8x64x192, .f32⟩
  | 50 => ⟨S4x2176x8x64, .f32⟩
  | 51 => ⟨S4x34x64x8x64, .f32⟩
  | 52 => ⟨S4x32x64x8x64, .f32⟩
  | 53 => ⟨S4x32x64x8x64, .f32⟩
  | 54 => ⟨S4x32x64x8x64, .f32⟩
  | 55 => ⟨S4x32x192x8x64, .f32⟩
  | 56 => ⟨S4x32x8x64x64, .f32⟩
  | 57 => ⟨S4x32x64x8x64, .f32⟩
  | 58 => ⟨S4x2048x8x64, .f32⟩
  | 59 => ⟨S4x32x8x64x1, .f32⟩
  | 60 => ⟨S4x32x8x64x1, .f32⟩
  | 61 => ⟨S4x32x8x64, .f32⟩
  | 62 => ⟨S4x32x64x8, .f32⟩
  | 63 => ⟨S4x2048x8, .f32⟩
  | 64 => ⟨S2048x4x8x64, .f32⟩
  | 65 => ⟨S8192x8x64, .f32⟩
  | 66 => ⟨S2048x4x8, .f32⟩
  | 67 => ⟨S8192x8, .f32⟩
  | 68 => ⟨S1x8192x8x64, .f32⟩
  | 69 => ⟨S8192x8x64, .f32⟩
  | 70 => ⟨S1x8192x8x64, .f32⟩
  | 71 => ⟨S8192x8x64, .f32⟩
  | 72 => ⟨S1x8192x8x64, .f32⟩
  | 73 => ⟨S8192x8x64, .f32⟩
  | 74 => ⟨S512x16x8x64, .f32⟩
  | 75 => ⟨S16x512x8x64, .f32⟩
  | 76 => ⟨S512x16x8x64, .f32⟩
  | 77 => ⟨S16x512x8x64, .f32⟩
  | 78 => ⟨S512x16x8x64, .f32⟩
  | 79 => ⟨S16x512x8x64, .f32⟩
  | 80 => ⟨S_, .f32⟩
  | 81 => ⟨S16x64x8x64, .f32⟩
  | 82 => ⟨S512, .i32⟩
  | 83 => ⟨S8x64, .i32⟩
  | 84 => ⟨S8, .i32⟩
  | 85 => ⟨S8x1, .i32⟩
  | 86 => ⟨S_, .i32⟩
  | 87 => ⟨S8x1, .i32⟩
  | 88 => ⟨S8x1, .i32⟩
  | 89 => ⟨S_, .i32⟩
  | 90 => ⟨S8x1, .i32⟩
  | 91 => ⟨S8x1, .i32⟩
  | 92 => ⟨S192, .i32⟩
  | 93 => ⟨S1x192, .i32⟩
  | 94 => ⟨S8x192, .i32⟩
  | 95 => ⟨S8x192, .i32⟩
  | 96 => ⟨S8x192, .i32⟩
  | 97 => ⟨S8x64x1, .i32⟩
  | 98 => ⟨S8x1x192, .i32⟩
  | 99 => ⟨S8x64x192, .i32⟩
  | 100 => ⟨S8x64x192, .i32⟩
  | 101 => ⟨S8x64x192, .i32⟩
  | 102 => ⟨S8x64x192, .i32⟩
  | 103 => ⟨S_, .i32⟩
  | 104 => ⟨S8x64x192, .i32⟩
  | 105 => ⟨S8x64x192, .i1⟩
  | 106 => ⟨S8x1x192, .i32⟩
  | 107 => ⟨S_, .i32⟩
  | 108 => ⟨S8x1x192, .i32⟩
  | 109 => ⟨S8x1x192, .i1⟩
  | 110 => ⟨S8x64x192, .i1⟩
  | 111 => ⟨S8x64x192, .i1⟩
  | 112 => ⟨S8x1x192, .i32⟩
  | 113 => ⟨S_, .i32⟩
  | 114 => ⟨S8x1x192, .i32⟩
  | 115 => ⟨S8x1x192, .i1⟩
  | 116 => ⟨S8x64x192, .i1⟩
  | 117 => ⟨S8x64x192, .i1⟩
  | 118 => ⟨S16x8x64x8x64, .f32⟩
  | 119 => ⟨S16x640x8x64, .f32⟩
  | 120 => ⟨S16x10x64x8x64, .f32⟩
  | 121 => ⟨S16x8x64x8x64, .f32⟩
  | 122 => ⟨S16x8x64x8x64, .f32⟩
  | 123 => ⟨S16x8x64x8x64, .f32⟩
  | 124 => ⟨S16x8x192x8x64, .f32⟩
  | 125 => ⟨S16x8x8x64x192, .f32⟩
  | 126 => ⟨S_, .f32⟩
  | 127 => ⟨S16x8x8x64x192, .f32⟩
  | _ => ⟨S3x8192x8x64, .f32⟩

abbrev hbmTy0_2 (i : Nat) : BufTy := match i % 128 with
  | 0 => ⟨S16x8x8x64x192, .f32⟩
  | 1 => ⟨S1x8x1x64x192, .i1⟩
  | 2 => ⟨S_, .f32⟩
  | 3 => ⟨S_, .f32⟩
  | 4 => ⟨S16x8x8x64x192, .i1⟩
  | 5 => ⟨S16x8x8x64x192, .f32⟩
  | 6 => ⟨S16x8x8x64x192, .f32⟩
  | 7 => ⟨S_, .f32⟩
  | 8 => ⟨S16x8x8x64, .f32⟩
  | 9 => ⟨S16x8x8x64x1, .f32⟩
  | 10 => ⟨S16x8x8x64x192, .f32⟩
  | 11 => ⟨S16x8x8x64x192, .f32⟩
  | 12 => ⟨S16x8x8x64x192, .f32⟩
  | 13 => ⟨S_, .f32⟩
  | 14 => ⟨S16x8x8x64, .f32⟩
  | 15 => ⟨S16x8x8x64x1, .f32⟩
  | 16 => ⟨S16x8x8x64x192, .f32⟩
  | 17 => ⟨S16x8x8x64x192, .f32⟩
  | 18 => ⟨S16x640x8x64, .f32⟩
  | 19 => ⟨S16x10x64x8x64, .f32⟩
  | 20 => ⟨S16x8x64x8x64, .f32⟩
  | 21 => ⟨S16x8x64x8x64, .f32⟩
  | 22 => ⟨S16x8x64x8x64, .f32⟩
  | 23 => ⟨S16x8x192x8x64, .f32⟩
  | 24 => ⟨S16x8x8x64x64, .f32⟩
  | 25 => ⟨S16x8x64x8x64, .f32⟩
  | 26 => ⟨S16x512x8x64, .f32⟩
  | 27 => ⟨S16x8x8x64x1, .f32⟩
  | 28 => ⟨S16x8x8x64x1, .f32⟩
  | 29 => ⟨S16x8x8x64, .f32⟩
  | 30 => ⟨S16x8x64x8, .f32⟩
  | 31 => ⟨S16x512x8, .f32⟩
  | 32 => ⟨S512x16x8x64, .f32⟩
  | 33 => ⟨S8192x8x64, .f32⟩
  | 34 => ⟨S512x16x8, .f32⟩
  | 35 => ⟨S8192x8, .f32⟩
  | 36 => ⟨S1x8192x8x64, .f32⟩
  | 37 => ⟨S8192x8x64, .f32⟩
  | 38 => ⟨S1x8192x8x64, .f32⟩
  | 39 => ⟨S8192x8x64, .f32⟩
  | 40 => ⟨S1x8192x8x64, .f32⟩
  | 41 => ⟨S8192x8x64, .f32⟩
  | 42 => ⟨S512x16x8x64, .f32⟩
  | 43 => ⟨S16x512x8x64, .f32⟩
  | 44 => ⟨S512x16x8x64, .f32⟩
  | 45 => ⟨S16x512x8x64, .f32⟩
  | 46 => ⟨S512x16x8x64, .f32⟩
  | 47 => ⟨S16x512x8x64, .f32⟩
  | 48 => ⟨S_, .f32⟩
  | 49 => ⟨S16x64x8x64, .f32⟩
  | 50 => ⟨S512, .i32⟩
  | 51 => ⟨S8x64, .i32⟩
  | 52 => ⟨S8, .i32⟩
  | 53 => ⟨S8x1, .i32⟩
  | 54 => ⟨S_, .i32⟩
  | 55 => ⟨S8x1, .i32⟩
  | 56 => ⟨S8x1, .i32⟩
  | 57 => ⟨S_, .i32⟩
  | 58 => ⟨S8x1, .i32⟩
  | 59 => ⟨S8x1, .i32⟩
  | 60 => ⟨S192, .i32⟩
  | 61 => ⟨S1x192, .i32⟩
  | 62 => ⟨S8x192, .i32⟩
  | 63 => ⟨S8x192, .i32⟩
  | 64 => ⟨S8x192, .i32⟩
  | 65 => ⟨S8x64x1, .i32⟩
  | 66 => ⟨S8x1x192, .i32⟩
  | 67 => ⟨S8x64x192, .i32⟩
  | 68 => ⟨S8x64x192, .i32⟩
  | 69 => ⟨S8x64x192, .i32⟩
  | 70 => ⟨S8x64x192, .i32⟩
  | 71 => ⟨S_, .i32⟩
  | 72 => ⟨S8x64x192, .i32⟩
  | 73 => ⟨S8x64x192, .i1⟩
  | 74 => ⟨S8x1x192, .i32⟩
  | 75 => ⟨S_, .i32⟩
  | 76 => ⟨S8x1x192, .i32⟩
  | 77 => ⟨S8x1x192, .i1⟩
  | 78 => ⟨S8x64x192, .i1⟩
  | 79 => ⟨S8x64x192, .i1⟩
  | 80 => ⟨S8x1x192, .i32⟩
  | 81 => ⟨S_, .i32⟩
  | 82 => ⟨S8x1x192, .i32⟩
  | 83 => ⟨S8x1x192, .i1⟩
  | 84 => ⟨S8x64x192, .i1⟩
  | 85 => ⟨S8x64x192, .i1⟩
  | 86 => ⟨S16x8x64x8x64, .f32⟩
  | 87 => ⟨S16x640x8x64, .f32⟩
  | 88 => ⟨S_, .f32⟩
  | 89 => ⟨S16x64x8x64, .f32⟩
  | 90 => ⟨S_, .f32⟩
  | 91 => ⟨S16x64x8x64, .f32⟩
  | 92 => ⟨S16x10x64x8x64, .f32⟩
  | 93 => ⟨S16x8x64x8x64, .f32⟩
  | 94 => ⟨S16x8x64x8x64, .f32⟩
  | 95 => ⟨S16x8x64x8x64, .f32⟩
  | 96 => ⟨S16x8x192x8x64, .f32⟩
  | 97 => ⟨S16x8x8x64x192, .f32⟩
  | 98 => ⟨S_, .f32⟩
  | 99 => ⟨S16x8x8x64x192, .f32⟩
  | 100 => ⟨S16x8x8x64x192, .f32⟩
  | 101 => ⟨S1x8x1x64x192, .i1⟩
  | 102 => ⟨S_, .f32⟩
  | 103 => ⟨S_, .f32⟩
  | 104 => ⟨S16x8x8x64x192, .i1⟩
  | 105 => ⟨S16x8x8x64x192, .f32⟩
  | 106 => ⟨S16x8x8x64x192, .f32⟩
  | 107 => ⟨S_, .f32⟩
  | 108 => ⟨S16x8x8x64x192, .f32⟩
  | 109 => ⟨S_, .f32⟩
  | 110 => ⟨S16x8x8x64, .f32⟩
  | 111 => ⟨S16x8x8x64x1, .f32⟩
  | 112 => ⟨S16x8x8x64x192, .f32⟩
  | 113 => ⟨S16x8x8x64x192, .i1⟩
  | 114 => ⟨S16x8x8x64x192, .f32⟩
  | 115 => ⟨S_, .f32⟩
  | 116 => ⟨S16x8x8x64, .f32⟩
  | 117 => ⟨S16x8x8x64x1, .f32⟩
  | 118 => ⟨S16x8x8x64x192, .f32⟩
  | 119 => ⟨S16x8x8x64x192, .f32⟩
  | 120 => ⟨S16x8x8x64x192, .f32⟩
  | 121 => ⟨S_, .f32⟩
  | 122 => ⟨S16x8x8x64, .f32⟩
  | 123 => ⟨S16x8x8x64x1, .f32⟩
  | 124 => ⟨S16x8x8x64x192, .f32⟩
  | 125 => ⟨S16x8x8x64x192, .f32⟩
  | 126 => ⟨S16x8x8x64x1, .f32⟩
  | 127 => ⟨S_, .f32⟩
  | _ => ⟨S3x8192x8x64, .f32⟩

abbrev hbmTy0_3 (i : Nat) : BufTy := match i % 128 with
  | 0 => ⟨S16x8x8x64x1, .f32⟩
  | 1 => ⟨S16x8x8x64x1, .f32⟩
  | 2 => ⟨S16x640x8x64, .f32⟩
  | 3 => ⟨S_, .f32⟩
  | 4 => ⟨S16x64x8x64, .f32⟩
  | 5 => ⟨S_, .f32⟩
  | 6 => ⟨S16x64x8x64, .f32⟩
  | 7 => ⟨S16x10x64x8x64, .f32⟩
  | 8 => ⟨S16x8x64x8x64, .f32⟩
  | 9 => ⟨S16x8x64x8x64, .f32⟩
  | 10 => ⟨S16x8x64x8x64, .f32⟩
  | 11 => ⟨S16x8x192x8x64, .f32⟩
  | 12 => ⟨S16x8x8x64x64, .f32⟩
  | 13 => ⟨S16x8x64x8x64, .f32⟩
  | 14 => ⟨S16x512x8x64, .f32⟩
  | 15 => ⟨S16x8x8x64x1, .f32⟩
  | 16 => ⟨S16x8x8x64x1, .f32⟩
  | 17 => ⟨S16x8x8x64, .f32⟩
  | 18 => ⟨S16x8x64x8, .f32⟩
  | 19 => ⟨S16x512x8, .f32⟩
  | 20 => ⟨S512x16x8x64, .f32⟩
  | 21 => ⟨S8192x8x64, .f32⟩
  | 22 => ⟨S512x16x8, .f32⟩
  | 23 => ⟨S8192x8, .f32⟩
  | 24 => ⟨S1x8192x8, .f32⟩
  | 25 => ⟨S1x8192x8, .f32⟩
  | 26 => ⟨S1x8192x8, .f32⟩
  | 27 => ⟨S3x8192x8, .f32⟩
  | 28 => ⟨S_, .f32⟩
  | 29 => ⟨S8192x8, .f32⟩
  | 30 => ⟨S_, .f32⟩
  | 31 => ⟨S8192x8, .f32⟩
  | 32 => ⟨S_, .f32⟩
  | 33 => ⟨S8192x8, .f32⟩
  | 34 => ⟨S1x8192x8, .f32⟩
  | 35 => ⟨S3x8192x8, .f32⟩
  | 36 => ⟨S3x8192x8, .i1⟩
  | 37 => ⟨S3x8192x8, .f32⟩
  | 38 => ⟨S_, .f32⟩
  | 39 => ⟨S8192x8, .f32⟩
  | 40 => ⟨S_, .f32⟩
  | 41 => ⟨S8192x8, .f32⟩
  | 42 => ⟨S8192x8, .f32⟩
  | 43 => ⟨S_, .f32⟩
  | 44 => ⟨S8192x8, .f32⟩
  | 45 => ⟨S8192x8, .i1⟩
  | 46 => ⟨S_, .f32⟩
  | 47 => ⟨S8192x8, .f32⟩
  | 48 => ⟨S8192x8, .i1⟩
  | 49 => ⟨S_, .f32⟩
  | 50 => ⟨S8192x8, .f32⟩
  | 51 => ⟨S_, .f32⟩
  | 52 => ⟨S8192x8, .f32⟩
  | 53 => ⟨S_, .f32⟩
  | 54 => ⟨S8192x8, .f32⟩
  | 55 => ⟨S8192x8, .f32⟩
  | 56 => ⟨S8192x8, .f32⟩
  | 57 => ⟨S1x8192x8, .f32⟩
  | 58 => ⟨S3x8192x8, .f32⟩
  | 59 => ⟨S3x8192x8, .f32⟩
  | 60 => ⟨S3x8192x8, .f32⟩
  | 61 => ⟨S_, .f32⟩
  | 62 => ⟨S8192x8, .f32⟩
  | 63 => ⟨S1x8192x8, .f32⟩
  | 64 => ⟨S3x8192x8, .f32⟩
  | 65 => ⟨S3x8192x8, .f32⟩
  | 66 => ⟨S1x8192x8, .f32⟩
  | 67 => ⟨S_, .f32⟩
  | 68 => ⟨S1x8192x8, .f32⟩
  | 69 => ⟨S1x8192x8, .f32⟩
  | 70 => ⟨S3x8192x8x1, .f32⟩
  | 71 => ⟨S1x8192x8x64, .f32⟩
  | 72 => ⟨S1x8192x8x64, .f32⟩
  | 73 => ⟨S1x8192x8x64, .f32⟩
  | 74 => ⟨S3x8192x8x64, .f32⟩
  | 75 => ⟨S_, .f32⟩
  | 76 => ⟨S8192x8x64, .f32⟩
  | 77 => ⟨S_, .f32⟩
  | 78 => ⟨S8192x8x64, .f32⟩
  | 79 => ⟨S3x8192x8x64, .f32⟩
  | 80 => ⟨S3x8192x8x64, .f32⟩
  | 81 => ⟨S_, .f32⟩
  | 82 => ⟨S8192x8x64, .f32⟩
  | 83 => ⟨S8192x8x64, .f32⟩
  | 84 => ⟨S3x8192x8x64, .f32⟩
  | 85 => ⟨S3x8192x8x64, .f32⟩
  | 86 => ⟨S3x8192x8x64, .f32⟩
  | 87 => ⟨S3x8192x8x64, .f32⟩
  | 88 => ⟨S_, .f32⟩
  | 89 => ⟨S3x8192x8, .f32⟩
  | 90 => ⟨S3x8192x8x1, .f32⟩
  | 91 => ⟨S1x8192x8x64, .f32⟩
  | 92 => ⟨S8192x8x64, .f32⟩
  | 93 => ⟨S1x8192x8x64, .f32⟩
  | 94 => ⟨S8192x8x64, .f32⟩
  | 95 => ⟨S1x8192x8x64, .f32⟩
  | 96 => ⟨S8192x8x64, .f32⟩
  | 97 => ⟨S_, .f32⟩
  | 98 => ⟨S3x8192x8, .f32⟩
  | 99 => ⟨S3x8192x8, .f32⟩
  | 100 => ⟨S3x8192x8, .f32⟩
  | 101 => ⟨S3x8192x8, .f32⟩
  | 102 => ⟨S_, .f32⟩
  | 103 => ⟨S8192x8, .f32⟩
  | 104 => ⟨S1x8192x8, .f32⟩
  | 105 => ⟨S1x8192x8, .f32⟩
  | 106 => ⟨S3x8192x8, .f32⟩
  | 107 => ⟨S3x8192x8, .f32⟩
  | 108 => ⟨S_, .f32⟩
  | 109 => ⟨S8192x8, .f32⟩
  | 110 => ⟨S3x8192x8, .f32⟩
  | 111 => ⟨S3x8192x8, .f32⟩
  | 112 => ⟨S3x8192x8, .f32⟩
  | 113 => ⟨S1x8192x8, .f32⟩
  | 114 => ⟨S8192x8, .f32⟩
  | 115 => ⟨S1x8192x8, .f32⟩
  | 116 => ⟨S8192x8, .f32⟩
  | 117 => ⟨S1x8192x8, .f32⟩
  | 118 => ⟨S8192x8, .f32⟩
  | 119 => ⟨S512x16x8, .f32⟩
  | 120 => ⟨S16x512x8, .f32⟩
  | 121 => ⟨S512x16x8x64, .f32⟩
  | 122 => ⟨S16x512x8x64, .f32⟩
  | 123 => ⟨S16x8x64x8, .f32⟩
  | 124 => ⟨S16x8x8x64, .f32⟩
  | 125 => ⟨S16x8x8x64x1, .f32⟩
  | 126 => ⟨S16x8x8x64x1, .f32⟩
  | 127 => ⟨S16x8x64x8x64, .f32⟩
  | _ => ⟨S3x8192x8x64, .f32⟩

abbrev hbmTy0_4 (i : Nat) : BufTy := match i % 128 with
  | 0 => ⟨S16x8x8x64x64, .f32⟩
  | 1 => ⟨S16x8x8x64x192, .f32⟩
  | 2 => ⟨S16x8x8x64x192, .f32⟩
  | 3 => ⟨S16x8x192x8x64, .f32⟩
  | 4 => ⟨S16x8x64x8x64, .f32⟩
  | 5 => ⟨S16x8x64x8x64, .f32⟩
  | 6 => ⟨S16x8x64x8x64, .f32⟩
  | 7 => ⟨S_, .f32⟩
  | 8 => ⟨S16x10x64x8x64, .f32⟩
  | 9 => ⟨S_, .f32⟩
  | 10 => ⟨S16x10x64x8x64, .f32⟩
  | 11 => ⟨S16x10x64x8x64, .f32⟩
  | 12 => ⟨S_, .f32⟩
  | 13 => ⟨S16x10x64x8x64, .f32⟩
  | 14 => ⟨S16x10x64x8x64, .f32⟩
  | 15 => ⟨S16x640x8x64, .f32⟩
  | 16 => ⟨S16x64x8x64, .f32⟩
  | 17 => ⟨S16x512x8x64, .f32⟩
  | 18 => ⟨S16x64x8x64, .f32⟩
  | 19 => ⟨S16x8x8x64x192, .f32⟩
  | 20 => ⟨S16x8x8x64x192, .f32⟩
  | 21 => ⟨S16x8x8x64x192, .f32⟩
  | 22 => ⟨S_, .f32⟩
  | 23 => ⟨S16x8x8x64, .f32⟩
  | 24 => ⟨S16x8x8x64x1, .f32⟩
  | 25 => ⟨S16x8x8x64x1, .f32⟩
  | 26 => ⟨S16x8x8x64x1, .f32⟩
  | 27 => ⟨S16x8x8x64x192, .f32⟩
  | 28 => ⟨S16x8x8x64x192, .f32⟩
  | 29 => ⟨S_, .f32⟩
  | 30 => ⟨S16x8x8x64, .f32⟩
  | 31 => ⟨S16x8x8x64x192, .f32⟩
  | 32 => ⟨S16x8x8x64x192, .f32⟩
  | 33 => ⟨S16x8x8x64x192, .f32⟩
  | 34 => ⟨S16x8x8x64x192, .f32⟩
  | 35 => ⟨S_, .f32⟩
  | 36 => ⟨S16x8x8x64, .f32⟩
  | 37 => ⟨S16x8x8x64x1, .f32⟩
  | 38 => ⟨S16x8x8x64x1, .f32⟩
  | 39 => ⟨S_, .f32⟩
  | 40 => ⟨S16x8x8x64, .f32⟩
  | 41 => ⟨S16x8x8x64, .f32⟩
  | 42 => ⟨S16x8x8x64x192, .f32⟩
  | 43 => ⟨S16x8x8x64x192, .f32⟩
  | 44 => ⟨S16x8x8x64x192, .f32⟩
  | 45 => ⟨S_, .f32⟩
  | 46 => ⟨S16x8x8x64x192, .f32⟩
  | 47 => ⟨S16x8x8x64x192, .f32⟩
  | 48 => ⟨S_, .f32⟩
  | 49 => ⟨S16x8x8x64x192, .f32⟩
  | 50 => ⟨S16x8x8x64x192, .f32⟩
  | 51 => ⟨S16x8x8x192x64, .f32⟩
  | 52 => ⟨S16x8x192x8x64, .f32⟩
  | 53 => ⟨S16x8x8x64x64, .f32⟩
  | 54 => ⟨S16x8x64x8x64, .f32⟩
  | 55 => ⟨S16x8x64x8x64, .f32⟩
  | 56 => ⟨S16x8x64x8x64, .f32⟩
  | 57 => ⟨S16x8x64x8x64, .f32⟩
  | 58 => ⟨S_, .f32⟩
  | 59 => ⟨S16x10x64x8x64, .f32⟩
  | 60 => ⟨S_, .f32⟩
  | 61 => ⟨S16x10x64x8x64, .f32⟩
  | 62 => ⟨S16x10x64x8x64, .f32⟩
  | 63 => ⟨S_, .f32⟩
  | 64 => ⟨S16x10x64x8x64, .f32⟩
  | 65 => ⟨S16x10x64x8x64, .f32⟩
  | 66 => ⟨S16x640x8x64, .f32⟩
  | 67 => ⟨S16x64x8x64, .f32⟩
  | 68 => ⟨S16x512x8x64, .f32⟩
  | 69 => ⟨S16x64x8x64, .f32⟩
  | 70 => ⟨S16x512x8x64, .f32⟩
  | 71 => ⟨S512x16x8x64, .f32⟩
  | 72 => ⟨S8192x8x64, .f32⟩
  | 73 => ⟨S512x16x8x64, .f32⟩
  | 74 => ⟨S8192x8x64, .f32⟩
  | 75 => ⟨S512x16x8x64, .f32⟩
  | 76 => ⟨S8192x8x64, .f32⟩
  | _ => ⟨S3x8192x8x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S3x8192x8x64, .f32⟩

abbrev bufTy : (tb : Table) → Fin (tcTables nBuf tb) → BufTy
  | .hbm, ⟨i, _⟩ => hbmTy i
  | _, _ => ⟨S3x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_8 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_c_9 : Ref sig .tc := ⟨.hbm, 118, rfl⟩
abbrev main_v100 : Ref sig .tc := ⟨.hbm, 119, rfl⟩
abbrev main_v101 : Ref sig .tc := ⟨.hbm, 120, rfl⟩
abbrev main_c_10 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_c_11 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_c_12 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_c_13 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_cst_14 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_15 : Ref sig .tc := ⟨.hbm, 162, rfl⟩
abbrev main_call1_v0 : Ref sig .tc := ⟨.hbm, 163, rfl⟩
abbrev main_call1_v1 : Ref sig .tc := ⟨.hbm, 164, rfl⟩
abbrev main_call1_v2 : Ref sig .tc := ⟨.hbm, 165, rfl⟩
abbrev main_v138 : Ref sig .tc := ⟨.hbm, 166, rfl⟩
abbrev main_cst_16 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_17 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_cst_18 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_c_19 : Ref sig .tc := ⟨.hbm, 214, rfl⟩
abbrev main_v183 : Ref sig .tc := ⟨.hbm, 215, rfl⟩
abbrev main_v184 : Ref sig .tc := ⟨.hbm, 216, rfl⟩
abbrev main_c_20 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_c_21 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_c_22 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_c_23 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_cst_24 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_cst_25 : Ref sig .tc := ⟨.hbm, 258, rfl⟩
abbrev main_call2_v0 : Ref sig .tc := ⟨.hbm, 259, rfl⟩
abbrev main_call2_v1 : Ref sig .tc := ⟨.hbm, 260, rfl⟩
abbrev main_call2_v2 : Ref sig .tc := ⟨.hbm, 261, rfl⟩
abbrev main_v221 : Ref sig .tc := ⟨.hbm, 262, rfl⟩
abbrev main_cst_26 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_cst_27 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_cst_28 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_c_29 : Ref sig .tc := ⟨.hbm, 310, rfl⟩
abbrev main_v266 : Ref sig .tc := ⟨.hbm, 311, rfl⟩
abbrev main_v267 : Ref sig .tc := ⟨.hbm, 312, rfl⟩
abbrev main_c_30 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_c_31 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_c_32 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_c_33 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_cst_34 : Ref sig .tc := ⟨.hbm, 344, rfl⟩
abbrev main_v295 : Ref sig .tc := ⟨.hbm, 345, rfl⟩
abbrev main_cst_35 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_cst_36 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_cst_37 : Ref sig .tc := ⟨.hbm, 358, rfl⟩
abbrev main_call3_v0 : Ref sig .tc := ⟨.hbm, 359, rfl⟩
abbrev main_v306_1 : Ref sig .tc := ⟨.hbm, 360, rfl⟩
abbrev main_call3_v2 : Ref sig .tc := ⟨.hbm, 361, rfl⟩
abbrev main_v306_0 : Ref sig .tc := ⟨.hbm, 362, rfl⟩
abbrev main_call3_cst : Ref sig .tc := ⟨.hbm, 363, rfl⟩
abbrev main_v306_2 : Ref sig .tc := ⟨.hbm, 364, rfl⟩
abbrev main_cst_38 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_cst_39 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_cst_40 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_v320 : Ref sig .tc := ⟨.hbm, 381, rfl⟩
abbrev main_v321 : Ref sig .tc := ⟨.hbm, 382, rfl⟩
abbrev main_cst_41 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_cst_42 : Ref sig .tc := ⟨.hbm, 387, rfl⟩
abbrev main_v325 : Ref sig .tc := ⟨.hbm, 388, rfl⟩
abbrev main_cst_43 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_v338 : Ref sig .tc := ⟨.hbm, 402, rfl⟩
abbrev main_v339 : Ref sig .tc := ⟨.hbm, 403, rfl⟩
abbrev main_v340 : Ref sig .tc := ⟨.hbm, 404, rfl⟩
abbrev main_v341 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_v345 : Ref sig .tc := ⟨.hbm, 409, rfl⟩
abbrev main_v346 : Ref sig .tc := ⟨.hbm, 410, rfl⟩
abbrev main_v347 : Ref sig .tc := ⟨.hbm, 411, rfl⟩
abbrev main_cst_44 : Ref sig .tc := ⟨.hbm, 412, rfl⟩
abbrev main_v348 : Ref sig .tc := ⟨.hbm, 413, rfl⟩
abbrev main_cst_45 : Ref sig .tc := ⟨.hbm, 414, rfl⟩
abbrev main_v349 : Ref sig .tc := ⟨.hbm, 415, rfl⟩
abbrev main_cst_46 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_cst_47 : Ref sig .tc := ⟨.hbm, 422, rfl⟩
abbrev main_v355 : Ref sig .tc := ⟨.hbm, 423, rfl⟩
abbrev main_cst_48 : Ref sig .tc := ⟨.hbm, 424, rfl⟩
abbrev main_v356 : Ref sig .tc := ⟨.hbm, 425, rfl⟩
abbrev main_v357 : Ref sig .tc := ⟨.hbm, 426, rfl⟩
abbrev main_cst_49 : Ref sig .tc := ⟨.hbm, 427, rfl⟩
abbrev main_v358 : Ref sig .tc := ⟨.hbm, 428, rfl⟩
abbrev main_v359 : Ref sig .tc := ⟨.hbm, 429, rfl⟩
abbrev main_cst_50 : Ref sig .tc := ⟨.hbm, 430, rfl⟩
abbrev main_v360 : Ref sig .tc := ⟨.hbm, 431, rfl⟩
abbrev main_v361 : Ref sig .tc := ⟨.hbm, 432, rfl⟩
abbrev main_cst_51 : Ref sig .tc := ⟨.hbm, 433, rfl⟩
abbrev main_v362 : Ref sig .tc := ⟨.hbm, 434, rfl⟩
abbrev main_cst_52 : Ref sig .tc := ⟨.hbm, 435, rfl⟩
abbrev main_v363 : Ref sig .tc := ⟨.hbm, 436, rfl⟩
abbrev main_cst_53 : Ref sig .tc := ⟨.hbm, 437, rfl⟩
abbrev main_v364 : Ref sig .tc := ⟨.hbm, 438, rfl⟩
abbrev main_v365 : Ref sig .tc := ⟨.hbm, 439, rfl⟩
abbrev main_v366 : Ref sig .tc := ⟨.hbm, 440, rfl⟩
abbrev main_v367 : Ref sig .tc := ⟨.hbm, 441, rfl⟩
abbrev main_v368 : Ref sig .tc := ⟨.hbm, 442, rfl⟩
abbrev main_v369 : Ref sig .tc := ⟨.hbm, 443, rfl⟩
abbrev main_v370 : Ref sig .tc := ⟨.hbm, 444, rfl⟩
abbrev main_cst_54 : Ref sig .tc := ⟨.hbm, 445, rfl⟩
abbrev main_v371 : Ref sig .tc := ⟨.hbm, 446, rfl⟩
abbrev main_v372 : Ref sig .tc := ⟨.hbm, 447, rfl⟩
abbrev main_v373 : Ref sig .tc := ⟨.hbm, 448, rfl⟩
abbrev main_v374 : Ref sig .tc := ⟨.hbm, 449, rfl⟩
abbrev main_v375 : Ref sig .tc := ⟨.hbm, 450, rfl⟩
abbrev main_cst_55 : Ref sig .tc := ⟨.hbm, 451, rfl⟩
abbrev main_v376 : Ref sig .tc := ⟨.hbm, 452, rfl⟩
abbrev main_v377 : Ref sig .tc := ⟨.hbm, 453, rfl⟩
abbrev main_v378 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_cst_56 : Ref sig .tc := ⟨.hbm, 459, rfl⟩
abbrev main_v383 : Ref sig .tc := ⟨.hbm, 460, rfl⟩
abbrev main_cst_57 : Ref sig .tc := ⟨.hbm, 461, rfl⟩
abbrev main_v384 : Ref sig .tc := ⟨.hbm, 462, rfl⟩
abbrev main_v385 : Ref sig .tc := ⟨.hbm, 463, rfl⟩
abbrev main_v386 : Ref sig .tc := ⟨.hbm, 464, rfl⟩
abbrev main_cst_58 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_v391 : Ref sig .tc := ⟨.hbm, 470, rfl⟩
abbrev main_v392 : Ref sig .tc := ⟨.hbm, 471, rfl⟩
abbrev main_cst_59 : Ref sig .tc := ⟨.hbm, 472, rfl⟩
abbrev main_v393 : Ref sig .tc := ⟨.hbm, 473, rfl⟩
abbrev main_v394 : Ref sig .tc := ⟨.hbm, 474, rfl⟩
abbrev main_v395 : Ref sig .tc := ⟨.hbm, 475, rfl⟩
abbrev main_v396 : Ref sig .tc := ⟨.hbm, 476, rfl⟩
abbrev main_v397 : Ref sig .tc := ⟨.hbm, 477, rfl⟩
abbrev main_v398 : Ref sig .tc := ⟨.hbm, 478, rfl⟩
abbrev main_v399 : Ref sig .tc := ⟨.hbm, 479, rfl⟩
abbrev main_v400 : Ref sig .tc := ⟨.hbm, 480, rfl⟩
abbrev main_cst_60 : Ref sig .tc := ⟨.hbm, 481, rfl⟩
abbrev main_v401 : Ref sig .tc := ⟨.hbm, 482, rfl⟩
abbrev main_v402 : Ref sig .tc := ⟨.hbm, 483, rfl⟩
abbrev main_v403 : Ref sig .tc := ⟨.hbm, 484, rfl⟩
abbrev main_v404 : Ref sig .tc := ⟨.hbm, 485, rfl⟩
abbrev main_cst_61 : Ref sig .tc := ⟨.hbm, 486, rfl⟩
abbrev main_v405 : Ref sig .tc := ⟨.hbm, 487, rfl⟩
abbrev main_v406 : Ref sig .tc := ⟨.hbm, 488, rfl⟩
abbrev main_v407 : Ref sig .tc := ⟨.hbm, 489, rfl⟩
abbrev main_v408 : Ref sig .tc := ⟨.hbm, 490, rfl⟩
abbrev main_v409 : Ref sig .tc := ⟨.hbm, 491, rfl⟩
abbrev main_cst_62 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_v418 : Ref sig .tc := ⟨.hbm, 501, rfl⟩
abbrev main_v419 : Ref sig .tc := ⟨.hbm, 502, rfl⟩
abbrev main_v420 : Ref sig .tc := ⟨.hbm, 503, rfl⟩
abbrev main_v421 : Ref sig .tc := ⟨.hbm, 504, rfl⟩
abbrev main_v422 : Ref sig .tc := ⟨.hbm, 505, rfl⟩
abbrev main_v423 : Ref sig .tc := ⟨.hbm, 506, rfl⟩
abbrev main_v424 : Ref sig .tc := ⟨.hbm, 507, rfl⟩
abbrev main_v425 : Ref sig .tc := ⟨.hbm, 508, rfl⟩
abbrev main_v426 : Ref sig .tc := ⟨.hbm, 509, rfl⟩
abbrev main_v427 : Ref sig .tc := ⟨.hbm, 510, rfl⟩
abbrev main_v428 : Ref sig .tc := ⟨.hbm, 511, rfl⟩
abbrev main_v429 : Ref sig .tc := ⟨.hbm, 512, rfl⟩
abbrev main_v430 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_v434 : Ref sig .tc := ⟨.hbm, 517, rfl⟩
abbrev main_v435 : Ref sig .tc := ⟨.hbm, 518, rfl⟩
abbrev main_cst_63 : Ref sig .tc := ⟨.hbm, 519, rfl⟩
abbrev main_v436 : Ref sig .tc := ⟨.hbm, 520, rfl⟩
abbrev main_cst_64 : Ref sig .tc := ⟨.hbm, 521, rfl⟩
abbrev main_v437 : Ref sig .tc := ⟨.hbm, 522, rfl⟩
abbrev main_v438 : Ref sig .tc := ⟨.hbm, 523, rfl⟩
abbrev main_cst_65 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_cst_66 : Ref sig .tc := ⟨.hbm, 534, rfl⟩
abbrev main_v448 : Ref sig .tc := ⟨.hbm, 535, rfl⟩
abbrev main_v449 : Ref sig .tc := ⟨.hbm, 536, rfl⟩
abbrev main_v450 : Ref sig .tc := ⟨.hbm, 537, rfl⟩
abbrev main_v451 : Ref sig .tc := ⟨.hbm, 538, rfl⟩
abbrev main_v452 : Ref sig .tc := ⟨.hbm, 539, rfl⟩
abbrev main_v453 : Ref sig .tc := ⟨.hbm, 540, rfl⟩
abbrev main_cst_67 : Ref sig .tc := ⟨.hbm, 541, rfl⟩
abbrev main_v454 : Ref sig .tc := ⟨.hbm, 542, rfl⟩
abbrev main_v455 : Ref sig .tc := ⟨.hbm, 543, rfl⟩
abbrev main_v456 : Ref sig .tc := ⟨.hbm, 544, rfl⟩
abbrev main_v457 : Ref sig .tc := ⟨.hbm, 545, rfl⟩
abbrev main_v458 : Ref sig .tc := ⟨.hbm, 546, rfl⟩
abbrev main_cst_68 : Ref sig .tc := ⟨.hbm, 547, rfl⟩
abbrev main_v459 : Ref sig .tc := ⟨.hbm, 548, rfl⟩
abbrev main_v460 : Ref sig .tc := ⟨.hbm, 549, rfl⟩
abbrev main_v461 : Ref sig .tc := ⟨.hbm, 550, rfl⟩
abbrev main_cst_69 : Ref sig .tc := ⟨.hbm, 551, rfl⟩
abbrev main_v462 : Ref sig .tc := ⟨.hbm, 552, rfl⟩
abbrev main_v463 : Ref sig .tc := ⟨.hbm, 553, rfl⟩
abbrev main_v464 : Ref sig .tc := ⟨.hbm, 554, rfl⟩
abbrev main_v465 : Ref sig .tc := ⟨.hbm, 555, rfl⟩
abbrev main_v466 : Ref sig .tc := ⟨.hbm, 556, rfl⟩
abbrev main_call4_cst : Ref sig .tc := ⟨.hbm, 557, rfl⟩
abbrev main_call4_v0 : Ref sig .tc := ⟨.hbm, 558, rfl⟩
abbrev main_v467 : Ref sig .tc := ⟨.hbm, 559, rfl⟩
abbrev main_cst_70 : Ref sig .tc := ⟨.hbm, 560, rfl⟩
abbrev main_v468 : Ref sig .tc := ⟨.hbm, 561, rfl⟩
abbrev main_v469 : Ref sig .tc := ⟨.hbm, 562, rfl⟩
abbrev main_v470 : Ref sig .tc := ⟨.hbm, 563, rfl⟩
abbrev main_v471 : Ref sig .tc := ⟨.hbm, 564, rfl⟩
abbrev main_v472 : Ref sig .tc := ⟨.hbm, 565, rfl⟩
abbrev main_v473 : Ref sig .tc := ⟨.hbm, 566, rfl⟩
abbrev main_v474 : Ref sig .tc := ⟨.hbm, 567, rfl⟩
abbrev main_v475 : Ref sig .tc := ⟨.hbm, 568, rfl⟩
abbrev main_v476 : Ref sig .tc := ⟨.hbm, 569, rfl⟩
abbrev main_cst_71 : Ref sig .tc := ⟨.hbm, 570, rfl⟩
abbrev main_v477 : Ref sig .tc := ⟨.hbm, 571, rfl⟩
abbrev main_cst_72 : Ref sig .tc := ⟨.hbm, 572, rfl⟩
abbrev main_v478 : Ref sig .tc := ⟨.hbm, 573, rfl⟩
abbrev main_v479 : Ref sig .tc := ⟨.hbm, 574, rfl⟩
abbrev main_cst_73 : Ref sig .tc := ⟨.hbm, 575, rfl⟩
abbrev main_v480 : Ref sig .tc := ⟨.hbm, 576, rfl⟩
abbrev main_v481 : Ref sig .tc := ⟨.hbm, 577, rfl⟩
abbrev main_v482 : Ref sig .tc := ⟨.hbm, 578, rfl⟩
abbrev main_v483 : Ref sig .tc := ⟨.hbm, 579, rfl⟩
abbrev main_v484 : Ref sig .tc := ⟨.hbm, 580, rfl⟩
abbrev main_v485 : Ref sig .tc := ⟨.hbm, 581, rfl⟩
abbrev main_v486 : Ref sig .tc := ⟨.hbm, 582, rfl⟩
abbrev main_v487 : Ref sig .tc := ⟨.hbm, 583, rfl⟩
abbrev main_v488 : Ref sig .tc := ⟨.hbm, 584, rfl⟩
abbrev main_v489 : Ref sig .tc := ⟨.hbm, 585, rfl⟩
abbrev main_v490 : Ref sig .tc := ⟨.hbm, 586, rfl⟩
abbrev main_v491 : Ref sig .tc := ⟨.hbm, 587, rfl⟩
abbrev main_v492 : Ref sig .tc := ⟨.hbm, 588, rfl⟩

abbrev nD : Nat := 1
abbrev τ : Topo := Topo.v7x

variable {F : FTy → Type} [FloatOps F]
-- ==== Kernel9.lean ====
abbrev S3x8192x8x64 : Shape := ⟨4, ![3, 8192, 8, 64]⟩
abbrev S8192x512 : Shape := ⟨2, ![8192, 512]⟩
abbrev S1x8192x8x64 : Shape := ⟨4, ![1, 8192, 8, 64]⟩
abbrev S8192x8x64 : Shape := ⟨3, ![8192, 8, 64]⟩
abbrev S8192x1x8x64 : Shape := ⟨4, ![8192, 1, 8, 64]⟩
abbrev S_ : Shape := ⟨0, ![]⟩
abbrev S1x64x8x64 : Shape := ⟨4, ![1, 64, 8, 64]⟩
abbrev S8192 : Shape := ⟨1, ![8192]⟩
abbrev S128x64 : Shape := ⟨2, ![128, 64]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S128x64x1 : Shape := ⟨3, ![128, 64, 1]⟩
abbrev S128x1x192 : Shape := ⟨3, ![128, 1, 192]⟩
abbrev S128x64x192 : Shape := ⟨3, ![128, 64, 192]⟩
abbrev S1x128x64x8x64 : Shape := ⟨5, ![1, 128, 64, 8, 64]⟩
abbrev S1x8320x8x64 : Shape := ⟨4, ![1, 8320, 8, 64]⟩
abbrev S1x130x64x8x64 : Shape := ⟨5, ![1, 130, 64, 8, 64]⟩
abbrev S1x128x192x8x64 : Shape := ⟨5, ![1, 128, 192, 8, 64]⟩
abbrev S1x128x8x64x192 : Shape := ⟨5, ![1, 128, 8, 64, 192]⟩
abbrev S1x128x1x64x192 : Shape := ⟨5, ![1, 128, 1, 64, 192]⟩
abbrev S1x128x8x64 : Shape := ⟨4, ![1, 128, 8, 64]⟩
abbrev S1x128x8x64x1 : Shape := ⟨5, ![1, 128, 8, 64, 1]⟩
abbrev S1x128x8x64x64 : Shape := ⟨5, ![1, 128, 8, 64, 64]⟩
abbrev S1x128x64x8 : Shape := ⟨4, ![1, 128, 64, 8]⟩
abbrev S1x8192x8 : Shape := ⟨3, ![1, 8192, 8]⟩
abbrev S8192x1x8 : Shape := ⟨3, ![8192, 1, 8]⟩
abbrev S8192x8 : Shape := ⟨2, ![8192, 8]⟩
abbrev S2048x4x8x64 : Shape := ⟨4, ![2048, 4, 8, 64]⟩
abbrev S4x2048x8x64 : Shape := ⟨4, ![4, 2048, 8, 64]⟩
abbrev S4x64x8x64 : Shape := ⟨4, ![4, 64, 8, 64]⟩
abbrev S2048 : Shape := ⟨1, ![2048]⟩
abbrev S32x64 : Shape := ⟨2, ![32, 64]⟩
abbrev S32 : Shape := ⟨1, ![32]⟩
abbrev S32x1 : Shape := ⟨2, ![32, 1]⟩
abbrev S32x192 : Shape := ⟨2, ![32, 192]⟩
abbrev S32x64x1 : Shape := ⟨3, ![32, 64, 1]⟩
abbrev S32x1x192 : Shape := ⟨3, ![32, 1, 192]⟩
abbrev S32x64x192 : Shape := ⟨3, ![32, 64, 192]⟩
abbrev S4x32x64x8x64 : Shape := ⟨5, ![4, 32, 64, 8, 64]⟩
abbrev S4x2176x8x64 : Shape := ⟨4, ![4, 2176, 8, 64]⟩
abbrev S4x34x64x8x64 : Shape := ⟨5, ![4, 34, 64, 8, 64]⟩
abbrev S4x32x192x8x64 : Shape := ⟨5, ![4, 32, 192, 8, 64]⟩
abbrev S4x32x8x64x192 : Shape := ⟨5, ![4, 32, 8, 64, 192]⟩
abbrev S1x32x1x64x192 : Shape := ⟨5, ![1, 32, 1, 64, 192]⟩
abbrev S4x32x8x64 : Shape := ⟨4, ![4, 32, 8, 64]⟩
abbrev S4x32x8x64x1 : Shape := ⟨5, ![4, 32, 8, 64, 1]⟩
abbrev S4x32x8x64x64 : Shape := ⟨5, ![4, 32, 8, 64, 64]⟩
abbrev S4x32x64x8 : Shape := ⟨4, ![4, 32, 64, 8]⟩
abbrev S4x2048x8 : Shape := ⟨3, ![4, 2048, 8]⟩
abbrev S2048x4x8 : Shape := ⟨3, ![2048, 4, 8]⟩
abbrev S512x16x8x64 : Shape := ⟨4, ![512, 16, 8, 64]⟩
abbrev S16x512x8x64 : Shape := ⟨4, ![16, 512, 8, 64]⟩
abbrev S16x64x8x64 : Shape := ⟨4, ![16, 64, 8, 64]⟩
abbrev S512 : Shape := ⟨1, ![512]⟩
abbrev S8x64 : Shape := ⟨2, ![8, 64]⟩
abbrev S8 : Shape := ⟨1, ![8]⟩
abbrev S8x1 : Shape := ⟨2, ![8, 1]⟩
abbrev S8x192 : Shape := ⟨2, ![8, 192]⟩
abbrev S8x64x1 : Shape := ⟨3, ![8, 64, 1]⟩
abbrev S8x1x192 : Shape := ⟨3, ![8, 1, 192]⟩
abbrev S8x64x192 : Shape := ⟨3, ![8, 64, 192]⟩
abbrev S16x8x64x8x64 : Shape := ⟨5, ![16, 8, 64, 8, 64]⟩
abbrev S16x640x8x64 : Shape := ⟨4, ![16, 640, 8, 64]⟩
abbrev S16x10x64x8x64 : Shape := ⟨5, ![16, 10, 64, 8, 64]⟩
abbrev S16x8x192x8x64 : Shape := ⟨5, ![16, 8, 192, 8, 64]⟩
abbrev S16x8x8x64x192 : Shape := ⟨5, ![16, 8, 8, 64, 192]⟩
abbrev S1x8x1x64x192 : Shape := ⟨5, ![1, 8, 1, 64, 192]⟩
abbrev S16x8x8x64 : Shape := ⟨4, ![16, 8, 8, 64]⟩
abbrev S16x8x8x64x1 : Shape := ⟨5, ![16, 8, 8, 64, 1]⟩
abbrev S16x8x8x64x64 : Shape := ⟨5, ![16, 8, 8, 64, 64]⟩
abbrev S16x8x64x8 : Shape := ⟨4, ![16, 8, 64, 8]⟩
abbrev S16x512x8 : Shape := ⟨3, ![16, 512, 8]⟩
abbrev S512x16x8 : Shape := ⟨3, ![512, 16, 8]⟩
abbrev S8192x8x1 : Shape := ⟨3, ![8192, 8, 1]⟩
abbrev S2048x4x512 : Shape := ⟨3, ![2048, 4, 512]⟩
abbrev S4x2048x512 : Shape := ⟨3, ![4, 2048, 512]⟩
abbrev S4x8x2048 : Shape := ⟨3, ![4, 8, 2048]⟩
abbrev S4x4x2x2048 : Shape := ⟨4, ![4, 4, 2, 2048]⟩
abbrev S1x2048x128 : Shape := ⟨3, ![1, 2048, 128]⟩
abbrev S1x1x2x2048 : Shape := ⟨4, ![1, 1, 2, 2048]⟩
abbrev S2048x128 : Shape := ⟨2, ![2048, 128]⟩
abbrev S128x128 : Shape := ⟨2, ![128, 128]⟩
abbrev S1x256x128 : Shape := ⟨3, ![1, 256, 128]⟩
abbrev S256x128 : Shape := ⟨2, ![256, 128]⟩
abbrev S1x128x128 : Shape := ⟨3, ![1, 128, 128]⟩
abbrev S1x1x1x128 : Shape := ⟨4, ![1, 1, 1, 128]⟩
abbrev S1x128 : Shape := ⟨2, ![1, 128]⟩
abbrev S1x256 : Shape := ⟨2, ![1, 256]⟩
abbrev S256x256 : Shape := ⟨2, ![256, 256]⟩

abbrev nBuf : Space → Nat
  | .hbm => 392
  | .vmem => 22
  | .smem => 0
  | _ => 0

abbrev hbmTy0_0 (i : Nat) : BufTy := match i % 128 with
  | 0 => ⟨S3x8192x8x64, .f32⟩
  | 1 => ⟨S3x8192x8x64, .f32⟩
  | 2 => ⟨S3x8192x8x64, .f32⟩
  | 3 => ⟨S8192x512, .f32⟩
  | 4 => ⟨S1x8192x8x64, .f32⟩
  | 5 => ⟨S8192x8x64, .f32⟩
  | 6 => ⟨S1x8192x8x64, .f32⟩
  | 7 => ⟨S8192x8x64, .f32⟩
  | 8 => ⟨S1x8192x8x64, .f32⟩
  | 9 => ⟨S8192x8x64, .f32⟩
  | 10 => ⟨S8192x1x8x64, .f32⟩
  | 11 => ⟨S1x8192x8x64, .f32⟩
  | 12 => ⟨S8192x1x8x64, .f32⟩
  | 13 => ⟨S1x8192x8x64, .f32⟩
  | 14 => ⟨S8192x1x8x64, .f32⟩
  | 15 => ⟨S1x8192x8x64, .f32⟩
  | 16 => ⟨S_, .f32⟩
  | 17 => ⟨S1x64x8x64, .f32⟩
  | 18 => ⟨S8192, .i32⟩
  | 19 => ⟨S128x64, .i32⟩
  | 20 => ⟨S128, .i32⟩
  | 21 => ⟨S128x1, .i32⟩
  | 22 => ⟨S_, .i32⟩
  | 23 => ⟨S128x1, .i32⟩
  | 24 => ⟨S128x1, .i32⟩
  | 25 => ⟨S_, .i32⟩
  | 26 => ⟨S128x1, .i32⟩
  | 27 => ⟨S128x1, .i32⟩
  | 28 => ⟨S192, .i32⟩
  | 29 => ⟨S1x192, .i32⟩
  | 30 => ⟨S128x192, .i32⟩
  | 31 => ⟨S128x192, .i32⟩
  | 32 => ⟨S128x192, .i32⟩
  | 33 => ⟨S128x64x1, .i32⟩
  | 34 => ⟨S128x1x192, .i32⟩
  | 35 => ⟨S128x64x192, .i32⟩
  | 36 => ⟨S128x64x192, .i32⟩
  | 37 => ⟨S128x64x192, .i32⟩
  | 38 => ⟨S128x64x192, .i32⟩
  | 39 => ⟨S_, .i32⟩
  | 40 => ⟨S128x64x192, .i32⟩
  | 41 => ⟨S128x64x192, .i1⟩
  | 42 => ⟨S128x1x192, .i32⟩
  | 43 => ⟨S_, .i32⟩
  | 44 => ⟨S128x1x192, .i32⟩
  | 45 => ⟨S128x1x192, .i1⟩
  | 46 => ⟨S128x64x192, .i1⟩
  | 47 => ⟨S128x64x192, .i1⟩
  | 48 => ⟨S128x1x192, .i32⟩
  | 49 => ⟨S_, .i32⟩
  | 50 => ⟨S128x1x192, .i32⟩
  | 51 => ⟨S128x1x192, .i1⟩
  | 52 => ⟨S128x64x192, .i1⟩
  | 53 => ⟨S128x64x192, .i1⟩
  | 54 => ⟨S1x128x64x8x64, .f32⟩
  | 55 => ⟨S1x8320x8x64, .f32⟩
  | 56 => ⟨S1x130x64x8x64, .f32⟩
  | 57 => ⟨S1x128x64x8x64, .f32⟩
  | 58 => ⟨S1x128x64x8x64, .f32⟩
  | 59 => ⟨S1x128x64x8x64, .f32⟩
  | 60 => ⟨S1x128x192x8x64, .f32⟩
  | 61 => ⟨S1x128x8x64x192, .f32⟩
  | 62 => ⟨S_, .f32⟩
  | 63 => ⟨S1x128x8x64x192, .f32⟩
  | 64 => ⟨S1x128x8x64x192, .f32⟩
  | 65 => ⟨S1x128x1x64x192, .i1⟩
  | 66 => ⟨S_, .f32⟩
  | 67 => ⟨S_, .f32⟩
  | 68 => ⟨S1x128x8x64x192, .i1⟩
  | 69 => ⟨S1x128x8x64x192, .f32⟩
  | 70 => ⟨S1x128x8x64x192, .f32⟩
  | 71 => ⟨S_, .f32⟩
  | 72 => ⟨S1x128x8x64, .f32⟩
  | 73 => ⟨S1x128x8x64x1, .f32⟩
  | 74 => ⟨S1x128x8x64x192, .f32⟩
  | 75 => ⟨S1x128x8x64x192, .f32⟩
  | 76 => ⟨S1x128x8x64x192, .f32⟩
  | 77 => ⟨S_, .f32⟩
  | 78 => ⟨S1x128x8x64, .f32⟩
  | 79 => ⟨S1x128x8x64x1, .f32⟩
  | 80 => ⟨S1x128x8x64x192, .f32⟩
  | 81 => ⟨S1x128x8x64x192, .f32⟩
  | 82 => ⟨S1x8320x8x64, .f32⟩
  | 83 => ⟨S1x130x64x8x64, .f32⟩
  | 84 => ⟨S1x128x64x8x64, .f32⟩
  | 85 => ⟨S1x128x64x8x64, .f32⟩
  | 86 => ⟨S1x128x64x8x64, .f32⟩
  | 87 => ⟨S1x128x192x8x64, .f32⟩
  | 88 => ⟨S1x128x8x64x64, .f32⟩
  | 89 => ⟨S1x128x64x8x64, .f32⟩
  | 90 => ⟨S1x8192x8x64, .f32⟩
  | 91 => ⟨S1x128x8x64x1, .f32⟩
  | 92 => ⟨S1x128x8x64x1, .f32⟩
  | 93 => ⟨S1x128x8x64, .f32⟩
  | 94 => ⟨S1x128x64x8, .f32⟩
  | 95 => ⟨S1x8192x8, .f32⟩
  | 96 => ⟨S8192x1x8x64, .f32⟩
  | 97 => ⟨S8192x8x64, .f32⟩
  | 98 => ⟨S8192x1x8, .f32⟩
  | 99 => ⟨S8192x8, .f32⟩
  | 100 => ⟨S1x8192x8x64, .f32⟩
  | 101 => ⟨S8192x8x64, .f32⟩
  | 102 => ⟨S1x8192x8x64, .f32⟩
  | 103 => ⟨S8192x8x64, .f32⟩
  | 104 => ⟨S1x8192x8x64, .f32⟩
  | 105 => ⟨S8192x8x64, .f32⟩
  | 106 => ⟨S2048x4x8x64, .f32⟩
  | 107 => ⟨S4x2048x8x64, .f32⟩
  | 108 => ⟨S2048x4x8x64, .f32⟩
  | 109 => ⟨S4x2048x8x64, .f32⟩
  | 110 => ⟨S2048x4x8x64, .f32⟩
  | 111 => ⟨S4x2048x8x64, .f32⟩
  | 112 => ⟨S_, .f32⟩
  | 113 => ⟨S4x64x8x64, .f32⟩
  | 114 => ⟨S2048, .i32⟩
  | 115 => ⟨S32x64, .i32⟩
  | 116 => ⟨S32, .i32⟩
  | 117 => ⟨S32x1, .i32⟩
  | 118 => ⟨S_, .i32⟩
  | 119 => ⟨S32x1, .i32⟩
  | 120 => ⟨S32x1, .i32⟩
  | 121 => ⟨S_, .i32⟩
  | 122 => ⟨S32x1, .i32⟩
  | 123 => ⟨S32x1, .i32⟩
  | 124 => ⟨S192, .i32⟩
  | 125 => ⟨S1x192, .i32⟩
  | 126 => ⟨S32x192, .i32⟩
  | 127 => ⟨S32x192, .i32⟩
  | _ => ⟨S3x8192x8x64, .f32⟩

abbrev hbmTy0_1 (i : Nat) : BufTy := match i % 128 with
  | 0 => ⟨S32x192, .i32⟩
  | 1 => ⟨S32x64x1, .i32⟩
  | 2 => ⟨S32x1x192, .i32⟩
  | 3 => ⟨S32x64x192, .i32⟩
  | 4 => ⟨S32x64x192, .i32⟩
  | 5 => ⟨S32x64x192, .i32⟩
  | 6 => ⟨S32x64x192, .i32⟩
  | 7 => ⟨S_, .i32⟩
  | 8 => ⟨S32x64x192, .i32⟩
  | 9 => ⟨S32x64x192, .i1⟩
  | 10 => ⟨S32x1x192, .i32⟩
  | 11 => ⟨S_, .i32⟩
  | 12 => ⟨S32x1x192, .i32⟩
  | 13 => ⟨S32x1x192, .i1⟩
  | 14 => ⟨S32x64x192, .i1⟩
  | 15 => ⟨S32x64x192, .i1⟩
  | 16 => ⟨S32x1x192, .i32⟩
  | 17 => ⟨S_, .i32⟩
  | 18 => ⟨S32x1x192, .i32⟩
  | 19 => ⟨S32x1x192, .i1⟩
  | 20 => ⟨S32x64x192, .i1⟩
  | 21 => ⟨S32x64x192, .i1⟩
  | 22 => ⟨S4x32x64x8x64, .f32⟩
  | 23 => ⟨S4x2176x8x64, .f32⟩
  | 24 => ⟨S4x34x64x8x64, .f32⟩
  | 25 => ⟨S4x32x64x8x64, .f32⟩
  | 26 => ⟨S4x32x64x8x64, .f32⟩
  | 27 => ⟨S4x32x64x8x64, .f32⟩
  | 28 => ⟨S4x32x192x8x64, .f32⟩
  | 29 => ⟨S4x32x8x64x192, .f32⟩
  | 30 => ⟨S_, .f32⟩
  | 31 => ⟨S4x32x8x64x192, .f32⟩
  | 32 => ⟨S4x32x8x64x192, .f32⟩
  | 33 => ⟨S1x32x1x64x192, .i1⟩
  | 34 => ⟨S_, .f32⟩
  | 35 => ⟨S_, .f32⟩
  | 36 => ⟨S4x32x8x64x192, .i1⟩
  | 37 => ⟨S4x32x8x64x192, .f32⟩
  | 38 => ⟨S4x32x8x64x192, .f32⟩
  | 39 => ⟨S_, .f32⟩
  | 40 => ⟨S4x32x8x64, .f32⟩
  | 41 => ⟨S4x32x8x64x1, .f32⟩
  | 42 => ⟨S4x32x8x64x192, .f32⟩
  | 43 => ⟨S4x32x8x64x192, .f32⟩
  | 44 => ⟨S4x32x8x64x192, .f32⟩
  | 45 => ⟨S_, .f32⟩
  | 46 => ⟨S4x32x8x64, .f32⟩
  | 47 => ⟨S4x32x8x64x1, .f32⟩
  | 48 => ⟨S4x32x8x64x192, .f32⟩
  | 49 => ⟨S4x32x8x64x192, .f32⟩
  | 50 => ⟨S4x2176x8x64, .f32⟩
  | 51 => ⟨S4x34x64x8x64, .f32⟩
  | 52 => ⟨S4x32x64x8x64, .f32⟩
  | 53 => ⟨S4x32x64x8x64, .f32⟩
  | 54 => ⟨S4x32x64x8x64, .f32⟩
  | 55 => ⟨S4x32x192x8x64, .f32⟩
  | 56 => ⟨S4x32x8x64x64, .f32⟩
  | 57 => ⟨S4x32x64x8x64, .f32⟩
  | 58 => ⟨S4x2048x8x64, .f32⟩
  | 59 => ⟨S4x32x8x64x1, .f32⟩
  | 60 => ⟨S4x32x8x64x1, .f32⟩
  | 61 => ⟨S4x32x8x64, .f32⟩
  | 62 => ⟨S4x32x64x8, .f32⟩
  | 63 => ⟨S4x2048x8, .f32⟩
  | 64 => ⟨S2048x4x8x64, .f32⟩
  | 65 => ⟨S8192x8x64, .f32⟩
  | 66 => ⟨S2048x4x8, .f32⟩
  | 67 => ⟨S8192x8, .f32⟩
  | 68 => ⟨S1x8192x8x64, .f32⟩
  | 69 => ⟨S8192x8x64, .f32⟩
  | 70 => ⟨S1x8192x8x64, .f32⟩
  | 71 => ⟨S8192x8x64, .f32⟩
  | 72 => ⟨S1x8192x8x64, .f32⟩
  | 73 => ⟨S8192x8x64, .f32⟩
  | 74 => ⟨S512x16x8x64, .f32⟩
  | 75 => ⟨S16x512x8x64, .f32⟩
  | 76 => ⟨S512x16x8x64, .f32⟩
  | 77 => ⟨S16x512x8x64, .f32⟩
  | 78 => ⟨S512x16x8x64, .f32⟩
  | 79 => ⟨S16x512x8x64, .f32⟩
  | 80 => ⟨S_, .f32⟩
  | 81 => ⟨S16x64x8x64, .f32⟩
  | 82 => ⟨S512, .i32⟩
  | 83 => ⟨S8x64, .i32⟩
  | 84 => ⟨S8, .i32⟩
  | 85 => ⟨S8x1, .i32⟩
  | 86 => ⟨S_, .i32⟩
  | 87 => ⟨S8x1, .i32⟩
  | 88 => ⟨S8x1, .i32⟩
  | 89 => ⟨S_, .i32⟩
  | 90 => ⟨S8x1, .i32⟩
  | 91 => ⟨S8x1, .i32⟩
  | 92 => ⟨S192, .i32⟩
  | 93 => ⟨S1x192, .i32⟩
  | 94 => ⟨S8x192, .i32⟩
  | 95 => ⟨S8x192, .i32⟩
  | 96 => ⟨S8x192, .i32⟩
  | 97 => ⟨S8x64x1, .i32⟩
  | 98 => ⟨S8x1x192, .i32⟩
  | 99 => ⟨S8x64x192, .i32⟩
  | 100 => ⟨S8x64x192, .i32⟩
  | 101 => ⟨S8x64x192, .i32⟩
  | 102 => ⟨S8x64x192, .i32⟩
  | 103 => ⟨S_, .i32⟩
  | 104 => ⟨S8x64x192, .i32⟩
  | 105 => ⟨S8x64x192, .i1⟩
  | 106 => ⟨S8x1x192, .i32⟩
  | 107 => ⟨S_, .i32⟩
  | 108 => ⟨S8x1x192, .i32⟩
  | 109 => ⟨S8x1x192, .i1⟩
  | 110 => ⟨S8x64x192, .i1⟩
  | 111 => ⟨S8x64x192, .i1⟩
  | 112 => ⟨S8x1x192, .i32⟩
  | 113 => ⟨S_, .i32⟩
  | 114 => ⟨S8x1x192, .i32⟩
  | 115 => ⟨S8x1x192, .i1⟩
  | 116 => ⟨S8x64x192, .i1⟩
  | 117 => ⟨S8x64x192, .i1⟩
  | 118 => ⟨S16x8x64x8x64, .f32⟩
  | 119 => ⟨S16x640x8x64, .f32⟩
  | 120 => ⟨S16x10x64x8x64, .f32⟩
  | 121 => ⟨S16x8x64x8x64, .f32⟩
  | 122 => ⟨S16x8x64x8x64, .f32⟩
  | 123 => ⟨S16x8x64x8x64, .f32⟩
  | 124 => ⟨S16x8x192x8x64, .f32⟩
  | 125 => ⟨S16x8x8x64x192, .f32⟩
  | 126 => ⟨S_, .f32⟩
  | 127 => ⟨S16x8x8x64x192, .f32⟩
  | _ => ⟨S3x8192x8x64, .f32⟩

abbrev hbmTy0_2 (i : Nat) : BufTy := match i % 128 with
  | 0 => ⟨S16x8x8x64x192, .f32⟩
  | 1 => ⟨S1x8x1x64x192, .i1⟩
  | 2 => ⟨S_, .f32⟩
  | 3 => ⟨S_, .f32⟩
  | 4 => ⟨S16x8x8x64x192, .i1⟩
  | 5 => ⟨S16x8x8x64x192, .f32⟩
  | 6 => ⟨S16x8x8x64x192, .f32⟩
  | 7 => ⟨S_, .f32⟩
  | 8 => ⟨S16x8x8x64, .f32⟩
  | 9 => ⟨S16x8x8x64x1, .f32⟩
  | 10 => ⟨S16x8x8x64x192, .f32⟩
  | 11 => ⟨S16x8x8x64x192, .f32⟩
  | 12 => ⟨S16x8x8x64x192, .f32⟩
  | 13 => ⟨S_, .f32⟩
  | 14 => ⟨S16x8x8x64, .f32⟩
  | 15 => ⟨S16x8x8x64x1, .f32⟩
  | 16 => ⟨S16x8x8x64x192, .f32⟩
  | 17 => ⟨S16x8x8x64x192, .f32⟩
  | 18 => ⟨S16x640x8x64, .f32⟩
  | 19 => ⟨S16x10x64x8x64, .f32⟩
  | 20 => ⟨S16x8x64x8x64, .f32⟩
  | 21 => ⟨S16x8x64x8x64, .f32⟩
  | 22 => ⟨S16x8x64x8x64, .f32⟩
  | 23 => ⟨S16x8x192x8x64, .f32⟩
  | 24 => ⟨S16x8x8x64x64, .f32⟩
  | 25 => ⟨S16x8x64x8x64, .f32⟩
  | 26 => ⟨S16x512x8x64, .f32⟩
  | 27 => ⟨S16x8x8x64x1, .f32⟩
  | 28 => ⟨S16x8x8x64x1, .f32⟩
  | 29 => ⟨S16x8x8x64, .f32⟩
  | 30 => ⟨S16x8x64x8, .f32⟩
  | 31 => ⟨S16x512x8, .f32⟩
  | 32 => ⟨S512x16x8x64, .f32⟩
  | 33 => ⟨S8192x8x64, .f32⟩
  | 34 => ⟨S512x16x8, .f32⟩
  | 35 => ⟨S8192x8, .f32⟩
  | 36 => ⟨S8192x8, .f32⟩
  | 37 => ⟨S8192x8, .f32⟩
  | 38 => ⟨S8192x8, .f32⟩
  | 39 => ⟨S8192x8, .f32⟩
  | 40 => ⟨S8192x8, .f32⟩
  | 41 => ⟨S8192x8, .f32⟩
  | 42 => ⟨S8192x8, .f32⟩
  | 43 => ⟨S8192x8, .f32⟩
  | 44 => ⟨S_, .f32⟩
  | 45 => ⟨S8192x8, .f32⟩
  | 46 => ⟨S8192x8, .f32⟩
  | 47 => ⟨S8192x8, .f32⟩
  | 48 => ⟨S8192x8, .f32⟩
  | 49 => ⟨S8192x8, .f32⟩
  | 50 => ⟨S8192x8x1, .f32⟩
  | 51 => ⟨S8192x8x64, .f32⟩
  | 52 => ⟨S8192x8x64, .f32⟩
  | 53 => ⟨S_, .f32⟩
  | 54 => ⟨S8192x8x64, .f32⟩
  | 55 => ⟨S8192x8x64, .f32⟩
  | 56 => ⟨S8192x8, .f32⟩
  | 57 => ⟨S8192x8x1, .f32⟩
  | 58 => ⟨S8192x8x64, .f32⟩
  | 59 => ⟨S8192x8x64, .f32⟩
  | 60 => ⟨S8192x8x64, .f32⟩
  | 61 => ⟨S8192x8, .f32⟩
  | 62 => ⟨S8192x8x1, .f32⟩
  | 63 => ⟨S8192x8x64, .f32⟩
  | 64 => ⟨S8192x8x64, .f32⟩
  | 65 => ⟨S8192x8x64, .f32⟩
  | 66 => ⟨S8192x8, .f32⟩
  | 67 => ⟨S8192x8, .f32⟩
  | 68 => ⟨S_, .f32⟩
  | 69 => ⟨S_, .f32⟩
  | 70 => ⟨S_, .f32⟩
  | 71 => ⟨S8192x8, .f32⟩
  | 72 => ⟨S8192x8, .f32⟩
  | 73 => ⟨S8192x8x64, .f32⟩
  | 74 => ⟨S8192x8x64, .f32⟩
  | 75 => ⟨S_, .f32⟩
  | 76 => ⟨S8192x8, .f32⟩
  | 77 => ⟨S1x8192x8x64, .f32⟩
  | 78 => ⟨S8192x8x64, .f32⟩
  | 79 => ⟨S_, .f32⟩
  | 80 => ⟨S_, .f32⟩
  | 81 => ⟨S_, .f32⟩
  | 82 => ⟨S_, .f32⟩
  | 83 => ⟨S_, .f32⟩
  | 84 => ⟨S8192x8x64, .f32⟩
  | 85 => ⟨S8192x8x64, .f32⟩
  | 86 => ⟨S8192x512, .f32⟩
  | 87 => ⟨S2048x4x512, .f32⟩
  | 88 => ⟨S4x2048x512, .f32⟩
  | 89 => ⟨S4x2048x512, .bf16⟩
  | 90 => ⟨S1x8192x8x64, .f32⟩
  | 91 => ⟨S8192x8x64, .f32⟩
  | 92 => ⟨S8192x512, .f32⟩
  | 93 => ⟨S2048x4x512, .f32⟩
  | 94 => ⟨S4x2048x512, .f32⟩
  | 95 => ⟨S4x2048x512, .bf16⟩
  | 96 => ⟨S1x8192x8x64, .f32⟩
  | 97 => ⟨S8192x8x64, .f32⟩
  | 98 => ⟨S8192x512, .f32⟩
  | 99 => ⟨S2048x4x512, .f32⟩
  | 100 => ⟨S4x2048x512, .f32⟩
  | 101 => ⟨S4x2048x512, .bf16⟩
  | 102 => ⟨S2048x4x512, .f32⟩
  | 103 => ⟨S4x2048x512, .f32⟩
  | 104 => ⟨S4x2048x512, .bf16⟩
  | 105 => ⟨S2048x4x8, .f32⟩
  | 106 => ⟨S4x2048x8, .f32⟩
  | 107 => ⟨S4x8x2048, .f32⟩
  | 108 => ⟨S4x4x2x2048, .f32⟩
  | 109 => ⟨S2048x4x8, .f32⟩
  | 110 => ⟨S4x2048x8, .f32⟩
  | 111 => ⟨S4x8x2048, .f32⟩
  | 112 => ⟨S4x4x2x2048, .f32⟩
  | 113 => ⟨S4x2048x512, .bf16⟩
  | 114 => ⟨S4x2048x512, .bf16⟩
  | 115 => ⟨S4x2048x512, .bf16⟩
  | 116 => ⟨S2048x4x512, .bf16⟩
  | 117 => ⟨S8192x512, .bf16⟩
  | 118 => ⟨S8192x512, .f32⟩
  | 119 => ⟨S8192x8x64, .f32⟩
  | 120 => ⟨S_, .f32⟩
  | 121 => ⟨S8192x8x64, .f32⟩
  | 122 => ⟨S8192x8x64, .f32⟩
  | 123 => ⟨S2048x4x512, .bf16⟩
  | 124 => ⟨S8192x512, .bf16⟩
  | 125 => ⟨S8192x512, .f32⟩
  | 126 => ⟨S8192x8x64, .f32⟩
  | 127 => ⟨S_, .f32⟩
  | _ => ⟨S3x8192x8x64, .f32⟩

abbrev hbmTy0_3 (i : Nat) : BufTy := match i % 128 with
  | 0 => ⟨S_, .f32⟩
  | 1 => ⟨S_, .f32⟩
  | 2 => ⟨S8192x8x64, .f32⟩
  | 3 => ⟨S8192x8x64, .f32⟩
  | 4 => ⟨S2048x4x512, .bf16⟩
  | 5 => ⟨S8192x512, .bf16⟩
  | 6 => ⟨S8192x512, .f32⟩
  | 7 => ⟨S8192x8x64, .f32⟩
  | _ => ⟨S3x8192x8x64, .f32⟩

abbrev hbmTy (i : Nat) : BufTy := match i / 128 with
  | 0 => hbmTy0_0 i
  | 1 => hbmTy0_1 i
  | 2 => hbmTy0_2 i
  | 3 => hbmTy0_3 i
  | _ => ⟨S3x8192x8x64, .f32⟩

abbrev bufTy : (tb : Table) → Fin (tcTables nBuf tb) → BufTy
  | .hbm, ⟨i, _⟩ => hbmTy i
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x1x2x2048, .f32⟩
  | .local _ .vmem, ⟨9, _⟩ => ⟨S1x1x2x2048, .f32⟩
  | .local _ .vmem, ⟨10, _⟩ => ⟨S1x1x2x2048, .f32⟩
  | .local _ .vmem, ⟨11, _⟩ => ⟨S1x1x2x2048, .f32⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | _, _ => ⟨S3x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_8 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_c_9 : Ref sig .tc := ⟨.hbm, 118, rfl⟩
abbrev main_v100 : Ref sig .tc := ⟨.hbm, 119, rfl⟩
abbrev main_v101 : Ref sig .tc := ⟨.hbm, 120, rfl⟩
abbrev main_c_10 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_c_11 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_c_12 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_c_13 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_cst_14 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_15 : Ref sig .tc := ⟨.hbm, 162, rfl⟩
abbrev main_call1_v0 : Ref sig .tc := ⟨.hbm, 163, rfl⟩
abbrev main_call1_v1 : Ref sig .tc := ⟨.hbm, 164, rfl⟩
abbrev main_call1_v2 : Ref sig .tc := ⟨.hbm, 165, rfl⟩
abbrev main_v138 : Ref sig .tc := ⟨.hbm, 166, rfl⟩
abbrev main_cst_16 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_17 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_cst_18 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_c_19 : Ref sig .tc := ⟨.hbm, 214, rfl⟩
abbrev main_v183 : Ref sig .tc := ⟨.hbm, 215, rfl⟩
abbrev main_v184 : Ref sig .tc := ⟨.hbm, 216, rfl⟩
abbrev main_c_20 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_c_21 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_c_22 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_c_23 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_cst_24 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_cst_25 : Ref sig .tc := ⟨.hbm, 258, rfl⟩
abbrev main_call2_v0 : Ref sig .tc := ⟨.hbm, 259, rfl⟩
abbrev main_call2_v1 : Ref sig .tc := ⟨.hbm, 260, rfl⟩
abbrev main_call2_v2 : Ref sig .tc := ⟨.hbm, 261, rfl⟩
abbrev main_v221 : Ref sig .tc := ⟨.hbm, 262, rfl⟩
abbrev main_cst_26 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_cst_27 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_cst_28 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_cst_29 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_cst_30 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_cst_31 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_cst_32 : Ref sig .tc := ⟨.hbm, 335, rfl⟩
abbrev main_v288 : Ref sig .tc := ⟨.hbm, 336, rfl⟩
abbrev main_cst_33 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320_0 : Ref sig .tc := ⟨.hbm, 369, rfl⟩
abbrev main_v320_1 : Ref sig .tc := ⟨.hbm, 370, rfl⟩
abbrev main_v320_2 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_cst_34 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_cst_35 : Ref sig .tc := ⟨.hbm, 383, rfl⟩
abbrev main_v331 : Ref sig .tc := ⟨.hbm, 384, rfl⟩
abbrev main_v332 : Ref sig .tc := ⟨.hbm, 385, rfl⟩
abbrev main_v333 : Ref sig .tc := ⟨.hbm, 386, rfl⟩
abbrev main_v334 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 1], ![false, false, false]⟩

def k0_mult1 (i : grid0.Coords) : BitVec 32 :=
  let c0_i32_7 : BitVec 32 := 0#32
  let c0_i32_6 : BitVec 32 := 0#32
  let arg2 : BitVec 32 := BitVec.ofNat 32 (i 2).val
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  v17
def k0_mult2 (i : grid0.Coords) : BitVec 32 :=
  let c1792_i32 : BitVec 32 := 1792#32
  let c0_i32_11 : BitVec 32 := 0#32
  let arg2 : BitVec 32 := BitVec.ofNat 32 (i 2).val
  let c2048_i32_8 : BitVec 32 := 2048#32
  let v19 : BitVec 32 := Scalar.muli arg2 c2048_i32_8
  let c0_i32_9 : BitVec 32 := 0#32
  let v20 : BitVec 32 := Scalar.addi v19 c0_i32_9
  let c64_i32_10 : BitVec 32 := 64#32
  let v21 : BitVec 32 := Scalar.subi v20 c64_i32_10
  let v22 : BitVec 32 := Scalar.maxsi c0_i32_11 v21
  let v23 : BitVec 32 := Scalar.minsi c1792_i32 v22
  v23
def k0_mult3 (i : grid0.Coords) : BitVec 32 :=
  let c1792_i32 : BitVec 32 := 1792#32
  let c0_i32_11 : BitVec 32 := 0#32
  let arg2 : BitVec 32 := BitVec.ofNat 32 (i 2).val
  let c2048_i32_8 : BitVec 32 := 2048#32
  let v19 : BitVec 32 := Scalar.muli arg2 c2048_i32_8
  let c0_i32_9 : BitVec 32 := 0#32
  let v20 : BitVec 32 := Scalar.addi v19 c0_i32_9
  let c64_i32_10 : BitVec 32 := 64#32
  let v21 : BitVec 32 := Scalar.subi v20 c64_i32_10
  let v22 : BitVec 32 := Scalar.maxsi c0_i32_11 v21
  let v23 : BitVec 32 := Scalar.minsi c1792_i32 v22
  let v24 : BitVec 32 := v23
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v25 : BitVec 32 := Scalar.subi v24 v18
  v25
def k0_off1 (i : grid0.Coords) (c0_i32_9 : BitVec 32) : Fin 3 → Nat :=
  let c0_12 : Index := 0#32
  let c1792_i32 : BitVec 32 := 1792#32
  let c0_i32_11 : BitVec 32 := 0#32
  let arg2 : BitVec 32 := BitVec.ofNat 32 (i 2).val
  let c2048_i32_8 : BitVec 32 := 2048#32
  let v19 : BitVec 32 := Scalar.muli arg2 c2048_i32_8
  let v20 : BitVec 32 := Scalar.addi v19 c0_i32_9
  let c64_i32_10 : BitVec 32 := 64#32
  let v21 : BitVec 32 := Scalar.subi v20 c64_i32_10
  let v22 : BitVec 32 := Scalar.maxsi c0_i32_11 v21
  let v23 : BitVec 32 := Scalar.minsi c1792_i32 v22
  let v24 : BitVec 32 := v23
  let v27 : Index := Scalar.indexCast v24
  let c0_13 : Index := 0#32
  ![0, v27.toNat, 0]
def k0_off2 (i : grid0.Coords) (c0_i32_9 : BitVec 32) : Fin 2 → Nat :=
  let c1792_i32 : BitVec 32 := 1792#32
  let c0_i32_11 : BitVec 32 := 0#32
  let arg2 : BitVec 32 := BitVec.ofNat 32 (i 2).val
  let c2048_i32_8 : BitVec 32 := 2048#32
  let v19 : BitVec 32 := Scalar.muli arg2 c2048_i32_8
  let v20 : BitVec 32 := Scalar.addi v19 c0_i32_9
  let c64_i32_10 : BitVec 32 := 64#32
  let v21 : BitVec 32 := Scalar.subi v20 c64_i32_10
  let v22 : BitVec 32 := Scalar.maxsi c0_i32_11 v21
  let v23 : BitVec 32 := Scalar.minsi c1792_i32 v22
  let v24 : BitVec 32 := v23
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v25 : BitVec 32 := Scalar.subi v24 v18
  let v26 : BitVec 32 := v25
  let v86 : Index := Scalar.indexCast v26
  let c0_46 : Index := 0#32
  ![v86.toNat, 0]
def k0_mult4 (i : grid0.Coords) : BitVec 32 :=
  let c1792_i32_61 : BitVec 32 := 1792#32
  let c0_i32_60 : BitVec 32 := 0#32
  let arg2 : BitVec 32 := BitVec.ofNat 32 (i 2).val
  let c2048_i32_57 : BitVec 32 := 2048#32
  let v116 : BitVec 32 := Scalar.muli arg2 c2048_i32_57
  let c128_i32_58 : BitVec 32 := 128#32
  let v117 : BitVec 32 := Scalar.addi v116 c128_i32_58
  let c64_i32_59 : BitVec 32 := 64#32
  let v118 : BitVec 32 := Scalar.subi v117 c64_i32_59
  let v119 : BitVec 32 := Scalar.maxsi c0_i32_60 v118
  let v120 : BitVec 32 := Scalar.minsi c1792_i32_61 v119
  v120
def k0_mult5 (i : grid0.Coords) : BitVec 32 :=
  let c1792_i32_61 : BitVec 32 := 1792#32
  let c0_i32_60 : BitVec 32 := 0#32
  let arg2 : BitVec 32 := BitVec.ofNat 32 (i 2).val
  let c2048_i32_57 : BitVec 32 := 2048#32
  let v116 : BitVec 32 := Scalar.muli arg2 c2048_i32_57
  let c128_i32_58 : BitVec 32 := 128#32
  let v117 : BitVec 32 := Scalar.addi v116 c128_i32_58
  let c64_i32_59 : BitVec 32 := 64#32
  let v118 : BitVec 32 := Scalar.subi v117 c64_i32_59
  let v119 : BitVec 32 := Scalar.maxsi c0_i32_60 v118
  let v120 : BitVec 32 := Scalar.minsi c1792_i32_61 v119
  let v121 : BitVec 32 := v120
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v122 : BitVec 32 := Scalar.subi v121 v18
  v122
def k0_mult6 (i : grid0.Coords) : BitVec 32 :=
  let c1792_i32_112 : BitVec 32 := 1792#32
  let c0_i32_111 : BitVec 32 := 0#32
  let arg2 : BitVec 32 := BitVec.ofNat 32 (i 2).val
  let c2048_i32_109 : BitVec 32 := 2048#32
  let v213 : BitVec 32 := Scalar.muli arg2 c2048_i32_109
  let c256_i32 : BitVec 32 := 256#32
  let v214 : BitVec 32 := Scalar.addi v213 c256_i32
  let c64_i32_110 : BitVec 32 := 64#32
  let v215 : BitVec 32 := Scalar.subi v214 c64_i32_110
  let v216 : BitVec 32 := Scalar.maxsi c0_i32_111 v215
  let v217 : BitVec 32 := Scalar.minsi c1792_i32_112 v216
  v217
def k0_mult7 (i : grid0.Coords) : BitVec 32 :=
  let c1792_i32_112 : BitVec 32 := 1792#32
  let c0_i32_111 : BitVec 32 := 0#32
  let arg2 : BitVec 32 := BitVec.ofNat 32 (i 2).val
  let c2048_i32_109 : BitVec 32 := 2048#32
  let v213 : BitVec 32 := Scalar.muli arg2 c2048_i32_109
  let c256_i32 : BitVec 32 := 256#32
  let v214 : BitVec 32 := Scalar.addi v213 c256_i32
  let c64_i32_110 : BitVec 32 := 64#32
  let v215 : BitVec 32 := Scalar.subi v214 c64_i32_110
  let v216 : BitVec 32 := Scalar.maxsi c0_i32_111 v215
  let v217 : BitVec 32 := Scalar.minsi c1792_i32_112 v216
  let v218 : BitVec 32 := v217
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v219 : BitVec 32 := Scalar.subi v218 v18
  v219
def k0_mult8 (i : grid0.Coords) : BitVec 32 :=
  let c1792_i32_163 : BitVec 32 := 1792#32
  let c0_i32_162 : BitVec 32 := 0#32
  let arg2 : BitVec 32 := BitVec.ofNat 32 (i 2).val
  let c2048_i32_160 : BitVec 32 := 2048#32
  let v310 : BitVec 32 := Scalar.muli arg2 c2048_i32_160
  let c384_i32 : BitVec 32 := 384#32
  let v311 : BitVec 32 := Scalar.addi v310 c384_i32
  let c64_i32_161 : BitVec 32 := 64#32
  let v312 : BitVec 32 := Scalar.subi v311 c64_i32_161
  let v313 : BitVec 32 := Scalar.maxsi c0_i32_162 v312
  let v314 : BitVec 32 := Scalar.minsi c1792_i32_163 v313
  v314
def k0_mult9 (i : grid0.Coords) : BitVec 32 :=
  let c1792_i32_163 : BitVec 32 := 1792#32
  let c0_i32_162 : BitVec 32 := 0#32
  let arg2 : BitVec 32 := BitVec.ofNat 32 (i 2).val
  let c2048_i32_160 : BitVec 32 := 2048#32
  let v310 : BitVec 32 := Scalar.muli arg2 c2048_i32_160
  let c384_i32 : BitVec 32 := 384#32
  let v311 : BitVec 32 := Scalar.addi v310 c384_i32
  let c64_i32_161 : BitVec 32 := 64#32
  let v312 : BitVec 32 := Scalar.subi v311 c64_i32_161
  let v313 : BitVec 32 := Scalar.maxsi c0_i32_162 v312
  let v314 : BitVec 32 := Scalar.minsi c1792_i32_163 v313
  let v315 : BitVec 32 := v314
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v316 : BitVec 32 := Scalar.subi v315 v18
  v316
def k0_mult10 (i : grid0.Coords) : BitVec 32 :=
  let c1792_i32_214 : BitVec 32 := 1792#32
  let c0_i32_213 : BitVec 32 := 0#32
  let arg2 : BitVec 32 := BitVec.ofNat 32 (i 2).val
  let c2048_i32_211 : BitVec 32 := 2048#32
  let v407 : BitVec 32 := Scalar.muli arg2 c2048_i32_211
  let c512_i32 : BitVec 32 := 512#32
  let v408 : BitVec 32 := Scalar.addi v407 c512_i32
  let c64_i32_212 : BitVec 32 := 64#32
  let v409 : BitVec 32 := Scalar.subi v408 c64_i32_212
  let v410 : BitVec 32 := Scalar.maxsi c0_i32_213 v409
  let v411 : BitVec 32 := Scalar.minsi c1792_i32_214 v410
  v411
def k0_mult11 (i : grid0.Coords) : BitVec 32 :=
  let c1792_i32_214 : BitVec 32 := 1792#32
  let c0_i32_213 : BitVec 32 := 0#32
  let arg2 : BitVec 32 := BitVec.ofNat 32 (i 2).val
  let c2048_i32_211 : BitVec 32 := 2048#32
  let v407 : BitVec 32 := Scalar.muli arg2 c2048_i32_211
  let c512_i32 : BitVec 32 := 512#32
  let v408 : BitVec 32 := Scalar.addi v407 c512_i32
  let c64_i32_212 : BitVec 32 := 64#32
  let v409 : BitVec 32 := Scalar.subi v408 c64_i32_212
  let v410 : BitVec 32 := Scalar.maxsi c0_i32_213 v409
  let v411 : BitVec 32 := Scalar.minsi c1792_i32_214 v410
  let v412 : BitVec 32 := v411
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v413 : BitVec 32 := Scalar.subi v412 v18
  v413
def k0_mult12 (i : grid0.Coords) : BitVec 32 :=
  let c1792_i32_265 : BitVec 32 := 1792#32
  let c0_i32_264 : BitVec 32 := 0#32
  let arg2 : BitVec 32 := BitVec.ofNat 32 (i 2).val
  let c2048_i32_262 : BitVec 32 := 2048#32
  let v504 : BitVec 32 := Scalar.muli arg2 c2048_i32_262
  let c640_i32 : BitVec 32 := 640#32
  let v505 : BitVec 32 := Scalar.addi v504 c640_i32
  let c64_i32_263 : BitVec 32 := 64#32
  let v506 : BitVec 32 := Scalar.subi v505 c64_i32_263
  let v507 : BitVec 32 := Scalar.maxsi c0_i32_264 v506
  let v508 : BitVec 32 := Scalar.minsi c1792_i32_265 v507
  v508
def k0_mult13 (i : grid0.Coords) : BitVec 32 :=
  let c1792_i32_265 : BitVec 32 := 1792#32
  let c0_i32_264 : BitVec 32 := 0#32
  let arg2 : BitVec 32 := BitVec.ofNat 32 (i 2).val
  let c2048_i32_262 : BitVec 32 := 2048#32
  let v504 : BitVec 32 := Scalar.muli arg2 c2048_i32_262
  let c640_i32 : BitVec 32 := 640#32
  let v505 : BitVec 32 := Scalar.addi v504 c640_i32
  let c64_i32_263 : BitVec 32 := 64#32
  let v506 : BitVec 32 := Scalar.subi v505 c64_i32_263
  let v507 : BitVec 32 := Scalar.maxsi c0_i32_264 v506
  let v508 : BitVec 32 := Scalar.minsi c1792_i32_265 v507
  let v509 : BitVec 32 := v508
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v510 : BitVec 32 := Scalar.subi v509 v18
  v510
def k0_mult14 (i : grid0.Coords) : BitVec 32 :=
  let c1792_i32_316 : BitVec 32 := 1792#32
  let c0_i32_315 : BitVec 32 := 0#32
  let arg2 : BitVec 32 := BitVec.ofNat 32 (i 2).val
  let c2048_i32_313 : BitVec 32 := 2048#32
  let v601 : BitVec 32 := Scalar.muli arg2 c2048_i32_313
  let c768_i32 : BitVec 32 := 768#32
  let v602 : BitVec 32 := Scalar.addi v601 c768_i32
  let c64_i32_314 : BitVec 32 := 64#32
  let v603 : BitVec 32 := Scalar.subi v602 c64_i32_314
  let v604 : BitVec 32 := Scalar.maxsi c0_i32_315 v603
  let v605 : BitVec 32 := Scalar.minsi c1792_i32_316 v604
  v605
def k0_mult15 (i : grid0.Coords) : BitVec 32 :=
  let c1792_i32_316 : BitVec 32 := 1792#32
  let c0_i32_315 : BitVec 32 := 0#32
  let arg2 : BitVec 32 := BitVec.ofNat 32 (i 2).val
  let c2048_i32_313 : BitVec 32 := 2048#32
  let v601 : BitVec 32 := Scalar.muli arg2 c2048_i32_313
  let c768_i32 : BitVec 32 := 768#32
  let v602 : BitVec 32 := Scalar.addi v601 c768_i32
  let c64_i32_314 : BitVec 32 := 64#32
  let v603 : BitVec 32 := Scalar.subi v602 c64_i32_314
  let v604 : BitVec 32 := Scalar.maxsi c0_i32_315 v603
  let v605 : BitVec 32 := Scalar.minsi c1792_i32_316 v604
  let v606 : BitVec 32 := v605
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v607 : BitVec 32 := Scalar.subi v606 v18
  v607
def k0_mult16 (i : grid0.Coords) : BitVec 32 :=
  let c1792_i32_367 : BitVec 32 := 1792#32
  let c0_i32_366 : BitVec 32 := 0#32
  let arg2 : BitVec 32 := BitVec.ofNat 32 (i 2).val
  let c2048_i32_364 : BitVec 32 := 2048#32
  let v698 : BitVec 32 := Scalar.muli arg2 c2048_i32_364
  let c896_i32 : BitVec 32 := 896#32
  let v699 : BitVec 32 := Scalar.addi v698 c896_i32
  let c64_i32_365 : BitVec 32 := 64#32
  let v700 : BitVec 32 := Scalar.subi v699 c64_i32_365
  let v701 : BitVec 32 := Scalar.maxsi c0_i32_366 v700
  let v702 : BitVec 32 := Scalar.minsi c1792_i32_367 v701
  v702
def k0_mult17 (i : grid0.Coords) : BitVec 32 :=
  let c1792_i32_367 : BitVec 32 := 1792#32
  let c0_i32_366 : BitVec 32 := 0#32
  let arg2 : BitVec 32 := BitVec.ofNat 32 (i 2).val
  let c2048_i32_364 : BitVec 32 := 2048#32
  let v698 : BitVec 32 := Scalar.muli arg2 c2048_i32_364
  let c896_i32 : BitVec 32 := 896#32
  let v699 : BitVec 32 := Scalar.addi v698 c896_i32
  let c64_i32_365 : BitVec 32 := 64#32
  let v700 : BitVec 32 := Scalar.subi v699 c64_i32_365
  let v701 : BitVec 32 := Scalar.maxsi c0_i32_366 v700
  let v702 : BitVec 32 := Scalar.minsi c1792_i32_367 v701
  let v703 : BitVec 32 := v702
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v704 : BitVec 32 := Scalar.subi v703 v18
  v704
def k0_mult18 (i : grid0.Coords) : BitVec 32 :=
  let c1792_i32_418 : BitVec 32 := 1792#32
  let c0_i32_417 : BitVec 32 := 0#32
  let arg2 : BitVec 32 := BitVec.ofNat 32 (i 2).val
  let c2048_i32_415 : BitVec 32 := 2048#32
  let v795 : BitVec 32 := Scalar.muli arg2 c2048_i32_415
  let c1024_i32 : BitVec 32 := 1024#32
  let v796 : BitVec 32 := Scalar.addi v795 c1024_i32
  let c64_i32_416 : BitVec 32 := 64#32
  let v797 : BitVec 32 := Scalar.subi v796 c64_i32_416
  let v798 : BitVec 32 := Scalar.maxsi c0_i32_417 v797
  let v799 : BitVec 32 := Scalar.minsi c1792_i32_418 v798
  v799
def k0_mult19 (i : grid0.Coords) : BitVec 32 :=
  let c1792_i32_418 : BitVec 32 := 1792#32
  let c0_i32_417 : BitVec 32 := 0#32
  let arg2 : BitVec 32 := BitVec.ofNat 32 (i 2).val
  let c2048_i32_415 : BitVec 32 := 2048#32
  let v795 : BitVec 32 := Scalar.muli arg2 c2048_i32_415
  let c1024_i32 : BitVec 32 := 1024#32
  let v796 : BitVec 32 := Scalar.addi v795 c1024_i32
  let c64_i32_416 : BitVec 32 := 64#32
  let v797 : BitVec 32 := Scalar.subi v796 c64_i32_416
  let v798 : BitVec 32 := Scalar.maxsi c0_i32_417 v797
  let v799 : BitVec 32 := Scalar.minsi c1792_i32_418 v798
  let v800 : BitVec 32 := v799
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v801 : BitVec 32 := Scalar.subi v800 v18
  v801
def k0_mult20 (i : grid0.Coords) : BitVec 32 :=
  let c1792_i32_469 : BitVec 32 := 1792#32
  let c0_i32_468 : BitVec 32 := 0#32
  let arg2 : BitVec 32 := BitVec.ofNat 32 (i 2).val
  let c2048_i32_466 : BitVec 32 := 2048#32
  let v892 : BitVec 32 := Scalar.muli arg2 c2048_i32_466
  let c1152_i32 : BitVec 32 := 1152#32
  let v893 : BitVec 32 := Scalar.addi v892 c1152_i32
  let c64_i32_467 : BitVec 32 := 64#32
  let v894 : BitVec 32 := Scalar.subi v893 c64_i32_467
  let v895 : BitVec 32 := Scalar.maxsi c0_i32_468 v894
  let v896 : BitVec 32 := Scalar.minsi c1792_i32_469 v895
  v896
def k0_mult21 (i : grid0.Coords) : BitVec 32 :=
  let c1792_i32_469 : BitVec 32 := 1792#32
  let c0_i32_468 : BitVec 32 := 0#32
  let arg2 : BitVec 32 := BitVec.ofNat 32 (i 2).val
  let c2048_i32_466 : BitVec 32 := 2048#32
  let v892 : BitVec 32 := Scalar.muli arg2 c2048_i32_466
  let c1152_i32 : BitVec 32 := 1152#32
  let v893 : BitVec 32 := Scalar.addi v892 c1152_i32
  let c64_i32_467 : BitVec 32 := 64#32
  let v894 : BitVec 32 := Scalar.subi v893 c64_i32_467
  let v895 : BitVec 32 := Scalar.maxsi c0_i32_468 v894
  let v896 : BitVec 32 := Scalar.minsi c1792_i32_469 v895
  let v897 : BitVec 32 := v896
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v898 : BitVec 32 := Scalar.subi v897 v18
  v898
def k0_mult22 (i : grid0.Coords) : BitVec 32 :=
  let c1792_i32_520 : BitVec 32 := 1792#32
  let c0_i32_519 : BitVec 32 := 0#32
  let arg2 : BitVec 32 := BitVec.ofNat 32 (i 2).val
  let c2048_i32_517 : BitVec 32 := 2048#32
  let v989 : BitVec 32 := Scalar.muli arg2 c2048_i32_517
  let c1280_i32 : BitVec 32 := 1280#32
  let v990 : BitVec 32 := Scalar.addi v989 c1280_i32
  let c64_i32_518 : BitVec 32 := 64#32
  let v991 : BitVec 32 := Scalar.subi v990 c64_i32_518
  let v992 : BitVec 32 := Scalar.maxsi c0_i32_519 v991
  let v993 : BitVec 32 := Scalar.minsi c1792_i32_520 v992
  v993
def k0_mult23 (i : grid0.Coords) : BitVec 32 :=
  let c1792_i32_520 : BitVec 32 := 1792#32
  let c0_i32_519 : BitVec 32 := 0#32
  let arg2 : BitVec 32 := BitVec.ofNat 32 (i 2).val
  let c2048_i32_517 : BitVec 32 := 2048#32
  let v989 : BitVec 32 := Scalar.muli arg2 c2048_i32_517
  let c1280_i32 : BitVec 32 := 1280#32
  let v990 : BitVec 32 := Scalar.addi v989 c1280_i32
  let c64_i32_518 : BitVec 32 := 64#32
  let v991 : BitVec 32 := Scalar.subi v990 c64_i32_518
  let v992 : BitVec 32 := Scalar.maxsi c0_i32_519 v991
  let v993 : BitVec 32 := Scalar.minsi c1792_i32_520 v992
  let v994 : BitVec 32 := v993
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v995 : BitVec 32 := Scalar.subi v994 v18
  v995
def k0_mult24 (i : grid0.Coords) : BitVec 32 :=
  let c1792_i32_571 : BitVec 32 := 1792#32
  let c0_i32_570 : BitVec 32 := 0#32
  let arg2 : BitVec 32 := BitVec.ofNat 32 (i 2).val
  let c2048_i32_568 : BitVec 32 := 2048#32
  let v1086 : BitVec 32 := Scalar.muli arg2 c2048_i32_568
  let c1408_i32 : BitVec 32 := 1408#32
  let v1087 : BitVec 32 := Scalar.addi v1086 c1408_i32
  let c64_i32_569 : BitVec 32 := 64#32
  let v1088 : BitVec 32 := Scalar.subi v1087 c64_i32_569
  let v1089 : BitVec 32 := Scalar.maxsi c0_i32_570 v1088
  let v1090 : BitVec 32 := Scalar.minsi c1792_i32_571 v1089
  v1090
def k0_mult25 (i : grid0.Coords) : BitVec 32 :=
  let c1792_i32_571 : BitVec 32 := 1792#32
  let c0_i32_570 : BitVec 32 := 0#32
  let arg2 : BitVec 32 := BitVec.ofNat 32 (i 2).val
  let c2048_i32_568 : BitVec 32 := 2048#32
  let v1086 : BitVec 32 := Scalar.muli arg2 c2048_i32_568
  let c1408_i32 : BitVec 32 := 1408#32
  let v1087 : BitVec 32 := Scalar.addi v1086 c1408_i32
  let c64_i32_569 : BitVec 32 := 64#32
  let v1088 : BitVec 32 := Scalar.subi v1087 c64_i32_569
  let v1089 : BitVec 32 := Scalar.maxsi c0_i32_570 v1088
  let v1090 : BitVec 32 := Scalar.minsi c1792_i32_571 v1089
  let v1091 : BitVec 32 := v1090
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v1092 : BitVec 32 := Scalar.subi v1091 v18
  v1092
def k0_mult26 (i : grid0.Coords) : BitVec 32 :=
  let c1792_i32_622 : BitVec 32 := 1792#32
  let c0_i32_621 : BitVec 32 := 0#32
  let arg2 : BitVec 32 := BitVec.ofNat 32 (i 2).val
  let c2048_i32_619 : BitVec 32 := 2048#32
  let v1183 : BitVec 32 := Scalar.muli arg2 c2048_i32_619
  let c1536_i32 : BitVec 32 := 1536#32
  let v1184 : BitVec 32 := Scalar.addi v1183 c1536_i32
  let c64_i32_620 : BitVec 32 := 64#32
  let v1185 : BitVec 32 := Scalar.subi v1184 c64_i32_620
  let v1186 : BitVec 32 := Scalar.maxsi c0_i32_621 v1185
  let v1187 : BitVec 32 := Scalar.minsi c1792_i32_622 v1186
  v1187
def k0_mult27 (i : grid0.Coords) : BitVec 32 :=
  let c1792_i32_622 : BitVec 32 := 1792#32
  let c0_i32_621 : BitVec 32 := 0#32
  let arg2 : BitVec 32 := BitVec.ofNat 32 (i 2).val
  let c2048_i32_619 : BitVec 32 := 2048#32
  let v1183 : BitVec 32 := Scalar.muli arg2 c2048_i32_619
  let c1536_i32 : BitVec 32 := 1536#32
  let v1184 : BitVec 32 := Scalar.addi v1183 c1536_i32
  let c64_i32_620 : BitVec 32 := 64#32
  let v1185 : BitVec 32 := Scalar.subi v1184 c64_i32_620
  let v1186 : BitVec 32 := Scalar.maxsi c0_i32_621 v1185
  let v1187 : BitVec 32 := Scalar.minsi c1792_i32_622 v1186
  let v1188 : BitVec 32 := v1187
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v1189 : BitVec 32 := Scalar.subi v1188 v18
  v1189
def k0_mult28 (i : grid0.Coords) : BitVec 32 :=
  let c1792_i32_673 : BitVec 32 := 1792#32
  let c0_i32_672 : BitVec 32 := 0#32
  let arg2 : BitVec 32 := BitVec.ofNat 32 (i 2).val
  let c2048_i32_670 : BitVec 32 := 2048#32
  let v1280 : BitVec 32 := Scalar.muli arg2 c2048_i32_670
  let c1664_i32 : BitVec 32 := 1664#32
  let v1281 : BitVec 32 := Scalar.addi v1280 c1664_i32
  let c64_i32_671 : BitVec 32 := 64#32
  let v1282 : BitVec 32 := Scalar.subi v1281 c64_i32_671
  let v1283 : BitVec 32 := Scalar.maxsi c0_i32_672 v1282
  let v1284 : BitVec 32 := Scalar.minsi c1792_i32_673 v1283
  v1284
def k0_mult29 (i : grid0.Coords) : BitVec 32 :=
  let c1792_i32_673 : BitVec 32 := 1792#32
  let c0_i32_672 : BitVec 32 := 0#32
  let arg2 : BitVec 32 := BitVec.ofNat 32 (i 2).val
  let c2048_i32_670 : BitVec 32 := 2048#32
  let v1280 : BitVec 32 := Scalar.muli arg2 c2048_i32_670
  let c1664_i32 : BitVec 32 := 1664#32
  let v1281 : BitVec 32 := Scalar.addi v1280 c1664_i32
  let c64_i32_671 : BitVec 32 := 64#32
  let v1282 : BitVec 32 := Scalar.subi v1281 c64_i32_671
  let v1283 : BitVec 32 := Scalar.maxsi c0_i32_672 v1282
  let v1284 : BitVec 32 := Scalar.minsi c1792_i32_673 v1283
  let v1285 : BitVec 32 := v1284
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v1286 : BitVec 32 := Scalar.subi v1285 v18
  v1286
def k0_mult30 (i : grid0.Coords) : BitVec 32 :=
  let c1792_i32_725 : BitVec 32 := 1792#32
  let c0_i32_724 : BitVec 32 := 0#32
  let arg2 : BitVec 32 := BitVec.ofNat 32 (i 2).val
  let c2048_i32_721 : BitVec 32 := 2048#32
  let v1377 : BitVec 32 := Scalar.muli arg2 c2048_i32_721
  let c1792_i32_722 : BitVec 32 := 1792#32
  let v1378 : BitVec 32 := Scalar.addi v1377 c1792_i32_722
  let c64_i32_723 : BitVec 32 := 64#32
  let v1379 : BitVec 32 := Scalar.subi v1378 c64_i32_723
  let v1380 : BitVec 32 := Scalar.maxsi c0_i32_724 v1379
  let v1381 : BitVec 32 := Scalar.minsi c1792_i32_725 v1380
  v1381
def k0_mult31 (i : grid0.Coords) : BitVec 32 :=
  let c1792_i32_725 : BitVec 32 := 1792#32
  let c0_i32_724 : BitVec 32 := 0#32
  let arg2 : BitVec 32 := BitVec.ofNat 32 (i 2).val
  let c2048_i32_721 : BitVec 32 := 2048#32
  let v1377 : BitVec 32 := Scalar.muli arg2 c2048_i32_721
  let c1792_i32_722 : BitVec 32 := 1792#32
  let v1378 : BitVec 32 := Scalar.addi v1377 c1792_i32_722
  let c64_i32_723 : BitVec 32 := 64#32
  let v1379 : BitVec 32 := Scalar.subi v1378 c64_i32_723
  let v1380 : BitVec 32 := Scalar.maxsi c0_i32_724 v1379
  let v1381 : BitVec 32 := Scalar.minsi c1792_i32_725 v1380
  let v1382 : BitVec 32 := v1381
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v1383 : BitVec 32 := Scalar.subi v1382 v18
  v1383
def k0_mult32 (i : grid0.Coords) : BitVec 32 :=
  let c1792_i32_776 : BitVec 32 := 1792#32
  let c0_i32_775 : BitVec 32 := 0#32
  let arg2 : BitVec 32 := BitVec.ofNat 32 (i 2).val
  let c2048_i32_773 : BitVec 32 := 2048#32
  let v1474 : BitVec 32 := Scalar.muli arg2 c2048_i32_773
  let c1920_i32 : BitVec 32 := 1920#32
  let v1475 : BitVec 32 := Scalar.addi v1474 c1920_i32
  let c64_i32_774 : BitVec 32 := 64#32
  let v1476 : BitVec 32 := Scalar.subi v1475 c64_i32_774
  let v1477 : BitVec 32 := Scalar.maxsi c0_i32_775 v1476
  let v1478 : BitVec 32 := Scalar.minsi c1792_i32_776 v1477
  v1478
def k0_mult33 (i : grid0.Coords) : BitVec 32 :=
  let c1792_i32_776 : BitVec 32 := 1792#32
  let c0_i32_775 : BitVec 32 := 0#32
  let arg2 : BitVec 32 := BitVec.ofNat 32 (i 2).val
  let c2048_i32_773 : BitVec 32 := 2048#32
  let v1474 : BitVec 32 := Scalar.muli arg2 c2048_i32_773
  let c1920_i32 : BitVec 32 := 1920#32
  let v1475 : BitVec 32 := Scalar.addi v1474 c1920_i32
  let c64_i32_774 : BitVec 32 := 64#32
  let v1476 : BitVec 32 := Scalar.subi v1475 c64_i32_774
  let v1477 : BitVec 32 := Scalar.maxsi c0_i32_775 v1476
  let v1478 : BitVec 32 := Scalar.minsi c1792_i32_776 v1477
  let v1479 : BitVec 32 := v1478
  let c0_i32_7 : BitVec 32 := 0#32
  let c0_i32_6 : BitVec 32 := 0#32
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v1480 : BitVec 32 := Scalar.subi v1479 v18
  v1480
def k0_off3 (i : grid0.Coords) : Fin 2 → Nat :=
  let c0_i32_7 : BitVec 32 := 0#32
  let c0_i32_6 : BitVec 32 := 0#32
  let arg2 : BitVec 32 := BitVec.ofNat 32 (i 2).val
  let c2048_i32 : BitVec 32 := 2048#32
  let v14 : BitVec 32 := Scalar.muli arg2 c2048_i32
  let c64_i32_5 : BitVec 32 := 64#32
  let v15 : BitVec 32 := Scalar.subi v14 c64_i32_5
  let v16 : BitVec 32 := Scalar.maxsi c0_i32_6 v15
  let v17 : BitVec 32 := Scalar.minsi c0_i32_7 v16
  let v18 : BitVec 32 := v17
  let v1571 : Index := Scalar.indexCast v18
  let c0_824 : Index := 0#32
  ![v1571.toNat, 0]
def k0_cond2 (i : grid0.Coords) : BitVec 1 :=
  let arg2 : BitVec 32 := BitVec.ofNat 32 (i 2).val
  let c0_i32_832 : BitVec 32 := 0#32
  let v1587 : BitVec 1 := Scalar.cmpi .eq arg2 c0_i32_832
  let v1588 : BitVec 32 := Scalar.extui v1587
  let c0_i32_833 : BitVec 32 := 0#32
  let v1589 : BitVec 1 := Scalar.cmpi .ne v1588 c0_i32_833
  v1589

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Kernel9Ideal.lean ====
variable {F : FTy → Type} [FloatOps F] [Named F]
def κ : String → Option EReal := fun
  | "mask" => some ⊥
  | _ => none
-- ==== Reference9Ideal.lean ====
abbrev S3x8192x8x64 : Shape := ⟨4, ![3, 8192, 8, 64]⟩
abbrev S8192x512 : Shape := ⟨2, ![8192, 512]⟩
abbrev S1x8192x8x64 : Shape := ⟨4, ![1, 8192, 8, 64]⟩
abbrev S8192x8x64 : Shape := ⟨3, ![8192, 8, 64]⟩
abbrev S8192x1x8x64 : Shape := ⟨4, ![8192, 1, 8, 64]⟩
abbrev S_ : Shape := ⟨0, ![]⟩
abbrev S1x64x8x64 : Shape := ⟨4, ![1, 64, 8, 64]⟩
abbrev S8192 : Shape := ⟨1, ![8192]⟩
abbrev S128x64 : Shape := ⟨2, ![128, 64]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S128x64x1 : Shape := ⟨3, ![128, 64, 1]⟩
abbrev S128x1x192 : Shape := ⟨3, ![128, 1, 192]⟩
abbrev S128x64x192 : Shape := ⟨3, ![128, 64, 192]⟩
abbrev S1x128x64x8x64 : Shape := ⟨5, ![1, 128, 64, 8, 64]⟩
abbrev S1x8320x8x64 : Shape := ⟨4, ![1, 8320, 8, 64]⟩
abbrev S1x130x64x8x64 : Shape := ⟨5, ![1, 130, 64, 8, 64]⟩
abbrev S1x128x192x8x64 : Shape := ⟨5, ![1, 128, 192, 8, 64]⟩
abbrev S1x128x8x64x192 : Shape := ⟨5, ![1, 128, 8, 64, 192]⟩
abbrev S1x128x1x64x192 : Shape := ⟨5, ![1, 128, 1, 64, 192]⟩
abbrev S1x128x8x64 : Shape := ⟨4, ![1, 128, 8, 64]⟩
abbrev S1x128x8x64x1 : Shape := ⟨5, ![1, 128, 8, 64, 1]⟩
abbrev S1x128x8x64x64 : Shape := ⟨5, ![1, 128, 8, 64, 64]⟩
abbrev S1x128x64x8 : Shape := ⟨4, ![1, 128, 64, 8]⟩
abbrev S1x8192x8 : Shape := ⟨3, ![1, 8192, 8]⟩
abbrev S8192x1x8 : Shape := ⟨3, ![8192, 1, 8]⟩
abbrev S8192x8 : Shape := ⟨2, ![8192, 8]⟩
abbrev S2048x4x8x64 : Shape := ⟨4, ![2048, 4, 8, 64]⟩
abbrev S4x2048x8x64 : Shape := ⟨4, ![4, 2048, 8, 64]⟩
abbrev S4x64x8x64 : Shape := ⟨4, ![4, 64, 8, 64]⟩
abbrev S2048 : Shape := ⟨1, ![2048]⟩
abbrev S32x64 : Shape := ⟨2, ![32, 64]⟩
abbrev S32 : Shape := ⟨1, ![32]⟩
abbrev S32x1 : Shape := ⟨2, ![32, 1]⟩
abbrev S32x192 : Shape := ⟨2, ![32, 192]⟩
abbrev S32x64x1 : Shape := ⟨3, ![32, 64, 1]⟩
abbrev S32x1x192 : Shape := ⟨3, ![32, 1, 192]⟩
abbrev S32x64x192 : Shape := ⟨3, ![32, 64, 192]⟩
abbrev S4x32x64x8x64 : Shape := ⟨5, ![4, 32, 64, 8, 64]⟩
abbrev S4x2176x8x64 : Shape := ⟨4, ![4, 2176, 8, 64]⟩
abbrev S4x34x64x8x64 : Shape := ⟨5, ![4, 34, 64, 8, 64]⟩
abbrev S4x32x192x8x64 : Shape := ⟨5, ![4, 32, 192, 8, 64]⟩
abbrev S4x32x8x64x192 : Shape := ⟨5, ![4, 32, 8, 64, 192]⟩
abbrev S1x32x1x64x192 : Shape := ⟨5, ![1, 32, 1, 64, 192]⟩
abbrev S4x32x8x64 : Shape := ⟨4, ![4, 32, 8, 64]⟩
abbrev S4x32x8x64x1 : Shape := ⟨5, ![4, 32, 8, 64, 1]⟩
abbrev S4x32x8x64x64 : Shape := ⟨5, ![4, 32, 8, 64, 64]⟩
abbrev S4x32x64x8 : Shape := ⟨4, ![4, 32, 64, 8]⟩
abbrev S4x2048x8 : Shape := ⟨3, ![4, 2048, 8]⟩
abbrev S2048x4x8 : Shape := ⟨3, ![2048, 4, 8]⟩
abbrev S512x16x8x64 : Shape := ⟨4, ![512, 16, 8, 64]⟩
abbrev S16x512x8x64 : Shape := ⟨4, ![16, 512, 8, 64]⟩
abbrev S16x64x8x64 : Shape := ⟨4, ![16, 64, 8, 64]⟩
abbrev S512 : Shape := ⟨1, ![512]⟩
abbrev S8x64 : Shape := ⟨2, ![8, 64]⟩
abbrev S8 : Shape := ⟨1, ![8]⟩
abbrev S8x1 : Shape := ⟨2, ![8, 1]⟩
abbrev S8x192 : Shape := ⟨2, ![8, 192]⟩
abbrev S8x64x1 : Shape := ⟨3, ![8, 64, 1]⟩
abbrev S8x1x192 : Shape := ⟨3, ![8, 1, 192]⟩
abbrev S8x64x192 : Shape := ⟨3, ![8, 64, 192]⟩
abbrev S16x8x64x8x64 : Shape := ⟨5, ![16, 8, 64, 8, 64]⟩
abbrev S16x640x8x64 : Shape := ⟨4, ![16, 640, 8, 64]⟩
abbrev S16x10x64x8x64 : Shape := ⟨5, ![16, 10, 64, 8, 64]⟩
abbrev S16x8x192x8x64 : Shape := ⟨5, ![16, 8, 192, 8, 64]⟩
abbrev S16x8x8x64x192 : Shape := ⟨5, ![16, 8, 8, 64, 192]⟩
abbrev S1x8x1x64x192 : Shape := ⟨5, ![1, 8, 1, 64, 192]⟩
abbrev S16x8x8x64 : Shape := ⟨4, ![16, 8, 8, 64]⟩
abbrev S16x8x8x64x1 : Shape := ⟨5, ![16, 8, 8, 64, 1]⟩
abbrev S16x8x8x64x64 : Shape := ⟨5, ![16, 8, 8, 64, 64]⟩
abbrev S16x8x64x8 : Shape := ⟨4, ![16, 8, 64, 8]⟩
abbrev S16x512x8 : Shape := ⟨3, ![16, 512, 8]⟩
abbrev S512x16x8 : Shape := ⟨3, ![512, 16, 8]⟩
abbrev S3x8192x8 : Shape := ⟨3, ![3, 8192, 8]⟩
abbrev S3x8192x8x1 : Shape := ⟨4, ![3, 8192, 8, 1]⟩
abbrev S4x32x8x192x64 : Shape := ⟨5, ![4, 32, 8, 192, 64]⟩

abbrev nBuf : Space → Nat
  | .hbm => 589
  | .vmem => 0
  | .smem => 0
  | _ => 0

abbrev hbmTy0_0 (i : Nat) : BufTy := match i % 128 with
  | 0 => ⟨S3x8192x8x64, .f32⟩
  | 1 => ⟨S3x8192x8x64, .f32⟩
  | 2 => ⟨S3x8192x8x64, .f32⟩
  | 3 => ⟨S8192x512, .f32⟩
  | 4 => ⟨S1x8192x8x64, .f32⟩
  | 5 => ⟨S8192x8x64, .f32⟩
  | 6 => ⟨S1x8192x8x64, .f32⟩
  | 7 => ⟨S8192x8x64, .f32⟩
  | 8 => ⟨S1x8192x8x64, .f32⟩
  | 9 => ⟨S8192x8x64, .f32⟩
  | 10 => ⟨S8192x1x8x64, .f32⟩
  | 11 => ⟨S1x8192x8x64, .f32⟩
  | 12 => ⟨S8192x1x8x64, .f32⟩
  | 13 => ⟨S1x8192x8x64, .f32⟩
  | 14 => ⟨S8192x1x8x64, .f32⟩
  | 15 => ⟨S1x8192x8x64, .f32⟩
  | 16 => ⟨S_, .f32⟩
  | 17 => ⟨S1x64x8x64, .f32⟩
  | 18 => ⟨S8192, .i32⟩
  | 19 => ⟨S128x64, .i32⟩
  | 20 => ⟨S128, .i32⟩
  | 21 => ⟨S128x1, .i32⟩
  | 22 => ⟨S_, .i32⟩
  | 23 => ⟨S128x1, .i32⟩
  | 24 => ⟨S128x1, .i32⟩
  | 25 => ⟨S_, .i32⟩
  | 26 => ⟨S128x1, .i32⟩
  | 27 => ⟨S128x1, .i32⟩
  | 28 => ⟨S192, .i32⟩
  | 29 => ⟨S1x192, .i32⟩
  | 30 => ⟨S128x192, .i32⟩
  | 31 => ⟨S128x192, .i32⟩
  | 32 => ⟨S128x192, .i32⟩
  | 33 => ⟨S128x64x1, .i32⟩
  | 34 => ⟨S128x1x192, .i32⟩
  | 35 => ⟨S128x64x192, .i32⟩
  | 36 => ⟨S128x64x192, .i32⟩
  | 37 => ⟨S128x64x192, .i32⟩
  | 38 => ⟨S128x64x192, .i32⟩
  | 39 => ⟨S_, .i32⟩
  | 40 => ⟨S128x64x192, .i32⟩
  | 41 => ⟨S128x64x192, .i1⟩
  | 42 => ⟨S128x1x192, .i32⟩
  | 43 => ⟨S_, .i32⟩
  | 44 => ⟨S128x1x192, .i32⟩
  | 45 => ⟨S128x1x192, .i1⟩
  | 46 => ⟨S128x64x192, .i1⟩
  | 47 => ⟨S128x64x192, .i1⟩
  | 48 => ⟨S128x1x192, .i32⟩
  | 49 => ⟨S_, .i32⟩
  | 50 => ⟨S128x1x192, .i32⟩
  | 51 => ⟨S128x1x192, .i1⟩
  | 52 => ⟨S128x64x192, .i1⟩
  | 53 => ⟨S128x64x192, .i1⟩
  | 54 => ⟨S1x128x64x8x64, .f32⟩
  | 55 => ⟨S1x8320x8x64, .f32⟩
  | 56 => ⟨S1x130x64x8x64, .f32⟩
  | 57 => ⟨S1x128x64x8x64, .f32⟩
  | 58 => ⟨S1x128x64x8x64, .f32⟩
  | 59 => ⟨S1x128x64x8x64, .f32⟩
  | 60 => ⟨S1x128x192x8x64, .f32⟩
  | 61 => ⟨S1x128x8x64x192, .f32⟩
  | 62 => ⟨S_, .f32⟩
  | 63 => ⟨S1x128x8x64x192, .f32⟩
  | 64 => ⟨S1x128x8x64x192, .f32⟩
  | 65 => ⟨S1x128x1x64x192, .i1⟩
  | 66 => ⟨S_, .f32⟩
  | 67 => ⟨S_, .f32⟩
  | 68 => ⟨S1x128x8x64x192, .i1⟩
  | 69 => ⟨S1x128x8x64x192, .f32⟩
  | 70 => ⟨S1x128x8x64x192, .f32⟩
  | 71 => ⟨S_, .f32⟩
  | 72 => ⟨S1x128x8x64, .f32⟩
  | 73 => ⟨S1x128x8x64x1, .f32⟩
  | 74 => ⟨S1x128x8x64x192, .f32⟩
  | 75 => ⟨S1x128x8x64x192, .f32⟩
  | 76 => ⟨S1x128x8x64x192, .f32⟩
  | 77 => ⟨S_, .f32⟩
  | 78 => ⟨S1x128x8x64, .f32⟩
  | 79 => ⟨S1x128x8x64x1, .f32⟩
  | 80 => ⟨S1x128x8x64x192, .f32⟩
  | 81 => ⟨S1x128x8x64x192, .f32⟩
  | 82 => ⟨S1x8320x8x64, .f32⟩
  | 83 => ⟨S1x130x64x8x64, .f32⟩
  | 84 => ⟨S1x128x64x8x64, .f32⟩
  | 85 => ⟨S1x128x64x8x64, .f32⟩
  | 86 => ⟨S1x128x64x8x64, .f32⟩
  | 87 => ⟨S1x128x192x8x64, .f32⟩
  | 88 => ⟨S1x128x8x64x64, .f32⟩
  | 89 => ⟨S1x128x64x8x64, .f32⟩
  | 90 => ⟨S1x8192x8x64, .f32⟩
  | 91 => ⟨S1x128x8x64x1, .f32⟩
  | 92 => ⟨S1x128x8x64x1, .f32⟩
  | 93 => ⟨S1x128x8x64, .f32⟩
  | 94 => ⟨S1x128x64x8, .f32⟩
  | 95 => ⟨S1x8192x8, .f32⟩
  | 96 => ⟨S8192x1x8x64, .f32⟩
  | 97 => ⟨S8192x8x64, .f32⟩
  | 98 => ⟨S8192x1x8, .f32⟩
  | 99 => ⟨S8192x8, .f32⟩
  | 100 => ⟨S1x8192x8x64, .f32⟩
  | 101 => ⟨S8192x8x64, .f32⟩
  | 102 => ⟨S1x8192x8x64, .f32⟩
  | 103 => ⟨S8192x8x64, .f32⟩
  | 104 => ⟨S1x8192x8x64, .f32⟩
  | 105 => ⟨S8192x8x64, .f32⟩
  | 106 => ⟨S2048x4x8x64, .f32⟩
  | 107 => ⟨S4x2048x8x64, .f32⟩
  | 108 => ⟨S2048x4x8x64, .f32⟩
  | 109 => ⟨S4x2048x8x64, .f32⟩
  | 110 => ⟨S2048x4x8x64, .f32⟩
  | 111 => ⟨S4x2048x8x64, .f32⟩
  | 112 => ⟨S_, .f32⟩
  | 113 => ⟨S4x64x8x64, .f32⟩
  | 114 => ⟨S2048, .i32⟩
  | 115 => ⟨S32x64, .i32⟩
  | 116 => ⟨S32, .i32⟩
  | 117 => ⟨S32x1, .i32⟩
  | 118 => ⟨S_, .i32⟩
  | 119 => ⟨S32x1, .i32⟩
  | 120 => ⟨S32x1, .i32⟩
  | 121 => ⟨S_, .i32⟩
  | 122 => ⟨S32x1, .i32⟩
  | 123 => ⟨S32x1, .i32⟩
  | 124 => ⟨S192, .i32⟩
  | 125 => ⟨S1x192, .i32⟩
  | 126 => ⟨S32x192, .i32⟩
  | 127 => ⟨S32x192, .i32⟩
  | _ => ⟨S3x8192x8x64, .f32⟩

abbrev hbmTy0_1 (i : Nat) : BufTy := match i % 128 with
  | 0 => ⟨S32x192, .i32⟩
  | 1 => ⟨S32x64x1, .i32⟩
  | 2 => ⟨S32x1x192, .i32⟩
  | 3 => ⟨S32x64x192, .i32⟩
  | 4 => ⟨S32x64x192, .i32⟩
  | 5 => ⟨S32x64x192, .i32⟩
  | 6 => ⟨S32x64x192, .i32⟩
  | 7 => ⟨S_, .i32⟩
  | 8 => ⟨S32x64x192, .i32⟩
  | 9 => ⟨S32x64x192, .i1⟩
  | 10 => ⟨S32x1x192, .i32⟩
  | 11 => ⟨S_, .i32⟩
  | 12 => ⟨S32x1x192, .i32⟩
  | 13 => ⟨S32x1x192, .i1⟩
  | 14 => ⟨S32x64x192, .i1⟩
  | 15 => ⟨S32x64x192, .i1⟩
  | 16 => ⟨S32x1x192, .i32⟩
  | 17 => ⟨S_, .i32⟩
  | 18 => ⟨S32x1x192, .i32⟩
  | 19 => ⟨S32x1x192, .i1⟩
  | 20 => ⟨S32x64x192, .i1⟩
  | 21 => ⟨S32x64x192, .i1⟩
  | 22 => ⟨S4x32x64x8x64, .f32⟩
  | 23 => ⟨S4x2176x8x64, .f32⟩
  | 24 => ⟨S4x34x64x8x64, .f32⟩
  | 25 => ⟨S4x32x64x8x64, .f32⟩
  | 26 => ⟨S4x32x64x8x64, .f32⟩
  | 27 => ⟨S4x32x64x8x64, .f32⟩
  | 28 => ⟨S4x32x192x8x64, .f32⟩
  | 29 => ⟨S4x32x8x64x192, .f32⟩
  | 30 => ⟨S_, .f32⟩
  | 31 => ⟨S4x32x8x64x192, .f32⟩
  | 32 => ⟨S4x32x8x64x192, .f32⟩
  | 33 => ⟨S1x32x1x64x192, .i1⟩
  | 34 => ⟨S_, .f32⟩
  | 35 => ⟨S_, .f32⟩
  | 36 => ⟨S4x32x8x64x192, .i1⟩
  | 37 => ⟨S4x32x8x64x192, .f32⟩
  | 38 => ⟨S4x32x8x64x192, .f32⟩
  | 39 => ⟨S_, .f32⟩
  | 40 => ⟨S4x32x8x64, .f32⟩
  | 41 => ⟨S4x32x8x64x1, .f32⟩
  | 42 => ⟨S4x32x8x64x192, .f32⟩
  | 43 => ⟨S4x32x8x64x192, .f32⟩
  | 44 => ⟨S4x32x8x64x192, .f32⟩
  | 45 => ⟨S_, .f32⟩
  | 46 => ⟨S4x32x8x64, .f32⟩
  | 47 => ⟨S4x32x8x64x1, .f32⟩
  | 48 => ⟨S4x32x8x64x192, .f32⟩
  | 49 => ⟨S4x32x8x64x192, .f32⟩
  | 50 => ⟨S4x2176x8x64, .f32⟩
  | 51 => ⟨S4x34x64x8x64, .f32⟩
  | 52 => ⟨S4x32x64x8x64, .f32⟩
  | 53 => ⟨S4x32x64x8x64, .f32⟩
  | 54 => ⟨S4x32x64x8x64, .f32⟩
  | 55 => ⟨S4x32x192x8x64, .f32⟩
  | 56 => ⟨S4x32x8x64x64, .f32⟩
  | 57 => ⟨S4x32x64x8x64, .f32⟩
  | 58 => ⟨S4x2048x8x64, .f32⟩
  | 59 => ⟨S4x32x8x64x1, .f32⟩
  | 60 => ⟨S4x32x8x64x1, .f32⟩
  | 61 => ⟨S4x32x8x64, .f32⟩
  | 62 => ⟨S4x32x64x8, .f32⟩
  | 63 => ⟨S4x2048x8, .f32⟩
  | 64 => ⟨S2048x4x8x64, .f32⟩
  | 65 => ⟨S8192x8x64, .f32⟩
  | 66 => ⟨S2048x4x8, .f32⟩
  | 67 => ⟨S8192x8, .f32⟩
  | 68 => ⟨S1x8192x8x64, .f32⟩
  | 69 => ⟨S8192x8x64, .f32⟩
  | 70 => ⟨S1x8192x8x64, .f32⟩
  | 71 => ⟨S8192x8x64, .f32⟩
  | 72 => ⟨S1x8192x8x64, .f32⟩
  | 73 => ⟨S8192x8x64, .f32⟩
  | 74 => ⟨S512x16x8x64, .f32⟩
  | 75 => ⟨S16x512x8x64, .f32⟩
  | 76 => ⟨S512x16x8x64, .f32⟩
  | 77 => ⟨S16x512x8x64, .f32⟩
  | 78 => ⟨S512x16x8x64, .f32⟩
  | 79 => ⟨S16x512x8x64, .f32⟩
  | 80 => ⟨S_, .f32⟩
  | 81 => ⟨S16x64x8x64, .f32⟩
  | 82 => ⟨S512, .i32⟩
  | 83 => ⟨S8x64, .i32⟩
  | 84 => ⟨S8, .i32⟩
  | 85 => ⟨S8x1, .i32⟩
  | 86 => ⟨S_, .i32⟩
  | 87 => ⟨S8x1, .i32⟩
  | 88 => ⟨S8x1, .i32⟩
  | 89 => ⟨S_, .i32⟩
  | 90 => ⟨S8x1, .i32⟩
  | 91 => ⟨S8x1, .i32⟩
  | 92 => ⟨S192, .i32⟩
  | 93 => ⟨S1x192, .i32⟩
  | 94 => ⟨S8x192, .i32⟩
  | 95 => ⟨S8x192, .i32⟩
  | 96 => ⟨S8x192, .i32⟩
  | 97 => ⟨S8x64x1, .i32⟩
  | 98 => ⟨S8x1x192, .i32⟩
  | 99 => ⟨S8x64x192, .i32⟩
  | 100 => ⟨S8x64x192, .i32⟩
  | 101 => ⟨S8x64x192, .i32⟩
  | 102 => ⟨S8x64x192, .i32⟩
  | 103 => ⟨S_, .i32⟩
  | 104 => ⟨S8x64x192, .i32⟩
  | 105 => ⟨S8x64x192, .i1⟩
  | 106 => ⟨S8x1x192, .i32⟩
  | 107 => ⟨S_, .i32⟩
  | 108 => ⟨S8x1x192, .i32⟩
  | 109 => ⟨S8x1x192, .i1⟩
  | 110 => ⟨S8x64x192, .i1⟩
  | 111 => ⟨S8x64x192, .i1⟩
  | 112 => ⟨S8x1x192, .i32⟩
  | 113 => ⟨S_, .i32⟩
  | 114 => ⟨S8x1x192, .i32⟩
  | 115 => ⟨S8x1x192, .i1⟩
  | 116 => ⟨S8x64x192, .i1⟩
  | 117 => ⟨S8x64x192, .i1⟩
  | 118 => ⟨S16x8x64x8x64, .f32⟩
  | 119 => ⟨S16x640x8x64, .f32⟩
  | 120 => ⟨S16x10x64x8x64, .f32⟩
  | 121 => ⟨S16x8x64x8x64, .f32⟩
  | 122 => ⟨S16x8x64x8x64, .f32⟩
  | 123 => ⟨S16x8x64x8x64, .f32⟩
  | 124 => ⟨S16x8x192x8x64, .f32⟩
  | 125 => ⟨S16x8x8x64x192, .f32⟩
  | 126 => ⟨S_, .f32⟩
  | 127 => ⟨S16x8x8x64x192, .f32⟩
  | _ => ⟨S3x8192x8x64, .f32⟩

abbrev hbmTy0_2 (i : Nat) : BufTy := match i % 128 with
  | 0 => ⟨S16x8x8x64x192, .f32⟩
  | 1 => ⟨S1x8x1x64x192, .i1⟩
  | 2 => ⟨S_, .f32⟩
  | 3 => ⟨S_, .f32⟩
  | 4 => ⟨S16x8x8x64x192, .i1⟩
  | 5 => ⟨S16x8x8x64x192, .f32⟩
  | 6 => ⟨S16x8x8x64x192, .f32⟩
  | 7 => ⟨S_, .f32⟩
  | 8 => ⟨S16x8x8x64, .f32⟩
  | 9 => ⟨S16x8x8x64x1, .f32⟩
  | 10 => ⟨S16x8x8x64x192, .f32⟩
  | 11 => ⟨S16x8x8x64x192, .f32⟩
  | 12 => ⟨S16x8x8x64x192, .f32⟩
  | 13 => ⟨S_, .f32⟩
  | 14 => ⟨S16x8x8x64, .f32⟩
  | 15 => ⟨S16x8x8x64x1, .f32⟩
  | 16 => ⟨S16x8x8x64x192, .f32⟩
  | 17 => ⟨S16x8x8x64x192, .f32⟩
  | 18 => ⟨S16x640x8x64, .f32⟩
  | 19 => ⟨S16x10x64x8x64, .f32⟩
  | 20 => ⟨S16x8x64x8x64, .f32⟩
  | 21 => ⟨S16x8x64x8x64, .f32⟩
  | 22 => ⟨S16x8x64x8x64, .f32⟩
  | 23 => ⟨S16x8x192x8x64, .f32⟩
  | 24 => ⟨S16x8x8x64x64, .f32⟩
  | 25 => ⟨S16x8x64x8x64, .f32⟩
  | 26 => ⟨S16x512x8x64, .f32⟩
  | 27 => ⟨S16x8x8x64x1, .f32⟩
  | 28 => ⟨S16x8x8x64x1, .f32⟩
  | 29 => ⟨S16x8x8x64, .f32⟩
  | 30 => ⟨S16x8x64x8, .f32⟩
  | 31 => ⟨S16x512x8, .f32⟩
  | 32 => ⟨S512x16x8x64, .f32⟩
  | 33 => ⟨S8192x8x64, .f32⟩
  | 34 => ⟨S512x16x8, .f32⟩
  | 35 => ⟨S8192x8, .f32⟩
  | 36 => ⟨S1x8192x8x64, .f32⟩
  | 37 => ⟨S8192x8x64, .f32⟩
  | 38 => ⟨S1x8192x8x64, .f32⟩
  | 39 => ⟨S8192x8x64, .f32⟩
  | 40 => ⟨S1x8192x8x64, .f32⟩
  | 41 => ⟨S8192x8x64, .f32⟩
  | 42 => ⟨S2048x4x8x64, .f32⟩
  | 43 => ⟨S4x2048x8x64, .f32⟩
  | 44 => ⟨S2048x4x8x64, .f32⟩
  | 45 => ⟨S4x2048x8x64, .f32⟩
  | 46 => ⟨S2048x4x8x64, .f32⟩
  | 47 => ⟨S4x2048x8x64, .f32⟩
  | 48 => ⟨S_, .f32⟩
  | 49 => ⟨S4x64x8x64, .f32⟩
  | 50 => ⟨S2048, .i32⟩
  | 51 => ⟨S32x64, .i32⟩
  | 52 => ⟨S32, .i32⟩
  | 53 => ⟨S32x1, .i32⟩
  | 54 => ⟨S_, .i32⟩
  | 55 => ⟨S32x1, .i32⟩
  | 56 => ⟨S32x1, .i32⟩
  | 57 => ⟨S_, .i32⟩
  | 58 => ⟨S32x1, .i32⟩
  | 59 => ⟨S32x1, .i32⟩
  | 60 => ⟨S192, .i32⟩
  | 61 => ⟨S1x192, .i32⟩
  | 62 => ⟨S32x192, .i32⟩
  | 63 => ⟨S32x192, .i32⟩
  | 64 => ⟨S32x192, .i32⟩
  | 65 => ⟨S32x64x1, .i32⟩
  | 66 => ⟨S32x1x192, .i32⟩
  | 67 => ⟨S32x64x192, .i32⟩
  | 68 => ⟨S32x64x192, .i32⟩
  | 69 => ⟨S32x64x192, .i32⟩
  | 70 => ⟨S32x64x192, .i32⟩
  | 71 => ⟨S_, .i32⟩
  | 72 => ⟨S32x64x192, .i32⟩
  | 73 => ⟨S32x64x192, .i1⟩
  | 74 => ⟨S32x1x192, .i32⟩
  | 75 => ⟨S_, .i32⟩
  | 76 => ⟨S32x1x192, .i32⟩
  | 77 => ⟨S32x1x192, .i1⟩
  | 78 => ⟨S32x64x192, .i1⟩
  | 79 => ⟨S32x64x192, .i1⟩
  | 80 => ⟨S32x1x192, .i32⟩
  | 81 => ⟨S_, .i32⟩
  | 82 => ⟨S32x1x192, .i32⟩
  | 83 => ⟨S32x1x192, .i1⟩
  | 84 => ⟨S32x64x192, .i1⟩
  | 85 => ⟨S32x64x192, .i1⟩
  | 86 => ⟨S4x32x64x8x64, .f32⟩
  | 87 => ⟨S4x2176x8x64, .f32⟩
  | 88 => ⟨S_, .f32⟩
  | 89 => ⟨S4x64x8x64, .f32⟩
  | 90 => ⟨S_, .f32⟩
  | 91 => ⟨S4x64x8x64, .f32⟩
  | 92 => ⟨S4x34x64x8x64, .f32⟩
  | 93 => ⟨S4x32x64x8x64, .f32⟩
  | 94 => ⟨S4x32x64x8x64, .f32⟩
  | 95 => ⟨S4x32x64x8x64, .f32⟩
  | 96 => ⟨S4x32x192x8x64, .f32⟩
  | 97 => ⟨S4x32x8x64x192, .f32⟩
  | 98 => ⟨S_, .f32⟩
  | 99 => ⟨S4x32x8x64x192, .f32⟩
  | 100 => ⟨S4x32x8x64x192, .f32⟩
  | 101 => ⟨S1x32x1x64x192, .i1⟩
  | 102 => ⟨S_, .f32⟩
  | 103 => ⟨S_, .f32⟩
  | 104 => ⟨S4x32x8x64x192, .i1⟩
  | 105 => ⟨S4x32x8x64x192, .f32⟩
  | 106 => ⟨S4x32x8x64x192, .f32⟩
  | 107 => ⟨S_, .f32⟩
  | 108 => ⟨S4x32x8x64x192, .f32⟩
  | 109 => ⟨S_, .f32⟩
  | 110 => ⟨S4x32x8x64, .f32⟩
  | 111 => ⟨S4x32x8x64x1, .f32⟩
  | 112 => ⟨S4x32x8x64x192, .f32⟩
  | 113 => ⟨S4x32x8x64x192, .i1⟩
  | 114 => ⟨S4x32x8x64x192, .f32⟩
  | 115 => ⟨S_, .f32⟩
  | 116 => ⟨S4x32x8x64, .f32⟩
  | 117 => ⟨S4x32x8x64x1, .f32⟩
  | 118 => ⟨S4x32x8x64x192, .f32⟩
  | 119 => ⟨S4x32x8x64x192, .f32⟩
  | 120 => ⟨S4x32x8x64x192, .f32⟩
  | 121 => ⟨S_, .f32⟩
  | 122 => ⟨S4x32x8x64, .f32⟩
  | 123 => ⟨S4x32x8x64x1, .f32⟩
  | 124 => ⟨S4x32x8x64x192, .f32⟩
  | 125 => ⟨S4x32x8x64x192, .f32⟩
  | 126 => ⟨S4x32x8x64x1, .f32⟩
  | 127 => ⟨S_, .f32⟩
  | _ => ⟨S3x8192x8x64, .f32⟩

abbrev hbmTy0_3 (i : Nat) : BufTy := match i % 128 with
  | 0 => ⟨S4x32x8x64x1, .f32⟩
  | 1 => ⟨S4x32x8x64x1, .f32⟩
  | 2 => ⟨S4x2176x8x64, .f32⟩
  | 3 => ⟨S_, .f32⟩
  | 4 => ⟨S4x64x8x64, .f32⟩
  | 5 => ⟨S_, .f32⟩
  | 6 => ⟨S4x64x8x64, .f32⟩
  | 7 => ⟨S4x34x64x8x64, .f32⟩
  | 8 => ⟨S4x32x64x8x64, .f32⟩
  | 9 => ⟨S4x32x64x8x64, .f32⟩
  | 10 => ⟨S4x32x64x8x64, .f32⟩
  | 11 => ⟨S4x32x192x8x64, .f32⟩
  | 12 => ⟨S4x32x8x64x64, .f32⟩
  | 13 => ⟨S4x32x64x8x64, .f32⟩
  | 14 => ⟨S4x2048x8x64, .f32⟩
  | 15 => ⟨S4x32x8x64x1, .f32⟩
  | 16 => ⟨S4x32x8x64x1, .f32⟩
  | 17 => ⟨S4x32x8x64, .f32⟩
  | 18 => ⟨S4x32x64x8, .f32⟩
  | 19 => ⟨S4x2048x8, .f32⟩
  | 20 => ⟨S2048x4x8x64, .f32⟩
  | 21 => ⟨S8192x8x64, .f32⟩
  | 22 => ⟨S2048x4x8, .f32⟩
  | 23 => ⟨S8192x8, .f32⟩
  | 24 => ⟨S1x8192x8, .f32⟩
  | 25 => ⟨S1x8192x8, .f32⟩
  | 26 => ⟨S1x8192x8, .f32⟩
  | 27 => ⟨S3x8192x8, .f32⟩
  | 28 => ⟨S_, .f32⟩
  | 29 => ⟨S8192x8, .f32⟩
  | 30 => ⟨S_, .f32⟩
  | 31 => ⟨S8192x8, .f32⟩
  | 32 => ⟨S_, .f32⟩
  | 33 => ⟨S8192x8, .f32⟩
  | 34 => ⟨S1x8192x8, .f32⟩
  | 35 => ⟨S3x8192x8, .f32⟩
  | 36 => ⟨S3x8192x8, .i1⟩
  | 37 => ⟨S3x8192x8, .f32⟩
  | 38 => ⟨S_, .f32⟩
  | 39 => ⟨S8192x8, .f32⟩
  | 40 => ⟨S_, .f32⟩
  | 41 => ⟨S8192x8, .f32⟩
  | 42 => ⟨S8192x8, .f32⟩
  | 43 => ⟨S_, .f32⟩
  | 44 => ⟨S8192x8, .f32⟩
  | 45 => ⟨S8192x8, .i1⟩
  | 46 => ⟨S_, .f32⟩
  | 47 => ⟨S8192x8, .f32⟩
  | 48 => ⟨S8192x8, .i1⟩
  | 49 => ⟨S_, .f32⟩
  | 50 => ⟨S8192x8, .f32⟩
  | 51 => ⟨S_, .f32⟩
  | 52 => ⟨S8192x8, .f32⟩
  | 53 => ⟨S_, .f32⟩
  | 54 => ⟨S8192x8, .f32⟩
  | 55 => ⟨S8192x8, .f32⟩
  | 56 => ⟨S8192x8, .f32⟩
  | 57 => ⟨S1x8192x8, .f32⟩
  | 58 => ⟨S3x8192x8, .f32⟩
  | 59 => ⟨S3x8192x8, .f32⟩
  | 60 => ⟨S3x8192x8, .f32⟩
  | 61 => ⟨S_, .f32⟩
  | 62 => ⟨S8192x8, .f32⟩
  | 63 => ⟨S1x8192x8, .f32⟩
  | 64 => ⟨S3x8192x8, .f32⟩
  | 65 => ⟨S3x8192x8, .f32⟩
  | 66 => ⟨S1x8192x8, .f32⟩
  | 67 => ⟨S_, .f32⟩
  | 68 => ⟨S1x8192x8, .f32⟩
  | 69 => ⟨S1x8192x8, .f32⟩
  | 70 => ⟨S3x8192x8x1, .f32⟩
  | 71 => ⟨S1x8192x8x64, .f32⟩
  | 72 => ⟨S1x8192x8x64, .f32⟩
  | 73 => ⟨S1x8192x8x64, .f32⟩
  | 74 => ⟨S3x8192x8x64, .f32⟩
  | 75 => ⟨S_, .f32⟩
  | 76 => ⟨S8192x8x64, .f32⟩
  | 77 => ⟨S_, .f32⟩
  | 78 => ⟨S8192x8x64, .f32⟩
  | 79 => ⟨S3x8192x8x64, .f32⟩
  | 80 => ⟨S3x8192x8x64, .f32⟩
  | 81 => ⟨S_, .f32⟩
  | 82 => ⟨S8192x8x64, .f32⟩
  | 83 => ⟨S8192x8x64, .f32⟩
  | 84 => ⟨S3x8192x8x64, .f32⟩
  | 85 => ⟨S3x8192x8x64, .f32⟩
  | 86 => ⟨S3x8192x8x64, .f32⟩
  | 87 => ⟨S3x8192x8x64, .f32⟩
  | 88 => ⟨S_, .f32⟩
  | 89 => ⟨S3x8192x8, .f32⟩
  | 90 => ⟨S3x8192x8x1, .f32⟩
  | 91 => ⟨S1x8192x8x64, .f32⟩
  | 92 => ⟨S8192x8x64, .f32⟩
  | 93 => ⟨S1x8192x8x64, .f32⟩
  | 94 => ⟨S8192x8x64, .f32⟩
  | 95 => ⟨S1x8192x8x64, .f32⟩
  | 96 => ⟨S8192x8x64, .f32⟩
  | 97 => ⟨S_, .f32⟩
  | 98 => ⟨S3x8192x8, .f32⟩
  | 99 => ⟨S3x8192x8, .f32⟩
  | 100 => ⟨S3x8192x8, .f32⟩
  | 101 => ⟨S3x8192x8, .f32⟩
  | 102 => ⟨S_, .f32⟩
  | 103 => ⟨S8192x8, .f32⟩
  | 104 => ⟨S1x8192x8, .f32⟩
  | 105 => ⟨S1x8192x8, .f32⟩
  | 106 => ⟨S3x8192x8, .f32⟩
  | 107 => ⟨S3x8192x8, .f32⟩
  | 108 => ⟨S_, .f32⟩
  | 109 => ⟨S8192x8, .f32⟩
  | 110 => ⟨S3x8192x8, .f32⟩
  | 111 => ⟨S3x8192x8, .f32⟩
  | 112 => ⟨S3x8192x8, .f32⟩
  | 113 => ⟨S1x8192x8, .f32⟩
  | 114 => ⟨S8192x8, .f32⟩
  | 115 => ⟨S1x8192x8, .f32⟩
  | 116 => ⟨S8192x8, .f32⟩
  | 117 => ⟨S1x8192x8, .f32⟩
  | 118 => ⟨S8192x8, .f32⟩
  | 119 => ⟨S2048x4x8, .f32⟩
  | 120 => ⟨S4x2048x8, .f32⟩
  | 121 => ⟨S2048x4x8x64, .f32⟩
  | 122 => ⟨S4x2048x8x64, .f32⟩
  | 123 => ⟨S4x32x64x8, .f32⟩
  | 124 => ⟨S4x32x8x64, .f32⟩
  | 125 => ⟨S4x32x8x64x1, .f32⟩
  | 126 => ⟨S4x32x8x64x1, .f32⟩
  | 127 => ⟨S4x32x64x8x64, .f32⟩
  | _ => ⟨S3x8192x8x64, .f32⟩

abbrev hbmTy0_4 (i : Nat) : BufTy := match i % 128 with
  | 0 => ⟨S4x32x8x64x64, .f32⟩
  | 1 => ⟨S4x32x8x64x192, .f32⟩
  | 2 => ⟨S4x32x8x64x192, .f32⟩
  | 3 => ⟨S4x32x192x8x64, .f32⟩
  | 4 => ⟨S4x32x64x8x64, .f32⟩
  | 5 => ⟨S4x32x64x8x64, .f32⟩
  | 6 => ⟨S4x32x64x8x64, .f32⟩
  | 7 => ⟨S_, .f32⟩
  | 8 => ⟨S4x34x64x8x64, .f32⟩
  | 9 => ⟨S_, .f32⟩
  | 10 => ⟨S4x34x64x8x64, .f32⟩
  | 11 => ⟨S4x34x64x8x64, .f32⟩
  | 12 => ⟨S_, .f32⟩
  | 13 => ⟨S4x34x64x8x64, .f32⟩
  | 14 => ⟨S4x34x64x8x64, .f32⟩
  | 15 => ⟨S4x2176x8x64, .f32⟩
  | 16 => ⟨S4x64x8x64, .f32⟩
  | 17 => ⟨S4x2048x8x64, .f32⟩
  | 18 => ⟨S4x64x8x64, .f32⟩
  | 19 => ⟨S4x32x8x64x192, .f32⟩
  | 20 => ⟨S4x32x8x64x192, .f32⟩
  | 21 => ⟨S4x32x8x64x192, .f32⟩
  | 22 => ⟨S_, .f32⟩
  | 23 => ⟨S4x32x8x64, .f32⟩
  | 24 => ⟨S4x32x8x64x1, .f32⟩
  | 25 => ⟨S4x32x8x64x1, .f32⟩
  | 26 => ⟨S4x32x8x64x1, .f32⟩
  | 27 => ⟨S4x32x8x64x192, .f32⟩
  | 28 => ⟨S4x32x8x64x192, .f32⟩
  | 29 => ⟨S_, .f32⟩
  | 30 => ⟨S4x32x8x64, .f32⟩
  | 31 => ⟨S4x32x8x64x192, .f32⟩
  | 32 => ⟨S4x32x8x64x192, .f32⟩
  | 33 => ⟨S4x32x8x64x192, .f32⟩
  | 34 => ⟨S4x32x8x64x192, .f32⟩
  | 35 => ⟨S_, .f32⟩
  | 36 => ⟨S4x32x8x64, .f32⟩
  | 37 => ⟨S4x32x8x64x1, .f32⟩
  | 38 => ⟨S4x32x8x64x1, .f32⟩
  | 39 => ⟨S_, .f32⟩
  | 40 => ⟨S4x32x8x64, .f32⟩
  | 41 => ⟨S4x32x8x64, .f32⟩
  | 42 => ⟨S4x32x8x64x192, .f32⟩
  | 43 => ⟨S4x32x8x64x192, .f32⟩
  | 44 => ⟨S4x32x8x64x192, .f32⟩
  | 45 => ⟨S_, .f32⟩
  | 46 => ⟨S4x32x8x64x192, .f32⟩
  | 47 => ⟨S4x32x8x64x192, .f32⟩
  | 48 => ⟨S_, .f32⟩
  | 49 => ⟨S4x32x8x64x192, .f32⟩
  | 50 => ⟨S4x32x8x64x192, .f32⟩
  | 51 => ⟨S4x32x8x192x64, .f32⟩
  | 52 => ⟨S4x32x192x8x64, .f32⟩
  | 53 => ⟨S4x32x8x64x64, .f32⟩
  | 54 => ⟨S4x32x64x8x64, .f32⟩
  | 55 => ⟨S4x32x64x8x64, .f32⟩
  | 56 => ⟨S4x32x64x8x64, .f32⟩
  | 57 => ⟨S4x32x64x8x64, .f32⟩
  | 58 => ⟨S_, .f32⟩
  | 59 => ⟨S4x34x64x8x64, .f32⟩
  | 60 => ⟨S_, .f32⟩
  | 61 => ⟨S4x34x64x8x64, .f32⟩
  | 62 => ⟨S4x34x64x8x64, .f32⟩
  | 63 => ⟨S_, .f32⟩
  | 64 => ⟨S4x34x64x8x64, .f32⟩
  | 65 => ⟨S4x34x64x8x64, .f32⟩
  | 66 => ⟨S4x2176x8x64, .f32⟩
  | 67 => ⟨S4x64x8x64, .f32⟩
  | 68 => ⟨S4x2048x8x64, .f32⟩
  | 69 => ⟨S4x64x8x64, .f32⟩
  | 70 => ⟨S4x2048x8x64, .f32⟩
  | 71 => ⟨S2048x4x8x64, .f32⟩
  | 72 => ⟨S8192x8x64, .f32⟩
  | 73 => ⟨S2048x4x8x64, .f32⟩
  | 74 => ⟨S8192x8x64, .f32⟩
  | 75 => ⟨S2048x4x8x64, .f32⟩
  | 76 => ⟨S8192x8x64, .f32⟩
  | _ => ⟨S3x8192x8x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S3x8192x8x64, .f32⟩

abbrev bufTy : (tb : Table) → Fin (tcTables nBuf tb) → BufTy
  | .hbm, ⟨i, _⟩ => hbmTy i
  | _, _ => ⟨S3x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_8 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_c_9 : Ref sig .tc := ⟨.hbm, 118, rfl⟩
abbrev main_v100 : Ref sig .tc := ⟨.hbm, 119, rfl⟩
abbrev main_v101 : Ref sig .tc := ⟨.hbm, 120, rfl⟩
abbrev main_c_10 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_c_11 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_c_12 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_c_13 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_cst_14 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_15 : Ref sig .tc := ⟨.hbm, 162, rfl⟩
abbrev main_call1_v0 : Ref sig .tc := ⟨.hbm, 163, rfl⟩
abbrev main_call1_v1 : Ref sig .tc := ⟨.hbm, 164, rfl⟩
abbrev main_call1_v2 : Ref sig .tc := ⟨.hbm, 165, rfl⟩
abbrev main_v138 : Ref sig .tc := ⟨.hbm, 166, rfl⟩
abbrev main_cst_16 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_17 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_cst_18 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_c_19 : Ref sig .tc := ⟨.hbm, 214, rfl⟩
abbrev main_v183 : Ref sig .tc := ⟨.hbm, 215, rfl⟩
abbrev main_v184 : Ref sig .tc := ⟨.hbm, 216, rfl⟩
abbrev main_c_20 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_c_21 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_c_22 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_c_23 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_cst_24 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_cst_25 : Ref sig .tc := ⟨.hbm, 258, rfl⟩
abbrev main_call2_v0 : Ref sig .tc := ⟨.hbm, 259, rfl⟩
abbrev main_call2_v1 : Ref sig .tc := ⟨.hbm, 260, rfl⟩
abbrev main_call2_v2 : Ref sig .tc := ⟨.hbm, 261, rfl⟩
abbrev main_v221 : Ref sig .tc := ⟨.hbm, 262, rfl⟩
abbrev main_cst_26 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_cst_27 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_cst_28 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_c_29 : Ref sig .tc := ⟨.hbm, 310, rfl⟩
abbrev main_v266 : Ref sig .tc := ⟨.hbm, 311, rfl⟩
abbrev main_v267 : Ref sig .tc := ⟨.hbm, 312, rfl⟩
abbrev main_c_30 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_c_31 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_c_32 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_c_33 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_cst_34 : Ref sig .tc := ⟨.hbm, 344, rfl⟩
abbrev main_v295 : Ref sig .tc := ⟨.hbm, 345, rfl⟩
abbrev main_cst_35 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_cst_36 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_cst_37 : Ref sig .tc := ⟨.hbm, 358, rfl⟩
abbrev main_call3_v0 : Ref sig .tc := ⟨.hbm, 359, rfl⟩
abbrev main_v306_1 : Ref sig .tc := ⟨.hbm, 360, rfl⟩
abbrev main_call3_v2 : Ref sig .tc := ⟨.hbm, 361, rfl⟩
abbrev main_v306_0 : Ref sig .tc := ⟨.hbm, 362, rfl⟩
abbrev main_call3_cst : Ref sig .tc := ⟨.hbm, 363, rfl⟩
abbrev main_v306_2 : Ref sig .tc := ⟨.hbm, 364, rfl⟩
abbrev main_cst_38 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_cst_39 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_cst_40 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_v320 : Ref sig .tc := ⟨.hbm, 381, rfl⟩
abbrev main_v321 : Ref sig .tc := ⟨.hbm, 382, rfl⟩
abbrev main_cst_41 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_cst_42 : Ref sig .tc := ⟨.hbm, 387, rfl⟩
abbrev main_v325 : Ref sig .tc := ⟨.hbm, 388, rfl⟩
abbrev main_cst_43 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_v338 : Ref sig .tc := ⟨.hbm, 402, rfl⟩
abbrev main_v339 : Ref sig .tc := ⟨.hbm, 403, rfl⟩
abbrev main_v340 : Ref sig .tc := ⟨.hbm, 404, rfl⟩
abbrev main_v341 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_v345 : Ref sig .tc := ⟨.hbm, 409, rfl⟩
abbrev main_v346 : Ref sig .tc := ⟨.hbm, 410, rfl⟩
abbrev main_v347 : Ref sig .tc := ⟨.hbm, 411, rfl⟩
abbrev main_cst_44 : Ref sig .tc := ⟨.hbm, 412, rfl⟩
abbrev main_v348 : Ref sig .tc := ⟨.hbm, 413, rfl⟩
abbrev main_cst_45 : Ref sig .tc := ⟨.hbm, 414, rfl⟩
abbrev main_v349 : Ref sig .tc := ⟨.hbm, 415, rfl⟩
abbrev main_cst_46 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_cst_47 : Ref sig .tc := ⟨.hbm, 422, rfl⟩
abbrev main_v355 : Ref sig .tc := ⟨.hbm, 423, rfl⟩
abbrev main_cst_48 : Ref sig .tc := ⟨.hbm, 424, rfl⟩
abbrev main_v356 : Ref sig .tc := ⟨.hbm, 425, rfl⟩
abbrev main_v357 : Ref sig .tc := ⟨.hbm, 426, rfl⟩
abbrev main_cst_49 : Ref sig .tc := ⟨.hbm, 427, rfl⟩
abbrev main_v358 : Ref sig .tc := ⟨.hbm, 428, rfl⟩
abbrev main_v359 : Ref sig .tc := ⟨.hbm, 429, rfl⟩
abbrev main_cst_50 : Ref sig .tc := ⟨.hbm, 430, rfl⟩
abbrev main_v360 : Ref sig .tc := ⟨.hbm, 431, rfl⟩
abbrev main_v361 : Ref sig .tc := ⟨.hbm, 432, rfl⟩
abbrev main_cst_51 : Ref sig .tc := ⟨.hbm, 433, rfl⟩
abbrev main_v362 : Ref sig .tc := ⟨.hbm, 434, rfl⟩
abbrev main_cst_52 : Ref sig .tc := ⟨.hbm, 435, rfl⟩
abbrev main_v363 : Ref sig .tc := ⟨.hbm, 436, rfl⟩
abbrev main_cst_53 : Ref sig .tc := ⟨.hbm, 437, rfl⟩
abbrev main_v364 : Ref sig .tc := ⟨.hbm, 438, rfl⟩
abbrev main_v365 : Ref sig .tc := ⟨.hbm, 439, rfl⟩
abbrev main_v366 : Ref sig .tc := ⟨.hbm, 440, rfl⟩
abbrev main_v367 : Ref sig .tc := ⟨.hbm, 441, rfl⟩
abbrev main_v368 : Ref sig .tc := ⟨.hbm, 442, rfl⟩
abbrev main_v369 : Ref sig .tc := ⟨.hbm, 443, rfl⟩
abbrev main_v370 : Ref sig .tc := ⟨.hbm, 444, rfl⟩
abbrev main_cst_54 : Ref sig .tc := ⟨.hbm, 445, rfl⟩
abbrev main_v371 : Ref sig .tc := ⟨.hbm, 446, rfl⟩
abbrev main_v372 : Ref sig .tc := ⟨.hbm, 447, rfl⟩
abbrev main_v373 : Ref sig .tc := ⟨.hbm, 448, rfl⟩
abbrev main_v374 : Ref sig .tc := ⟨.hbm, 449, rfl⟩
abbrev main_v375 : Ref sig .tc := ⟨.hbm, 450, rfl⟩
abbrev main_cst_55 : Ref sig .tc := ⟨.hbm, 451, rfl⟩
abbrev main_v376 : Ref sig .tc := ⟨.hbm, 452, rfl⟩
abbrev main_v377 : Ref sig .tc := ⟨.hbm, 453, rfl⟩
abbrev main_v378 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_cst_56 : Ref sig .tc := ⟨.hbm, 459, rfl⟩
abbrev main_v383 : Ref sig .tc := ⟨.hbm, 460, rfl⟩
abbrev main_cst_57 : Ref sig .tc := ⟨.hbm, 461, rfl⟩
abbrev main_v384 : Ref sig .tc := ⟨.hbm, 462, rfl⟩
abbrev main_v385 : Ref sig .tc := ⟨.hbm, 463, rfl⟩
abbrev main_v386 : Ref sig .tc := ⟨.hbm, 464, rfl⟩
abbrev main_cst_58 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_v391 : Ref sig .tc := ⟨.hbm, 470, rfl⟩
abbrev main_v392 : Ref sig .tc := ⟨.hbm, 471, rfl⟩
abbrev main_cst_59 : Ref sig .tc := ⟨.hbm, 472, rfl⟩
abbrev main_v393 : Ref sig .tc := ⟨.hbm, 473, rfl⟩
abbrev main_v394 : Ref sig .tc := ⟨.hbm, 474, rfl⟩
abbrev main_v395 : Ref sig .tc := ⟨.hbm, 475, rfl⟩
abbrev main_v396 : Ref sig .tc := ⟨.hbm, 476, rfl⟩
abbrev main_v397 : Ref sig .tc := ⟨.hbm, 477, rfl⟩
abbrev main_v398 : Ref sig .tc := ⟨.hbm, 478, rfl⟩
abbrev main_v399 : Ref sig .tc := ⟨.hbm, 479, rfl⟩
abbrev main_v400 : Ref sig .tc := ⟨.hbm, 480, rfl⟩
abbrev main_cst_60 : Ref sig .tc := ⟨.hbm, 481, rfl⟩
abbrev main_v401 : Ref sig .tc := ⟨.hbm, 482, rfl⟩
abbrev main_v402 : Ref sig .tc := ⟨.hbm, 483, rfl⟩
abbrev main_v403 : Ref sig .tc := ⟨.hbm, 484, rfl⟩
abbrev main_v404 : Ref sig .tc := ⟨.hbm, 485, rfl⟩
abbrev main_cst_61 : Ref sig .tc := ⟨.hbm, 486, rfl⟩
abbrev main_v405 : Ref sig .tc := ⟨.hbm, 487, rfl⟩
abbrev main_v406 : Ref sig .tc := ⟨.hbm, 488, rfl⟩
abbrev main_v407 : Ref sig .tc := ⟨.hbm, 489, rfl⟩
abbrev main_v408 : Ref sig .tc := ⟨.hbm, 490, rfl⟩
abbrev main_v409 : Ref sig .tc := ⟨.hbm, 491, rfl⟩
abbrev main_cst_62 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_v418 : Ref sig .tc := ⟨.hbm, 501, rfl⟩
abbrev main_v419 : Ref sig .tc := ⟨.hbm, 502, rfl⟩
abbrev main_v420 : Ref sig .tc := ⟨.hbm, 503, rfl⟩
abbrev main_v421 : Ref sig .tc := ⟨.hbm, 504, rfl⟩
abbrev main_v422 : Ref sig .tc := ⟨.hbm, 505, rfl⟩
abbrev main_v423 : Ref sig .tc := ⟨.hbm, 506, rfl⟩
abbrev main_v424 : Ref sig .tc := ⟨.hbm, 507, rfl⟩
abbrev main_v425 : Ref sig .tc := ⟨.hbm, 508, rfl⟩
abbrev main_v426 : Ref sig .tc := ⟨.hbm, 509, rfl⟩
abbrev main_v427 : Ref sig .tc := ⟨.hbm, 510, rfl⟩
abbrev main_v428 : Ref sig .tc := ⟨.hbm, 511, rfl⟩
abbrev main_v429 : Ref sig .tc := ⟨.hbm, 512, rfl⟩
abbrev main_v430 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_v434 : Ref sig .tc := ⟨.hbm, 517, rfl⟩
abbrev main_v435 : Ref sig .tc := ⟨.hbm, 518, rfl⟩
abbrev main_cst_63 : Ref sig .tc := ⟨.hbm, 519, rfl⟩
abbrev main_v436 : Ref sig .tc := ⟨.hbm, 520, rfl⟩
abbrev main_cst_64 : Ref sig .tc := ⟨.hbm, 521, rfl⟩
abbrev main_v437 : Ref sig .tc := ⟨.hbm, 522, rfl⟩
abbrev main_v438 : Ref sig .tc := ⟨.hbm, 523, rfl⟩
abbrev main_cst_65 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_cst_66 : Ref sig .tc := ⟨.hbm, 534, rfl⟩
abbrev main_v448 : Ref sig .tc := ⟨.hbm, 535, rfl⟩
abbrev main_v449 : Ref sig .tc := ⟨.hbm, 536, rfl⟩
abbrev main_v450 : Ref sig .tc := ⟨.hbm, 537, rfl⟩
abbrev main_v451 : Ref sig .tc := ⟨.hbm, 538, rfl⟩
abbrev main_v452 : Ref sig .tc := ⟨.hbm, 539, rfl⟩
abbrev main_v453 : Ref sig .tc := ⟨.hbm, 540, rfl⟩
abbrev main_cst_67 : Ref sig .tc := ⟨.hbm, 541, rfl⟩
abbrev main_v454 : Ref sig .tc := ⟨.hbm, 542, rfl⟩
abbrev main_v455 : Ref sig .tc := ⟨.hbm, 543, rfl⟩
abbrev main_v456 : Ref sig .tc := ⟨.hbm, 544, rfl⟩
abbrev main_v457 : Ref sig .tc := ⟨.hbm, 545, rfl⟩
abbrev main_v458 : Ref sig .tc := ⟨.hbm, 546, rfl⟩
abbrev main_cst_68 : Ref sig .tc := ⟨.hbm, 547, rfl⟩
abbrev main_v459 : Ref sig .tc := ⟨.hbm, 548, rfl⟩
abbrev main_v460 : Ref sig .tc := ⟨.hbm, 549, rfl⟩
abbrev main_v461 : Ref sig .tc := ⟨.hbm, 550, rfl⟩
abbrev main_cst_69 : Ref sig .tc := ⟨.hbm, 551, rfl⟩
abbrev main_v462 : Ref sig .tc := ⟨.hbm, 552, rfl⟩
abbrev main_v463 : Ref sig .tc := ⟨.hbm, 553, rfl⟩
abbrev main_v464 : Ref sig .tc := ⟨.hbm, 554, rfl⟩
abbrev main_v465 : Ref sig .tc := ⟨.hbm, 555, rfl⟩
abbrev main_v466 : Ref sig .tc := ⟨.hbm, 556, rfl⟩
abbrev main_call4_cst : Ref sig .tc := ⟨.hbm, 557, rfl⟩
abbrev main_call4_v0 : Ref sig .tc := ⟨.hbm, 558, rfl⟩
abbrev main_v467 : Ref sig .tc := ⟨.hbm, 559, rfl⟩
abbrev main_cst_70 : Ref sig .tc := ⟨.hbm, 560, rfl⟩
abbrev main_v468 : Ref sig .tc := ⟨.hbm, 561, rfl⟩
abbrev main_v469 : Ref sig .tc := ⟨.hbm, 562, rfl⟩
abbrev main_v470 : Ref sig .tc := ⟨.hbm, 563, rfl⟩
abbrev main_v471 : Ref sig .tc := ⟨.hbm, 564, rfl⟩
abbrev main_v472 : Ref sig .tc := ⟨.hbm, 565, rfl⟩
abbrev main_v473 : Ref sig .tc := ⟨.hbm, 566, rfl⟩
abbrev main_v474 : Ref sig .tc := ⟨.hbm, 567, rfl⟩
abbrev main_v475 : Ref sig .tc := ⟨.hbm, 568, rfl⟩
abbrev main_v476 : Ref sig .tc := ⟨.hbm, 569, rfl⟩
abbrev main_cst_71 : Ref sig .tc := ⟨.hbm, 570, rfl⟩
abbrev main_v477 : Ref sig .tc := ⟨.hbm, 571, rfl⟩
abbrev main_cst_72 : Ref sig .tc := ⟨.hbm, 572, rfl⟩
abbrev main_v478 : Ref sig .tc := ⟨.hbm, 573, rfl⟩
abbrev main_v479 : Ref sig .tc := ⟨.hbm, 574, rfl⟩
abbrev main_cst_73 : Ref sig .tc := ⟨.hbm, 575, rfl⟩
abbrev main_v480 : Ref sig .tc := ⟨.hbm, 576, rfl⟩
abbrev main_v481 : Ref sig .tc := ⟨.hbm, 577, rfl⟩
abbrev main_v482 : Ref sig .tc := ⟨.hbm, 578, rfl⟩
abbrev main_v483 : Ref sig .tc := ⟨.hbm, 579, rfl⟩
abbrev main_v484 : Ref sig .tc := ⟨.hbm, 580, rfl⟩
abbrev main_v485 : Ref sig .tc := ⟨.hbm, 581, rfl⟩
abbrev main_v486 : Ref sig .tc := ⟨.hbm, 582, rfl⟩
abbrev main_v487 : Ref sig .tc := ⟨.hbm, 583, rfl⟩
abbrev main_v488 : Ref sig .tc := ⟨.hbm, 584, rfl⟩
abbrev main_v489 : Ref sig .tc := ⟨.hbm, 585, rfl⟩
abbrev main_v490 : Ref sig .tc := ⟨.hbm, 586, rfl⟩
abbrev main_v491 : Ref sig .tc := ⟨.hbm, 587, rfl⟩
abbrev main_v492 : Ref sig .tc := ⟨.hbm, 588, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S8192x512 : Shape := ⟨2, ![8192, 512]⟩
abbrev S8192x6304 : Shape := ⟨2, ![8192, 6304]⟩
abbrev S3x8192x8x64 : Shape := ⟨4, ![3, 8192, 8, 64]⟩
abbrev S3x8192x8 : Shape := ⟨3, ![3, 8192, 8]⟩
abbrev S_ : Shape := ⟨0, ![]⟩
abbrev S3x8192x8x1 : Shape := ⟨4, ![3, 8192, 8, 1]⟩
abbrev S3x8192x512 : Shape := ⟨3, ![3, 8192, 512]⟩
abbrev S8192x640 : Shape := ⟨2, ![8192, 640]⟩
abbrev S8192x64 : Shape := ⟨2, ![8192, 64]⟩
abbrev S8192x32 : Shape := ⟨2, ![8192, 32]⟩
abbrev S8192x256 : Shape := ⟨2, ![8192, 256]⟩
abbrev S8192x4608 : Shape := ⟨2, ![8192, 4608]⟩
abbrev S8192x6656 : Shape := ⟨2, ![8192, 6656]⟩
abbrev S1x8192x512 : Shape := ⟨3, ![1, 8192, 512]⟩
abbrev S8192x1024 : Shape := ⟨2, ![8192, 1024]⟩
abbrev S8192x8 : Shape := ⟨2, ![8192, 8]⟩
abbrev S512x512 : Shape := ⟨2, ![512, 512]⟩
abbrev S512x1024 : Shape := ⟨2, ![512, 1024]⟩
abbrev S512x8 : Shape := ⟨2, ![512, 8]⟩

abbrev nBuf : Space → Nat
  | .hbm => 41
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x6304, .f32⟩
  | .hbm, ⟨2, _⟩ => ⟨S3x8192x8x64, .f32⟩
  | .hbm, ⟨3, _⟩ => ⟨S3x8192x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S3x8192x8, .f32⟩
  | .hbm, ⟨8, _⟩ => ⟨S3x8192x8, .f32⟩
  | .hbm, ⟨9, _⟩ => ⟨S3x8192x8x1, .f32⟩
  | .hbm, ⟨10, _⟩ => ⟨S3x8192x8x64, .f32⟩
  | .hbm, ⟨11, _⟩ => ⟨S3x8192x512, .f32⟩
  | .hbm, ⟨12, _⟩ => ⟨S3x8192x512, .f32⟩
  | .hbm, ⟨13, _⟩ => ⟨S8192x640, .f32⟩
  | .hbm, ⟨14, _⟩ => ⟨S_, .f32⟩
  | .hbm, ⟨15, _⟩ => ⟨S8192x64, .f32⟩
  | .hbm, ⟨16, _⟩ => ⟨S8192x32, .f32⟩
  | .hbm, ⟨17, _⟩ => ⟨S_, .f32⟩
  | .hbm, ⟨18, _⟩ => ⟨S8192x32, .f32⟩
  | .hbm, ⟨19, _⟩ => ⟨S_, .f32⟩
  | .hbm, ⟨20, _⟩ => ⟨S8192x256, .f32⟩
  | .hbm, ⟨21, _⟩ => ⟨S8192x512, .f32⟩
  | .hbm, ⟨22, _⟩ => ⟨S8192x512, .f32⟩
  | .hbm, ⟨23, _⟩ => ⟨S8192x4608, .f32⟩
  | .hbm, ⟨24, _⟩ => ⟨S8192x6656, .f32⟩
  | .hbm, ⟨25, _⟩ => ⟨S8192x6656, .bf16⟩
  | .hbm, ⟨26, _⟩ => ⟨S1x8192x512, .f32⟩
  | .hbm, ⟨27, _⟩ => ⟨S8192x512, .f32⟩
  | .hbm, ⟨28, _⟩ => ⟨S1x8192x512, .f32⟩
  | .hbm, ⟨29, _⟩ => ⟨S8192x512, .f32⟩
  | .hbm, ⟨30, _⟩ => ⟨S1x8192x512, .f32⟩
  | .hbm, ⟨31, _⟩ => ⟨S8192x512, .f32⟩
  | .hbm, ⟨32, _⟩ => ⟨S1x8192x512, .f32⟩
  | .hbm, ⟨33, _⟩ => ⟨S8192x512, .f32⟩
  | .hbm, ⟨34, _⟩ => ⟨S1x8192x512, .f32⟩
  | .hbm, ⟨35, _⟩ => ⟨S8192x512, .f32⟩
  | .hbm, ⟨36, _⟩ => ⟨S1x8192x512, .f32⟩
  | .hbm, ⟨37, _⟩ => ⟨S8192x512, .f32⟩
  | .hbm, ⟨38, _⟩ => ⟨S8192x1024, .bf16⟩
  | .hbm, ⟨39, _⟩ => ⟨S8192x512, .f32⟩
  | .hbm, ⟨40, _⟩ => ⟨S8192x8, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x1024, .bf16⟩
  | .local _ .vmem, ⟨19, _⟩ => ⟨S512x1024, .bf16⟩
  | .local _ .vmem, ⟨20, _⟩ => ⟨S512x512, .f32⟩
  | .local _ .vmem, ⟨21, _⟩ => ⟨S512x512, .f32⟩
  | .local _ .vmem, ⟨22, _⟩ => ⟨S512x8, .f32⟩
  | .local _ .vmem, ⟨23, _⟩ => ⟨S512x8, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel12Ideal.lean ====
variable {F : FTy → Type} [FloatOps F] [Named F]
def κ : String → Option EReal := fun
  | "log2e" => some (((Real.log 2)⁻¹ : ℝ) : EReal)
  | _ => none
-- ==== Reference12Ideal.lean ====
abbrev S8192x512 : Shape := ⟨2, ![8192, 512]⟩
abbrev S8192x6304 : Shape := ⟨2, ![8192, 6304]⟩
abbrev S3x8192x8x64 : Shape := ⟨4, ![3, 8192, 8, 64]⟩
abbrev S3x8192x8 : Shape := ⟨3, ![3, 8192, 8]⟩
abbrev S8192x384 : Shape := ⟨2, ![8192, 384]⟩
abbrev S8192x256 : Shape := ⟨2, ![8192, 256]⟩
abbrev S8192x32 : Shape := ⟨2, ![8192, 32]⟩
abbrev S8192x4608 : Shape := ⟨2, ![8192, 4608]⟩
abbrev S_ : Shape := ⟨0, ![]⟩
abbrev S8192x8 : Shape := ⟨2, ![8192, 8]⟩
abbrev S1x8192x8 : Shape := ⟨3, ![1, 8192, 8]⟩
abbrev S3x8192x8x1 : Shape := ⟨4, ![3, 8192, 8, 1]⟩
abbrev S8192x8x64 : Shape := ⟨3, ![8192, 8, 64]⟩
abbrev S8192x1024 : Shape := ⟨2, ![8192, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x6304, .f32⟩
  | .hbm, ⟨2, _⟩ => ⟨S3x8192x8x64, .f32⟩
  | .hbm, ⟨3, _⟩ => ⟨S3x8192x8, .f32⟩
  | .hbm, ⟨4, _⟩ => ⟨S8192x384, .f32⟩
  | .hbm, ⟨5, _⟩ => ⟨S8192x256, .f32⟩
  | .hbm, ⟨6, _⟩ => ⟨S8192x32, .f32⟩
  | .hbm, ⟨7, _⟩ => ⟨S8192x512, .f32⟩
  | .hbm, ⟨8, _⟩ => ⟨S8192x4608, .f32⟩
  | .hbm, ⟨9, _⟩ => ⟨S8192x512, .f32⟩
  | .hbm, ⟨10, _⟩ => ⟨S_, .f32⟩
  | .hbm, ⟨11, _⟩ => ⟨S8192x8, .f32⟩
  | .hbm, ⟨12, _⟩ => ⟨S_, .f32⟩
  | .hbm, ⟨13, _⟩ => ⟨S8192x8, .f32⟩
  | .hbm, ⟨14, _⟩ => ⟨S8192x8, .f32⟩
  | .hbm, ⟨15, _⟩ => ⟨S1x8192x8, .f32⟩
  | .hbm, ⟨16, _⟩ => ⟨S3x8192x8, .f32⟩
  | .hbm, ⟨17, _⟩ => ⟨S3x8192x8, .f32⟩
  | .hbm, ⟨18, _⟩ => ⟨S3x8192x8, .f32⟩
  | .hbm, ⟨19, _⟩ => ⟨S_, .f32⟩
  | .hbm, ⟨20, _⟩ => ⟨S8192x8, .f32⟩
  | .hbm, ⟨21, _⟩ => ⟨S1x8192x8, .f32⟩
  | .hbm, ⟨22, _⟩ => ⟨S3x8192x8, .f32⟩
  | .hbm, ⟨23, _⟩ => ⟨S3x8192x8, .f32⟩
  | .hbm, ⟨24, _⟩ => ⟨S3x8192x8x1, .f32⟩
  | .hbm, ⟨25, _⟩ => ⟨S3x8192x8x64, .f32⟩
  | .hbm, ⟨26, _⟩ => ⟨S3x8192x8x64, .f32⟩
  | .hbm, ⟨27, _⟩ => ⟨S_, .f32⟩
  | .hbm, ⟨28, _⟩ => ⟨S8192x8x64, .f32⟩
  | .hbm, ⟨29, _⟩ => ⟨S8192x512, .f32⟩
  | .hbm, ⟨30, _⟩ => ⟨S_, .f32⟩
  | .hbm, ⟨31, _⟩ => ⟨S8192x8, .f32⟩
  | .hbm, ⟨32, _⟩ => ⟨S1x8192x8, .f32⟩
  | .hbm, ⟨33, _⟩ => ⟨S3x8192x8, .f32⟩
  | .hbm, ⟨34, _⟩ => ⟨S3x8192x8, .f32⟩
  | .hbm, ⟨35, _⟩ => ⟨S3x8192x8, .f32⟩
  | .hbm, ⟨36, _⟩ => ⟨S_, .f32⟩
  | .hbm, ⟨37, _⟩ => ⟨S8192x8, .f32⟩
  | .hbm, ⟨38, _⟩ => ⟨S8192x8, .f32⟩
  | .hbm, ⟨39, _⟩ => ⟨S8192x8, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x8, .f32⟩
  | .hbm, ⟨44, _⟩ => ⟨S8192x8, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x1024, .f32⟩
  | .hbm, ⟨66, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩

abbrev nD : Nat := 1
abbrev τ : Topo := Topo.v7x

variable {F : FTy → Type} [FloatOps F]
-- ==== Kernel13.lean ====
abbrev S8192x6304 : Shape := ⟨2, ![8192, 6304]⟩
abbrev S_ : Shape := ⟨0, ![]⟩
abbrev S8192x2048 : Shape := ⟨2, ![8192, 2048]⟩
abbrev S8192x4608 : Shape := ⟨2, ![8192, 4608]⟩
abbrev S8192x6656 : Shape := ⟨2, ![8192, 6656]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x0 : Shape := ⟨2, ![8192, 0]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x512 : Shape := ⟨2, ![8192, 512]⟩
abbrev S512x512 : Shape := ⟨2, ![512, 512]⟩
abbrev S512x128 : Shape := ⟨2, ![512, 128]⟩

abbrev nBuf : Space → Nat
  | .hbm => 66
  | .vmem => 42
  | .smem => 0
  | _ => 0

abbrev bufTy : (tb : Table) → Fin (tcTables nBuf tb) → BufTy
  | .hbm, ⟨0, _⟩ => ⟨S8192x6304, .f32⟩
  | .hbm, ⟨1, _⟩ => ⟨S_, .f32⟩
  | .hbm, ⟨2, _⟩ => ⟨S8192x2048, .f32⟩
  | .hbm, ⟨3, _⟩ => ⟨S8192x4608, .f32⟩
  | .hbm, ⟨4, _⟩ => ⟨S8192x6656, .f32⟩
  | .hbm, ⟨5, _⟩ => ⟨S8192x6656, .bf16⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8192, .f32⟩
  | .hbm, ⟨23, _⟩ => ⟨S8192x1, .f32⟩
  | .hbm, ⟨24, _⟩ => ⟨S1x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S_, .f32⟩
  | .hbm, ⟨31, _⟩ => ⟨S8192x0, .f32⟩
  | .hbm, ⟨32, _⟩ => ⟨S_, .f32⟩
  | .hbm, ⟨33, _⟩ => ⟨S8192x48, .f32⟩
  | .hbm, ⟨34, _⟩ => ⟨S8192x64, .f32⟩
  | .hbm, ⟨35, _⟩ => ⟨S1x8192x1x64, .f32⟩
  | .hbm, ⟨36, _⟩ => ⟨S1x8192x2x64, .f32⟩
  | .hbm, ⟨37, _⟩ => ⟨S8192x128, .f32⟩
  | .hbm, ⟨38, _⟩ => ⟨S_, .f32⟩
  | .hbm, ⟨39, _⟩ => ⟨S8192x0, .f32⟩
  | .hbm, ⟨40, _⟩ => ⟨S8192x8, .f32⟩
  | .hbm, ⟨41, _⟩ => ⟨S_, .f32⟩
  | .hbm, ⟨42, _⟩ => ⟨S8192x8, .f32⟩
  | .hbm, ⟨43, _⟩ => ⟨S_, .f32⟩
  | .hbm, ⟨44, _⟩ => ⟨S8192x48, .f32⟩
  | .hbm, ⟨45, _⟩ => ⟨S8192x64, .f32⟩
  | .hbm, ⟨46, _⟩ => ⟨S1x8192x1x64, .f32⟩
  | .hbm, ⟨47, _⟩ => ⟨S1x8192x2x64, .f32⟩
  | .hbm, ⟨48, _⟩ => ⟨S8192x128, .f32⟩
  | .hbm, ⟨49, _⟩ => ⟨S_, .f32⟩
  | .hbm, ⟨50, _⟩ => ⟨S8192x8, .f32⟩
  | .hbm, ⟨51, _⟩ => ⟨S_, .f32⟩
  | .hbm, ⟨52, _⟩ => ⟨S8192x48, .f32⟩
  | .hbm, ⟨53, _⟩ => ⟨S8192x64, .f32⟩
  | .hbm, ⟨54, _⟩ => ⟨S1x8192x1x64, .f32⟩
  | .hbm, ⟨55, _⟩ => ⟨S1x8192x2x64, .f32⟩
  | .hbm, ⟨56, _⟩ => ⟨S8192x128, .f32⟩
  | .hbm, ⟨57, _⟩ => ⟨S8192x512, .bf16⟩
  | .hbm, ⟨58, _⟩ => ⟨S8192x512, .bf16⟩
  | .hbm, ⟨59, _⟩ => ⟨S8192x512, .bf16⟩
  | .hbm, ⟨60, _⟩ => ⟨S8192x512, .bf16⟩
  | .hbm, ⟨61, _⟩ => ⟨S8192x512, .bf16⟩
  | .hbm, ⟨62, _⟩ => ⟨S8192x512, .bf16⟩
  | .hbm, ⟨63, _⟩ => ⟨S8192x512, .bf16⟩
  | .hbm, ⟨64, _⟩ => ⟨S8192x512, .bf16⟩
  | .hbm, ⟨65, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | _, _ => ⟨S8192x6304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_7 : Ref sig .tc := ⟨.hbm, 38, rfl⟩
abbrev main_v29 : Ref sig .tc := ⟨.hbm, 39, rfl⟩
abbrev main_v30 : Ref sig .tc := ⟨.hbm, 40, rfl⟩
abbrev main_cst_8 : Ref sig .tc := ⟨.hbm, 41, rfl⟩
abbrev main_v31 : Ref sig .tc := ⟨.hbm, 42, rfl⟩
abbrev main_cst_9 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_10 : Ref sig .tc := ⟨.hbm, 49, rfl⟩
abbrev main_v37 : Ref sig .tc := ⟨.hbm, 50, rfl⟩
abbrev main_cst_11 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev main_v43_2 : Ref sig .tc := ⟨.hbm, 59, rfl⟩
abbrev main_v43_3 : Ref sig .tc := ⟨.hbm, 60, rfl⟩
abbrev main_v43_4 : Ref sig .tc := ⟨.hbm, 61, rfl⟩
abbrev main_v43_5 : Ref sig .tc := ⟨.hbm, 62, rfl⟩
abbrev main_v43_6 : Ref sig .tc := ⟨.hbm, 63, rfl⟩
abbrev main_v43_7 : Ref sig .tc := ⟨.hbm, 64, rfl⟩
abbrev main_v43_8 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel13Ideal.lean ====
variable {F : FTy → Type} [FloatOps F] [Named F]
def κ : String → Option EReal := fun
  | "qscale" => some (((Real.log 256)⁻¹ : ℝ) : EReal)
  | _ => none
-- ==== Reference13Ideal.lean ====
abbrev S8192x6304 : Shape := ⟨2, ![8192, 6304]⟩
abbrev S8192x384 : Shape := ⟨2, ![8192, 384]⟩
abbrev S8192x256 : Shape := ⟨2, ![8192, 256]⟩
abbrev S8192x32 : Shape := ⟨2, ![8192, 32]⟩
abbrev S8192x512 : Shape := ⟨2, ![8192, 512]⟩
abbrev S8192x4608 : Shape := ⟨2, ![8192, 4608]⟩
abbrev S8192x3x3x8x64 : Shape := ⟨5, ![8192, 3, 3, 8, 64]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x1x1x8x64 : Shape := ⟨5, ![8192, 1, 1, 8, 64]⟩
abbrev S8192x8x64 : Shape := ⟨3, ![8192, 8, 64]⟩
abbrev S8192x8x16 : Shape := ⟨3, ![8192, 8, 16]⟩
abbrev S8192x8x8 : Shape := ⟨3, ![8192, 8, 8]⟩
abbrev S8192x1x8 : Shape := ⟨3, ![8192, 1, 8]⟩
abbrev S8192x8x48 : Shape := ⟨3, ![8192, 8, 48]⟩

abbrev nBuf : Space → Nat
  | .hbm => 200
  | .vmem => 0
  | .smem => 0
  | _ => 0

abbrev hbmTy0_0 (i : Nat) : BufTy := match i % 128 with
  | 0 => ⟨S8192x6304, .f32⟩
  | 1 => ⟨S8192x384, .f32⟩
  | 2 => ⟨S8192x256, .f32⟩
  | 3 => ⟨S8192x32, .f32⟩
  | 4 => ⟨S8192x512, .f32⟩
  | 5 => ⟨S8192x4608, .f32⟩
  | 6 => ⟨S8192x512, .f32⟩
  | 7 => ⟨S8192x3x3x8x64, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S8192, .f32⟩
  | 25 => ⟨S8192x1, .f32⟩
  | 26 => ⟨S1x8, .f32⟩
  | 27 => ⟨S8192x8, .f32⟩
  | 28 => ⟨S8192x8, .f32⟩
  | 29 => ⟨S8192x8, .f32⟩
  | 30 => ⟨S8192x8, .f32⟩
  | 31 => ⟨S8192x8, .f32⟩
  | 32 => ⟨S8192x1x1x8x64, .f32⟩
  | 33 => ⟨S8192x8x64, .f32⟩
  | 34 => ⟨S8192x1x1x8x64, .f32⟩
  | 35 => ⟨S8192x8x64, .f32⟩
  | 36 => ⟨S8192x1x1x8x64, .f32⟩
  | 37 => ⟨S8192x8x64, .f32⟩
  | 38 => ⟨S8192x8x16, .f32⟩
  | 39 => ⟨S8192x8x8, .f32⟩
  | 40 => ⟨S8192x8x8, .f32⟩
  | 41 => ⟨S8192x1x8, .f32⟩
  | 42 => ⟨S8192x1x8, .f32⟩
  | 43 => ⟨S8192x8x8, .f32⟩
  | 44 => ⟨S8192x8x8, .f32⟩
  | 45 => ⟨S8192x8x8, .f32⟩
  | 46 => ⟨S8192x8x8, .f32⟩
  | 47 => ⟨S8192x8x8, .f32⟩
  | 48 => ⟨S8192x8x8, .f32⟩
  | 49 => ⟨S8192x8x8, .f32⟩
  | 50 => ⟨S8192x8x8, .f32⟩
  | 51 => ⟨S8192x8x8, .f32⟩
  | 52 => ⟨S8192x8x8, .f32⟩
  | 53 => ⟨S8192x8x16, .f32⟩
  | 54 => ⟨S8192x8x48, .f32⟩
  | 55 => ⟨S8192x8x64, .f32⟩
  | 56 => ⟨S_, .f32⟩
  | 57 => ⟨S8192x8x64, .f32⟩
  | 58 => ⟨S8192x8x64, .f32⟩
  | 59 => ⟨S_, .f32⟩
  | 60 => ⟨S_, .f32⟩
  | 61 => ⟨S_, .f32⟩
  | 62 => ⟨S8192x8x64, .f32⟩
  | 63 => ⟨S8192x8x64, .f32⟩
  | 64 => ⟨S8192x8x16, .f32⟩
  | 65 => ⟨S8192x8x8, .f32⟩
  | 66 => ⟨S8192x8x8, .f32⟩
  | 67 => ⟨S8192x1x8, .f32⟩
  | 68 => ⟨S8192x1x8, .f32⟩
  | 69 => ⟨S8192x8x8, .f32⟩
  | 70 => ⟨S8192x8x8, .f32⟩
  | 71 => ⟨S8192x8x8, .f32⟩
  | 72 => ⟨S8192x8x8, .f32⟩
  | 73 => ⟨S8192x8x8, .f32⟩
  | 74 => ⟨S8192x8x8, .f32⟩
  | 75 => ⟨S8192x8x8, .f32⟩
  | 76 => ⟨S8192x8x8, .f32⟩
  | 77 => ⟨S8192x8x8, .f32⟩
  | 78 => ⟨S8192x8x8, .f32⟩
  | 79 => ⟨S8192x8x16, .f32⟩
  | 80 => ⟨S8192x8x48, .f32⟩
  | 81 => ⟨S8192x8x64, .f32⟩
  | 82 => ⟨S8192x1x1x8x64, .f32⟩
  | 83 => ⟨S8192x8x64, .f32⟩
  | 84 => ⟨S8192x1x1x8x64, .f32⟩
  | 85 => ⟨S8192x8x64, .f32⟩
  | 86 => ⟨S8192x1x1x8x64, .f32⟩
  | 87 => ⟨S8192x8x64, .f32⟩
  | 88 => ⟨S8192x8x16, .f32⟩
  | 89 => ⟨S8192x8x8, .f32⟩
  | 90 => ⟨S8192x8x8, .f32⟩
  | 91 => ⟨S8192x1x8, .f32⟩
  | 92 => ⟨S8192x1x8, .f32⟩
  | 93 => ⟨S8192x8x8, .f32⟩
  | 94 => ⟨S8192x8x8, .f32⟩
  | 95 => ⟨S8192x8x8, .f32⟩
  | 96 => ⟨S8192x8x8, .f32⟩
  | 97 => ⟨S8192x8x8, .f32⟩
  | 98 => ⟨S8192x8x8, .f32⟩
  | 99 => ⟨S8192x8x8, .f32⟩
  | 100 => ⟨S8192x8x8, .f32⟩
  | 101 => ⟨S8192x8x8, .f32⟩
  | 102 => ⟨S8192x8x8, .f32⟩
  | 103 => ⟨S8192x8x16, .f32⟩
  | 104 => ⟨S8192x8x48, .f32⟩
  | 105 => ⟨S8192x8x64, .f32⟩
  | 106 => ⟨S_, .f32⟩
  | 107 => ⟨S8192x8x64, .f32⟩
  | 108 => ⟨S8192x8x64, .f32⟩
  | 109 => ⟨S_, .f32⟩
  | 110 => ⟨S_, .f32⟩
  | 111 => ⟨S_, .f32⟩
  | 112 => ⟨S8192x8x64, .f32⟩
  | 113 => ⟨S8192x8x64, .f32⟩
  | 114 => ⟨S8192x8x16, .f32⟩
  | 115 => ⟨S8192x8x8, .f32⟩
  | 116 => ⟨S8192x8x8, .f32⟩
  | 117 => ⟨S8192x1x8, .f32⟩
  | 118 => ⟨S8192x1x8, .f32⟩
  | 119 => ⟨S8192x8x8, .f32⟩
  | 120 => ⟨S8192x8x8, .f32⟩
  | 121 => ⟨S8192x8x8, .f32⟩
  | 122 => ⟨S8192x8x8, .f32⟩
  | 123 => ⟨S8192x8x8, .f32⟩
  | 124 => ⟨S8192x8x8, .f32⟩
  | 125 => ⟨S8192x8x8, .f32⟩
  | 126 => ⟨S8192x8x8, .f32⟩
  | 127 => ⟨S8192x8x8, .f32⟩
  | _ => ⟨S8192x6304, .f32⟩

abbrev hbmTy0_1 (i : Nat) : BufTy := match i % 128 with
  | 0 => ⟨S8192x8x8, .f32⟩
  | 1 => ⟨S8192x8x16, .f32⟩
  | 2 => ⟨S8192x8x48, .f32⟩
  | 3 => ⟨S8192x8x64, .f32⟩
  | 4 => ⟨S8192x1x1x8x64, .f32⟩
  | 5 => ⟨S8192x8x64, .f32⟩
  | 6 => ⟨S8192x1x1x8x64, .f32⟩
  | 7 => ⟨S8192x8x64, .f32⟩
  | 8 => ⟨S8192x1x1x8x64, .f32⟩
  | 9 => ⟨S8192x8x64, .f32⟩
  | 10 => ⟨S8192x8x16, .f32⟩
  | 11 => ⟨S8192x8x8, .f32⟩
  | 12 => ⟨S8192x8x8, .f32⟩
  | 13 => ⟨S8192x1x8, .f32⟩
  | 14 => ⟨S8192x1x8, .f32⟩
  | 15 => ⟨S8192x8x8, .f32⟩
  | 16 => ⟨S8192x8x8, .f32⟩
  | 17 => ⟨S8192x8x8, .f32⟩
  | 18 => ⟨S8192x8x8, .f32⟩
  | 19 => ⟨S8192x8x8, .f32⟩
  | 20 => ⟨S8192x8x8, .f32⟩
  | 21 => ⟨S8192x8x8, .f32⟩
  | 22 => ⟨S8192x8x8, .f32⟩
  | 23 => ⟨S8192x8x8, .f32⟩
  | 24 => ⟨S8192x8x8, .f32⟩
  | 25 => ⟨S8192x8x16, .f32⟩
  | 26 => ⟨S8192x8x48, .f32⟩
  | 27 => ⟨S8192x8x64, .f32⟩
  | 28 => ⟨S_, .f32⟩
  | 29 => ⟨S8192x8x64, .f32⟩
  | 30 => ⟨S8192x8x64, .f32⟩
  | 31 => ⟨S_, .f32⟩
  | 32 => ⟨S_, .f32⟩
  | 33 => ⟨S_, .f32⟩
  | 34 => ⟨S8192x8x64, .f32⟩
  | 35 => ⟨S8192x8x64, .f32⟩
  | 36 => ⟨S8192x8x16, .f32⟩
  | 37 => ⟨S8192x8x8, .f32⟩
  | 38 => ⟨S8192x8x8, .f32⟩
  | 39 => ⟨S8192x1x8, .f32⟩
  | 40 => ⟨S8192x1x8, .f32⟩
  | 41 => ⟨S8192x8x8, .f32⟩
  | 42 => ⟨S8192x8x8, .f32⟩
  | 43 => ⟨S8192x8x8, .f32⟩
  | 44 => ⟨S8192x8x8, .f32⟩
  | 45 => ⟨S8192x8x8, .f32⟩
  | 46 => ⟨S8192x8x8, .f32⟩
  | 47 => ⟨S8192x8x8, .f32⟩
  | 48 => ⟨S8192x8x8, .f32⟩
  | 49 => ⟨S8192x8x8, .f32⟩
  | 50 => ⟨S8192x8x8, .f32⟩
  | 51 => ⟨S8192x8x16, .f32⟩
  | 52 => ⟨S8192x8x48, .f32⟩
  | 53 => ⟨S8192x8x64, .f32⟩
  | 54 => ⟨S8192x512, .f32⟩
  | 55 => ⟨S8192x512, .bf16⟩
  | 56 => ⟨S8192x512, .f32⟩
  | 57 => ⟨S8192x512, .bf16⟩
  | 58 => ⟨S8192x512, .f32⟩
  | 59 => ⟨S8192x512, .bf16⟩
  | 60 => ⟨S8192x512, .f32⟩
  | 61 => ⟨S8192x512, .bf16⟩
  | 62 => ⟨S8192x512, .f32⟩
  | 63 => ⟨S8192x512, .bf16⟩
  | 64 => ⟨S8192x512, .f32⟩
  | 65 => ⟨S8192x512, .bf16⟩
  | 66 => ⟨S8192x512, .f32⟩
  | 67 => ⟨S8192x512, .bf16⟩
  | 68 => ⟨S8192x512, .f32⟩
  | 69 => ⟨S8192x512, .bf16⟩
  | 70 => ⟨S8192x512, .f32⟩
  | 71 => ⟨S8192x512, .bf16⟩
  | _ => ⟨S8192x6304, .f32⟩

abbrev hbmTy (i : Nat) : BufTy := match i / 128 with
  | 0 => hbmTy0_0 i
  | 1 => hbmTy0_1 i
  | _ => ⟨S8192x6304, .f32⟩

abbrev bufTy : (tb : Table) → Fin (tcTables nBuf tb) → BufTy
  | .hbm, ⟨i, _⟩ => hbmTy i
  | _, _ => ⟨S8192x6304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_4 : Ref sig .tc := ⟨.hbm, 56, rfl⟩
abbrev main_v50 : Ref sig .tc := ⟨.hbm, 57, rfl⟩
abbrev main_v51 : Ref sig .tc := ⟨.hbm, 58, rfl⟩
abbrev main_cst_5 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_cst_6 : Ref sig .tc := ⟨.hbm, 106, rfl⟩
abbrev main_v98 : Ref sig .tc := ⟨.hbm, 107, rfl⟩
abbrev main_v99 : Ref sig .tc := ⟨.hbm, 108, rfl⟩
abbrev main_cst_7 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_cst_8 : Ref sig .tc := ⟨.hbm, 156, rfl⟩
abbrev main_v146 : Ref sig .tc := ⟨.hbm, 157, rfl⟩
abbrev main_v147 : Ref sig .tc := ⟨.hbm, 158, rfl⟩
abbrev main_cst_9 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩

abbrev nD : Nat := 1
abbrev τ : Topo := Topo.v7x

variable {F : FTy → Type} [FloatOps F]
-- ==== Kernel14.lean ====
abbrev S8192x384 : Shape := ⟨2, ![8192, 384]⟩
abbrev S8192x256 : Shape := ⟨2, ![8192, 256]⟩
abbrev S8192x32 : Shape := ⟨2, ![8192, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S8192x64 : Shape := ⟨2, ![8192, 64]⟩
abbrev S8192x288 : Shape := ⟨2, ![8192, 288]⟩
abbrev S8192x1024 : Shape := ⟨2, ![8192, 1024]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S256x1536 : Shape := ⟨2, ![256, 1536]⟩
abbrev S1x384 : Shape := ⟨2, ![1, 384]⟩
abbrev S1x256 : Shape := ⟨2, ![1, 256]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x128 : Shape := ⟨2, ![8192, 128]⟩
abbrev S1x8192x1x128 : Shape := ⟨4, ![1, 8192, 1, 128]⟩
abbrev S8192x80 : Shape := ⟨2, ![8192, 80]⟩
abbrev S8192x512 : Shape := ⟨2, ![8192, 512]⟩
abbrev S512x1024 : Shape := ⟨2, ![512, 1024]⟩
abbrev S512x128 : Shape := ⟨2, ![512, 128]⟩
abbrev S512x512 : Shape := ⟨2, ![512, 512]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩

abbrev nBuf : Space → Nat
  | .hbm => 87
  | .vmem => 22
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x32, .f32⟩
  | .hbm, ⟨3, _⟩ => ⟨S384, .f32⟩
  | .hbm, ⟨4, _⟩ => ⟨S256, .f32⟩
  | .hbm, ⟨5, _⟩ => ⟨S384x768, .f32⟩
  | .hbm, ⟨6, _⟩ => ⟨S256x1024, .f32⟩
  | .hbm, ⟨7, _⟩ => ⟨S_, .f32⟩
  | .hbm, ⟨8, _⟩ => ⟨S8192x64, .f32⟩
  | .hbm, ⟨9, _⟩ => ⟨S_, .f32⟩
  | .hbm, ⟨10, _⟩ => ⟨S8192x288, .f32⟩
  | .hbm, ⟨11, _⟩ => ⟨S8192x1024, .f32⟩
  | .hbm, ⟨12, _⟩ => ⟨S8192x1024, .bf16⟩
  | .hbm, ⟨13, _⟩ => ⟨S384x8x96, .f32⟩
  | .hbm, ⟨14, _⟩ => ⟨S_, .f32⟩
  | .hbm, ⟨15, _⟩ => ⟨S384x8x32, .f32⟩
  | .hbm, ⟨16, _⟩ => ⟨S384x8x128, .f32⟩
  | .hbm, ⟨17, _⟩ => ⟨S384x1024, .f32⟩
  | .hbm, ⟨18, _⟩ => ⟨S384x1024, .bf16⟩
  | .hbm, ⟨19, _⟩ => ⟨S256x8x128, .f32⟩
  | .hbm, ⟨20, _⟩ => ⟨S256x8x64, .f32⟩
  | .hbm, ⟨21, _⟩ => ⟨S_, .f32⟩
  | .hbm, ⟨22, _⟩ => ⟨S256x8x64, .f32⟩
  | .hbm, ⟨23, _⟩ => ⟨S256x8x128, .f32⟩
  | .hbm, ⟨24, _⟩ => ⟨S256x1024, .f32⟩
  | .hbm, ⟨25, _⟩ => ⟨S256x8x64, .f32⟩
  | .hbm, ⟨26, _⟩ => ⟨S256x512, .f32⟩
  | .hbm, ⟨27, _⟩ => ⟨S256x1536, .f32⟩
  | .hbm, ⟨28, _⟩ => ⟨S256x1536, .bf16⟩
  | .hbm, ⟨29, _⟩ => ⟨S1x384, .f32⟩
  | .hbm, ⟨30, _⟩ => ⟨S1x256, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S8192, .f32⟩
  | .hbm, ⟨48, _⟩ => ⟨S8192x1, .f32⟩
  | .hbm, ⟨49, _⟩ => ⟨S1x16, .f32⟩
  | .hbm, ⟨50, _⟩ => ⟨S8192x16, .f32⟩
  | .hbm, ⟨51, _⟩ => ⟨S8192x16, .f32⟩
  | .hbm, ⟨52, _⟩ => ⟨S8192x16, .f32⟩
  | .hbm, ⟨53, _⟩ => ⟨S8192x16, .f32⟩
  | .hbm, ⟨54, _⟩ => ⟨S8192x16, .f32⟩
  | .hbm, ⟨55, _⟩ => ⟨S_, .f32⟩
  | .hbm, ⟨56, _⟩ => ⟨S8192x64, .f32⟩
  | .hbm, ⟨57, _⟩ => ⟨S_, .f32⟩
  | .hbm, ⟨58, _⟩ => ⟨S8192x32, .f32⟩
  | .hbm, ⟨59, _⟩ => ⟨S8192x128, .f32⟩
  | .hbm, ⟨60, _⟩ => ⟨S1x8192x1x128, .f32⟩
  | .hbm, ⟨61, _⟩ => ⟨S1x8192x1x128, .f32⟩
  | .hbm, ⟨62, _⟩ => ⟨S8192x128, .f32⟩
  | .hbm, ⟨63, _⟩ => ⟨S_, .f32⟩
  | .hbm, ⟨64, _⟩ => ⟨S8192x64, .f32⟩
  | .hbm, ⟨65, _⟩ => ⟨S8192x16, .f32⟩
  | .hbm, ⟨66, _⟩ => ⟨S_, .f32⟩
  | .hbm, ⟨67, _⟩ => ⟨S8192x16, .f32⟩
  | .hbm, ⟨68, _⟩ => ⟨S_, .f32⟩
  | .hbm, ⟨69, _⟩ => ⟨S8192x32, .f32⟩
  | .hbm, ⟨70, _⟩ => ⟨S8192x128, .f32⟩
  | .hbm, ⟨71, _⟩ => ⟨S1x8192x1x128, .f32⟩
  | .hbm, ⟨72, _⟩ => ⟨S1x8192x1x128, .f32⟩
  | .hbm, ⟨73, _⟩ => ⟨S8192x128, .f32⟩
  | .hbm, ⟨74, _⟩ => ⟨S_, .f32⟩
  | .hbm, ⟨75, _⟩ => ⟨S8192x80, .f32⟩
  | .hbm, ⟨76, _⟩ => ⟨S_, .f32⟩
  | .hbm, ⟨77, _⟩ => ⟨S8192x32, .f32⟩
  | .hbm, ⟨78, _⟩ => ⟨S8192x128, .f32⟩
  | .hbm, ⟨79, _⟩ => ⟨S1x8192x1x128, .f32⟩
  | .hbm, ⟨80, _⟩ => ⟨S1x8192x1x128, .f32⟩
  | .hbm, ⟨81, _⟩ => ⟨S8192x128, .f32⟩
  | .hbm, ⟨82, _⟩ => ⟨S8192x1024, .bf16⟩
  | .hbm, ⟨83, _⟩ => ⟨S8192x1024, .bf16⟩
  | .hbm, ⟨84, _⟩ => ⟨S8192x512, .bf16⟩
  | .hbm, ⟨85, _⟩ => ⟨S8192x384, .bf16⟩
  | .hbm, ⟨86, _⟩ => ⟨S8192x256, .bf16⟩
  | .local _ .vmem, ⟨0, _⟩ => ⟨S512x1024, .bf16⟩
  | .local _ .vmem, ⟨1, _⟩ => ⟨S512x1024, .bf16⟩
  | .local _ .vmem, ⟨2, _⟩ => ⟨S1x384, .f32⟩
  | .local _ .vmem, ⟨3, _⟩ => ⟨S1x256, .f32⟩
  | .local _ .vmem, ⟨4, _⟩ => ⟨S384x1024, .bf16⟩
  | .local _ .vmem, ⟨5, _⟩ => ⟨S256x1536, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x384, .bf16⟩
  | .local _ .vmem, ⟨19, _⟩ => ⟨S512x384, .bf16⟩
  | .local _ .vmem, ⟨20, _⟩ => ⟨S512x256, .bf16⟩
  | .local _ .vmem, ⟨21, _⟩ => ⟨S512x256, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59_0 : Ref sig .tc := ⟨.hbm, 82, rfl⟩
abbrev main_v59_1 : Ref sig .tc := ⟨.hbm, 83, rfl⟩
abbrev main_v59_2 : Ref sig .tc := ⟨.hbm, 84, rfl⟩
abbrev main_v59_3 : Ref sig .tc := ⟨.hbm, 85, rfl⟩
abbrev main_v59_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel14Ideal.lean ====
variable {F : FTy → Type} [FloatOps F] [Named F]
def κ : String → Option EReal := fun
  | "qscale" => some ((((Real.sqrt 96) * (Real.log 2))⁻¹ : ℝ) : EReal)
  | _ => none
-- ==== Reference14Ideal.lean ====
abbrev S8192x384 : Shape := ⟨2, ![8192, 384]⟩
abbrev S8192x256 : Shape := ⟨2, ![8192, 256]⟩
abbrev S8192x32 : Shape := ⟨2, ![8192, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S1x384 : Shape := ⟨2, ![1, 384]⟩
abbrev S1x256 : Shape := ⟨2, ![1, 256]⟩
abbrev S8192x768 : Shape := ⟨2, ![8192, 768]⟩
abbrev S8192x8x96 : Shape := ⟨3, ![8192, 8, 96]⟩
abbrev S8192x1024 : Shape := ⟨2, ![8192, 1024]⟩
abbrev S8192x8x128 : Shape := ⟨3, ![8192, 8, 128]⟩
abbrev S8192x1x32 : Shape := ⟨3, ![8192, 1, 32]⟩
abbrev S8192x1x16 : Shape := ⟨3, ![8192, 1, 16]⟩
abbrev S8192x8x32 : Shape := ⟨3, ![8192, 8, 32]⟩
abbrev S8192x8x64 : Shape := ⟨3, ![8192, 8, 64]⟩
abbrev S8192x8x16 : Shape := ⟨3, ![8192, 8, 16]⟩
abbrev S8192x512 : Shape := ⟨2, ![8192, 512]⟩

abbrev nBuf : Space → Nat
  | .hbm => 122
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x32, .f32⟩
  | .hbm, ⟨3, _⟩ => ⟨S384, .f32⟩
  | .hbm, ⟨4, _⟩ => ⟨S256, .f32⟩
  | .hbm, ⟨5, _⟩ => ⟨S384x768, .f32⟩
  | .hbm, ⟨6, _⟩ => ⟨S256x1024, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S8192, .f32⟩
  | .hbm, ⟨24, _⟩ => ⟨S8192x1, .f32⟩
  | .hbm, ⟨25, _⟩ => ⟨S1x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x384, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x384, .f32⟩
  | .hbm, ⟨43, _⟩ => ⟨S8192x384, .f32⟩
  | .hbm, ⟨44, _⟩ => ⟨S1x384, .f32⟩
  | .hbm, ⟨45, _⟩ => ⟨S8192x384, .f32⟩
  | .hbm, ⟨46, _⟩ => ⟨S8192x384, .f32⟩
  | .hbm, ⟨47, _⟩ => ⟨S8192x256, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x256, .f32⟩
  | .hbm, ⟨59, _⟩ => ⟨S8192x256, .f32⟩
  | .hbm, ⟨60, _⟩ => ⟨S1x256, .f32⟩
  | .hbm, ⟨61, _⟩ => ⟨S8192x256, .f32⟩
  | .hbm, ⟨62, _⟩ => ⟨S8192x256, .f32⟩
  | .hbm, ⟨63, _⟩ => ⟨S8192x768, .f32⟩
  | .hbm, ⟨64, _⟩ => ⟨S8192x8x96, .f32⟩
  | .hbm, ⟨65, _⟩ => ⟨S8192x1024, .f32⟩
  | .hbm, ⟨66, _⟩ => ⟨S8192x8x128, .f32⟩
  | .hbm, ⟨67, _⟩ => ⟨S8192x1x32, .f32⟩
  | .hbm, ⟨68, _⟩ => ⟨S8192x1x16, .f32⟩
  | .hbm, ⟨69, _⟩ => ⟨S8192x1x16, .f32⟩
  | .hbm, ⟨70, _⟩ => ⟨S8192x1x16, .f32⟩
  | .hbm, ⟨71, _⟩ => ⟨S8192x1x16, .f32⟩
  | .hbm, ⟨72, _⟩ => ⟨S8192x1x16, .f32⟩
  | .hbm, ⟨73, _⟩ => ⟨S8192x1x16, .f32⟩
  | .hbm, ⟨74, _⟩ => ⟨S8192x1x16, .f32⟩
  | .hbm, ⟨75, _⟩ => ⟨S8192x1x16, .f32⟩
  | .hbm, ⟨76, _⟩ => ⟨S8192x1x16, .f32⟩
  | .hbm, ⟨77, _⟩ => ⟨S8192x1x16, .f32⟩
  | .hbm, ⟨78, _⟩ => ⟨S8192x1x32, .f32⟩
  | .hbm, ⟨79, _⟩ => ⟨S8192x8x32, .f32⟩
  | .hbm, ⟨80, _⟩ => ⟨S_, .f32⟩
  | .hbm, ⟨81, _⟩ => ⟨S8192x8x32, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8192x8x64, .f32⟩
  | .hbm, ⟨88, _⟩ => ⟨S_, .f32⟩
  | .hbm, ⟨89, _⟩ => ⟨S8192x8x64, .f32⟩
  | .hbm, ⟨90, _⟩ => ⟨S8192x8x64, .f32⟩
  | .hbm, ⟨91, _⟩ => ⟨S8192x8x32, .f32⟩
  | .hbm, ⟨92, _⟩ => ⟨S8192x8x16, .f32⟩
  | .hbm, ⟨93, _⟩ => ⟨S8192x8x16, .f32⟩
  | .hbm, ⟨94, _⟩ => ⟨S8192x1x16, .f32⟩
  | .hbm, ⟨95, _⟩ => ⟨S8192x1x16, .f32⟩
  | .hbm, ⟨96, _⟩ => ⟨S8192x8x16, .f32⟩
  | .hbm, ⟨97, _⟩ => ⟨S8192x8x16, .f32⟩
  | .hbm, ⟨98, _⟩ => ⟨S8192x8x16, .f32⟩
  | .hbm, ⟨99, _⟩ => ⟨S8192x8x16, .f32⟩
  | .hbm, ⟨100, _⟩ => ⟨S8192x8x16, .f32⟩
  | .hbm, ⟨101, _⟩ => ⟨S8192x8x16, .f32⟩
  | .hbm, ⟨102, _⟩ => ⟨S8192x8x16, .f32⟩
  | .hbm, ⟨103, _⟩ => ⟨S8192x8x16, .f32⟩
  | .hbm, ⟨104, _⟩ => ⟨S8192x8x16, .f32⟩
  | .hbm, ⟨105, _⟩ => ⟨S8192x8x16, .f32⟩
  | .hbm, ⟨106, _⟩ => ⟨S8192x8x32, .f32⟩
  | .hbm, ⟨107, _⟩ => ⟨S_, .f32⟩
  | .hbm, ⟨108, _⟩ => ⟨S8192x8x32, .f32⟩
  | .hbm, ⟨109, _⟩ => ⟨S8192x8x32, .f32⟩
  | .hbm, ⟨110, _⟩ => ⟨S8192x8x128, .f32⟩
  | .hbm, ⟨111, _⟩ => ⟨S8192x1024, .f32⟩
  | .hbm, ⟨112, _⟩ => ⟨S8192x1024, .bf16⟩
  | .hbm, ⟨113, _⟩ => ⟨S8192x8x64, .f32⟩
  | .hbm, ⟨114, _⟩ => ⟨S8192x8x128, .f32⟩
  | .hbm, ⟨115, _⟩ => ⟨S8192x1024, .f32⟩
  | .hbm, ⟨116, _⟩ => ⟨S8192x1024, .bf16⟩
  | .hbm, ⟨117, _⟩ => ⟨S8192x8x64, .f32⟩
  | .hbm, ⟨118, _⟩ => ⟨S8192x512, .f32⟩
  | .hbm, ⟨119, _⟩ => ⟨S8192x512, .bf16⟩
  | .hbm, ⟨120, _⟩ => ⟨S8192x384, .bf16⟩
  | .hbm, ⟨121, _⟩ => ⟨S8192x256, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩

abbrev nD : Nat := 1
abbrev τ : Topo := Topo.v7x

variable {F : FTy → Type} [FloatOps F]
-- ==== Kernel15.lean ====
abbrev S8192x8x64 : Shape := ⟨3, ![8192, 8, 64]⟩
abbrev S_ : Shape := ⟨0, ![]⟩
abbrev S16x64x512 : Shape := ⟨3, ![16, 64, 512]⟩
abbrev S8192x512 : Shape := ⟨2, ![8192, 512]⟩
abbrev S512x16x512 : Shape := ⟨3, ![512, 16, 512]⟩
abbrev S16x512x512 : Shape := ⟨3, ![16, 512, 512]⟩
abbrev S16x640x512 : Shape := ⟨3, ![16, 640, 512]⟩
abbrev S16x5x128x512 : Shape := ⟨4, ![16, 5, 128, 512]⟩
abbrev S16x5x512x128 : Shape := ⟨4, ![16, 5, 512, 128]⟩
abbrev S1x512x128 : Shape := ⟨3, ![1, 512, 128]⟩
abbrev S1x640x128 : Shape := ⟨3, ![1, 640, 128]⟩
abbrev S1x5x128x128 : Shape := ⟨4, ![1, 5, 128, 128]⟩
abbrev S128x128 : Shape := ⟨2, ![128, 128]⟩
abbrev S256x128 : Shape := ⟨2, ![256, 128]⟩
abbrev S1x256x128 : Shape := ⟨3, ![1, 256, 128]⟩
abbrev S1x128x128 : Shape := ⟨3, ![1, 128, 128]⟩
abbrev S128 : Shape := ⟨1, ![128]⟩
abbrev S1x128 : Shape := ⟨2, ![1, 128]⟩
abbrev S1x1x64x128 : Shape := ⟨4, ![1, 1, 64, 128]⟩
abbrev S64x128 : Shape := ⟨2, ![64, 128]⟩

abbrev nBuf : Space → Nat
  | .hbm => 30
  | .vmem => 10
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S_, .bf16⟩
  | .hbm, ⟨4, _⟩ => ⟨S16x64x512, .bf16⟩
  | .hbm, ⟨5, _⟩ => ⟨S8192x512, .f32⟩
  | .hbm, ⟨6, _⟩ => ⟨S512x16x512, .f32⟩
  | .hbm, ⟨7, _⟩ => ⟨S16x512x512, .f32⟩
  | .hbm, ⟨8, _⟩ => ⟨S16x512x512, .bf16⟩
  | .hbm, ⟨9, _⟩ => ⟨S16x640x512, .bf16⟩
  | .hbm, ⟨10, _⟩ => ⟨S16x5x128x512, .bf16⟩
  | .hbm, ⟨11, _⟩ => ⟨S16x5x512x128, .bf16⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x8x64, .f32⟩
  | .hbm, ⟨18, _⟩ => ⟨S8192x8x64, .f32⟩
  | .hbm, ⟨19, _⟩ => ⟨S8192x512, .f32⟩
  | .hbm, ⟨20, _⟩ => ⟨S512x16x512, .f32⟩
  | .hbm, ⟨21, _⟩ => ⟨S16x512x512, .f32⟩
  | .hbm, ⟨22, _⟩ => ⟨S16x512x512, .bf16⟩
  | .hbm, ⟨23, _⟩ => ⟨S8192x512, .f32⟩
  | .hbm, ⟨24, _⟩ => ⟨S512x16x512, .f32⟩
  | .hbm, ⟨25, _⟩ => ⟨S16x512x512, .f32⟩
  | .hbm, ⟨26, _⟩ => ⟨S16x512x512, .bf16⟩
  | .hbm, ⟨27, _⟩ => ⟨S16x640x512, .bf16⟩
  | .hbm, ⟨28, _⟩ => ⟨S16x512x512, .f32⟩
  | .hbm, ⟨29, _⟩ => ⟨S16x512x512, .f32⟩
  | .local _ .vmem, ⟨0, _⟩ => ⟨S1x512x128, .bf16⟩
  | .local _ .vmem, ⟨1, _⟩ => ⟨S1x512x128, .bf16⟩
  | .local _ .vmem, ⟨2, _⟩ => ⟨S1x640x128, .bf16⟩
  | .local _ .vmem, ⟨3, _⟩ => ⟨S1x640x128, .bf16⟩
  | .local _ .vmem, ⟨4, _⟩ => ⟨S1x5x128x128, .bf16⟩
  | .local _ .vmem, ⟨5, _⟩ => ⟨S1x5x128x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def k0_mult1 (i : grid0.Coords) : BitVec 32 :=
  let arg2 : BitVec 32 := BitVec.ofNat 32 (i 2).val
  let c512_i32 : BitVec 32 := 512#32
  let v4 : BitVec 32 := Scalar.muli arg2 c512_i32
  let c0_i32 : BitVec 32 := 0#32
  let v5 : BitVec 32 := Scalar.addi v4 c0_i32
  v5
def k0_off1 (i : grid0.Coords) (c0_i32 : BitVec 32) : Fin 3 → Nat :=
  let c0 : Index := 0#32
  let arg2 : BitVec 32 := BitVec.ofNat 32 (i 2).val
  let c512_i32 : BitVec 32 := 512#32
  let v4 : BitVec 32 := Scalar.muli arg2 c512_i32
  let v5 : BitVec 32 := Scalar.addi v4 c0_i32
  let v6 : BitVec 32 := v5
  let v24 : Index := Scalar.indexCast v6
  let c0_5 : Index := 0#32
  ![0, v24.toNat, 0]
def k0_off2 (i : grid0.Coords) (c0_i32 : BitVec 32) : Fin 4 → Nat :=
  let c0_21 : Index := 0#32
  let arg2 : BitVec 32 := BitVec.ofNat 32 (i 2).val
  let c512_i32 : BitVec 32 := 512#32
  let v4 : BitVec 32 := Scalar.muli arg2 c512_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v74 : Index := Scalar.indexCast v23
  let c0_22 : Index := 0#32
  let c0_23 : Index := 0#32
  ![0, v74.toNat, 0, 0]
def k0_off3 (i : grid0.Coords) (c0_i32 : BitVec 32) : Fin 4 → Nat :=
  let c0_26 : Index := 0#32
  let arg2 : BitVec 32 := BitVec.ofNat 32 (i 2).val
  let c512_i32 : BitVec 32 := 512#32
  let v4 : BitVec 32 := Scalar.muli arg2 c512_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let c1_i32_25 : BitVec 32 := 1#32
  let v79 : BitVec 32 := Scalar.addi v23 c1_i32_25
  let v80 : Index := Scalar.indexCast v79
  let c0_27 : Index := 0#32
  let c0_28 : Index := 0#32
  ![0, v80.toNat, 0, 0]
def k0_off4 (i : grid0.Coords) (c0_i32 : BitVec 32) : Fin 4 → Nat :=
  let c0_37 : Index := 0#32
  let arg2 : BitVec 32 := BitVec.ofNat 32 (i 2).val
  let c512_i32 : BitVec 32 := 512#32
  let v4 : BitVec 32 := Scalar.muli arg2 c512_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v108 : Index := Scalar.indexCast v23
  let c64 : Index := 64#32
  let c0_38 : Index := 0#32
  ![0, v108.toNat, 64, 0]
def k0_off5 (i : grid0.Coords) (c0_i32 : BitVec 32) : Fin 4 → Nat :=
  let c0_41 : Index := 0#32
  let arg2 : BitVec 32 := BitVec.ofNat 32 (i 2).val
  let c512_i32 : BitVec 32 := 512#32
  let v4 : BitVec 32 := Scalar.muli arg2 c512_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let c1_i32_40 : BitVec 32 := 1#32
  let v113 : BitVec 32 := Scalar.addi v23 c1_i32_40
  let v114 : Index := Scalar.indexCast v113
  let c64_42 : Index := 64#32
  let c0_43 : Index := 0#32
  ![0, v114.toNat, 64, 0]
def k0_mult2 (i : grid0.Coords) : BitVec 32 :=
  let arg2 : BitVec 32 := BitVec.ofNat 32 (i 2).val
  let c512_i32_52 : BitVec 32 := 512#32
  let v138 : BitVec 32 := Scalar.muli arg2 c512_i32_52
  let c128_i32_53 : BitVec 32 := 128#32
  let v139 : BitVec 32 := Scalar.addi v138 c128_i32_53
  v139
def k0_mult3 (i : grid0.Coords) : BitVec 32 :=
  let arg2 : BitVec 32 := BitVec.ofNat 32 (i 2).val
  let c512_i32_112 : BitVec 32 := 512#32
  let v272 : BitVec 32 := Scalar.muli arg2 c512_i32_112
  let c256_i32 : BitVec 32 := 256#32
  let v273 : BitVec 32 := Scalar.addi v272 c256_i32
  v273
def k0_mult4 (i : grid0.Coords) : BitVec 32 :=
  let arg2 : BitVec 32 := BitVec.ofNat 32 (i 2).val
  let c512_i32_171 : BitVec 32 := 512#32
  let v406 : BitVec 32 := Scalar.muli arg2 c512_i32_171
  let c384_i32 : BitVec 32 := 384#32
  let v407 : BitVec 32 := Scalar.addi v406 c384_i32
  v407
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x5x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel15Ideal.lean ====
variable {F : FTy → Type} [FloatOps F] [Named F]
def κ : String → Option EReal := fun
  | "log2e" => some (((Real.log 2)⁻¹ : ℝ) : EReal)
  | "mask" => some ⊥
  | _ => none
-- ==== Reference15Ideal.lean ====
abbrev S8192x8x64 : Shape := ⟨3, ![8192, 8, 64]⟩
abbrev S512x16x8x64 : Shape := ⟨4, ![512, 16, 8, 64]⟩
abbrev S16x512x8x64 : Shape := ⟨4, ![16, 512, 8, 64]⟩
abbrev S_ : Shape := ⟨0, ![]⟩
abbrev S16x64x8x64 : Shape := ⟨4, ![16, 64, 8, 64]⟩
abbrev S512 : Shape := ⟨1, ![512]⟩
abbrev S8x64 : Shape := ⟨2, ![8, 64]⟩
abbrev S8 : Shape := ⟨1, ![8]⟩
abbrev S8x1 : Shape := ⟨2, ![8, 1]⟩
abbrev S192 : Shape := ⟨1, ![192]⟩
abbrev S1x192 : Shape := ⟨2, ![1, 192]⟩
abbrev S8x192 : Shape := ⟨2, ![8, 192]⟩
abbrev S8x64x1 : Shape := ⟨3, ![8, 64, 1]⟩
abbrev S8x1x192 : Shape := ⟨3, ![8, 1, 192]⟩
abbrev S8x64x192 : Shape := ⟨3, ![8, 64, 192]⟩
abbrev S16x8x64x8x64 : Shape := ⟨5, ![16, 8, 64, 8, 64]⟩
abbrev S16x640x8x64 : Shape := ⟨4, ![16, 640, 8, 64]⟩
abbrev S16x10x64x8x64 : Shape := ⟨5, ![16, 10, 64, 8, 64]⟩
abbrev S16x8x192x8x64 : Shape := ⟨5, ![16, 8, 192, 8, 64]⟩
abbrev S16x8x8x64x192 : Shape := ⟨5, ![16, 8, 8, 64, 192]⟩
abbrev S1x8x1x64x192 : Shape := ⟨5, ![1, 8, 1, 64, 192]⟩
abbrev S16x8x8x64 : Shape := ⟨4, ![16, 8, 8, 64]⟩
abbrev S16x8x8x64x1 : Shape := ⟨5, ![16, 8, 8, 64, 1]⟩
abbrev S16x8x8x64x64 : Shape := ⟨5, ![16, 8, 8, 64, 64]⟩
abbrev S16x8x64x8 : Shape := ⟨4, ![16, 8, 64, 8]⟩
abbrev S16x512x8 : Shape := ⟨3, ![16, 512, 8]⟩
abbrev S16x512x8x1 : Shape := ⟨4, ![16, 512, 8, 1]⟩
abbrev S16x512x512 : Shape := ⟨3, ![16, 512, 512]⟩

abbrev nBuf : Space → Nat
  | .hbm => 98
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S512x16x8x64, .f32⟩
  | .hbm, ⟨4, _⟩ => ⟨S16x512x8x64, .f32⟩
  | .hbm, ⟨5, _⟩ => ⟨S512x16x8x64, .f32⟩
  | .hbm, ⟨6, _⟩ => ⟨S16x512x8x64, .f32⟩
  | .hbm, ⟨7, _⟩ => ⟨S512x16x8x64, .f32⟩
  | .hbm, ⟨8, _⟩ => ⟨S16x512x8x64, .f32⟩
  | .hbm, ⟨9, _⟩ => ⟨S_, .f32⟩
  | .hbm, ⟨10, _⟩ => ⟨S16x64x8x64, .f32⟩
  | .hbm, ⟨11, _⟩ => ⟨S512, .i32⟩
  | .hbm, ⟨12, _⟩ => ⟨S8x64, .i32⟩
  | .hbm, ⟨13, _⟩ => ⟨S8, .i32⟩
  | .hbm, ⟨14, _⟩ => ⟨S8x1, .i32⟩
  | .hbm, ⟨15, _⟩ => ⟨S_, .i32⟩
  | .hbm, ⟨16, _⟩ => ⟨S8x1, .i32⟩
  | .hbm, ⟨17, _⟩ => ⟨S8x1, .i32⟩
  | .hbm, ⟨18, _⟩ => ⟨S_, .i32⟩
  | .hbm, ⟨19, _⟩ => ⟨S8x1, .i32⟩
  | .hbm, ⟨20, _⟩ => ⟨S8x1, .i32⟩
  | .hbm, ⟨21, _⟩ => ⟨S192, .i32⟩
  | .hbm, ⟨22, _⟩ => ⟨S1x192, .i32⟩
  | .hbm, ⟨23, _⟩ => ⟨S8x192, .i32⟩
  | .hbm, ⟨24, _⟩ => ⟨S8x192, .i32⟩
  | .hbm, ⟨25, _⟩ => ⟨S8x192, .i32⟩
  | .hbm, ⟨26, _⟩ => ⟨S8x64x1, .i32⟩
  | .hbm, ⟨27, _⟩ => ⟨S8x1x192, .i32⟩
  | .hbm, ⟨28, _⟩ => ⟨S8x64x192, .i32⟩
  | .hbm, ⟨29, _⟩ => ⟨S8x64x192, .i32⟩
  | .hbm, ⟨30, _⟩ => ⟨S8x64x192, .i32⟩
  | .hbm, ⟨31, _⟩ => ⟨S8x64x192, .i32⟩
  | .hbm, ⟨32, _⟩ => ⟨S_, .i32⟩
  | .hbm, ⟨33, _⟩ => ⟨S8x64x192, .i32⟩
  | .hbm, ⟨34, _⟩ => ⟨S8x64x192, .i1⟩
  | .hbm, ⟨35, _⟩ => ⟨S8x1x192, .i32⟩
  | .hbm, ⟨36, _⟩ => ⟨S_, .i32⟩
  | .hbm, ⟨37, _⟩ => ⟨S8x1x192, .i32⟩
  | .hbm, ⟨38, _⟩ => ⟨S8x1x192, .i1⟩
  | .hbm, ⟨39, _⟩ => ⟨S8x64x192, .i1⟩
  | .hbm, ⟨40, _⟩ => ⟨S8x64x192, .i1⟩
  | .hbm, ⟨41, _⟩ => ⟨S8x1x192, .i32⟩
  | .hbm, ⟨42, _⟩ => ⟨S_, .i32⟩
  | .hbm, ⟨43, _⟩ => ⟨S8x1x192, .i32⟩
  | .hbm, ⟨44, _⟩ => ⟨S8x1x192, .i1⟩
  | .hbm, ⟨45, _⟩ => ⟨S8x64x192, .i1⟩
  | .hbm, ⟨46, _⟩ => ⟨S8x64x192, .i1⟩
  | .hbm, ⟨47, _⟩ => ⟨S16x8x64x8x64, .f32⟩
  | .hbm, ⟨48, _⟩ => ⟨S16x640x8x64, .f32⟩
  | .hbm, ⟨49, _⟩ => ⟨S16x10x64x8x64, .f32⟩
  | .hbm, ⟨50, _⟩ => ⟨S16x8x64x8x64, .f32⟩
  | .hbm, ⟨51, _⟩ => ⟨S16x8x64x8x64, .f32⟩
  | .hbm, ⟨52, _⟩ => ⟨S16x8x64x8x64, .f32⟩
  | .hbm, ⟨53, _⟩ => ⟨S16x8x192x8x64, .f32⟩
  | .hbm, ⟨54, _⟩ => ⟨S16x8x8x64x192, .f32⟩
  | .hbm, ⟨55, _⟩ => ⟨S_, .f32⟩
  | .hbm, ⟨56, _⟩ => ⟨S16x8x8x64x192, .f32⟩
  | .hbm, ⟨57, _⟩ => ⟨S16x8x8x64x192, .f32⟩
  | .hbm, ⟨58, _⟩ => ⟨S1x8x1x64x192, .i1⟩
  | .hbm, ⟨59, _⟩ => ⟨S_, .f32⟩
  | .hbm, ⟨60, _⟩ => ⟨S_, .f32⟩
  | .hbm, ⟨61, _⟩ => ⟨S16x8x8x64x192, .i1⟩
  | .hbm, ⟨62, _⟩ => ⟨S16x8x8x64x192, .f32⟩
  | .hbm, ⟨63, _⟩ => ⟨S16x8x8x64x192, .f32⟩
  | .hbm, ⟨64, _⟩ => ⟨S_, .f32⟩
  | .hbm, ⟨65, _⟩ => ⟨S16x8x8x64, .f32⟩
  | .hbm, ⟨66, _⟩ => ⟨S16x8x8x64x1, .f32⟩
  | .hbm, ⟨67, _⟩ => ⟨S16x8x8x64x192, .f32⟩
  | .hbm, ⟨68, _⟩ => ⟨S16x8x8x64x192, .f32⟩
  | .hbm, ⟨69, _⟩ => ⟨S16x8x8x64x192, .f32⟩
  | .hbm, ⟨70, _⟩ => ⟨S_, .f32⟩
  | .hbm, ⟨71, _⟩ => ⟨S16x8x8x64, .f32⟩
  | .hbm, ⟨72, _⟩ => ⟨S16x8x8x64x1, .f32⟩
  | .hbm, ⟨73, _⟩ => ⟨S16x8x8x64x192, .f32⟩
  | .hbm, ⟨74, _⟩ => ⟨S16x8x8x64x192, .f32⟩
  | .hbm, ⟨75, _⟩ => ⟨S16x640x8x64, .f32⟩
  | .hbm, ⟨76, _⟩ => ⟨S16x10x64x8x64, .f32⟩
  | .hbm, ⟨77, _⟩ => ⟨S16x8x64x8x64, .f32⟩
  | .hbm, ⟨78, _⟩ => ⟨S16x8x64x8x64, .f32⟩
  | .hbm, ⟨79, _⟩ => ⟨S16x8x64x8x64, .f32⟩
  | .hbm, ⟨80, _⟩ => ⟨S16x8x192x8x64, .f32⟩
  | .hbm, ⟨81, _⟩ => ⟨S16x8x8x64x64, .f32⟩
  | .hbm, ⟨82, _⟩ => ⟨S16x8x64x8x64, .f32⟩
  | .hbm, ⟨83, _⟩ => ⟨S16x512x8x64, .f32⟩
  | .hbm, ⟨84, _⟩ => ⟨S16x8x8x64x1, .f32⟩
  | .hbm, ⟨85, _⟩ => ⟨S16x8x8x64x1, .f32⟩
  | .hbm, ⟨86, _⟩ => ⟨S16x8x8x64, .f32⟩
  | .hbm, ⟨87, _⟩ => ⟨S16x8x64x8, .f32⟩
  | .hbm, ⟨88, _⟩ => ⟨S16x512x8, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S16x512x8, .f32⟩
  | .hbm, ⟨93, _⟩ => ⟨S16x512x8, .f32⟩
  | .hbm, ⟨94, _⟩ => ⟨S16x512x8x1, .f32⟩
  | .hbm, ⟨95, _⟩ => ⟨S16x512x8x64, .f32⟩
  | .hbm, ⟨96, _⟩ => ⟨S16x512x512, .f32⟩
  | .hbm, ⟨97, _⟩ => ⟨S16x512x512, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩

abbrev nD : Nat := 1
abbrev τ : Topo := Topo.v7x

variable {F : FTy → Type} [FloatOps F]
-- ==== Kernel16.lean ====
abbrev S8192x8x64 : Shape := ⟨3, ![8192, 8, 64]⟩
abbrev S_ : Shape := ⟨0, ![]⟩
abbrev S4x64x512 : Shape := ⟨3, ![4, 64, 512]⟩
abbrev S8192x512 : Shape := ⟨2, ![8192, 512]⟩
abbrev S2048x4x512 : Shape := ⟨3, ![2048, 4, 512]⟩
abbrev S4x2048x512 : Shape := ⟨3, ![4, 2048, 512]⟩
abbrev S4x2176x512 : Shape := ⟨3, ![4, 2176, 512]⟩
abbrev S4x17x128x512 : Shape := ⟨4, ![4, 17, 128, 512]⟩
abbrev S4x17x512x128 : Shape := ⟨4, ![4, 17, 512, 128]⟩
abbrev S1x2048x128 : Shape := ⟨3, ![1, 2048, 128]⟩
abbrev S1x2176x128 : Shape := ⟨3, ![1, 2176, 128]⟩
abbrev S1x17x128x128 : Shape := ⟨4, ![1, 17, 128, 128]⟩
abbrev S128x128 : Shape := ⟨2, ![128, 128]⟩
abbrev S256x128 : Shape := ⟨2, ![256, 128]⟩
abbrev S1x256x128 : Shape := ⟨3, ![1, 256, 128]⟩
abbrev S1x128x128 : Shape := ⟨3, ![1, 128, 128]⟩
abbrev S128 : Shape := ⟨1, ![128]⟩
abbrev S1x128 : Shape := ⟨2, ![1, 128]⟩
abbrev S1x1x64x128 : Shape := ⟨4, ![1, 1, 64, 128]⟩
abbrev S64x128 : Shape := ⟨2, ![64, 128]⟩

abbrev nBuf : Space → Nat
  | .hbm => 30
  | .vmem => 10
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S_, .bf16⟩
  | .hbm, ⟨4, _⟩ => ⟨S4x64x512, .bf16⟩
  | .hbm, ⟨5, _⟩ => ⟨S8192x512, .f32⟩
  | .hbm, ⟨6, _⟩ => ⟨S2048x4x512, .f32⟩
  | .hbm, ⟨7, _⟩ => ⟨S4x2048x512, .f32⟩
  | .hbm, ⟨8, _⟩ => ⟨S4x2048x512, .bf16⟩
  | .hbm, ⟨9, _⟩ => ⟨S4x2176x512, .bf16⟩
  | .hbm, ⟨10, _⟩ => ⟨S4x17x128x512, .bf16⟩
  | .hbm, ⟨11, _⟩ => ⟨S4x17x512x128, .bf16⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x8x64, .f32⟩
  | .hbm, ⟨18, _⟩ => ⟨S8192x8x64, .f32⟩
  | .hbm, ⟨19, _⟩ => ⟨S8192x512, .f32⟩
  | .hbm, ⟨20, _⟩ => ⟨S2048x4x512, .f32⟩
  | .hbm, ⟨21, _⟩ => ⟨S4x2048x512, .f32⟩
  | .hbm, ⟨22, _⟩ => ⟨S4x2048x512, .bf16⟩
  | .hbm, ⟨23, _⟩ => ⟨S8192x512, .f32⟩
  | .hbm, ⟨24, _⟩ => ⟨S2048x4x512, .f32⟩
  | .hbm, ⟨25, _⟩ => ⟨S4x2048x512, .f32⟩
  | .hbm, ⟨26, _⟩ => ⟨S4x2048x512, .bf16⟩
  | .hbm, ⟨27, _⟩ => ⟨S4x2176x512, .bf16⟩
  | .hbm, ⟨28, _⟩ => ⟨S4x2048x512, .f32⟩
  | .hbm, ⟨29, _⟩ => ⟨S4x2048x512, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2176x128, .bf16⟩
  | .local _ .vmem, ⟨3, _⟩ => ⟨S1x2176x128, .bf16⟩
  | .local _ .vmem, ⟨4, _⟩ => ⟨S1x17x128x128, .bf16⟩
  | .local _ .vmem, ⟨5, _⟩ => ⟨S1x17x128x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def k0_mult1 (i : grid0.Coords) : BitVec 32 :=
  let arg2 : BitVec 32 := BitVec.ofNat 32 (i 2).val
  let c2048_i32 : BitVec 32 := 2048#32
  let v4 : BitVec 32 := Scalar.muli arg2 c2048_i32
  let c0_i32 : BitVec 32 := 0#32
  let v5 : BitVec 32 := Scalar.addi v4 c0_i32
  v5
def k0_off1 (i : grid0.Coords) (c0_i32 : BitVec 32) : Fin 3 → Nat :=
  let c0 : Index := 0#32
  let arg2 : BitVec 32 := BitVec.ofNat 32 (i 2).val
  let c2048_i32 : BitVec 32 := 2048#32
  let v4 : BitVec 32 := Scalar.muli arg2 c2048_i32
  let v5 : BitVec 32 := Scalar.addi v4 c0_i32
  let v6 : BitVec 32 := v5
  let v24 : Index := Scalar.indexCast v6
  let c0_5 : Index := 0#32
  ![0, v24.toNat, 0]
def k0_off2 (i : grid0.Coords) (c0_i32 : BitVec 32) : Fin 4 → Nat :=
  let c0_21 : Index := 0#32
  let arg2 : BitVec 32 := BitVec.ofNat 32 (i 2).val
  let c2048_i32 : BitVec 32 := 2048#32
  let v4 : BitVec 32 := Scalar.muli arg2 c2048_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v74 : Index := Scalar.indexCast v23
  let c0_22 : Index := 0#32
  let c0_23 : Index := 0#32
  ![0, v74.toNat, 0, 0]
def k0_off3 (i : grid0.Coords) (c0_i32 : BitVec 32) : Fin 4 → Nat :=
  let c0_26 : Index := 0#32
  let arg2 : BitVec 32 := BitVec.ofNat 32 (i 2).val
  let c2048_i32 : BitVec 32 := 2048#32
  let v4 : BitVec 32 := Scalar.muli arg2 c2048_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let c1_i32_25 : BitVec 32 := 1#32
  let v79 : BitVec 32 := Scalar.addi v23 c1_i32_25
  let v80 : Index := Scalar.indexCast v79
  let c0_27 : Index := 0#32
  let c0_28 : Index := 0#32
  ![0, v80.toNat, 0, 0]
def k0_off4 (i : grid0.Coords) (c0_i32 : BitVec 32) : Fin 4 → Nat :=
  let c0_37 : Index := 0#32
  let arg2 : BitVec 32 := BitVec.ofNat 32 (i 2).val
  let c2048_i32 : BitVec 32 := 2048#32
  let v4 : BitVec 32 := Scalar.muli arg2 c2048_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v108 : Index := Scalar.indexCast v23
  let c64 : Index := 64#32
  let c0_38 : Index := 0#32
  ![0, v108.toNat, 64, 0]
def k0_off5 (i : grid0.Coords) (c0_i32 : BitVec 32) : Fin 4 → Nat :=
  let c0_41 : Index := 0#32
  let arg2 : BitVec 32 := BitVec.ofNat 32 (i 2).val
  let c2048_i32 : BitVec 32 := 2048#32
  let v4 : BitVec 32 := Scalar.muli arg2 c2048_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let c1_i32_40 : BitVec 32 := 1#32
  let v113 : BitVec 32 := Scalar.addi v23 c1_i32_40
  let v114 : Index := Scalar.indexCast v113
  let c64_42 : Index := 64#32
  let c0_43 : Index := 0#32
  ![0, v114.toNat, 64, 0]
def k0_mult2 (i : grid0.Coords) : BitVec 32 :=
  let arg2 : BitVec 32 := BitVec.ofNat 32 (i 2).val
  let c2048_i32_52 : BitVec 32 := 2048#32
  let v138 : BitVec 32 := Scalar.muli arg2 c2048_i32_52
  let c128_i32_53 : BitVec 32 := 128#32
  let v139 : BitVec 32 := Scalar.addi v138 c128_i32_53
  v139
def k0_mult3 (i : grid0.Coords) : BitVec 32 :=
  let arg2 : BitVec 32 := BitVec.ofNat 32 (i 2).val
  let c2048_i32_112 : BitVec 32 := 2048#32
  let v272 : BitVec 32 := Scalar.muli arg2 c2048_i32_112
  let c256_i32 : BitVec 32 := 256#32
  let v273 : BitVec 32 := Scalar.addi v272 c256_i32
  v273
def k0_mult4 (i : grid0.Coords) : BitVec 32 :=
  let arg2 : BitVec 32 := BitVec.ofNat 32 (i 2).val
  let c2048_i32_171 : BitVec 32 := 2048#32
  let v406 : BitVec 32 := Scalar.muli arg2 c2048_i32_171
  let c384_i32 : BitVec 32 := 384#32
  let v407 : BitVec 32 := Scalar.addi v406 c384_i32
  v407
def k0_mult5 (i : grid0.Coords) : BitVec 32 :=
  let arg2 : BitVec 32 := BitVec.ofNat 32 (i 2).val
  let c2048_i32_230 : BitVec 32 := 2048#32
  let v540 : BitVec 32 := Scalar.muli arg2 c2048_i32_230
  let c512_i32 : BitVec 32 := 512#32
  let v541 : BitVec 32 := Scalar.addi v540 c512_i32
  v541
def k0_mult6 (i : grid0.Coords) : BitVec 32 :=
  let arg2 : BitVec 32 := BitVec.ofNat 32 (i 2).val
  let c2048_i32_289 : BitVec 32 := 2048#32
  let v674 : BitVec 32 := Scalar.muli arg2 c2048_i32_289
  let c640_i32 : BitVec 32 := 640#32
  let v675 : BitVec 32 := Scalar.addi v674 c640_i32
  v675
def k0_mult7 (i : grid0.Coords) : BitVec 32 :=
  let arg2 : BitVec 32 := BitVec.ofNat 32 (i 2).val
  let c2048_i32_348 : BitVec 32 := 2048#32
  let v808 : BitVec 32 := Scalar.muli arg2 c2048_i32_348
  let c768_i32 : BitVec 32 := 768#32
  let v809 : BitVec 32 := Scalar.addi v808 c768_i32
  v809
def k0_mult8 (i : grid0.Coords) : BitVec 32 :=
  let arg2 : BitVec 32 := BitVec.ofNat 32 (i 2).val
  let c2048_i32_407 : BitVec 32 := 2048#32
  let v942 : BitVec 32 := Scalar.muli arg2 c2048_i32_407
  let c896_i32 : BitVec 32 := 896#32
  let v943 : BitVec 32 := Scalar.addi v942 c896_i32
  v943
def k0_mult9 (i : grid0.Coords) : BitVec 32 :=
  let arg2 : BitVec 32 := BitVec.ofNat 32 (i 2).val
  let c2048_i32_466 : BitVec 32 := 2048#32
  let v1076 : BitVec 32 := Scalar.muli arg2 c2048_i32_466
  let c1024_i32 : BitVec 32 := 1024#32
  let v1077 : BitVec 32 := Scalar.addi v1076 c1024_i32
  v1077
def k0_mult10 (i : grid0.Coords) : BitVec 32 :=
  let arg2 : BitVec 32 := BitVec.ofNat 32 (i 2).val
  let c2048_i32_525 : BitVec 32 := 2048#32
  let v1210 : BitVec 32 := Scalar.muli arg2 c2048_i32_525
  let c1152_i32 : BitVec 32 := 1152#32
  let v1211 : BitVec 32 := Scalar.addi v1210 c1152_i32
  v1211
def k0_mult11 (i : grid0.Coords) : BitVec 32 :=
  let arg2 : BitVec 32 := BitVec.ofNat 32 (i 2).val
  let c2048_i32_584 : BitVec 32 := 2048#32
  let v1344 : BitVec 32 := Scalar.muli arg2 c2048_i32_584
  let c1280_i32 : BitVec 32 := 1280#32
  let v1345 : BitVec 32 := Scalar.addi v1344 c1280_i32
  v1345
def k0_mult12 (i : grid0.Coords) : BitVec 32 :=
  let arg2 : BitVec 32 := BitVec.ofNat 32 (i 2).val
  let c2048_i32_643 : BitVec 32 := 2048#32
  let v1478 : BitVec 32 := Scalar.muli arg2 c2048_i32_643
  let c1408_i32 : BitVec 32 := 1408#32
  let v1479 : BitVec 32 := Scalar.addi v1478 c1408_i32
  v1479
def k0_mult13 (i : grid0.Coords) : BitVec 32 :=
  let arg2 : BitVec 32 := BitVec.ofNat 32 (i 2).val
  let c2048_i32_702 : BitVec 32 := 2048#32
  let v1612 : BitVec 32 := Scalar.muli arg2 c2048_i32_702
  let c1536_i32 : BitVec 32 := 1536#32
  let v1613 : BitVec 32 := Scalar.addi v1612 c1536_i32
  v1613
def k0_mult14 (i : grid0.Coords) : BitVec 32 :=
  let arg2 : BitVec 32 := BitVec.ofNat 32 (i 2).val
  let c2048_i32_761 : BitVec 32 := 2048#32
  let v1746 : BitVec 32 := Scalar.muli arg2 c2048_i32_761
  let c1664_i32 : BitVec 32 := 1664#32
  let v1747 : BitVec 32 := Scalar.addi v1746 c1664_i32
  v1747
def k0_mult15 (i : grid0.Coords) : BitVec 32 :=
  let arg2 : BitVec 32 := BitVec.ofNat 32 (i 2).val
  let c2048_i32_820 : BitVec 32 := 2048#32
  let v1880 : BitVec 32 := Scalar.muli arg2 c2048_i32_820
  let c1792_i32 : BitVec 32 := 1792#32
  let v1881 : BitVec 32 := Scalar.addi v1880 c1792_i32
  v1881
def k0_mult16 (i : grid0.Coords) : BitVec 32 :=
  let arg2 : BitVec 32 := BitVec.ofNat 32 (i 2).val
  let c2048_i32_879 : BitVec 32 := 2048#32
  let v2014 : BitVec 32 := Scalar.muli arg2 c2048_i32_879
  let c1920_i32 : BitVec 32 := 1920#32
  let v2015 : BitVec 32 := Scalar.addi v2014 c1920_i32
  v2015
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x17x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel16Ideal.lean ====
variable {F : FTy → Type} [FloatOps F] [Named F]
def κ : String → Option EReal := fun
  | "log2e" => some (((Real.log 2)⁻¹ : ℝ) : EReal)
  | "mask" => some ⊥
  | _ => none
-- ==== Reference16Ideal.lean ====
abbrev S8192x8x64 : Shape := ⟨3, ![8192, 8, 64]⟩
abbrev S2048x4x8x64 : Shape := ⟨4, ![2048, 4, 8, 64]⟩
abbrev S4x2048x8x64 : Shape := ⟨4, ![4, 2048, 8, 64]⟩
abbrev S_ : Shape := ⟨0, ![]⟩
abbrev S4x64x8x64 : Shape := ⟨4, ![4, 64, 8, 64]⟩
abbrev S2048 : Shape := ⟨1, ![2048]⟩
abbrev S32x64 : Shape := ⟨2, ![32, 64]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S32x64x1 : Shape := ⟨3, ![32, 64, 1]⟩
abbrev S32x1x192 : Shape := ⟨3, ![32, 1, 192]⟩
abbrev S32x64x192 : Shape := ⟨3, ![32, 64, 192]⟩
abbrev S4x32x64x8x64 : Shape := ⟨5, ![4, 32, 64, 8, 64]⟩
abbrev S4x2176x8x64 : Shape := ⟨4, ![4, 2176, 8, 64]⟩
abbrev S4x34x64x8x64 : Shape := ⟨5, ![4, 34, 64, 8, 64]⟩
abbrev S4x32x192x8x64 : Shape := ⟨5, ![4, 32, 192, 8, 64]⟩
abbrev S4x32x8x64x192 : Shape := ⟨5, ![4, 32, 8, 64, 192]⟩
abbrev S1x32x1x64x192 : Shape := ⟨5, ![1, 32, 1, 64, 192]⟩
abbrev S4x32x8x64 : Shape := ⟨4, ![4, 32, 8, 64]⟩
abbrev S4x32x8x64x1 : Shape := ⟨5, ![4, 32, 8, 64, 1]⟩
abbrev S4x32x8x64x64 : Shape := ⟨5, ![4, 32, 8, 64, 64]⟩
abbrev S4x32x64x8 : Shape := ⟨4, ![4, 32, 64, 8]⟩
abbrev S4x2048x8 : Shape := ⟨3, ![4, 2048, 8]⟩
abbrev S4x2048x8x1 : Shape := ⟨4, ![4, 2048, 8, 1]⟩
abbrev S4x2048x512 : Shape := ⟨3, ![4, 2048, 512]⟩

abbrev nBuf : Space → Nat
  | .hbm => 98
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S2048x4x8x64, .f32⟩
  | .hbm, ⟨4, _⟩ => ⟨S4x2048x8x64, .f32⟩
  | .hbm, ⟨5, _⟩ => ⟨S2048x4x8x64, .f32⟩
  | .hbm, ⟨6, _⟩ => ⟨S4x2048x8x64, .f32⟩
  | .hbm, ⟨7, _⟩ => ⟨S2048x4x8x64, .f32⟩
  | .hbm, ⟨8, _⟩ => ⟨S4x2048x8x64, .f32⟩
  | .hbm, ⟨9, _⟩ => ⟨S_, .f32⟩
  | .hbm, ⟨10, _⟩ => ⟨S4x64x8x64, .f32⟩
  | .hbm, ⟨11, _⟩ => ⟨S2048, .i32⟩
  | .hbm, ⟨12, _⟩ => ⟨S32x64, .i32⟩
  | .hbm, ⟨13, _⟩ => ⟨S32, .i32⟩
  | .hbm, ⟨14, _⟩ => ⟨S32x1, .i32⟩
  | .hbm, ⟨15, _⟩ => ⟨S_, .i32⟩
  | .hbm, ⟨16, _⟩ => ⟨S32x1, .i32⟩
  | .hbm, ⟨17, _⟩ => ⟨S32x1, .i32⟩
  | .hbm, ⟨18, _⟩ => ⟨S_, .i32⟩
  | .hbm, ⟨19, _⟩ => ⟨S32x1, .i32⟩
  | .hbm, ⟨20, _⟩ => ⟨S32x1, .i32⟩
  | .hbm, ⟨21, _⟩ => ⟨S192, .i32⟩
  | .hbm, ⟨22, _⟩ => ⟨S1x192, .i32⟩
  | .hbm, ⟨23, _⟩ => ⟨S32x192, .i32⟩
  | .hbm, ⟨24, _⟩ => ⟨S32x192, .i32⟩
  | .hbm, ⟨25, _⟩ => ⟨S32x192, .i32⟩
  | .hbm, ⟨26, _⟩ => ⟨S32x64x1, .i32⟩
  | .hbm, ⟨27, _⟩ => ⟨S32x1x192, .i32⟩
  | .hbm, ⟨28, _⟩ => ⟨S32x64x192, .i32⟩
  | .hbm, ⟨29, _⟩ => ⟨S32x64x192, .i32⟩
  | .hbm, ⟨30, _⟩ => ⟨S32x64x192, .i32⟩
  | .hbm, ⟨31, _⟩ => ⟨S32x64x192, .i32⟩
  | .hbm, ⟨32, _⟩ => ⟨S_, .i32⟩
  | .hbm, ⟨33, _⟩ => ⟨S32x64x192, .i32⟩
  | .hbm, ⟨34, _⟩ => ⟨S32x64x192, .i1⟩
  | .hbm, ⟨35, _⟩ => ⟨S32x1x192, .i32⟩
  | .hbm, ⟨36, _⟩ => ⟨S_, .i32⟩
  | .hbm, ⟨37, _⟩ => ⟨S32x1x192, .i32⟩
  | .hbm, ⟨38, _⟩ => ⟨S32x1x192, .i1⟩
  | .hbm, ⟨39, _⟩ => ⟨S32x64x192, .i1⟩
  | .hbm, ⟨40, _⟩ => ⟨S32x64x192, .i1⟩
  | .hbm, ⟨41, _⟩ => ⟨S32x1x192, .i32⟩
  | .hbm, ⟨42, _⟩ => ⟨S_, .i32⟩
  | .hbm, ⟨43, _⟩ => ⟨S32x1x192, .i32⟩
  | .hbm, ⟨44, _⟩ => ⟨S32x1x192, .i1⟩
  | .hbm, ⟨45, _⟩ => ⟨S32x64x192, .i1⟩
  | .hbm, ⟨46, _⟩ => ⟨S32x64x192, .i1⟩
  | .hbm, ⟨47, _⟩ => ⟨S4x32x64x8x64, .f32⟩
  | .hbm, ⟨48, _⟩ => ⟨S4x2176x8x64, .f32⟩
  | .hbm, ⟨49, _⟩ => ⟨S4x34x64x8x64, .f32⟩
  | .hbm, ⟨50, _⟩ => ⟨S4x32x64x8x64, .f32⟩
  | .hbm, ⟨51, _⟩ => ⟨S4x32x64x8x64, .f32⟩
  | .hbm, ⟨52, _⟩ => ⟨S4x32x64x8x64, .f32⟩
  | .hbm, ⟨53, _⟩ => ⟨S4x32x192x8x64, .f32⟩
  | .hbm, ⟨54, _⟩ => ⟨S4x32x8x64x192, .f32⟩
  | .hbm, ⟨55, _⟩ => ⟨S_, .f32⟩
  | .hbm, ⟨56, _⟩ => ⟨S4x32x8x64x192, .f32⟩
  | .hbm, ⟨57, _⟩ => ⟨S4x32x8x64x192, .f32⟩
  | .hbm, ⟨58, _⟩ => ⟨S1x32x1x64x192, .i1⟩
  | .hbm, ⟨59, _⟩ => ⟨S_, .f32⟩
  | .hbm, ⟨60, _⟩ => ⟨S_, .f32⟩
  | .hbm, ⟨61, _⟩ => ⟨S4x32x8x64x192, .i1⟩
  | .hbm, ⟨62, _⟩ => ⟨S4x32x8x64x192, .f32⟩
  | .hbm, ⟨63, _⟩ => ⟨S4x32x8x64x192, .f32⟩
  | .hbm, ⟨64, _⟩ => ⟨S_, .f32⟩
  | .hbm, ⟨65, _⟩ => ⟨S4x32x8x64, .f32⟩
  | .hbm, ⟨66, _⟩ => ⟨S4x32x8x64x1, .f32⟩
  | .hbm, ⟨67, _⟩ => ⟨S4x32x8x64x192, .f32⟩
  | .hbm, ⟨68, _⟩ => ⟨S4x32x8x64x192, .f32⟩
  | .hbm, ⟨69, _⟩ => ⟨S4x32x8x64x192, .f32⟩
  | .hbm, ⟨70, _⟩ => ⟨S_, .f32⟩
  | .hbm, ⟨71, _⟩ => ⟨S4x32x8x64, .f32⟩
  | .hbm, ⟨72, _⟩ => ⟨S4x32x8x64x1, .f32⟩
  | .hbm, ⟨73, _⟩ => ⟨S4x32x8x64x192, .f32⟩
  | .hbm, ⟨74, _⟩ => ⟨S4x32x8x64x192, .f32⟩
  | .hbm, ⟨75, _⟩ => ⟨S4x2176x8x64, .f32⟩
  | .hbm, ⟨76, _⟩ => ⟨S4x34x64x8x64, .f32⟩
  | .hbm, ⟨77, _⟩ => ⟨S4x32x64x8x64, .f32⟩
  | .hbm, ⟨78, _⟩ => ⟨S4x32x64x8x64, .f32⟩
  | .hbm, ⟨79, _⟩ => ⟨S4x32x64x8x64, .f32⟩
  | .hbm, ⟨80, _⟩ => ⟨S4x32x192x8x64, .f32⟩
  | .hbm, ⟨81, _⟩ => ⟨S4x32x8x64x64, .f32⟩
  | .hbm, ⟨82, _⟩ => ⟨S4x32x64x8x64, .f32⟩
  | .hbm, ⟨83, _⟩ => ⟨S4x2048x8x64, .f32⟩
  | .hbm, ⟨84, _⟩ => ⟨S4x32x8x64x1, .f32⟩
  | .hbm, ⟨85, _⟩ => ⟨S4x32x8x64x1, .f32⟩
  | .hbm, ⟨86, _⟩ => ⟨S4x32x8x64, .f32⟩
  | .hbm, ⟨87, _⟩ => ⟨S4x32x64x8, .f32⟩
  | .hbm, ⟨88, _⟩ => ⟨S4x2048x8, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S4x2048x8, .f32⟩
  | .hbm, ⟨93, _⟩ => ⟨S4x2048x8, .f32⟩
  | .hbm, ⟨94, _⟩ => ⟨S4x2048x8x1, .f32⟩
  | .hbm, ⟨95, _⟩ => ⟨S4x2048x8x64, .f32⟩
  | .hbm, ⟨96, _⟩ => ⟨S4x2048x512, .f32⟩
  | .hbm, ⟨97, _⟩ => ⟨S4x2048x512, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩

abbrev nD : Nat := 1
abbrev τ : Topo := Topo.v7x

variable {F : FTy → Type} [FloatOps F]
-- ==== Kernel17.lean ====
abbrev S8192x8x64 : Shape := ⟨3, ![8192, 8, 64]⟩
abbrev S_ : Shape := ⟨0, ![]⟩
abbrev S1x64x512 : Shape := ⟨3, ![1, 64, 512]⟩
abbrev S8192x512 : Shape := ⟨2, ![8192, 512]⟩
abbrev S8192x1x512 : Shape := ⟨3, ![8192, 1, 512]⟩
abbrev S1x8192x512 : Shape := ⟨3, ![1, 8192, 512]⟩
abbrev S1x8320x512 : Shape := ⟨3, ![1, 8320, 512]⟩
abbrev S1x65x128x512 : Shape := ⟨4, ![1, 65, 128, 512]⟩
abbrev S1x65x512x128 : Shape := ⟨4, ![1, 65, 512, 128]⟩
abbrev S1x4096x128 : Shape := ⟨3, ![1, 4096, 128]⟩
abbrev S1x8320x128 : Shape := ⟨3, ![1, 8320, 128]⟩
abbrev S1x65x128x128 : Shape := ⟨4, ![1, 65, 128, 128]⟩
abbrev S128x128 : Shape := ⟨2, ![128, 128]⟩
abbrev S256x128 : Shape := ⟨2, ![256, 128]⟩
abbrev S1x256x128 : Shape := ⟨3, ![1, 256, 128]⟩
abbrev S1x128x128 : Shape := ⟨3, ![1, 128, 128]⟩
abbrev S128 : Shape := ⟨1, ![128]⟩
abbrev S1x128 : Shape := ⟨2, ![1, 128]⟩
abbrev S1x1x64x128 : Shape := ⟨4, ![1, 1, 64, 128]⟩
abbrev S64x128 : Shape := ⟨2, ![64, 128]⟩

abbrev nBuf : Space → Nat
  | .hbm => 30
  | .vmem => 10
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S_, .bf16⟩
  | .hbm, ⟨4, _⟩ => ⟨S1x64x512, .bf16⟩
  | .hbm, ⟨5, _⟩ => ⟨S8192x512, .f32⟩
  | .hbm, ⟨6, _⟩ => ⟨S8192x1x512, .f32⟩
  | .hbm, ⟨7, _⟩ => ⟨S1x8192x512, .f32⟩
  | .hbm, ⟨8, _⟩ => ⟨S1x8192x512, .bf16⟩
  | .hbm, ⟨9, _⟩ => ⟨S1x8320x512, .bf16⟩
  | .hbm, ⟨10, _⟩ => ⟨S1x65x128x512, .bf16⟩
  | .hbm, ⟨11, _⟩ => ⟨S1x65x512x128, .bf16⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x8x64, .f32⟩
  | .hbm, ⟨18, _⟩ => ⟨S8192x8x64, .f32⟩
  | .hbm, ⟨19, _⟩ => ⟨S8192x512, .f32⟩
  | .hbm, ⟨20, _⟩ => ⟨S8192x1x512, .f32⟩
  | .hbm, ⟨21, _⟩ => ⟨S1x8192x512, .f32⟩
  | .hbm, ⟨22, _⟩ => ⟨S1x8192x512, .bf16⟩
  | .hbm, ⟨23, _⟩ => ⟨S8192x512, .f32⟩
  | .hbm, ⟨24, _⟩ => ⟨S8192x1x512, .f32⟩
  | .hbm, ⟨25, _⟩ => ⟨S1x8192x512, .f32⟩
  | .hbm, ⟨26, _⟩ => ⟨S1x8192x512, .bf16⟩
  | .hbm, ⟨27, _⟩ => ⟨S1x8320x512, .bf16⟩
  | .hbm, ⟨28, _⟩ => ⟨S1x8192x512, .f32⟩
  | .hbm, ⟨29, _⟩ => ⟨S1x8192x512, .f32⟩
  | .local _ .vmem, ⟨0, _⟩ => ⟨S1x4096x128, .bf16⟩
  | .local _ .vmem, ⟨1, _⟩ => ⟨S1x4096x128, .bf16⟩
  | .local _ .vmem, ⟨2, _⟩ => ⟨S1x8320x128, .bf16⟩
  | .local _ .vmem, ⟨3, _⟩ => ⟨S1x8320x128, .bf16⟩
  | .local _ .vmem, ⟨4, _⟩ => ⟨S1x65x128x128, .bf16⟩
  | .local _ .vmem, ⟨5, _⟩ => ⟨S1x65x128x128, .bf16⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 4, 2], ![false, false, false]⟩

def k0_mult1 (i : grid0.Coords) : BitVec 32 :=
  let arg2 : BitVec 32 := BitVec.ofNat 32 (i 2).val
  let c4096_i32 : BitVec 32 := 4096#32
  let v4 : BitVec 32 := Scalar.muli arg2 c4096_i32
  let c0_i32 : BitVec 32 := 0#32
  let v5 : BitVec 32 := Scalar.addi v4 c0_i32
  v5
def k0_off1 (i : grid0.Coords) (c0_i32 : BitVec 32) : Fin 3 → Nat :=
  let c0 : Index := 0#32
  let arg2 : BitVec 32 := BitVec.ofNat 32 (i 2).val
  let c4096_i32 : BitVec 32 := 4096#32
  let v4 : BitVec 32 := Scalar.muli arg2 c4096_i32
  let v5 : BitVec 32 := Scalar.addi v4 c0_i32
  let v6 : BitVec 32 := v5
  let v24 : Index := Scalar.indexCast v6
  let c0_5 : Index := 0#32
  ![0, v24.toNat, 0]
def k0_off2 (i : grid0.Coords) (c0_i32 : BitVec 32) : Fin 4 → Nat :=
  let c0_21 : Index := 0#32
  let arg2 : BitVec 32 := BitVec.ofNat 32 (i 2).val
  let c4096_i32 : BitVec 32 := 4096#32
  let v4 : BitVec 32 := Scalar.muli arg2 c4096_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v74 : Index := Scalar.indexCast v23
  let c0_22 : Index := 0#32
  let c0_23 : Index := 0#32
  ![0, v74.toNat, 0, 0]
def k0_off3 (i : grid0.Coords) (c0_i32 : BitVec 32) : Fin 4 → Nat :=
  let c0_26 : Index := 0#32
  let arg2 : BitVec 32 := BitVec.ofNat 32 (i 2).val
  let c4096_i32 : BitVec 32 := 4096#32
  let v4 : BitVec 32 := Scalar.muli arg2 c4096_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let c1_i32_25 : BitVec 32 := 1#32
  let v79 : BitVec 32 := Scalar.addi v23 c1_i32_25
  let v80 : Index := Scalar.indexCast v79
  let c0_27 : Index := 0#32
  let c0_28 : Index := 0#32
  ![0, v80.toNat, 0, 0]
def k0_off4 (i : grid0.Coords) (c0_i32 : BitVec 32) : Fin 4 → Nat :=
  let c0_37 : Index := 0#32
  let arg2 : BitVec 32 := BitVec.ofNat 32 (i 2).val
  let c4096_i32 : BitVec 32 := 4096#32
  let v4 : BitVec 32 := Scalar.muli arg2 c4096_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v108 : Index := Scalar.indexCast v23
  let c64 : Index := 64#32
  let c0_38 : Index := 0#32
  ![0, v108.toNat, 64, 0]
def k0_off5 (i : grid0.Coords) (c0_i32 : BitVec 32) : Fin 4 → Nat :=
  let c0_41 : Index := 0#32
  let arg2 : BitVec 32 := BitVec.ofNat 32 (i 2).val
  let c4096_i32 : BitVec 32 := 4096#32
  let v4 : BitVec 32 := Scalar.muli arg2 c4096_i32
  let v5 : BitVec 32 := Scalar.addi v4 c0_i32
  let v6 : BitVec 32 := v5
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c128_i32 : BitVec 32 := 128#32
  let c0_i32_2 : BitVec 32 := 0#32
  let v13 : BitVec 1 := Scalar.cmpi .sgt c128_i32 c0_i32_2
  let v14 : BitVec 32 := Scalar.extui v13
  let c0_i32_3 : BitVec 32 := 0#32
  let v15 : BitVec 1 := Scalar.cmpi .slt c128_i32 c0_i32_3
  let v16 : BitVec 32 := Scalar.extui v15
  let v17 : BitVec 32 := Scalar.subi v14 v16
  let v18 : BitVec 1 := Scalar.cmpi .ne v12 v17
  let v19 : BitVec 32 := Scalar.remsi v6 c128_i32
  let c0_i32_4 : BitVec 32 := 0#32
  let v20 : BitVec 1 := Scalar.cmpi .ne v19 c0_i32_4
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let c1_i32_40 : BitVec 32 := 1#32
  let v113 : BitVec 32 := Scalar.addi v23 c1_i32_40
  let v114 : Index := Scalar.indexCast v113
  let c64_42 : Index := 64#32
  let c0_43 : Index := 0#32
  ![0, v114.toNat, 64, 0]
def k0_mult2 (i : grid0.Coords) : BitVec 32 :=
  let arg2 : BitVec 32 := BitVec.ofNat 32 (i 2).val
  let c4096_i32_52 : BitVec 32 := 4096#32
  let v138 : BitVec 32 := Scalar.muli arg2 c4096_i32_52
  let c128_i32_53 : BitVec 32 := 128#32
  let v139 : BitVec 32 := Scalar.addi v138 c128_i32_53
  v139
def k0_mult3 (i : grid0.Coords) : BitVec 32 :=
  let arg2 : BitVec 32 := BitVec.ofNat 32 (i 2).val
  let c4096_i32_112 : BitVec 32 := 4096#32
  let v272 : BitVec 32 := Scalar.muli arg2 c4096_i32_112
  let c256_i32 : BitVec 32 := 256#32
  let v273 : BitVec 32 := Scalar.addi v272 c256_i32
  v273
def k0_mult4 (i : grid0.Coords) : BitVec 32 :=
  let arg2 : BitVec 32 := BitVec.ofNat 32 (i 2).val
  let c4096_i32_171 : BitVec 32 := 4096#32
  let v406 : BitVec 32 := Scalar.muli arg2 c4096_i32_171
  let c384_i32 : BitVec 32 := 384#32
  let v407 : BitVec 32 := Scalar.addi v406 c384_i32
  v407
def k0_mult5 (i : grid0.Coords) : BitVec 32 :=
  let arg2 : BitVec 32 := BitVec.ofNat 32 (i 2).val
  let c4096_i32_230 : BitVec 32 := 4096#32
  let v540 : BitVec 32 := Scalar.muli arg2 c4096_i32_230
  let c512_i32 : BitVec 32 := 512#32
  let v541 : BitVec 32 := Scalar.addi v540 c512_i32
  v541
def k0_mult6 (i : grid0.Coords) : BitVec 32 :=
  let arg2 : BitVec 32 := BitVec.ofNat 32 (i 2).val
  let c4096_i32_289 : BitVec 32 := 4096#32
  let v674 : BitVec 32 := Scalar.muli arg2 c4096_i32_289
  let c640_i32 : BitVec 32 := 640#32
  let v675 : BitVec 32 := Scalar.addi v674 c640_i32
  v675
def k0_mult7 (i : grid0.Coords) : BitVec 32 :=
  let arg2 : BitVec 32 := BitVec.ofNat 32 (i 2).val
  let c4096_i32_348 : BitVec 32 := 4096#32
  let v808 : BitVec 32 := Scalar.muli arg2 c4096_i32_348
  let c768_i32 : BitVec 32 := 768#32
  let v809 : BitVec 32 := Scalar.addi v808 c768_i32
  v809
def k0_mult8 (i : grid0.Coords) : BitVec 32 :=
  let arg2 : BitVec 32 := BitVec.ofNat 32 (i 2).val
  let c4096_i32_407 : BitVec 32 := 4096#32
  let v942 : BitVec 32 := Scalar.muli arg2 c4096_i32_407
  let c896_i32 : BitVec 32 := 896#32
  let v943 : BitVec 32 := Scalar.addi v942 c896_i32
  v943
def k0_mult9 (i : grid0.Coords) : BitVec 32 :=
  let arg2 : BitVec 32 := BitVec.ofNat 32 (i 2).val
  let c4096_i32_466 : BitVec 32 := 4096#32
  let v1076 : BitVec 32 := Scalar.muli arg2 c4096_i32_466
  let c1024_i32 : BitVec 32 := 1024#32
  let v1077 : BitVec 32 := Scalar.addi v1076 c1024_i32
  v1077
def k0_mult10 (i : grid0.Coords) : BitVec 32 :=
  let arg2 : BitVec 32 := BitVec.ofNat 32 (i 2).val
  let c4096_i32_525 : BitVec 32 := 4096#32
  let v1210 : BitVec 32 := Scalar.muli arg2 c4096_i32_525
  let c1152_i32 : BitVec 32 := 1152#32
  let v1211 : BitVec 32 := Scalar.addi v1210 c1152_i32
  v1211
def k0_mult11 (i : grid0.Coords) : BitVec 32 :=
  let arg2 : BitVec 32 := BitVec.ofNat 32 (i 2).val
  let c4096_i32_584 : BitVec 32 := 4096#32
  let v1344 : BitVec 32 := Scalar.muli arg2 c4096_i32_584
  let c1280_i32 : BitVec 32 := 1280#32
  let v1345 : BitVec 32 := Scalar.addi v1344 c1280_i32
  v1345
def k0_mult12 (i : grid0.Coords) : BitVec 32 :=
  let arg2 : BitVec 32 := BitVec.ofNat 32 (i 2).val
  let c4096_i32_643 : BitVec 32 := 4096#32
  let v1478 : BitVec 32 := Scalar.muli arg2 c4096_i32_643
  let c1408_i32 : BitVec 32 := 1408#32
  let v1479 : BitVec 32 := Scalar.addi v1478 c1408_i32
  v1479
def k0_mult13 (i : grid0.Coords) : BitVec 32 :=
  let arg2 : BitVec 32 := BitVec.ofNat 32 (i 2).val
  let c4096_i32_702 : BitVec 32 := 4096#32
  let v1612 : BitVec 32 := Scalar.muli arg2 c4096_i32_702
  let c1536_i32 : BitVec 32 := 1536#32
  let v1613 : BitVec 32 := Scalar.addi v1612 c1536_i32
  v1613
def k0_mult14 (i : grid0.Coords) : BitVec 32 :=
  let arg2 : BitVec 32 := BitVec.ofNat 32 (i 2).val
  let c4096_i32_761 : BitVec 32 := 4096#32
  let v1746 : BitVec 32 := Scalar.muli arg2 c4096_i32_761
  let c1664_i32 : BitVec 32 := 1664#32
  let v1747 : BitVec 32 := Scalar.addi v1746 c1664_i32
  v1747
def k0_mult15 (i : grid0.Coords) : BitVec 32 :=
  let arg2 : BitVec 32 := BitVec.ofNat 32 (i 2).val
  let c4096_i32_820 : BitVec 32 := 4096#32
  let v1880 : BitVec 32 := Scalar.muli arg2 c4096_i32_820
  let c1792_i32 : BitVec 32 := 1792#32
  let v1881 : BitVec 32 := Scalar.addi v1880 c1792_i32
  v1881
def k0_mult16 (i : grid0.Coords) : BitVec 32 :=
  let arg2 : BitVec 32 := BitVec.ofNat 32 (i 2).val
  let c4096_i32_879 : BitVec 32 := 4096#32
  let v2014 : BitVec 32 := Scalar.muli arg2 c4096_i32_879
  let c1920_i32 : BitVec 32 := 1920#32
  let v2015 : BitVec 32 := Scalar.addi v2014 c1920_i32
  v2015
def k0_mult17 (i : grid0.Coords) : BitVec 32 :=
  let arg2 : BitVec 32 := BitVec.ofNat 32 (i 2).val
  let c4096_i32_938 : BitVec 32 := 4096#32
  let v2148 : BitVec 32 := Scalar.muli arg2 c4096_i32_938
  let c2048_i32 : BitVec 32 := 2048#32
  let v2149 : BitVec 32 := Scalar.addi v2148 c2048_i32
  v2149
def k0_mult18 (i : grid0.Coords) : BitVec 32 :=
  let arg2 : BitVec 32 := BitVec.ofNat 32 (i 2).val
  let c4096_i32_997 : BitVec 32 := 4096#32
  let v2282 : BitVec 32 := Scalar.muli arg2 c4096_i32_997
  let c2176_i32 : BitVec 32 := 2176#32
  let v2283 : BitVec 32 := Scalar.addi v2282 c2176_i32
  v2283
def k0_mult19 (i : grid0.Coords) : BitVec 32 :=
  let arg2 : BitVec 32 := BitVec.ofNat 32 (i 2).val
  let c4096_i32_1056 : BitVec 32 := 4096#32
  let v2416 : BitVec 32 := Scalar.muli arg2 c4096_i32_1056
  let c2304_i32 : BitVec 32 := 2304#32
  let v2417 : BitVec 32 := Scalar.addi v2416 c2304_i32
  v2417
def k0_mult20 (i : grid0.Coords) : BitVec 32 :=
  let arg2 : BitVec 32 := BitVec.ofNat 32 (i 2).val
  let c4096_i32_1115 : BitVec 32 := 4096#32
  let v2550 : BitVec 32 := Scalar.muli arg2 c4096_i32_1115
  let c2432_i32 : BitVec 32 := 2432#32
  let v2551 : BitVec 32 := Scalar.addi v2550 c2432_i32
  v2551
def k0_mult21 (i : grid0.Coords) : BitVec 32 :=
  let arg2 : BitVec 32 := BitVec.ofNat 32 (i 2).val
  let c4096_i32_1174 : BitVec 32 := 4096#32
  let v2684 : BitVec 32 := Scalar.muli arg2 c4096_i32_1174
  let c2560_i32 : BitVec 32 := 2560#32
  let v2685 : BitVec 32 := Scalar.addi v2684 c2560_i32
  v2685
def k0_mult22 (i : grid0.Coords) : BitVec 32 :=
  let arg2 : BitVec 32 := BitVec.ofNat 32 (i 2).val
  let c4096_i32_1233 : BitVec 32 := 4096#32
  let v2818 : BitVec 32 := Scalar.muli arg2 c4096_i32_1233
  let c2688_i32 : BitVec 32 := 2688#32
  let v2819 : BitVec 32 := Scalar.addi v2818 c2688_i32
  v2819
def k0_mult23 (i : grid0.Coords) : BitVec 32 :=
  let arg2 : BitVec 32 := BitVec.ofNat 32 (i 2).val
  let c4096_i32_1292 : BitVec 32 := 4096#32
  let v2952 : BitVec 32 := Scalar.muli arg2 c4096_i32_1292
  let c2816_i32 : BitVec 32 := 2816#32
  let v2953 : BitVec 32 := Scalar.addi v2952 c2816_i32
  v2953
def k0_mult24 (i : grid0.Coords) : BitVec 32 :=
  let arg2 : BitVec 32 := BitVec.ofNat 32 (i 2).val
  let c4096_i32_1351 : BitVec 32 := 4096#32
  let v3086 : BitVec 32 := Scalar.muli arg2 c4096_i32_1351
  let c2944_i32 : BitVec 32 := 2944#32
  let v3087 : BitVec 32 := Scalar.addi v3086 c2944_i32
  v3087
def k0_mult25 (i : grid0.Coords) : BitVec 32 :=
  let arg2 : BitVec 32 := BitVec.ofNat 32 (i 2).val
  let c4096_i32_1410 : BitVec 32 := 4096#32
  let v3220 : BitVec 32 := Scalar.muli arg2 c4096_i32_1410
  let c3072_i32 : BitVec 32 := 3072#32
  let v3221 : BitVec 32 := Scalar.addi v3220 c3072_i32
  v3221
def k0_mult26 (i : grid0.Coords) : BitVec 32 :=
  let arg2 : BitVec 32 := BitVec.ofNat 32 (i 2).val
  let c4096_i32_1469 : BitVec 32 := 4096#32
  let v3354 : BitVec 32 := Scalar.muli arg2 c4096_i32_1469
  let c3200_i32 : BitVec 32 := 3200#32
  let v3355 : BitVec 32 := Scalar.addi v3354 c3200_i32
  v3355
def k0_mult27 (i : grid0.Coords) : BitVec 32 :=
  let arg2 : BitVec 32 := BitVec.ofNat 32 (i 2).val
  let c4096_i32_1528 : BitVec 32 := 4096#32
  let v3488 : BitVec 32 := Scalar.muli arg2 c4096_i32_1528
  let c3328_i32 : BitVec 32 := 3328#32
  let v3489 : BitVec 32 := Scalar.addi v3488 c3328_i32
  v3489
def k0_mult28 (i : grid0.Coords) : BitVec 32 :=
  let arg2 : BitVec 32 := BitVec.ofNat 32 (i 2).val
  let c4096_i32_1587 : BitVec 32 := 4096#32
  let v3622 : BitVec 32 := Scalar.muli arg2 c4096_i32_1587
  let c3456_i32 : BitVec 32 := 3456#32
  let v3623 : BitVec 32 := Scalar.addi v3622 c3456_i32
  v3623
def k0_mult29 (i : grid0.Coords) : BitVec 32 :=
  let arg2 : BitVec 32 := BitVec.ofNat 32 (i 2).val
  let c4096_i32_1646 : BitVec 32 := 4096#32
  let v3756 : BitVec 32 := Scalar.muli arg2 c4096_i32_1646
  let c3584_i32 : BitVec 32 := 3584#32
  let v3757 : BitVec 32 := Scalar.addi v3756 c3584_i32
  v3757
def k0_mult30 (i : grid0.Coords) : BitVec 32 :=
  let arg2 : BitVec 32 := BitVec.ofNat 32 (i 2).val
  let c4096_i32_1705 : BitVec 32 := 4096#32
  let v3890 : BitVec 32 := Scalar.muli arg2 c4096_i32_1705
  let c3712_i32 : BitVec 32 := 3712#32
  let v3891 : BitVec 32 := Scalar.addi v3890 c3712_i32
  v3891
def k0_mult31 (i : grid0.Coords) : BitVec 32 :=
  let arg2 : BitVec 32 := BitVec.ofNat 32 (i 2).val
  let c4096_i32_1764 : BitVec 32 := 4096#32
  let v4024 : BitVec 32 := Scalar.muli arg2 c4096_i32_1764
  let c3840_i32 : BitVec 32 := 3840#32
  let v4025 : BitVec 32 := Scalar.addi v4024 c3840_i32
  v4025
def k0_mult32 (i : grid0.Coords) : BitVec 32 :=
  let arg2 : BitVec 32 := BitVec.ofNat 32 (i 2).val
  let c4096_i32_1823 : BitVec 32 := 4096#32
  let v4158 : BitVec 32 := Scalar.muli arg2 c4096_i32_1823
  let c3968_i32 : BitVec 32 := 3968#32
  let v4159 : BitVec 32 := Scalar.addi v4158 c3968_i32
  v4159
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8320x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x65x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel17Ideal.lean ====
variable {F : FTy → Type} [FloatOps F] [Named F]
def κ : String → Option EReal := fun
  | "log2e" => some (((Real.log 2)⁻¹ : ℝ) : EReal)
  | "mask" => some ⊥
  | _ => none
-- ==== Reference17Ideal.lean ====
abbrev S8192x8x64 : Shape := ⟨3, ![8192, 8, 64]⟩
abbrev S8192x1x8x64 : Shape := ⟨4, ![8192, 1, 8, 64]⟩
abbrev S1x8192x8x64 : Shape := ⟨4, ![1, 8192, 8, 64]⟩
abbrev S_ : Shape := ⟨0, ![]⟩
abbrev S1x64x8x64 : Shape := ⟨4, ![1, 64, 8, 64]⟩
abbrev S8192 : Shape := ⟨1, ![8192]⟩
abbrev S128x64 : Shape := ⟨2, ![128, 64]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S128x64x1 : Shape := ⟨3, ![128, 64, 1]⟩
abbrev S128x1x192 : Shape := ⟨3, ![128, 1, 192]⟩
abbrev S128x64x192 : Shape := ⟨3, ![128, 64, 192]⟩
abbrev S1x128x64x8x64 : Shape := ⟨5, ![1, 128, 64, 8, 64]⟩
abbrev S1x8320x8x64 : Shape := ⟨4, ![1, 8320, 8, 64]⟩
abbrev S1x130x64x8x64 : Shape := ⟨5, ![1, 130, 64, 8, 64]⟩
abbrev S1x128x192x8x64 : Shape := ⟨5, ![1, 128, 192, 8, 64]⟩
abbrev S1x128x8x64x192 : Shape := ⟨5, ![1, 128, 8, 64, 192]⟩
abbrev S1x128x1x64x192 : Shape := ⟨5, ![1, 128, 1, 64, 192]⟩
abbrev S1x128x8x64 : Shape := ⟨4, ![1, 128, 8, 64]⟩
abbrev S1x128x8x64x1 : Shape := ⟨5, ![1, 128, 8, 64, 1]⟩
abbrev S1x128x8x64x64 : Shape := ⟨5, ![1, 128, 8, 64, 64]⟩
abbrev S1x128x64x8 : Shape := ⟨4, ![1, 128, 64, 8]⟩
abbrev S1x8192x8 : Shape := ⟨3, ![1, 8192, 8]⟩
abbrev S1x8192x8x1 : Shape := ⟨4, ![1, 8192, 8, 1]⟩
abbrev S1x8192x512 : Shape := ⟨3, ![1, 8192, 512]⟩

abbrev nBuf : Space → Nat
  | .hbm => 98
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x1x8x64, .f32⟩
  | .hbm, ⟨4, _⟩ => ⟨S1x8192x8x64, .f32⟩
  | .hbm, ⟨5, _⟩ => ⟨S8192x1x8x64, .f32⟩
  | .hbm, ⟨6, _⟩ => ⟨S1x8192x8x64, .f32⟩
  | .hbm, ⟨7, _⟩ => ⟨S8192x1x8x64, .f32⟩
  | .hbm, ⟨8, _⟩ => ⟨S1x8192x8x64, .f32⟩
  | .hbm, ⟨9, _⟩ => ⟨S_, .f32⟩
  | .hbm, ⟨10, _⟩ => ⟨S1x64x8x64, .f32⟩
  | .hbm, ⟨11, _⟩ => ⟨S8192, .i32⟩
  | .hbm, ⟨12, _⟩ => ⟨S128x64, .i32⟩
  | .hbm, ⟨13, _⟩ => ⟨S128, .i32⟩
  | .hbm, ⟨14, _⟩ => ⟨S128x1, .i32⟩
  | .hbm, ⟨15, _⟩ => ⟨S_, .i32⟩
  | .hbm, ⟨16, _⟩ => ⟨S128x1, .i32⟩
  | .hbm, ⟨17, _⟩ => ⟨S128x1, .i32⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S192, .i32⟩
  | .hbm, ⟨22, _⟩ => ⟨S1x192, .i32⟩
  | .hbm, ⟨23, _⟩ => ⟨S128x192, .i32⟩
  | .hbm, ⟨24, _⟩ => ⟨S128x192, .i32⟩
  | .hbm, ⟨25, _⟩ => ⟨S128x192, .i32⟩
  | .hbm, ⟨26, _⟩ => ⟨S128x64x1, .i32⟩
  | .hbm, ⟨27, _⟩ => ⟨S128x1x192, .i32⟩
  | .hbm, ⟨28, _⟩ => ⟨S128x64x192, .i32⟩
  | .hbm, ⟨29, _⟩ => ⟨S128x64x192, .i32⟩
  | .hbm, ⟨30, _⟩ => ⟨S128x64x192, .i32⟩
  | .hbm, ⟨31, _⟩ => ⟨S128x64x192, .i32⟩
  | .hbm, ⟨32, _⟩ => ⟨S_, .i32⟩
  | .hbm, ⟨33, _⟩ => ⟨S128x64x192, .i32⟩
  | .hbm, ⟨34, _⟩ => ⟨S128x64x192, .i1⟩
  | .hbm, ⟨35, _⟩ => ⟨S128x1x192, .i32⟩
  | .hbm, ⟨36, _⟩ => ⟨S_, .i32⟩
  | .hbm, ⟨37, _⟩ => ⟨S128x1x192, .i32⟩
  | .hbm, ⟨38, _⟩ => ⟨S128x1x192, .i1⟩
  | .hbm, ⟨39, _⟩ => ⟨S128x64x192, .i1⟩
  | .hbm, ⟨40, _⟩ => ⟨S128x64x192, .i1⟩
  | .hbm, ⟨41, _⟩ => ⟨S128x1x192, .i32⟩
  | .hbm, ⟨42, _⟩ => ⟨S_, .i32⟩
  | .hbm, ⟨43, _⟩ => ⟨S128x1x192, .i32⟩
  | .hbm, ⟨44, _⟩ => ⟨S128x1x192, .i1⟩
  | .hbm, ⟨45, _⟩ => ⟨S128x64x192, .i1⟩
  | .hbm, ⟨46, _⟩ => ⟨S128x64x192, .i1⟩
  | .hbm, ⟨47, _⟩ => ⟨S1x128x64x8x64, .f32⟩
  | .hbm, ⟨48, _⟩ => ⟨S1x8320x8x64, .f32⟩
  | .hbm, ⟨49, _⟩ => ⟨S1x130x64x8x64, .f32⟩
  | .hbm, ⟨50, _⟩ => ⟨S1x128x64x8x64, .f32⟩
  | .hbm, ⟨51, _⟩ => ⟨S1x128x64x8x64, .f32⟩
  | .hbm, ⟨52, _⟩ => ⟨S1x128x64x8x64, .f32⟩
  | .hbm, ⟨53, _⟩ => ⟨S1x128x192x8x64, .f32⟩
  | .hbm, ⟨54, _⟩ => ⟨S1x128x8x64x192, .f32⟩
  | .hbm, ⟨55, _⟩ => ⟨S_, .f32⟩
  | .hbm, ⟨56, _⟩ => ⟨S1x128x8x64x192, .f32⟩
  | .hbm, ⟨57, _⟩ => ⟨S1x128x8x64x192, .f32⟩
  | .hbm, ⟨58, _⟩ => ⟨S1x128x1x64x192, .i1⟩
  | .hbm, ⟨59, _⟩ => ⟨S_, .f32⟩
  | .hbm, ⟨60, _⟩ => ⟨S_, .f32⟩
  | .hbm, ⟨61, _⟩ => ⟨S1x128x8x64x192, .i1⟩
  | .hbm, ⟨62, _⟩ => ⟨S1x128x8x64x192, .f32⟩
  | .hbm, ⟨63, _⟩ => ⟨S1x128x8x64x192, .f32⟩
  | .hbm, ⟨64, _⟩ => ⟨S_, .f32⟩
  | .hbm, ⟨65, _⟩ => ⟨S1x128x8x64, .f32⟩
  | .hbm, ⟨66, _⟩ => ⟨S1x128x8x64x1, .f32⟩
  | .hbm, ⟨67, _⟩ => ⟨S1x128x8x64x192, .f32⟩
  | .hbm, ⟨68, _⟩ => ⟨S1x128x8x64x192, .f32⟩
  | .hbm, ⟨69, _⟩ => ⟨S1x128x8x64x192, .f32⟩
  | .hbm, ⟨70, _⟩ => ⟨S_, .f32⟩
  | .hbm, ⟨71, _⟩ => ⟨S1x128x8x64, .f32⟩
  | .hbm, ⟨72, _⟩ => ⟨S1x128x8x64x1, .f32⟩
  | .hbm, ⟨73, _⟩ => ⟨S1x128x8x64x192, .f32⟩
  | .hbm, ⟨74, _⟩ => ⟨S1x128x8x64x192, .f32⟩
  | .hbm, ⟨75, _⟩ => ⟨S1x8320x8x64, .f32⟩
  | .hbm, ⟨76, _⟩ => ⟨S1x130x64x8x64, .f32⟩
  | .hbm, ⟨77, _⟩ => ⟨S1x128x64x8x64, .f32⟩
  | .hbm, ⟨78, _⟩ => ⟨S1x128x64x8x64, .f32⟩
  | .hbm, ⟨79, _⟩ => ⟨S1x128x64x8x64, .f32⟩
  | .hbm, ⟨80, _⟩ => ⟨S1x128x192x8x64, .f32⟩
  | .hbm, ⟨81, _⟩ => ⟨S1x128x8x64x64, .f32⟩
  | .hbm, ⟨82, _⟩ => ⟨S1x128x64x8x64, .f32⟩
  | .hbm, ⟨83, _⟩ => ⟨S1x8192x8x64, .f32⟩
  | .hbm, ⟨84, _⟩ => ⟨S1x128x8x64x1, .f32⟩
  | .hbm, ⟨85, _⟩ => ⟨S1x128x8x64x1, .f32⟩
  | .hbm, ⟨86, _⟩ => ⟨S1x128x8x64, .f32⟩
  | .hbm, ⟨87, _⟩ => ⟨S1x128x64x8, .f32⟩
  | .hbm, ⟨88, _⟩ => ⟨S1x8192x8, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S1x8192x8, .f32⟩
  | .hbm, ⟨93, _⟩ => ⟨S1x8192x8, .f32⟩
  | .hbm, ⟨94, _⟩ => ⟨S1x8192x8x1, .f32⟩
  | .hbm, ⟨95, _⟩ => ⟨S1x8192x8x64, .f32⟩
  | .hbm, ⟨96, _⟩ => ⟨S1x8192x512, .f32⟩
  | .hbm, ⟨97, _⟩ => ⟨S1x8192x512, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩

abbrev nD : Nat := 1
abbrev τ : Topo := Topo.v7x

variable {F : FTy → Type} [FloatOps F]
-- ==== Kernel18.lean ====
abbrev S8192x1024 : Shape := ⟨2, ![8192, 1024]⟩
abbrev S1024x6304 : Shape := ⟨2, ![1024, 6304]⟩
abbrev S1024x640 : Shape := ⟨2, ![1024, 640]⟩
abbrev S_ : Shape := ⟨0, ![]⟩
abbrev S1024x64 : Shape := ⟨2, ![1024, 64]⟩
abbrev S1024x32 : Shape := ⟨2, ![1024, 32]⟩
abbrev S1024x256 : Shape := ⟨2, ![1024, 256]⟩
abbrev S1024x512 : Shape := ⟨2, ![1024, 512]⟩
abbrev S1024x4608 : Shape := ⟨2, ![1024, 4608]⟩
abbrev S1024x6656 : Shape := ⟨2, ![1024, 6656]⟩
abbrev S8192x6656 : Shape := ⟨2, ![8192, 6656]⟩
abbrev S1024x1024 : Shape := ⟨2, ![1024, 1024]⟩
abbrev S1024x3328 : Shape := ⟨2, ![1024, 3328]⟩

abbrev nBuf : Space → Nat
  | .hbm => 15
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x6304, .f32⟩
  | .hbm, ⟨2, _⟩ => ⟨S1024x640, .f32⟩
  | .hbm, ⟨3, _⟩ => ⟨S_, .f32⟩
  | .hbm, ⟨4, _⟩ => ⟨S1024x64, .f32⟩
  | .hbm, ⟨5, _⟩ => ⟨S1024x32, .f32⟩
  | .hbm, ⟨6, _⟩ => ⟨S_, .f32⟩
  | .hbm, ⟨7, _⟩ => ⟨S1024x32, .f32⟩
  | .hbm, ⟨8, _⟩ => ⟨S_, .f32⟩
  | .hbm, ⟨9, _⟩ => ⟨S1024x256, .f32⟩
  | .hbm, ⟨10, _⟩ => ⟨S1024x512, .f32⟩
  | .hbm, ⟨11, _⟩ => ⟨S1024x512, .f32⟩
  | .hbm, ⟨12, _⟩ => ⟨S1024x4608, .f32⟩
  | .hbm, ⟨13, _⟩ => ⟨S1024x6656, .f32⟩
  | .hbm, ⟨14, _⟩ => ⟨S8192x6656, .bf16⟩
  | .local _ .vmem, ⟨0, _⟩ => ⟨S1024x1024, .f32⟩
  | .local _ .vmem, ⟨1, _⟩ => ⟨S1024x1024, .f32⟩
  | .local _ .vmem, ⟨2, _⟩ => ⟨S1024x3328, .f32⟩
  | .local _ .vmem, ⟨3, _⟩ => ⟨S1024x3328, .f32⟩
  | .local _ .vmem, ⟨4, _⟩ => ⟨S1024x3328, .bf16⟩
  | .local _ .vmem, ⟨5, _⟩ => ⟨S1024x3328, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x6304 : Shape := ⟨2, ![1024, 6304]⟩
abbrev S8192x6304 : Shape := ⟨2, ![8192, 6304]⟩
abbrev S8192x384 : Shape := ⟨2, ![8192, 384]⟩
abbrev S8192x256 : Shape := ⟨2, ![8192, 256]⟩
abbrev S8192x32 : Shape := ⟨2, ![8192, 32]⟩
abbrev S8192x512 : Shape := ⟨2, ![8192, 512]⟩
abbrev S8192x4608 : Shape := ⟨2, ![8192, 4608]⟩
abbrev S_ : Shape := ⟨0, ![]⟩
abbrev S8192x64 : Shape := ⟨2, ![8192, 64]⟩
abbrev S8192x288 : Shape := ⟨2, ![8192, 288]⟩
abbrev S8192x6656 : Shape := ⟨2, ![8192, 6656]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6304, .f32⟩
  | .hbm, ⟨2, _⟩ => ⟨S8192x6304, .f32⟩
  | .hbm, ⟨3, _⟩ => ⟨S8192x384, .f32⟩
  | .hbm, ⟨4, _⟩ => ⟨S8192x256, .f32⟩
  | .hbm, ⟨5, _⟩ => ⟨S8192x32, .f32⟩
  | .hbm, ⟨6, _⟩ => ⟨S8192x512, .f32⟩
  | .hbm, ⟨7, _⟩ => ⟨S8192x4608, .f32⟩
  | .hbm, ⟨8, _⟩ => ⟨S8192x512, .f32⟩
  | .hbm, ⟨9, _⟩ => ⟨S_, .f32⟩
  | .hbm, ⟨10, _⟩ => ⟨S8192x64, .f32⟩
  | .hbm, ⟨11, _⟩ => ⟨S_, .f32⟩
  | .hbm, ⟨12, _⟩ => ⟨S8192x288, .f32⟩
  | .hbm, ⟨13, _⟩ => ⟨S8192x6656, .f32⟩
  | .hbm, ⟨14, _⟩ => ⟨S8192x6656, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel19.lean ====
abbrev S4x1024x1576 : Shape := ⟨3, ![4, 1024, 1576]⟩
abbrev S4096x1576 : Shape := ⟨2, ![4096, 1576]⟩
abbrev S256x1576 : Shape := ⟨2, ![256, 1576]⟩

abbrev nBuf : Space → Nat
  | .hbm => 10
  | .vmem => 14
  | .smem => 0
  | _ => 0

abbrev bufTy : (tb : Table) → Fin (tcTables nBuf tb) → BufTy
  | .hbm, ⟨0, _⟩ => ⟨S4x1024x1576, .f32⟩
  | .hbm, ⟨1, _⟩ => ⟨S4096x1576, .f32⟩
  | .hbm, ⟨2, _⟩ => ⟨S4x1024x1576, .f32⟩
  | .hbm, ⟨3, _⟩ => ⟨S4x1024x1576, .f32⟩
  | .hbm, ⟨4, _⟩ => ⟨S4096x1576, .f32⟩
  | .hbm, ⟨5, _⟩ => ⟨S4096x1576, .f32⟩
  | .hbm, ⟨6, _⟩ => ⟨S4096x1576, .f32⟩
  | .hbm, ⟨7, _⟩ => ⟨S4096x1576, .f32⟩
  | .hbm, ⟨8, _⟩ => ⟨S4096x1576, .f32⟩
  | .hbm, ⟨9, _⟩ => ⟨S4096x1576, .f32⟩
  | .local _ .vmem, ⟨0, _⟩ => ⟨S256x1576, .f32⟩
  | .local _ .vmem, ⟨1, _⟩ => ⟨S256x1576, .f32⟩
  | .local _ .vmem, ⟨2, _⟩ => ⟨S256x1576, .f32⟩
  | .local _ .vmem, ⟨3, _⟩ => ⟨S256x1576, .f32⟩
  | .local _ .vmem, ⟨4, _⟩ => ⟨S256x1576, .f32⟩
  | .local _ .vmem, ⟨5, _⟩ => ⟨S256x1576, .f32⟩
  | .local _ .vmem, ⟨6, _⟩ => ⟨S256x1576, .f32⟩
  | .local _ .vmem, ⟨7, _⟩ => ⟨S256x1576, .f32⟩
  | .local _ .vmem, ⟨8, _⟩ => ⟨S256x1576, .f32⟩
  | .local _ .vmem, ⟨9, _⟩ => ⟨S256x1576, .f32⟩
  | .local _ .vmem, ⟨10, _⟩ => ⟨S256x1576, .f32⟩
  | .local _ .vmem, ⟨11, _⟩ => ⟨S256x1576, .f32⟩
  | .local _ .vmem, ⟨12, _⟩ => ⟨S256x1576, .f32⟩
  | .local _ .vmem, ⟨13, _⟩ => ⟨S256x1576, .f32⟩
  | _, _ => ⟨S4x1024x1576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4x1024x1576 : Shape := ⟨3, ![4, 1024, 1576]⟩
abbrev S4096x1576 : Shape := ⟨2, ![4096, 1576]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x1576, .f32⟩
  | .hbm, ⟨1, _⟩ => ⟨S4096x1576, .f32⟩
  | .hbm, ⟨2, _⟩ => ⟨S4x1024x1576, .f32⟩
  | .hbm, ⟨3, _⟩ => ⟨S4x1024x1576, .f32⟩
  | .hbm, ⟨4, _⟩ => ⟨S4x1024x1576, .f32⟩
  | .hbm, ⟨5, _⟩ => ⟨S_, .f32⟩
  | .hbm, ⟨6, _⟩ => ⟨S4x1024x1576, .f32⟩
  | .hbm, ⟨7, _⟩ => ⟨S4x1024x1576, .f32⟩
  | .hbm, ⟨8, _⟩ => ⟨S_, .f32⟩
  | .hbm, ⟨9, _⟩ => ⟨S4x1024x1576, .f32⟩
  | .hbm, ⟨10, _⟩ => ⟨S4x1024x1576, .f32⟩
  | .hbm, ⟨11, _⟩ => ⟨S4x1024x1576, .f32⟩
  | .hbm, ⟨12, _⟩ => ⟨S_, .f32⟩
  | .hbm, ⟨13, _⟩ => ⟨S4x1024x1576, .f32⟩
  | .hbm, ⟨14, _⟩ => ⟨S4x1024x1576, .f32⟩
  | .hbm, ⟨15, _⟩ => ⟨S4x1024x1576, .f32⟩
  | .hbm, ⟨16, _⟩ => ⟨S_, .f32⟩
  | .hbm, ⟨17, _⟩ => ⟨S4x1024x1576, .f32⟩
  | .hbm, ⟨18, _⟩ => ⟨S4x1024x1576, .f32⟩
  | .hbm, ⟨19, _⟩ => ⟨S4x1024x1576, .f32⟩
  | .hbm, ⟨20, _⟩ => ⟨S_, .f32⟩
  | .hbm, ⟨21, _⟩ => ⟨S4x1024x1576, .f32⟩
  | .hbm, ⟨22, _⟩ => ⟨S4x1024x1576, .f32⟩
  | .hbm, ⟨23, _⟩ => ⟨S_, .f32⟩
  | .hbm, ⟨24, _⟩ => ⟨S4x1024x1576, .f32⟩
  | .hbm, ⟨25, _⟩ => ⟨S4x1024x1576, .f32⟩
  | .hbm, ⟨26, _⟩ => ⟨S4x1024x1576, .f32⟩
  | .hbm, ⟨27, _⟩ => ⟨S_, .f32⟩
  | .hbm, ⟨28, _⟩ => ⟨S4x1024x1576, .f32⟩
  | .hbm, ⟨29, _⟩ => ⟨S4x1024x1576, .f32⟩
  | .hbm, ⟨30, _⟩ => ⟨S4x1024x1576, .f32⟩
  | .hbm, ⟨31, _⟩ => ⟨S_, .f32⟩
  | .hbm, ⟨32, _⟩ => ⟨S4x1024x1576, .f32⟩
  | .hbm, ⟨33, _⟩ => ⟨S4x1024x1576, .f32⟩
  | .hbm, ⟨34, _⟩ => ⟨S4x1024x1576, .f32⟩
  | .hbm, ⟨35, _⟩ => ⟨S_, .f32⟩
  | .hbm, ⟨36, _⟩ => ⟨S4x1024x1576, .f32⟩
  | .hbm, ⟨37, _⟩ => ⟨S4x1024x1576, .f32⟩
  | .hbm, ⟨38, _⟩ => ⟨S4096x1576, .f32⟩
  | .hbm, ⟨39, _⟩ => ⟨S4096x1576, .f32⟩
  | .hbm, ⟨40, _⟩ => ⟨S4096x1576, .f32⟩
  | _, _ => ⟨S4x1024x1576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel20.lean ====
abbrev S4x2048x1576 : Shape := ⟨3, ![4, 2048, 1576]⟩
abbrev S1x256x1576 : Shape := ⟨3, ![1, 256, 1576]⟩
abbrev S256x1576 : Shape := ⟨2, ![256, 1576]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1576, .f32⟩
  | .hbm, ⟨1, _⟩ => ⟨S4x2048x1576, .f32⟩
  | .hbm, ⟨2, _⟩ => ⟨S4x2048x1576, .bf16⟩
  | .local _ .vmem, ⟨0, _⟩ => ⟨S1x256x1576, .f32⟩
  | .local _ .vmem, ⟨1, _⟩ => ⟨S1x256x1576, .f32⟩
  | .local _ .vmem, ⟨2, _⟩ => ⟨S1x256x1576, .f32⟩
  | .local _ .vmem, ⟨3, _⟩ => ⟨S1x256x1576, .f32⟩
  | .local _ .vmem, ⟨4, _⟩ => ⟨S1x256x1576, .bf16⟩
  | .local _ .vmem, ⟨5, _⟩ => ⟨S1x256x1576, .bf16⟩
  | _, _ => ⟨S4x2048x1576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1576 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4x2048x1576 : Shape := ⟨3, ![4, 2048, 1576]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x1576, .f32⟩
  | .hbm, ⟨1, _⟩ => ⟨S4x2048x1576, .f32⟩
  | .hbm, ⟨2, _⟩ => ⟨S4x2048x1576, .f32⟩
  | .hbm, ⟨3, _⟩ => ⟨S4x2048x1576, .bf16⟩
  | _, _ => ⟨S4x2048x1576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S4x2048x1576 : Shape := ⟨3, ![4, 2048, 1576]⟩
abbrev S2048x1576 : Shape := ⟨2, ![2048, 1576]⟩
abbrev S4x64x1576 : Shape := ⟨3, ![4, 64, 1576]⟩
abbrev S64x1576 : Shape := ⟨2, ![64, 1576]⟩
abbrev S1x64x1576 : Shape := ⟨3, ![1, 64, 1576]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x1576, .bf16⟩
  | .hbm, ⟨1, _⟩ => ⟨S2048x1576, .f32⟩
  | .local _ .vmem, ⟨0, _⟩ => ⟨S4x64x1576, .bf16⟩
  | .local _ .vmem, ⟨1, _⟩ => ⟨S4x64x1576, .bf16⟩
  | .local _ .vmem, ⟨2, _⟩ => ⟨S64x1576, .f32⟩
  | .local _ .vmem, ⟨3, _⟩ => ⟨S64x1576, .f32⟩
  | _, _ => ⟨S4x2048x1576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference21Ideal.lean ====
abbrev S4x2048x1576 : Shape := ⟨3, ![4, 2048, 1576]⟩
abbrev S_ : Shape := ⟨0, ![]⟩
abbrev S2048x1576 : Shape := ⟨2, ![2048, 1576]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x1576, .bf16⟩
  | .hbm, ⟨1, _⟩ => ⟨S4x2048x1576, .f32⟩
  | .hbm, ⟨2, _⟩ => ⟨S_, .f32⟩
  | .hbm, ⟨3, _⟩ => ⟨S2048x1576, .f32⟩
  | _, _ => ⟨S4x2048x1576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Lift.lean ====
/- Extended reals that are real numbers: the arithmetic of `Ideal` on them is the arithmetic of the reals. Shared by the
   value claims, whose preconditions say of every element of an array that it is finite. -/
module

public import Idealize.ShloMosaic.Lib.Pointwise
public import Idealize.ShloMosaic.Lib.IdealHost
public import Idealize.ShloMosaic.Lib.ReduceAll

@[expose] public section

set_option maxRecDepth 16384

noncomputable section

namespace Cert.Lift

open Idealize.ShloMosaic

theorem bits_inf : Ideal.ofBits .f32 0x7F800000#32 = ⊤ := by simp [Ideal.ofBits, Ideal.ieee]

/-- What a precondition's comparison `|x| < ∞` says of the element `x`. -/
theorem real_of_cmp {x : EReal} (h : Ideal.cmp .olt (max x (-x)) ⊤ = 1#1) : ∃ r : ℝ, x = r := by
  induction x with
  | bot => exact absurd h (by simp [Ideal.cmp])
  | top => exact absurd h (by simp [Ideal.cmp])
  | coe r => exact ⟨r, rfl⟩

/-- What `jnp.all(jnp.abs(x) < jnp.inf)` says of the array `x`: each of its elements is a real number. -/
theorem real_of_all {s t u : Shape} {axes : List (Fin s.rank)} [Subsingleton t.Idx] {x b : FVec Ideal s .f32} {init : u.Idx → BitVec 1}
    {h : s.ReducesTo axes t} {hu : 0 < u.numel} {j : t.Idx} (hb : ∀ i, b i = (⊤ : EReal))
    (e : Host.reduce IntOp.andi (cmpf .olt (Host.absf x) b) init h hu j = 1#1) (i : s.Idx) : ∃ r : ℝ, x i = r := by
  have h1 := Host.reduce_andi_all _ init h hu j e i
  refine real_of_cmp ?_
  have h2 : Ideal.cmp .olt (max (x i) (-(x i))) (b i) = 1#1 := h1
  rwa [hb i] at h2

theorem exp_coe (r : ℝ) : Ideal.exp (r : EReal) = (Real.exp r : ℝ) := rfl

theorem div_real (a : ℝ) {b : ℝ} (h : b ≠ 0) : Ideal.div (a : EReal) (b : EReal) = ((a / b : ℝ) : EReal) := by
  rw [Ideal.div_coe h, ← EReal.coe_mul, mul_one_div]

theorem one_add_exp_pos (r : ℝ) : (1 + Real.exp r) ≠ 0 := by positivity

/-- The logistic function of a real number, as both programs compute it. -/
theorem sigmoid_coe (g : ℝ) : Ideal.div 1 (1 + Ideal.exp (-(g : EReal))) = ((1 / (1 + Real.exp (-g)) : ℝ) : EReal) := by
  rw [← EReal.coe_neg, exp_coe, show (1 : EReal) = ((1 : ℝ) : EReal) from rfl, ← EReal.coe_add, div_real _ (one_add_exp_pos _)]

theorem sum_coe {n : ℕ} (f : Fin n → ℝ) : ∑ k, ((f k : ℝ) : EReal) = ((∑ k, f k : ℝ) : EReal) := by
  exact (map_sum (⟨⟨(↑), EReal.coe_zero⟩, EReal.coe_add⟩ : ℝ →+ EReal) f Finset.univ).symm

end Cert.Lift

end
-- ==== Proof.GateRead.lean ====
/- What each block of the gate's backward kernel reads and computes, at an index: the blocks of the cotangent, of the two
   gate column groups of the projection and of the two saved outputs, and the sum over the 64 columns of a head, which
   the kernel takes as three products with a 0/1 selection matrix. -/
module

public import proofs.«01_k».proof.Proof.Gen.KernelIdeal.Value
public import proofs.«01_k».proof.Proof.Lift

@[expose] public section

set_option maxRecDepth 16384

noncomputable section

namespace Cert.KernelIdeal.Gate

open Idealize.ShloMosaic Idealize.ShloMosaic.Pointwise Idealize.SL.Sem Cert.KernelIdeal Cert.KernelIdeal.Gen
open Idealize.ShloMosaic.Pipeline (Dat)

variable (m : (ℓ : Loc nD τ sig) → Buf (Elt Ideal) ℓ)

abbrev dab (c : Dev nD) : FVec Ideal S8192x1024 .f32 := m ((c.tc : Thread nD τ).loc main_arg0)
abbrev prj (c : Dev nD) : FVec Ideal S8192x6304 .f32 := m ((c.tc : Thread nD τ).loc main_arg1)
abbrev oa (c : Dev nD) : FVec Ideal S8192x512 .f32 := m ((c.tc : Thread nD τ).loc main_arg2)
abbrev bm (c : Dev nD) : FVec Ideal S8192x512 .f32 := m ((c.tc : Thread nD τ).loc main_arg3)

theorem lt16 (t : Fin cfg0.N) : t.val < 16 := lt_of_lt_of_eq t.isLt N_0

/-- Row `r` of block `t` as a row of the whole array. -/
abbrev row (t : Fin cfg0.N) (r : Fin 512) : Fin 8192 := ⟨t.val * 512 + r.val, by have := lt16 t; omega⟩

/-- The gate's forward factor at a gate value: the logistic function. -/
abbrev sg (g : EReal) : EReal := Ideal.div 1 (1 + Ideal.exp (-g))

/-! ## The input blocks -/

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = t.val ∧ win0_1.index t 1 = 1 :=
  (by decide +kernel : ∀ t : Fin grid0.N, win0_1.index t 0 = t.val ∧ win0_1.index t 1 = 1)

theorem index2 : ∀ t : Fin cfg0.N, win0_2.index t 0 = t.val ∧ win0_2.index t 1 = 2 :=
  (by decide +kernel : ∀ t : Fin grid0.N, win0_2.index t 0 = t.val ∧ win0_2.index t 1 = 2)

theorem index3 : ∀ t : Fin cfg0.N, win0_3.index t 0 = t.val ∧ win0_3.index t 1 = 3 :=
  (by decide +kernel : ∀ t : Fin grid0.N, win0_3.index t 0 = t.val ∧ win0_3.index t 1 = 3)

theorem index4 : ∀ t : Fin cfg0.N, win0_4.index t 0 = t.val ∧ win0_4.index t 1 = 0 :=
  (by decide +kernel : ∀ t : Fin grid0.N, win0_4.index t 0 = t.val ∧ win0_4.index t 1 = 0)

theorem index5 : ∀ t : Fin cfg0.N, win0_5.index t 0 = t.val ∧ win0_5.index t 1 = 0 :=
  (by decide +kernel : ∀ t : Fin grid0.N, win0_5.index t 0 = t.val ∧ win0_5.index t 1 = 0)

theorem V_v9 (c : Dev nD) : (V m c main_v9 : FVec Ideal S8192x6656 .bf16) = truncf .bf16 (concatenate S8192x6656 1
    [⟨S8192x640, extractStridedSlice S8192x640 ![0, 0] (prj m c) slices_S8192x6304_S8192x640_0_0⟩,
     ⟨S8192x64, broadcastInDim S8192x64 ![] bcast_S_S8192x64 (constant S_ .f32 0x00000000#32)⟩,
     ⟨S8192x32, extractStridedSlice S8192x32 ![0, 640] (prj m c) slices_S8192x6304_S8192x32_0_640⟩,
     ⟨S8192x32, broadcastInDim S8192x32 ![] bcast_S_S8192x32 (constant S_ .f32 0x00000000#32)⟩,
     ⟨S8192x256, broadcastInDim S8192x256 ![] bcast_S_S8192x256 (constant S_ .f32 0x00000000#32)⟩,
     ⟨S8192x512, extractStridedSlice S8192x512 ![0, 672] (prj m c) slices_S8192x6304_S8192x512_0_672⟩,
     ⟨S8192x512, extractStridedSlice S8192x512 ![0, 5792] (prj m c) slices_S8192x6304_S8192x512_0_5792⟩,
     ⟨S8192x4608, extractStridedSlice S8192x4608 ![0, 1184] (prj m c) slices_S8192x6304_S8192x4608_0_1184⟩]
    concatenates_S8192x640_S8192x64_S8192x32_S8192x32_S8192x256_S8192x512_S8192x512_S8192x4608_S8192x6656_d1) bitsLt_bf16_f32 := by
  unfold V hostOps0
  after_results_simp
  rfl

theorem x0_apply (c : Dev nD) (t : Fin cfg0.N) (r l : Fin 512) :
    iblk m c 0 t (ix2 r l) = dab m c (ix2 (row t r) ⟨l.val, by omega⟩) := by
  rw [show dab m c = V m c main_arg0 from (V_main_arg0 m c).symm]
  show V m c main_arg0 _ = _
  refine congrArg _ (funext fun a => Fin.ext ?_)
  match a with
  | ⟨0, _⟩ => show win0_0.index t 0 * 512 + 1 * r.val = t.val * 512 + r.val; rw [(index0 t).1]; omega
  | ⟨1, _⟩ => show win0_0.index t 1 * 512 + 1 * l.val = l.val; rw [(index0 t).2]; omega

theorem x1_apply (c : Dev nD) (t : Fin cfg0.N) (r l : Fin 512) :
    iblk m c 1 t (ix2 r l) = dab m c (ix2 (row t r) ⟨512 + l.val, by omega⟩) := by
  rw [show dab m c = V m c main_arg0 from (V_main_arg0 m c).symm]
  show V m c main_arg0 _ = _
  refine congrArg _ (funext fun a => Fin.ext ?_)
  match a with
  | ⟨0, _⟩ => show win0_1.index t 0 * 512 + 1 * r.val = t.val * 512 + r.val; rw [(index1 t).1]; omega
  | ⟨1, _⟩ => show win0_1.index t 1 * 512 + 1 * l.val = 512 + l.val; rw [(index1 t).2]; omega

theorem x2_eq (c : Dev nD) (t : Fin cfg0.N) (r l : Fin 512) :
    iblk m c 2 t (ix2 r l) = (V m c main_v9 : FVec Ideal S8192x6656 .bf16) (ix2 (row t r) ⟨1024 + l.val, by omega⟩) := by
  show V m c main_v9 _ = _
  refine congrArg _ (funext fun a => Fin.ext ?_)
  match a with
  | ⟨0, _⟩ => show win0_2.index t 0 * 512 + 1 * r.val = t.val * 512 + r.val; rw [(index2 t).1]; omega
  | ⟨1, _⟩ => show win0_2.index t 1 * 512 + 1 * l.val = 1024 + l.val; rw [(index2 t).2]; omega

theorem x2_apply (c : Dev nD) (t : Fin cfg0.N) (r l : Fin 512) :
    (iblk m c 2 t (ix2 r l) : EReal) = prj m c (ix2 (row t r) ⟨672 + l.val, by omega⟩) := by
  rw [x2_eq, V_v9]
  pointwise []
  rw [dif_neg (by omega), dif_neg (by omega), dif_neg (by omega), dif_neg (by omega), dif_neg (by omega), dif_pos (by omega)]
  refine congrArg _ (congrArg _ (Fin.ext ?_))
  show 672 + _ = 672 + l.val
  omega

theorem x3_eq (c : Dev nD) (t : Fin cfg0.N) (r l : Fin 512) :
    iblk m c 3 t (ix2 r l) = (V m c main_v9 : FVec Ideal S8192x6656 .bf16) (ix2 (row t r) ⟨1536 + l.val, by omega⟩) := by
  show V m c main_v9 _ = _
  refine congrArg _ (funext fun a => Fin.ext ?_)
  match a with
  | ⟨0, _⟩ => show win0_3.index t 0 * 512 + 1 * r.val = t.val * 512 + r.val; rw [(index3 t).1]; omega
  | ⟨1, _⟩ => show win0_3.index t 1 * 512 + 1 * l.val = 1536 + l.val; rw [(index3 t).2]; omega

theorem x3_apply (c : Dev nD) (t : Fin cfg0.N) (r l : Fin 512) :
    (iblk m c 3 t (ix2 r l) : EReal) = prj m c (ix2 (row t r) ⟨5792 + l.val, by omega⟩) := by
  rw [x3_eq, V_v9]
  pointwise []
  rw [dif_neg (by omega), dif_neg (by omega), dif_neg (by omega), dif_neg (by omega), dif_neg (by omega), dif_neg (by omega), dif_pos (by omega)]
  refine congrArg _ (congrArg _ (Fin.ext ?_))
  show 5792 + _ = 5792 + l.val
  omega

theorem x4_apply (c : Dev nD) (t : Fin cfg0.N) (r l : Fin 512) :
    iblk m c 4 t (ix2 r l) = oa m c (ix2 (row t r) ⟨l.val, by omega⟩) := by
  rw [show oa m c = V m c main_arg2 from (V_main_arg2 m c).symm]
  show V m c main_arg2 _ = _
  refine congrArg _ (funext fun a => Fin.ext ?_)
  match a with
  | ⟨0, _⟩ => show win0_4.index t 0 * 512 + 1 * r.val = t.val * 512 + r.val; rw [(index4 t).1]; omega
  | ⟨1, _⟩ => show win0_4.index t 1 * 512 + 1 * l.val = l.val; rw [(index4 t).2]; omega

theorem x5_apply (c : Dev nD) (t : Fin cfg0.N) (r l : Fin 512) :
    iblk m c 5 t (ix2 r l) = bm m c (ix2 (row t r) ⟨l.val, by omega⟩) := by
  rw [show bm m c = V m c main_arg3 from (V_main_arg3 m c).symm]
  show V m c main_arg3 _ = _
  refine congrArg _ (funext fun a => Fin.ext ?_)
  match a with
  | ⟨0, _⟩ => show win0_5.index t 0 * 512 + 1 * r.val = t.val * 512 + r.val; rw [(index5 t).1]; omega
  | ⟨1, _⟩ => show win0_5.index t 1 * 512 + 1 * l.val = l.val; rw [(index5 t).2]; omega

/-! ## The sum over a head's columns -/

/-- The kernel's 0/1 selection of column `x` for head `h`: the quotient of `x` by 64, rounded down, compared with `h`. -/
abbrev headBit (x : Fin 512) (h : Fin 8) : BitVec 1 :=
  IntOp.cmpi CmpIPredicate.eq
    (Scalar.select
      (IntOp.andi
        (IntOp.cmpi CmpIPredicate.ne
          (IntOp.subi (BitVec.setWidth 32 (IntOp.cmpi CmpIPredicate.sgt (BitVec.ofNat 32 ↑x) 0#32))
            (BitVec.setWidth 32 (IntOp.cmpi CmpIPredicate.slt (BitVec.ofNat 32 ↑x) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑x) 64#32) 0#32))
      (IntOp.subi (IntOp.divsi ArithUnit.vector (BitVec.ofNat 32 ↑x) 64#32) 1#32)
      (IntOp.divsi ArithUnit.vector (BitVec.ofNat 32 ↑x) 64#32))
    (BitVec.ofNat 32 ↑h)

theorem headBit_eq : ∀ (x : Fin 512) (h : Fin 8), headBit x h = if x.val / 64 = h.val then 1#1 else 0#1 := by
  decide +kernel

/-- Column `k` of head `h`. -/
abbrev col (h : Fin 8) (k : Fin 64) : Fin 512 := ⟨h.val * 64 + k.val, by omega⟩

/-- A sum over all columns of the values selected for head `h` is the sum over that head's columns. -/
theorem sum_head (f : Fin 512 → EReal) (h : Fin 8) :
    ∑ x : Fin 512, Scalar.select (headBit x h) (f x) 0 = ∑ k : Fin 64, f (col h k) := by
  have e : ∀ x : Fin 512, Scalar.select (headBit x h) (f x) 0 = if x.val / 64 = h.val then f x else 0 := by
    intro x
    rw [headBit_eq]
    split <;> rfl
  rw [Finset.sum_congr rfl fun x _ => e x, ← Finset.sum_filter]
  symm
  refine Finset.sum_bij (fun k _ => col h k) (fun k _ => ?_) (fun k _ k' _ e => ?_) (fun x hx => ?_) (fun k _ => rfl)
  · rw [Finset.mem_filter]; exact ⟨Finset.mem_univ _, by show (h.val * 64 + k.val) / 64 = h.val; omega⟩
  · have := congrArg Fin.val e
    exact Fin.ext (by have : h.val * 64 + k.val = h.val * 64 + k'.val := this; omega)
  · have hx' := (Finset.mem_filter.mp hx).2
    exact ⟨⟨x.val % 64, by omega⟩, Finset.mem_univ _, Fin.ext (by show h.val * 64 + x.val % 64 = x.val; omega)⟩

/-- On a block of real numbers the three products are the sum over the head's columns: what the rounding left over is zero. -/
theorem three (f : Fin 512 → EReal) (hf : ∀ x, ∃ q : ℝ, f x = q) (h : Fin 8) :
    ∑ x : Fin 512, Scalar.select (headBit x h) (f x) 0
      + ∑ x : Fin 512, Scalar.select (headBit x h) (f x - f x) 0
      + ∑ x : Fin 512, Scalar.select (headBit x h) (f x - f x - (f x - f x)) 0 = ∑ k : Fin 64, f (col h k) := by
  have e : ∀ x, f x - f x = 0 := fun x => by
    obtain ⟨q, hq⟩ := hf x
    rw [hq, ← EReal.coe_sub, sub_self, EReal.coe_zero]
  have z : (fun x : Fin 512 => Scalar.select (headBit x h) (0 : EReal) 0) = fun _ => 0 := funext fun x => by
    rw [headBit_eq]; split <;> rfl
  simp only [e, sub_zero, z, Finset.sum_const_zero, add_zero]
  exact sum_head f h

theorem pay10_apply (v : FVec Ideal S512x512 .f32) (r : Fin 512) (hv : ∀ x, ∃ q : ℝ, v (ix2 r x) = q) (h : Fin 8) :
    k0_pay10 v (iota .tc S512x8 32 [0] iota_S512x8_d0_w32) (iota .tc S512x8 32 [1] iota_S512x8_d1_w32) 64#32 k0_pay8 k0_pay9 0#32 (ix2 r h)
      = ∑ k : Fin 64, v (ix2 r (col h k)) := by
  pointwise [k0_pay10, k0_pay8, k0_pay9]
  exact three (fun x => v (ix2 r x)) hv h

theorem pay1_apply (v : FVec Ideal S512x512 .f32) (r : Fin 512) (hv : ∀ x, ∃ q : ℝ, v (ix2 r x) = q) (h : Fin 8) :
    k0_pay1 v (iota .tc S512x8 32 [1] iota_S512x8_d1_w32) k0_pay18 k0_pay19 (ix2 r h)
      = ∑ k : Fin 64, v (ix2 r (col h k)) := by
  pointwise [k0_pay1, k0_pay18, k0_pay19]
  exact three (fun x => v (ix2 r x)) hv h

/-! ## The other values of a block -/

theorem pay5_apply (d : S512x512.Idx → EReal) (g : S512x512.Idx → EReal) (r l : Fin 512) :
    (k0_pay5 (F := Ideal) d g (ix2 r l) : EReal) = d (ix2 r l) * (g (ix2 r l) * sg (g (ix2 r l))) := by
  pointwise [k0_pay5, k0_pay4, k0_pay3, k0_pay2, sg, zero_sub]

theorem pay7_apply (d o : S512x512.Idx → EReal) (g : S512x512.Idx → EReal) (r l : Fin 512) :
    (k0_pay7 (F := Ideal) d g o (ix2 r l) : EReal) = d (ix2 r l) * (g (ix2 r l) * sg (g (ix2 r l))) * o (ix2 r l) := by
  pointwise [k0_pay7, k0_pay4, k0_pay3, k0_pay2, sg, zero_sub]

theorem pay6_apply (d o : S512x512.Idx → EReal) (g : S512x512.Idx → EReal) (r l : Fin 512) :
    (k0_pay6 (F := Ideal) d g o (ix2 r l) : EReal)
      = d (ix2 r l) * o (ix2 r l) * (sg (g (ix2 r l)) * (1 + g (ix2 r l) * (1 - sg (g (ix2 r l))))) := by
  pointwise [k0_pay6, k0_pay4, k0_pay3, k0_pay2, sg, zero_sub]

theorem pay15_apply (d : S512x512.Idx → EReal) (g : S512x512.Idx → EReal) (r l : Fin 512) :
    (k0_pay15 (F := Ideal) d (k0_pay11 g) k0_pay12 (ix2 r l) : EReal) = d (ix2 r l) * (g (ix2 r l) * sg (g (ix2 r l))) := by
  pointwise [k0_pay15, k0_pay14, k0_pay13, k0_pay12, k0_pay11, sg, zero_sub]

theorem pay17_apply (d o : S512x512.Idx → EReal) (g : S512x512.Idx → EReal) (r l : Fin 512) :
    (k0_pay17 (F := Ideal) d (k0_pay11 g) o k0_pay12 (ix2 r l) : EReal) = d (ix2 r l) * (g (ix2 r l) * sg (g (ix2 r l))) * o (ix2 r l) := by
  pointwise [k0_pay17, k0_pay14, k0_pay13, k0_pay12, k0_pay11, sg, zero_sub]

theorem pay16_apply (d o : S512x512.Idx → EReal) (g : S512x512.Idx → EReal) (r l : Fin 512) :
    (k0_pay16 (F := Ideal) d (k0_pay11 g) o k0_pay12 (ix2 r l) : EReal)
      = d (ix2 r l) * o (ix2 r l) * (sg (g (ix2 r l)) * (1 + g (ix2 r l) * (1 - sg (g (ix2 r l))))) := by
  pointwise [k0_pay16, k0_pay14, k0_pay13, k0_pay12, k0_pay11, sg, zero_sub]

end Cert.KernelIdeal.Gate

end
-- ==== Proof.Gate.lean ====
/- What the gate's backward kernel leaves in its five result arrays, at an index. -/
module

public import proofs.«01_k».proof.Proof.GateRead

@[expose] public section

set_option maxRecDepth 16384

noncomputable section

namespace Cert.KernelIdeal.Gate

open Idealize.ShloMosaic Idealize.ShloMosaic.Pointwise Idealize.SL.Sem Cert.KernelIdeal Cert.KernelIdeal.Gen
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The gradients at one element: `d` the cotangent, `g` the gate, `o` the gated output -/

/-- The gradient by the gated output. -/
abbrev dout (d g : EReal) : EReal := d * (g * sg g)
/-- The gradient by the gate. -/
abbrev dgate (d g o : EReal) : EReal := d * o * (sg g * (1 + g * (1 - sg g)))

/-- Column `l` of the first and of the second half of the cotangent, and of the two gate groups of the projection. -/
abbrev cA (l : Fin 512) : Fin 1024 := ⟨l.val, by omega⟩
abbrev cB (l : Fin 512) : Fin 1024 := ⟨512 + l.val, by omega⟩
abbrev gA (l : Fin 512) : Fin 6304 := ⟨672 + l.val, by omega⟩
abbrev gB (l : Fin 512) : Fin 6304 := ⟨5792 + l.val, by omega⟩

/-! ## The result arrays, block by block -/

theorem index6 : ∀ t : Fin cfg0.N, win0_6.index t 0 = t.val ∧ win0_6.index t 1 = 0 :=
  (by decide +kernel : ∀ t : Fin grid0.N, win0_6.index t 0 = t.val ∧ win0_6.index t 1 = 0)

theorem arr6 (c : Dev nD) (t : Fin cfg0.N) (r : Fin 512) (l : Fin 512) :
    (dats m 0 c).arrAt 6 cfg0.N (ix2 (row t r) l)
      = out0_6 (iblk m c 0 t) (iblk m c 1 t) (iblk m c 2 t) (iblk m c 3 t) (iblk m c 4 t) (iblk m c 5 t) (ix2 r l) := by
  have h := congrFun (Value.blocks6 m c t (flush0_6 t)) (ix2 r l)
  rw [Value.flushed6] at h
  refine Eq.trans ?_ h
  show (dats m 0 c).arrAt 6 cfg0.N _ = (dats m 0 c).arrAt 6 cfg0.N _
  refine congrArg _ (funext fun a => Fin.ext ?_)
  match a with
  | ⟨0, _⟩ => show t.val * 512 + r.val = win0_6.index t 0 * 512 + 1 * r.val; rw [(index6 t).1]; omega
  | ⟨1, _⟩ => show l.val = win0_6.index t 1 * 512 + 1 * l.val; rw [(index6 t).2]; omega

theorem index7 : ∀ t : Fin cfg0.N, win0_7.index t 0 = t.val ∧ win0_7.index t 1 = 0 :=
  (by decide +kernel : ∀ t : Fin grid0.N, win0_7.index t 0 = t.val ∧ win0_7.index t 1 = 0)

theorem arr7 (c : Dev nD) (t : Fin cfg0.N) (r : Fin 512) (l : Fin 512) :
    (dats m 0 c).arrAt 7 cfg0.N (ix2 (row t r) l)
      = out0_7 (iblk m c 0 t) (iblk m c 1 t) (iblk m c 2 t) (iblk m c 3 t) (iblk m c 4 t) (iblk m c 5 t) (ix2 r l) := by
  have h := congrFun (Value.blocks7 m c t (flush0_7 t)) (ix2 r l)
  rw [Value.flushed7] at h
  refine Eq.trans ?_ h
  show (dats m 0 c).arrAt 7 cfg0.N _ = (dats m 0 c).arrAt 7 cfg0.N _
  refine congrArg _ (funext fun a => Fin.ext ?_)
  match a with
  | ⟨0, _⟩ => show t.val * 512 + r.val = win0_7.index t 0 * 512 + 1 * r.val; rw [(index7 t).1]; omega
  | ⟨1, _⟩ => show l.val = win0_7.index t 1 * 512 + 1 * l.val; rw [(index7 t).2]; omega

theorem index8 : ∀ t : Fin cfg0.N, win0_8.index t 0 = t.val ∧ win0_8.index t 1 = 0 :=
  (by decide +kernel : ∀ t : Fin grid0.N, win0_8.index t 0 = t.val ∧ win0_8.index t 1 = 0)

theorem arr8 (c : Dev nD) (t : Fin cfg0.N) (r : Fin 512) (l : Fin 8) :
    (dats m 0 c).arrAt 8 cfg0.N (ix2 (row t r) l)
      = out0_8 (iblk m c 0 t) (iblk m c 1 t) (iblk m c 2 t) (iblk m c 3 t) (iblk m c 4 t) (iblk m c 5 t) (ix2 r l) := by
  have h := congrFun (Value.blocks8 m c t (flush0_8 t)) (ix2 r l)
  rw [Value.flushed8] at h
  refine Eq.trans ?_ h
  show (dats m 0 c).arrAt 8 cfg0.N _ = (dats m 0 c).arrAt 8 cfg0.N _
  refine congrArg _ (funext fun a => Fin.ext ?_)
  match a with
  | ⟨0, _⟩ => show t.val * 512 + r.val = win0_8.index t 0 * 512 + 1 * r.val; rw [(index8 t).1]; omega
  | ⟨1, _⟩ => show l.val = win0_8.index t 1 * 8 + 1 * l.val; rw [(index8 t).2]; omega

theorem index9 : ∀ t : Fin cfg0.N, win0_9.index t 0 = t.val ∧ win0_9.index t 1 = 0 :=
  (by decide +kernel : ∀ t : Fin grid0.N, win0_9.index t 0 = t.val ∧ win0_9.index t 1 = 0)

theorem arr9 (c : Dev nD) (t : Fin cfg0.N) (r : Fin 512) (l : Fin 8) :
    (dats m 0 c).arrAt 9 cfg0.N (ix2 (row t r) l)
      = out0_9 (iblk m c 0 t) (iblk m c 1 t) (iblk m c 2 t) (iblk m c 3 t) (iblk m c 4 t) (iblk m c 5 t) (ix2 r l) := by
  have h := congrFun (Value.blocks9 m c t (flush0_9 t)) (ix2 r l)
  rw [Value.flushed9] at h
  refine Eq.trans ?_ h
  show (dats m 0 c).arrAt 9 cfg0.N _ = (dats m 0 c).arrAt 9 cfg0.N _
  refine congrArg _ (funext fun a => Fin.ext ?_)
  match a with
  | ⟨0, _⟩ => show t.val * 512 + r.val = win0_9.index t 0 * 512 + 1 * r.val; rw [(index9 t).1]; omega
  | ⟨1, _⟩ => show l.val = win0_9.index t 1 * 8 + 1 * l.val; rw [(index9 t).2]; omega

theorem index10 : ∀ t : Fin cfg0.N, win0_10.index t 0 = t.val ∧ win0_10.index t 1 = 0 :=
  (by decide +kernel : ∀ t : Fin grid0.N, win0_10.index t 0 = t.val ∧ win0_10.index t 1 = 0)

theorem arr10 (c : Dev nD) (t : Fin cfg0.N) (r : Fin 512) (l : Fin 1024) :
    (dats m 0 c).arrAt 10 cfg0.N (ix2 (row t r) l)
      = out0_10 (iblk m c 0 t) (iblk m c 1 t) (iblk m c 2 t) (iblk m c 3 t) (iblk m c 4 t) (iblk m c 5 t) (ix2 r l) := by
  have h := congrFun (Value.blocks10 m c t (flush0_10 t)) (ix2 r l)
  rw [Value.flushed10] at h
  refine Eq.trans ?_ h
  show (dats m 0 c).arrAt 10 cfg0.N _ = (dats m 0 c).arrAt 10 cfg0.N _
  refine congrArg _ (funext fun a => Fin.ext ?_)
  match a with
  | ⟨0, _⟩ => show t.val * 512 + r.val = win0_10.index t 0 * 512 + 1 * r.val; rw [(index10 t).1]; omega
  | ⟨1, _⟩ => show l.val = win0_10.index t 1 * 1024 + 1 * l.val; rw [(index10 t).2]; omega

theorem res6 (c : Dev nD) (t : Fin cfg0.N) (r l : Fin 512) :
    ((dats m 0 c).arrAt 6 cfg0.N (ix2 (row t r) l) : EReal)
      = dout (dab m c (ix2 (row t r) (cA l))) (prj m c (ix2 (row t r) (gA l))) := by
  rw [arr6]
  unfold out0_6
  rw [View.canon_unit_zero hz, View.ld_unit_zero hz, View.ld_unit_zero hz]
  refine (pay5_apply _ _ r l).trans ?_
  rw [x0_apply, x2_apply]

theorem res7 (c : Dev nD) (t : Fin cfg0.N) (r l : Fin 512) :
    ((dats m 0 c).arrAt 7 cfg0.N (ix2 (row t r) l) : EReal)
      = dout (dab m c (ix2 (row t r) (cB l))) (prj m c (ix2 (row t r) (gB l))) := by
  rw [arr7]
  unfold out0_7 k0_pay20 k0_pay21
  rw [View.canon_unit_zero hz, View.ld_unit_zero hz, View.ld_unit_zero hz]
  refine (pay15_apply _ _ r l).trans ?_
  rw [x1_apply, x3_apply]

theorem dout_real {d g : EReal} (hd : ∃ q : ℝ, d = q) (hg : ∃ q : ℝ, g = q) : ∃ q : ℝ, dout d g = q := by
  obtain ⟨d, rfl⟩ := hd
  obtain ⟨g, rfl⟩ := hg
  exact ⟨d * (g * (1 / (1 + Real.exp (-g)))), by
    show (d : EReal) * ((g : EReal) * Ideal.div 1 (1 + Ideal.exp (-(g : EReal)))) = _
    rw [Lift.sigmoid_coe, ← EReal.coe_mul, ← EReal.coe_mul]⟩

theorem mul_real {x y : EReal} (hx : ∃ q : ℝ, x = q) (hy : ∃ q : ℝ, y = q) : ∃ q : ℝ, x * y = q := by
  obtain ⟨x, rfl⟩ := hx
  obtain ⟨y, rfl⟩ := hy
  exact ⟨x * y, (EReal.coe_mul x y).symm⟩

variable {m}

theorem res8 {c : Dev nD} (hd : ∀ i, ∃ q : ℝ, dab m c i = q) (hp : ∀ i, ∃ q : ℝ, prj m c i = q) (ho : ∀ i, ∃ q : ℝ, oa m c i = q)
    (t : Fin cfg0.N) (r : Fin 512) (h : Fin 8) :
    ((dats m 0 c).arrAt 8 cfg0.N (ix2 (row t r) h) : EReal)
      = ∑ k : Fin 64, dout (dab m c (ix2 (row t r) (cA (col h k)))) (prj m c (ix2 (row t r) (gA (col h k)))) * oa m c (ix2 (row t r) (col h k)) := by
  have e : ∀ x : Fin 512, (k0_pay7 (F := Ideal) (iblk m c 0 t) (iblk m c 2 t) (iblk m c 4 t) (ix2 r x) : EReal)
      = dout (dab m c (ix2 (row t r) (cA x))) (prj m c (ix2 (row t r) (gA x))) * oa m c (ix2 (row t r) x) := fun x => by
    refine (pay7_apply _ _ _ r x).trans ?_
    rw [x0_apply, x2_apply, x4_apply]
  rw [arr8]
  unfold out0_8
  rw [View.canon_unit_zero hz, View.ld_unit_zero hz, View.ld_unit_zero hz, View.ld_unit_zero hz]
  refine (pay10_apply _ r (fun x => ?_) h).trans (Finset.sum_congr rfl fun k _ => e _)
  obtain ⟨q, hq⟩ := mul_real (dout_real (hd _) (hp _)) (ho _)
  exact ⟨q, (e x).trans hq⟩

theorem res9 {c : Dev nD} (hd : ∀ i, ∃ q : ℝ, dab m c i = q) (hp : ∀ i, ∃ q : ℝ, prj m c i = q) (ho : ∀ i, ∃ q : ℝ, bm m c i = q)
    (t : Fin cfg0.N) (r : Fin 512) (h : Fin 8) :
    ((dats m 0 c).arrAt 9 cfg0.N (ix2 (row t r) h) : EReal)
      = ∑ k : Fin 64, dout (dab m c (ix2 (row t r) (cB (col h k)))) (prj m c (ix2 (row t r) (gB (col h k)))) * bm m c (ix2 (row t r) (col h k)) := by
  have e : ∀ x : Fin 512, (k0_pay17 (F := Ideal) (iblk m c 1 t) (k0_pay11 (iblk m c 3 t)) (iblk m c 5 t) k0_pay12 (ix2 r x) : EReal)
      = dout (dab m c (ix2 (row t r) (cB x))) (prj m c (ix2 (row t r) (gB x))) * bm m c (ix2 (row t r) x) := fun x => by
    refine (pay17_apply _ _ _ r x).trans ?_
    rw [x1_apply, x3_apply, x5_apply]
  rw [arr9]
  unfold out0_9 k0_pay20 k0_pay21
  rw [View.canon_unit_zero hz, View.ld_unit_zero hz, View.ld_unit_zero hz, View.ld_unit_zero hz]
  refine (pay1_apply _ r (fun x => ?_) h).trans (Finset.sum_congr rfl fun k _ => e _)
  obtain ⟨q, hq⟩ := mul_real (dout_real (hd _) (hp _)) (ho _)
  exact ⟨q, (e x).trans hq⟩

variable (m)

/-- The block of gate gradients: its two halves are the two stores. -/
theorem out10 (c : Dev nD) (t : Fin cfg0.N) (r : Fin 512) (l : Fin 1024) :
    (out0_10 (iblk m c 0 t) (iblk m c 1 t) (iblk m c 2 t) (iblk m c 3 t) (iblk m c 4 t) (iblk m c 5 t) (ix2 r l) : EReal)
      = if h : l.val < 512 then dgate (dab m c (ix2 (row t r) (cA ⟨l.val, h⟩))) (prj m c (ix2 (row t r) (gA ⟨l.val, h⟩))) (oa m c (ix2 (row t r) ⟨l.val, h⟩))
        else dgate (dab m c (ix2 (row t r) (cB ⟨l.val - 512, by omega⟩))) (prj m c (ix2 (row t r) (gB ⟨l.val - 512, by omega⟩)))
          (bm m c (ix2 (row t r) ⟨l.val - 512, by omega⟩)) := by
  unfold out0_10 k0_pay20 k0_pay21
  rw [View.ld_unit_zero hz, View.ld_unit_zero hz, View.ld_unit_zero hz, View.ld_unit_zero hz, View.ld_unit_zero hz, View.ld_unit_zero hz]
  refine View.canon_apply_of_pieces (Val := Elt Ideal) (S := S512x1024) (e := .bf16) (fun y : S512x1024.Idx =>
    if h : (y 1).val < 512 then dgate (dab m c (ix2 (row t (y 0)) (cA ⟨(y 1).val, h⟩))) (prj m c (ix2 (row t (y 0)) (gA ⟨(y 1).val, h⟩)))
        (oa m c (ix2 (row t (y 0)) ⟨(y 1).val, h⟩))
      else dgate (dab m c (ix2 (row t (y 0)) (cB ⟨(y 1).val - 512, by have : (y 1).val < 1024 := (y 1).isLt; omega⟩)))
        (prj m c (ix2 (row t (y 0)) (gB ⟨(y 1).val - 512, by have : (y 1).val < 1024 := (y 1).isLt; omega⟩)))
        (bm m c (ix2 (row t (y 0)) ⟨(y 1).val - 512, by have : (y 1).val < 1024 := (y 1).isLt; omega⟩))) _ ?_ (ix2 r l) (cover0_10 _ _ _)
  intro p hp x
  rcases List.mem_cons.mp hp with rfl | hp
  · idx_vars x
    refine (pay16_apply _ _ _ x0 x1).trans ?_
    rw [x1_apply, x3_apply, x5_apply]
    have e0 : r0_3.emb (ix2 x0 x1) = ix2 x0 ⟨512 + x1.val, by omega⟩ := funext fun a => Fin.ext <| by
      match a with
      | ⟨0, _⟩ => show 0 + 1 * x0.val = x0.val; omega
      | ⟨1, _⟩ => show 512 + 1 * x1.val = 512 + x1.val; omega
    have e1 : (⟨512 + x1.val - 512, by omega⟩ : Fin 512) = x1 := Fin.ext (by show 512 + x1.val - 512 = x1.val; omega)
    rw [e0]
    refine Eq.trans ?_ (dif_neg (show ¬ 512 + x1.val < 512 by omega)).symm
    show _ = dgate (dab m c (ix2 (row t x0) (cB ⟨512 + x1.val - 512, _⟩))) (prj m c (ix2 (row t x0) (gB ⟨512 + x1.val - 512, _⟩)))
        (bm m c (ix2 (row t x0) ⟨512 + x1.val - 512, _⟩))
    rw [e1]
  rcases List.mem_cons.mp hp with rfl | hp
  · idx_vars x
    refine (pay6_apply _ _ _ x0 x1).trans ?_
    rw [x0_apply, x2_apply, x4_apply]
    have e0 : r0_1.emb (ix2 x0 x1) = ix2 x0 ⟨x1.val, by omega⟩ := funext fun a => Fin.ext <| by
      match a with
      | ⟨0, _⟩ => show 0 + 1 * x0.val = x0.val; omega
      | ⟨1, _⟩ => show 0 + 1 * x1.val = x1.val; omega
    rw [e0]
    refine Eq.trans ?_ (dif_pos (show x1.val < 512 from x1.isLt)).symm
    rfl
  nomatch hp

end Cert.KernelIdeal.Gate

end
-- ==== Proof.GateClaims.lean ====
/- The gate's backward kernel against its reference: on finite arguments the five results are equal. -/
module

public import proofs.«01_k».proof.Defs
public import proofs.«01_k».proof.Proof.Gen.Kernel.Frame
public import proofs.«01_k».proof.Proof.Gen.Pre_finite
public import proofs.«01_k».proof.Proof.Gen.ReferenceIdeal.Run
public import proofs.«01_k».proof.Proof.Gate

@[expose] public section

set_option maxRecDepth 16384

noncomputable section

namespace Cert.Proof.GateClaims

open Idealize.ShloMosaic Idealize.ShloMosaic.Pointwise Idealize.SL.Sem
open Cert.KernelIdeal.Gate (sg dout dgate cA cB gA gB col row dab prj oa bm)

/-! ## The precondition -/

theorem pre_real {x0 : FVec Ideal Cert.Pre_finite.S8192x1024 .f32} {x1 : FVec Ideal Cert.Pre_finite.S8192x6304 .f32}
    {x2 x3 : FVec Ideal Cert.Pre_finite.S8192x512 .f32} (h : Cert.Pre_finite.fn x0 x1 x2 x3 = fun _ => 1#1) :
    (∀ i, ∃ q : ℝ, x0 i = q) ∧ (∀ i, ∃ q : ℝ, x1 i = q) ∧ (∀ i, ∃ q : ℝ, x2 i = q) ∧ (∀ i, ∃ q : ℝ, x3 i = q) := by
  have : Subsingleton Cert.Pre_finite.S_.Idx := ⟨fun a b => funext fun i => i.elim0⟩
  have h0 := congrFun h (fun a => a.elim0)
  unfold Cert.Pre_finite.fn Cert.Pre_finite.fn_part1 at h0
  obtain ⟨h123, h4⟩ := IntOp.andi_eq_one.1 h0
  obtain ⟨h12, h3⟩ := IntOp.andi_eq_one.1 h123
  obtain ⟨h1, h2⟩ := IntOp.andi_eq_one.1 h12
  exact ⟨Lift.real_of_all (fun _ => Lift.bits_inf) h1, Lift.real_of_all (fun _ => Lift.bits_inf) h2,
    Lift.real_of_all (fun _ => Lift.bits_inf) h3, Lift.real_of_all (fun _ => Lift.bits_inf) h4⟩

/-! ## The reference at an index -/

section Reference

open Cert.ReferenceIdeal Cert.ReferenceIdeal.Gen

variable (D : FVec Ideal S8192x1024 .f32) (P : FVec Ideal S8192x6304 .f32) (A B : FVec Ideal S8192x512 .f32)

abbrev ref0 : FVec Ideal S8192x512 .bf16 := truncf .bf16 (mulf (extractStridedSlice S8192x512 ![0, 0] D slices_S8192x1024_S8192x512_0_0) (mulf (extractStridedSlice S8192x512 ![0, 672] P slices_S8192x6304_S8192x512_0_672) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 672] P slices_S8192x6304_S8192x512_0_672))))))) bitsLt_bf16_f32

abbrev ref1 : FVec Ideal S8192x512 .bf16 := truncf .bf16 (mulf (extractStridedSlice S8192x512 ![0, 512] D slices_S8192x1024_S8192x512_0_512) (mulf (extractStridedSlice S8192x512 ![0, 5792] P slices_S8192x6304_S8192x512_0_5792) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 5792] P slices_S8192x6304_S8192x512_0_5792))))))) bitsLt_bf16_f32

abbrev ref2 : FVec Ideal S8192x8 .f32 := Host.reduceAdd (shapeCast _ (mulf (mulf (extractStridedSlice S8192x512 ![0, 0] D slices_S8192x1024_S8192x512_0_0) (mulf (extractStridedSlice S8192x512 ![0, 672] P slices_S8192x6304_S8192x512_0_672) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 672] P slices_S8192x6304_S8192x512_0_672))))))) A) shapeCasts_S8192x512_S8192x8x64) (constant S_ .f32 0x00000000#32) reducesTo_S8192x8x64_S8192x8_d2 h_S_

abbrev ref3 : FVec Ideal S8192x8 .f32 := Host.reduceAdd (shapeCast _ (mulf (mulf (extractStridedSlice S8192x512 ![0, 512] D slices_S8192x1024_S8192x512_0_512) (mulf (extractStridedSlice S8192x512 ![0, 5792] P slices_S8192x6304_S8192x512_0_5792) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 5792] P slices_S8192x6304_S8192x512_0_5792))))))) B) shapeCasts_S8192x512_S8192x8x64) (constant S_ .f32 0x00000000#32) reducesTo_S8192x8x64_S8192x8_d2 h_S_

abbrev ref4 : FVec Ideal S8192x1024 .bf16 := truncf .bf16 (concatenate S8192x1024 1 [⟨S8192x512, (addf (mulf (mulf A (extractStridedSlice S8192x512 ![0, 0] D slices_S8192x1024_S8192x512_0_0)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 672] P slices_S8192x6304_S8192x512_0_672)))))) (mulf (mulf (extractStridedSlice S8192x512 ![0, 672] P slices_S8192x6304_S8192x512_0_672) (mulf A (extractStridedSlice S8192x512 ![0, 0] D slices_S8192x1024_S8192x512_0_0))) (mulf (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 672] P slices_S8192x6304_S8192x512_0_672))))) (subf (broadcastInDim S8192x512 ![] bcast_S_S8192x512 (constant S_ .f32 0x3F800000#32)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 672] P slices_S8192x6304_S8192x512_0_672)))))))))⟩, ⟨S8192x512, (addf (mulf (mulf B (extractStridedSlice S8192x512 ![0, 512] D slices_S8192x1024_S8192x512_0_512)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 5792] P slices_S8192x6304_S8192x512_0_5792)))))) (mulf (mulf (extractStridedSlice S8192x512 ![0, 5792] P slices_S8192x6304_S8192x512_0_5792) (mulf B (extractStridedSlice S8192x512 ![0, 512] D slices_S8192x1024_S8192x512_0_512))) (mulf (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 5792] P slices_S8192x6304_S8192x512_0_5792))))) (subf (broadcastInDim S8192x512 ![] bcast_S_S8192x512 (constant S_ .f32 0x3F800000#32)) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 5792] P slices_S8192x6304_S8192x512_0_5792)))))))))⟩] concatenates_S8192x512_S8192x512_S8192x1024_d1) bitsLt_bf16_f32

theorem ref0_apply (r : Fin 8192) (l : Fin 512) : (ref0 D P (ix2 r l) : EReal) = dout (D (ix2 r (cA l))) (P (ix2 r (gA l))) := by
  pointwise [ref0, sg]

theorem ref1_apply (r : Fin 8192) (l : Fin 512) : (ref1 D P (ix2 r l) : EReal) = dout (D (ix2 r (cB l))) (P (ix2 r (gB l))) := by
  pointwise [ref1, sg]

theorem ref2_apply (r : Fin 8192) (h : Fin 8) : (ref2 D P A (ix2 r h) : EReal) =
    ∑ k : Fin 64, dout (D (ix2 r (cA (col h k)))) (P (ix2 r (gA (col h k)))) * A (ix2 r (col h k)) := by
  pointwise [ref2, sg]

theorem ref3_apply (r : Fin 8192) (h : Fin 8) : (ref3 D P B (ix2 r h) : EReal) =
    ∑ k : Fin 64, dout (D (ix2 r (cB (col h k)))) (P (ix2 r (gB (col h k)))) * B (ix2 r (col h k)) := by
  pointwise [ref3, sg]

/-- The gradient by the gate as the product rule writes it is the kernel's, on real numbers. -/
theorem dgate_eq {d g o : EReal} (hd : ∃ q : ℝ, d = q) (hg : ∃ q : ℝ, g = q) (ho : ∃ q : ℝ, o = q) :
    o * d * sg g + g * (o * d) * (sg g * (1 - sg g)) = dgate d g o := by
  obtain ⟨d, rfl⟩ := hd
  obtain ⟨g, rfl⟩ := hg
  obtain ⟨o, rfl⟩ := ho
  simp only [dgate, sg, Lift.sigmoid_coe]
  generalize 1 / (1 + Real.exp (-g)) = s
  simp only [← EReal.coe_one, ← EReal.coe_mul, ← EReal.coe_add, ← EReal.coe_sub]
  exact congrArg _ (by ring)

theorem ref4_apply (hD : ∀ i, ∃ q : ℝ, D i = q) (hP : ∀ i, ∃ q : ℝ, P i = q) (hA : ∀ i, ∃ q : ℝ, A i = q) (hB : ∀ i, ∃ q : ℝ, B i = q)
    (r : Fin 8192) (l : Fin 1024) : (ref4 D P A B (ix2 r l) : EReal) =
      if h : l.val < 512 then dgate (D (ix2 r (cA ⟨l.val, h⟩))) (P (ix2 r (gA ⟨l.val, h⟩))) (A (ix2 r ⟨l.val, h⟩))
        else dgate (D (ix2 r (cB ⟨l.val - 512, by omega⟩))) (P (ix2 r (gB ⟨l.val - 512, by omega⟩))) (B (ix2 r ⟨l.val - 512, by omega⟩)) := by
  pointwise [ref4]
  by_cases h : l.val < 512
  · rw [dif_pos h, dif_pos h]
    exact dgate_eq (hD _) (hP _) (hA _)
  · rw [dif_neg h, dif_neg h]
    exact dgate_eq (hD _) (hP _) (hB _)

end Reference

/-! ## The two runs side by side -/

variable (m : (ℓ : Loc Cert.KernelIdeal.nD Cert.KernelIdeal.τ Cert.KernelIdeal.sig) → Buf (Elt Ideal) ℓ)

/-- Every row is a row of some block. -/
theorem row_of (R : Fin 8192) : ∃ (t : Fin Cert.KernelIdeal.cfg0.N) (r : Fin 512), row t r = R := by
  have hN : Cert.KernelIdeal.cfg0.N = 16 := Cert.KernelIdeal.Gen.N_0
  exact ⟨⟨R.val / 512, by omega⟩, ⟨R.val % 512, by omega⟩, Fin.ext (by show R.val / 512 * 512 + R.val % 512 = R.val; omega)⟩

variable {m}

theorem eq6 (c : Dev Cert.KernelIdeal.nD) :
    (Cert.KernelIdeal.Gen.dats m 0 c).arrAt 6 Cert.KernelIdeal.cfg0.N = ref0 (dab m c) (prj m c) := funext fun i => by
  idx_vars i
  obtain ⟨t, r, rfl⟩ := row_of i0
  exact (Cert.KernelIdeal.Gate.res6 m c t r i1).trans (ref0_apply (dab m c) (prj m c) (row t r) i1).symm

theorem eq7 (c : Dev Cert.KernelIdeal.nD) :
    (Cert.KernelIdeal.Gen.dats m 0 c).arrAt 7 Cert.KernelIdeal.cfg0.N = ref1 (dab m c) (prj m c) := funext fun i => by
  idx_vars i
  obtain ⟨t, r, rfl⟩ := row_of i0
  exact (Cert.KernelIdeal.Gate.res7 m c t r i1).trans (ref1_apply (dab m c) (prj m c) (row t r) i1).symm

theorem eq8 {c : Dev Cert.KernelIdeal.nD} (hd : ∀ i, ∃ q : ℝ, dab m c i = q) (hp : ∀ i, ∃ q : ℝ, prj m c i = q) (ha : ∀ i, ∃ q : ℝ, oa m c i = q) :
    (Cert.KernelIdeal.Gen.dats m 0 c).arrAt 8 Cert.KernelIdeal.cfg0.N = ref2 (dab m c) (prj m c) (oa m c) := funext fun i => by
  idx_vars i
  obtain ⟨t, r, rfl⟩ := row_of i0
  exact (Cert.KernelIdeal.Gate.res8 hd hp ha t r i1).trans (ref2_apply (dab m c) (prj m c) (oa m c) (row t r) i1).symm

theorem eq9 {c : Dev Cert.KernelIdeal.nD} (hd : ∀ i, ∃ q : ℝ, dab m c i = q) (hp : ∀ i, ∃ q : ℝ, prj m c i = q) (hb : ∀ i, ∃ q : ℝ, bm m c i = q) :
    (Cert.KernelIdeal.Gen.dats m 0 c).arrAt 9 Cert.KernelIdeal.cfg0.N = ref3 (dab m c) (prj m c) (bm m c) := funext fun i => by
  idx_vars i
  obtain ⟨t, r, rfl⟩ := row_of i0
  exact (Cert.KernelIdeal.Gate.res9 hd hp hb t r i1).trans (ref3_apply (dab m c) (prj m c) (bm m c) (row t r) i1).symm

theorem eq10 {c : Dev Cert.KernelIdeal.nD} (hd : ∀ i, ∃ q : ℝ, dab m c i = q) (hp : ∀ i, ∃ q : ℝ, prj m c i = q) (ha : ∀ i, ∃ q : ℝ, oa m c i = q)
    (hb : ∀ i, ∃ q : ℝ, bm m c i = q) :
    (Cert.KernelIdeal.Gen.dats m 0 c).arrAt 10 Cert.KernelIdeal.cfg0.N = ref4 (dab m c) (prj m c) (oa m c) (bm m c) := funext fun i => by
  idx_vars i
  obtain ⟨t, r, rfl⟩ := row_of i0
  exact ((Cert.KernelIdeal.Gate.arr10 m c t r i1).trans (Cert.KernelIdeal.Gate.out10 m c t r i1)).trans
    (ref4_apply (dab m c) (prj m c) (oa m c) (bm m c) hd hp ha hb (row t r) i1).symm

theorem algebraic : Cert.algebraic_KernelIdeal_ReferenceIdeal_pre_finite := by
  intro m ρ m' ρ' hpre hag
  have hr : ∀ c, _ := fun c => pre_real (hpre c)
  refine ⟨fun c => ref0 (dab m c) (prj m c), fun c => ref1 (dab m c) (prj m c), fun c => ref2 (dab m c) (prj m c) (oa m c),
    fun c => ref3 (dab m c) (prj m c) (bm m c), fun c => ref4 (dab m c) (prj m c) (oa m c) (bm m c), ?_, ?_⟩
  · refine (θ_run Cert.KernelIdeal.defs _ _).mono (fun _ h c => ?_) (Cert.KernelIdeal.Value.run_blocks (F := Ideal) m ρ)
    obtain ⟨hd, hp, ha, hb⟩ := hr c
    obtain ⟨h6, h7, h8, h9, h10, hk⟩ := h c
    exact ⟨h6.trans (eq6 c), h7.trans (eq7 c), h8.trans (eq8 hd hp ha), h9.trans (eq9 hd hp hb), h10.trans (eq10 hd hp ha hb), hk⟩
  · refine (θ_run Cert.ReferenceIdeal.defs _ _).mono (fun _ h c => ?_) (Cert.ReferenceIdeal.Value.run (F := Ideal) m' ρ')
    obtain ⟨h0, h1, h2, h3, h4, hk⟩ := h c
    obtain ⟨a0, a1, a2, a3⟩ := hag c
    refine ⟨h0.trans ?_, h1.trans ?_, h2.trans ?_, h3.trans ?_, h4.trans ?_, hk⟩
    · rw [a0, a1]
    · rw [a0, a1]
    · rw [a0, a1, a2]
    · rw [a0, a1, a3]
    · rw [a0, a1, a2, a3]

end Cert.Proof.GateClaims

end
-- ==== Proof.MlaRun.lean ====
/- One run of the attention's backward kernel at a grid point: what its stores leave in the three sums it keeps
   and in the three blocks it writes back, as plain functions of the blocks it reads. -/
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.VecWindow

@[expose] public section

set_option maxRecDepth 16384

noncomputable section

namespace Cert.Kernel2Ideal.Mla

open Cert.Kernel2Ideal Cert.Kernel2Ideal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the kernel clears its sums -/

/-- The first key block's first query block: the query gradient's sum is cleared. -/
abbrev first (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- A key block's first query block: the key and value gradients' sums are cleared. -/
abbrev start (i : grid0.Coords) : Prop :=
  Scalar.cmpi .ne (Scalar.extui (Scalar.cmpi .eq (BitVec.ofNat 32 (i 2).val) 0#32)) 0#32 = 1#1

/-! ## The blocks' halves: each pair of heads takes its first and its second -/

section Halves
variable (x0 : Vec F S1024x256 .bf16) (x1 : Vec F S2048x256 .bf16) (x2 : Vec F S2048x128 .bf16) (x3 : Vec F S256x1024 .bf16) (x4 : Vec F S1024x128 .bf16) (x5 : Vec F S128x1024 .bf16) (x6 : Vec F S1x1024x2 .f32) (x7 : Vec F S1x1024x2 .f32)

abbrev qA := window x0 ![0, 0] S1024x128.size inb_S1024x256_S1024x128_0_0
abbrev qB := window x0 ![0, 128] S1024x128.size inb_S1024x256_S1024x128_0_128
abbrev kA := window x1 ![0, 0] S2048x128.size inb_S2048x256_S2048x128_0_0
abbrev kB := window x1 ![0, 128] S2048x128.size inb_S2048x256_S2048x128_0_128
abbrev qtA := window x3 ![0, 0] S128x1024.size inb_S256x1024_S128x1024_0_0
abbrev qtB := window x3 ![128, 0] S128x1024.size inb_S256x1024_S128x1024_128_0
abbrev dotA := window x5 ![0, 0] S64x1024.size inb_S128x1024_S64x1024_0_0
abbrev dotB := window x5 ![64, 0] S64x1024.size inb_S128x1024_S64x1024_64_0
abbrev colA (x : Vec F S1x1024x2 .f32) := window x ![0, 0, 0] S1x1024x1.size inb_S1x1024x2_S1x1024x1_0_0_0
abbrev colB (x : Vec F S1x1024x2 .f32) := window x ![0, 0, 1] S1x1024x1.size inb_S1x1024x2_S1x1024x1_0_0_1

/-- The first head's weights. -/
def pA : FVec F S1024x2048 .f32 := k0_pay13 (qA x0) (kA x1) (colA x6)

/-- The value gradient's sum after this point. -/
def dvNext (v : Vec F S128x2048 .f32) : Vec F S128x2048 .f32 :=
  put (put v ![0, 0] S64x2048.size
      (k0_pay14 (pA x0 x1 x6) (window v ![0, 0] S64x2048.size inb_S128x2048_S64x2048_0_0) (dotA x5)))
    ![64, 0] S64x2048.size
    (k0_pay22 (k0_pay18 (qB x0)) (k0_pay19 (kB x1)) (colB x6) (window v ![64, 0] S64x2048.size inb_S128x2048_S64x2048_64_0) (dotB x5))

/-- The key gradient's sum after this point. -/
def dkNext (v : Vec F S256x2048 .f32) : Vec F S256x2048 .f32 :=
  put (put v ![0, 0] S128x2048.size
      (k0_pay17 (k0_pay10 x2) (k0_pay12 x4) (pA x0 x1 x6) (colA x7) (window v ![0, 0] S128x2048.size inb_S256x2048_S128x2048_0_0) (qtA x3)))
    ![128, 0] S128x2048.size
    (k0_pay1 (k0_pay23 (k0_pay9 x4) (k0_pay10 x2) (k0_pay18 (qB x0)) (k0_pay19 (kB x1)) (k0_pay20 k0_pay8) (colB x6) (colB x7))
      (window v ![128, 0] S128x2048.size inb_S256x2048_S128x2048_128_0) (k0_pay25 (qtB x3)))

/-- The query gradient's sum after this point: the rows of this query block move. -/
def dqNext (i : grid0.Coords) (v : Vec F S8192x256 .f32) : Vec F S8192x256 .f32 :=
  put (put v (k0_off1 i) S1024x128.size
      (k0_pay16 (k0_pay10 x2) (k0_pay11 (kA x1)) (k0_pay12 x4) (pA x0 x1 x6) (colA x7) (window v (k0_off1 i) S1024x128.size (k0_off1_inb i))))
    (k0_off2 i) S1024x128.size
    (k0_pay24 (k0_pay9 x4) (k0_pay10 x2) (k0_pay18 (qB x0)) (k0_pay19 (kB x1)) (k0_pay20 k0_pay8) (colB x6) (colB x7)
      (window v (k0_off2 i) S1024x128.size (k0_off2_inb i)))

end Halves

/-! ## The executor's loads and stores, read as windows and puts -/

section Reads
variable {sig' : RefSig} {κ : Kind} {sp : Space} {s : Shape} {e : EltTy} (v : View sig' κ sp s e)

theorem rd (f : v.ty.Contents (Elt F)) {off size : Fin s.rank → ℕ} (inb : ∀ a, off a + size a ≤ s.size a) :
    v.readAt (Elt F) (Rect.unit off size inb).toLoadRect f = window (v.read (Elt F) f) off size inb := View.readAt_unit v f inb rfl inb
theorem rdc (L : List (View.Piece (Elt F) s e)) {off size : Fin s.rank → ℕ} (inb : ∀ a, off a + size a ≤ s.size a) :
    v.readCov L (Rect.unit off size inb).toLoadRect = window (v.read (Elt F) (v.writes (Elt F) v.junk L)) off size inb := View.readAt_unit v _ inb rfl inb
theorem wr (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

/-- A put over the whole of a shape leaves its payload. -/
theorem put_full {α : Type} (x : s.Idx → α) (off : Fin s.rank → ℕ) (h : ∀ a, off a + s.size a ≤ s.size a) (w : s.Idx → α) : put x off s.size w = w :=
  funext fun y => (dif_pos fun a => by have := h a; have := (y a).isLt; omega).trans
    (congrArg w (funext fun a => Fin.ext (by show (y a).val - off a = (y a).val; have := h a; omega)))
/-- Two puts that together reach the whole of a shape hide what was there before. -/
theorem put_two {α : Type} (x x' : s.Idx → α) (off off' size size' : Fin s.rank → ℕ)
    (h : ∀ y : s.Idx, (∀ a, off a ≤ (y a).val ∧ (y a).val < off a + size a) ∨ ∀ a, off' a ≤ (y a).val ∧ (y a).val < off' a + size' a) (u w) :
    put (put x off size u) off' size' w = put (put x' off size u) off' size' w := by
  funext y
  unfold put
  by_cases h' : ∀ a, off' a ≤ (y a).val ∧ (y a).val < off' a + size' a
  · rw [dif_pos h', dif_pos h']
  · rw [dif_neg h', dif_neg h', dif_pos ((h y).resolve_right h'), dif_pos ((h y).resolve_right h')]
/-- A window of the whole of a shape is the shape's own array. -/
theorem window_full {α : Type} (x : s.Idx → α) (off : Fin s.rank → ℕ) (h : ∀ a, off a + s.size a ≤ s.size a) : window x off s.size h = x :=
  funext fun y => congrArg x (funext fun a => Fin.ext (by show off a + 1 * (y a).val = (y a).val; have := h a; omega))

end Reads

/-! The two halves of a block lie apart, and a clear covers its block. -/

theorem apart_dv {α : Type} (x : S128x2048.Idx → α) (w) : window (put x ![0, 0] S64x2048.size w) ![64, 0] S64x2048.size inb_S128x2048_S64x2048_64_0
    = window x ![64, 0] S64x2048.size inb_S128x2048_S64x2048_64_0 := window_put_of_disjoint _ _ _ _ _ _ _ 0 (.inr (by decide))
theorem apart_dk {α : Type} (x : S256x2048.Idx → α) (w) : window (put x ![0, 0] S128x2048.size w) ![128, 0] S128x2048.size inb_S256x2048_S128x2048_128_0
    = window x ![128, 0] S128x2048.size inb_S256x2048_S128x2048_128_0 := window_put_of_disjoint _ _ _ _ _ _ _ 0 (.inr (by decide))
theorem apart_dq {α : Type} (i : grid0.Coords) (x : S8192x256.Idx → α) (w) :
    window (put x (k0_off1 i) S1024x128.size w) (k0_off2 i) S1024x128.size (k0_off2_inb i) = window x (k0_off2 i) S1024x128.size (k0_off2_inb i) :=
  window_put_of_disjoint _ _ _ _ _ _ _ 1 (.inr (le_refl 128))
theorem full_dv {α : Type} (x w : S128x2048.Idx → α) : put x ![0, 0] S128x2048.size w = w := put_full x _ inb_S128x2048_S128x2048_0_0 w
theorem full_dk {α : Type} (x w : S256x2048.Idx → α) : put x ![0, 0] S256x2048.size w = w := put_full x _ inb_S256x2048_S256x2048_0_0 w
theorem full_dq {α : Type} (x w : S8192x256.Idx → α) : put x ![0, 0] S8192x256.size w = w := put_full x _ inb_S8192x256_S8192x256_0_0 w
theorem all_dv {α : Type} (x : S128x2048.Idx → α) : window x ![0, 0] S128x2048.size inb_S128x2048_S128x2048_0_0 = x := window_full x _ _
theorem all_dk {α : Type} (x : S256x2048.Idx → α) : window x ![0, 0] S256x2048.size inb_S256x2048_S256x2048_0_0 = x := window_full x _ _
theorem cover_dv {α : Type} (x x' : S128x2048.Idx → α) (u w) :
    put (put x ![0, 0] S64x2048.size u) ![64, 0] S64x2048.size w = put (put x' ![0, 0] S64x2048.size u) ![64, 0] S64x2048.size w :=
  put_two x x' _ _ _ _ (fun y => by
    have h0 : (y 0).val < 128 := (y 0).isLt
    have h1 : (y 1).val < 2048 := (y 1).isLt
    rcases Nat.lt_or_ge (y 0).val 64 with h | h
    · exact .inl fun | 0 => ⟨Nat.zero_le _, by show (y 0).val < 0 + 64; omega⟩ | 1 => ⟨Nat.zero_le _, by show (y 1).val < 0 + 2048; omega⟩
    · exact .inr fun | 0 => ⟨h, by show (y 0).val < 64 + 64; omega⟩ | 1 => ⟨Nat.zero_le _, by show (y 1).val < 0 + 2048; omega⟩) u w
theorem cover_dk {α : Type} (x x' : S256x2048.Idx → α) (u w) :
    put (put x ![0, 0] S128x2048.size u) ![128, 0] S128x2048.size w = put (put x' ![0, 0] S128x2048.size u) ![128, 0] S128x2048.size w :=
  put_two x x' _ _ _ _ (fun y => by
    have h0 : (y 0).val < 256 := (y 0).isLt
    have h1 : (y 1).val < 2048 := (y 1).isLt
    rcases Nat.lt_or_ge (y 0).val 128 with h | h
    · exact .inl fun | 0 => ⟨Nat.zero_le _, by show (y 0).val < 0 + 128; omega⟩ | 1 => ⟨Nat.zero_le _, by show (y 1).val < 0 + 2048; omega⟩
    · exact .inr fun | 0 => ⟨h, by show (y 0).val < 128 + 128; omega⟩ | 1 => ⟨Nat.zero_le _, by show (y 1).val < 0 + 2048; omega⟩) u w
theorem all_v {α : Type} (x : S2048x128.Idx → α) : window x ![0, 0] S2048x128.size inb_S2048x128_S2048x128_0_0 = x := window_full x _ _
theorem all_do {α : Type} (x : S1024x128.Idx → α) : window x ![0, 0] S1024x128.size inb_S1024x128_S1024x128_0_0 = x := window_full x _ _
theorem all_dq {α : Type} (x : S8192x256.Idx → α) : window x ![0, 0] S8192x256.size inb_S8192x256_S8192x256_0_0 = x := window_full x _ _

set_option maxHeartbeats 6400000 in
/-- The body at a point, from any contents of the blocks it keeps and writes. -/
theorem run (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x1024 .bf16) (harg6 : arg6.IsWhole) (arg7 : Memref sig .tc .vmem S1024x128 .bf16) (harg7 : arg7.IsWhole) (arg8 : Memref sig .tc .vmem S128x1024 .bf16) (harg8 : arg8.IsWhole) (arg9 : Memref sig .tc .vmem S1x1024x2 .f32) (harg9 : arg9.IsWhole) (arg10 : Memref sig .tc .vmem S1x1024x2 .f32) (harg10 : arg10.IsWhole) (arg11 : Memref sig .tc .vmem S8192x256 .bf16) (harg11 : arg11.IsWhole) (arg12 : Memref sig .tc .vmem S256x2048 .bf16) (harg12 : arg12.IsWhole) (arg13 : Memref sig .tc .vmem S128x2048 .bf16) (harg13 : arg13.IsWhole) (arg14 : Memref sig .tc .vmem S8192x256 .f32) (harg14 : arg14.IsWhole) (arg15 : Memref sig .tc .vmem S256x2048 .f32) (harg15 : arg15.IsWhole) (arg16 : Memref sig .tc .vmem S128x2048 .f32) (harg16 : arg16.IsWhole)
    (hc : first i ∧ start i ∧ ¬k0_cond3 i = 1#1 ∧ ¬k0_cond4 i = 1#1 ∨ ¬first i ∧ start i ∧ ¬k0_cond3 i = 1#1 ∧ ¬k0_cond4 i = 1#1
      ∨ ¬first i ∧ ¬start i ∧ ¬k0_cond3 i = 1#1 ∧ ¬k0_cond4 i = 1#1 ∨ ¬first i ∧ ¬start i ∧ k0_cond3 i = 1#1 ∧ ¬k0_cond4 i = 1#1
      ∨ ¬first i ∧ ¬start i ∧ k0_cond3 i = 1#1 ∧ k0_cond4 i = 1#1)
    (x0 : Vec F S1024x256 .bf16) (x1 : Vec F S2048x256 .bf16) (x2 : Vec F S2048x128 .bf16) (x3 : Vec F S256x1024 .bf16) (x4 : Vec F S1024x128 .bf16) (x5 : Vec F S128x1024 .bf16) (x6 : Vec F S1x1024x2 .f32) (x7 : Vec F S1x1024x2 .f32)
    (o8 : Vec F S8192x256 .bf16) (o9 : Vec F S256x2048 .bf16) (o10 : Vec F S128x2048 .bf16)
    (a : Vec F S8192x256 .f32) (b : Vec F S256x2048 .f32) (d : Vec F S128x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare o8 ∗ owns (c : Thread nD τ) arg12 fullShare o9 ∗ owns (c : Thread nD τ) arg13 fullShare o10 ∗ owns (c : Thread nD τ) arg14 fullShare a ∗ owns (c : Thread nD τ) arg15 fullShare b ∗ owns (c : Thread nD τ) arg16 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (if k0_cond4 i = 1#1 then k0_pay4 (dqNext x0 x1 x2 x4 x6 x7 i (if first i then k0_pay5 else a)) else o8) ∗ owns (c : Thread nD τ) arg12 fullShare (if k0_cond3 i = 1#1 then k0_pay2 (dkNext x0 x1 x2 x3 x4 x6 x7 (if start i then k0_pay6 else b)) else o9) ∗ owns (c : Thread nD τ) arg13 fullShare (if k0_cond3 i = 1#1 then k0_pay3 (dvNext x0 x1 x5 x6 (if start i then k0_pay7 else d)) else o10) ∗ owns (c : Thread nD τ) arg14 fullShare (dqNext x0 x1 x2 x4 x6 x7 i (if first i then k0_pay5 else a)) ∗ owns (c : Thread nD τ) arg15 fullShare (dkNext x0 x1 x2 x3 x4 x6 x7 (if start i then k0_pay6 else b)) ∗ owns (c : Thread nD τ) arg16 fullShare (dvNext x0 x1 x5 x6 (if start i then k0_pay7 else d))) -∗ K ⟨⟩))
      ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16) K := by
  rcases hc with ⟨h1, h2, h3, h4⟩ | ⟨h1, h2, h3, h4⟩ | ⟨h1, h2, h3, h4⟩ | ⟨h1, h2, h3, h4⟩ | ⟨h1, h2, h3, h4⟩ <;>
  · first | rw [if_pos h1] | rw [if_neg h1]
    first | rw [if_pos h2, if_pos h2] | rw [if_neg h2, if_neg h2]
    first | rw [if_pos h3, if_pos h3] | rw [if_neg h3, if_neg h3]
    first | rw [if_pos h4] | rw [if_neg h4]
    simp only [cc0_mla_bwd_eq_skeleton]; unfold cc0_mla_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    sl_exec (disch := first | sl_exact h1 | sl_exact h2 | sl_exact h3 | sl_exact h4)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro
      sl_unfold_run_names; simp only [rd, rdc, wr, View.writes_nil, dqNext, dkNext, dvNext, pA, hf0, hf1, hf2, hf3, hf4, hf5, hf6, hf7, hf8, hf9, hf10, hf11, hf12, hf13]
      repeat rw [apart_dv]
      repeat rw [apart_dk]
      repeat rw [apart_dq]
      repeat rw [full_dv]
      repeat rw [full_dk]
      repeat rw [full_dq]
      repeat rw [all_v]
      repeat rw [all_do]
      repeat rw [all_dq]
      repeat rw [all_dk]
      repeat rw [all_dv]
      first | done | rfl | exact congrArg k0_pay2 (cover_dk _ _ _ _) | exact congrArg k0_pay3 (cover_dv _ _ _ _)
    isplitl [H9]
    · iexists _; isplitr; swap; · iexact H9
      ipureintro
      sl_unfold_run_names; simp only [rd, rdc, wr, View.writes_nil, dqNext, dkNext, dvNext, pA, hf0, hf1, hf2, hf3, hf4, hf5, hf6, hf7, hf8, hf9, hf10, hf11, hf12, hf13]
      repeat rw [apart_dv]
      repeat rw [apart_dk]
      repeat rw [apart_dq]
      repeat rw [full_dv]
      repeat rw [full_dk]
      repeat rw [full_dq]
      repeat rw [all_v]
      repeat rw [all_do]
      repeat rw [all_dq]
      repeat rw [all_dk]
      repeat rw [all_dv]
      first | done | rfl | exact congrArg k0_pay2 (cover_dk _ _ _ _) | exact congrArg k0_pay3 (cover_dv _ _ _ _)
    isplitl [H10]
    · iexists _; isplitr; swap; · iexact H10
      ipureintro
      sl_unfold_run_names; simp only [rd, rdc, wr, View.writes_nil, dqNext, dkNext, dvNext, pA, hf0, hf1, hf2, hf3, hf4, hf5, hf6, hf7, hf8, hf9, hf10, hf11, hf12, hf13]
      repeat rw [apart_dv]
      repeat rw [apart_dk]
      repeat rw [apart_dq]
      repeat rw [full_dv]
      repeat rw [full_dk]
      repeat rw [full_dq]
      repeat rw [all_v]
      repeat rw [all_do]
      repeat rw [all_dq]
      repeat rw [all_dk]
      repeat rw [all_dv]
      first | done | rfl | exact congrArg k0_pay2 (cover_dk _ _ _ _) | exact congrArg k0_pay3 (cover_dv _ _ _ _)
    isplitl [H11]
    · iexists _; isplitr; swap; · iexact H11
      ipureintro
      sl_unfold_run_names; simp only [rd, rdc, wr, View.writes_nil, dqNext, dkNext, dvNext, pA, hf0, hf1, hf2, hf3, hf4, hf5, hf6, hf7, hf8, hf9, hf10, hf11, hf12, hf13]
      repeat rw [apart_dv]
      repeat rw [apart_dk]
      repeat rw [apart_dq]
      repeat rw [full_dv]
      repeat rw [full_dk]
      repeat rw [full_dq]
      repeat rw [all_v]
      repeat rw [all_do]
      repeat rw [all_dq]
      repeat rw [all_dk]
      repeat rw [all_dv]
      first | done | rfl | exact congrArg k0_pay2 (cover_dk _ _ _ _) | exact congrArg k0_pay3 (cover_dv _ _ _ _)
    isplitl [H12]
    · iexists _; isplitr; swap; · iexact H12
      ipureintro
      sl_unfold_run_names; simp only [rd, rdc, wr, View.writes_nil, dqNext, dkNext, dvNext, pA, hf0, hf1, hf2, hf3, hf4, hf5, hf6, hf7, hf8, hf9, hf10, hf11, hf12, hf13]
      repeat rw [apart_dv]
      repeat rw [apart_dk]
      repeat rw [apart_dq]
      repeat rw [full_dv]
      repeat rw [full_dk]
      repeat rw [full_dq]
      repeat rw [all_v]
      repeat rw [all_do]
      repeat rw [all_dq]
      repeat rw [all_dk]
      repeat rw [all_dv]
      first | done | rfl | exact congrArg k0_pay2 (cover_dk _ _ _ _) | exact congrArg k0_pay3 (cover_dv _ _ _ _)
    iexists _; isplitr; swap; · iexact H13
    ipureintro
    sl_unfold_run_names; simp only [rd, rdc, wr, View.writes_nil, dqNext, dkNext, dvNext, pA, hf0, hf1, hf2, hf3, hf4, hf5, hf6, hf7, hf8, hf9, hf10, hf11, hf12, hf13]
    repeat rw [apart_dv]
    repeat rw [apart_dk]
    repeat rw [apart_dq]
    repeat rw [full_dv]
    repeat rw [full_dk]
    repeat rw [full_dq]
    repeat rw [all_v]
    repeat rw [all_do]
    repeat rw [all_dq]
    repeat rw [all_dk]
    repeat rw [all_dv]
    first | done | rfl | exact congrArg k0_pay2 (cover_dk _ _ _ _) | exact congrArg k0_pay3 (cover_dv _ _ _ _)

end Cert.Kernel2Ideal.Mla

end
-- ==== Proof.MlaFrame.lean ====
/- The attention's backward kernel over its whole grid: the three sums it keeps from point to point, the invariant
   that holds them, and its run. -/
module

public import proofs.«01_k».proof.Proof.MlaRun
public import Idealize.ShloMosaic.Lib.Claim

@[expose] public section

set_option maxRecDepth 16384

noncomputable section

namespace Cert.Kernel2Ideal.Mla

open Cert.Kernel2Ideal Cert.Kernel2Ideal.Gen
open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point -/

theorem first_iff : ∀ t : Fin cfg0.N, first (grid0.coords t) ↔ t.val % 32 = 0 :=
  (fun t => by
    have ht : t.val < 128 := Nat.lt_of_lt_of_eq t.isLt N_0
    have e1 : (grid0.coords t 1).val = t.val / 8 % 4 := Pipeline.Grid.coords_val t 1 (by decide) rfl
    have e2 : (grid0.coords t 2).val = t.val / 1 % 8 := Pipeline.Grid.coords_val t 2 (by decide) rfl
    simp only [first, e1, e2]
    word_cmp : ∀ t : Fin grid0.N, first (grid0.coords t) ↔ t.val % 32 = 0)
theorem start_iff : ∀ t : Fin cfg0.N, start (grid0.coords t) ↔ t.val % 8 = 0 :=
  (fun t => by
    have ht : t.val < 128 := Nat.lt_of_lt_of_eq t.isLt N_0
    have e2 : (grid0.coords t 2).val = t.val / 1 % 8 := Pipeline.Grid.coords_val t 2 (by decide) rfl
    simp only [start, e2]
    word_cmp : ∀ t : Fin grid0.N, start (grid0.coords t) ↔ t.val % 8 = 0)
theorem cond3_iff : ∀ t : Fin cfg0.N, k0_cond3 (grid0.coords t) = 1#1 ↔ t.val % 8 = 7 :=
  (fun t => by
    have ht : t.val < 128 := Nat.lt_of_lt_of_eq t.isLt N_0
    have e2 : (grid0.coords t 2).val = t.val / 1 % 8 := Pipeline.Grid.coords_val t 2 (by decide) rfl
    simp only [k0_cond3, e2]
    word_cmp : ∀ t : Fin grid0.N, k0_cond3 (grid0.coords t) = 1#1 ↔ t.val % 8 = 7)
theorem cond4_iff : ∀ t : Fin cfg0.N, k0_cond4 (grid0.coords t) = 1#1 ↔ t.val % 32 = 31 :=
  (fun t => by
    have ht : t.val < 128 := Nat.lt_of_lt_of_eq t.isLt N_0
    have e1 : (grid0.coords t 1).val = t.val / 8 % 4 := Pipeline.Grid.coords_val t 1 (by decide) rfl
    have e2 : (grid0.coords t 2).val = t.val / 1 % 8 := Pipeline.Grid.coords_val t 2 (by decide) rfl
    simp only [k0_cond4, e1, e2]
    word_cmp : ∀ t : Fin grid0.N, k0_cond4 (grid0.coords t) = 1#1 ↔ t.val % 32 = 31)

theorem cases_at (t : Fin cfg0.N) :
    first (grid0.coords t) ∧ start (grid0.coords t) ∧ ¬k0_cond3 (grid0.coords t) = 1#1 ∧ ¬k0_cond4 (grid0.coords t) = 1#1
      ∨ ¬first (grid0.coords t) ∧ start (grid0.coords t) ∧ ¬k0_cond3 (grid0.coords t) = 1#1 ∧ ¬k0_cond4 (grid0.coords t) = 1#1
      ∨ ¬first (grid0.coords t) ∧ ¬start (grid0.coords t) ∧ ¬k0_cond3 (grid0.coords t) = 1#1 ∧ ¬k0_cond4 (grid0.coords t) = 1#1
      ∨ ¬first (grid0.coords t) ∧ ¬start (grid0.coords t) ∧ k0_cond3 (grid0.coords t) = 1#1 ∧ ¬k0_cond4 (grid0.coords t) = 1#1
      ∨ ¬first (grid0.coords t) ∧ ¬start (grid0.coords t) ∧ k0_cond3 (grid0.coords t) = 1#1 ∧ k0_cond4 (grid0.coords t) = 1#1 := by
  simp only [first_iff, start_iff, cond3_iff, cond4_iff]; omega

/-! ## The sums after each point -/

/-- The three sums: by query, by key, by value. -/
abbrev Sums (F : FTy → Type) : Type := Vec F S8192x256 .f32 × Vec F S256x2048 .f32 × Vec F S128x2048 .f32

/-- One point's work on the sums. -/
def step (c : Dev nD) (t : Fin cfg0.N) (s : Sums F) : Sums F :=
  (dqNext (iblk m c 0 t) (iblk m c 1 t) (iblk m c 2 t) (iblk m c 4 t) (iblk m c 6 t) (iblk m c 7 t) (grid0.coords t) (if first (grid0.coords t) then k0_pay5 else s.1),
   dkNext (iblk m c 0 t) (iblk m c 1 t) (iblk m c 2 t) (iblk m c 3 t) (iblk m c 4 t) (iblk m c 6 t) (iblk m c 7 t) (if start (grid0.coords t) then k0_pay6 else s.2.1),
   dvNext (iblk m c 0 t) (iblk m c 1 t) (iblk m c 5 t) (iblk m c 6 t) (if start (grid0.coords t) then k0_pay7 else s.2.2))

/-- The sums before point `n`; before the first point they are never read. -/
def sums (c : Dev nD) : (n : ℕ) → n ≤ cfg0.N → Sums F
  | 0, _ => (k0_pay5, k0_pay6, k0_pay7)
  | n + 1, h => step m c ⟨n, h⟩ (sums c n (Nat.le_of_succ_le h))

theorem sums_succ (c : Dev nD) (t : Fin cfg0.N) : sums m c (t.val + 1) t.isLt = step m c t (sums m c t.val (Nat.le_of_lt t.isLt)) := rfl

/-- The first point clears every sum, so that what it finds there does not matter. -/
theorem step_first (c : Dev nD) (t : Fin cfg0.N) (h : t.val = 0) (s s' : Sums F) : step m c t s = step m c t s' := by
  have h1 : first (grid0.coords t) := (first_iff t).mpr (by omega)
  have h2 : start (grid0.coords t) := (start_iff t).mpr (by omega)
  unfold step
  rw [if_pos h1, if_pos h1, if_pos h2, if_pos h2, if_pos h2, if_pos h2]

/-! ## The invariant and the proof data -/

abbrev scq : Memref sig .tc .vmem S8192x256 .f32 := Memref.whole cc0_scratch0
abbrev sck : Memref sig .tc .vmem S256x2048 .f32 := Memref.whole cc0_scratch1
abbrev scv : Memref sig .tc .vmem S128x2048 .f32 := Memref.whole cc0_scratch2

/-- The three sums held in the kernel's own memory. -/
def held (c : Dev nD) (s : Sums F) : sProp 𝕄 :=
  iprop(owns (c : Thread nD τ) scq fullShare s.1 ∗ owns (c : Thread nD τ) sck fullShare s.2.1 ∗ owns (c : Thread nD τ) scv fullShare s.2.2)

/-- Before the first point the sums hold anything; afterwards what the point before left. -/
def inv (c : Dev nD) : (n : ℕ) → n ≤ cfg0.N → sProp 𝕄
  | 0, _ => Pipeline.ΦA spec0 c
  | n + 1, hn => iprop(held c (sums m c (n + 1) hn) ∗ (∃ r, prngReg c r))

theorem ΦA_eq (c : Dev nD) : (Pipeline.ΦA spec0 c : sProp 𝕄)
    = iprop(iprop((∃ d, owns (c : Thread nD τ) scq fullShare d) ∗ (∃ d, owns (c : Thread nD τ) sck fullShare d) ∗ (∃ d, owns (c : Thread nD τ) scv fullShare d)) ∗ (∃ r, prngReg c r)) := by
  unfold Pipeline.ΦA; rw [scopedRest0_eq]; simp only [scq, sck, scv, owns_whole]; try rfl

/-- Whatever the point, the sums it finds lead to the sums it leaves. -/
theorem inv_enter (c : Dev nD) (t : Fin cfg0.N) :
    inv m c t.val (Nat.le_of_lt t.isLt) ⊢ iprop(∃ s : Sums F, ⌜step m c t s = sums m c (t.val + 1) t.isLt⌝ ∗ held c s ∗ (∃ r, prngReg c r)) := by
  obtain ⟨n, hn⟩ := t
  cases n with
  | zero =>
    show Pipeline.ΦA spec0 c ⊢ _
    rw [ΦA_eq]
    iintro ⟨⟨⟨%a, Ha⟩, ⟨%b, Hb⟩, ⟨%d, Hd⟩⟩, Hg⟩
    iexists (a, b, d)
    isplitr
    · ipureintro; exact step_first m c _ rfl _ _
    isplitr [Hg]
    · unfold held
      isplitl [Ha]; · iexact Ha
      isplitl [Hb]; · iexact Hb
      iexact Hd
    iexact Hg
  | succ n =>
    show iprop(held c (sums m c (n + 1) _) ∗ (∃ r, prngReg c r)) ⊢ _
    iintro ⟨H, Hg⟩
    iexists _
    isplitr
    · ipureintro; exact rfl
    isplitl [H]; · iexact H
    iexact Hg

theorem inv_leave (c : Dev nD) (n : ℕ) (hn : n ≤ cfg0.N) (h0 : n ≠ 0) : inv m c n hn ⊢ Pipeline.ΦA spec0 c := by
  cases n with
  | zero => exact absurd rfl h0
  | succ n =>
    rw [ΦA_eq]
    show iprop(held c (sums m c (n + 1) _) ∗ (∃ r, prngReg c r)) ⊢ _
    unfold held
    iintro ⟨⟨Ha, Hb, Hd⟩, Hg⟩
    isplitr [Hg]
    · isplitl [Ha]; · iexists _; iexact Ha
      isplitl [Hb]; · iexists _; iexact Hb
      iexists _; iexact Hd
    iexact Hg

/-- Every input keeps its block; the three results' blocks are the rounded sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay4 (sums m c (t.val + 1) t.isLt).1
    | ⟨9, _⟩ => k0_pay2 (sums m c (t.val + 1) t.isLt).2.1
    | ⟨10, _⟩ => k0_pay3 (sums m c (t.val + 1) t.isLt).2.2
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem after_8 (c : Dev nD) (t : Fin cfg0.N) : (dats m 0 c).after 8 t = k0_pay4 (sums m c (t.val + 1) t.isLt).1 := by dsimp only [dats]
theorem after_9 (c : Dev nD) (t : Fin cfg0.N) : (dats m 0 c).after 9 t = k0_pay2 (sums m c (t.val + 1) t.isLt).2.1 := by dsimp only [dats]
theorem after_10 (c : Dev nD) (t : Fin cfg0.N) : (dats m 0 c).after 10 t = k0_pay3 (sums m c (t.val + 1) t.isLt).2.2 := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

/-! ## The results' blocks: stored at the points that write them back, left alone at the others -/

theorem idle_8 : ∀ t : Fin cfg0.N, cfg0.idle 8 (grid0.coords t) = !(k0_cond4 (grid0.coords t) == 1#1) := fun _ => rfl
theorem idle_9 : ∀ t : Fin cfg0.N, cfg0.idle 9 (grid0.coords t) = !(k0_cond3 (grid0.coords t) == 1#1) := fun _ => rfl
theorem idle_10 : ∀ t : Fin cfg0.N, cfg0.idle 10 (grid0.coords t) = !(k0_cond3 (grid0.coords t) == 1#1) := fun _ => rfl

theorem leaves_8 (c : Dev nD) (t : Fin cfg0.N) (d) :
    owns (c : Thread nD τ) (st0_8 t) fullShare (if k0_cond4 (grid0.coords t) = 1#1 then k0_pay4 (sums m c (t.val + 1) t.isLt).1 else (dats m 0 c).before 8 t d) ⊢ (dats m 0 c).leavesExact 8 t := by
  by_cases h : k0_cond4 (grid0.coords t) = 1#1
  · rw [if_pos h]
    unfold Dat.leavesExact
    rw [show cfg0.idle 8 (grid0.coords t) = false from (idle_8 t).trans (by rw [h]; rfl), after_8]
  · rw [if_neg h, Dat.leavesExact_idle (dats m 0 c) 8 t ((idle_8 t).trans (by rw [beq_eq_false_iff_ne.mpr h]; rfl))
      (Bool.eq_false_iff.mpr fun hf => h ((cond4_iff t).mpr ((flush0_8 t).mp hf)))]
    iintro H; iexists _; iexact H
theorem leaves_9 (c : Dev nD) (t : Fin cfg0.N) (d) :
    owns (c : Thread nD τ) (st0_9 t) fullShare (if k0_cond3 (grid0.coords t) = 1#1 then k0_pay2 (sums m c (t.val + 1) t.isLt).2.1 else (dats m 0 c).before 9 t d) ⊢ (dats m 0 c).leavesExact 9 t := by
  by_cases h : k0_cond3 (grid0.coords t) = 1#1
  · rw [if_pos h]
    unfold Dat.leavesExact
    rw [show cfg0.idle 9 (grid0.coords t) = false from (idle_9 t).trans (by rw [h]; rfl), after_9]
  · rw [if_neg h, Dat.leavesExact_idle (dats m 0 c) 9 t ((idle_9 t).trans (by rw [beq_eq_false_iff_ne.mpr h]; rfl))
      (Bool.eq_false_iff.mpr fun hf => h ((cond3_iff t).mpr ((flush0_9 t).mp hf)))]
    iintro H; iexists _; iexact H
theorem leaves_10 (c : Dev nD) (t : Fin cfg0.N) (d) :
    owns (c : Thread nD τ) (st0_10 t) fullShare (if k0_cond3 (grid0.coords t) = 1#1 then k0_pay3 (sums m c (t.val + 1) t.isLt).2.2 else (dats m 0 c).before 10 t d) ⊢ (dats m 0 c).leavesExact 10 t := by
  by_cases h : k0_cond3 (grid0.coords t) = 1#1
  · rw [if_pos h]
    unfold Dat.leavesExact
    rw [show cfg0.idle 10 (grid0.coords t) = false from (idle_10 t).trans (by rw [h]; rfl), after_10]
  · rw [if_neg h, Dat.leavesExact_idle (dats m 0 c) 10 t ((idle_10 t).trans (by rw [beq_eq_false_iff_ne.mpr h]; rfl))
      (Bool.eq_false_iff.mpr fun hf => h ((cond3_iff t).mpr ((flush0_10 t).mp hf)))]
    iintro H; iexists _; iexact H

/-! ## The body at a point, the run, the frame -/

set_option maxHeartbeats 3200000 in
theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
      ⊢ wp frame (wpE (defs₀ (F := F)) Variants.none c none) Set.univ (bodyAt0 t) (fun _ =>
        iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)) := by
  unfold bodyAt0
  simp only [before_0, before_1, before_2, before_3, before_4, before_5, before_6, before_7]
  rw [show (dats m 0 c).owesAt () t.succ = (dats m 0 c).owesAt () t.castSucc from rfl, inv_castSucc,
    show (dats m 0 c).Φ t.succ = iprop(held c (sums m c (t.val + 1) t.isLt) ∗ (∃ r, prngReg c r)) from rfl]
  refine (sep_mono (inv_enter m c t) .rfl).trans ?_
  iintro ⟨⟨%s, %hs, Hh, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  unfold held
  icases Hh with ⟨Ha, Hb, Hd⟩
  iapply (run c (grid0.coords t) _ _ _ _ _ _ _ _ _ _ _ _ _ _ _ _ _ _ _ _ _ _ _ _ _ _ _ _ (cases_at t) (iblk m c 0 t) (iblk m c 1 t) (iblk m c 2 t) (iblk m c 3 t) (iblk m c 4 t) (iblk m c 5 t) (iblk m c 6 t) (iblk m c 7 t) _ _ _ s.1 s.2.1 s.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Ha]; · iexact Ha
  isplitl [Hb]; · iexact Hb
  isplitl [Hd]; · iexact Hd
  iintro ⟨H0, H1, H2, H3, H4, H5, H6, H7, H8, H9, H10, Ha, Hb, Hd⟩
  rw [← hs]
  isplitl [Ha Hb Hd Hg]
  · isplitr [Hg]
    · isplitl [Ha]; · iexact Ha
      isplitl [Hb]; · iexact Hb
      iexact Hd
    iexact Hg
  isplitl [Ho]; · iexact Ho
  isplitl [H0]; · rw [leaves_0]; iexact H0
  isplitl [H1]; · rw [leaves_1]; iexact H1
  isplitl [H2]; · rw [leaves_2]; iexact H2
  isplitl [H3]; · rw [leaves_3]; iexact H3
  isplitl [H4]; · rw [leaves_4]; iexact H4
  isplitl [H5]; · rw [leaves_5]; iexact H5
  isplitl [H6]; · rw [leaves_6]; iexact H6
  isplitl [H7]; · rw [leaves_7]; iexact H7
  isplitl [H8]; · iapply (leaves_8 m c t _); rw [← hs]; iexact H8
  isplitl [H9]; · iapply (leaves_9 m c t _); rw [← hs]; iexact H9
  iapply (leaves_10 m c t _); rw [← hs]; iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c :=
  inv_leave m c cfg0.N (Nat.le_refl _) (by have : cfg0.N = 128 := N_0; omega)

set_option backward.isDefEq.respectTransparency.types false in
/-- Every run ends with each array at what the blocks written back make of it, each other array as the host's operations leave it, and no counter raised. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_main m ρ))

/-- The frame: the run ends, the arguments are unchanged, and no counter is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main m ρ))

end Cert.Kernel2Ideal.Mla

end
-- ==== Proof.MlaBits.lean ====
/- The run of the attention's backward kernel read at the machine's numbers. -/
module

public import proofs.«01_k».proof.Proof.MlaFrame
public import proofs.«01_k».proof.Proof.Gen.Kernel2.Frame
public import Idealize.ShloMosaic.PureOps.BitExact

@[expose] public section

set_option maxRecDepth 16384

noncomputable section

namespace Cert.Kernel2Ideal.Mla

open Idealize.ShloMosaic Idealize.ShloMosaic.Tactic Idealize.SL.Sem

variable (m : (ℓ : Loc Cert.Kernel2.nD Cert.Kernel2.τ Cert.Kernel2.sig) → Buf (Elt Bits) ℓ) (ρ : Dev Cert.Kernel2.nD → PrngReg)

theorem same_run : (θ_run (@Cert.Kernel2Ideal.defs Bits _ Cert.Kernel2Ideal.Gen.facts) (onTc (τ := Cert.Kernel2Ideal.τ) (@Cert.Kernel2Ideal.main Bits _ Cert.Kernel2Ideal.Gen.facts)) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0))
    = (θ_run (@Cert.Kernel2.defs Bits _ Cert.Kernel2.Gen.facts) (onTc (τ := Cert.Kernel2.τ) (@Cert.Kernel2.main Bits _ Cert.Kernel2.Gen.facts)) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)) := by sl_kernel_rfl

/-- The frame of the program as it runs on the machine. -/
theorem frame_bits : θ_run (@Cert.Kernel2.defs Bits _ Cert.Kernel2.Gen.facts) (onTc (τ := Cert.Kernel2.τ) (@Cert.Kernel2.main Bits _ Cert.Kernel2.Gen.facts)) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0) :=
  Eq.mp (same_run m ρ) (frame (F := Bits) m ρ)

end Cert.Kernel2Ideal.Mla

end
-- ==== Proof.MlaMath.lean ====
/- The attention's weights, its gradient with respect to the scores, and the five gradients, over the real numbers. -/
module

public import proofs.«01_k».proof.Proof.Lift

@[expose] public section

set_option maxRecDepth 16384

noncomputable section

namespace Cert.Lift

open Idealize.ShloMosaic

theorem bits_bot : Ideal.ofBits .f32 0xFF800000#32 = ⊥ := by simp [Ideal.ofBits, Ideal.ieee]

/-- The greatest of finitely many real numbers is a real number. -/
theorem max_real {n : ℕ} [NeZero n] (f : Fin n → ℝ) : ∃ r : ℝ, Finset.univ.fold max (⊥ : EReal) (fun k => ((f k : ℝ) : EReal)) = r := by
  have hb : Finset.univ.fold max (⊥ : EReal) (fun k => ((f k : ℝ) : EReal)) ≠ ⊥ := fun h => by
    have := (Finset.le_fold_max (b := (⊥ : EReal)) (f := fun k => ((f k : ℝ) : EReal)) (s := Finset.univ) ((f 0 : ℝ) : EReal)).mpr (Or.inr ⟨0, Finset.mem_univ _, le_rfl⟩)
    rw [h] at this
    exact EReal.coe_ne_bot _ (le_bot_iff.mp this)
  have ht : Finset.univ.fold max (⊥ : EReal) (fun k => ((f k : ℝ) : EReal)) < ⊤ :=
    (Finset.fold_max_lt (c := (⊤ : EReal))).mpr ⟨bot_lt_top, fun k _ => EReal.coe_lt_top _⟩
  exact ⟨_, (EReal.coe_toReal ht.ne hb).symm⟩

theorem rsqrt_96 : Ideal.rsqrt (Ideal.ofBits .f32 0x42C00000#32) = (((Real.sqrt 96)⁻¹ : ℝ) : EReal) := by
  have h : Ideal.ofBits .f32 0x42C00000#32 = ((96 : ℝ) : EReal) := by
    simp [Ideal.ofBits, Ideal.ieee]
    rw [← EReal.coe_mul]; exact congrArg _ (by norm_num)
  rw [h]
  show (if (96 : ℝ) < 0 then (⊥ : EReal) else if (96 : ℝ) = 0 then ⊤ else ((Real.sqrt 96)⁻¹ : ℝ)) = _
  rw [if_neg (by norm_num), if_neg (by norm_num)]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]; exact congrArg _ (by norm_num)
  rw [h]
  show (if (2 : ℝ) ≤ 0 then (⊥ : EReal) else ((Real.log 2 : ℝ) : EReal)) = _
  rw [if_neg (by norm_num)]

theorem log_coe {r : ℝ} (h : 0 < r) : Ideal.log (r : EReal) = ((Real.log r : ℝ) : EReal) := by
  show (if r ≤ 0 then (⊥ : EReal) else ((Real.log r : ℝ) : EReal)) = _
  rw [if_neg (not_le.mpr h)]

theorem exp2_coe (r : ℝ) : Ideal.exp2 (r : EReal) = ((Real.exp (r * Real.log 2) : ℝ) : EReal) := by
  show (((2 : ℝ) ^ r : ℝ) : EReal) = _
  rw [Real.rpow_def_of_pos (by norm_num), mul_comm]

theorem log_two_ne : Real.log 2 ≠ 0 := (Real.log_pos (by norm_num)).ne'

theorem sum_128 (f : Fin 128 → ℝ) : ∑ d, f d = (∑ d : Fin 64, f ⟨d.val, by omega⟩) + ∑ d : Fin 64, f ⟨64 + d.val, by omega⟩ :=
  Fin.sum_univ_add (a := 64) (b := 64) f

theorem sum_64 (f : Fin 64 → ℝ) : ∑ d, f d = (∑ d : Fin 32, f ⟨d.val, by omega⟩) + ∑ d : Fin 32, f ⟨32 + d.val, by omega⟩ :=
  Fin.sum_univ_add (a := 32) (b := 32) f

end Cert.Lift

namespace Cert.Attn

open Idealize.ShloMosaic Cert.Lift

/-- The scale of the scores. -/
def rs : ℝ := (Real.sqrt 96)⁻¹

variable (Q0 : Fin 8192 → Fin 8 → Fin 64 → ℝ) (Q1 : Fin 8192 → Fin 8 → Fin 32 → ℝ) (K0 : Fin 8192 → Fin 8 → Fin 64 → ℝ)
  (K1 : Fin 8192 → Fin 32 → ℝ) (U : Fin 8192 → Fin 8 → Fin 64 → ℝ) (G : Fin 8192 → Fin 512 → ℝ)

/-- Value lane `e` of head `h` among all value lanes. -/
abbrev vl (h : Fin 8) (e : Fin 64) : Fin 512 := ⟨h.val * 64 + e.val, by omega⟩

def sc (h : Fin 8) (l k : Fin 8192) : ℝ := ((∑ x, Q0 l h x * K0 k h x) + ∑ x, K1 k x * Q1 l h x) * rs
/-- The greatest score of the query. -/
def mx (h : Fin 8) (l : Fin 8192) : ℝ := (max_real (sc Q0 Q1 K0 K1 h l)).choose
theorem mx_spec (h : Fin 8) (l : Fin 8192) : Finset.univ.fold max (⊥ : EReal) (fun k => ((sc Q0 Q1 K0 K1 h l k : ℝ) : EReal)) = (mx Q0 Q1 K0 K1 h l : ℝ) :=
  (max_real (sc Q0 Q1 K0 K1 h l)).choose_spec
def ex (h : Fin 8) (l k : Fin 8192) : ℝ := Real.exp (sc Q0 Q1 K0 K1 h l k - mx Q0 Q1 K0 K1 h l)
def zz (h : Fin 8) (l : Fin 8192) : ℝ := ∑ k, ex Q0 Q1 K0 K1 h l k
/-- The weight of key `k` for query `l`. -/
def yy (h : Fin 8) (l k : Fin 8192) : ℝ := ex Q0 Q1 K0 K1 h l k / zz Q0 Q1 K0 K1 h l
/-- The cotangent of the weight. -/
def dp (h : Fin 8) (l k : Fin 8192) : ℝ := ∑ e, G l (vl h e) * U k h e
def dd (h : Fin 8) (l : Fin 8192) : ℝ := ∑ e, G l (vl h e) * ∑ k, U k h e * yy Q0 Q1 K0 K1 h l k
/-- The cotangent of the score. -/
def gsc (h : Fin 8) (l k : Fin 8192) : ℝ := yy Q0 Q1 K0 K1 h l k * (dp U G h l k - dd Q0 Q1 K0 K1 U G h l)

def gQ0 (l : Fin 8192) (h : Fin 8) (d : Fin 64) : ℝ := ∑ k, gsc Q0 Q1 K0 K1 U G h l k * rs * K0 k h d
def gQ1 (l : Fin 8192) (h : Fin 8) (d : Fin 32) : ℝ := ∑ k, gsc Q0 Q1 K0 K1 U G h l k * rs * K1 k d
def gK0 (k : Fin 8192) (h : Fin 8) (d : Fin 64) : ℝ := ∑ l, gsc Q0 Q1 K0 K1 U G h l k * rs * Q0 l h d
def gK1 (k : Fin 8192) (d : Fin 32) : ℝ := ∑ h : Fin 8, ∑ l, gsc Q0 Q1 K0 K1 U G h l k * rs * Q1 l h d
def gU (k : Fin 8192) (h : Fin 8) (e : Fin 64) : ℝ := ∑ l, G l (vl h e) * yy Q0 Q1 K0 K1 h l k

theorem zz_pos (h : Fin 8) (l : Fin 8192) : 0 < zz Q0 Q1 K0 K1 h l :=
  Finset.sum_pos (fun _ _ => Real.exp_pos _) ⟨0, Finset.mem_univ _⟩

/-- The weight from the row's log-sum. -/
theorem yy_lse (h : Fin 8) (l k : Fin 8192) :
    Real.exp (sc Q0 Q1 K0 K1 h l k - (mx Q0 Q1 K0 K1 h l + Real.log (zz Q0 Q1 K0 K1 h l))) = yy Q0 Q1 K0 K1 h l k := by
  rw [← sub_sub, Real.exp_sub, Real.exp_log (zz_pos Q0 Q1 K0 K1 h l)]; rfl

/-- The row's correction is the weighted mean of the weights' cotangents. -/
theorem dd_eq (h : Fin 8) (l : Fin 8192) : dd Q0 Q1 K0 K1 U G h l = ∑ k, dp U G h l k * yy Q0 Q1 K0 K1 h l k := by
  unfold dd dp
  simp only [Finset.mul_sum, Finset.sum_mul]
  rw [Finset.sum_comm]
  exact Finset.sum_congr rfl fun k _ => Finset.sum_congr rfl fun e _ => by ring

/-- The score's cotangent in the form the softmax's derivative takes. -/
theorem gsc_eq (h : Fin 8) (l k : Fin 8192) : (dp U G h l k / zz Q0 Q1 K0 K1 h l
      + -∑ j, dp U G h l j * (1 / (zz Q0 Q1 K0 K1 h l * zz Q0 Q1 K0 K1 h l)) * ex Q0 Q1 K0 K1 h l j) * ex Q0 Q1 K0 K1 h l k
    = gsc Q0 Q1 K0 K1 U G h l k := by
  have hz := (zz_pos Q0 Q1 K0 K1 h l).ne'
  have e : ∑ j, dp U G h l j * (1 / (zz Q0 Q1 K0 K1 h l * zz Q0 Q1 K0 K1 h l)) * ex Q0 Q1 K0 K1 h l j
      = dd Q0 Q1 K0 K1 U G h l / zz Q0 Q1 K0 K1 h l := by
    rw [dd_eq, Finset.sum_div]
    refine Finset.sum_congr rfl fun j _ => ?_
    unfold yy; field_simp
  rw [e]; unfold gsc yy; field_simp; ring

/-- The score from the wide rows: both parts of the head's lanes, the padding lanes zero. -/
theorem sc_wide (h : Fin 8) (l k : Fin 8192) (q κ : Fin 128 → ℝ) (a : ℝ)
    (q0 : ∀ d : Fin 64, q ⟨d.val, by omega⟩ = Q0 l h d * a) (q1 : ∀ d : Fin 32, q ⟨64 + d.val, by omega⟩ = Q1 l h d * a)
    (k0 : ∀ d : Fin 64, κ ⟨d.val, by omega⟩ = K0 k h d) (k1 : ∀ d : Fin 32, κ ⟨64 + d.val, by omega⟩ = K1 k d)
    (k2 : ∀ d : Fin 32, κ ⟨64 + (32 + d.val), by omega⟩ = 0) :
    ∑ d, q d * κ d = ((∑ x, Q0 l h x * K0 k h x) + ∑ x, K1 k x * Q1 l h x) * a := by
  rw [sum_128, sum_64 (fun d : Fin 64 => q ⟨64 + d.val, by omega⟩ * κ ⟨64 + d.val, by omega⟩)]
  simp only [q0, q1, k0, k1, k2, mul_zero, Finset.sum_const_zero, add_zero]
  rw [add_mul, Finset.sum_mul, Finset.sum_mul]
  exact congrArg₂ (· + ·) (Finset.sum_congr rfl fun _ _ => by ring) (Finset.sum_congr rfl fun _ _ => by ring)

end Cert.Attn

end
-- ==== Proof.MlaRef.lean ====
/- The attention's reference gradient: its host terms, and that its results are the five gradients. -/
module

public import proofs.«01_k».proof.Proof.Gen.Reference2Ideal.Run
public import proofs.«01_k».proof.Proof.MlaMath
public import Idealize.ShloMosaic.Lib.IdealHost
public import Idealize.ShloMosaic.Lib.Pointwise

@[expose] public section

set_option maxRecDepth 16384

noncomputable section

namespace Cert.Reference2Ideal.Mla

open Idealize.ShloMosaic Idealize.ShloMosaic.Pointwise Idealize.SL.Sem Cert.Reference2Ideal Cert.Reference2Ideal.Gen Cert.Lift Cert.Attn

variable (a0 : FVec Ideal S8192x8x64 .f32) (a1 : FVec Ideal S8192x8x32 .f32) (a2 : FVec Ideal S8192x8x64 .f32)
  (a3 : FVec Ideal S8192x32 .f32) (a4 : FVec Ideal S8192x8x64 .f32) (a5 : FVec Ideal S8192x512 .f32)

/-! ## The host's terms -/

def rRs : FVec Ideal S_ .f32 := Host.rsqrt (constant S_ .f32 0x42C00000#32)
def rScore : FVec Ideal S8x8192x8192 .f32 :=
  mulf (addf (Host.dotGeneral dot_S8192x8x64_S8192x8x64_S8x8192x8192_2_2_0_0_1_1 none a0 a2)
    (transpose S8x8192x8192 [2, 1, 0] (Host.dotGeneral dot_S8192x32_S8192x8x32_S8192x8192x8_1_2_0_01_n_n none a3 a1) transposes_S8192x8192x8_S8x8192x8192_2_1_0))
    (broadcastInDim S8x8192x8192 ![] bcast_S_S8x8192x8192 rRs)
def rTop (s : FVec Ideal S8x8192x8192 .f32) : FVec Ideal S8x8192 .f32 :=
  Host.reduce FloatOps.maximumf s (constant S_ .f32 0xFF800000#32) reducesTo_S8x8192x8192_S8x8192_d2 h_S_
def rMax (t : FVec Ideal S8x8192 .f32) : FVec Ideal S8x8192 .f32 :=
  maximumf (broadcastInDim S8x8192 ![] bcast_S_S8x8192 (constant S_ .f32 0xFF800000#32)) t
def rUp (x : FVec Ideal S8x8192 .f32) : FVec Ideal S8x8192x1 .f32 := broadcastInDim S8x8192x1 ![0, 1] bcast_S8x8192_S8x8192x1_0_1 x
def rWide (x : FVec Ideal S8x8192x1 .f32) : FVec Ideal S8x8192x8192 .f32 := broadcastInDim S8x8192x8192 ![0, 1, 2] bcast_S8x8192x1_S8x8192x8192_0_1_2 x
def rExp (s : FVec Ideal S8x8192x8192 .f32) (t : FVec Ideal S8x8192 .f32) : FVec Ideal S8x8192x8192 .f32 := Host.exp (subf s (rWide (rUp t)))
def rSum (x : FVec Ideal S8x8192x8192 .f32) : FVec Ideal S8x8192 .f32 :=
  Host.reduceAdd x (constant S_ .f32 0x00000000#32) reducesTo_S8x8192x8192_S8x8192_d2 h_S_
def rSoft (e : FVec Ideal S8x8192x8192 .f32) (z : FVec Ideal S8x8192 .f32) : FVec Ideal S8x8192x8192 .f32 := Host.divf e (rWide (rUp z))
def rDo : FVec Ideal S8x64x8192 .f32 := transpose S8x64x8192 [1, 2, 0] (shapeCast S8192x8x64 a5 shapeCasts_S8192x512_S8192x8x64) transposes_S8192x8x64_S8x64x8192_1_2_0
def rDp : FVec Ideal S8x8192x8192 .f32 := Host.dotGeneral dot_S8x64x8192_S8192x8x64_S8x8192x8192_1_2_2_0_0_1 none (rDo a5) a4
def rDv (y : FVec Ideal S8x8192x8192 .f32) : FVec Ideal S8192x8x64 .f32 :=
  transpose S8192x8x64 [2, 0, 1] (Host.dotGeneral dot_S8x64x8192_S8x8192x8192_S8x64x8192_2_1_1_2_0_0 none (rDo a5) y) transposes_S8x64x8192_S8192x8x64_2_0_1
def rInv (z : FVec Ideal S8x8192 .f32) : FVec Ideal S8x8192x1 .f32 :=
  Host.divf (broadcastInDim S8x8192x1 ![] bcast_S_S8x8192x1 (constant S_ .f32 0x3F800000#32)) (mulf (rUp z) (rUp z))
def rMean (p e : FVec Ideal S8x8192x8192 .f32) (z : FVec Ideal S8x8192 .f32) : FVec Ideal S8x8192 .f32 :=
  rSum (mulf (mulf p (rWide (rInv z))) e)
def rNeg (x : FVec Ideal S8x8192 .f32) : FVec Ideal S8x8192x8192 .f32 :=
  broadcastInDim S8x8192x8192 ![0, 1] bcast_S8x8192_S8x8192x8192_0_1
    (Host.reduceAdd (Host.negf (shapeCast S8x8192x1 x shapeCasts_S8x8192_S8x8192x1)) (constant S_ .f32 0x00000000#32) reducesTo_S8x8192x1_S8x8192_d2 h_S_)
def rGr (p e n : FVec Ideal S8x8192x8192 .f32) (z : FVec Ideal S8x8192 .f32) : FVec Ideal S8x8192x8192 .f32 :=
  mulf (mulf (addf (Host.divf p (rWide (rUp z))) n) e) (broadcastInDim S8x8192x8192 ![] bcast_S_S8x8192x8192 rRs)
def rQn (g : FVec Ideal S8x8192x8192 .f32) : FVec Ideal S8192x8x64 .f32 :=
  transpose S8192x8x64 [1, 0, 2] (Host.dotGeneral dot_S8x8192x8192_S8192x8x64_S8x8192x64_2_0_1_2_0_1 none g a2) transposes_S8x8192x64_S8192x8x64_1_0_2
def rKn (g : FVec Ideal S8x8192x8192 .f32) : FVec Ideal S8192x8x64 .f32 :=
  transpose S8192x8x64 [1, 0, 2] (Host.dotGeneral dot_S8x8192x8192_S8192x8x64_S8x8192x64_1_0_2_2_0_1 none g a0) transposes_S8x8192x64_S8192x8x64_1_0_2
def rQr (g : FVec Ideal S8x8192x8192 .f32) : FVec Ideal S8192x8x32 .f32 :=
  Host.dotGeneral dot_S8192x8192x8_S8192x32_S8192x8x32_0_0_12_1_n_n none (transpose S8192x8192x8 [2, 1, 0] g transposes_S8x8192x8192_S8192x8192x8_2_1_0) a3
def rKr (g : FVec Ideal S8x8192x8192 .f32) : FVec Ideal S8192x32 .f32 :=
  Host.dotGeneral dot_S8192x8192x8_S8192x8x32_S8192x32_12_01_0_2_n_n none (transpose S8192x8192x8 [2, 1, 0] g transposes_S8x8192x8192_S8192x8192x8_2_1_0) a1

abbrev eExp : FVec Ideal S8x8192x8192 .f32 := rExp (rScore a0 a1 a2 a3) (rMax (rTop (rScore a0 a1 a2 a3)))
abbrev eSum : FVec Ideal S8x8192 .f32 := rSum (eExp a0 a1 a2 a3)
abbrev eGr : FVec Ideal S8x8192x8192 .f32 :=
  rGr (rDp a4 a5) (eExp a0 a1 a2 a3) (rNeg (rMean (rDp a4 a5) (eExp a0 a1 a2 a3) (eSum a0 a1 a2 a3))) (eSum a0 a1 a2 a3)

section terms
variable (m : (ℓ : Loc nD τ sig) → Buf (Elt Ideal) ℓ) (c : Dev nD)
abbrev c0 : FVec Ideal S8192x8x64 .f32 := m ((c.tc : Thread nD τ).loc main_arg0)
abbrev c1 : FVec Ideal S8192x8x32 .f32 := m ((c.tc : Thread nD τ).loc main_arg1)
abbrev c2 : FVec Ideal S8192x8x64 .f32 := m ((c.tc : Thread nD τ).loc main_arg2)
abbrev c3 : FVec Ideal S8192x32 .f32 := m ((c.tc : Thread nD τ).loc main_arg3)
abbrev c4 : FVec Ideal S8192x8x64 .f32 := m ((c.tc : Thread nD τ).loc main_arg4)
abbrev c5 : FVec Ideal S8192x512 .f32 := m ((c.tc : Thread nD τ).loc main_arg5)

theorem res0 : Value.res_main_v63 m c = rQn (c2 m c) (eGr (c0 m c) (c1 m c) (c2 m c) (c3 m c) (c4 m c) (c5 m c)) := by
  unfold Value.res_main_v63; rfl
theorem res1 : Value.res_main_v58 m c = rQr (c3 m c) (eGr (c0 m c) (c1 m c) (c2 m c) (c3 m c) (c4 m c) (c5 m c)) := by
  unfold Value.res_main_v58; rfl
theorem res2 : Value.res_main_v61 m c = rKn (c0 m c) (eGr (c0 m c) (c1 m c) (c2 m c) (c3 m c) (c4 m c) (c5 m c)) := by
  unfold Value.res_main_v61; rfl
theorem res3 : Value.res_main_v59 m c = rKr (c1 m c) (eGr (c0 m c) (c1 m c) (c2 m c) (c3 m c) (c4 m c) (c5 m c)) := by
  unfold Value.res_main_v59; rfl
end terms

/-! ## The terms, entry by entry -/

section read
variable (s e p n : FVec Ideal S8x8192x8192 .f32) (y z : FVec Ideal S8x8192 .f32)
theorem rScore_apply (h : Fin 8) (l k : Fin 8192) : (rScore a0 a1 a2 a3 (ix3 h l k) : EReal)
    = (∑ x, a0 (ix3 l h x) * a2 (ix3 k h x) + ∑ x, a3 (ix2 k x) * a1 (ix3 l h x)) * Ideal.rsqrt (Ideal.ofBits .f32 0x42C00000#32) := by
  pointwise [rScore, rRs]
theorem rTop_apply (h : Fin 8) (l : Fin 8192) : (rTop s (ix2 h l) : EReal)
    = Finset.univ.fold max (Ideal.ofBits .f32 0xFF800000#32) fun k : Fin 8192 => (s (ix3 h l k) : EReal) := by
  pointwise [rTop]
theorem rMax_apply (h : Fin 8) (l : Fin 8192) : (rMax y (ix2 h l) : EReal) = max (Ideal.ofBits .f32 0xFF800000#32) (y (ix2 h l)) := by
  pointwise [rMax]
theorem rExp_apply (h : Fin 8) (l k : Fin 8192) : (rExp s y (ix3 h l k) : EReal) = Ideal.exp (s (ix3 h l k) - y (ix2 h l)) := by
  pointwise [rExp, rWide, rUp]
theorem rSum_apply (h : Fin 8) (l : Fin 8192) : (rSum s (ix2 h l) : EReal) = ∑ k : Fin 8192, (s (ix3 h l k) : EReal) := by
  pointwise [rSum]
theorem rSoft_apply (h : Fin 8) (l k : Fin 8192) : (rSoft e z (ix3 h l k) : EReal) = Ideal.div (e (ix3 h l k)) (z (ix2 h l)) := by
  pointwise [rSoft, rWide, rUp]
theorem rDp_apply (h : Fin 8) (l k : Fin 8192) : (rDp a4 a5 (ix3 h l k) : EReal) = ∑ x : Fin 64, a5 (ix2 l (vl h x)) * a4 (ix3 k h x) := by
  pointwise [rDp, rDo]
theorem rDv_apply (k : Fin 8192) (h : Fin 8) (x : Fin 64) : (rDv a5 s (ix3 k h x) : EReal) = ∑ l : Fin 8192, a5 (ix2 l (vl h x)) * s (ix3 h l k) := by
  pointwise [rDv, rDo]
theorem rMean_apply (h : Fin 8) (l : Fin 8192) : (rMean p e z (ix2 h l) : EReal)
    = ∑ k : Fin 8192, p (ix3 h l k) * Ideal.div 1 (z (ix2 h l) * z (ix2 h l)) * e (ix3 h l k) := by
  pointwise [rMean, rSum, rWide, rInv, rUp]
theorem rNeg_apply (h : Fin 8) (l k : Fin 8192) : (rNeg y (ix3 h l k) : EReal) = -(y (ix2 h l) : EReal) := by
  pointwise [rNeg]
  exact Fin.sum_univ_one _
theorem rGr_apply (h : Fin 8) (l k : Fin 8192) : (rGr p e n z (ix3 h l k) : EReal)
    = (Ideal.div (p (ix3 h l k)) (z (ix2 h l)) + n (ix3 h l k)) * e (ix3 h l k) * Ideal.rsqrt (Ideal.ofBits .f32 0x42C00000#32) := by
  pointwise [rGr, rWide, rUp, rRs]
theorem rQn_apply (l : Fin 8192) (h : Fin 8) (d : Fin 64) : (rQn a2 s (ix3 l h d) : EReal) = ∑ k : Fin 8192, s (ix3 h l k) * a2 (ix3 k h d) := by
  pointwise [rQn]
theorem rKn_apply (k : Fin 8192) (h : Fin 8) (d : Fin 64) : (rKn a0 s (ix3 k h d) : EReal) = ∑ l : Fin 8192, s (ix3 h l k) * a0 (ix3 l h d) := by
  pointwise [rKn]
theorem rQr_apply (l : Fin 8192) (h : Fin 8) (d : Fin 32) : (rQr a3 s (ix3 l h d) : EReal) = ∑ k : Fin 8192, s (ix3 h l k) * a3 (ix2 k d) := by
  pointwise [rQr]
theorem rKr_apply (k : Fin 8192) (d : Fin 32) : (rKr a1 s (ix2 k d) : EReal) = ∑ h : Fin 8, ∑ l : Fin 8192, s (ix3 h l k) * a1 (ix3 l h d) := by
  pointwise [rKr]
  exact Finset.sum_comm
end read

end Cert.Reference2Ideal.Mla

end
-- ==== Proof.MlaPay.lean ====
/- What one point of the attention's backward kernel adds to each of its three sums, at an index. -/
module

public import proofs.«01_k».proof.Proof.MlaRun
public import Idealize.ShloMosaic.Lib.Pointwise
public import Idealize.ShloMosaic.PureOps.Ideal

@[expose] public section

set_option maxRecDepth 16384

noncomputable section

namespace Cert.Kernel2Ideal.Mla

open Idealize.ShloMosaic Idealize.ShloMosaic.Pointwise Idealize.ShloMosaic.VecWindow Idealize.SL.Sem Cert.Kernel2Ideal Cert.Kernel2Ideal.Gen

section Windows
variable {α : Type} {n0 n1 n2 : ℕ}

theorem window_ix2 (x : (⟨2, ![n0, n1]⟩ : Shape).Idx → α) (a b m0 m1 : ℕ) (inb) (r : Fin m0) (c : Fin m1) :
    window x ![a, b] ![m0, m1] inb (ix2 r c) = x (ix2 ⟨a + r.val, by have h : a + m0 ≤ n0 := inb 0; have := r.isLt; omega⟩ ⟨b + c.val, by have h : b + m1 ≤ n1 := inb 1; have := c.isLt; omega⟩) :=
  congrArg x (funext fun k => Fin.ext (match k with
    | ⟨0, _⟩ => by show a + 1 * r.val = a + r.val; omega
    | ⟨1, _⟩ => by show b + 1 * c.val = b + c.val; omega))
theorem window_ix3 (x : (⟨3, ![n0, n1, n2]⟩ : Shape).Idx → α) (a b c m0 m1 m2 : ℕ) (inb) (r : Fin m0) (s : Fin m1) (t : Fin m2) :
    window x ![a, b, c] ![m0, m1, m2] inb (ix3 r s t) = x (ix3 ⟨a + r.val, by have h : a + m0 ≤ n0 := inb 0; have := r.isLt; omega⟩ ⟨b + s.val, by have h : b + m1 ≤ n1 := inb 1; have := s.isLt; omega⟩ ⟨c + t.val, by have h : c + m2 ≤ n2 := inb 2; have := t.isLt; omega⟩) :=
  congrArg x (funext fun k => Fin.ext (match k with
    | ⟨0, _⟩ => by show a + 1 * r.val = a + r.val; omega
    | ⟨1, _⟩ => by show b + 1 * s.val = b + s.val; omega
    | ⟨2, _⟩ => by show c + 1 * t.val = c + t.val; omega))
/-- A put read inside its window. -/
theorem put_in (x : (⟨2, ![n0, n1]⟩ : Shape).Idx → α) (a b m0 m1 : ℕ) (w : (⟨2, ![m0, m1]⟩ : Shape).Idx → α) (r : Fin n0) (c : Fin n1)
    (h0 : a ≤ r.val ∧ r.val < a + m0) (h1 : b ≤ c.val ∧ c.val < b + m1) :
    put x ![a, b] ![m0, m1] w (ix2 r c) = w (ix2 ⟨r.val - a, by omega⟩ ⟨c.val - b, by omega⟩) :=
  (dif_pos (fun k => match k with | ⟨0, _⟩ => h0 | ⟨1, _⟩ => h1)).trans
    (congrArg w (funext fun k => match k with | ⟨0, _⟩ => rfl | ⟨1, _⟩ => rfl))
/-- A put read outside its window. -/
theorem put_out (x : (⟨2, ![n0, n1]⟩ : Shape).Idx → α) (a b m0 m1 : ℕ) (w : (⟨2, ![m0, m1]⟩ : Shape).Idx → α) (r : Fin n0) (c : Fin n1)
    (h : ¬(a ≤ r.val ∧ r.val < a + m0) ∨ ¬(b ≤ c.val ∧ c.val < b + m1)) :
    put x ![a, b] ![m0, m1] w (ix2 r c) = x (ix2 r c) :=
  dif_neg fun H => h.elim (fun h => h (H 0)) (fun h => h (H 1))
end Windows

section Points
variable (x0 : S1024x256.Idx → EReal) (x1 : S2048x256.Idx → EReal) (x2 : S2048x128.Idx → EReal) (x3 : S256x1024.Idx → EReal)
  (x4 : S1024x128.Idx → EReal) (x5 : S128x1024.Idx → EReal) (x6 x7 : S1x1024x2.Idx → EReal)

/-- Lane `d` of head `h` in a pair's 256 lanes. -/
abbrev lane (h : Fin 2) (d : Fin 128) : Fin 256 := ⟨128 * h.val + d.val, by omega⟩

/-- The weight of key `c` for query `r`, for head `h` of the pair. -/
def wt (h : Fin 2) (r : Fin 1024) (c : Fin 2048) : EReal :=
  Ideal.exp2 ((∑ d : Fin 128, x0 (ix2 r (lane h d)) * x1 (ix2 c (lane h d))) - x6 (ix3 0 r h))

/-- The score's gradient at query `r` and key `c`, for head `h` of the pair. -/
def gr (h : Fin 2) (r : Fin 1024) (c : Fin 2048) : EReal :=
  wt x0 x1 x6 h r c * ((∑ e : Fin 128, (if e.val / 64 = h.val then x4 (ix2 r e) else 0) * x2 (ix2 c e)) - x7 (ix3 0 r h))

theorem low_bit : ∀ e : Fin 128, IntOp.cmpi .slt (BitVec.ofNat 32 e.val) 64#32 = if e.val / 64 = 0 then 1#1 else 0#1 := by decide +kernel
theorem high_bit : ∀ e : Fin 128, IntOp.xori (IntOp.cmpi .slt (BitVec.ofNat 32 e.val) 64#32) 1#1 = if e.val / 64 = 1 then 1#1 else 0#1 := by decide +kernel

theorem select_mask (p : Prop) [Decidable p] (x y : EReal) : (Scalar.select (if p then 1#1 else 0#1) (x * y) 0 : EReal) = (if p then x else 0) * y := by
  by_cases h : p
  · rw [if_pos h, if_pos h]; rfl
  · rw [if_neg h, if_neg h, zero_mul]; rfl

theorem pA_apply (r : Fin 1024) (c : Fin 2048) : (pA (F := Ideal) x0 x1 x6 (ix2 r c) : EReal) = wt x0 x1 x6 0 r c := by
  unfold pA wt qA kA colA
  pointwise [k0_pay13, k0_pay11, window_ix2, window_ix3]
  rfl

theorem pay21_apply (r : Fin 1024) (c : Fin 2048) : (k0_pay21 (F := Ideal) (k0_pay18 (qB x0)) (k0_pay19 (kB x1)) (colB x6) (ix2 r c) : EReal) = wt x0 x1 x6 1 r c := by
  unfold wt qB kB colB
  pointwise [k0_pay21, k0_pay18, k0_pay19, window_ix2, window_ix3]
  rfl

theorem pay15_apply (r : Fin 1024) (c : Fin 2048) :
    (k0_pay15 (F := Ideal) (k0_pay10 x2) (k0_pay12 x4) (pA x0 x1 x6) (colA x7) (ix2 r c) : EReal) = gr x0 x1 x2 x4 x6 x7 0 r c := by
  unfold gr colA
  pointwise [k0_pay15, k0_pay10, k0_pay12, k0_pay8, k0_pay9, window_ix2, window_ix3, pA_apply, low_bit]
  simp only [select_mask]

theorem pay23_apply (r : Fin 1024) (c : Fin 2048) :
    (k0_pay23 (F := Ideal) (k0_pay9 x4) (k0_pay10 x2) (k0_pay18 (qB x0)) (k0_pay19 (kB x1)) (k0_pay20 k0_pay8) (colB x6) (colB x7) (ix2 r c) : EReal) = gr x0 x1 x2 x4 x6 x7 1 r c := by
  unfold gr
  pointwise [k0_pay23, pay21_apply, k0_pay10, k0_pay12, k0_pay8, k0_pay9, k0_pay20, high_bit]
  have e7 : (colB (F := Ideal) x7 (ix3 0 r 0) : EReal) = x7 (ix3 0 r 1) := by unfold colB; pointwise [window_ix3]
  rw [e7]
  simp only [select_mask]
  exact congrArg (· * _) (pay21_apply x0 x1 x6 r c)

/-- Which head of the pair a lane of the query and key gradients belongs to. -/
abbrev head (f : Fin 256) : Fin 2 := ⟨f.val / 128, by omega⟩
/-- Which head of the pair a lane of the value gradient belongs to. -/
abbrev vhead (f : Fin 128) : Fin 2 := ⟨f.val / 64, by omega⟩

theorem dvNext_apply (v : S128x2048.Idx → EReal) (f : Fin 128) (c : Fin 2048) :
    (dvNext (F := Ideal) x0 x1 x5 x6 v (ix2 f c) : EReal) = v (ix2 f c) + ∑ r : Fin 1024, x5 (ix2 f r) * wt x0 x1 x6 (vhead f) r c := by
  unfold dvNext
  by_cases h : f.val < 64
  · have e : vhead f = 0 := Fin.ext (by show f.val / 64 = 0; omega)
    refine (put_out _ 64 0 64 2048 _ f c (.inl (by omega))).trans ((put_in _ 0 0 64 2048 _ f c ⟨by omega, by omega⟩ ⟨by omega, by omega⟩).trans ?_)
    pointwise [k0_pay14, pA_apply, dotA, window_ix2, e]
  · have e : vhead f = 1 := Fin.ext (by show f.val / 64 = 1; omega)
    refine (put_in _ 64 0 64 2048 _ f c ⟨by omega, by omega⟩ ⟨by omega, by omega⟩).trans ?_
    have ef : (⟨64 + (f.val - 64), by omega⟩ : Fin 128) = f := Fin.ext (by show 64 + (f.val - 64) = f.val; omega)
    pointwise [k0_pay22, dotB, window_ix2, e]
    simp only [ef]
    exact congrArg (v (ix2 f c) + ·) (Finset.sum_congr rfl fun x _ => congrArg (x5 (ix2 f x) * ·) (pay21_apply x0 x1 x6 x c))

theorem dkNext_apply (v : S256x2048.Idx → EReal) (f : Fin 256) (c : Fin 2048) :
    (dkNext (F := Ideal) x0 x1 x2 x3 x4 x6 x7 v (ix2 f c) : EReal) = v (ix2 f c) + ∑ r : Fin 1024, x3 (ix2 f r) * gr x0 x1 x2 x4 x6 x7 (head f) r c := by
  unfold dkNext
  by_cases h : f.val < 128
  · have e : head f = 0 := Fin.ext (by show f.val / 128 = 0; omega)
    refine (put_out _ 128 0 128 2048 _ f c (.inl (by omega))).trans ((put_in _ 0 0 128 2048 _ f c ⟨by omega, by omega⟩ ⟨by omega, by omega⟩).trans ?_)
    pointwise [k0_pay17, qtA, window_ix2, e]
    exact congrArg (v (ix2 f c) + ·) (Finset.sum_congr rfl fun x _ => congrArg (x3 (ix2 f x) * ·) (pay15_apply x0 x1 x2 x4 x6 x7 x c))
  · have e : head f = 1 := Fin.ext (by show f.val / 128 = 1; omega)
    refine (put_in _ 128 0 128 2048 _ f c ⟨by omega, by omega⟩ ⟨by omega, by omega⟩).trans ?_
    have ef : (⟨128 + (f.val - 128), by omega⟩ : Fin 256) = f := Fin.ext (by show 128 + (f.val - 128) = f.val; omega)
    pointwise [k0_pay1, k0_pay25, qtB, window_ix2, e]
    simp only [ef]
    exact congrArg (v (ix2 f c) + ·) (Finset.sum_congr rfl fun x _ => congrArg (x3 (ix2 f x) * ·) (pay23_apply x0 x1 x2 x4 x6 x7 x c))

theorem off1 : ∀ i : grid0.Coords, k0_off1 i = ![1024 * (i 2).val, 0] := by decide +kernel
theorem off2 : ∀ i : grid0.Coords, k0_off2 i = ![1024 * (i 2).val, 128] := by decide +kernel

theorem dqNext_in (i : grid0.Coords) (v : S8192x256.Idx → EReal) (r : Fin 1024) (f : Fin 256) (l : Fin 8192) (hl : l.val = 1024 * (i 2).val + r.val) :
    (dqNext (F := Ideal) x0 x1 x2 x4 x6 x7 i v (ix2 l f) : EReal) = v (ix2 l f) + ∑ c : Fin 2048, gr x0 x1 x2 x4 x6 x7 (head f) r c * x1 (ix2 c f) := by
  unfold dqNext
  generalize k0_off1_inb i = p1
  generalize k0_off2_inb i = p2
  revert p1 p2
  rw [off1, off2]
  intro p1 p2
  by_cases h : f.val < 128
  · have e : head f = 0 := Fin.ext (by show f.val / 128 = 0; omega)
    refine (put_out _ _ 128 1024 128 _ l f (.inr (by omega))).trans ((put_in _ _ 0 1024 128 _ l f ⟨by omega, by omega⟩ ⟨by omega, by omega⟩).trans ?_)
    have er : (⟨l.val - 1024 * (i 2).val, by omega⟩ : Fin 1024) = r := Fin.ext (by show l.val - 1024 * (i 2).val = r.val; omega)
    have el : (⟨1024 * (i 2).val + r.val, by omega⟩ : Fin 8192) = l := Fin.ext hl.symm
    simp only [er]
    pointwise [k0_pay16, k0_pay11, kA, window_ix2, e]
    simp only [el]
    exact congrArg (v (ix2 l f) + ·) (Finset.sum_congr rfl fun x _ => congrArg (· * x1 (ix2 x f)) (pay15_apply x0 x1 x2 x4 x6 x7 r x))
  · have e : head f = 1 := Fin.ext (by show f.val / 128 = 1; omega)
    refine (put_in _ _ 128 1024 128 _ l f ⟨by omega, by omega⟩ ⟨by omega, by omega⟩).trans ?_
    have er : (⟨l.val - 1024 * (i 2).val, by omega⟩ : Fin 1024) = r := Fin.ext (by show l.val - 1024 * (i 2).val = r.val; omega)
    have el : (⟨1024 * (i 2).val + r.val, by omega⟩ : Fin 8192) = l := Fin.ext hl.symm
    have ef : (⟨128 + (f.val - 128), by omega⟩ : Fin 256) = f := Fin.ext (by show 128 + (f.val - 128) = f.val; omega)
    simp only [er]
    have ek (x : Fin 2048) : (k0_pay19 (F := Ideal) (kB x1) (ix2 x ⟨f.val - 128, by omega⟩) : EReal) = x1 (ix2 x f) := by
      unfold kB; pointwise [k0_pay19, window_ix2]; rw [ef]
    pointwise [k0_pay24, window_ix2, e]
    simp only [el, ef]
    exact congrArg (v (ix2 l f) + ·) (Finset.sum_congr rfl fun x _ => congrArg₂ (· * ·) (pay23_apply x0 x1 x2 x4 x6 x7 r x) (ek x))

theorem dqNext_out (i : grid0.Coords) (v : S8192x256.Idx → EReal) (f : Fin 256) (l : Fin 8192)
    (hl : l.val < 1024 * (i 2).val ∨ 1024 * (i 2).val + 1024 ≤ l.val) :
    (dqNext (F := Ideal) x0 x1 x2 x4 x6 x7 i v (ix2 l f) : EReal) = v (ix2 l f) := by
  unfold dqNext
  generalize k0_off1_inb i = p1
  generalize k0_off2_inb i = p2
  revert p1 p2
  rw [off1, off2]
  intro p1 p2
  exact (put_out _ _ 128 1024 128 _ l f (.inl (by omega))).trans (put_out _ _ 0 1024 128 _ l f (.inl (by omega)))

end Points

end Cert.Kernel2Ideal.Mla

end
-- ==== Proof.Blocks.lean ====
/- A sum over a range taken block by block. -/
module

public import Mathlib.Algebra.BigOperators.Fin

@[expose] public section

noncomputable section

namespace Cert.Lift

variable {M : Type} [AddCommMonoid M] {N : ℕ}

/-- The sum of the first `n` terms. -/
def psum (F : Fin N → M) (n : ℕ) : M := ∑ x ∈ Finset.range n, if h : x < N then F ⟨x, h⟩ else 0

theorem psum_zero (F : Fin N → M) : psum F 0 = 0 := rfl

theorem psum_start (F : Fin N → M) (b : ℕ) : psum F (0 * b) = 0 := by rw [Nat.zero_mul, psum_zero]

/-- One more block of `b` terms. -/
theorem psum_add (F : Fin N → M) (n b : ℕ) (h : n + b ≤ N) : psum F (n + b) = psum F n + ∑ r : Fin b, F ⟨n + r.val, by omega⟩ := by
  unfold psum
  rw [Finset.sum_range_add, Finset.sum_range (n := b)]
  exact congrArg _ (Finset.sum_congr rfl fun r _ => dif_pos (by omega))

/-- The same where the blocks before are counted. -/
theorem psum_block (F : Fin N → M) (n b : ℕ) (h : n * b + b ≤ N) :
    psum F ((n + 1) * b) = psum F (n * b) + ∑ r : Fin b, F ⟨n * b + r.val, by omega⟩ := by
  rw [Nat.succ_mul, psum_add F (n * b) b h]

/-- All the terms. -/
theorem psum_all (F : Fin N → M) : psum F N = ∑ x, F x := by
  unfold psum
  rw [Finset.sum_range]
  exact Finset.sum_congr rfl fun r _ => dif_pos r.isLt

end Cert.Lift

end
-- ==== Proof.MlaSums.lean ====
/- The three sums of the attention's backward kernel after each point: the products of the blocks seen so far, and over
   a whole pass the products of all of them. -/
module

public import proofs.«01_k».proof.Proof.MlaFrame
public import proofs.«01_k».proof.Proof.MlaPay
public import proofs.«01_k».proof.Proof.Blocks

@[expose] public section

set_option maxRecDepth 16384

noncomputable section

namespace Cert.Kernel2Ideal.Mla

open Idealize.ShloMosaic Idealize.ShloMosaic.Pointwise Idealize.SL.Sem Cert.Kernel2Ideal Cert.Kernel2Ideal.Gen Cert.Lift
open Idealize.ShloMosaic.Pipeline (Dat)

variable (m : (ℓ : Loc nD τ sig) → Buf (Elt Ideal) ℓ) (c : Dev nD)

/-! ## The arrays the kernel reads -/

abbrev aq : S8192x1024.Idx → EReal := V m c main_v11
abbrev ak : S8192x1024.Idx → EReal := V m c main_v14
abbrev av : S8192x512.Idx → EReal := V m c main_v16
abbrev aqt : S1024x8192.Idx → EReal := V m c main_v64
abbrev ado : S8192x512.Idx → EReal := V m c main_v17
abbrev adot : S512x8192.Idx → EReal := V m c main_v65
abbrev als : S4x8192x2.Idx → EReal := V m c main_v66
abbrev ads : S4x8192x2.Idx → EReal := V m c main_v68

/-- Lane `f` of pair `p` among all lanes of the query and key arrays. -/
abbrev wide (p : Fin 4) (f : Fin 256) : Fin 1024 := ⟨p.val * 256 + f.val, by omega⟩
/-- Lane `e` of pair `p` among all lanes of the value arrays. -/
abbrev flat (p : Fin 4) (e : Fin 128) : Fin 512 := ⟨p.val * 128 + e.val, by omega⟩

/-- The weight of key `k` for query `l`, for head `h` of pair `p`. -/
def wgt (p : Fin 4) (h : Fin 2) (l k : Fin 8192) : EReal :=
  Ideal.exp2 ((∑ d : Fin 128, aq m c (ix2 l (wide p (lane h d))) * ak m c (ix2 k (wide p (lane h d)))) - als m c (ix3 p l h))
/-- The score's gradient at query `l` and key `k`. -/
def grd (p : Fin 4) (h : Fin 2) (l k : Fin 8192) : EReal :=
  wgt m c p h l k * ((∑ e : Fin 128, (if e.val / 64 = h.val then ado m c (ix2 l (flat p e)) else 0) * av m c (ix2 k (flat p e))) - ads m c (ix3 p l h))

/-! ## The blocks -/

theorem lt128 (t : Fin cfg0.N) : t.val < 128 := lt_of_lt_of_eq t.isLt N_0
abbrev pr (t : Fin cfg0.N) : Fin 4 := ⟨t.val / 32, by have := lt128 t; omega⟩
/-- Query `r` of the point's query block. -/
abbrev qrow (t : Fin cfg0.N) (r : Fin 1024) : Fin 8192 := ⟨t.val % 8 * 1024 + r.val, by omega⟩
/-- Key `k` of the point's key block. -/
abbrev krow (t : Fin cfg0.N) (k : Fin 2048) : Fin 8192 := ⟨t.val / 8 % 4 * 2048 + k.val, by omega⟩

theorem index0 : ∀ t : Fin cfg0.N, win0_0.index t 0 = t.val % 8 ∧ win0_0.index t 1 = t.val / 32 :=
  (by decide +kernel : ∀ t : Fin grid0.N, win0_0.index t 0 = t.val % 8 ∧ win0_0.index t 1 = t.val / 32)
theorem index1 : ∀ t : Fin cfg0.N, win0_1.index t 0 = t.val / 8 % 4 ∧ win0_1.index t 1 = t.val / 32 :=
  (by decide +kernel : ∀ t : Fin grid0.N, win0_1.index t 0 = t.val / 8 % 4 ∧ win0_1.index t 1 = t.val / 32)
theorem index2 : ∀ t : Fin cfg0.N, win0_2.index t 0 = t.val / 8 % 4 ∧ win0_2.index t 1 = t.val / 32 :=
  (by decide +kernel : ∀ t : Fin grid0.N, win0_2.index t 0 = t.val / 8 % 4 ∧ win0_2.index t 1 = t.val / 32)
theorem index3 : ∀ t : Fin cfg0.N, win0_3.index t 0 = t.val / 32 ∧ win0_3.index t 1 = t.val % 8 :=
  (by decide +kernel : ∀ t : Fin grid0.N, win0_3.index t 0 = t.val / 32 ∧ win0_3.index t 1 = t.val % 8)
theorem index4 : ∀ t : Fin cfg0.N, win0_4.index t 0 = t.val % 8 ∧ win0_4.index t 1 = t.val / 32 :=
  (by decide +kernel : ∀ t : Fin grid0.N, win0_4.index t 0 = t.val % 8 ∧ win0_4.index t 1 = t.val / 32)
theorem index5 : ∀ t : Fin cfg0.N, win0_5.index t 0 = t.val / 32 ∧ win0_5.index t 1 = t.val % 8 :=
  (by decide +kernel : ∀ t : Fin grid0.N, win0_5.index t 0 = t.val / 32 ∧ win0_5.index t 1 = t.val % 8)
theorem index6 : ∀ t : Fin cfg0.N, win0_6.index t 0 = t.val / 32 ∧ win0_6.index t 1 = t.val % 8 ∧ win0_6.index t 2 = 0 :=
  (by decide +kernel : ∀ t : Fin grid0.N, win0_6.index t 0 = t.val / 32 ∧ win0_6.index t 1 = t.val % 8 ∧ win0_6.index t 2 = 0)
theorem index7 : ∀ t : Fin cfg0.N, win0_7.index t 0 = t.val / 32 ∧ win0_7.index t 1 = t.val % 8 ∧ win0_7.index t 2 = 0 :=
  (by decide +kernel : ∀ t : Fin grid0.N, win0_7.index t 0 = t.val / 32 ∧ win0_7.index t 1 = t.val % 8 ∧ win0_7.index t 2 = 0)

theorem blk0 (t : Fin cfg0.N) (r : Fin 1024) (f : Fin 256) : (iblk m c 0 t (ix2 r f) : EReal) = aq m c (ix2 (qrow t r) (wide (pr t) f)) := by
  show aq m c _ = _
  refine congrArg _ (funext fun a => Fin.ext ?_)
  match a with
  | ⟨0, _⟩ => show win0_0.index t 0 * 1024 + 1 * r.val = _; rw [(index0 t).1, Nat.one_mul]; rfl
  | ⟨1, _⟩ => show win0_0.index t 1 * 256 + 1 * f.val = _; rw [(index0 t).2, Nat.one_mul]; rfl
theorem blk1 (t : Fin cfg0.N) (r : Fin 2048) (f : Fin 256) : (iblk m c 1 t (ix2 r f) : EReal) = ak m c (ix2 (krow t r) (wide (pr t) f)) := by
  show ak m c _ = _
  refine congrArg _ (funext fun a => Fin.ext ?_)
  match a with
  | ⟨0, _⟩ => show win0_1.index t 0 * 2048 + 1 * r.val = _; rw [(index1 t).1, Nat.one_mul]; rfl
  | ⟨1, _⟩ => show win0_1.index t 1 * 256 + 1 * f.val = _; rw [(index1 t).2, Nat.one_mul]; rfl
theorem blk2 (t : Fin cfg0.N) (r : Fin 2048) (f : Fin 128) : (iblk m c 2 t (ix2 r f) : EReal) = av m c (ix2 (krow t r) (flat (pr t) f)) := by
  show av m c _ = _
  refine congrArg _ (funext fun a => Fin.ext ?_)
  match a with
  | ⟨0, _⟩ => show win0_2.index t 0 * 2048 + 1 * r.val = _; rw [(index2 t).1, Nat.one_mul]; rfl
  | ⟨1, _⟩ => show win0_2.index t 1 * 128 + 1 * f.val = _; rw [(index2 t).2, Nat.one_mul]; rfl
theorem blk3 (t : Fin cfg0.N) (f : Fin 256) (r : Fin 1024) : (iblk m c 3 t (ix2 f r) : EReal) = aqt m c (ix2 (wide (pr t) f) (qrow t r)) := by
  show aqt m c _ = _
  refine congrArg _ (funext fun a => Fin.ext ?_)
  match a with
  | ⟨0, _⟩ => show win0_3.index t 0 * 256 + 1 * f.val = _; rw [(index3 t).1, Nat.one_mul]; rfl
  | ⟨1, _⟩ => show win0_3.index t 1 * 1024 + 1 * r.val = _; rw [(index3 t).2, Nat.one_mul]; rfl
theorem blk4 (t : Fin cfg0.N) (r : Fin 1024) (f : Fin 128) : (iblk m c 4 t (ix2 r f) : EReal) = ado m c (ix2 (qrow t r) (flat (pr t) f)) := by
  show ado m c _ = _
  refine congrArg _ (funext fun a => Fin.ext ?_)
  match a with
  | ⟨0, _⟩ => show win0_4.index t 0 * 1024 + 1 * r.val = _; rw [(index4 t).1, Nat.one_mul]; rfl
  | ⟨1, _⟩ => show win0_4.index t 1 * 128 + 1 * f.val = _; rw [(index4 t).2, Nat.one_mul]; rfl
theorem blk5 (t : Fin cfg0.N) (f : Fin 128) (r : Fin 1024) : (iblk m c 5 t (ix2 f r) : EReal) = adot m c (ix2 (flat (pr t) f) (qrow t r)) := by
  show adot m c _ = _
  refine congrArg _ (funext fun a => Fin.ext ?_)
  match a with
  | ⟨0, _⟩ => show win0_5.index t 0 * 128 + 1 * f.val = _; rw [(index5 t).1, Nat.one_mul]; rfl
  | ⟨1, _⟩ => show win0_5.index t 1 * 1024 + 1 * r.val = _; rw [(index5 t).2, Nat.one_mul]; rfl
theorem blk6 (t : Fin cfg0.N) (r : Fin 1024) (h : Fin 2) : (iblk m c 6 t (ix3 0 r h) : EReal) = als m c (ix3 (pr t) (qrow t r) h) := by
  show als m c _ = _
  refine congrArg _ (funext fun a => Fin.ext ?_)
  match a with
  | ⟨0, _⟩ => show win0_6.index t 0 * 1 + 1 * 0 = t.val / 32; rw [(index6 t).1, Nat.mul_one]; rfl
  | ⟨1, _⟩ => show win0_6.index t 1 * 1024 + 1 * r.val = _; rw [(index6 t).2.1, Nat.one_mul]; rfl
  | ⟨2, _⟩ => show win0_6.index t 2 * 2 + 1 * h.val = h.val; rw [(index6 t).2.2]; omega
theorem blk7 (t : Fin cfg0.N) (r : Fin 1024) (h : Fin 2) : (iblk m c 7 t (ix3 0 r h) : EReal) = ads m c (ix3 (pr t) (qrow t r) h) := by
  show ads m c _ = _
  refine congrArg _ (funext fun a => Fin.ext ?_)
  match a with
  | ⟨0, _⟩ => show win0_7.index t 0 * 1 + 1 * 0 = t.val / 32; rw [(index7 t).1, Nat.mul_one]; rfl
  | ⟨1, _⟩ => show win0_7.index t 1 * 1024 + 1 * r.val = _; rw [(index7 t).2.1, Nat.one_mul]; rfl
  | ⟨2, _⟩ => show win0_7.index t 2 * 2 + 1 * h.val = h.val; rw [(index7 t).2.2]; omega

theorem wt_block (t : Fin cfg0.N) (h : Fin 2) (r : Fin 1024) (k : Fin 2048) :
    wt (iblk m c 0 t) (iblk m c 1 t) (iblk m c 6 t) h r k = wgt m c (pr t) h (qrow t r) (krow t k) := by
  unfold wt wgt
  rw [blk6]
  exact congrArg (fun s => Ideal.exp2 (s - _)) (Finset.sum_congr rfl fun d _ => congrArg₂ (· * ·) (blk0 m c t r _) (blk1 m c t k _))

theorem gr_block (t : Fin cfg0.N) (h : Fin 2) (r : Fin 1024) (k : Fin 2048) :
    gr (iblk m c 0 t) (iblk m c 1 t) (iblk m c 2 t) (iblk m c 4 t) (iblk m c 6 t) (iblk m c 7 t) h r k = grd m c (pr t) h (qrow t r) (krow t k) := by
  unfold gr grd
  rw [wt_block, blk7]
  refine congrArg (fun s => _ * (s - _)) (Finset.sum_congr rfl fun e _ => ?_)
  rw [blk2, blk4]

/-! ## The sums -/

theorem pay5_apply (y : S8192x256.Idx) : (k0_pay5 (F := Ideal) y : EReal) = 0 := by pointwise [k0_pay5]
theorem pay6_apply (y : S256x2048.Idx) : (k0_pay6 (F := Ideal) y : EReal) = 0 := by pointwise [k0_pay6]
theorem pay7_apply (y : S128x2048.Idx) : (k0_pay7 (F := Ideal) y : EReal) = 0 := by pointwise [k0_pay7]

/-- What the value gradient's sum adds up over the queries. -/
abbrev vterm (t : Fin cfg0.N) (f : Fin 128) (k : Fin 2048) (l : Fin 8192) : EReal := adot m c (ix2 (flat (pr t) f) l) * wgt m c (pr t) (vhead f) l (krow t k)
/-- What the key gradient's sum adds up over the queries. -/
abbrev kterm (t : Fin cfg0.N) (f : Fin 256) (k : Fin 2048) (l : Fin 8192) : EReal := aqt m c (ix2 (wide (pr t) f) l) * grd m c (pr t) (head f) l (krow t k)
/-- What the query gradient's sum adds up over the keys. -/
abbrev qterm (t : Fin cfg0.N) (l : Fin 8192) (f : Fin 256) (k : Fin 8192) : EReal := grd m c (pr t) (head f) l k * ak m c (ix2 k (wide (pr t) f))

theorem coord2 : ∀ t : Fin cfg0.N, (grid0.coords t 2).val = t.val % 8 := (by decide +kernel : ∀ t : Fin grid0.N, (grid0.coords t 2).val = t.val % 8)

theorem step_v (t : Fin cfg0.N) (s : Sums Ideal) (f : Fin 128) (k : Fin 2048) :
    ((step (F := Ideal) m c t s).2.2 (ix2 f k) : EReal) = (if t.val % 8 = 0 then 0 else s.2.2 (ix2 f k)) + ∑ r : Fin 1024, vterm m c t f k (qrow t r) := by
  refine (dvNext_apply _ _ _ _ _ f k).trans (congrArg₂ (· + ·) ?_ (Finset.sum_congr rfl fun r _ => congrArg₂ (· * ·) (blk5 m c t f r) (wt_block m c t _ r k)))
  by_cases h : start (grid0.coords t)
  · rw [if_pos h, if_pos ((start_iff t).mp h)]; exact pay7_apply _
  · rw [if_neg h, if_neg fun h' => h ((start_iff t).mpr h')]

theorem step_k (t : Fin cfg0.N) (s : Sums Ideal) (f : Fin 256) (k : Fin 2048) :
    ((step (F := Ideal) m c t s).2.1 (ix2 f k) : EReal) = (if t.val % 8 = 0 then 0 else s.2.1 (ix2 f k)) + ∑ r : Fin 1024, kterm m c t f k (qrow t r) := by
  refine (dkNext_apply _ _ _ _ _ _ _ _ f k).trans (congrArg₂ (· + ·) ?_ (Finset.sum_congr rfl fun r _ => congrArg₂ (· * ·) (blk3 m c t f r) (gr_block m c t _ r k)))
  by_cases h : start (grid0.coords t)
  · rw [if_pos h, if_pos ((start_iff t).mp h)]; exact pay6_apply _
  · rw [if_neg h, if_neg fun h' => h ((start_iff t).mpr h')]

theorem step_q (t : Fin cfg0.N) (s : Sums Ideal) (l : Fin 8192) (f : Fin 256) :
    ((step (F := Ideal) m c t s).1 (ix2 l f) : EReal) = (if t.val % 32 = 0 then 0 else s.1 (ix2 l f))
      + if l.val / 1024 = t.val % 8 then ∑ k : Fin 2048, qterm m c t l f (krow t k) else 0 := by
  have e : (grid0.coords t 2).val = t.val % 8 := coord2 t
  have z : ((if first (grid0.coords t) then k0_pay5 (F := Ideal) else s.1) (ix2 l f) : EReal) = if t.val % 32 = 0 then 0 else s.1 (ix2 l f) := by
    by_cases h : first (grid0.coords t)
    · rw [if_pos h, if_pos ((first_iff t).mp h)]; exact pay5_apply _
    · rw [if_neg h, if_neg fun h' => h ((first_iff t).mpr h')]
  by_cases h : l.val / 1024 = t.val % 8
  · rw [if_pos h]
    have er : qrow t ⟨l.val % 1024, by omega⟩ = l := Fin.ext (by show t.val % 8 * 1024 + l.val % 1024 = l.val; omega)
    refine (dqNext_in _ _ _ _ _ _ (grid0.coords t) _ ⟨l.val % 1024, by omega⟩ f l (by rw [e]; show l.val = 1024 * (t.val % 8) + l.val % 1024; omega)).trans
      (congrArg₂ (· + ·) z (Finset.sum_congr rfl fun k _ => congrArg₂ (· * ·) ((gr_block m c t _ _ k).trans ?_) (blk1 m c t k f)))
    rw [er]
  · rw [if_neg h, add_zero]
    exact (dqNext_out _ _ _ _ _ _ (grid0.coords t) _ f l (by rw [e]; omega)).trans z

theorem vterm_next {n : ℕ} (h : n + 1 < cfg0.N) (h8 : (n + 1) % 8 ≠ 0) : vterm m c ⟨n + 1, h⟩ = vterm m c ⟨n, by omega⟩ := by
  have e1 : pr ⟨n + 1, h⟩ = pr ⟨n, by omega⟩ := Fin.ext (by show (n + 1) / 32 = n / 32; omega)
  have e2 : krow ⟨n + 1, h⟩ = krow ⟨n, by omega⟩ := funext fun k => Fin.ext (by show (n + 1) / 8 % 4 * 2048 + k.val = n / 8 % 4 * 2048 + k.val; omega)
  unfold vterm; rw [e1, e2]
theorem kterm_next {n : ℕ} (h : n + 1 < cfg0.N) (h8 : (n + 1) % 8 ≠ 0) : kterm m c ⟨n + 1, h⟩ = kterm m c ⟨n, by omega⟩ := by
  have e1 : pr ⟨n + 1, h⟩ = pr ⟨n, by omega⟩ := Fin.ext (by show (n + 1) / 32 = n / 32; omega)
  have e2 : krow ⟨n + 1, h⟩ = krow ⟨n, by omega⟩ := funext fun k => Fin.ext (by show (n + 1) / 8 % 4 * 2048 + k.val = n / 8 % 4 * 2048 + k.val; omega)
  unfold kterm; rw [e1, e2]
theorem qterm_next {n : ℕ} (h : n + 1 < cfg0.N) (h32 : (n + 1) % 32 ≠ 0) : qterm m c ⟨n + 1, h⟩ = qterm m c ⟨n, by omega⟩ := by
  have e1 : pr ⟨n + 1, h⟩ = pr ⟨n, by omega⟩ := Fin.ext (by show (n + 1) / 32 = n / 32; omega)
  unfold qterm; rw [e1]

theorem qblock (t : Fin cfg0.N) (F : Fin 8192 → EReal) : psum F (1024 * (t.val % 8 + 1)) = psum F (1024 * (t.val % 8)) + ∑ r : Fin 1024, F (qrow t r) := by
  rw [show 1024 * (t.val % 8 + 1) = 1024 * (t.val % 8) + 1024 by omega, psum_add F _ 1024 (by omega)]
  exact congrArg _ (Finset.sum_congr rfl fun r _ => congrArg F (Fin.ext (by show 1024 * (t.val % 8) + r.val = t.val % 8 * 1024 + r.val; omega)))
theorem kblock (t : Fin cfg0.N) (F : Fin 8192 → EReal) : psum F (2048 * (t.val / 8 % 4 + 1)) = psum F (2048 * (t.val / 8 % 4)) + ∑ k : Fin 2048, F (krow t k) := by
  rw [show 2048 * (t.val / 8 % 4 + 1) = 2048 * (t.val / 8 % 4) + 2048 by omega, psum_add F _ 2048 (by omega)]
  exact congrArg _ (Finset.sum_congr rfl fun k _ => congrArg F (Fin.ext (by show 2048 * (t.val / 8 % 4) + k.val = t.val / 8 % 4 * 2048 + k.val; omega)))

theorem sums_v : ∀ (n : ℕ) (h : n + 1 ≤ cfg0.N) (f : Fin 128) (k : Fin 2048),
    ((sums (F := Ideal) m c (n + 1) h).2.2 (ix2 f k) : EReal) = psum (vterm m c ⟨n, h⟩ f k) (1024 * (n % 8 + 1)) := by
  intro n
  induction n with
  | zero =>
    intro h f k
    exact (step_v m c ⟨0, h⟩ _ f k).trans (qblock ⟨0, h⟩ _).symm
  | succ n ih =>
    intro h f k
    refine (step_v m c ⟨n + 1, h⟩ _ f k).trans (Eq.trans (congrArg (· + _) ?_) (qblock ⟨n + 1, h⟩ _).symm)
    by_cases h8 : (n + 1) % 8 = 0
    · show (if (n + 1) % 8 = 0 then _ else _) = psum _ (1024 * ((n + 1) % 8))
      rw [if_pos h8, h8]; rfl
    · show (if (n + 1) % 8 = 0 then _ else _) = psum _ (1024 * ((n + 1) % 8))
      rw [if_neg h8, vterm_next m c h h8, show (n + 1) % 8 = n % 8 + 1 by omega]
      exact ih (by omega) f k

theorem sums_k : ∀ (n : ℕ) (h : n + 1 ≤ cfg0.N) (f : Fin 256) (k : Fin 2048),
    ((sums (F := Ideal) m c (n + 1) h).2.1 (ix2 f k) : EReal) = psum (kterm m c ⟨n, h⟩ f k) (1024 * (n % 8 + 1)) := by
  intro n
  induction n with
  | zero =>
    intro h f k
    exact (step_k m c ⟨0, h⟩ _ f k).trans (qblock ⟨0, h⟩ _).symm
  | succ n ih =>
    intro h f k
    refine (step_k m c ⟨n + 1, h⟩ _ f k).trans (Eq.trans (congrArg (· + _) ?_) (qblock ⟨n + 1, h⟩ _).symm)
    by_cases h8 : (n + 1) % 8 = 0
    · show (if (n + 1) % 8 = 0 then _ else _) = psum _ (1024 * ((n + 1) % 8))
      rw [if_pos h8, h8]; rfl
    · show (if (n + 1) % 8 = 0 then _ else _) = psum _ (1024 * ((n + 1) % 8))
      rw [if_neg h8, kterm_next m c h h8, show (n + 1) % 8 = n % 8 + 1 by omega]
      exact ih (by omega) f k

/-- How many key blocks the query gradient's row `l` has seen after point `n`. -/
abbrev seen (n l : ℕ) : ℕ := n / 8 % 4 + if l / 1024 ≤ n % 8 then 1 else 0

theorem qstep (t : Fin cfg0.N) (l : Fin 8192) (F : Fin 8192 → EReal) (b : ℕ)
    (hb : l.val / 1024 = t.val % 8 → b = t.val / 8 % 4) (hb' : l.val / 1024 ≠ t.val % 8 → b = seen t.val l.val) :
    psum F (2048 * b) + (if l.val / 1024 = t.val % 8 then ∑ k : Fin 2048, F (krow t k) else 0) = psum F (2048 * seen t.val l.val) := by
  by_cases h : l.val / 1024 = t.val % 8
  · rw [if_pos h, hb h, ← kblock]
    unfold seen; rw [if_pos (by omega)]
  · rw [if_neg h, add_zero, hb' h]

theorem sums_q : ∀ (n : ℕ) (h : n + 1 ≤ cfg0.N) (l : Fin 8192) (f : Fin 256),
    ((sums (F := Ideal) m c (n + 1) h).1 (ix2 l f) : EReal) = psum (qterm m c ⟨n, h⟩ l f) (2048 * seen n l.val) := by
  intro n
  induction n with
  | zero =>
    intro h l f
    exact (step_q m c ⟨0, h⟩ _ l f).trans (qstep ⟨0, h⟩ l _ 0 (fun _ => by show 0 = 0 / 8 % 4; rfl) fun h' => by
      show 0 = seen 0 l.val
      have h' : l.val / 1024 ≠ 0 % 8 := h'
      unfold seen; rw [if_neg (by omega)])
  | succ n ih =>
    intro h l f
    have hl : l.val / 1024 < 8 := by omega
    refine (step_q m c ⟨n + 1, h⟩ _ l f).trans (Eq.trans (congrArg (· + _) ?_)
      (qstep ⟨n + 1, h⟩ l _ (if (n + 1) % 32 = 0 then 0 else seen n l.val) ?_ ?_))
    · show (if (n + 1) % 32 = 0 then _ else _) = _
      by_cases h32 : (n + 1) % 32 = 0
      · rw [if_pos h32, if_pos h32]; rfl
      · rw [if_neg h32, if_neg h32, qterm_next m c h h32]
        exact ih (by omega) l f
    · show l.val / 1024 = (n + 1) % 8 → _ = (n + 1) / 8 % 4
      intro e
      unfold seen
      split_ifs <;> omega
    · show l.val / 1024 ≠ (n + 1) % 8 → _ = seen (n + 1) l.val
      intro e
      unfold seen
      split_ifs <;> omega

end Cert.Kernel2Ideal.Mla

end
-- ==== Proof.MlaOut.lean ====
/- The arrays the attention's backward kernel leaves: every entry as one sum over all keys or over all queries. -/
module

public import proofs.«01_k».proof.Proof.MlaSums
public import Idealize.ShloMosaic.Lib.Pipeline.Value

@[expose] public section

set_option maxRecDepth 16384

noncomputable section

namespace Cert.Kernel2Ideal.Mla

open Idealize.ShloMosaic Idealize.ShloMosaic.Pointwise Idealize.SL.Sem Cert.Kernel2Ideal Cert.Kernel2Ideal.Gen Cert.Lift
open Idealize.ShloMosaic.Pipeline (Dat)

variable (m : (ℓ : Loc nD τ sig) → Buf (Elt Ideal) ℓ) (ρ : Dev nD → PrngReg) (c : Dev nD)

theorem index8 : ∀ t : Fin cfg0.N, win0_8.index t 0 = 0 ∧ win0_8.index t 1 = t.val / 32 :=
  (by decide +kernel : ∀ t : Fin grid0.N, win0_8.index t 0 = 0 ∧ win0_8.index t 1 = t.val / 32)
theorem index9 : ∀ t : Fin cfg0.N, win0_9.index t 0 = t.val / 32 ∧ win0_9.index t 1 = t.val / 8 % 4 :=
  (by decide +kernel : ∀ t : Fin grid0.N, win0_9.index t 0 = t.val / 32 ∧ win0_9.index t 1 = t.val / 8 % 4)
theorem index10 : ∀ t : Fin cfg0.N, win0_10.index t 0 = t.val / 32 ∧ win0_10.index t 1 = t.val / 8 % 4 :=
  (by decide +kernel : ∀ t : Fin grid0.N, win0_10.index t 0 = t.val / 32 ∧ win0_10.index t 1 = t.val / 8 % 4)
theorem back8 : ∀ t : Fin cfg0.N, (cfg0.win 8).flush t = true ↔ t.val % 32 = 31 :=
  (by decide +kernel : ∀ t : Fin grid0.N, win0_8.flush t = true ↔ t.val % 32 = 31)
theorem back9 : ∀ t : Fin cfg0.N, (cfg0.win 9).flush t = true ↔ t.val % 8 = 7 :=
  (by decide +kernel : ∀ t : Fin grid0.N, win0_9.flush t = true ↔ t.val % 8 = 7)
theorem back10 : ∀ t : Fin cfg0.N, (cfg0.win 10).flush t = true ↔ t.val % 8 = 7 :=
  (by decide +kernel : ∀ t : Fin grid0.N, win0_10.flush t = true ↔ t.val % 8 = 7)

theorem disjoint8 (t t' : Fin cfg0.N) (h : (cfg0.win 8).flush t = true) (h' : (cfg0.win 8).flush t' = true) (hne : t ≠ t') :
    Disjoint ((cfg0.win 8).blk t).view.set ((cfg0.win 8).blk t').view.set :=
  (cfg0.win 8).disjoint_blk fun e => hne (Fin.ext (by
    have e1 : win0_8.index t 1 = win0_8.index t' 1 := congrFun e 1
    rw [(index8 t).2, (index8 t').2] at e1
    have := (back8 t).mp h; have := (back8 t').mp h'; omega))
theorem disjoint9 (t t' : Fin cfg0.N) (h : (cfg0.win 9).flush t = true) (h' : (cfg0.win 9).flush t' = true) (hne : t ≠ t') :
    Disjoint ((cfg0.win 9).blk t).view.set ((cfg0.win 9).blk t').view.set :=
  (cfg0.win 9).disjoint_blk fun e => hne (Fin.ext (by
    have e0 : win0_9.index t 0 = win0_9.index t' 0 := congrFun e 0
    have e1 : win0_9.index t 1 = win0_9.index t' 1 := congrFun e 1
    rw [(index9 t).1, (index9 t').1] at e0; rw [(index9 t).2, (index9 t').2] at e1
    have := (back9 t).mp h; have := (back9 t').mp h'; omega))
theorem disjoint10 (t t' : Fin cfg0.N) (h : (cfg0.win 10).flush t = true) (h' : (cfg0.win 10).flush t' = true) (hne : t ≠ t') :
    Disjoint ((cfg0.win 10).blk t).view.set ((cfg0.win 10).blk t').view.set :=
  (cfg0.win 10).disjoint_blk fun e => hne (Fin.ext (by
    have e0 : win0_10.index t 0 = win0_10.index t' 0 := congrFun e 0
    have e1 : win0_10.index t 1 = win0_10.index t' 1 := congrFun e 1
    rw [(index10 t).1, (index10 t').1] at e0; rw [(index10 t).2, (index10 t').2] at e1
    have := (back10 t).mp h; have := (back10 t').mp h'; omega))

/-- The last point of pair `p`, and its last point at key block `j`. -/
abbrev lastP (p : Fin 4) : Fin cfg0.N := ⟨p.val * 32 + 31, lt_of_lt_of_eq (by omega) N_0.symm⟩
abbrev lastJ (p j : Fin 4) : Fin cfg0.N := ⟨p.val * 32 + j.val * 8 + 7, lt_of_lt_of_eq (by omega) N_0.symm⟩
abbrev key (j : Fin 4) (k : Fin 2048) : Fin 8192 := ⟨j.val * 2048 + k.val, by omega⟩

abbrev o8 : S8192x1024.Idx → EReal := (dats m 0 c).arrAt 8 cfg0.N
abbrev o9 : S1024x8192.Idx → EReal := (dats m 0 c).arrAt 9 cfg0.N
abbrev o10 : S512x8192.Idx → EReal := (dats m 0 c).arrAt 10 cfg0.N

theorem o8_sum (p : Fin 4) (t : Fin cfg0.N) (ht : t.val = p.val * 32 + 31) (l : Fin 8192) (f : Fin 256) :
    o8 m c (ix2 l (wide p f)) = ((sums (F := Ideal) m c (t.val + 1) t.isLt).1 (ix2 l f) : EReal) := by
  have h := congrFun ((dats m 0 c).read_blk_arrAt_eq_flushed 8 disjoint8 cfg0.N t t.isLt ((back8 t).mpr (by omega))) (ix2 l f)
  refine Eq.trans ?_ (h.trans (congrFun (after_8 m c t) (ix2 l f)))
  show (dats m 0 c).arrAt 8 cfg0.N _ = (dats m 0 c).arrAt 8 cfg0.N _
  refine congrArg _ (funext fun a => Fin.ext ?_)
  match a with
  | ⟨0, _⟩ => show l.val = win0_8.index t 0 * 8192 + 1 * l.val; rw [(index8 t).1]; omega
  | ⟨1, _⟩ => show p.val * 256 + f.val = win0_8.index t 1 * 256 + 1 * f.val; rw [(index8 t).2]; omega

theorem o9_sum (p j : Fin 4) (t : Fin cfg0.N) (ht : t.val = p.val * 32 + j.val * 8 + 7) (f : Fin 256) (k : Fin 2048) :
    o9 m c (ix2 (wide p f) (key j k)) = ((sums (F := Ideal) m c (t.val + 1) t.isLt).2.1 (ix2 f k) : EReal) := by
  have h := congrFun ((dats m 0 c).read_blk_arrAt_eq_flushed 9 disjoint9 cfg0.N t t.isLt ((back9 t).mpr (by omega))) (ix2 f k)
  refine Eq.trans ?_ (h.trans (congrFun (after_9 m c t) (ix2 f k)))
  show (dats m 0 c).arrAt 9 cfg0.N _ = (dats m 0 c).arrAt 9 cfg0.N _
  refine congrArg _ (funext fun a => Fin.ext ?_)
  match a with
  | ⟨0, _⟩ => show p.val * 256 + f.val = win0_9.index t 0 * 256 + 1 * f.val; rw [(index9 t).1]; omega
  | ⟨1, _⟩ => show j.val * 2048 + k.val = win0_9.index t 1 * 2048 + 1 * k.val; rw [(index9 t).2]; omega

theorem o10_sum (p j : Fin 4) (t : Fin cfg0.N) (ht : t.val = p.val * 32 + j.val * 8 + 7) (f : Fin 128) (k : Fin 2048) :
    o10 m c (ix2 (flat p f) (key j k)) = ((sums (F := Ideal) m c (t.val + 1) t.isLt).2.2 (ix2 f k) : EReal) := by
  have h := congrFun ((dats m 0 c).read_blk_arrAt_eq_flushed 10 disjoint10 cfg0.N t t.isLt ((back10 t).mpr (by omega))) (ix2 f k)
  refine Eq.trans ?_ (h.trans (congrFun (after_10 m c t) (ix2 f k)))
  show (dats m 0 c).arrAt 10 cfg0.N _ = (dats m 0 c).arrAt 10 cfg0.N _
  refine congrArg _ (funext fun a => Fin.ext ?_)
  match a with
  | ⟨0, _⟩ => show p.val * 128 + f.val = win0_10.index t 0 * 128 + 1 * f.val; rw [(index10 t).1]; omega
  | ⟨1, _⟩ => show j.val * 2048 + k.val = win0_10.index t 1 * 2048 + 1 * k.val; rw [(index10 t).2]; omega

theorem o8_apply (p : Fin 4) (l : Fin 8192) (f : Fin 256) :
    o8 m c (ix2 l (wide p f)) = ∑ k : Fin 8192, grd m c p (head f) l k * ak m c (ix2 k (wide p f)) := by
  refine (o8_sum m c p (lastP p) rfl l f).trans ((sums_q m c _ (lastP p).isLt l f).trans ?_)
  have e : pr (lastP p) = p := Fin.ext (by show (p.val * 32 + 31) / 32 = p.val; omega)
  rw [show 2048 * seen (lastP p).val l.val = 8192 by
    show 2048 * ((p.val * 32 + 31) / 8 % 4 + if l.val / 1024 ≤ (p.val * 32 + 31) % 8 then 1 else 0) = 8192
    rw [if_pos (by omega)]; omega, psum_all]
  unfold qterm
  rw [e]

theorem key_of (k : Fin 8192) : key ⟨k.val / 2048, by omega⟩ ⟨k.val % 2048, by omega⟩ = k := Fin.ext (by show k.val / 2048 * 2048 + k.val % 2048 = k.val; omega)

theorem krow_last (p j : Fin 4) (k : Fin 2048) : krow (lastJ p j) k = key j k := Fin.ext (by show (p.val * 32 + j.val * 8 + 7) / 8 % 4 * 2048 + k.val = j.val * 2048 + k.val; omega)
theorem pr_last (p j : Fin 4) : pr (lastJ p j) = p := Fin.ext (by show (p.val * 32 + j.val * 8 + 7) / 32 = p.val; omega)

theorem o9_apply (p : Fin 4) (f : Fin 256) (k : Fin 8192) :
    o9 m c (ix2 (wide p f) k) = ∑ l : Fin 8192, aqt m c (ix2 (wide p f) l) * grd m c p (head f) l k := by
  have h : ∀ j k', o9 m c (ix2 (wide p f) (key j k')) = ∑ l : Fin 8192, aqt m c (ix2 (wide p f) l) * grd m c p (head f) l (key j k') := fun j k' => by
    refine (o9_sum m c p j (lastJ p j) rfl f k').trans ((sums_k m c _ (lastJ p j).isLt f k').trans ?_)
    rw [show 1024 * ((lastJ p j).val % 8 + 1) = 8192 by show 1024 * ((p.val * 32 + j.val * 8 + 7) % 8 + 1) = 8192; omega, psum_all]
    unfold kterm
    rw [pr_last, krow_last]
  rw [← key_of k]; exact h _ _

theorem o10_apply (p : Fin 4) (f : Fin 128) (k : Fin 8192) :
    o10 m c (ix2 (flat p f) k) = ∑ l : Fin 8192, adot m c (ix2 (flat p f) l) * wgt m c p (vhead f) l k := by
  have h : ∀ j k', o10 m c (ix2 (flat p f) (key j k')) = ∑ l : Fin 8192, adot m c (ix2 (flat p f) l) * wgt m c p (vhead f) l (key j k') := fun j k' => by
    refine (o10_sum m c p j (lastJ p j) rfl f k').trans ((sums_v m c _ (lastJ p j).isLt f k').trans ?_)
    rw [show 1024 * ((lastJ p j).val % 8 + 1) = 8192 by show 1024 * ((p.val * 32 + j.val * 8 + 7) % 8 + 1) = 8192; omega, psum_all]
    unfold vterm
    rw [pr_last, krow_last]
  rw [← key_of k]; exact h _ _

/-! ## The results -/

end Cert.Kernel2Ideal.Mla

end
-- ==== Proof.MlaHost.lean ====
/- The arrays the host prepares for the attention's backward kernel, entry by entry, and the results it takes from the
   kernel's arrays. -/
module

public import proofs.«01_k».proof.Proof.MlaOut
public import Idealize.ShloMosaic.Lib.IdealHost

@[expose] public section

set_option maxRecDepth 16384

noncomputable section

namespace Cert.Kernel2Ideal.Mla

open Idealize.ShloMosaic Idealize.ShloMosaic.Pointwise Idealize.SL.Sem Cert.Kernel2Ideal Cert.Kernel2Ideal.Gen Cert.Lift
open Idealize.ShloMosaic.Pipeline (Dat)

/-! ## The host's terms -/

section terms
variable (a0 : FVec Ideal S8192x8x64 .f32) (a1 : FVec Ideal S8192x8x32 .f32) (a2 : FVec Ideal S8192x8x64 .f32)
  (a3 : FVec Ideal S8192x32 .f32) (a4 : FVec Ideal S8192x8x64 .f32) (a5 : FVec Ideal S8192x512 .f32)

def hRs : FVec Ideal S_ .f32 := Host.rsqrt (constant S_ .f32 0x42C00000#32)
def hLn : FVec Ideal S_ .f32 := Host.log (constant S_ .f32 0x40000000#32)
def hZero : FVec Ideal S8192x8x32 .f32 := broadcastInDim S8192x8x32 ![] bcast_S_S8192x8x32 (constant S_ .f32 0x00000000#32)
def hQ : FVec Ideal S8192x1024 .bf16 := truncf .bf16 (mulf (shapeCast S8192x1024
    (concatenate S8192x8x128 2 [⟨S8192x8x64, a0⟩, ⟨S8192x8x32, a1⟩, ⟨S8192x8x32, hZero⟩] concatenates_S8192x8x64_S8192x8x32_S8192x8x32_S8192x8x128_d2) shapeCasts_S8192x8x128_S8192x1024)
    (broadcastInDim S8192x1024 ![] bcast_S_S8192x1024 (Host.divf hRs hLn))) bitsLt_bf16_f32
def hK : FVec Ideal S8192x1024 .bf16 := truncf .bf16 (shapeCast S8192x1024
    (concatenate S8192x8x128 2 [⟨S8192x8x64, a2⟩, ⟨S8192x8x32, broadcastInDim S8192x8x32 ![0, 1, 2] bcast_S8192x1x32_S8192x8x32_0_1_2 (broadcastInDim S8192x1x32 ![0, 2] bcast_S8192x32_S8192x1x32_0_2 a3)⟩, ⟨S8192x8x32, hZero⟩] concatenates_S8192x8x64_S8192x8x32_S8192x8x32_S8192x8x128_d2) shapeCasts_S8192x8x128_S8192x1024) bitsLt_bf16_f32
def hScore : FVec Ideal S8x8192x8192 .f32 :=
  mulf (addf (Host.dotGeneral dot_S8192x8x64_S8192x8x64_S8x8192x8192_2_2_0_0_1_1 none a0 a2)
    (transpose S8x8192x8192 [2, 1, 0] (Host.dotGeneral dot_S8192x32_S8192x8x32_S8192x8192x8_1_2_0_01_n_n none a3 a1) transposes_S8192x8192x8_S8x8192x8192_2_1_0))
    (broadcastInDim S8x8192x8192 ![] bcast_S_S8x8192x8192 hRs)
def hTop (s : FVec Ideal S8x8192x8192 .f32) : FVec Ideal S8x8192 .f32 :=
  Host.reduce FloatOps.maximumf s (constant S_ .f32 0xFF800000#32) reducesTo_S8x8192x8192_S8x8192_d2 h_S_
def hRow (x : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 x)
def hExp (s : FVec Ideal S8x8192x8192 .f32) (t : FVec Ideal S8x8192 .f32) : FVec Ideal S8x8192x8192 .f32 := Host.exp (subf s (hRow t))
def hSum (x : FVec Ideal S8x8192x8192 .f32) : FVec Ideal S8x8192 .f32 :=
  Host.reduceAdd x (constant S_ .f32 0x00000000#32) reducesTo_S8x8192x8192_S8x8192_d2 h_S_
def hLse0 (t z : FVec Ideal S8x8192 .f32) : FVec Ideal S4x8192x2 .f32 :=
  transpose S4x8192x2 [0, 2, 1] (shapeCast S4x2x8192 (Host.divf (addf t (Host.log z)) (broadcastInDim S8x8192 ![] bcast_S_S8x8192 hLn)) shapeCasts_S8x8192_S4x2x8192) transposes_S4x2x8192_S4x8192x2_0_2_1
def hLse (s : FVec Ideal S8x8192x8192 .f32) : FVec Ideal S4x8192x2 .f32 := hLse0 (hTop s) (hSum (hExp s (hTop s)))
def hMax (t : FVec Ideal S8x8192 .f32) : FVec Ideal S8x8192 .f32 :=
  maximumf (broadcastInDim S8x8192 ![] bcast_S_S8x8192 (constant S_ .f32 0xFF800000#32)) t
def hTop' (s : FVec Ideal S8x8192x8192 .f32) : FVec Ideal S8x8192 .f32 := hMax (hTop s)
def hSoft (s : FVec Ideal S8x8192x8192 .f32) : FVec Ideal S8x8192x8192 .f32 :=
  Host.divf (hExp s (hTop' s)) (hRow (hSum (hExp s (hTop' s))))
def hD (y : FVec Ideal S8x8192x8192 .f32) : FVec Ideal S8192x8 .f32 :=
  Host.reduceAdd (shapeCast S8192x8x64 (mulf a5 (shapeCast S8192x512
    (transpose S8192x8x64 [2, 0, 1] (Host.dotGeneral dot_S8192x8x64_S8x8192x8192_S8x64x8192_0_2_2_1_1_0 none a4 y) transposes_S8x64x8192_S8192x8x64_2_0_1) shapeCasts_S8192x8x64_S8192x512)) shapeCasts_S8192x512_S8192x8x64)
    (constant S_ .f32 0x00000000#32) reducesTo_S8192x8x64_S8192x8_d2 h_S_
end terms

variable (m : (ℓ : Loc nD τ sig) → Buf (Elt Ideal) ℓ) (ρ : Dev nD → PrngReg) (c : Dev nD)

abbrev b0 : FVec Ideal S8192x8x64 .f32 := m ((c.tc : Thread nD τ).loc main_arg0)
abbrev b1 : FVec Ideal S8192x8x32 .f32 := m ((c.tc : Thread nD τ).loc main_arg1)
abbrev b2 : FVec Ideal S8192x8x64 .f32 := m ((c.tc : Thread nD τ).loc main_arg2)
abbrev b3 : FVec Ideal S8192x32 .f32 := m ((c.tc : Thread nD τ).loc main_arg3)
abbrev b4 : FVec Ideal S8192x8x64 .f32 := m ((c.tc : Thread nD τ).loc main_arg4)
abbrev b5 : FVec Ideal S8192x512 .f32 := m ((c.tc : Thread nD τ).loc main_arg5)

theorem V_after (b : Ref sig .tc) : V m c b = StableHlo.after hostOps0 (fun b => m (c, b)) (Proc.devRef .tc b) := by
  unfold V V0; rw [List.flatten_cons, List.flatten_nil, List.append_nil]
theorem V_q : (V m c main_v11 : FVec Ideal S8192x1024 .bf16) = hQ (b0 m c) (b1 m c) := by
  rw [V_after]; unfold hostOps0; after_results_simp; rfl
theorem V_k : (V m c main_v14 : FVec Ideal S8192x1024 .bf16) = hK (b2 m c) (b3 m c) := by
  rw [V_after]; unfold hostOps0; after_results_simp; rfl
theorem V_v : (V m c main_v16 : FVec Ideal S8192x512 .bf16) = truncf .bf16 (shapeCast S8192x512 (b4 m c) shapeCasts_S8192x8x64_S8192x512) bitsLt_bf16_f32 := by
  rw [V_after]; unfold hostOps0; after_results_simp; rfl
theorem V_do : (V m c main_v17 : FVec Ideal S8192x512 .bf16) = truncf .bf16 (b5 m c) bitsLt_bf16_f32 := by
  rw [V_after]; unfold hostOps0; after_results_simp
theorem V_qt : (V m c main_v64 : FVec Ideal S1024x8192 .bf16) = transpose S1024x8192 [1, 0] (hQ (b0 m c) (b1 m c)) transposes_S8192x1024_S1024x8192_1_0 := by
  rw [V_after]; unfold hostOps0; after_results_simp; rfl
theorem V_dot : (V m c main_v65 : FVec Ideal S512x8192 .bf16) = transpose S512x8192 [1, 0] (truncf .bf16 (b5 m c) bitsLt_bf16_f32) transposes_S8192x512_S512x8192_1_0 := by
  rw [V_after]; unfold hostOps0; after_results_simp
theorem V_rs : (V m c main_v0 : FVec Ideal S_ .f32) = hRs := by
  rw [V_after]; unfold hostOps0; after_results_simp; rfl
theorem V_lse : (V m c main_v66 : FVec Ideal S4x8192x2 .f32) = hLse (hScore (b0 m c) (b1 m c) (b2 m c) (b3 m c)) := by
  rw [V_after]; unfold hostOps0; after_results_simp; rfl
theorem V_d : (V m c main_v68 : FVec Ideal S4x8192x2 .f32) = transpose S4x8192x2 [1, 0, 2] (shapeCast S8192x4x2
    (hD (b4 m c) (b5 m c) (hSoft (hScore (b0 m c) (b1 m c) (b2 m c) (b3 m c)))) shapeCasts_S8192x8_S8192x4x2) transposes_S8192x4x2_S4x8192x2_1_0_2 := by
  rw [V_after]; unfold hostOps0; after_results_simp; rfl

/-! ## The results -/

/-- The buffers as the kernel leaves them: its arrays written, the others as the host prepared them. -/
abbrev left : Valuation τ sig (Elt Ideal) := Pipeline.withArrays (cfgs 0).spec c (V0 m c) fun w => (dats (F := Ideal) m 0 c).arrAt w (cfgs 0).N

def rQ (o : FVec Ideal S8192x1024 .bf16) (s : FVec Ideal S_ .f32) : FVec Ideal S8192x8x128 .f32 :=
  mulf (shapeCast S8192x8x128 (extf .f32 o bitsLt_bf16_f32) shapeCasts_S8192x1024_S8192x8x128) (broadcastInDim S8192x8x128 ![] bcast_S_S8192x8x128 s)
def rK (o : FVec Ideal S1024x8192 .bf16) : FVec Ideal S8192x8x128 .f32 :=
  mulf (shapeCast S8192x8x128 (extf .f32 (transpose S8192x1024 [1, 0] o transposes_S1024x8192_S8192x1024_1_0) bitsLt_bf16_f32) shapeCasts_S8192x1024_S8192x8x128)
    (broadcastInDim S8192x8x128 ![] bcast_S_S8192x8x128 hLn)

def rV (o : FVec Ideal S512x8192 .bf16) : FVec Ideal S8192x8x64 .f32 :=
  shapeCast S8192x8x64 (extf .f32 (transpose S8192x512 [1, 0] o transposes_S512x8192_S8192x512_1_0) bitsLt_bf16_f32) shapeCasts_S8192x512_S8192x8x64

theorem left_o8 : (left m c (Proc.devRef .tc main_v69_0) : S8192x1024.Idx → EReal) = o8 m c :=
  Pipeline.withArrays_arr spec0 (by decide) c (V0 m c) _ 8
theorem left_o9 : (left m c (Proc.devRef .tc main_v69_1) : S1024x8192.Idx → EReal) = o9 m c :=
  Pipeline.withArrays_arr spec0 (by decide) c (V0 m c) _ 9
theorem left_o10 : (left m c (Proc.devRef .tc main_v69_2) : S512x8192.Idx → EReal) = o10 m c :=
  Pipeline.withArrays_arr spec0 (by decide) c (V0 m c) _ 10
theorem left_rs : (left m c (Proc.devRef .tc main_v0) : FVec Ideal S_ .f32) = hRs :=
  (Pipeline.withArrays_of_ne _ c (V0 m c) _ main_v0 (by exact (by decide : ∀ w, Pipeline.arrRef spec0 w ≠ main_v0))).trans (V_rs m c)

/-- What the results hold at the end. -/
abbrev fin (b : Ref sig .tc) : Buf (Elt Ideal) ((c.tc : Thread nD τ).loc b) := Pipeline.afterTail₀ cfgs (dats (F := Ideal) m) 0 (V0 m) [hostOps1] c b

section suffix
variable (W : Valuation τ sig (Elt Ideal))
theorem suf_dqn : (StableHlo.after hostOps1 W (Proc.devRef .tc main_v85) : FVec Ideal S8192x8x64 .f32)
    = extractStridedSlice S8192x8x64 ![0, 0, 0] (rQ (W (Proc.devRef .tc main_v69_0)) (W (Proc.devRef .tc main_v0))) slices_S8192x8x128_S8192x8x64_0_0_0 := by
  unfold hostOps1; after_results_simp; rfl
theorem suf_dqr : (StableHlo.after hostOps1 W (Proc.devRef .tc main_v86) : FVec Ideal S8192x8x32 .f32)
    = extractStridedSlice S8192x8x32 ![0, 0, 64] (rQ (W (Proc.devRef .tc main_v69_0)) (W (Proc.devRef .tc main_v0))) slices_S8192x8x128_S8192x8x32_0_0_64 := by
  unfold hostOps1; after_results_simp; rfl
theorem suf_dkn : (StableHlo.after hostOps1 W (Proc.devRef .tc main_v87) : FVec Ideal S8192x8x64 .f32)
    = extractStridedSlice S8192x8x64 ![0, 0, 0] (rK (W (Proc.devRef .tc main_v69_1))) slices_S8192x8x128_S8192x8x64_0_0_0 := by
  unfold hostOps1; after_results_simp; rfl
theorem suf_dkr : (StableHlo.after hostOps1 W (Proc.devRef .tc main_v89) : FVec Ideal S8192x32 .f32)
    = Host.reduceAdd (extractStridedSlice S8192x8x32 ![0, 0, 64] (rK (W (Proc.devRef .tc main_v69_1))) slices_S8192x8x128_S8192x8x32_0_0_64)
      (constant S_ .f32 0x00000000#32) reducesTo_S8192x8x32_S8192x32_d1 h_S_ := by
  unfold hostOps1; after_results_simp; rfl
theorem suf_dv : (StableHlo.after hostOps1 W (Proc.devRef .tc main_v84) : FVec Ideal S8192x8x64 .f32)
    = rV (W (Proc.devRef .tc main_v69_2)) := by
  unfold hostOps1; after_results_simp; rfl
end suffix

theorem fin_eq (b : Ref sig .tc) : fin m c b = StableHlo.after hostOps1 (left m c) (Proc.devRef .tc b) := by
  unfold fin Pipeline.afterTail₀
  rw [List.flatten_cons, List.flatten_nil, List.append_nil]

end Cert.Kernel2Ideal.Mla

end
-- ==== Proof.MlaRead.lean ====
/- The host's arrays of the attention's backward program, read entry by entry. -/
module

public import proofs.«01_k».proof.Proof.MlaHost
public import Idealize.ShloMosaic.Lib.IdealHost

@[expose] public section

set_option maxRecDepth 16384

noncomputable section

namespace Cert.Kernel2Ideal.Mla

open Idealize.ShloMosaic Idealize.ShloMosaic.Pointwise Idealize.SL.Sem Cert.Kernel2Ideal Cert.Kernel2Ideal.Gen Cert.Lift
open Idealize.ShloMosaic.Pipeline (Dat)

/-! ## The host's arrays, entry by entry -/

section read
variable (a0 : FVec Ideal S8192x8x64 .f32) (a1 : FVec Ideal S8192x8x32 .f32) (a2 : FVec Ideal S8192x8x64 .f32)
  (a3 : FVec Ideal S8192x32 .f32) (a4 : FVec Ideal S8192x8x64 .f32) (a5 : FVec Ideal S8192x512 .f32)

/-- The root scale and the logarithm of two, as the host computes them. -/
abbrev eRs : EReal := Ideal.rsqrt (Ideal.ofBits .f32 0x42C00000#32)
abbrev eLn : EReal := Ideal.log (Ideal.ofBits .f32 0x40000000#32)

/-- Lane `d` of head `h` among all lanes. -/
abbrev col (h : Fin 8) (d : Fin 128) : Fin 1024 := ⟨h.val * 128 + d.val, by omega⟩
abbrev hd (h : Fin 8) (e : Fin 64) : Fin 512 := ⟨h.val * 64 + e.val, by omega⟩

theorem hQ_apply (l : Fin 8192) (h : Fin 8) (d : Fin 128) : (hQ a0 a1 (ix2 l (col h d)) : EReal)
    = (if h1 : d.val < 64 then a0 (ix3 l h ⟨d.val, h1⟩) else if h2 : d.val - 64 < 32 then a1 (ix3 l h ⟨d.val - 64, h2⟩) else 0) * Ideal.div eRs eLn := by
  have e1 : (h.val * 128 + d.val) % 128 = d.val := by omega
  have e2 : (h.val * 128 + d.val) / 128 = h.val := by omega
  pointwise [hQ, hZero, hRs, hLn]
  simp only [e1, e2, Fin.eta]
theorem hK_apply (k : Fin 8192) (h : Fin 8) (d : Fin 128) : (hK a2 a3 (ix2 k (col h d)) : EReal)
    = if h1 : d.val < 64 then a2 (ix3 k h ⟨d.val, h1⟩) else if h2 : d.val - 64 < 32 then a3 (ix2 k ⟨d.val - 64, h2⟩) else 0 := by
  have e1 : (h.val * 128 + d.val) % 128 = d.val := by omega
  have e2 : (h.val * 128 + d.val) / 128 = h.val := by omega
  pointwise [hK, hZero]
  simp only [e1, e2, Fin.eta]
theorem hScore_apply (h : Fin 8) (l k : Fin 8192) : (hScore a0 a1 a2 a3 (ix3 h l k) : EReal)
    = (∑ x, a0 (ix3 l h x) * a2 (ix3 k h x) + ∑ x, a3 (ix2 k x) * a1 (ix3 l h x)) * eRs := by
  pointwise [hScore, hRs]

variable (s : FVec Ideal S8x8192x8192 .f32) (y : FVec Ideal S8x8192 .f32)
theorem hTop_apply (h : Fin 8) (l : Fin 8192) : (hTop s (ix2 h l) : EReal)
    = Finset.univ.fold max (Ideal.ofBits .f32 0xFF800000#32) fun k : Fin 8192 => (s (ix3 h l k) : EReal) := by
  pointwise [hTop]
theorem hMax_apply (h : Fin 8) (l : Fin 8192) : (hMax y (ix2 h l) : EReal) = max (Ideal.ofBits .f32 0xFF800000#32) (y (ix2 h l)) := by
  pointwise [hMax]
theorem hRow_apply (h : Fin 8) (l k : Fin 8192) : (hRow y (ix3 h l k) : EReal) = y (ix2 h l) := by
  pointwise [hRow]
theorem hExp_apply (h : Fin 8) (l k : Fin 8192) : (hExp s y (ix3 h l k) : EReal) = Ideal.exp (s (ix3 h l k) - y (ix2 h l)) := by
  pointwise [hExp, hRow]
theorem hSum_apply (h : Fin 8) (l : Fin 8192) : (hSum s (ix2 h l) : EReal) = ∑ k : Fin 8192, (s (ix3 h l k) : EReal) := by
  pointwise [hSum]
theorem hSoft_apply (h : Fin 8) (l k : Fin 8192) : (hSoft s (ix3 h l k) : EReal)
    = Ideal.div (hExp s (hTop' s) (ix3 h l k)) (hSum (hExp s (hTop' s)) (ix2 h l)) :=
  (ValueIdx.hostDivf_apply _ _ _).trans (congrArg (Ideal.div _) (hRow_apply _ h l k))
theorem hLse_apply (z : FVec Ideal S8x8192 .f32) (p : Fin 4) (h : Fin 2) (l : Fin 8192) : (hLse0 y z (ix3 p l h) : EReal)
    = Ideal.div (y (ix2 ⟨p.val * 2 + h.val, by omega⟩ l) + Ideal.log (z (ix2 ⟨p.val * 2 + h.val, by omega⟩ l))) eLn := by
  pointwise [hLse0, hLn]
theorem hD_apply (h : Fin 8) (l : Fin 8192) : (hD a4 a5 s (ix2 l h) : EReal)
    = ∑ x : Fin 64, a5 (ix2 l (hd h x)) * ∑ k : Fin 8192, a4 (ix3 k h x) * s (ix3 h l k) := by
  pointwise [hD]
theorem rQ_apply (o : FVec Ideal S8192x1024 .bf16) (r : FVec Ideal S_ .f32) (l : Fin 8192) (h : Fin 8) (d : Fin 128) :
    (rQ o r (ix3 l h d) : EReal) = o (ix2 l (col h d)) * r ix0 := by
  pointwise [rQ]
theorem rK_apply (o : FVec Ideal S1024x8192 .bf16) (k : Fin 8192) (h : Fin 8) (d : Fin 128) :
    (rK o (ix3 k h d) : EReal) = o (ix2 (col h d) k) * eLn := by
  pointwise [rK, hLn]
theorem rV_apply (o : FVec Ideal S512x8192 .bf16) (k : Fin 8192) (h : Fin 8) (e : Fin 64) :
    (rV o (ix3 k h e) : EReal) = o (ix2 (hd h e) k) := by
  pointwise [rV]
end read

/-! ## The kernel's arrays, entry by entry -/

section arrays
variable (m : (ℓ : Loc nD τ sig) → Buf (Elt Ideal) ℓ) (c : Dev nD)
/-- Head `h` of pair `p`. -/
abbrev hOf (p : Fin 4) (h : Fin 2) : Fin 8 := ⟨p.val * 2 + h.val, by omega⟩

theorem av_apply (k : Fin 8192) (h : Fin 8) (e : Fin 64) : av m c (ix2 k (hd h e)) = b4 m c (ix3 k h e) := by
  have e1 : (h.val * 64 + e.val) % 64 = e.val := by omega
  have e2 : (h.val * 64 + e.val) / 64 = h.val := by omega
  rw [show av m c = _ from V_v m c]
  pointwise []
  simp only [e1, e2, Fin.eta]
theorem ado_apply (l : Fin 8192) (f : Fin 512) : ado m c (ix2 l f) = b5 m c (ix2 l f) := by
  rw [show ado m c = _ from V_do m c]
  pointwise []
theorem adot_apply (l : Fin 8192) (f : Fin 512) : adot m c (ix2 f l) = b5 m c (ix2 l f) := by
  rw [show adot m c = _ from V_dot m c]
  pointwise []
theorem aqt_apply (l : Fin 8192) (f : Fin 1024) : aqt m c (ix2 f l) = aq m c (ix2 l f) := by
  rw [show aqt m c = _ from V_qt m c, show aq m c = _ from V_q m c]
  pointwise []
theorem als_apply (p : Fin 4) (h : Fin 2) (l : Fin 8192) : als m c (ix3 p l h) = hLse (hScore (b0 m c) (b1 m c) (b2 m c) (b3 m c)) (ix3 p l h) := by
  rw [show als m c = _ from V_lse m c]
theorem ads_apply (p : Fin 4) (h : Fin 2) (l : Fin 8192) : ads m c (ix3 p l h) = hD (b4 m c) (b5 m c) (hSoft (hScore (b0 m c) (b1 m c) (b2 m c) (b3 m c))) (ix2 l (hOf p h)) := by
  rw [show ads m c = _ from V_d m c]
  generalize hSoft (hScore (b0 m c) (b1 m c) (b2 m c) (b3 m c)) = s
  generalize hD (b4 m c) (b5 m c) s = D
  pointwise []
end arrays

end Cert.Kernel2Ideal.Mla

end
-- ==== Proof.MlaValue.lean ====
/- The results of the attention's backward program are the five gradients. -/
module

public import proofs.«01_k».proof.Proof.MlaRead
public import proofs.«01_k».proof.Proof.MlaMath

@[expose] public section

set_option maxRecDepth 16384

noncomputable section

namespace Cert.Kernel2Ideal.Mla

open Idealize.ShloMosaic Idealize.ShloMosaic.Pointwise Idealize.SL.Sem Cert.Kernel2Ideal Cert.Kernel2Ideal.Gen Cert.Lift Cert.Attn

variable (Q0 : Fin 8192 → Fin 8 → Fin 64 → ℝ) (Q1 : Fin 8192 → Fin 8 → Fin 32 → ℝ) (K0 : Fin 8192 → Fin 8 → Fin 64 → ℝ)
  (K1 : Fin 8192 → Fin 32 → ℝ) (U : Fin 8192 → Fin 8 → Fin 64 → ℝ) (G : Fin 8192 → Fin 512 → ℝ)

/-- The arguments hold these real numbers. -/
structure Holds (a0 : FVec Ideal S8192x8x64 .f32) (a1 : FVec Ideal S8192x8x32 .f32) (a2 : FVec Ideal S8192x8x64 .f32)
    (a3 : FVec Ideal S8192x32 .f32) (a4 : FVec Ideal S8192x8x64 .f32) (a5 : FVec Ideal S8192x512 .f32) : Prop where
  q0 : ∀ l h d, (a0 (ix3 l h d) : EReal) = (Q0 l h d : ℝ)
  q1 : ∀ l h d, (a1 (ix3 l h d) : EReal) = (Q1 l h d : ℝ)
  k0 : ∀ l h d, (a2 (ix3 l h d) : EReal) = (K0 l h d : ℝ)
  k1 : ∀ l d, (a3 (ix2 l d) : EReal) = (K1 l d : ℝ)
  u : ∀ l h d, (a4 (ix3 l h d) : EReal) = (U l h d : ℝ)
  g : ∀ l f, (a5 (ix2 l f) : EReal) = (G l f : ℝ)

section host
variable {a0 : FVec Ideal S8192x8x64 .f32} {a1 : FVec Ideal S8192x8x32 .f32} {a2 : FVec Ideal S8192x8x64 .f32}
  {a3 : FVec Ideal S8192x32 .f32} {a4 : FVec Ideal S8192x8x64 .f32} {a5 : FVec Ideal S8192x512 .f32}
  (H : Holds Q0 Q1 K0 K1 U G a0 a1 a2 a3 a4 a5)
include H

theorem score_real (h : Fin 8) (l k : Fin 8192) : (hScore a0 a1 a2 a3 (ix3 h l k) : EReal) = (sc Q0 Q1 K0 K1 h l k : ℝ) := by
  rw [hScore_apply]
  simp only [H.q0, H.q1, H.k0, H.k1, ← EReal.coe_mul, sum_coe, ← EReal.coe_add, rsqrt_96]
  rfl
theorem top_real (h : Fin 8) (l : Fin 8192) : (hTop (hScore a0 a1 a2 a3) (ix2 h l) : EReal) = (mx Q0 Q1 K0 K1 h l : ℝ) := by
  rw [hTop_apply, bits_bot, ← mx_spec]
  exact congrArg (Finset.fold max ⊥ · Finset.univ) (funext fun k => score_real Q0 Q1 K0 K1 U G H h l k)
theorem top'_real (h : Fin 8) (l : Fin 8192) : (hTop' (hScore a0 a1 a2 a3) (ix2 h l) : EReal) = (mx Q0 Q1 K0 K1 h l : ℝ) := by
  unfold hTop'
  rw [hMax_apply, bits_bot, max_eq_right bot_le]
  exact top_real Q0 Q1 K0 K1 U G H h l
omit H in
theorem exp_real {s : FVec Ideal S8x8192x8192 .f32} {t : FVec Ideal S8x8192 .f32} {h : Fin 8} {l : Fin 8192}
    (hs : ∀ k, (s (ix3 h l k) : EReal) = (sc Q0 Q1 K0 K1 h l k : ℝ)) (ht : (t (ix2 h l) : EReal) = (mx Q0 Q1 K0 K1 h l : ℝ)) (k : Fin 8192) :
    (hExp s t (ix3 h l k) : EReal) = (ex Q0 Q1 K0 K1 h l k : ℝ) := by
  rw [hExp_apply, hs, ht, ← EReal.coe_sub, exp_coe]; rfl
omit H in
theorem sum_real {s : FVec Ideal S8x8192x8192 .f32} {t : FVec Ideal S8x8192 .f32} {h : Fin 8} {l : Fin 8192}
    (hs : ∀ k, (s (ix3 h l k) : EReal) = (sc Q0 Q1 K0 K1 h l k : ℝ)) (ht : (t (ix2 h l) : EReal) = (mx Q0 Q1 K0 K1 h l : ℝ)) :
    (hSum (hExp s t) (ix2 h l) : EReal) = (zz Q0 Q1 K0 K1 h l : ℝ) := by
  rw [hSum_apply]
  simp only [exp_real Q0 Q1 K0 K1 hs ht, sum_coe]
  rfl
theorem soft_real (h : Fin 8) (l k : Fin 8192) : (hSoft (hScore a0 a1 a2 a3) (ix3 h l k) : EReal) = (yy Q0 Q1 K0 K1 h l k : ℝ) := by
  have hs := score_real Q0 Q1 K0 K1 U G H h l
  have ht := top'_real Q0 Q1 K0 K1 U G H h l
  rw [hSoft_apply, exp_real Q0 Q1 K0 K1 hs ht, sum_real Q0 Q1 K0 K1 hs ht, div_real _ (zz_pos Q0 Q1 K0 K1 h l).ne']
  rfl
theorem d_real (h : Fin 8) (l : Fin 8192) : (hD a4 a5 (hSoft (hScore a0 a1 a2 a3)) (ix2 l h) : EReal) = (dd Q0 Q1 K0 K1 U G h l : ℝ) := by
  rw [hD_apply]
  simp only [soft_real Q0 Q1 K0 K1 U G H, H.u, H.g, ← EReal.coe_mul, sum_coe]
  rfl
theorem lse_real (p : Fin 4) (h : Fin 2) (l : Fin 8192) : (hLse (hScore a0 a1 a2 a3) (ix3 p l h) : EReal)
    = ((mx Q0 Q1 K0 K1 (hOf p h) l + Real.log (zz Q0 Q1 K0 K1 (hOf p h) l)) / Real.log 2 : ℝ) := by
  have hs := score_real Q0 Q1 K0 K1 U G H (hOf p h) l
  have ht := top_real Q0 Q1 K0 K1 U G H (hOf p h) l
  unfold hLse
  rw [hLse_apply]
  refine (congrArg₂ (fun x y => Ideal.div (x + Ideal.log y) eLn) ht (sum_real Q0 Q1 K0 K1 hs ht)).trans ?_
  show Ideal.div (_ + Ideal.log _) (Ideal.log (Ideal.ofBits .f32 0x40000000#32)) = _
  rw [log_coe (zz_pos Q0 Q1 K0 K1 _ l), log_two, ← EReal.coe_add, div_real _ log_two_ne]

/-- The wide rows' lanes as real numbers. -/
def qLane (h : Fin 8) (l : Fin 8192) (d : Fin 128) : ℝ :=
  (if h1 : d.val < 64 then Q0 l h ⟨d.val, h1⟩ else if h2 : d.val - 64 < 32 then Q1 l h ⟨d.val - 64, h2⟩ else 0) * (rs / Real.log 2)
def kLane (h : Fin 8) (k : Fin 8192) (d : Fin 128) : ℝ :=
  if h1 : d.val < 64 then K0 k h ⟨d.val, h1⟩ else if h2 : d.val - 64 < 32 then K1 k ⟨d.val - 64, h2⟩ else 0

theorem q_real (l : Fin 8192) (h : Fin 8) (d : Fin 128) : (hQ a0 a1 (ix2 l (col h d)) : EReal) = (qLane Q0 Q1 h l d : ℝ) := by
  rw [hQ_apply, show Ideal.div eRs eLn = ((rs / Real.log 2 : ℝ) : EReal) from (congrArg₂ Ideal.div rsqrt_96 log_two).trans (div_real _ log_two_ne)]
  unfold qLane
  rw [EReal.coe_mul]
  refine congrArg (· * _) ?_
  split_ifs
  · exact H.q0 _ _ _
  · exact H.q1 _ _ _
  · rfl
theorem k_real (k : Fin 8192) (h : Fin 8) (d : Fin 128) : (hK a2 a3 (ix2 k (col h d)) : EReal) = (kLane K0 K1 h k d : ℝ) := by
  rw [hK_apply]
  unfold kLane
  split_ifs
  · exact H.k0 _ _ _
  · exact H.k1 _ _
  · rfl
omit H in
theorem qLane_lo (h : Fin 8) (l : Fin 8192) (d : Fin 64) : qLane Q0 Q1 h l ⟨d.val, by omega⟩ = Q0 l h d * (rs / Real.log 2) := by
  unfold qLane; rw [dif_pos d.isLt]
omit H in
theorem qLane_hi (h : Fin 8) (l : Fin 8192) (d : Fin 32) : qLane Q0 Q1 h l ⟨64 + d.val, by omega⟩ = Q1 l h d * (rs / Real.log 2) := by
  unfold qLane; rw [dif_neg (by show ¬(64 + d.val < 64); omega), dif_pos (by show 64 + d.val - 64 < 32; omega)]
  exact congrArg (fun x => Q1 l h x * _) (Fin.ext (by show 64 + d.val - 64 = d.val; omega))
omit H in
theorem kLane_lo (h : Fin 8) (k : Fin 8192) (d : Fin 64) : kLane K0 K1 h k ⟨d.val, by omega⟩ = K0 k h d := by
  unfold kLane; rw [dif_pos d.isLt]
omit H in
theorem kLane_hi (h : Fin 8) (k : Fin 8192) (d : Fin 32) : kLane K0 K1 h k ⟨64 + d.val, by omega⟩ = K1 k d := by
  unfold kLane; rw [dif_neg (by show ¬(64 + d.val < 64); omega), dif_pos (by show 64 + d.val - 64 < 32; omega)]
  exact congrArg (K1 k) (Fin.ext (by show 64 + d.val - 64 = d.val; omega))
omit H in
theorem lanes (h : Fin 8) (l k : Fin 8192) : ∑ d, qLane Q0 Q1 h l d * kLane K0 K1 h k d
    = ((∑ x, Q0 l h x * K0 k h x) + ∑ x, K1 k x * Q1 l h x) * (rs / Real.log 2) :=
  sc_wide Q0 Q1 K0 K1 h l k _ _ _ (qLane_lo Q0 Q1 h l) (qLane_hi Q0 Q1 h l) (kLane_lo K0 K1 h k) (kLane_hi K0 K1 h k) fun d => by
    unfold kLane; rw [dif_neg (by show ¬(64 + (32 + d.val) < 64); omega), dif_neg (by show ¬(64 + (32 + d.val) - 64 < 32); omega)]
end host

variable (m : (ℓ : Loc nD τ sig) → Buf (Elt Ideal) ℓ) (c : Dev nD)
  (H : Holds Q0 Q1 K0 K1 U G (b0 m c) (b1 m c) (b2 m c) (b3 m c) (b4 m c) (b5 m c))

theorem wide_lane (p : Fin 4) (h : Fin 2) (d : Fin 128) : wide p (lane h d) = col (hOf p h) d := Fin.ext (by
  show p.val * 256 + (128 * h.val + d.val) = (p.val * 2 + h.val) * 128 + d.val; omega)

include H

theorem aq_real (l : Fin 8192) (h : Fin 8) (d : Fin 128) : aq m c (ix2 l (col h d)) = (qLane Q0 Q1 h l d : ℝ) :=
  (congrFun (V_q m c) _).trans (q_real Q0 Q1 K0 K1 U G H l h d)
theorem ak_real (k : Fin 8192) (h : Fin 8) (d : Fin 128) : ak m c (ix2 k (col h d)) = (kLane K0 K1 h k d : ℝ) :=
  (congrFun (V_k m c) _).trans (k_real Q0 Q1 K0 K1 U G H k h d)

/-- The kernel's weights are the attention's. -/
theorem wgt_real (p : Fin 4) (h : Fin 2) (l k : Fin 8192) : wgt m c p h l k = (yy Q0 Q1 K0 K1 (hOf p h) l k : ℝ) := by
  unfold wgt
  rw [als_apply, lse_real Q0 Q1 K0 K1 U G H]
  simp only [wide_lane, aq_real Q0 Q1 K0 K1 U G m c H, ak_real Q0 Q1 K0 K1 U G m c H, ← EReal.coe_mul, sum_coe, lanes]
  rw [← EReal.coe_sub, exp2_coe, ← yy_lse]
  refine congrArg _ (congrArg Real.exp ?_)
  have := log_two_ne
  unfold sc
  field_simp

/-- The kernel's score gradients are the attention's. -/
theorem grd_real (p : Fin 4) (h : Fin 2) (l k : Fin 8192) : grd m c p h l k = (gsc Q0 Q1 K0 K1 U G (hOf p h) l k : ℝ) := by
  unfold grd
  rw [wgt_real Q0 Q1 K0 K1 U G m c H, ads_apply, d_real Q0 Q1 K0 K1 U G H]
  have e : ∑ e : Fin 128, (if e.val / 64 = h.val then ado m c (ix2 l (flat p e)) else 0) * av m c (ix2 k (flat p e))
      = ((dp U G (hOf p h) l k : ℝ) : EReal) := by
    have w : ∀ (i : Fin 2) (e : Fin 64), flat p ⟨i.val * 64 + e.val, by omega⟩ = hd (hOf p i) e := fun i e =>
      Fin.ext (by show p.val * 128 + (i.val * 64 + e.val) = (p.val * 2 + i.val) * 64 + e.val; omega)
    have v : ∀ (i : Fin 2) (e : Fin 64), av m c (ix2 k (flat p ⟨i.val * 64 + e.val, by omega⟩)) = (U k (hOf p i) e : ℝ) := fun i e => by
      rw [w, av_apply, H.u]
    have o : ∀ (i : Fin 2) (e : Fin 64), ado m c (ix2 l (flat p ⟨i.val * 64 + e.val, by omega⟩)) = (G l (vl (hOf p i) e) : ℝ) := fun i e => by
      rw [w, ado_apply, H.g]
    refine (Fin.sum_univ_add (a := 64) (b := 64) _).trans ?_
    match h with
    | ⟨0, _⟩ =>
      refine Eq.trans (congrArg₂ (· + ·) (Finset.sum_congr rfl fun e _ => ?_) (Finset.sum_eq_zero fun e _ => ?_)) ((add_zero _).trans (sum_coe _))
      · refine (congrArg₂ (· * ·) ((if_pos (by show e.val / 64 = 0; omega)).trans ?_) ?_).trans (EReal.coe_mul _ _).symm
        · exact (congrArg (fun f => ado m c (ix2 l f)) (Fin.ext (by show p.val * 128 + e.val = p.val * 128 + (0 * 64 + e.val); omega))).trans (o 0 e)
        · exact (congrArg (fun f => av m c (ix2 k f)) (Fin.ext (by show p.val * 128 + e.val = p.val * 128 + (0 * 64 + e.val); omega))).trans (v 0 e)
      · exact (congrArg (· * _) (if_neg (by show ¬((64 + e.val) / 64 = 0); omega))).trans (zero_mul _)
    | ⟨1, _⟩ =>
      refine Eq.trans (congrArg₂ (· + ·) (Finset.sum_eq_zero fun e _ => ?_) (Finset.sum_congr rfl fun e _ => ?_)) ((zero_add _).trans (sum_coe _))
      · exact (congrArg (· * _) (if_neg (by show ¬(e.val / 64 = 1); omega))).trans (zero_mul _)
      · refine (congrArg₂ (· * ·) ((if_pos (by show (64 + e.val) / 64 = 1; omega)).trans ?_) ?_).trans (EReal.coe_mul _ _).symm
        · exact (congrArg (fun f => ado m c (ix2 l f)) (Fin.ext (by show p.val * 128 + (64 + e.val) = p.val * 128 + (1 * 64 + e.val); omega))).trans (o 1 e)
        · exact (congrArg (fun f => av m c (ix2 k f)) (Fin.ext (by show p.val * 128 + (64 + e.val) = p.val * 128 + (1 * 64 + e.val); omega))).trans (v 1 e)
  rw [e, ← EReal.coe_sub, ← EReal.coe_mul]
  rfl

/-! ## The results -/

omit H in
theorem split_head (h : Fin 8) : hOf ⟨h.val / 2, by omega⟩ ⟨h.val % 2, by omega⟩ = h := Fin.ext (by show h.val / 2 * 2 + h.val % 2 = h.val; omega)

theorem o8_real (l : Fin 8192) (h : Fin 8) (d : Fin 128) :
    o8 m c (ix2 l (col h d)) = (∑ k, gsc Q0 Q1 K0 K1 U G h l k * kLane K0 K1 h k d : ℝ) := by
  have w : ∀ (p : Fin 4) (i : Fin 2), o8 m c (ix2 l (col (hOf p i) d)) = (∑ k, gsc Q0 Q1 K0 K1 U G (hOf p i) l k * kLane K0 K1 (hOf p i) k d : ℝ) := fun p i => by
    rw [← wide_lane, o8_apply, show head (lane i d) = i from Fin.ext (by show (128 * i.val + d.val) / 128 = i.val; omega), wide_lane]
    simp only [grd_real Q0 Q1 K0 K1 U G m c H, ak_real Q0 Q1 K0 K1 U G m c H, ← EReal.coe_mul, sum_coe]
  rw [← split_head h]; exact w _ _
theorem o9_real (k : Fin 8192) (h : Fin 8) (d : Fin 128) :
    o9 m c (ix2 (col h d) k) = (∑ l, qLane Q0 Q1 h l d * gsc Q0 Q1 K0 K1 U G h l k : ℝ) := by
  have w : ∀ (p : Fin 4) (i : Fin 2), o9 m c (ix2 (col (hOf p i) d) k) = (∑ l, qLane Q0 Q1 (hOf p i) l d * gsc Q0 Q1 K0 K1 U G (hOf p i) l k : ℝ) := fun p i => by
    rw [← wide_lane, o9_apply, show head (lane i d) = i from Fin.ext (by show (128 * i.val + d.val) / 128 = i.val; omega), wide_lane]
    refine (Finset.sum_congr rfl fun l _ => congrArg (· * _) (aqt_apply m c l _)).trans ?_
    simp only [grd_real Q0 Q1 K0 K1 U G m c H, aq_real Q0 Q1 K0 K1 U G m c H, ← EReal.coe_mul, sum_coe]
  rw [← split_head h]; exact w _ _
theorem o10_real (k : Fin 8192) (h : Fin 8) (e : Fin 64) : o10 m c (ix2 (hd h e) k) = (gU Q0 Q1 K0 K1 G k h e : ℝ) := by
  have w : ∀ (p : Fin 4) (i : Fin 2), o10 m c (ix2 (hd (hOf p i) e) k) = (gU Q0 Q1 K0 K1 G k (hOf p i) e : ℝ) := fun p i => by
    rw [show hd (hOf p i) e = flat p ⟨i.val * 64 + e.val, by omega⟩ from Fin.ext (by show (p.val * 2 + i.val) * 64 + e.val = p.val * 128 + (i.val * 64 + e.val); omega),
      o10_apply, show vhead ⟨i.val * 64 + e.val, by omega⟩ = i from Fin.ext (by show (i.val * 64 + e.val) / 64 = i.val; omega)]
    refine (Finset.sum_congr rfl fun l _ => congrArg (· * _) ((adot_apply m c l _).trans (H.g l _))).trans ?_
    simp only [wgt_real Q0 Q1 K0 K1 U G m c H, ← EReal.coe_mul, sum_coe]
    refine congrArg _ (Finset.sum_congr rfl fun l _ => congrArg (fun f => G l f * _) (Fin.ext ?_))
    show p.val * 128 + (i.val * 64 + e.val) = (p.val * 2 + i.val) * 64 + e.val
    omega
  rw [← split_head h]; exact w _ _

theorem dq_real (l : Fin 8192) (h : Fin 8) (d : Fin 128) : (rQ (o8 m c) hRs (ix3 l h d) : EReal)
    = (∑ k, gsc Q0 Q1 K0 K1 U G h l k * rs * kLane K0 K1 h k d : ℝ) := by
  refine (rQ_apply _ _ l h d).trans ((congrArg₂ (· * ·) (o8_real Q0 Q1 K0 K1 U G m c H l h d) rsqrt_96).trans ?_)
  rw [← EReal.coe_mul]
  refine congrArg _ ((Finset.sum_mul ..).trans (Finset.sum_congr rfl fun k _ => ?_))
  unfold rs; ring
theorem dk_real (k : Fin 8192) (h : Fin 8) (d : Fin 128) : (rK (o9 m c) (ix3 k h d) : EReal)
    = ((∑ l, qLane Q0 Q1 h l d * gsc Q0 Q1 K0 K1 U G h l k) * Real.log 2 : ℝ) :=
  (rK_apply _ k h d).trans ((congrArg₂ (· * ·) (o9_real Q0 Q1 K0 K1 U G m c H k h d) log_two).trans (EReal.coe_mul _ _).symm)

theorem dqn_real (l : Fin 8192) (h : Fin 8) (d : Fin 64) :
    (extractStridedSlice S8192x8x64 ![0, 0, 0] (rQ (o8 m c) hRs) slices_S8192x8x128_S8192x8x64_0_0_0 (ix3 l h d) : EReal) = (gQ0 Q0 Q1 K0 K1 U G l h d : ℝ) := by
  have e := dq_real Q0 Q1 K0 K1 U G m c H l h ⟨d.val, by omega⟩
  generalize rQ (o8 m c) hRs = R at e
  pointwise []
  refine e.trans ?_
  simp only [kLane_lo]
  rfl
theorem dqr_real (l : Fin 8192) (h : Fin 8) (d : Fin 32) :
    (extractStridedSlice S8192x8x32 ![0, 0, 64] (rQ (o8 m c) hRs) slices_S8192x8x128_S8192x8x32_0_0_64 (ix3 l h d) : EReal) = (gQ1 Q0 Q1 K0 K1 U G l h d : ℝ) := by
  have e := dq_real Q0 Q1 K0 K1 U G m c H l h ⟨64 + d.val, by omega⟩
  generalize rQ (o8 m c) hRs = R at e
  pointwise []
  refine e.trans ?_
  simp only [kLane_hi]
  rfl
theorem dkn_real (k : Fin 8192) (h : Fin 8) (d : Fin 64) :
    (extractStridedSlice S8192x8x64 ![0, 0, 0] (rK (o9 m c)) slices_S8192x8x128_S8192x8x64_0_0_0 (ix3 k h d) : EReal) = (gK0 Q0 Q1 K0 K1 U G k h d : ℝ) := by
  have e := dk_real Q0 Q1 K0 K1 U G m c H k h ⟨d.val, by omega⟩
  generalize rK (o9 m c) = R at e
  pointwise []
  refine e.trans (congrArg _ ?_)
  simp only [qLane_lo]
  refine (Finset.sum_mul ..).trans (Finset.sum_congr rfl fun l _ => ?_)
  have := log_two_ne
  field_simp
theorem dkr_real (k : Fin 8192) (d : Fin 32) :
    (Host.reduceAdd (extractStridedSlice S8192x8x32 ![0, 0, 64] (rK (o9 m c)) slices_S8192x8x128_S8192x8x32_0_0_64)
      (constant S_ .f32 0x00000000#32) reducesTo_S8192x8x32_S8192x32_d1 h_S_ (ix2 k d) : EReal) = (gK1 Q0 Q1 K0 K1 U G k d : ℝ) := by
  have e := fun h => dk_real Q0 Q1 K0 K1 U G m c H k h ⟨64 + d.val, by omega⟩
  generalize rK (o9 m c) = R at e
  pointwise []
  simp only [e, qLane_hi, sum_coe]
  refine congrArg _ (Finset.sum_congr rfl fun h _ => ?_)
  refine (Finset.sum_mul ..).trans (Finset.sum_congr rfl fun l _ => ?_)
  have := log_two_ne
  field_simp
theorem dv_real (k : Fin 8192) (h : Fin 8) (e : Fin 64) : (rV (o10 m c) (ix3 k h e) : EReal) = (gU Q0 Q1 K0 K1 G k h e : ℝ) :=
  (rV_apply _ k h e).trans (o10_real Q0 Q1 K0 K1 U G m c H k h e)

end Cert.Kernel2Ideal.Mla

end
-- ==== Proof.MlaRefValue.lean ====
/- The attention's reference gradient on real arguments: its five results are the same real numbers. -/
module

public import proofs.«01_k».proof.Proof.MlaRef
public import proofs.«01_k».proof.Proof.MlaValue

@[expose] public section

set_option maxRecDepth 16384

noncomputable section

namespace Cert.Reference2Ideal.Mla

open Idealize.ShloMosaic Idealize.ShloMosaic.Pointwise Idealize.SL.Sem Cert.Reference2Ideal Cert.Reference2Ideal.Gen Cert.Lift Cert.Attn

variable (Q0 : Fin 8192 → Fin 8 → Fin 64 → ℝ) (Q1 : Fin 8192 → Fin 8 → Fin 32 → ℝ) (K0 : Fin 8192 → Fin 8 → Fin 64 → ℝ)
  (K1 : Fin 8192 → Fin 32 → ℝ) (U : Fin 8192 → Fin 8 → Fin 64 → ℝ) (G : Fin 8192 → Fin 512 → ℝ)

variable {a0 : FVec Ideal S8192x8x64 .f32} {a1 : FVec Ideal S8192x8x32 .f32} {a2 : FVec Ideal S8192x8x64 .f32}
  {a3 : FVec Ideal S8192x32 .f32} {a4 : FVec Ideal S8192x8x64 .f32} {a5 : FVec Ideal S8192x512 .f32}
  (H : Cert.Kernel2Ideal.Mla.Holds Q0 Q1 K0 K1 U G a0 a1 a2 a3 a4 a5)
include H

theorem score_real (h : Fin 8) (l k : Fin 8192) : (rScore a0 a1 a2 a3 (ix3 h l k) : EReal) = (sc Q0 Q1 K0 K1 h l k : ℝ) := by
  rw [rScore_apply]
  simp only [H.q0, H.q1, H.k0, H.k1, ← EReal.coe_mul, sum_coe, ← EReal.coe_add, rsqrt_96]
  rfl
theorem top_real (h : Fin 8) (l : Fin 8192) : (rMax (rTop (rScore a0 a1 a2 a3)) (ix2 h l) : EReal) = (mx Q0 Q1 K0 K1 h l : ℝ) := by
  rw [rMax_apply, rTop_apply, bits_bot, max_eq_right bot_le, ← mx_spec]
  exact congrArg (Finset.fold max ⊥ · Finset.univ) (funext fun k => score_real Q0 Q1 K0 K1 U G H h l k)
theorem exp_real (h : Fin 8) (l k : Fin 8192) : (eExp a0 a1 a2 a3 (ix3 h l k) : EReal) = (ex Q0 Q1 K0 K1 h l k : ℝ) := by
  show (rExp _ _ (ix3 h l k) : EReal) = _
  rw [rExp_apply, score_real Q0 Q1 K0 K1 U G H, top_real Q0 Q1 K0 K1 U G H, ← EReal.coe_sub, exp_coe]; rfl
theorem sum_real (h : Fin 8) (l : Fin 8192) : (eSum a0 a1 a2 a3 (ix2 h l) : EReal) = (zz Q0 Q1 K0 K1 h l : ℝ) := by
  show (rSum _ (ix2 h l) : EReal) = _
  rw [rSum_apply]
  simp only [exp_real Q0 Q1 K0 K1 U G H, sum_coe]
  rfl
theorem soft_real (h : Fin 8) (l k : Fin 8192) :
    (rSoft (eExp a0 a1 a2 a3) (eSum a0 a1 a2 a3) (ix3 h l k) : EReal) = (yy Q0 Q1 K0 K1 h l k : ℝ) := by
  rw [rSoft_apply, exp_real Q0 Q1 K0 K1 U G H, sum_real Q0 Q1 K0 K1 U G H, div_real _ (zz_pos Q0 Q1 K0 K1 h l).ne']
  rfl
theorem dp_real (h : Fin 8) (l k : Fin 8192) : (rDp a4 a5 (ix3 h l k) : EReal) = (dp U G h l k : ℝ) := by
  rw [rDp_apply]
  simp only [H.u, H.g, ← EReal.coe_mul, sum_coe]
  rfl
theorem neg_real (h : Fin 8) (l k : Fin 8192) : (rNeg (rMean (rDp a4 a5) (eExp a0 a1 a2 a3) (eSum a0 a1 a2 a3)) (ix3 h l k) : EReal)
    = (-∑ j, dp U G h l j * (1 / (zz Q0 Q1 K0 K1 h l * zz Q0 Q1 K0 K1 h l)) * ex Q0 Q1 K0 K1 h l j : ℝ) := by
  have hz := (zz_pos Q0 Q1 K0 K1 h l).ne'
  rw [rNeg_apply, rMean_apply]
  simp only [exp_real Q0 Q1 K0 K1 U G H, sum_real Q0 Q1 K0 K1 U G H, dp_real Q0 Q1 K0 K1 U G H, ← EReal.coe_mul]
  rw [show (1 : EReal) = ((1 : ℝ) : EReal) from rfl, div_real _ (mul_ne_zero hz hz)]
  simp only [← EReal.coe_mul, sum_coe, ← EReal.coe_neg]
theorem gr_real (h : Fin 8) (l k : Fin 8192) :
    (eGr a0 a1 a2 a3 a4 a5 (ix3 h l k) : EReal) = (gsc Q0 Q1 K0 K1 U G h l k * rs : ℝ) := by
  show (rGr _ _ _ _ (ix3 h l k) : EReal) = _
  rw [rGr_apply, neg_real Q0 Q1 K0 K1 U G H, dp_real Q0 Q1 K0 K1 U G H, exp_real Q0 Q1 K0 K1 U G H, sum_real Q0 Q1 K0 K1 U G H,
    div_real _ (zz_pos Q0 Q1 K0 K1 h l).ne', rsqrt_96, ← EReal.coe_add, ← EReal.coe_mul, ← EReal.coe_mul, gsc_eq]
  rfl

theorem qn_real (l : Fin 8192) (h : Fin 8) (d : Fin 64) :
    (rQn a2 (eGr a0 a1 a2 a3 a4 a5) (ix3 l h d) : EReal) = (gQ0 Q0 Q1 K0 K1 U G l h d : ℝ) := by
  rw [rQn_apply]
  simp only [gr_real Q0 Q1 K0 K1 U G H, H.k0, ← EReal.coe_mul, sum_coe]
  rfl
theorem qr_real (l : Fin 8192) (h : Fin 8) (d : Fin 32) :
    (rQr a3 (eGr a0 a1 a2 a3 a4 a5) (ix3 l h d) : EReal) = (gQ1 Q0 Q1 K0 K1 U G l h d : ℝ) := by
  rw [rQr_apply]
  simp only [gr_real Q0 Q1 K0 K1 U G H, H.k1, ← EReal.coe_mul, sum_coe]
  rfl
theorem kn_real (k : Fin 8192) (h : Fin 8) (d : Fin 64) :
    (rKn a0 (eGr a0 a1 a2 a3 a4 a5) (ix3 k h d) : EReal) = (gK0 Q0 Q1 K0 K1 U G k h d : ℝ) := by
  rw [rKn_apply]
  simp only [gr_real Q0 Q1 K0 K1 U G H, H.q0, ← EReal.coe_mul, sum_coe]
  rfl
theorem kr_real (k : Fin 8192) (d : Fin 32) :
    (rKr a1 (eGr a0 a1 a2 a3 a4 a5) (ix2 k d) : EReal) = (gK1 Q0 Q1 K0 K1 U G k d : ℝ) := by
  rw [rKr_apply]
  simp only [gr_real Q0 Q1 K0 K1 U G H, H.q1, ← EReal.coe_mul, sum_coe]
  rfl
theorem v_real (k : Fin 8192) (h : Fin 8) (e : Fin 64) :
    (rDv a5 (rSoft (eExp a0 a1 a2 a3) (eSum a0 a1 a2 a3)) (ix3 k h e) : EReal) = (gU Q0 Q1 K0 K1 G k h e : ℝ) := by
  rw [rDv_apply]
  simp only [soft_real Q0 Q1 K0 K1 U G H, H.g, ← EReal.coe_mul, sum_coe]
  rfl

end Cert.Reference2Ideal.Mla

end
-- ==== Proof.MlaClaims.lean ====
/- The attention's backward kernel against its reference: on finite arguments the five gradients are equal. -/
module

public import proofs.«01_k».proof.Defs
public import proofs.«01_k».proof.Proof.Gen.Pre_finite2
public import proofs.«01_k».proof.Proof.MlaBits
public import proofs.«01_k».proof.Proof.MlaRefValue

@[expose] public section

set_option maxRecDepth 16384

noncomputable section

namespace Cert.Proof.MlaClaims

open Idealize.ShloMosaic Idealize.ShloMosaic.Pointwise Idealize.SL.Sem
open Cert.Kernel2Ideal.Mla (Holds b0 b1 b2 b3 b4 b5 fin fin_eq left)
open Cert.Reference2Ideal.Mla (rQn rQr rKn rKr rDv rSoft eGr eExp eSum c0 c1 c2 c3 c4 c5)

/-! ## The precondition -/

theorem pre_real {x0 : FVec Ideal Cert.Pre_finite2.S8192x8x64 .f32} {x1 : FVec Ideal Cert.Pre_finite2.S8192x8x32 .f32}
    {x2 : FVec Ideal Cert.Pre_finite2.S8192x8x64 .f32} {x3 : FVec Ideal Cert.Pre_finite2.S8192x32 .f32}
    {x4 : FVec Ideal Cert.Pre_finite2.S8192x8x64 .f32} {x5 : FVec Ideal Cert.Pre_finite2.S8192x512 .f32}
    (h : Cert.Pre_finite2.fn x0 x1 x2 x3 x4 x5 = fun _ => 1#1) :
    (∀ i, ∃ q : ℝ, x0 i = q) ∧ (∀ i, ∃ q : ℝ, x1 i = q) ∧ (∀ i, ∃ q : ℝ, x2 i = q) ∧ (∀ i, ∃ q : ℝ, x3 i = q)
      ∧ (∀ i, ∃ q : ℝ, x4 i = q) ∧ (∀ i, ∃ q : ℝ, x5 i = q) := by
  have : Subsingleton Cert.Pre_finite2.S_.Idx := ⟨fun a b => funext fun i => i.elim0⟩
  have h0 := congrFun h (fun a => a.elim0)
  unfold Cert.Pre_finite2.fn Cert.Pre_finite2.fn_part1 at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨Lift.real_of_all (fun _ => Lift.bits_inf) h1, Lift.real_of_all (fun _ => Lift.bits_inf) h2,
    Lift.real_of_all (fun _ => Lift.bits_inf) h3, Lift.real_of_all (fun _ => Lift.bits_inf) h4,
    Lift.real_of_all (fun _ => Lift.bits_inf) h5, Lift.real_of_all (fun _ => Lift.bits_inf) h6⟩

/-- Finite arguments hold real numbers. -/
theorem holds_of {m : (ℓ : Loc Cert.Kernel2Ideal.nD Cert.Kernel2Ideal.τ Cert.Kernel2Ideal.sig) → Buf (Elt Ideal) ℓ}
    (h : Cert.Pre_Kernel2Ideal_finite2 m) (c : Dev Cert.Kernel2Ideal.nD) :
    ∃ Q0 Q1 K0 K1 U G, Holds Q0 Q1 K0 K1 U G (b0 m c) (b1 m c) (b2 m c) (b3 m c) (b4 m c) (b5 m c) := by
  obtain ⟨h0, h1, h2, h3, h4, h5⟩ := pre_real (h c)
  choose q0 e0 using h0
  choose q1 e1 using h1
  choose q2 e2 using h2
  choose q3 e3 using h3
  choose q4 e4 using h4
  choose q5 e5 using h5
  exact ⟨fun l h d => q0 (ix3 l h d), fun l h d => q1 (ix3 l h d), fun l h d => q2 (ix3 l h d), fun l d => q3 (ix2 l d),
    fun l h d => q4 (ix3 l h d), fun l f => q5 (ix2 l f), fun l h d => e0 (ix3 l h d), fun l h d => e1 (ix3 l h d), fun l h d => e2 (ix3 l h d), fun l d => e3 (ix2 l d),
    fun l h d => e4 (ix3 l h d), fun l f => e5 (ix2 l f)⟩

/-! ## The two runs side by side -/

variable {m : (ℓ : Loc Cert.Kernel2Ideal.nD Cert.Kernel2Ideal.τ Cert.Kernel2Ideal.sig) → Buf (Elt Ideal) ℓ} (c : Dev Cert.Kernel2Ideal.nD)

theorem eq0 (h : Cert.Pre_Kernel2Ideal_finite2 m) :
    fin m c Cert.Kernel2Ideal.main_v85 = rQn (b2 m c) (eGr (b0 m c) (b1 m c) (b2 m c) (b3 m c) (b4 m c) (b5 m c)) := by
  obtain ⟨Q0, Q1, K0, K1, U, G, H⟩ := holds_of h c
  rw [fin_eq]
  refine (Kernel2Ideal.Mla.suf_dqn (left m c)).trans ?_
  rw [Kernel2Ideal.Mla.left_o8, Kernel2Ideal.Mla.left_rs]
  refine funext fun i => ?_
  idx_vars i
  exact (Kernel2Ideal.Mla.dqn_real Q0 Q1 K0 K1 U G m c H i0 i1 i2).trans (Reference2Ideal.Mla.qn_real Q0 Q1 K0 K1 U G H i0 i1 i2).symm

theorem eq1 (h : Cert.Pre_Kernel2Ideal_finite2 m) :
    fin m c Cert.Kernel2Ideal.main_v86 = rQr (b3 m c) (eGr (b0 m c) (b1 m c) (b2 m c) (b3 m c) (b4 m c) (b5 m c)) := by
  obtain ⟨Q0, Q1, K0, K1, U, G, H⟩ := holds_of h c
  rw [fin_eq]
  refine (Kernel2Ideal.Mla.suf_dqr (left m c)).trans ?_
  rw [Kernel2Ideal.Mla.left_o8, Kernel2Ideal.Mla.left_rs]
  refine funext fun i => ?_
  idx_vars i
  exact (Kernel2Ideal.Mla.dqr_real Q0 Q1 K0 K1 U G m c H i0 i1 i2).trans (Reference2Ideal.Mla.qr_real Q0 Q1 K0 K1 U G H i0 i1 i2).symm

theorem eq2 (h : Cert.Pre_Kernel2Ideal_finite2 m) :
    fin m c Cert.Kernel2Ideal.main_v87 = rKn (b0 m c) (eGr (b0 m c) (b1 m c) (b2 m c) (b3 m c) (b4 m c) (b5 m c)) := by
  obtain ⟨Q0, Q1, K0, K1, U, G, H⟩ := holds_of h c
  rw [fin_eq]
  refine (Kernel2Ideal.Mla.suf_dkn (left m c)).trans ?_
  rw [Kernel2Ideal.Mla.left_o9]
  refine funext fun i => ?_
  idx_vars i
  exact (Kernel2Ideal.Mla.dkn_real Q0 Q1 K0 K1 U G m c H i0 i1 i2).trans (Reference2Ideal.Mla.kn_real Q0 Q1 K0 K1 U G H i0 i1 i2).symm

theorem eq3 (h : Cert.Pre_Kernel2Ideal_finite2 m) :
    fin m c Cert.Kernel2Ideal.main_v89 = rKr (b1 m c) (eGr (b0 m c) (b1 m c) (b2 m c) (b3 m c) (b4 m c) (b5 m c)) := by
  obtain ⟨Q0, Q1, K0, K1, U, G, H⟩ := holds_of h c
  rw [fin_eq]
  refine (Kernel2Ideal.Mla.suf_dkr (left m c)).trans ?_
  rw [Kernel2Ideal.Mla.left_o9]
  refine funext fun i => ?_
  idx_vars i
  exact (Kernel2Ideal.Mla.dkr_real Q0 Q1 K0 K1 U G m c H i0 i1).trans (Reference2Ideal.Mla.kr_real Q0 Q1 K0 K1 U G H i0 i1).symm

theorem eq4 (h : Cert.Pre_Kernel2Ideal_finite2 m) :
    fin m c Cert.Kernel2Ideal.main_v84 = rDv (b5 m c) (rSoft (eExp (b0 m c) (b1 m c) (b2 m c) (b3 m c)) (eSum (b0 m c) (b1 m c) (b2 m c) (b3 m c))) := by
  obtain ⟨Q0, Q1, K0, K1, U, G, H⟩ := holds_of h c
  rw [fin_eq]
  refine (Kernel2Ideal.Mla.suf_dv (left m c)).trans ?_
  rw [Kernel2Ideal.Mla.left_o10]
  refine funext fun i => ?_
  idx_vars i
  exact (Kernel2Ideal.Mla.dv_real Q0 Q1 K0 K1 U G m c H i0 i1 i2).trans (Reference2Ideal.Mla.v_real Q0 Q1 K0 K1 U G H i0 i1 i2).symm

theorem algebraic : Cert.algebraic_Kernel2Ideal_Reference2Ideal_pre_finite2 := by
  intro m ρ m' ρ' hpre hag
  refine ⟨fun c => fin m c Cert.Kernel2Ideal.main_v85, fun c => fin m c Cert.Kernel2Ideal.main_v86, fun c => fin m c Cert.Kernel2Ideal.main_v87,
    fun c => fin m c Cert.Kernel2Ideal.main_v89, fun c => fin m c Cert.Kernel2Ideal.main_v84, ?_, ?_⟩
  · exact (θ_run Cert.Kernel2Ideal.defs _ _).mono (fun _ h c => ⟨(h.1.1 c).2 Cert.Kernel2Ideal.main_v85 (Pipeline.mem_restRefs_of Cert.Kernel2Ideal.main_v85 (by decide) (by decide)),
      (h.1.1 c).2 Cert.Kernel2Ideal.main_v86 (Pipeline.mem_restRefs_of Cert.Kernel2Ideal.main_v86 (by decide) (by decide)),
      (h.1.1 c).2 Cert.Kernel2Ideal.main_v87 (Pipeline.mem_restRefs_of Cert.Kernel2Ideal.main_v87 (by decide) (by decide)),
      (h.1.1 c).2 Cert.Kernel2Ideal.main_v89 (Pipeline.mem_restRefs_of Cert.Kernel2Ideal.main_v89 (by decide) (by decide)),
      (h.1.1 c).2 Cert.Kernel2Ideal.main_v84 (Pipeline.mem_restRefs_of Cert.Kernel2Ideal.main_v84 (by decide) (by decide)), h.2 c⟩)
      (θ_run_and (Cert.Kernel2Ideal.Mla.run_main m ρ) (Cert.Kernel2Ideal.Mla.unchanged m ρ))
  · refine (θ_run Cert.Reference2Ideal.defs _ _).mono (fun _ h c => ?_) (Cert.Reference2Ideal.Value.run (F := Ideal) m' ρ')
    obtain ⟨h0, h1, h2, h3, h4, hk⟩ := h c
    obtain ⟨a0, a1, a2, a3, a4, a5⟩ := hag c
    have a0 : c0 m' c = b0 m c := a0
    have a1 : c1 m' c = b1 m c := a1
    have a2 : c2 m' c = b2 m c := a2
    have a3 : c3 m' c = b3 m c := a3
    have a4 : c4 m' c = b4 m c := a4
    have a5 : c5 m' c = b5 m c := a5
    have h4 : _ = rDv (c5 m' c) (rSoft (eExp (c0 m' c) (c1 m' c) (c2 m' c) (c3 m' c)) (eSum (c0 m' c) (c1 m' c) (c2 m' c) (c3 m' c))) := h4
    refine ⟨h0.trans ((Cert.Reference2Ideal.Mla.res0 m' c).trans ?_), h1.trans ((Cert.Reference2Ideal.Mla.res1 m' c).trans ?_),
      h2.trans ((Cert.Reference2Ideal.Mla.res2 m' c).trans ?_), h3.trans ((Cert.Reference2Ideal.Mla.res3 m' c).trans ?_), h4.trans ?_, hk⟩
    · rw [a0, a1, a2, a3, a4, a5]; exact (eq0 c hpre).symm
    · rw [a0, a1, a2, a3, a4, a5]; exact (eq1 c hpre).symm
    · rw [a0, a1, a2, a3, a4, a5]; exact (eq2 c hpre).symm
    · rw [a0, a1, a2, a3, a4, a5]; exact (eq3 c hpre).symm
    · rw [a0, a1, a2, a3, a5]; exact (eq4 c hpre).symm

theorem frame_ri : Cert.quiescent_Reference2Ideal := fun m ρ _ =>
  (θ_run Cert.Reference2Ideal.defs _ _).mono (fun r h => ⟨fun c => ((h c).2.2.2.2.2), sem_eq_zero_of_no_sems (by decide) r.2⟩)
    (Cert.Reference2Ideal.Value.run (F := Ideal) m ρ)

end Cert.Proof.MlaClaims

end
-- ==== Proof.RmsMath.lean ====
/- The root-mean-square norm of a row of real numbers and the two ways of writing its gradient. -/
module

public import proofs.«01_k».proof.Proof.Lift

@[expose] public section

set_option maxRecDepth 16384

noncomputable section

namespace Cert.Rms

open Idealize.ShloMosaic Cert.Lift

/-- The number added under the root. -/
def eps : ℝ := 8796093 * (2 : ℝ) ^ (-43 : ℤ)

theorem eps_pos : 0 < eps := by unfold eps; positivity

theorem bits_eps : Ideal.ofBits .f32 0x358637BD#32 = ((eps : ℝ) : EReal) := by
  simp [Ideal.ofBits, Ideal.ieee, eps]
theorem bits_1024 : Ideal.ofBits .f32 0x44800000#32 = ((1024 : ℝ) : EReal) := by
  simp [Ideal.ofBits, Ideal.ieee]
  rw [← EReal.coe_mul]; exact congrArg _ (by norm_num)
theorem bits_inv1024 : Ideal.ofBits .f32 0x3A800000#32 = ((1 / 1024 : ℝ) : EReal) := by
  simp [Ideal.ofBits, Ideal.ieee]
  rw [← EReal.coe_mul]; exact congrArg _ (by norm_num)
theorem bits_half : Ideal.ofBits .f32 0x3F000000#32 = ((1 / 2 : ℝ) : EReal) := by
  simp [Ideal.ofBits, Ideal.ieee]
  rw [← EReal.coe_mul]; exact congrArg _ (by norm_num)
theorem bits_neg_half : Ideal.ofBits .f32 0xBF000000#32 = ((-(1 / 2) : ℝ) : EReal) := by
  simp [Ideal.ofBits, Ideal.ieee]
  rw [← EReal.coe_mul]; exact congrArg _ (by norm_num)
theorem bits_two : Ideal.ofBits .f32 0x40000000#32 = ((2 : ℝ) : EReal) := by
  simp [Ideal.ofBits, Ideal.ieee]
  rw [← EReal.coe_mul]; exact congrArg _ (by norm_num)
theorem bits_one : Ideal.ofBits .f32 0x3F800000#32 = ((1 : ℝ) : EReal) := by
  simp [Ideal.ofBits, Ideal.ieee]
  rw [← EReal.coe_mul]; exact congrArg _ (by norm_num)

variable {n : ℕ}

/-- The mean square of a row, with the number added. -/
def ms (N : ℝ) (x : Fin n → ℝ) : ℝ := (∑ d, x d * x d) / N + eps
/-- The reciprocal root of it. -/
def rs (N : ℝ) (x : Fin n → ℝ) : ℝ := (Real.sqrt (ms N x))⁻¹

theorem ms_pos {N : ℝ} (hN : 0 < N) (x : Fin n → ℝ) : 0 < ms N x := by
  have h : 0 ≤ ∑ d, x d * x d := Finset.sum_nonneg fun d _ => mul_self_nonneg _
  have := eps_pos
  unfold ms
  positivity

theorem rsqrt_coe {r : ℝ} (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (by linarith), if_neg h.ne']

/-- The reciprocal root as the programs compute it. -/
theorem rsqrt_ms {N : ℝ} (hN : 0 < N) (x : Fin n → ℝ) :
    Ideal.rsqrt (Ideal.div (∑ d, (x d : EReal) * x d) N + (eps : EReal)) = ((rs N x : ℝ) : EReal) := by
  simp only [← EReal.coe_mul, sum_coe]
  rw [div_real _ hN.ne', ← EReal.coe_add]
  exact rsqrt_coe (ms_pos hN x)

/-- The gradient by one element of a row `x`, where `y` is the cotangent of the normed row: the way of the kernels. -/
def dRow (N : ℝ) (x y : Fin n → ℝ) (d : Fin n) : ℝ :=
  rs N x * y d - x d * (rs N x * rs N x * rs N x) * ((∑ j, y j * x j) / N)

/-- The same, written as the derivative of `x · (mean x² + ε)^(-1/2)` by the chain rule. -/
theorem dRow_chain {N : ℝ} (hN : 0 < N) (x y : Fin n → ℝ) (d : Fin n) :
    y d * rs N x + x d * ((∑ j, x j * y j) * (-(1 / 2) * (rs N x / ms N x)) / N)
        + (∑ j, x j * y j) * (-(1 / 2) * (rs N x / ms N x)) / N * x d
      = dRow N x y d := by
  have hp := ms_pos hN x
  have h : rs N x * rs N x = (ms N x)⁻¹ := by
    unfold rs
    rw [← mul_inv, Real.mul_self_sqrt hp.le]
  have e : ∑ j, x j * y j = ∑ j, y j * x j := Finset.sum_congr rfl fun j _ => mul_comm _ _
  unfold dRow
  rw [h, e, div_eq_mul_inv (rs N x)]
  ring

end Cert.Rms

end
-- ==== Proof.LossRead.lean ====
/- The loss kernel's payloads and blocks, entry by entry. -/
module

public import proofs.«01_k».proof.Proof.Gen.Kernel3Ideal.Value
public import proofs.«01_k».proof.Proof.RmsMath
public import proofs.«01_k».proof.Proof.Blocks

@[expose] public section

set_option maxRecDepth 16384

noncomputable section

namespace Cert.Kernel3Ideal.Loss

open Idealize.ShloMosaic Idealize.ShloMosaic.Pointwise Idealize.SL.Sem Cert.Kernel3Ideal Cert.Kernel3Ideal.Gen Cert.Lift Cert.Rms

theorem hz : (![0, 0] : Fin 2 → Nat) = fun _ => 0 := funext fun a => by fin_cases a <;> rfl

/-! ## The error, the loss and the two gradients of rows of real numbers -/

/-- The error at column `d` of a row `x` of the input, with gain `g` and target `t`. -/
def er (g x t : Fin 1024 → ℝ) (d : Fin 1024) : ℝ := x d * rs 1024 x * g d - t d
/-- The row's share of the loss. -/
def lossRow (g x t : Fin 1024 → ℝ) : ℝ := (∑ d, er g x t d * er g x t d) / 1024
/-- The cotangent of the normed row. -/
def cot (g x t : Fin 1024 → ℝ) (d : Fin 1024) : ℝ := er g x t d * (1 / 1024) * g d
/-- The row's share of the gain's gradient. -/
def gainRow (g x t : Fin 1024 → ℝ) (d : Fin 1024) : ℝ := er g x t d * (1 / 1024) * (x d * rs 1024 x)

section pay
variable (v0 : Vec Ideal S512x1024 .f32) (v1 : Vec Ideal S1x1024 .f32) (v2 : Vec Ideal S512x1024 .f32)

theorem pay7_apply (r : Fin 512) : (k0_pay7 v0 (ix2 r 0) : EReal)
    = Ideal.rsqrt (Ideal.div (∑ d : Fin 1024, (v0 (ix2 r d) : EReal) * v0 (ix2 r d)) (Ideal.ofBits .f32 0x44800000#32) + Ideal.ofBits .f32 0x358637BD#32) := by
  pointwise [k0_pay7]

/-- The rows of a block are real numbers. -/
structure Rows (X : Fin 512 → Fin 1024 → ℝ) (G : Fin 1024 → ℝ) (T : Fin 512 → Fin 1024 → ℝ) : Prop where
  x : ∀ r d, (v0 (ix2 r d) : EReal) = (X r d : ℝ)
  g : ∀ d, (v1 (ix2 0 d) : EReal) = (G d : ℝ)
  t : ∀ r d, (v2 (ix2 r d) : EReal) = (T r d : ℝ)

variable {v0 v1 v2} {X : Fin 512 → Fin 1024 → ℝ} {G : Fin 1024 → ℝ} {T : Fin 512 → Fin 1024 → ℝ} (H : Rows v0 v1 v2 X G T)
include H

theorem pay7_real (r : Fin 512) : (k0_pay7 v0 (ix2 r 0) : EReal) = (rs 1024 (X r) : ℝ) := by
  rw [pay7_apply, bits_1024, bits_eps]
  simp only [H.x]
  exact rsqrt_ms (by norm_num) (X r)

theorem pay8_real (r : Fin 512) (d : Fin 1024) : (k0_pay8 v0 (ix2 r d) : EReal) = ((X r d * rs 1024 (X r) : ℝ) : EReal) := by
  have e : (k0_pay8 v0 (ix2 r d) : EReal) = v0 (ix2 r d) * k0_pay7 v0 (ix2 r 0) := by
    unfold k0_pay8
    generalize k0_pay7 v0 = s
    pointwise []
  rw [e, pay7_real H, H.x, EReal.coe_mul]

theorem pay9_real (r : Fin 512) (d : Fin 1024) : (k0_pay9 v0 v1 v2 (ix2 r d) : EReal) = (er G (X r) (T r) d : ℝ) := by
  have e : (k0_pay9 v0 v1 v2 (ix2 r d) : EReal) = k0_pay8 v0 (ix2 r d) * v1 (ix2 0 d) - v2 (ix2 r d) := by
    unfold k0_pay9 k0_pay6
    generalize k0_pay8 v0 = s
    pointwise []
  rw [e, pay8_real H, H.g, H.t, ← EReal.coe_mul, ← EReal.coe_sub]
  rfl

theorem pay11_real (r : Fin 512) (d : Fin 1024) : (k0_pay11 v0 v1 v2 (ix2 r d) : EReal) = ((er G (X r) (T r) d * (1 / 1024) : ℝ) : EReal) := by
  have e : (k0_pay11 v0 v1 v2 (ix2 r d) : EReal) = k0_pay9 v0 v1 v2 (ix2 r d) * Ideal.ofBits .f32 0x3A800000#32 := by
    unfold k0_pay11
    generalize k0_pay9 v0 v1 v2 = s
    pointwise []
  rw [e, pay9_real H, bits_inv1024, ← EReal.coe_mul]

theorem pay12_real (r : Fin 512) (d : Fin 1024) : (k0_pay12 v0 v1 v2 (ix2 r d) : EReal) = (cot G (X r) (T r) d : ℝ) := by
  have e : (k0_pay12 v0 v1 v2 (ix2 r d) : EReal) = k0_pay11 v0 v1 v2 (ix2 r d) * v1 (ix2 0 d) := by
    unfold k0_pay12 k0_pay6
    generalize k0_pay11 v0 v1 v2 = s
    pointwise []
  rw [e, pay11_real H, H.g, ← EReal.coe_mul]
  rfl

theorem pay10_real : (k0_pay10 v0 v1 v2 : EReal) = ((1 / 2 * ∑ r, lossRow G (X r) (T r) : ℝ) : EReal) := by
  have e : (k0_pay10 v0 v1 v2 : EReal) = Ideal.ofBits .f32 0x3F000000#32
      * ∑ r : Fin 512, Ideal.div (∑ d : Fin 1024, (k0_pay9 v0 v1 v2 (ix2 r d) : EReal) * k0_pay9 v0 v1 v2 (ix2 r d)) (Ideal.ofBits .f32 0x44800000#32) := by
    unfold k0_pay10
    generalize k0_pay9 v0 v1 v2 = s
    pointwise []
    exact congrArg _ (Finset.sum_congr rfl fun r _ => Fin.sum_univ_one _)
  rw [e, bits_half, bits_1024]
  simp only [pay9_real H, ← EReal.coe_mul, sum_coe, div_real _ (show (1024 : ℝ) ≠ 0 by norm_num)]
  rfl

theorem pay1_real (r : Fin 512) (d : Fin 1024) :
    (k0_pay1 (k0_pay13 v0 v1 v2) (k0_pay14 v0) (k0_pay15 v0 v1 v2) (ix2 r d) : EReal) = (dRow 1024 (X r) (cot G (X r) (T r)) d : ℝ) := by
  have e : (k0_pay1 (k0_pay13 v0 v1 v2) (k0_pay14 v0) (k0_pay15 v0 v1 v2) (ix2 r d) : EReal)
      = k0_pay7 v0 (ix2 r 0) * k0_pay12 v0 v1 v2 (ix2 r d)
        - v0 (ix2 r d) * (k0_pay7 v0 (ix2 r 0) * k0_pay7 v0 (ix2 r 0) * k0_pay7 v0 (ix2 r 0))
          * Ideal.div (∑ j : Fin 1024, (k0_pay12 v0 v1 v2 (ix2 r j) : EReal) * v0 (ix2 r j)) (Ideal.ofBits .f32 0x44800000#32) := by
    unfold k0_pay13 k0_pay14 k0_pay15
    generalize k0_pay7 v0 = s
    generalize k0_pay12 v0 v1 v2 = y
    pointwise [k0_pay1]
  rw [e, bits_1024]
  simp only [pay7_real H, pay12_real H, H.x, ← EReal.coe_mul, ← EReal.coe_sub, sum_coe, div_real _ (show (1024 : ℝ) ≠ 0 by norm_num)]
  rfl

theorem pay2_real (d : Fin 1024) : (k0_pay2 (k0_pay8 v0) (k0_pay11 v0 v1 v2) (ix2 0 d) : EReal) = ((∑ r, gainRow G (X r) (T r) d : ℝ) : EReal) := by
  have e : (k0_pay2 (k0_pay8 v0) (k0_pay11 v0 v1 v2) (ix2 0 d) : EReal)
      = ∑ r : Fin 512, (k0_pay11 v0 v1 v2 (ix2 r d) : EReal) * k0_pay8 v0 (ix2 r d) := by
    generalize k0_pay8 v0 = s
    generalize k0_pay11 v0 v1 v2 = y
    pointwise [k0_pay2]
  rw [e]
  simp only [pay8_real H, pay11_real H, ← EReal.coe_mul, sum_coe]
  rfl
end pay

/-! ## The blocks of the arguments -/

variable (m : (ℓ : Loc nD τ sig) → Buf (Elt Ideal) ℓ)

abbrev b0 (c : Dev nD) : FVec Ideal S8192x1024 .f32 := m ((c.tc : Thread nD τ).loc main_arg0)
abbrev b1 (c : Dev nD) : FVec Ideal S1024 .f32 := m ((c.tc : Thread nD τ).loc main_arg1)
abbrev b2 (c : Dev nD) : FVec Ideal S8192x1024 .f32 := m ((c.tc : Thread nD τ).loc main_arg2)

theorem lt16 (t : Fin cfg0.N) : t.val < 16 := lt_of_lt_of_eq t.isLt N_0
/-- The array's row of row `r` of block `t`. -/
abbrev row (t : Fin cfg0.N) (r : Fin 512) : Fin 8192 := ⟨t.val * 512 + r.val, by have := lt16 t; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

theorem x0_apply (c : Dev nD) (t : Fin cfg0.N) (r : Fin 512) (l : Fin 1024) : iblk m c 0 t (ix2 r l) = b0 m c (ix2 (row t r) l) := by
  rw [show b0 m c = V m c main_arg0 from (V_main_arg0 m c).symm]
  show V m c main_arg0 _ = _
  refine congrArg _ (funext fun a => Fin.ext ?_)
  match a with
  | ⟨0, _⟩ => show win0_0.index t 0 * 512 + 1 * r.val = t.val * 512 + r.val; rw [(index0 t).1]; omega
  | ⟨1, _⟩ => show win0_0.index t 1 * 1024 + 1 * l.val = l.val; rw [(index0 t).2]; omega

theorem V_v0 (c : Dev nD) : (V m c main_v0 : FVec Ideal S1x1024 .f32) = broadcastInDim S1x1024 ![1] bcast_S1024_S1x1024_1 (b1 m c) := by
  unfold V hostOps0
  after_results_simp

theorem x1_apply (c : Dev nD) (t : Fin cfg0.N) (l : Fin 1024) : iblk m c 1 t (ix2 0 l) = b1 m c (ix1 l) := by
  have e : iblk m c 1 t (ix2 0 l) = (V m c main_v0 : FVec Ideal S1x1024 .f32) (ix2 0 l) := by
    show V m c main_v0 _ = _
    refine congrArg _ (funext fun a => Fin.ext ?_)
    match a with
    | ⟨0, _⟩ => show win0_1.index t 0 * 1 + 1 * 0 = 0; rw [(index1 t).1]
    | ⟨1, _⟩ => show win0_1.index t 1 * 1024 + 1 * l.val = l.val; rw [(index1 t).2]; omega
  rw [e, V_v0]
  generalize b1 m c = b
  pointwise []

theorem x2_apply (c : Dev nD) (t : Fin cfg0.N) (r : Fin 512) (l : Fin 1024) : iblk m c 2 t (ix2 r l) = b2 m c (ix2 (row t r) l) := by
  rw [show b2 m c = V m c main_arg2 from (V_main_arg2 m c).symm]
  show V m c main_arg2 _ = _
  refine congrArg _ (funext fun a => Fin.ext ?_)
  match a with
  | ⟨0, _⟩ => show win0_2.index t 0 * 512 + 1 * r.val = t.val * 512 + r.val; rw [(index2 t).1]; omega
  | ⟨1, _⟩ => show win0_2.index t 1 * 1024 + 1 * l.val = l.val; rw [(index2 t).2]; omega

/-- The arguments are real numbers. -/
structure Holds (X : Fin 8192 → Fin 1024 → ℝ) (G : Fin 1024 → ℝ) (T : Fin 8192 → Fin 1024 → ℝ) (a0 : FVec Ideal S8192x1024 .f32)
    (a1 : FVec Ideal S1024 .f32) (a2 : FVec Ideal S8192x1024 .f32) : Prop where
  x : ∀ l d, (a0 (ix2 l d) : EReal) = (X l d : ℝ)
  g : ∀ d, (a1 (ix1 d) : EReal) = (G d : ℝ)
  t : ∀ l d, (a2 (ix2 l d) : EReal) = (T l d : ℝ)

theorem rows {c : Dev nD} {X : Fin 8192 → Fin 1024 → ℝ} {G : Fin 1024 → ℝ} {T : Fin 8192 → Fin 1024 → ℝ} (H : Holds X G T (b0 m c) (b1 m c) (b2 m c))
    (t : Fin cfg0.N) : Rows (iblk m c 0 t) (iblk m c 1 t) (iblk m c 2 t) (fun r => X (row t r)) G (fun r => T (row t r)) :=
  ⟨fun r d => by rw [x0_apply]; exact H.x _ _, fun d => by rw [x1_apply]; exact H.g d, fun r d => by rw [x2_apply]; exact H.t _ _⟩

end Cert.Kernel3Ideal.Loss

end
-- ==== Proof.Loss.lean ====
/- What the loss kernel leaves in its three result arrays: the loss, the gradient by the input, the gradient by the gain. -/
module

public import proofs.«01_k».proof.Proof.LossRead

@[expose] public section

set_option maxRecDepth 16384

noncomputable section

namespace Cert.Kernel3Ideal.Loss

open Idealize.ShloMosaic Idealize.ShloMosaic.TcCoe Idealize.ShloMosaic.Tactic Idealize.ShloMosaic.Pointwise Idealize.SL.Sem Cert.Kernel3Ideal Cert.Kernel3Ideal.Gen Cert.Lift Cert.Rms
open Idealize.ShloMosaic.Pipeline (Dat)

/-! ## What one point of the grid leaves in each output's block -/

section point
variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S8x128 .f32) (h4 : a4.IsWhole) (a5 : Memref sig .tc .vmem S512x1024 .f32) (h5 : a5.IsWhole)
  (a6 : Memref sig .tc .vmem S1x1024 .f32) (h6 : a6.IsWhole)
  (x0 : Vec Ideal S512x1024 .f32) (x1 : Vec Ideal S1x1024 .f32) (x2 : Vec Ideal S512x1024 .f32)

theorem first3 (hc : cond0_0 i) (hd : ¬cond0_1 i) :
    out0_A_3 c i a1 h1 a2 h2 a3 h3 a4 h4 a5 h5 a6 h6 hc hd x0 x1 x2 = k0_pay3 (k0_pay10 x0 x1 x2) := by
  unfold out0_A_3
  rw [View.read_writes_eq_canon _ _ _ (cover0_A_3 c i a1 h1 a2 h2 a3 h3 a4 h4 a5 h5 a6 h6 hc hd x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem first4 (hc : cond0_0 i) (hd : ¬cond0_1 i) :
    out0_A_4 c i a1 h1 a2 h2 a3 h3 a4 h4 a5 h5 a6 h6 hc hd x0 x1 x2 = k0_pay1 (k0_pay13 x0 x1 x2) (k0_pay14 x0) (k0_pay15 x0 x1 x2) := by
  unfold out0_A_4
  rw [View.read_writes_eq_canon _ _ _ (cover0_A_4 c i a1 h1 a2 h2 a3 h3 a4 h4 a5 h5 a6 h6 hc hd x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem first5 (hc : cond0_0 i) (hd : ¬cond0_1 i) :
    out0_A_5 c i a1 h1 a2 h2 a3 h3 a4 h4 a5 h5 a6 h6 hc hd x0 x1 x2 = k0_pay2 (k0_pay8 x0) (k0_pay11 x0 x1 x2) := by
  unfold out0_A_5
  rw [View.read_writes_eq_canon _ _ _ (cover0_A_5 c i a1 h1 a2 h2 a3 h3 a4 h4 a5 h5 a6 h6 hc hd x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

variable (y3 : Vec Ideal S8x128 .f32) (y5 : Vec Ideal S1x1024 .f32)

theorem next3 (hc : ¬cond0_0 i) (hd : cond0_1 i) :
    out0_B_3 c i a1 h1 a2 h2 a3 h3 a4 h4 a5 h5 a6 h6 hc hd x0 x1 x2 y3 y5 = k0_pay5 (k0_pay10 x0 x1 x2) y3 := by
  unfold out0_B_3
  rw [View.read_writes_eq_canon _ _ _ (cover0_B_3 c i a1 h1 a2 h2 a3 h3 a4 h4 a5 h5 a6 h6 hc hd x0 x1 x2 y3 y5)]
  unfold kernelRun0_B
  dsimp only
  sl_unfold_words
  rw [View.canon_unit_zero hz]
  simp only [View.readAt_eq_ld, h1.read_unread, h2.read_unread, h3.read_unread, h4.read_unread, View.ld_unit_zero (S := S512x1024) hz,
    View.ld_unit_zero (S := S1x1024) hz, View.ld_unit_zero (S := S8x128) hz]

theorem next4 (hc : ¬cond0_0 i) (hd : cond0_1 i) :
    out0_B_4 c i a1 h1 a2 h2 a3 h3 a4 h4 a5 h5 a6 h6 hc hd x0 x1 x2 y3 y5 = k0_pay1 (k0_pay13 x0 x1 x2) (k0_pay14 x0) (k0_pay15 x0 x1 x2) := by
  unfold out0_B_4
  rw [View.read_writes_eq_canon _ _ _ (cover0_B_4 c i a1 h1 a2 h2 a3 h3 a4 h4 a5 h5 a6 h6 hc hd x0 x1 x2 y3 y5)]
  unfold kernelRun0_B
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem next5 (hc : ¬cond0_0 i) (hd : cond0_1 i) :
    out0_B_5 c i a1 h1 a2 h2 a3 h3 a4 h4 a5 h5 a6 h6 hc hd x0 x1 x2 y3 y5 = k0_pay4 (k0_pay8 x0) (k0_pay11 x0 x1 x2) y5 := by
  unfold out0_B_5
  rw [View.read_writes_eq_canon _ _ _ (cover0_B_5 c i a1 h1 a2 h2 a3 h3 a4 h4 a5 h5 a6 h6 hc hd x0 x1 x2 y3 y5)]
  unfold kernelRun0_B
  dsimp only
  sl_unfold_words
  rw [View.canon_unit_zero hz]
  simp only [View.readAt_eq_ld, h1.read_unread, h2.read_unread, h3.read_unread, h6.read_unread, View.ld_unit_zero (S := S512x1024) hz, View.ld_unit_zero (S := S1x1024) hz]

theorem pay3_apply (s : Ideal .f32) (p : Fin 8) (q : Fin 128) : (k0_pay3 (F := Ideal) s (ix2 p q) : EReal) = s := by
  have e : (k0_pay3 (F := Ideal) s (ix2 p q) : EReal) = 0 + s := by pointwise [k0_pay3]
  rw [e, zero_add]
theorem pay5_apply (s : Ideal .f32) (p : Fin 8) (q : Fin 128) : (k0_pay5 (F := Ideal) s y3 (ix2 p q) : EReal) = y3 (ix2 p q) + s := by
  pointwise [k0_pay5]
theorem pay4_apply (u v : Vec Ideal S512x1024 .f32) (d : Fin 1024) :
    (k0_pay4 (F := Ideal) u v y5 (ix2 0 d) : EReal) = y5 (ix2 0 d) + k0_pay2 u v (ix2 0 d) := by
  unfold k0_pay4
  generalize k0_pay2 (F := Ideal) u v = w
  pointwise []
end point

/-! ## The running sums -/

variable {m : (ℓ : Loc nD τ sig) → Buf (Elt Ideal) ℓ} {c : Dev nD} {X : Fin 8192 → Fin 1024 → ℝ} {G : Fin 1024 → ℝ} {T : Fin 8192 → Fin 1024 → ℝ}
  (H : Holds X G T (b0 m c) (b1 m c) (b2 m c))
include H

theorem sums : ∀ (n : ℕ) (h : n < cfg0.N),
    (∀ p q, ((outsAt0 m c n h).1 (ix2 p q) : EReal) = ((1 / 2 * psum (fun l => lossRow G (X l) (T l)) ((n + 1) * 512) : ℝ) : EReal))
    ∧ ∀ d, ((outsAt0 m c n h).2.2 (ix2 0 d) : EReal) = ((psum (fun l => gainRow G (X l) (T l) d) ((n + 1) * 512) : ℝ) : EReal)
  | 0, h => by
    have e := outsAt0_A m c ⟨0, h⟩ rfl (by simp)
    refine ⟨fun p q => ?_, fun d => ?_⟩
    · refine (congrFun (congrArg Prod.fst e) (ix2 p q)).trans ?_
      dsimp only
      rw [first3, pay3_apply, pay10_real (rows m H ⟨0, h⟩), psum_block _ 0 512 (by omega)]
      refine congrArg _ (congrArg _ ?_)
      exact ((congrArg (· + _) (psum_start _ _)).trans (zero_add _)).symm
    · refine (congrFun (congrArg (·.2.2) e) (ix2 0 d)).trans ?_
      dsimp only
      rw [first5, pay2_real (rows m H ⟨0, h⟩), psum_block _ 0 512 (by omega)]
      refine congrArg _ ?_
      exact ((congrArg (· + _) (psum_start _ _)).trans (zero_add _)).symm
  | n + 1, h => by
    have hn : n + 1 < 16 := lt_of_lt_of_eq h N_0
    obtain ⟨i3, i5⟩ := sums n (Nat.lt_of_succ_lt h)
    have e := outsAt0_B m c ⟨n + 1, h⟩ (by dsimp only; omega) (by dsimp only; omega)
    refine ⟨fun p q => ?_, fun d => ?_⟩
    · refine (congrFun (congrArg Prod.fst e) (ix2 p q)).trans ?_
      dsimp only
      rw [next3, pay5_apply, pay10_real (rows m H ⟨n + 1, h⟩)]
      refine (congrArg (· + _) (i3 p q)).trans ?_
      rw [← EReal.coe_add, ← mul_add, psum_block _ (n + 1) 512 (by omega)]
    · refine (congrFun (congrArg (·.2.2) e) (ix2 0 d)).trans ?_
      dsimp only
      rw [next5, pay4_apply, pay2_real (rows m H ⟨n + 1, h⟩)]
      refine (congrArg (· + _) (i5 d)).trans ?_
      rw [← EReal.coe_add, psum_block _ (n + 1) 512 (by omega)]

/-! ## The result arrays -/

omit H in
theorem index3 : ∀ t : Fin cfg0.N, win0_3.index t 0 = 0 ∧ win0_3.index t 1 = 0 :=
  (by decide +kernel : ∀ t : Fin grid0.N, win0_3.index t 0 = 0 ∧ win0_3.index t 1 = 0)
omit H in
theorem index4 : ∀ t : Fin cfg0.N, win0_4.index t 0 = t.val ∧ win0_4.index t 1 = 0 :=
  (by decide +kernel : ∀ t : Fin grid0.N, win0_4.index t 0 = t.val ∧ win0_4.index t 1 = 0)
omit H in
theorem index5 : ∀ t : Fin cfg0.N, win0_5.index t 0 = 0 ∧ win0_5.index t 1 = 0 :=
  (by decide +kernel : ∀ t : Fin grid0.N, win0_5.index t 0 = 0 ∧ win0_5.index t 1 = 0)

omit H in
/-- The two sums are written back at one point only. -/
theorem once {t t' : Fin cfg0.N} (h : t.val % 16 = 15) (h' : t'.val % 16 = 15) : t = t' := by
  have := lt16 t
  have := lt16 t'
  exact Fin.ext (by omega)
omit H in
theorem once3 : ∀ t t' : Fin cfg0.N, (cfg0.win 3).flush t = true → (cfg0.win 3).flush t' = true → t ≠ t' →
    Disjoint ((cfg0.win 3).blk t).view.set ((cfg0.win 3).blk t').view.set :=
  fun t t' h h' hne => absurd (once ((flush0_3 t).1 h) ((flush0_3 t').1 h')) hne
omit H in
theorem once5 : ∀ t t' : Fin cfg0.N, (cfg0.win 5).flush t = true → (cfg0.win 5).flush t' = true → t ≠ t' →
    Disjoint ((cfg0.win 5).blk t).view.set ((cfg0.win 5).blk t').view.set :=
  fun t t' h h' hne => absurd (once ((flush0_5 t).1 h) ((flush0_5 t').1 h')) hne

/-- The last point. -/
abbrev last : Fin cfg0.N := ⟨15, lt_of_lt_of_eq (by decide : 15 < 16) N_0.symm⟩

theorem res3 (p : Fin 8) (q : Fin 128) :
    ((dats m 0 c).arrAt 3 cfg0.N (ix2 p q) : EReal) = ((1 / 2 * ∑ l, lossRow G (X l) (T l) : ℝ) : EReal) := by
  have h := congrFun ((dats m 0 c).read_blk_arrAt_eq_flushed 3 once3 cfg0.N last last.isLt ((flush0_3 last).2 rfl)) (ix2 p q)
  rw [Value.flushed3] at h
  refine Eq.trans ?_ (h.trans ?_)
  · show (dats m 0 c).arrAt 3 cfg0.N _ = (dats m 0 c).arrAt 3 cfg0.N _
    refine congrArg _ (funext fun a => Fin.ext ?_)
    match a with
    | ⟨0, _⟩ => show p.val = win0_3.index last 0 * 8 + 1 * p.val; rw [(index3 last).1]; omega
    | ⟨1, _⟩ => show q.val = win0_3.index last 1 * 128 + 1 * q.val; rw [(index3 last).2]; omega
  · refine ((sums H 15 last.isLt).1 p q).trans ?_
    rw [show (15 + 1) * 512 = 8192 from rfl, psum_all]

theorem res5 (d : Fin 1024) :
    ((dats m 0 c).arrAt 5 cfg0.N (ix2 0 d) : EReal) = ((∑ l, gainRow G (X l) (T l) d : ℝ) : EReal) := by
  have h := congrFun ((dats m 0 c).read_blk_arrAt_eq_flushed 5 once5 cfg0.N last last.isLt ((flush0_5 last).2 rfl)) (ix2 0 d)
  rw [Value.flushed5] at h
  refine Eq.trans ?_ (h.trans ?_)
  · show (dats m 0 c).arrAt 5 cfg0.N _ = (dats m 0 c).arrAt 5 cfg0.N _
    refine congrArg _ (funext fun a => Fin.ext ?_)
    match a with
    | ⟨0, _⟩ => show 0 = win0_5.index last 0 * 1 + 1 * 0; rw [(index5 last).1]
    | ⟨1, _⟩ => show d.val = win0_5.index last 1 * 1024 + 1 * d.val; rw [(index5 last).2]; omega
  · refine ((sums H 15 last.isLt).2 d).trans ?_
    rw [show (15 + 1) * 512 = 8192 from rfl, psum_all]

theorem res4_block (t : Fin cfg0.N) (r : Fin 512) (d : Fin 1024) :
    ((dats m 0 c).arrAt 4 cfg0.N (ix2 (row t r) d) : EReal) = ((dRow 1024 (X (row t r)) (cot G (X (row t r)) (T (row t r))) d : ℝ) : EReal) := by
  have h := congrFun (Value.blocks4 m c t (flush0_4 t)) (ix2 r d)
  refine Eq.trans ?_ (h.trans ?_)
  · show (dats m 0 c).arrAt 4 cfg0.N _ = (dats m 0 c).arrAt 4 cfg0.N _
    refine congrArg _ (funext fun a => Fin.ext ?_)
    match a with
    | ⟨0, _⟩ => show t.val * 512 + r.val = win0_4.index t 0 * 512 + 1 * r.val; rw [(index4 t).1]; omega
    | ⟨1, _⟩ => show d.val = win0_4.index t 1 * 1024 + 1 * d.val; rw [(index4 t).2]; omega
  · have ht := lt16 t
    by_cases h0 : t.val % 16 = 0
    · rw [Value.flushed4_A m c t h0 (by omega), first4]
      exact pay1_real (rows m H t) r d
    · rw [Value.flushed4_B m c t h0 (by omega), next4]
      exact pay1_real (rows m H t) r d

theorem res4 (l : Fin 8192) (d : Fin 1024) :
    ((dats m 0 c).arrAt 4 cfg0.N (ix2 l d) : EReal) = ((dRow 1024 (X l) (cot G (X l) (T l)) d : ℝ) : EReal) := by
  have e : l = row ⟨l.val / 512, lt_of_lt_of_eq (by omega : l.val / 512 < 16) N_0.symm⟩ ⟨l.val % 512, by omega⟩ :=
    Fin.ext (by show l.val = l.val / 512 * 512 + l.val % 512; omega)
  rw [e]
  exact res4_block H _ _ d

end Cert.Kernel3Ideal.Loss

end
-- ==== Proof.LossRef.lean ====
/- The loss's reference: its host terms, and that on real arguments they are the loss and the two gradients. -/
module

public import proofs.«01_k».proof.Proof.Gen.Reference3Ideal.Run
public import proofs.«01_k».proof.Proof.LossRead

@[expose] public section

set_option maxRecDepth 16384

noncomputable section

namespace Cert.Reference3Ideal.Loss

open Idealize.ShloMosaic Idealize.ShloMosaic.Pointwise Idealize.SL.Sem Cert.Reference3Ideal Cert.Reference3Ideal.Gen Cert.Lift Cert.Rms
open Cert.Kernel3Ideal.Loss (er lossRow cot gainRow Holds)

/-! ## The host's terms -/

abbrev Mat : Type := FVec Ideal S8192x1024 .f32
abbrev Col : Type := FVec Ideal S8192x1 .f32
abbrev Vec1 : Type := FVec Ideal S1024 .f32

def rU (x : Mat) : Col :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
def rR (u : Col) : Col := Host.rsqrt u
def rN (x : Mat) (r : Col) : Mat := mulf x (broadcastInDim S8192x1024 ![0, 1] bcast_S8192x1_S8192x1024_0_1 r)
def rGain (g : Vec1) : Mat := broadcastInDim S8192x1024 ![0, 1] bcast_S1x1024_S8192x1024_0_1 (broadcastInDim S1x1024 ![1] bcast_S1024_S1x1024_1 g)
def rE (n : Mat) (g : Vec1) (t : Mat) : Mat := subf (mulf n (rGain g)) t
def rLoss (e : Mat) : FVec Ideal S8x128 .f32 :=
  broadcastInDim S8x128 ![] bcast_S_S8x128 (mulf (constant S_ .f32 0x3F000000#32) (Host.reduceAdd (Host.divf
    (Host.reduceAdd (mulf e e) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_))
def rC (e : Mat) : Mat :=
  mulf (broadcastInDim S8192x1024 ![0] bcast_S8192_S8192x1024_0 (Host.divf (broadcastInDim S8192 ![] bcast_S_S8192
      (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) e)
def rY (k : Mat) (g : Vec1) : Mat := mulf k (rGain g)
def rG (n k : Mat) : FVec Ideal S1x1024 .f32 :=
  broadcastInDim S1x1024 ![1] bcast_S1024_S1x1024_1 (Host.reduceAdd (shapeCast S1x1024
    (Host.reduceAdd (mulf n k) (constant S_ .f32 0x00000000#32) reducesTo_S8192x1024_S1024_d0 h_S_) shapeCasts_S1024_S1x1024)
    (constant S_ .f32 0x00000000#32) reducesTo_S1x1024_S1024_d0 h_S_)
def rW (x y : Mat) (u r : Col) : Mat :=
  broadcastInDim S8192x1024 ![0] bcast_S8192_S8192x1024_0 (Host.reduceAdd (Host.divf (mulf (shapeCast S8192x1
      (Host.reduceAdd (mulf x y) (constant S_ .f32 0x00000000#32) reducesTo_S8192x1024_S8192_d1 h_S_) shapeCasts_S8192_S8192x1)
      (mulf (broadcastInDim S8192x1 ![] bcast_S_S8192x1 (constant S_ .f32 0xBF000000#32)) (Host.divf r u)))
    (broadcastInDim S8192x1 ![] bcast_S_S8192x1 (constant S_ .f32 0x44800000#32))) (constant S_ .f32 0x00000000#32) reducesTo_S8192x1_S8192_d1 h_S_)
def rX (x y w : Mat) (r : Col) : Mat :=
  addf (addf (mulf y (broadcastInDim S8192x1024 ![0, 1] bcast_S8192x1_S8192x1024_0_1 r)) (mulf x w)) (mulf w x)

section terms
variable (x : Mat) (g : Vec1) (t : Mat)
abbrev eN : Mat := rN x (rR (rU x))
abbrev eE : Mat := rE (eN x) g t
abbrev eY : Mat := rY (rC (eE x g t)) g
abbrev eX : Mat := rX x (eY x g t) (rW x (eY x g t) (rU x) (rR (rU x))) (rR (rU x))
abbrev eG : FVec Ideal S1x1024 .f32 := rG (eN x) (rC (eE x g t))
end terms

section args
variable (m : (ℓ : Loc nD τ sig) → Buf (Elt Ideal) ℓ) (c : Dev nD)
abbrev c0 : Mat := m ((c.tc : Thread nD τ).loc main_arg0)
abbrev c1 : Vec1 := m ((c.tc : Thread nD τ).loc main_arg1)
abbrev c2 : Mat := m ((c.tc : Thread nD τ).loc main_arg2)

theorem res : Value.res_main_v50 m c = eX (c0 m c) (c1 m c) (c2 m c) := by
  unfold Value.res_main_v50; rfl
end args

/-! ## The terms at real numbers -/

variable {X : Fin 8192 → Fin 1024 → ℝ} {G : Fin 1024 → ℝ} {T : Fin 8192 → Fin 1024 → ℝ} {x : Mat} {g : Vec1} {t : Mat}

theorem rU_apply (l : Fin 8192) : (rU x (ix2 l 0) : EReal)
    = Ideal.div (∑ d : Fin 1024, (x (ix2 l d) : EReal) * x (ix2 l d)) (Ideal.ofBits .f32 0x44800000#32) + Ideal.ofBits .f32 0x358637BD#32 := by
  pointwise [rU]

variable (H : Holds X G T x g t)
include H

theorem rU_real (l : Fin 8192) : (rU x (ix2 l 0) : EReal) = (ms 1024 (X l) : ℝ) := by
  rw [rU_apply, bits_1024, bits_eps]
  simp only [H.x, ← EReal.coe_mul, sum_coe, div_real _ (show (1024 : ℝ) ≠ 0 by norm_num), ← EReal.coe_add]
  rfl

theorem rR_real (l : Fin 8192) : (rR (rU x) (ix2 l 0) : EReal) = (rs 1024 (X l) : ℝ) := by
  show Ideal.rsqrt (rU x (ix2 l 0)) = _
  rw [rU_real H]
  exact rsqrt_coe (ms_pos (by norm_num) _)

theorem eN_real (l : Fin 8192) (d : Fin 1024) : (eN x (ix2 l d) : EReal) = ((X l d * rs 1024 (X l) : ℝ) : EReal) := by
  have e (r : Col) : (rN x r (ix2 l d) : EReal) = x (ix2 l d) * r (ix2 l 0) := by pointwise [rN]
  refine (e _).trans ?_
  rw [rR_real H, H.x, EReal.coe_mul]

theorem eE_real (l : Fin 8192) (d : Fin 1024) : (eE x g t (ix2 l d) : EReal) = (er G (X l) (T l) d : ℝ) := by
  have e (n : Mat) : (rE n g t (ix2 l d) : EReal) = n (ix2 l d) * g (ix1 d) - t (ix2 l d) := by pointwise [rE, rGain]
  refine (e _).trans ?_
  rw [eN_real H, H.g, H.t, ← EReal.coe_mul, ← EReal.coe_sub]
  rfl

theorem rC_real (l : Fin 8192) (d : Fin 1024) : (rC (eE x g t) (ix2 l d) : EReal) = ((er G (X l) (T l) d * (1 / 1024) : ℝ) : EReal) := by
  have e (n : Mat) : (rC n (ix2 l d) : EReal) = Ideal.div (Ideal.ofBits .f32 0x3F000000#32 * Ideal.ofBits .f32 0x3F800000#32) (Ideal.ofBits .f32 0x44800000#32)
      * (Ideal.ofBits .f32 0x40000000#32 * n (ix2 l d)) := by pointwise [rC]
  rw [e, eE_real H, bits_1024, bits_half, bits_one, bits_two, ← EReal.coe_mul, ← EReal.coe_mul, div_real _ (by norm_num), ← EReal.coe_mul]
  exact congrArg _ (by ring)

theorem eY_real (l : Fin 8192) (d : Fin 1024) : (eY x g t (ix2 l d) : EReal) = (cot G (X l) (T l) d : ℝ) := by
  have e (n : Mat) : (rY n g (ix2 l d) : EReal) = n (ix2 l d) * g (ix1 d) := by pointwise [rY, rGain]
  refine (e _).trans ?_
  rw [rC_real H, H.g, ← EReal.coe_mul]
  rfl

theorem loss_real (p : Fin 8) (q : Fin 128) : (rLoss (eE x g t) (ix2 p q) : EReal) = ((1 / 2 * ∑ l, lossRow G (X l) (T l) : ℝ) : EReal) := by
  have e (n : Mat) : (rLoss n (ix2 p q) : EReal) = Ideal.ofBits .f32 0x3F000000#32
      * ∑ l : Fin 8192, Ideal.div (∑ d : Fin 1024, (n (ix2 l d) : EReal) * n (ix2 l d)) (Ideal.ofBits .f32 0x44800000#32) := by pointwise [rLoss]
  rw [e, bits_half, bits_1024]
  simp only [eE_real H, ← EReal.coe_mul, sum_coe, div_real _ (show (1024 : ℝ) ≠ 0 by norm_num)]
  rfl

theorem gain_real (d : Fin 1024) : (eG x g t (ix2 0 d) : EReal) = ((∑ l, gainRow G (X l) (T l) d : ℝ) : EReal) := by
  have e (n k : Mat) : (rG n k (ix2 0 d) : EReal) = ∑ l : Fin 8192, (n (ix2 l d) : EReal) * k (ix2 l d) := by
    pointwise [rG]
    exact Fin.sum_univ_one _
  refine (e _ _).trans ?_
  simp only [eN_real H, rC_real H, ← EReal.coe_mul, sum_coe]
  exact congrArg _ (Finset.sum_congr rfl fun l _ => mul_comm _ _)

theorem x_real (l : Fin 8192) (d : Fin 1024) : (eX x g t (ix2 l d) : EReal) = (dRow 1024 (X l) (cot G (X l) (T l)) d : ℝ) := by
  have e (y w : Mat) (r : Col) : (rX x y w r (ix2 l d) : EReal) = y (ix2 l d) * r (ix2 l 0) + x (ix2 l d) * w (ix2 l d) + w (ix2 l d) * x (ix2 l d) := by
    pointwise [rX]
  have f (y : Mat) (u r : Col) : (rW x y u r (ix2 l d) : EReal) = Ideal.div ((∑ j : Fin 1024, (x (ix2 l j) : EReal) * y (ix2 l j))
      * (Ideal.ofBits .f32 0xBF000000#32 * Ideal.div (r (ix2 l 0)) (u (ix2 l 0)))) (Ideal.ofBits .f32 0x44800000#32) := by
    pointwise [rW]
    exact Fin.sum_univ_one _
  refine (e _ _ _).trans ?_
  rw [f, eY_real H, rR_real H, rU_real H, H.x, bits_neg_half, bits_1024]
  simp only [eY_real H, H.x, ← EReal.coe_mul, sum_coe, div_real _ (ms_pos (show (0 : ℝ) < 1024 by norm_num) (X l)).ne',
    div_real _ (show (1024 : ℝ) ≠ 0 by norm_num), ← EReal.coe_add]
  exact congrArg _ (dRow_chain (by norm_num) _ _ d)

end Cert.Reference3Ideal.Loss

end
-- ==== Proof.LossClaims.lean ====
/- The loss kernel against its reference: on finite arguments the loss and the two gradients are equal. -/
module

public import proofs.«01_k».proof.Defs
public import proofs.«01_k».proof.Proof.Gen.Pre_finite3
public import proofs.«01_k».proof.Proof.Loss
public import proofs.«01_k».proof.Proof.LossRef

@[expose] public section

set_option maxRecDepth 16384

noncomputable section

namespace Cert.Proof.LossClaims

open Idealize.ShloMosaic Idealize.ShloMosaic.Pointwise Idealize.SL.Sem
open Cert.Kernel3Ideal.Loss (Holds b0 b1 b2 res3 res4 res5)
open Cert.Reference3Ideal.Loss (eE eX eG rLoss c0 c1 c2)

theorem pre_real {x0 : FVec Ideal Cert.Pre_finite3.S8192x1024 .f32} {x1 : FVec Ideal Cert.Pre_finite3.S1024 .f32}
    {x2 : FVec Ideal Cert.Pre_finite3.S8192x1024 .f32} (h : Cert.Pre_finite3.fn x0 x1 x2 = fun _ => 1#1) :
    (∀ i, ∃ q : ℝ, x0 i = q) ∧ (∀ i, ∃ q : ℝ, x1 i = q) ∧ (∀ i, ∃ q : ℝ, x2 i = q) := by
  have : Subsingleton Cert.Pre_finite3.S_.Idx := ⟨fun a b => funext fun i => i.elim0⟩
  have h0 := congrFun h (fun a => a.elim0)
  unfold Cert.Pre_finite3.fn at h0
  obtain ⟨h0, h3⟩ := IntOp.andi_eq_one.1 h0
  obtain ⟨h1, h2⟩ := IntOp.andi_eq_one.1 h0
  exact ⟨Lift.real_of_all (fun _ => Lift.bits_inf) h1, Lift.real_of_all (fun _ => Lift.bits_inf) h2, Lift.real_of_all (fun _ => Lift.bits_inf) h3⟩

/-- Finite arguments hold real numbers. -/
theorem holds_of {m : (ℓ : Loc Cert.Kernel3Ideal.nD Cert.Kernel3Ideal.τ Cert.Kernel3Ideal.sig) → Buf (Elt Ideal) ℓ}
    (h : Cert.Pre_Kernel3Ideal_finite3 m) (c : Dev Cert.Kernel3Ideal.nD) : ∃ X G T, Holds X G T (b0 m c) (b1 m c) (b2 m c) := by
  obtain ⟨h0, h1, h2⟩ := pre_real (h c)
  choose q0 e0 using h0
  choose q1 e1 using h1
  choose q2 e2 using h2
  exact ⟨fun l d => q0 (ix2 l d), fun d => q1 (ix1 d), fun l d => q2 (ix2 l d), fun l d => e0 (ix2 l d), fun d => e1 (ix1 d), fun l d => e2 (ix2 l d)⟩

variable {m : (ℓ : Loc Cert.Kernel3Ideal.nD Cert.Kernel3Ideal.τ Cert.Kernel3Ideal.sig) → Buf (Elt Ideal) ℓ} (c : Dev Cert.Kernel3Ideal.nD)

theorem eq3 (h : Cert.Pre_Kernel3Ideal_finite3 m) :
    (Cert.Kernel3Ideal.Gen.dats m 0 c).arrAt 3 Cert.Kernel3Ideal.cfg0.N = rLoss (eE (b0 m c) (b1 m c) (b2 m c)) := by
  obtain ⟨X, G, T, H⟩ := holds_of h c
  refine funext fun i => ?_
  idx_vars i
  exact (res3 H i0 i1).trans (Reference3Ideal.Loss.loss_real H i0 i1).symm

theorem eq4 (h : Cert.Pre_Kernel3Ideal_finite3 m) :
    (Cert.Kernel3Ideal.Gen.dats m 0 c).arrAt 4 Cert.Kernel3Ideal.cfg0.N = eX (b0 m c) (b1 m c) (b2 m c) := by
  obtain ⟨X, G, T, H⟩ := holds_of h c
  refine funext fun i => ?_
  idx_vars i
  exact (res4 H i0 i1).trans (Reference3Ideal.Loss.x_real H i0 i1).symm

theorem eq5 (h : Cert.Pre_Kernel3Ideal_finite3 m) :
    (Cert.Kernel3Ideal.Gen.dats m 0 c).arrAt 5 Cert.Kernel3Ideal.cfg0.N = eG (b0 m c) (b1 m c) (b2 m c) := by
  obtain ⟨X, G, T, H⟩ := holds_of h c
  refine funext fun i => ?_
  idx_vars i
  obtain rfl : i0 = 0 := Subsingleton.elim _ _
  exact (res5 H i1).trans (Reference3Ideal.Loss.gain_real H i1).symm

theorem algebraic : Cert.algebraic_Kernel3Ideal_Reference3Ideal_pre_finite3 := by
  intro m ρ m' ρ' hpre hag
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N,
    fun c => (Cert.Kernel3Ideal.Gen.dats m 0 c).arrAt 5 Cert.Kernel3Ideal.cfg0.N, Cert.Kernel3Ideal.Value.run_blocks m ρ, ?_⟩
  refine (θ_run Cert.Reference3Ideal.defs _ _).mono (fun _ h c => ?_) (Cert.Reference3Ideal.Value.run (F := Ideal) m' ρ')
  obtain ⟨h0, h1, h2, hk⟩ := h c
  obtain ⟨a0, a1, a2⟩ := hag c
  have a0 : c0 m' c = b0 m c := a0
  have a1 : c1 m' c = b1 m c := a1
  have a2 : c2 m' c = b2 m c := a2
  refine ⟨h0.trans ?_, (h1.trans (Reference3Ideal.Loss.res m' c)).trans ?_, h2.trans ?_, hk⟩
  · refine Eq.trans ?_ (eq3 c hpre).symm
    rw [← a0, ← a1, ← a2]; rfl
  · refine Eq.trans ?_ (eq4 c hpre).symm
    rw [← a0, ← a1, ← a2]
  · refine Eq.trans ?_ (eq5 c hpre).symm
    rw [← a0, ← a1, ← a2]; rfl

end Cert.Proof.LossClaims

end
-- ==== Proof.DgradRead.lean ====
/- The blocks of the projection's backward kernel, entry by entry, and its sums over packed columns. -/
module

public import proofs.«01_k».proof.Proof.Gen.Kernel4Ideal.Value
public import proofs.«01_k».proof.Proof.RmsMath
public import proofs.«01_k».proof.Proof.Blocks

@[expose] public section

set_option maxRecDepth 16384

noncomputable section

namespace Cert.Kernel4Ideal.Dgrad

open Idealize.ShloMosaic Idealize.ShloMosaic.Tactic Idealize.ShloMosaic.Pointwise Idealize.SL.Sem Cert.Kernel4Ideal Cert.Kernel4Ideal.Gen Cert.Lift Cert.Rms

theorem hz : (![0, 0] : Fin 2 → Nat) = fun _ => 0 := funext fun a => by fin_cases a <;> rfl

/-! ## The packed order of the projection's columns -/

/-- A row of the 6304 columns in the packed order: two paddings of zeros, and the last 512 columns ahead of the 4608 before them. -/
def pk (f : Fin 6304 → ℝ) (j : Fin 6656) : ℝ :=
  if h : j.val < 640 then f ⟨j.val, by omega⟩
  else if j.val < 704 then 0
  else if h : j.val < 736 then f ⟨j.val - 64, by omega⟩
  else if j.val < 1024 then 0
  else if h : j.val < 1536 then f ⟨j.val - 352, by omega⟩
  else if h : j.val < 2048 then f ⟨j.val + 4256, by omega⟩
  else f ⟨j.val - 864, by omega⟩

theorem pk_mul (f g : Fin 6304 → ℝ) (j : Fin 6656) : pk f j * pk g j = pk (fun x => f x * g x) j := by
  unfold pk
  split_ifs <;> simp

theorem block_congr {M N b : ℕ} {F : Fin M → ℝ} {G : Fin N → ℝ} (n k : ℕ) (hM : n + b ≤ M) (hN : k + b ≤ N)
    (h : ∀ r : Fin b, F ⟨n + r.val, by omega⟩ = G ⟨k + r.val, by omega⟩) :
    (∑ r : Fin b, F ⟨n + r.val, by omega⟩) = ∑ r : Fin b, G ⟨k + r.val, by omega⟩ := Finset.sum_congr rfl fun r _ => h r

/-- The packed columns up to 2048 and the two blocks after them are all the columns. -/
theorem pk_sum (f : Fin 6304 → ℝ) : (∑ j : Fin 2048, pk f ⟨j.val, by omega⟩) + (∑ r : Fin 2304, pk f ⟨2048 + r.val, by omega⟩)
    + (∑ r : Fin 2304, pk f ⟨4352 + r.val, by omega⟩) = ∑ x, f x := by
  have e0 : psum (pk f) 2048 = ∑ j : Fin 2048, pk f ⟨j.val, by omega⟩ :=
    (psum_add (pk f) 0 2048 (by omega)).trans (by
      rw [psum_zero, zero_add]
      exact Finset.sum_congr rfl fun j _ => congrArg _ (Fin.ext (Nat.zero_add _)))
  have p1 : psum (pk f) 640 = psum f 640 := by
    unfold psum
    refine Finset.sum_congr rfl fun x hx => ?_
    have := Finset.mem_range.1 hx
    rw [dif_pos (by omega), dif_pos (by omega)]
    unfold pk
    rw [dif_pos this]
  have zero (n b : ℕ) (hn : n + b ≤ 6656) (h : 640 ≤ n ∧ n + b ≤ 704 ∨ 736 ≤ n ∧ n + b ≤ 1024) : psum (pk f) (n + b) = psum (pk f) n := by
    rw [psum_add _ n b hn, Finset.sum_eq_zero, add_zero]
    intro r _
    have := r.isLt
    unfold pk
    rcases h with h | h
    · rw [dif_neg (by dsimp only; omega), if_pos (by dsimp only; omega)]
    · rw [dif_neg (by dsimp only; omega), if_neg (by dsimp only; omega), dif_neg (by dsimp only; omega), if_pos (by dsimp only; omega)]
  have p2 := zero 640 64 (by omega) (by omega)
  have p4 := zero 736 288 (by omega) (by omega)
  have q3 := psum_add (pk f) 704 32 (by omega)
  have q5 := psum_add (pk f) 1024 512 (by omega)
  have q6 := psum_add (pk f) 1536 512 (by omega)
  have r2 := psum_add f 640 32 (by omega)
  have r3 := psum_add f 672 512 (by omega)
  have r4 := psum_add f 1184 2304 (by omega)
  have r5 := psum_add f 3488 2304 (by omega)
  have r6 := psum_add f 5792 512 (by omega)
  have s3 := block_congr (b := 32) (F := pk f) (G := f) 704 640 (by omega) (by omega) fun r => by
    unfold pk
    rw [dif_neg (by dsimp only; omega), if_neg (by dsimp only; omega), dif_pos (by dsimp only; omega)]
    exact congrArg f (Fin.ext (by dsimp only; omega))
  have s5 := block_congr (b := 512) (F := pk f) (G := f) 1024 672 (by omega) (by omega) fun r => by
    unfold pk
    rw [dif_neg (by dsimp only; omega), if_neg (by dsimp only; omega), dif_neg (by dsimp only; omega), if_neg (by dsimp only; omega), dif_pos (by dsimp only; omega)]
    exact congrArg f (Fin.ext (by dsimp only; omega))
  have s6 := block_congr (b := 512) (F := pk f) (G := f) 1536 5792 (by omega) (by omega) fun r => by
    unfold pk
    rw [dif_neg (by dsimp only; omega), if_neg (by dsimp only; omega), dif_neg (by dsimp only; omega), if_neg (by dsimp only; omega), dif_neg (by dsimp only; omega),
      dif_pos (by dsimp only; omega)]
    exact congrArg f (Fin.ext (by dsimp only; omega))
  have tail (n : ℕ) (h : 2048 ≤ n) (hn : n + 2304 ≤ 6656) := block_congr (b := 2304) (F := pk f) (G := f) n (n - 864) (by omega) (by omega) fun r => by
    unfold pk
    rw [dif_neg (by dsimp only; omega), if_neg (by dsimp only; omega), dif_neg (by dsimp only; omega), if_neg (by dsimp only; omega), dif_neg (by dsimp only; omega),
      dif_neg (by dsimp only; omega)]
    exact congrArg f (Fin.ext (by dsimp only; omega))
  have s7 := tail 2048 (by omega) (by omega)
  have s8 := tail 4352 (by omega) (by omega)
  have all := psum_all f
  norm_num only at p2 p4 q3 q5 q6 r2 r3 r4 r5 r6 s7 s8
  rw [← e0, s7, s8, ← all, q6, q5, p4, q3, p2, p1, s3, s5, s6, r6, r5, r4, r3, r2]
  ring

/-! ## The host's operands -/

variable (m : (ℓ : Loc nD τ sig) → Buf (Elt Ideal) ℓ)

abbrev b0 (c : Dev nD) : FVec Ideal S8192x6304 .f32 := m ((c.tc : Thread nD τ).loc main_arg0)
abbrev b1 (c : Dev nD) : FVec Ideal S1024x6304 .f32 := m ((c.tc : Thread nD τ).loc main_arg1)
abbrev b2 (c : Dev nD) : FVec Ideal S8192x1024 .f32 := m ((c.tc : Thread nD τ).loc main_arg2)
abbrev b3 (c : Dev nD) : FVec Ideal S1024 .f32 := m ((c.tc : Thread nD τ).loc main_arg3)
abbrev b4 (c : Dev nD) : FVec Ideal S8192x1024 .f32 := m ((c.tc : Thread nD τ).loc main_arg4)

/-- The packed cotangent. -/
def hP (a : FVec Ideal S8192x6304 .f32) : FVec Ideal S8192x6656 .bf16 :=
  truncf .bf16 (concatenate S8192x6656 1 [⟨S8192x640, extractStridedSlice S8192x640 ![0, 0] a slices_S8192x6304_S8192x640_0_0⟩,
    ⟨S8192x64, broadcastInDim S8192x64 ![] bcast_S_S8192x64 (constant S_ .f32 0x00000000#32)⟩,
    ⟨S8192x32, extractStridedSlice S8192x32 ![0, 640] a slices_S8192x6304_S8192x32_0_640⟩,
    ⟨S8192x32, broadcastInDim S8192x32 ![] bcast_S_S8192x32 (constant S_ .f32 0x00000000#32)⟩,
    ⟨S8192x256, broadcastInDim S8192x256 ![] bcast_S_S8192x256 (constant S_ .f32 0x00000000#32)⟩,
    ⟨S8192x512, extractStridedSlice S8192x512 ![0, 672] a slices_S8192x6304_S8192x512_0_672⟩,
    ⟨S8192x512, extractStridedSlice S8192x512 ![0, 5792] a slices_S8192x6304_S8192x512_0_5792⟩,
    ⟨S8192x4608, extractStridedSlice S8192x4608 ![0, 1184] a slices_S8192x6304_S8192x4608_0_1184⟩]
    concatenates_S8192x640_S8192x64_S8192x32_S8192x32_S8192x256_S8192x512_S8192x512_S8192x4608_S8192x6656_d1 : FVec Ideal S8192x6656 .f32) bitsLt_bf16_f32
/-- The packed weights. -/
def hW (a : FVec Ideal S1024x6304 .f32) : FVec Ideal S1024x6656 .bf16 :=
  truncf .bf16 (concatenate S1024x6656 1 [⟨S1024x640, extractStridedSlice S1024x640 ![0, 0] a slices_S1024x6304_S1024x640_0_0⟩,
    ⟨S1024x64, broadcastInDim S1024x64 ![] bcast_S_S1024x64 (constant S_ .f32 0x00000000#32)⟩,
    ⟨S1024x32, extractStridedSlice S1024x32 ![0, 640] a slices_S1024x6304_S1024x32_0_640⟩,
    ⟨S1024x32, broadcastInDim S1024x32 ![] bcast_S_S1024x32 (constant S_ .f32 0x00000000#32)⟩,
    ⟨S1024x256, broadcastInDim S1024x256 ![] bcast_S_S1024x256 (constant S_ .f32 0x00000000#32)⟩,
    ⟨S1024x512, extractStridedSlice S1024x512 ![0, 672] a slices_S1024x6304_S1024x512_0_672⟩,
    ⟨S1024x512, extractStridedSlice S1024x512 ![0, 5792] a slices_S1024x6304_S1024x512_0_5792⟩,
    ⟨S1024x4608, extractStridedSlice S1024x4608 ![0, 1184] a slices_S1024x6304_S1024x4608_0_1184⟩]
    concatenates_S1024x640_S1024x64_S1024x32_S1024x32_S1024x256_S1024x512_S1024x512_S1024x4608_S1024x6656_d1 : FVec Ideal S1024x6656 .f32) bitsLt_bf16_f32
/-- The share of the first 2048 packed columns. -/
def hD (p : FVec Ideal S8192x6656 .bf16) (w : FVec Ideal S1024x6656 .bf16) : FVec Ideal S8192x1024 .f32 :=
  Host.dotGeneral dot_S8192x2048_S2048x1024_S8192x1024_1_0_0_1_n_n none (extractStridedSlice S8192x2048 ![0, 0] p slices_S8192x6656_S8192x2048_0_0)
    (extractStridedSlice S2048x1024 ![0, 0] (transpose S6656x1024 [1, 0] w transposes_S1024x6656_S6656x1024_1_0) slices_S6656x1024_S2048x1024_0_0)
def hPt (p : FVec Ideal S8192x6656 .bf16) : FVec Ideal S8192x4608 .bf16 := extractStridedSlice S8192x4608 ![0, 2048] p slices_S8192x6656_S8192x4608_0_2048
def hWt (w : FVec Ideal S1024x6656 .bf16) : FVec Ideal S4608x1024 .bf16 :=
  extractStridedSlice S4608x1024 ![2048, 0] (transpose S6656x1024 [1, 0] w transposes_S1024x6656_S6656x1024_1_0) slices_S6656x1024_S4608x1024_2048_0

theorem V_v23 (c : Dev nD) : (V m c main_v23 : FVec Ideal S8192x1024 .f32) = hD (hP (b0 m c)) (hW (b1 m c)) := by
  unfold V hostOps0
  after_results_simp
  rfl
theorem V_v24 (c : Dev nD) : (V m c main_v24 : FVec Ideal S8192x4608 .bf16) = hPt (hP (b0 m c)) := by
  unfold V hostOps0
  after_results_simp
  rfl
theorem V_v25 (c : Dev nD) : (V m c main_v25 : FVec Ideal S4608x1024 .bf16) = hWt (hW (b1 m c)) := by
  unfold V hostOps0
  after_results_simp
  rfl
theorem V_v26 (c : Dev nD) : (V m c main_v26 : FVec Ideal S1x1024 .f32) = broadcastInDim S1x1024 ![1] bcast_S1024_S1x1024_1 (b3 m c) := by
  unfold V hostOps0
  after_results_simp

/-- The arguments are real numbers. -/
structure Holds (D : Fin 8192 → Fin 6304 → ℝ) (W : Fin 1024 → Fin 6304 → ℝ) (X : Fin 8192 → Fin 1024 → ℝ) (G : Fin 1024 → ℝ) (R : Fin 8192 → Fin 1024 → ℝ)
    (a0 : FVec Ideal S8192x6304 .f32) (a1 : FVec Ideal S1024x6304 .f32) (a2 : FVec Ideal S8192x1024 .f32) (a3 : FVec Ideal S1024 .f32)
    (a4 : FVec Ideal S8192x1024 .f32) : Prop where
  p : ∀ l j, (a0 (ix2 l j) : EReal) = (D l j : ℝ)
  w : ∀ d j, (a1 (ix2 d j) : EReal) = (W d j : ℝ)
  x : ∀ l d, (a2 (ix2 l d) : EReal) = (X l d : ℝ)
  g : ∀ d, (a3 (ix1 d) : EReal) = (G d : ℝ)
  r : ∀ l d, (a4 (ix2 l d) : EReal) = (R l d : ℝ)

theorem hP_real {a : FVec Ideal S8192x6304 .f32} {D : Fin 8192 → Fin 6304 → ℝ} (h : ∀ l j, (a (ix2 l j) : EReal) = (D l j : ℝ)) (l : Fin 8192) (j : Fin 6656) :
    (hP a (ix2 l j) : EReal) = (pk (D l) j : ℝ) := by
  have hj := j.isLt
  unfold hP pk
  pointwise []
  rcases (by omega : j.val < 640 ∨ (640 ≤ j.val ∧ j.val < 704) ∨ (704 ≤ j.val ∧ j.val < 736) ∨ (736 ≤ j.val ∧ j.val < 768) ∨ (768 ≤ j.val ∧ j.val < 1024)
    ∨ (1024 ≤ j.val ∧ j.val < 1536) ∨ (1536 ≤ j.val ∧ j.val < 2048) ∨ 2048 ≤ j.val) with k | k | k | k | k | k | k | k <;>
  · simp (disch := omega) only [dif_pos, dif_neg, if_pos, if_neg]
    first
      | exact EReal.coe_zero.symm
      | exact (congrArg a (congrArg _ (Fin.ext (by dsimp only <;> omega)))).trans (h _ _)

theorem hW_real {a : FVec Ideal S1024x6304 .f32} {W : Fin 1024 → Fin 6304 → ℝ} (h : ∀ l j, (a (ix2 l j) : EReal) = (W l j : ℝ)) (l : Fin 1024) (j : Fin 6656) :
    (hW a (ix2 l j) : EReal) = (pk (W l) j : ℝ) := by
  have hj := j.isLt
  unfold hW pk
  pointwise []
  rcases (by omega : j.val < 640 ∨ (640 ≤ j.val ∧ j.val < 704) ∨ (704 ≤ j.val ∧ j.val < 736) ∨ (736 ≤ j.val ∧ j.val < 768) ∨ (768 ≤ j.val ∧ j.val < 1024)
    ∨ (1024 ≤ j.val ∧ j.val < 1536) ∨ (1536 ≤ j.val ∧ j.val < 2048) ∨ 2048 ≤ j.val) with k | k | k | k | k | k | k | k <;>
  · simp (disch := omega) only [dif_pos, dif_neg, if_pos, if_neg]
    first
      | exact EReal.coe_zero.symm
      | exact (congrArg a (congrArg _ (Fin.ext (by dsimp only <;> omega)))).trans (h _ _)

theorem hD_apply (p : FVec Ideal S8192x6656 .bf16) (w : FVec Ideal S1024x6656 .bf16) (l : Fin 8192) (d : Fin 1024) :
    (hD p w (ix2 l d) : EReal) = ∑ j : Fin 2048, (p (ix2 l ⟨j.val, by omega⟩) : EReal) * w (ix2 d ⟨j.val, by omega⟩) := by
  pointwise [hD]

theorem hPt_apply (p : FVec Ideal S8192x6656 .bf16) (l : Fin 8192) (j : Fin 4608) : hPt p (ix2 l j) = p (ix2 l ⟨2048 + j.val, by omega⟩) := by
  pointwise [hPt]

theorem hWt_apply (w : FVec Ideal S1024x6656 .bf16) (j : Fin 4608) (d : Fin 1024) : hWt w (ix2 j d) = w (ix2 d ⟨2048 + j.val, by omega⟩) := by
  pointwise [hWt]

/-! ## The blocks -/

theorem lt32 (t : Fin cfg0.N) : t.val < 32 := lt_of_lt_of_eq t.isLt N_0
/-- The array's row of row `r` of the block at point `t`. -/
abbrev row (t : Fin cfg0.N) (r : Fin 512) : Fin 8192 := ⟨t.val / 2 * 512 + r.val, by have := lt32 t; omega⟩

theorem index0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = 0 :=
  (by decide +kernel : ∀ t : Fin grid0.N, win0_2.index t 0 = t.val / 2 ∧ win0_2.index t 1 = 0)
theorem index3 : ∀ t : Fin cfg0.N, win0_3.index t 0 = t.val / 2 ∧ win0_3.index t 1 = 0 :=
  (by decide +kernel : ∀ t : Fin grid0.N, win0_3.index t 0 = t.val / 2 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val / 2 ∧ win0_5.index t 1 = 0 :=
  (by decide +kernel : ∀ t : Fin grid0.N, win0_5.index t 0 = t.val / 2 ∧ win0_5.index t 1 = 0)
theorem index6 : ∀ t : Fin cfg0.N, win0_6.index t 0 = t.val / 2 ∧ win0_6.index t 1 = 0 :=
  (by decide +kernel : ∀ t : Fin grid0.N, win0_6.index t 0 = t.val / 2 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

theorem x0_apply (c : Dev nD) (t : Fin cfg0.N) (r : Fin 512) (j : Fin 2304) :
    iblk m c 0 t (ix2 r j) = (V m c main_v24 : FVec Ideal S8192x4608 .bf16) (ix2 (row t r) ⟨t.val % 2 * 2304 + j.val, by omega⟩) := by
  show V m c main_v24 _ = _
  refine congrArg _ (funext fun a => Fin.ext ?_)
  match a with
  | ⟨0, _⟩ => show win0_0.index t 0 * 512 + 1 * r.val = t.val / 2 * 512 + r.val; rw [(index0 t).1]; omega
  | ⟨1, _⟩ => show win0_0.index t 1 * 2304 + 1 * j.val = t.val % 2 * 2304 + j.val; rw [(index0 t).2]; omega

theorem x1_apply (c : Dev nD) (t : Fin cfg0.N) (j : Fin 2304) (d : Fin 1024) :
    iblk m c 1 t (ix2 j d) = (V m c main_v25 : FVec Ideal S4608x1024 .bf16) (ix2 ⟨t.val % 2 * 2304 + j.val, by omega⟩ d) := by
  show V m c main_v25 _ = _
  refine congrArg _ (funext fun a => Fin.ext ?_)
  match a with
  | ⟨0, _⟩ => show win0_1.index t 0 * 2304 + 1 * j.val = t.val % 2 * 2304 + j.val; rw [(index1 t).1]; omega
  | ⟨1, _⟩ => show win0_1.index t 1 * 1024 + 1 * d.val = d.val; rw [(index1 t).2]; omega

theorem x2_apply (c : Dev nD) (t : Fin cfg0.N) (r : Fin 512) (d : Fin 1024) :
    iblk m c 2 t (ix2 r d) = (V m c main_v23 : FVec Ideal S8192x1024 .f32) (ix2 (row t r) d) := by
  show V m c main_v23 _ = _
  refine congrArg _ (funext fun a => Fin.ext ?_)
  match a with
  | ⟨0, _⟩ => show win0_2.index t 0 * 512 + 1 * r.val = t.val / 2 * 512 + r.val; rw [(index2 t).1]; omega
  | ⟨1, _⟩ => show win0_2.index t 1 * 1024 + 1 * d.val = d.val; rw [(index2 t).2]; omega

theorem x3_apply (c : Dev nD) (t : Fin cfg0.N) (r : Fin 512) (d : Fin 1024) : iblk m c 3 t (ix2 r d) = b2 m c (ix2 (row t r) d) := by
  rw [show b2 m c = V m c main_arg2 from (V_main_arg2 m c).symm]
  show V m c main_arg2 _ = _
  refine congrArg _ (funext fun a => Fin.ext ?_)
  match a with
  | ⟨0, _⟩ => show win0_3.index t 0 * 512 + 1 * r.val = t.val / 2 * 512 + r.val; rw [(index3 t).1]; omega
  | ⟨1, _⟩ => show win0_3.index t 1 * 1024 + 1 * d.val = d.val; rw [(index3 t).2]; omega

theorem x4_apply (c : Dev nD) (t : Fin cfg0.N) (d : Fin 1024) : iblk m c 4 t (ix2 0 d) = b3 m c (ix1 d) := by
  have e : iblk m c 4 t (ix2 0 d) = (V m c main_v26 : FVec Ideal S1x1024 .f32) (ix2 0 d) := by
    show V m c main_v26 _ = _
    refine congrArg _ (funext fun a => Fin.ext ?_)
    match a with
    | ⟨0, _⟩ => show win0_4.index t 0 * 1 + 1 * 0 = 0; rw [(index4 t).1]
    | ⟨1, _⟩ => show win0_4.index t 1 * 1024 + 1 * d.val = d.val; rw [(index4 t).2]; omega
  rw [e, V_v26]
  generalize b3 m c = b
  pointwise []

theorem x5_apply (c : Dev nD) (t : Fin cfg0.N) (r : Fin 512) (d : Fin 1024) : iblk m c 5 t (ix2 r d) = b4 m c (ix2 (row t r) d) := by
  rw [show b4 m c = V m c main_arg4 from (V_main_arg4 m c).symm]
  show V m c main_arg4 _ = _
  refine congrArg _ (funext fun a => Fin.ext ?_)
  match a with
  | ⟨0, _⟩ => show win0_5.index t 0 * 512 + 1 * r.val = t.val / 2 * 512 + r.val; rw [(index5 t).1]; omega
  | ⟨1, _⟩ => show win0_5.index t 1 * 1024 + 1 * d.val = d.val; rw [(index5 t).2]; omega

/-! ## The payloads -/

/-- The share of one block of 2304 packed columns. -/
theorem pay1_apply (v0 : Vec Ideal S512x2304 .bf16) (v2 : Vec Ideal S2304x1024 .bf16) (r : Fin 512) (d : Fin 1024) :
    (k0_pay1 v0 v2 (ix2 r d) : EReal) = ∑ j : Fin 2304, (v0 (ix2 r j) : EReal) * v2 (ix2 j d) := by
  pointwise [k0_pay1]

theorem pay2_apply (d : Fin 1024) : (k0_pay2 (F := Ideal) (ix2 0 d) : EReal) = 0 := by pointwise [k0_pay2]

theorem pay3_apply (v0 : Vec Ideal S512x2304 .bf16) (v2 : Vec Ideal S2304x1024 .bf16) (v : Vec Ideal S512x1024 .f32) (r : Fin 512) (d : Fin 1024) :
    (k0_pay3 v0 v2 v (ix2 r d) : EReal) = k0_pay1 v0 v2 (ix2 r d) + v (ix2 r d) := by
  unfold k0_pay3
  generalize k0_pay1 v0 v2 = s
  pointwise []

theorem pay4_apply (v0 : Vec Ideal S512x2304 .bf16) (v2 : Vec Ideal S2304x1024 .bf16) (v : Vec Ideal S512x1024 .f32) (r : Fin 512) (d : Fin 1024) :
    (k0_pay4 v0 v2 v (ix2 r d) : EReal) = v (ix2 r d) + k0_pay1 v0 v2 (ix2 r d) := by
  unfold k0_pay4
  generalize k0_pay1 v0 v2 = s
  pointwise []

section rows
variable {y x q : Vec Ideal S512x1024 .f32} {g o : Vec Ideal S1x1024 .f32} {Y X Q : Fin 512 → Fin 1024 → ℝ} {G O : Fin 1024 → ℝ}
  (hx : ∀ r d, (x (ix2 r d) : EReal) = (X r d : ℝ)) (hy : ∀ r d, (y (ix2 r d) : EReal) = (Y r d : ℝ))
include hx

theorem pay5_real (r : Fin 512) : (k0_pay5 x (ix2 r 0) : EReal) = (rs 1024 (X r) : ℝ) := by
  have e : (k0_pay5 x (ix2 r 0) : EReal)
      = Ideal.rsqrt (Ideal.div (∑ d : Fin 1024, (x (ix2 r d) : EReal) * x (ix2 r d)) (Ideal.ofBits .f32 0x44800000#32) + Ideal.ofBits .f32 0x358637BD#32) := by
    pointwise [k0_pay5]
  rw [e, bits_1024, bits_eps]
  simp only [hx]
  exact rsqrt_ms (by norm_num) (X r)

include hy

theorem pay6_real (hq : ∀ r d, (q (ix2 r d) : EReal) = (Q r d : ℝ)) (hg : ∀ d, (g (ix2 0 d) : EReal) = (G d : ℝ)) (r : Fin 512) (d : Fin 1024) :
    (k0_pay6 y x g q (ix2 r d) : EReal) = ((Q r d + dRow 1024 (X r) (fun j => Y r j * G j) d : ℝ) : EReal) := by
  have e : (k0_pay6 y x g q (ix2 r d) : EReal)
      = q (ix2 r d) + k0_pay5 x (ix2 r 0) * (y (ix2 r d) * g (ix2 0 d))
        - x (ix2 r d) * (k0_pay5 x (ix2 r 0) * k0_pay5 x (ix2 r 0) * k0_pay5 x (ix2 r 0))
          * Ideal.div (∑ j : Fin 1024, (y (ix2 r j) : EReal) * g (ix2 0 j) * x (ix2 r j)) (Ideal.ofBits .f32 0x44800000#32) := by
    unfold k0_pay6
    generalize k0_pay5 x = s
    pointwise []
  rw [e, bits_1024]
  simp only [pay5_real hx, hx, hy, hq, hg, ← EReal.coe_mul, ← EReal.coe_sub, ← EReal.coe_add, sum_coe, div_real _ (show (1024 : ℝ) ≠ 0 by norm_num)]
  exact congrArg _ (add_sub_assoc _ _ _)

theorem pay7_real (ho : ∀ d, (o (ix2 0 d) : EReal) = (O d : ℝ)) (d : Fin 1024) :
    (k0_pay7 y x o (ix2 0 d) : EReal) = ((O d + ∑ r, Y r d * X r d * rs 1024 (X r) : ℝ) : EReal) := by
  have e : (k0_pay7 y x o (ix2 0 d) : EReal) = o (ix2 0 d) + ∑ r : Fin 512, (y (ix2 r d) : EReal) * x (ix2 r d) * k0_pay5 x (ix2 r 0) := by
    unfold k0_pay7
    generalize k0_pay5 x = s
    pointwise []
  rw [e]
  simp only [pay5_real hx, hx, hy, ho, ← EReal.coe_mul, sum_coe, ← EReal.coe_add]
end rows

end Cert.Kernel4Ideal.Dgrad

end
-- ==== Proof.Dgrad.lean ====
/- What the projection's backward kernel leaves in its two result arrays: the gradient by the input and the gradient by the gain. -/
module

public import proofs.«01_k».proof.Proof.DgradRead

@[expose] public section

set_option maxRecDepth 16384

noncomputable section

namespace Cert.Kernel4Ideal.Dgrad

open Idealize.ShloMosaic Idealize.ShloMosaic.TcCoe Idealize.ShloMosaic.Tactic Idealize.ShloMosaic.Pointwise Idealize.SL.Sem Cert.Kernel4Ideal Cert.Kernel4Ideal.Gen Cert.Lift Cert.Rms
open Idealize.ShloMosaic.Pipeline (Dat)

/-! ## What one point of the grid leaves in each output's block and in the accumulator -/

section point
variable (c : Dev nD) (i : grid0.Coords) (a2 : Memref sig .tc .vmem S512x2304 .bf16) (h2 : a2.IsWhole)
  (a3 : Memref sig .tc .vmem S2304x1024 .bf16) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S512x1024 .f32) (h8 : a8.IsWhole)
  (a9 : Memref sig .tc .vmem S1x1024 .f32) (h9 : a9.IsWhole) (a10 : Memref sig .tc .vmem S512x1024 .f32) (h10 : a10.IsWhole)
  (x0 : Vec Ideal S512x2304 .bf16) (x1 : Vec Ideal S2304x1024 .bf16) (x2 x3 : Vec Ideal S512x1024 .f32) (x4 : Vec Ideal S1x1024 .f32) (x5 : Vec Ideal S512x1024 .f32)

theorem first7 (ha : cond0_0 i) (hb : cond0_1 i) (hd : ¬cond0_2 i) (he : ¬cond0_3 i) :
    out0_A_7 c i a2 h2 a3 h3 a4 h4 a5 h5 a6 h6 a7 h7 a8 h8 a9 h9 a10 h10 ha hb hd he x0 x1 x2 x3 x4 x5 = k0_pay2 (F := Ideal) := by
  unfold out0_A_7
  rw [View.read_writes_eq_canon _ _ _ (cover0_A_7 c i a2 h2 a3 h3 a4 h4 a5 h5 a6 h6 a7 h7 a8 h8 a9 h9 a10 h10 ha hb hd he x0 x1 x2 x3 x4 x5)]
  unfold kernelRun0_A
  dsimp only
  sl_unfold_words
  rw [View.canon_unit_zero hz]

theorem first_acc (ha : cond0_0 i) (hb : cond0_1 i) (hd : ¬cond0_2 i) (he : ¬cond0_3 i) :
    sout0_A_0 c i a2 h2 a3 h3 a4 h4 a5 h5 a6 h6 a7 h7 a8 h8 a9 h9 a10 h10 ha hb hd he x0 x1 x2 x3 x4 x5 = k0_pay3 x0 x1 x2 := by
  unfold sout0_A_0
  rw [View.read_writes_eq_canon _ _ _ (scover0_A_0 c i a2 h2 a3 h3 a4 h4 a5 h5 a6 h6 a7 h7 a8 h8 a9 h9 a10 h10 ha hb hd he x0 x1 x2 x3 x4 x5)]
  unfold kernelRun0_A
  dsimp only
  sl_unfold_words
  rw [View.canon_unit_zero hz]
  simp only [View.readAt_eq_ld, h2.read_unread, h3.read_unread, h4.read_unread, h5.read_unread, h6.read_unread, h7.read_unread, h9.read_unread, h10.read_unread,
    View.readCov_unit_zero (S := S512x1024) _ hz, View.ld_unit_zero (S := S512x2304) hz, View.ld_unit_zero (S := S2304x1024) hz, View.ld_unit_zero (S := S512x1024) hz, View.ld_unit_zero (S := S1x1024) hz]

theorem even_acc (ha : ¬cond0_0 i) (hb : cond0_1 i) (hd : ¬cond0_2 i) (he : ¬cond0_3 i) :
    sout0_C_0 c i a2 h2 a3 h3 a4 h4 a5 h5 a6 h6 a7 h7 a8 h8 a9 h9 a10 h10 ha hb hd he x0 x1 x2 x3 x4 x5 = k0_pay3 x0 x1 x2 := by
  unfold sout0_C_0
  rw [View.read_writes_eq_canon _ _ _ (scover0_C_0 c i a2 h2 a3 h3 a4 h4 a5 h5 a6 h6 a7 h7 a8 h8 a9 h9 a10 h10 ha hb hd he x0 x1 x2 x3 x4 x5)]
  unfold kernelRun0_C
  dsimp only
  sl_unfold_words
  rw [View.canon_unit_zero hz]
  simp only [View.readAt_eq_ld, h2.read_unread, h3.read_unread, h4.read_unread, h5.read_unread, h6.read_unread, h7.read_unread, h9.read_unread, h10.read_unread,
    View.readCov_unit_zero (S := S512x1024) _ hz, View.ld_unit_zero (S := S512x2304) hz, View.ld_unit_zero (S := S2304x1024) hz, View.ld_unit_zero (S := S512x1024) hz, View.ld_unit_zero (S := S1x1024) hz]

variable (o7 : Vec Ideal S1x1024 .f32) (s0 : Vec Ideal S512x1024 .f32)

theorem odd6 (ha : ¬cond0_0 i) (hb : ¬cond0_1 i) (hd : cond0_2 i) (he : cond0_3 i) :
    out0_B_6 c i a2 h2 a3 h3 a4 h4 a5 h5 a6 h6 a7 h7 a8 h8 a9 h9 a10 h10 ha hb hd he x0 x1 x2 x3 x4 x5 o7 s0 = k0_pay6 (k0_pay4 x0 x1 s0) x3 x4 x5 := by
  unfold out0_B_6
  rw [View.read_writes_eq_canon _ _ _ (cover0_B_6 c i a2 h2 a3 h3 a4 h4 a5 h5 a6 h6 a7 h7 a8 h8 a9 h9 a10 h10 ha hb hd he x0 x1 x2 x3 x4 x5 o7 s0)]
  unfold kernelRun0_B
  dsimp only
  sl_unfold_words
  rw [View.canon_unit_zero hz]
  simp only [View.readAt_eq_ld, h2.read_unread, h3.read_unread, h4.read_unread, h5.read_unread, h6.read_unread, h7.read_unread, h9.read_unread, h10.read_unread,
    View.readCov_unit_zero (S := S512x1024) _ hz, View.ld_unit_zero (S := S512x2304) hz, View.ld_unit_zero (S := S2304x1024) hz, View.ld_unit_zero (S := S512x1024) hz, View.ld_unit_zero (S := S1x1024) hz]

theorem odd7 (ha : ¬cond0_0 i) (hb : ¬cond0_1 i) (hd : cond0_2 i) (he : cond0_3 i) :
    out0_B_7 c i a2 h2 a3 h3 a4 h4 a5 h5 a6 h6 a7 h7 a8 h8 a9 h9 a10 h10 ha hb hd he x0 x1 x2 x3 x4 x5 o7 s0 = k0_pay7 (k0_pay4 x0 x1 s0) x3 o7 := by
  unfold out0_B_7
  rw [View.read_writes_eq_canon _ _ _ (cover0_B_7 c i a2 h2 a3 h3 a4 h4 a5 h5 a6 h6 a7 h7 a8 h8 a9 h9 a10 h10 ha hb hd he x0 x1 x2 x3 x4 x5 o7 s0)]
  unfold kernelRun0_B
  dsimp only
  sl_unfold_words
  rw [View.canon_unit_zero hz]
  simp only [View.readAt_eq_ld, h2.read_unread, h3.read_unread, h4.read_unread, h5.read_unread, h6.read_unread, h7.read_unread, h9.read_unread, h10.read_unread,
    View.readCov_unit_zero (S := S512x1024) _ hz, View.ld_unit_zero (S := S512x2304) hz, View.ld_unit_zero (S := S2304x1024) hz, View.ld_unit_zero (S := S512x1024) hz, View.ld_unit_zero (S := S1x1024) hz]
end point

/-! ## The cotangent of the normed input -/

section prod
variable {m : (ℓ : Loc nD τ sig) → Buf (Elt Ideal) ℓ} {c : Dev nD} {D : Fin 8192 → Fin 6304 → ℝ} {W : Fin 1024 → Fin 6304 → ℝ} {X : Fin 8192 → Fin 1024 → ℝ}
  {G : Fin 1024 → ℝ} {R : Fin 8192 → Fin 1024 → ℝ}

/-- The cotangent of the projection times the transposed weights. -/
def ct (D : Fin 8192 → Fin 6304 → ℝ) (W : Fin 1024 → Fin 6304 → ℝ) (l : Fin 8192) (d : Fin 1024) : ℝ := ∑ j, D l j * W d j

/-- What the accumulator holds after the first of a row block's two points. -/
def half (D : Fin 8192 → Fin 6304 → ℝ) (W : Fin 1024 → Fin 6304 → ℝ) (l : Fin 8192) (d : Fin 1024) : ℝ :=
  (∑ r : Fin 2304, pk (fun j => D l j * W d j) ⟨2048 + r.val, by omega⟩) + ∑ j : Fin 2048, pk (fun j => D l j * W d j) ⟨j.val, by omega⟩

theorem half_rest (l : Fin 8192) (d : Fin 1024) : half D W l d + (∑ r : Fin 2304, pk (fun j => D l j * W d j) ⟨4352 + r.val, by omega⟩) = ct D W l d := by
  unfold half ct
  rw [← pk_sum, add_comm (∑ r : Fin 2304, _)]

variable (H : Holds D W X G R (b0 m c) (b1 m c) (b2 m c) (b3 m c) (b4 m c))
include H

theorem part_even (t : Fin cfg0.N) (h : t.val % 2 = 0) (r : Fin 512) (d : Fin 1024) : (k0_pay1 (iblk m c 0 t) (iblk m c 1 t) (ix2 r d) : EReal)
    = ((∑ j : Fin 2304, pk (fun j => D (row t r) j * W d j) ⟨2048 + j.val, by omega⟩ : ℝ) : EReal) := by
  rw [pay1_apply, ← sum_coe]
  refine Finset.sum_congr rfl fun j _ => ?_
  rw [x0_apply, x1_apply, V_v24, V_v25, hPt_apply, hWt_apply, hP_real H.p, hW_real H.w, ← EReal.coe_mul, pk_mul]
  exact congrArg _ (congrArg _ (Fin.ext (by dsimp only; omega)))

theorem part_odd (t : Fin cfg0.N) (h : t.val % 2 = 1) (r : Fin 512) (d : Fin 1024) : (k0_pay1 (iblk m c 0 t) (iblk m c 1 t) (ix2 r d) : EReal)
    = ((∑ j : Fin 2304, pk (fun j => D (row t r) j * W d j) ⟨4352 + j.val, by omega⟩ : ℝ) : EReal) := by
  rw [pay1_apply, ← sum_coe]
  refine Finset.sum_congr rfl fun j _ => ?_
  rw [x0_apply, x1_apply, V_v24, V_v25, hPt_apply, hWt_apply, hP_real H.p, hW_real H.w, ← EReal.coe_mul, pk_mul]
  exact congrArg _ (congrArg _ (Fin.ext (by dsimp only; omega)))

theorem acc_even (t : Fin cfg0.N) (h : t.val % 2 = 0) (r : Fin 512) (d : Fin 1024) :
    (k0_pay3 (iblk m c 0 t) (iblk m c 1 t) (iblk m c 2 t) (ix2 r d) : EReal) = (half D W (row t r) d : ℝ) := by
  rw [pay3_apply, part_even H t h, x2_apply, V_v23, hD_apply]
  simp only [hP_real H.p, hW_real H.w, ← EReal.coe_mul, pk_mul, sum_coe, ← EReal.coe_add]
  rfl

theorem acc_odd (t : Fin cfg0.N) (h : t.val % 2 = 1) (s : Vec Ideal S512x1024 .f32) (hs : ∀ r d, (s (ix2 r d) : EReal) = (half D W (row t r) d : ℝ))
    (r : Fin 512) (d : Fin 1024) : (k0_pay4 (iblk m c 0 t) (iblk m c 1 t) s (ix2 r d) : EReal) = (ct D W (row t r) d : ℝ) := by
  rw [pay4_apply, part_odd H t h, hs, ← EReal.coe_add, half_rest]

/-! ## The running sums -/

/-- A row's share of the gain's gradient. -/
def gain (D : Fin 8192 → Fin 6304 → ℝ) (W : Fin 1024 → Fin 6304 → ℝ) (X : Fin 8192 → Fin 1024 → ℝ) (d : Fin 1024) (l : Fin 8192) : ℝ :=
  ct D W l d * X l d * rs 1024 (X l)

theorem sums : ∀ (n : ℕ) (h : n < cfg0.N),
    (n % 2 = 0 → ∀ r d, ((outsAt0 m c n h).2.2 (ix2 r d) : EReal) = (half D W (row ⟨n, h⟩ r) d : ℝ))
    ∧ ∀ d, ((outsAt0 m c n h).2.1 (ix2 0 d) : EReal) = ((psum (gain D W X d) ((n + 1) / 2 * 512) : ℝ) : EReal)
  | 0, h => by
    have e := outsAt0_A m c ⟨0, h⟩ rfl rfl (by simp) (by simp)
    refine ⟨fun _ r d => ?_, fun d => ?_⟩
    · refine (congrFun (congrArg (·.2.2) e) (ix2 r d)).trans ?_
      dsimp only
      rw [first_acc]
      exact acc_even H ⟨0, h⟩ rfl r d
    · refine (congrFun (congrArg (·.2.1) e) (ix2 0 d)).trans ?_
      dsimp only
      rw [first7, pay2_apply]
      exact (congrArg (Real.toEReal ·) (psum_start (gain D W X d) 512)).symm
  | n + 1, h => by
    have hn : n + 1 < 32 := lt_of_lt_of_eq h N_0
    obtain ⟨is, i7⟩ := sums n (Nat.lt_of_succ_lt h)
    rcases Nat.mod_two_eq_zero_or_one (n + 1) with hp | hp
    · have e := outsAt0_C m c ⟨n + 1, h⟩ (by dsimp only; omega) hp (by dsimp only; omega) (by dsimp only; omega)
      refine ⟨fun _ r d => ?_, fun d => ?_⟩
      · refine (congrFun (congrArg (·.2.2) e) (ix2 r d)).trans ?_
        dsimp only
        rw [even_acc]
        exact acc_even H ⟨n + 1, h⟩ hp r d
      · refine (congrFun (congrArg (·.2.1) e) (ix2 0 d)).trans ?_
        refine (i7 d).trans ?_
        rw [show (n + 1 + 1) / 2 = (n + 1) / 2 by omega]
    · have e := outsAt0_B m c ⟨n + 1, h⟩ (by dsimp only; omega) (by dsimp only; omega) hp hp
      refine ⟨fun h0 => absurd (h0.symm.trans hp) (by decide), fun d => ?_⟩
      refine (congrFun (congrArg (·.2.1) e) (ix2 0 d)).trans ?_
      dsimp only
      rw [odd7]
      refine (pay7_real (Y := fun r => ct D W (row ⟨n + 1, h⟩ r)) (X := fun r => X (row ⟨n + 1, h⟩ r)) (O := fun d => psum (gain D W X d) ((n + 1) / 2 * 512))
        (fun r d => (x3_apply m c _ r d).trans (H.x _ _)) (acc_odd H ⟨n + 1, h⟩ hp _ fun r d => (is (by omega) r d).trans ?_) i7 d).trans ?_
      · exact congrArg (fun l => ((half D W l d : ℝ) : EReal)) (Fin.ext (by show n / 2 * 512 + r.val = (n + 1) / 2 * 512 + r.val; omega))
      · rw [show (n + 1 + 1) / 2 = (n + 1) / 2 + 1 by omega, psum_block _ ((n + 1) / 2) 512 (by omega)]
        rfl

/-! ## The result arrays -/

theorem block6 (n : ℕ) (h : n + 1 < cfg0.N) (hp : (n + 1) % 2 = 1) (r : Fin 512) (d : Fin 1024) : ((outsAt0 m c (n + 1) h).1 (ix2 r d) : EReal)
    = ((R (row ⟨n + 1, h⟩ r) d + dRow 1024 (X (row ⟨n + 1, h⟩ r)) (fun j => ct D W (row ⟨n + 1, h⟩ r) j * G j) d : ℝ) : EReal) := by
  have e := outsAt0_B m c ⟨n + 1, h⟩ (by dsimp only; omega) (by dsimp only; omega) hp hp
  obtain ⟨is, -⟩ := sums H n (Nat.lt_of_succ_lt h)
  refine (congrFun (congrArg (·.1) e) (ix2 r d)).trans ?_
  dsimp only
  rw [odd6]
  refine pay6_real (Y := fun r => ct D W (row ⟨n + 1, h⟩ r)) (X := fun r => X (row ⟨n + 1, h⟩ r)) (Q := fun r => R (row ⟨n + 1, h⟩ r)) (G := G)
    (fun r d => (x3_apply m c _ r d).trans (H.x _ _)) (acc_odd H ⟨n + 1, h⟩ hp _ fun r d => (is (by omega) r d).trans ?_)
    (fun r d => (x5_apply m c _ r d).trans (H.r _ _)) (fun d => (x4_apply m c _ d).trans (H.g _)) r d
  exact congrArg (fun l => ((half D W l d : ℝ) : EReal)) (Fin.ext (by show n / 2 * 512 + r.val = (n + 1) / 2 * 512 + r.val; omega))

omit H in
theorem once6 : ∀ t t' : Fin cfg0.N, (cfg0.win 6).flush t = true → (cfg0.win 6).flush t' = true → t ≠ t' →
    Disjoint ((cfg0.win 6).blk t).view.set ((cfg0.win 6).blk t').view.set := fun t t' h h' hne => by
  have := (flush0_6 t).1 h
  have := (flush0_6 t').1 h'
  refine (cfg0.win 6).disjoint_blk fun e => hne (Fin.ext ?_)
  have e0 : win0_6.index t 0 = win0_6.index t' 0 := congrFun e 0
  rw [(index6 t).1, (index6 t').1] at e0
  omega

omit H in
theorem once7 : ∀ t t' : Fin cfg0.N, (cfg0.win 7).flush t = true → (cfg0.win 7).flush t' = true → t ≠ t' →
    Disjoint ((cfg0.win 7).blk t).view.set ((cfg0.win 7).blk t').view.set := fun t t' h h' hne => by
  have := (flush0_7 t).1 h
  have := (flush0_7 t').1 h'
  have := lt32 t
  have := lt32 t'
  exact absurd (Fin.ext (by omega)) hne

/-- The last point. -/
abbrev last : Fin cfg0.N := ⟨31, lt_of_lt_of_eq (by decide : 31 < 32) N_0.symm⟩

theorem res7 (d : Fin 1024) : ((dats m 0 c).arrAt 7 cfg0.N (ix2 0 d) : EReal) = ((∑ l, gain D W X d l : ℝ) : EReal) := by
  have h := congrFun ((dats m 0 c).read_blk_arrAt_eq_flushed 7 once7 cfg0.N last last.isLt ((flush0_7 last).2 rfl)) (ix2 0 d)
  rw [Value.flushed7] at h
  refine Eq.trans ?_ (h.trans ?_)
  · show (dats m 0 c).arrAt 7 cfg0.N _ = (dats m 0 c).arrAt 7 cfg0.N _
    refine congrArg _ (funext fun a => Fin.ext ?_)
    match a with
    | ⟨0, _⟩ => show 0 = win0_7.index last 0 * 1 + 1 * 0; rw [(index7 last).1]
    | ⟨1, _⟩ => show d.val = win0_7.index last 1 * 1024 + 1 * d.val; rw [(index7 last).2]; omega
  · refine ((sums H 31 last.isLt).2 d).trans ?_
    rw [show (31 + 1) / 2 * 512 = 8192 from rfl, psum_all]

theorem res6_block (n : ℕ) (h : n + 1 < cfg0.N) (hp : (n + 1) % 2 = 1) (r : Fin 512) (d : Fin 1024) : ((dats m 0 c).arrAt 6 cfg0.N (ix2 (row ⟨n + 1, h⟩ r) d) : EReal)
    = ((R (row ⟨n + 1, h⟩ r) d + dRow 1024 (X (row ⟨n + 1, h⟩ r)) (fun j => ct D W (row ⟨n + 1, h⟩ r) j * G j) d : ℝ) : EReal) := by
  have e := congrFun ((dats m 0 c).read_blk_arrAt_eq_flushed 6 once6 cfg0.N ⟨n + 1, h⟩ h ((flush0_6 ⟨n + 1, h⟩).2 hp)) (ix2 r d)
  rw [Value.flushed6] at e
  refine Eq.trans ?_ (e.trans (block6 H n h hp r d))
  show (dats m 0 c).arrAt 6 cfg0.N _ = (dats m 0 c).arrAt 6 cfg0.N _
  refine congrArg _ (funext fun a => Fin.ext ?_)
  match a with
  | ⟨0, _⟩ => show (n + 1) / 2 * 512 + r.val = win0_6.index ⟨n + 1, h⟩ 0 * 512 + 1 * r.val; rw [(index6 _).1]; dsimp only; omega
  | ⟨1, _⟩ => show d.val = win0_6.index ⟨n + 1, h⟩ 1 * 1024 + 1 * d.val; rw [(index6 _).2]; omega

theorem res6 (l : Fin 8192) (d : Fin 1024) : ((dats m 0 c).arrAt 6 cfg0.N (ix2 l d) : EReal)
    = ((R l d + dRow 1024 (X l) (fun j => ct D W l j * G j) d : ℝ) : EReal) := by
  have hl := l.isLt
  have h : 2 * (l.val / 512) + 1 < cfg0.N := lt_of_lt_of_eq (by omega : _ < 32) N_0.symm
  have e : l = row ⟨2 * (l.val / 512) + 1, h⟩ ⟨l.val % 512, by omega⟩ :=
    Fin.ext (by show l.val = (2 * (l.val / 512) + 1) / 2 * 512 + l.val % 512; omega)
  have := res6_block H (2 * (l.val / 512)) h (by omega) ⟨l.val % 512, by omega⟩ d
  rwa [← e] at this
end prod

end Cert.Kernel4Ideal.Dgrad

end
-- ==== Proof.DgradRef.lean ====
/- The reference of the projection's backward pass: its host terms, and their values on real arguments. -/
module

public import proofs.«01_k».proof.Proof.Gen.Reference4Ideal.Run
public import proofs.«01_k».proof.Proof.Dgrad

@[expose] public section

set_option maxRecDepth 16384

noncomputable section

namespace Cert.Reference4Ideal.Dgrad

open Idealize.ShloMosaic Idealize.ShloMosaic.Pointwise Idealize.SL.Sem Cert.Reference4Ideal Cert.Reference4Ideal.Gen Cert.Lift Cert.Rms
open Cert.Kernel4Ideal.Dgrad (ct gain Holds)

/-! ## The host's terms -/

abbrev Mat : Type := FVec Ideal S8192x1024 .f32
abbrev Col : Type := FVec Ideal S8192x1 .f32
abbrev Vec1 : Type := FVec Ideal S1024 .f32

def rU (x : Mat) : Col :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
def rR (u : Col) : Col := Host.rsqrt u
def rN (x : Mat) (r : Col) : Mat := mulf x (broadcastInDim S8192x1024 ![0, 1] bcast_S8192x1_S8192x1024_0_1 r)
def rGain (g : Vec1) : Mat := broadcastInDim S8192x1024 ![0, 1] bcast_S1x1024_S8192x1024_0_1 (broadcastInDim S1x1024 ![1] bcast_S1024_S1x1024_1 g)
def rC (p : FVec Ideal S8192x6304 .f32) (w : FVec Ideal S1024x6304 .f32) : Mat := Host.dotGeneral dot_S8192x6304_S1024x6304_S8192x1024_1_1_0_0_n_n none p w
def rY (k : Mat) (g : Vec1) : Mat := mulf k (rGain g)
def rG (n k : Mat) : FVec Ideal S1x1024 .f32 :=
  broadcastInDim S1x1024 ![1] bcast_S1024_S1x1024_1 (Host.reduceAdd (shapeCast S1x1024
    (Host.reduceAdd (mulf n k) (constant S_ .f32 0x00000000#32) reducesTo_S8192x1024_S1024_d0 h_S_) shapeCasts_S1024_S1x1024)
    (constant S_ .f32 0x00000000#32) reducesTo_S1x1024_S1024_d0 h_S_)
def rW (x y : Mat) (u r : Col) : Mat :=
  broadcastInDim S8192x1024 ![0] bcast_S8192_S8192x1024_0 (Host.reduceAdd (Host.divf (mulf (shapeCast S8192x1
      (Host.reduceAdd (mulf x y) (constant S_ .f32 0x00000000#32) reducesTo_S8192x1024_S8192_d1 h_S_) shapeCasts_S8192_S8192x1)
      (mulf (broadcastInDim S8192x1 ![] bcast_S_S8192x1 (constant S_ .f32 0xBF000000#32)) (Host.divf r u)))
    (broadcastInDim S8192x1 ![] bcast_S_S8192x1 (constant S_ .f32 0x44800000#32))) (constant S_ .f32 0x00000000#32) reducesTo_S8192x1_S8192_d1 h_S_)
def rX (q x y w : Mat) (r : Col) : Mat :=
  addf (addf (addf q (mulf y (broadcastInDim S8192x1024 ![0, 1] bcast_S8192x1_S8192x1024_0_1 r))) (mulf x w)) (mulf w x)

section terms
variable (p : FVec Ideal S8192x6304 .f32) (w : FVec Ideal S1024x6304 .f32) (x : Mat) (g : Vec1) (q : Mat)
abbrev eN : Mat := rN x (rR (rU x))
abbrev eY : Mat := rY (rC p w) g
abbrev eX : Mat := rX q x (eY p w g) (rW x (eY p w g) (rU x) (rR (rU x))) (rR (rU x))
abbrev eG : FVec Ideal S1x1024 .f32 := rG (eN x) (rC p w)
end terms

section args
variable (m : (ℓ : Loc nD τ sig) → Buf (Elt Ideal) ℓ) (c : Dev nD)
abbrev c0 : FVec Ideal S8192x6304 .f32 := m ((c.tc : Thread nD τ).loc main_arg0)
abbrev c1 : FVec Ideal S1024x6304 .f32 := m ((c.tc : Thread nD τ).loc main_arg1)
abbrev c2 : Mat := m ((c.tc : Thread nD τ).loc main_arg2)
abbrev c3 : Vec1 := m ((c.tc : Thread nD τ).loc main_arg3)
abbrev c4 : Mat := m ((c.tc : Thread nD τ).loc main_arg4)

theorem res : Value.res_main_v38 m c = eX (c0 m c) (c1 m c) (c2 m c) (c3 m c) (c4 m c) := by
  unfold Value.res_main_v38; rfl
end args

/-! ## The terms at real numbers -/

variable {D : Fin 8192 → Fin 6304 → ℝ} {W : Fin 1024 → Fin 6304 → ℝ} {X : Fin 8192 → Fin 1024 → ℝ} {G : Fin 1024 → ℝ} {R : Fin 8192 → Fin 1024 → ℝ}
  {p : FVec Ideal S8192x6304 .f32} {w : FVec Ideal S1024x6304 .f32} {x : Mat} {g : Vec1} {q : Mat}

theorem rU_apply (l : Fin 8192) : (rU x (ix2 l 0) : EReal)
    = Ideal.div (∑ d : Fin 1024, (x (ix2 l d) : EReal) * x (ix2 l d)) (Ideal.ofBits .f32 0x44800000#32) + Ideal.ofBits .f32 0x358637BD#32 := by
  pointwise [rU]

variable (H : Holds D W X G R p w x g q)
include H

theorem rU_real (l : Fin 8192) : (rU x (ix2 l 0) : EReal) = (ms 1024 (X l) : ℝ) := by
  rw [rU_apply, bits_1024, bits_eps]
  simp only [H.x, ← EReal.coe_mul, sum_coe, div_real _ (show (1024 : ℝ) ≠ 0 by norm_num), ← EReal.coe_add]
  rfl

theorem rR_real (l : Fin 8192) : (rR (rU x) (ix2 l 0) : EReal) = (rs 1024 (X l) : ℝ) := by
  show Ideal.rsqrt (rU x (ix2 l 0)) = _
  rw [rU_real H]
  exact rsqrt_coe (ms_pos (by norm_num) _)

theorem eN_real (l : Fin 8192) (d : Fin 1024) : (eN x (ix2 l d) : EReal) = ((X l d * rs 1024 (X l) : ℝ) : EReal) := by
  have e (r : Col) : (rN x r (ix2 l d) : EReal) = x (ix2 l d) * r (ix2 l 0) := by pointwise [rN]
  refine (e _).trans ?_
  rw [rR_real H, H.x, EReal.coe_mul]

theorem rC_real (l : Fin 8192) (d : Fin 1024) : (rC p w (ix2 l d) : EReal) = (ct D W l d : ℝ) := by
  have e : (rC p w (ix2 l d) : EReal) = ∑ j : Fin 6304, (p (ix2 l j) : EReal) * w (ix2 d j) := by pointwise [rC]
  rw [e]
  simp only [H.p, H.w, ← EReal.coe_mul, sum_coe]
  rfl

theorem eY_real (l : Fin 8192) (d : Fin 1024) : (eY p w g (ix2 l d) : EReal) = ((ct D W l d * G d : ℝ) : EReal) := by
  have e (n : Mat) : (rY n g (ix2 l d) : EReal) = n (ix2 l d) * g (ix1 d) := by pointwise [rY, rGain]
  refine (e _).trans ?_
  rw [rC_real H, H.g, ← EReal.coe_mul]

theorem gain_real (d : Fin 1024) : (eG p w x (ix2 0 d) : EReal) = ((∑ l, gain D W X d l : ℝ) : EReal) := by
  have e (n k : Mat) : (rG n k (ix2 0 d) : EReal) = ∑ l : Fin 8192, (n (ix2 l d) : EReal) * k (ix2 l d) := by
    pointwise [rG]
    exact Fin.sum_univ_one _
  refine (e _ _).trans ?_
  simp only [eN_real H, rC_real H, ← EReal.coe_mul, sum_coe]
  exact congrArg _ (Finset.sum_congr rfl fun l _ => by unfold gain; ring)

theorem x_real (l : Fin 8192) (d : Fin 1024) : (eX p w x g q (ix2 l d) : EReal) = ((R l d + dRow 1024 (X l) (fun j => ct D W l j * G j) d : ℝ) : EReal) := by
  have e (y v : Mat) (r : Col) : (rX q x y v r (ix2 l d) : EReal)
      = q (ix2 l d) + y (ix2 l d) * r (ix2 l 0) + x (ix2 l d) * v (ix2 l d) + v (ix2 l d) * x (ix2 l d) := by
    pointwise [rX]
  have f (y : Mat) (u r : Col) : (rW x y u r (ix2 l d) : EReal) = Ideal.div ((∑ j : Fin 1024, (x (ix2 l j) : EReal) * y (ix2 l j))
      * (Ideal.ofBits .f32 0xBF000000#32 * Ideal.div (r (ix2 l 0)) (u (ix2 l 0)))) (Ideal.ofBits .f32 0x44800000#32) := by
    pointwise [rW]
    exact Fin.sum_univ_one _
  refine (e _ _ _).trans ?_
  rw [f, eY_real H, rR_real H, rU_real H, H.x, H.r, bits_neg_half, bits_1024]
  simp only [eY_real H, H.x, ← EReal.coe_mul, sum_coe, div_real _ (ms_pos (show (0 : ℝ) < 1024 by norm_num) (X l)).ne',
    div_real _ (show (1024 : ℝ) ≠ 0 by norm_num), ← EReal.coe_add]
  refine congrArg _ ?_
  rw [add_assoc (R l d + _), add_assoc (R l d), ← add_assoc (ct D W l d * G d * _)]
  exact congrArg (R l d + ·) (dRow_chain (show (0 : ℝ) < 1024 by norm_num) (X l) (fun j => ct D W l j * G j) d)

end Cert.Reference4Ideal.Dgrad

end
-- ==== Proof.DgradClaims.lean ====
/- The projection's backward kernel against its reference: on finite arguments the two gradients are equal. -/
module

public import proofs.«01_k».proof.Defs
public import proofs.«01_k».proof.Proof.Gen.Pre_finite4
public import proofs.«01_k».proof.Proof.Dgrad
public import proofs.«01_k».proof.Proof.DgradRef

@[expose] public section

set_option maxRecDepth 16384

noncomputable section

namespace Cert.Proof.DgradClaims

open Idealize.ShloMosaic Idealize.ShloMosaic.Pointwise Idealize.SL.Sem
open Cert.Kernel4Ideal.Dgrad (Holds b0 b1 b2 b3 b4 res6 res7)
open Cert.Reference4Ideal.Dgrad (eX eG c0 c1 c2 c3 c4)

theorem pre_real {x0 : FVec Ideal Cert.Pre_finite4.S8192x6304 .f32} {x1 : FVec Ideal Cert.Pre_finite4.S1024x6304 .f32}
    {x2 : FVec Ideal Cert.Pre_finite4.S8192x1024 .f32} {x3 : FVec Ideal Cert.Pre_finite4.S1024 .f32} {x4 : FVec Ideal Cert.Pre_finite4.S8192x1024 .f32}
    (h : Cert.Pre_finite4.fn x0 x1 x2 x3 x4 = fun _ => 1#1) :
    (∀ i, ∃ q : ℝ, x0 i = q) ∧ (∀ i, ∃ q : ℝ, x1 i = q) ∧ (∀ i, ∃ q : ℝ, x2 i = q) ∧ (∀ i, ∃ q : ℝ, x3 i = q) ∧ (∀ i, ∃ q : ℝ, x4 i = q) := by
  have : Subsingleton Cert.Pre_finite4.S_.Idx := ⟨fun a b => funext fun i => i.elim0⟩
  have h0 := congrFun h (fun a => a.elim0)
  unfold Cert.Pre_finite4.fn at h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨Lift.real_of_all (fun _ => Lift.bits_inf) h1, Lift.real_of_all (fun _ => Lift.bits_inf) h2, Lift.real_of_all (fun _ => Lift.bits_inf) h3,
    Lift.real_of_all (fun _ => Lift.bits_inf) h4, Lift.real_of_all (fun _ => Lift.bits_inf) h5⟩

/-- Finite arguments hold real numbers. -/
theorem holds_of {m : (ℓ : Loc Cert.Kernel4Ideal.nD Cert.Kernel4Ideal.τ Cert.Kernel4Ideal.sig) → Buf (Elt Ideal) ℓ}
    (h : Cert.Pre_Kernel4Ideal_finite4 m) (c : Dev Cert.Kernel4Ideal.nD) : ∃ D W X G R, Holds D W X G R (b0 m c) (b1 m c) (b2 m c) (b3 m c) (b4 m c) := by
  obtain ⟨h0, h1, h2, h3, h4⟩ := pre_real (h c)
  choose q0 e0 using h0
  choose q1 e1 using h1
  choose q2 e2 using h2
  choose q3 e3 using h3
  choose q4 e4 using h4
  exact ⟨fun l d => q0 (ix2 l d), fun l d => q1 (ix2 l d), fun l d => q2 (ix2 l d), fun d => q3 (ix1 d), fun l d => q4 (ix2 l d),
    fun l d => e0 (ix2 l d), fun l d => e1 (ix2 l d), fun l d => e2 (ix2 l d), fun d => e3 (ix1 d), fun l d => e4 (ix2 l d)⟩

variable {m : (ℓ : Loc Cert.Kernel4Ideal.nD Cert.Kernel4Ideal.τ Cert.Kernel4Ideal.sig) → Buf (Elt Ideal) ℓ} (c : Dev Cert.Kernel4Ideal.nD)

theorem eq6 (h : Cert.Pre_Kernel4Ideal_finite4 m) :
    (Cert.Kernel4Ideal.Gen.dats m 0 c).arrAt 6 Cert.Kernel4Ideal.cfg0.N = eX (b0 m c) (b1 m c) (b2 m c) (b3 m c) (b4 m c) := by
  obtain ⟨D, W, X, G, R, H⟩ := holds_of h c
  refine funext fun i => ?_
  idx_vars i
  exact (res6 H i0 i1).trans (Reference4Ideal.Dgrad.x_real H i0 i1).symm

theorem eq7 (h : Cert.Pre_Kernel4Ideal_finite4 m) :
    (Cert.Kernel4Ideal.Gen.dats m 0 c).arrAt 7 Cert.Kernel4Ideal.cfg0.N = eG (b0 m c) (b1 m c) (b2 m c) := by
  obtain ⟨D, W, X, G, R, H⟩ := holds_of h c
  refine funext fun i => ?_
  idx_vars i
  obtain rfl : i0 = 0 := Subsingleton.elim _ _
  exact (res7 H i1).trans (Reference4Ideal.Dgrad.gain_real H i1).symm

theorem algebraic : Cert.algebraic_Kernel4Ideal_Reference4Ideal_pre_finite4 := by
  intro m ρ m' ρ' hpre hag
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    Cert.Kernel4Ideal.Value.run_blocks m ρ, ?_⟩
  refine (θ_run Cert.Reference4Ideal.defs _ _).mono (fun _ h c => ?_) (Cert.Reference4Ideal.Value.run (F := Ideal) m' ρ')
  obtain ⟨h0, h1, hk⟩ := h c
  obtain ⟨a0, a1, a2, a3, a4⟩ := hag c
  have a0 : c0 m' c = b0 m c := a0
  have a1 : c1 m' c = b1 m c := a1
  have a2 : c2 m' c = b2 m c := a2
  have a3 : c3 m' c = b3 m c := a3
  have a4 : c4 m' c = b4 m c := a4
  refine ⟨(h0.trans (Reference4Ideal.Dgrad.res m' c)).trans ?_, h1.trans ?_, hk⟩
  · refine Eq.trans ?_ (eq6 c hpre).symm
    rw [← a0, ← a1, ← a2, ← a3, ← a4]
  · refine Eq.trans ?_ (eq7 c hpre).symm
    rw [← a0, ← a1, ← a2]; rfl

end Cert.Proof.DgradClaims

end
-- ==== Proof.DilPrepRead.lean ====
/- What the kernel of the dilated attention's preparation gradient stores: at each column of its output block, the column of
   the operand block it comes from, turned back with the two neighbours eight lanes away and scaled, by the operand's kind
   (query, key, value). -/
module

public import proofs.«01_k».proof.Proof.Gen.Kernel5Ideal.Value
public import proofs.«01_k».proof.Proof.Lift

@[expose] public section

set_option maxRecDepth 16384

noncomputable section

namespace Cert.Kernel5Ideal.DilPrep

open Idealize.ShloMosaic Idealize.ShloMosaic.Pointwise Idealize.SL.Sem Cert.Kernel5Ideal Cert.Kernel5Ideal.Gen

/-- The logarithm of 2, as the kernel's named constant. -/
abbrev ln2 : EReal := ((Real.log 2 : ℝ) : EReal)

abbrev eighth : EReal := Ideal.ofBits .f32 0x3E000000#32

theorem ln2_named : (Named.named κ "ln2" 0x3F317218#32 : Ideal .f32) = ln2 :=
  IdealRules.named_const.ideal_named_scalar κ "ln2" _ _ rfl

/-- An entry turned back: `x` itself, `p` the entry eight lanes on, `q` the entry eight lanes before. -/
abbrev back (c a b x p q : EReal) : EReal := x * c + p * a + q * b

/-- An entry of the result: kind 0 a query, 1 a key, 2 a value. -/
abbrev entry (k : ℕ) (c a b x p q : EReal) : EReal :=
  if k = 0 then back c a b x p q * eighth else if k = 1 then back c a b x p q * ln2 else x

abbrev on (l : Fin 128) : Fin 128 := ⟨(l.val + 128 - 120) % 128, Nat.mod_lt _ (by omega)⟩
abbrev before (l : Fin 128) : Fin 128 := ⟨(l.val + 128 - 8) % 128, Nat.mod_lt _ (by omega)⟩

theorem pay6_apply (c a b : FVec Ideal S512x128 .f32) (x : FVec Ideal S512x128 .bf16) (r : Fin 512) (l : Fin 128) :
    (k0_pay6 c a b x (ix2 r l) : EReal)
      = back (c (ix2 r l)) (a (ix2 r l)) (b (ix2 r l)) (x (ix2 r l)) (x (ix2 r (on l))) (x (ix2 r (before l))) * eighth := by
  pointwise [k0_pay6]

theorem pay8_apply (c a b : FVec Ideal S512x128 .f32) (x : FVec Ideal S512x128 .bf16) (r : Fin 512) (l : Fin 128) :
    (k0_pay8 c a b x (ix2 r l) : EReal)
      = back (c (ix2 r l)) (a (ix2 r l)) (b (ix2 r l)) (x (ix2 r l)) (x (ix2 r (on l))) (x (ix2 r (before l))) * ln2 := by
  rw [← ln2_named]
  pointwise [k0_pay8]

theorem pay15_apply (x : FVec Ideal S512x128 .bf16) (i : S512x128.Idx) : (k0_pay15 (F := Ideal) x i : EReal) = x i := by
  idx_vars i
  pointwise [k0_pay15]

theorem tab (x : FVec Ideal S512x128 .f32) : k0_pay1 x = x ∧ k0_pay2 x = x ∧ k0_pay3 x = x := by
  refine ⟨funext fun i => ?_, funext fun i => ?_, funext fun i => ?_⟩ <;> idx_vars i
  · pointwise [k0_pay1]
  · pointwise [k0_pay2]
  · pointwise [k0_pay3]

/-! ## The output block -/

section Pieces

variable (X : Fin 9 → Vec Ideal S512x512 .bf16) (c a b : Vec Ideal S512x128 .f32)

/-- The output block: column `j` comes from operand block `j / 512`. -/
def blockAt (r : Fin 512) (j : Fin 4608) : EReal :=
  let l : Fin 128 := ⟨j.val % 128, Nat.mod_lt _ (by omega)⟩
  let x : Fin 128 → EReal := fun e => X ⟨j.val / 512, by omega⟩ (ix2 r ⟨j.val % 512 / 128 * 128 + e.val, by omega⟩)
  entry (j.val / 512 % 3) (c (ix2 r l)) (a (ix2 r l)) (b (ix2 r l)) (x l) (x (on l)) (x (before l))

def blockOf (y : S512x4608.Idx) : EReal := blockAt X c a b (y 0) (y 1)

theorem hz : (![0, 0] : Fin 2 → Nat) = fun _ => 0 := by
  funext i
  match i with
  | 0 => rfl
  | 1 => rfl

theorem blockOf_emb (n : Fin 9) (cb : Fin 4) (h : ∀ i, (![0, n.val * 512 + cb.val * 128] : Fin 2 → ℕ) i + S512x128.size i ≤ S512x4608.size i)
    (r : Fin 512) (l : Fin 128) :
    blockOf X c a b ((Rect.unit (s := S512x4608) ![0, n.val * 512 + cb.val * 128] S512x128.size h).emb (ix2 r l))
      = entry (n.val % 3) (c (ix2 r l)) (a (ix2 r l)) (b (ix2 r l)) (X n (ix2 r ⟨cb.val * 128 + l.val, by omega⟩))
        (X n (ix2 r ⟨cb.val * 128 + (on l).val, by have := (on l).isLt; omega⟩))
        (X n (ix2 r ⟨cb.val * 128 + (before l).val, by have := (before l).isLt; omega⟩)) := by
  have e : (Rect.unit (s := S512x4608) ![0, n.val * 512 + cb.val * 128] S512x128.size h).emb (ix2 r l)
      = ix2 r ⟨n.val * 512 + cb.val * 128 + l.val, by omega⟩ := funext fun k => Fin.ext <| by
    match k with
    | ⟨0, _⟩ => show 0 + 1 * r.val = r.val; omega
    | ⟨1, _⟩ => show n.val * 512 + cb.val * 128 + 1 * l.val = n.val * 512 + cb.val * 128 + l.val; omega
  rw [e]
  have e5 : (n.val * 512 + cb.val * 128 + l.val) % 128 = l.val := by omega
  have e6 : (n.val * 512 + cb.val * 128 + l.val) % 512 / 128 * 128 = cb.val * 128 := by omega
  have e4 : (n.val * 512 + cb.val * 128 + l.val) / 512 = n.val := by omega
  show blockAt X c a b r ⟨n.val * 512 + cb.val * 128 + l.val, _⟩ = _
  unfold blockAt
  dsimp only
  simp only [e4, e5, e6]

theorem ld_at (n : Fin 9) (cb : Fin 4) (h : ∀ i, (![0, cb.val * 128] : Fin 2 → ℕ) i + S512x128.size i ≤ S512x512.size i) (r : Fin 512) (l : Fin 128) :
    View.ld (X n) (Rect.unit (s := S512x512) ![0, cb.val * 128] S512x128.size h) (ix2 r l) = X n (ix2 r ⟨cb.val * 128 + l.val, by omega⟩) := by
  refine congrArg (X n) (funext fun k => Fin.ext ?_)
  match k with
  | ⟨0, _⟩ => show 0 + 1 * r.val = r.val; omega
  | ⟨1, _⟩ => show cb.val * 128 + 1 * l.val = cb.val * 128 + l.val; omega

variable {o o' : ℕ} {V : Vec Ideal S512x512 .bf16}

theorem piece_q (n : Fin 9) (cb : Fin 4) (hn : n.val % 3 = 0) (hV : X n = V)
    (ho : o = cb.val * 128) (ho' : o' = n.val * 512 + cb.val * 128)
    (h : ∀ i, (![0, o] : Fin 2 → ℕ) i + S512x128.size i ≤ S512x512.size i)
    (h' : ∀ i, (![0, o'] : Fin 2 → ℕ) i + S512x128.size i ≤ S512x4608.size i) (x : S512x128.Idx) :
    (k0_pay6 (k0_pay1 (View.ld c r0_0)) (k0_pay2 (View.ld a r0_0)) (k0_pay3 (View.ld b r0_0))
        (View.ld V (Rect.unit (s := S512x512) ![0, o] S512x128.size h)) x : EReal)
      = blockOf X c a b ((Rect.unit (s := S512x4608) ![0, o'] S512x128.size h').emb x) := by
  subst hV ho ho'
  idx_vars x
  rw [(tab _).1, (tab _).2.1, (tab _).2.2, View.ld_unit_zero hz, View.ld_unit_zero hz, View.ld_unit_zero hz]
  refine (pay6_apply _ _ _ _ x0 x1).trans ?_
  rw [ld_at, ld_at, ld_at, blockOf_emb, hn]
  rfl

theorem piece_k (n : Fin 9) (cb : Fin 4) (hn : n.val % 3 = 1) (hV : X n = V)
    (ho : o = cb.val * 128) (ho' : o' = n.val * 512 + cb.val * 128)
    (h : ∀ i, (![0, o] : Fin 2 → ℕ) i + S512x128.size i ≤ S512x512.size i)
    (h' : ∀ i, (![0, o'] : Fin 2 → ℕ) i + S512x128.size i ≤ S512x4608.size i) (x : S512x128.Idx) :
    (k0_pay8 (k0_pay1 (View.ld c r0_0)) (k0_pay2 (View.ld a r0_0)) (k0_pay3 (View.ld b r0_0))
        (View.ld V (Rect.unit (s := S512x512) ![0, o] S512x128.size h)) x : EReal)
      = blockOf X c a b ((Rect.unit (s := S512x4608) ![0, o'] S512x128.size h').emb x) := by
  subst hV ho ho'
  idx_vars x
  rw [(tab _).1, (tab _).2.1, (tab _).2.2, View.ld_unit_zero hz, View.ld_unit_zero hz, View.ld_unit_zero hz]
  refine (pay8_apply _ _ _ _ x0 x1).trans ?_
  rw [ld_at, ld_at, ld_at, blockOf_emb, hn]
  rfl

theorem piece_v (n : Fin 9) (cb : Fin 4) (hn : n.val % 3 = 2) (hV : X n = V)
    (ho : o = cb.val * 128) (ho' : o' = n.val * 512 + cb.val * 128)
    (h : ∀ i, (![0, o] : Fin 2 → ℕ) i + S512x128.size i ≤ S512x512.size i)
    (h' : ∀ i, (![0, o'] : Fin 2 → ℕ) i + S512x128.size i ≤ S512x4608.size i) (x : S512x128.Idx) :
    (k0_pay15 (F := Ideal) (View.ld V (Rect.unit (s := S512x512) ![0, o] S512x128.size h)) x : EReal)
      = blockOf X c a b ((Rect.unit (s := S512x4608) ![0, o'] S512x128.size h').emb x) := by
  subst hV ho ho'
  idx_vars x
  refine (pay15_apply _ _).trans ?_
  rw [ld_at, blockOf_emb, hn]
  rfl

end Pieces

theorem out_apply (x0 x1 x2 x3 x4 x5 x6 x7 x8 : Vec Ideal S512x512 .bf16) (c a b : Vec Ideal S512x128 .f32) (y : S512x4608.Idx) :
    (out0_12 x0 x1 x2 x3 x4 x5 x6 x7 x8 c a b y : EReal) = blockOf ![x0, x1, x2, x3, x4, x5, x6, x7, x8] c a b y := by
  unfold out0_12
  refine View.canon_apply_of_pieces (Val := Elt Ideal) (S := S512x4608) (e := .bf16)
    (blockOf ![x0, x1, x2, x3, x4, x5, x6, x7, x8] c a b) _ ?_ y ?_
  let X : Fin 9 → Vec Ideal S512x512 .bf16 := ![x0, x1, x2, x3, x4, x5, x6, x7, x8]
  · simp only [List.forall_mem_cons]
    exact ⟨piece_v X c a b 8 3 rfl rfl rfl rfl _ _, piece_v X c a b 8 2 rfl rfl rfl rfl _ _, piece_v X c a b 8 1 rfl rfl rfl rfl _ _, piece_v X c a b 8 0 rfl rfl rfl rfl _ _,
    piece_k X c a b 7 3 rfl rfl rfl rfl _ _, piece_k X c a b 7 2 rfl rfl rfl rfl _ _, piece_k X c a b 7 1 rfl rfl rfl rfl _ _, piece_k X c a b 7 0 rfl rfl rfl rfl _ _,
    piece_q X c a b 6 3 rfl rfl rfl rfl _ _, piece_q X c a b 6 2 rfl rfl rfl rfl _ _, piece_q X c a b 6 1 rfl rfl rfl rfl _ _, piece_q X c a b 6 0 rfl rfl rfl rfl _ _,
    piece_v X c a b 5 3 rfl rfl rfl rfl _ _, piece_v X c a b 5 2 rfl rfl rfl rfl _ _, piece_v X c a b 5 1 rfl rfl rfl rfl _ _, piece_v X c a b 5 0 rfl rfl rfl rfl _ _,
    piece_k X c a b 4 3 rfl rfl rfl rfl _ _, piece_k X c a b 4 2 rfl rfl rfl rfl _ _, piece_k X c a b 4 1 rfl rfl rfl rfl _ _, piece_k X c a b 4 0 rfl rfl rfl rfl _ _,
    piece_q X c a b 3 3 rfl rfl rfl rfl _ _, piece_q X c a b 3 2 rfl rfl rfl rfl _ _, piece_q X c a b 3 1 rfl rfl rfl rfl _ _, piece_q X c a b 3 0 rfl rfl rfl rfl _ _,
    piece_v X c a b 2 3 rfl rfl rfl rfl _ _, piece_v X c a b 2 2 rfl rfl rfl rfl _ _, piece_v X c a b 2 1 rfl rfl rfl rfl _ _, piece_v X c a b 2 0 rfl rfl rfl rfl _ _,
    piece_k X c a b 1 3 rfl rfl rfl rfl _ _, piece_k X c a b 1 2 rfl rfl rfl rfl _ _, piece_k X c a b 1 1 rfl rfl rfl rfl _ _, piece_k X c a b 1 0 rfl rfl rfl rfl _ _,
    piece_q X c a b 0 3 rfl rfl rfl rfl _ _, piece_q X c a b 0 2 rfl rfl rfl rfl _ _, piece_q X c a b 0 1 rfl rfl rfl rfl _ _, piece_q X c a b 0 0 rfl rfl rfl rfl _ _, List.forall_mem_nil _⟩
  · exact cover0_12 _ _ _ _ _ _ _ _ _ _ _ _ _ _ _ _ _ _ _ _ _ _ _ _ _ _ _ _ _ _ _ _ _ _ _ _ y

end Cert.Kernel5Ideal.DilPrep

end
-- ==== Proof.DilPrep.lean ====
/- The gradient through the preparation of the dilated attention's queries, keys and values: what the host hands to the
   kernel (the rotation's tables, the nine column groups) and the whole result array, entry by entry. -/
module

public import proofs.«01_k».proof.Proof.DilPrepRead

@[expose] public section

set_option maxRecDepth 16384

noncomputable section

namespace Cert.Kernel5Ideal.DilPrep

open Idealize.ShloMosaic Idealize.ShloMosaic.Pointwise Idealize.SL.Sem Cert.Kernel5Ideal Cert.Kernel5Ideal.Gen
open Idealize.ShloMosaic.Pipeline (Dat)

variable (m : (ℓ : Loc nD τ sig) → Buf (Elt Ideal) ℓ)

abbrev gq (c : Dev nD) : FVec Ideal S8192x24x64 .f32 := m ((c.tc : Thread nD τ).loc main_arg0)
abbrev gk (c : Dev nD) : FVec Ideal S8192x24x64 .f32 := m ((c.tc : Thread nD τ).loc main_arg1)
abbrev gv (c : Dev nD) : FVec Ideal S8192x24x64 .f32 := m ((c.tc : Thread nD τ).loc main_arg2)

/-! ## The host's lines -/

/-- The rotation's angles, by row and pair. -/
def angle : FVec Ideal S8192x8 .f32 := mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32)))))))

variable (C S : FVec Ideal S8192x8 .f32)

/-- A table of 64 columns repeated for the two heads of 128 lanes. -/
abbrev tile (T : FVec Ideal S8192x64 .f32) : FVec Ideal S8192x128 .f32 :=
  shapeCast S8192x128 (broadcastInDim S1x8192x2x64 ![0, 1, 2, 3] bcast_S1x8192x1x64_S1x8192x2x64_0_1_2_3
    (shapeCast S1x8192x1x64 T shapeCasts_S8192x64_S1x8192x1x64)) shapeCasts_S1x8192x2x64_S8192x128

def tabC : FVec Ideal S8192x128 .f32 := tile (concatenate S8192x64 1
  [⟨S8192x0, broadcastInDim S8192x0 ![] bcast_S_S8192x0 (constant S_ .f32 0x3F800000#32)⟩, ⟨S8192x8, C⟩, ⟨S8192x8, C⟩,
    ⟨S8192x48, broadcastInDim S8192x48 ![] bcast_S_S8192x48 (constant S_ .f32 0x3F800000#32)⟩] concatenates_S8192x0_S8192x8_S8192x8_S8192x48_S8192x64_d1)

def tabA : FVec Ideal S8192x128 .f32 := Host.negf (tile (concatenate S8192x64 1
  [⟨S8192x0, broadcastInDim S8192x0 ![] bcast_S_S8192x0 (constant S_ .f32 0x00000000#32)⟩, ⟨S8192x8, Host.negf S⟩,
    ⟨S8192x8, broadcastInDim S8192x8 ![] bcast_S_S8192x8 (constant S_ .f32 0x00000000#32)⟩,
    ⟨S8192x48, broadcastInDim S8192x48 ![] bcast_S_S8192x48 (constant S_ .f32 0x00000000#32)⟩] concatenates_S8192x0_S8192x8_S8192x8_S8192x48_S8192x64_d1))

def tabB : FVec Ideal S8192x128 .f32 := Host.negf (tile (concatenate S8192x64 1
  [⟨S8192x8, broadcastInDim S8192x8 ![] bcast_S_S8192x8 (constant S_ .f32 0x00000000#32)⟩, ⟨S8192x8, S⟩,
    ⟨S8192x48, broadcastInDim S8192x48 ![] bcast_S_S8192x48 (constant S_ .f32 0x00000000#32)⟩] concatenates_S8192x8_S8192x8_S8192x48_S8192x64_d1))

theorem tabC_apply (l : Fin 8192) (j : Fin 128) : (tabC C (ix2 l j) : EReal)
    = if h : j.val % 64 < 8 then C (ix2 l ⟨j.val % 64, h⟩) else if h : j.val % 64 < 16 then C (ix2 l ⟨j.val % 64 - 8, by omega⟩) else 1 := by
  pointwise [tabC]
  split_ifs <;> first | rfl | (exfalso; omega) | (simp; done) | (simp; intros; exfalso; omega)

theorem tabA_apply (l : Fin 8192) (j : Fin 128) : (tabA S (ix2 l j) : EReal)
    = if h : j.val % 64 < 8 then S (ix2 l ⟨j.val % 64, h⟩) else 0 := by
  pointwise [tabA]
  split_ifs <;> first | rfl | (exfalso; omega) | (simp; done) | (simp; intros; exfalso; omega)

theorem tabB_apply (l : Fin 8192) (j : Fin 128) : (tabB S (ix2 l j) : EReal)
    = if h : 8 ≤ j.val % 64 ∧ j.val % 64 < 16 then -S (ix2 l ⟨j.val % 64 - 8, by omega⟩) else 0 := by
  pointwise [tabB]
  split_ifs <;> first | rfl | (exfalso; omega) | (simp; done) | (simp; intros; exfalso; omega)

/-- Column group `i` (one of three) of a gradient. -/
abbrev flat (X : FVec Ideal S8192x24x64 .f32) : FVec Ideal S8192x3x512 .bf16 := truncf .bf16 (shapeCast S8192x3x512 X shapeCasts_S8192x24x64_S8192x3x512) bitsLt_bf16_f32

def part0 (X : FVec Ideal S8192x24x64 .f32) : FVec Ideal S8192x512 .bf16 :=
  shapeCast S8192x512 (extractStridedSlice S8192x1x512 ![0, 0, 0] (flat X) slices_S8192x3x512_S8192x1x512_0_0_0) shapeCasts_S8192x1x512_S8192x512
def part1 (X : FVec Ideal S8192x24x64 .f32) : FVec Ideal S8192x512 .bf16 :=
  shapeCast S8192x512 (extractStridedSlice S8192x1x512 ![0, 1, 0] (flat X) slices_S8192x3x512_S8192x1x512_0_1_0) shapeCasts_S8192x1x512_S8192x512
def part2 (X : FVec Ideal S8192x24x64 .f32) : FVec Ideal S8192x512 .bf16 :=
  shapeCast S8192x512 (extractStridedSlice S8192x1x512 ![0, 2, 0] (flat X) slices_S8192x3x512_S8192x1x512_0_2_0) shapeCasts_S8192x1x512_S8192x512

abbrev hd (i : Fin 3) (j : Fin 512) : Fin 24 := ⟨i.val * 8 + j.val / 64, by omega⟩
abbrev dm (j : Fin 512) : Fin 64 := ⟨j.val % 64, Nat.mod_lt _ (by omega)⟩

theorem part0_apply (X : FVec Ideal S8192x24x64 .f32) (l : Fin 8192) (j : Fin 512) : (part0 X (ix2 l j) : EReal) = X (ix3 l (hd 0 j) (dm j)) := by
  pointwise [part0]
  exact congrArg X (congrArg (fun a => ix3 l a _) (Fin.ext (by dsimp only <;> omega)))
theorem part1_apply (X : FVec Ideal S8192x24x64 .f32) (l : Fin 8192) (j : Fin 512) : (part1 X (ix2 l j) : EReal) = X (ix3 l (hd 1 j) (dm j)) := by
  pointwise [part1]
  exact congrArg X (congrArg (fun a => ix3 l a _) (Fin.ext (by dsimp only <;> omega)))
theorem part2_apply (X : FVec Ideal S8192x24x64 .f32) (l : Fin 8192) (j : Fin 512) : (part2 X (ix2 l j) : EReal) = X (ix3 l (hd 2 j) (dm j)) := by
  pointwise [part2]
  exact congrArg X (congrArg (fun a => ix3 l a _) (Fin.ext (by dsimp only <;> omega)))

/-- The keys' gradient divided by the logarithm of 2. -/
def scaledK (X : FVec Ideal S8192x24x64 .f32) : FVec Ideal S8192x24x64 .f32 :=
  Host.divf X (broadcastInDim S8192x24x64 ![] bcast_S_S8192x24x64 (Host.log (constant S_ .f32 0x40000000#32)))

theorem log_two : Ideal.log (Ideal.ofBits .f32 0x40000000#32) = ln2 := by
  have h : Ideal.ofBits .f32 0x40000000#32 = ((2 : ℝ) : EReal) := by
    simp [Ideal.ofBits, Ideal.ieee]
    rw [← EReal.coe_mul]
    exact congrArg _ (by norm_num)
  rw [h]
  show (if (2 : ℝ) ≤ 0 then ⊥ else ((Real.log 2 : ℝ) : EReal)) = _
  rw [if_neg (by norm_num)]

theorem scaledK_apply (X : FVec Ideal S8192x24x64 .f32) (i : S8192x24x64.Idx) : (scaledK X i : EReal) = Ideal.div (X i) ln2 := by
  idx_vars i
  pointwise [scaledK]
  rw [log_two]

theorem V_v24 (c : Dev nD) : (V m c main_v24 : FVec Ideal S8192x128 .f32) = tabC (Host.cos angle) := by
  unfold V hostOps0
  after_results_simp
  rfl
theorem V_v67 (c : Dev nD) : (V m c main_v67 : FVec Ideal S8192x128 .f32) = tabA (Host.sin angle) := by
  unfold V hostOps0
  after_results_simp
  rfl
theorem V_v68 (c : Dev nD) : (V m c main_v68 : FVec Ideal S8192x128 .f32) = tabB (Host.sin angle) := by
  unfold V hostOps0
  after_results_simp
  rfl
theorem V_v50 (c : Dev nD) : (V m c main_v50 : FVec Ideal S8192x512 .bf16) = part0 (gq m c) := by
  unfold V hostOps0
  after_results_simp
  rfl
theorem V_v52 (c : Dev nD) : (V m c main_v52 : FVec Ideal S8192x512 .bf16) = part0 (scaledK (gk m c)) := by
  unfold V hostOps0
  after_results_simp
  rfl
theorem V_v54 (c : Dev nD) : (V m c main_v54 : FVec Ideal S8192x512 .bf16) = part0 (gv m c) := by
  unfold V hostOps0
  after_results_simp
  rfl
theorem V_v56 (c : Dev nD) : (V m c main_v56 : FVec Ideal S8192x512 .bf16) = part1 (gq m c) := by
  unfold V hostOps0
  after_results_simp
  rfl
theorem V_v58 (c : Dev nD) : (V m c main_v58 : FVec Ideal S8192x512 .bf16) = part1 (scaledK (gk m c)) := by
  unfold V hostOps0
  after_results_simp
  rfl
theorem V_v60 (c : Dev nD) : (V m c main_v60 : FVec Ideal S8192x512 .bf16) = part1 (gv m c) := by
  unfold V hostOps0
  after_results_simp
  rfl
theorem V_v62 (c : Dev nD) : (V m c main_v62 : FVec Ideal S8192x512 .bf16) = part2 (gq m c) := by
  unfold V hostOps0
  after_results_simp
  rfl
theorem V_v64 (c : Dev nD) : (V m c main_v64 : FVec Ideal S8192x512 .bf16) = part2 (scaledK (gk m c)) := by
  unfold V hostOps0
  after_results_simp
  rfl
theorem V_v66 (c : Dev nD) : (V m c main_v66 : FVec Ideal S8192x512 .bf16) = part2 (gv m c) := by
  unfold V hostOps0
  after_results_simp
  rfl

/-! ## The blocks -/

theorem lt16 (t : Fin cfg0.N) : t.val < 16 := lt_of_lt_of_eq t.isLt N_0

/-- Row `r` of block `t` as a row of the whole array. -/
abbrev row (t : Fin cfg0.N) (r : Fin 512) : Fin 8192 := ⟨t.val * 512 + r.val, by have := lt16 t; omega⟩

/-- Every window walks down the rows, all columns at once. -/
theorem walks : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0))

theorem at_row {w : ℕ} {t : Fin cfg0.N} {r : Fin 512} {l : Fin w} {i : (⟨2, ![8192, w]⟩ : Shape).Idx} {a b : ℕ}
    (h0 : (i 0).val = a * 512 + 1 * r.val) (h1 : (i 1).val = b * w + 1 * l.val) (h : a = t.val ∧ b = 0) : i = ix2 (row t r) l := by
  obtain ⟨rfl, rfl⟩ := h
  refine funext fun k => Fin.ext ?_
  match k with
  | ⟨0, _⟩ => exact h0.trans (by show _ = t.val * 512 + r.val; omega)
  | ⟨1, _⟩ => exact h1.trans (by show _ = l.val; omega)

theorem x0_apply (c : Dev nD) (t : Fin cfg0.N) (r : Fin 512) (l : Fin 512) :
    (iblk m c 0 t (ix2 r l) : EReal) = (V m c main_v50 : FVec Ideal S8192x512 .bf16) (ix2 (row t r) l) :=
  congrArg (V m c main_v50) (at_row rfl rfl (walks t).1)
theorem x1_apply (c : Dev nD) (t : Fin cfg0.N) (r : Fin 512) (l : Fin 512) :
    (iblk m c 1 t (ix2 r l) : EReal) = (V m c main_v52 : FVec Ideal S8192x512 .bf16) (ix2 (row t r) l) :=
  congrArg (V m c main_v52) (at_row rfl rfl (walks t).2.1)
theorem x2_apply (c : Dev nD) (t : Fin cfg0.N) (r : Fin 512) (l : Fin 512) :
    (iblk m c 2 t (ix2 r l) : EReal) = (V m c main_v54 : FVec Ideal S8192x512 .bf16) (ix2 (row t r) l) :=
  congrArg (V m c main_v54) (at_row rfl rfl (walks t).2.2.1)
theorem x3_apply (c : Dev nD) (t : Fin cfg0.N) (r : Fin 512) (l : Fin 512) :
    (iblk m c 3 t (ix2 r l) : EReal) = (V m c main_v56 : FVec Ideal S8192x512 .bf16) (ix2 (row t r) l) :=
  congrArg (V m c main_v56) (at_row rfl rfl (walks t).2.2.2.1)
theorem x4_apply (c : Dev nD) (t : Fin cfg0.N) (r : Fin 512) (l : Fin 512) :
    (iblk m c 4 t (ix2 r l) : EReal) = (V m c main_v58 : FVec Ideal S8192x512 .bf16) (ix2 (row t r) l) :=
  congrArg (V m c main_v58) (at_row rfl rfl (walks t).2.2.2.2.1)
theorem x5_apply (c : Dev nD) (t : Fin cfg0.N) (r : Fin 512) (l : Fin 512) :
    (iblk m c 5 t (ix2 r l) : EReal) = (V m c main_v60 : FVec Ideal S8192x512 .bf16) (ix2 (row t r) l) :=
  congrArg (V m c main_v60) (at_row rfl rfl (walks t).2.2.2.2.2.1)
theorem x6_apply (c : Dev nD) (t : Fin cfg0.N) (r : Fin 512) (l : Fin 512) :
    (iblk m c 6 t (ix2 r l) : EReal) = (V m c main_v62 : FVec Ideal S8192x512 .bf16) (ix2 (row t r) l) :=
  congrArg (V m c main_v62) (at_row rfl rfl (walks t).2.2.2.2.2.2.1)
theorem x7_apply (c : Dev nD) (t : Fin cfg0.N) (r : Fin 512) (l : Fin 512) :
    (iblk m c 7 t (ix2 r l) : EReal) = (V m c main_v64 : FVec Ideal S8192x512 .bf16) (ix2 (row t r) l) :=
  congrArg (V m c main_v64) (at_row rfl rfl (walks t).2.2.2.2.2.2.2.1)
theorem x8_apply (c : Dev nD) (t : Fin cfg0.N) (r : Fin 512) (l : Fin 512) :
    (iblk m c 8 t (ix2 r l) : EReal) = (V m c main_v66 : FVec Ideal S8192x512 .bf16) (ix2 (row t r) l) :=
  congrArg (V m c main_v66) (at_row rfl rfl (walks t).2.2.2.2.2.2.2.2.1)
theorem x9_apply (c : Dev nD) (t : Fin cfg0.N) (r : Fin 512) (l : Fin 128) :
    (iblk m c 9 t (ix2 r l) : EReal) = (V m c main_v24 : FVec Ideal S8192x128 .f32) (ix2 (row t r) l) :=
  congrArg (V m c main_v24) (at_row rfl rfl (walks t).2.2.2.2.2.2.2.2.2.1)
theorem x10_apply (c : Dev nD) (t : Fin cfg0.N) (r : Fin 512) (l : Fin 128) :
    (iblk m c 10 t (ix2 r l) : EReal) = (V m c main_v67 : FVec Ideal S8192x128 .f32) (ix2 (row t r) l) :=
  congrArg (V m c main_v67) (at_row rfl rfl (walks t).2.2.2.2.2.2.2.2.2.2.1)
theorem x11_apply (c : Dev nD) (t : Fin cfg0.N) (r : Fin 512) (l : Fin 128) :
    (iblk m c 11 t (ix2 r l) : EReal) = (V m c main_v68 : FVec Ideal S8192x128 .f32) (ix2 (row t r) l) :=
  congrArg (V m c main_v68) (at_row rfl rfl (walks t).2.2.2.2.2.2.2.2.2.2.2.1)

/-- The nine operand blocks of a grid point. -/
def operands (c : Dev nD) (t : Fin cfg0.N) : Fin 9 → Vec Ideal S512x512 .bf16 :=
  ![iblk m c 0 t, iblk m c 1 t, iblk m c 2 t, iblk m c 3 t, iblk m c 4 t, iblk m c 5 t, iblk m c 6 t, iblk m c 7 t, iblk m c 8 t]

theorem arr12 (c : Dev nD) (t : Fin cfg0.N) (r : Fin 512) (j : Fin 4608) :
    ((dats m 0 c).arrAt 12 cfg0.N (ix2 (row t r) j) : EReal)
      = blockAt (operands m c t) (iblk m c 9 t) (iblk m c 10 t) (iblk m c 11 t) r j := by
  have h := congrFun (Value.blocks12 m c t (flush0_12 t)) (ix2 r j)
  rw [Value.flushed12] at h
  refine Eq.trans ?_ (h.trans (out_apply _ _ _ _ _ _ _ _ _ _ _ _ _))
  exact congrArg ((dats m 0 c).arrAt 12 cfg0.N) (at_row rfl rfl (walks t).2.2.2.2.2.2.2.2.2.2.2.2).symm

/-! ## The result -/

/-- The gradient an operand block comes from: kind 0 the queries', 1 the keys', 2 the values'. -/
def pick (Q K V : FVec Ideal S8192x24x64 .f32) : ℕ → FVec Ideal S8192x24x64 .f32
  | 0 => Q
  | 1 => K
  | _ => V

theorem nine {x0 x1 x2 x3 x4 x5 x6 x7 x8 : FVec Ideal S512x512 .bf16} {i : S512x512.Idx} {G : Fin 9 → EReal}
    (h0 : x0 i = G 0) (h1 : x1 i = G 1) (h2 : x2 i = G 2) (h3 : x3 i = G 3) (h4 : x4 i = G 4) (h5 : x5 i = G 5) (h6 : x6 i = G 6)
    (h7 : x7 i = G 7) (h8 : x8 i = G 8) (n : Fin 9) : (![x0, x1, x2, x3, x4, x5, x6, x7, x8] : Fin 9 → Vec Ideal S512x512 .bf16) n i = G n :=
  match n with
  | 0 => h0
  | 1 => h1
  | 2 => h2
  | 3 => h3
  | 4 => h4
  | 5 => h5
  | 6 => h6
  | 7 => h7
  | 8 => h8

theorem b0_apply (c : Dev nD) (t : Fin cfg0.N) (r j : Fin 512) : (iblk m c 0 t (ix2 r j) : EReal) = gq m c (ix3 (row t r) (hd 0 j) (dm j)) := by
  rw [x0_apply, V_v50, part0_apply]
theorem b1_apply (c : Dev nD) (t : Fin cfg0.N) (r j : Fin 512) : (iblk m c 1 t (ix2 r j) : EReal) = scaledK (gk m c) (ix3 (row t r) (hd 0 j) (dm j)) := by
  rw [x1_apply, V_v52, part0_apply]
theorem b2_apply (c : Dev nD) (t : Fin cfg0.N) (r j : Fin 512) : (iblk m c 2 t (ix2 r j) : EReal) = gv m c (ix3 (row t r) (hd 0 j) (dm j)) := by
  rw [x2_apply, V_v54, part0_apply]
theorem b3_apply (c : Dev nD) (t : Fin cfg0.N) (r j : Fin 512) : (iblk m c 3 t (ix2 r j) : EReal) = gq m c (ix3 (row t r) (hd 1 j) (dm j)) := by
  rw [x3_apply, V_v56, part1_apply]
theorem b4_apply (c : Dev nD) (t : Fin cfg0.N) (r j : Fin 512) : (iblk m c 4 t (ix2 r j) : EReal) = scaledK (gk m c) (ix3 (row t r) (hd 1 j) (dm j)) := by
  rw [x4_apply, V_v58, part1_apply]
theorem b5_apply (c : Dev nD) (t : Fin cfg0.N) (r j : Fin 512) : (iblk m c 5 t (ix2 r j) : EReal) = gv m c (ix3 (row t r) (hd 1 j) (dm j)) := by
  rw [x5_apply, V_v60, part1_apply]
theorem b6_apply (c : Dev nD) (t : Fin cfg0.N) (r j : Fin 512) : (iblk m c 6 t (ix2 r j) : EReal) = gq m c (ix3 (row t r) (hd 2 j) (dm j)) := by
  rw [x6_apply, V_v62, part2_apply]
theorem b7_apply (c : Dev nD) (t : Fin cfg0.N) (r j : Fin 512) : (iblk m c 7 t (ix2 r j) : EReal) = scaledK (gk m c) (ix3 (row t r) (hd 2 j) (dm j)) := by
  rw [x7_apply, V_v64, part2_apply]
theorem b8_apply (c : Dev nD) (t : Fin cfg0.N) (r j : Fin 512) : (iblk m c 8 t (ix2 r j) : EReal) = gv m c (ix3 (row t r) (hd 2 j) (dm j)) := by
  rw [x8_apply, V_v66, part2_apply]

theorem block_apply (c : Dev nD) (t : Fin cfg0.N) (r : Fin 512) (n : Fin 9) (j : Fin 512) :
    (operands m c t n (ix2 r j) : EReal) = pick (gq m c) (scaledK (gk m c)) (gv m c) (n.val % 3) (ix3 (row t r) (hd ⟨n.val / 3, by omega⟩ j) (dm j)) := by
  let G : Fin 9 → EReal := fun n => pick (gq m c) (scaledK (gk m c)) (gv m c) (n.val % 3) (ix3 (row t r) (hd ⟨n.val / 3, by omega⟩ j) (dm j))
  have g0 : G 0 = gq m c (ix3 (row t r) (hd 0 j) (dm j)) := rfl
  have g1 : G 1 = scaledK (gk m c) (ix3 (row t r) (hd 0 j) (dm j)) := rfl
  have g2 : G 2 = gv m c (ix3 (row t r) (hd 0 j) (dm j)) := rfl
  have g3 : G 3 = gq m c (ix3 (row t r) (hd 1 j) (dm j)) := rfl
  have g4 : G 4 = scaledK (gk m c) (ix3 (row t r) (hd 1 j) (dm j)) := rfl
  have g5 : G 5 = gv m c (ix3 (row t r) (hd 1 j) (dm j)) := rfl
  have g6 : G 6 = gq m c (ix3 (row t r) (hd 2 j) (dm j)) := rfl
  have g7 : G 7 = scaledK (gk m c) (ix3 (row t r) (hd 2 j) (dm j)) := rfl
  have g8 : G 8 = gv m c (ix3 (row t r) (hd 2 j) (dm j)) := rfl
  show _ = G n
  unfold operands
  exact nine ((b0_apply m c t r j).trans g0.symm) ((b1_apply m c t r j).trans g1.symm) ((b2_apply m c t r j).trans g2.symm)
    ((b3_apply m c t r j).trans g3.symm) ((b4_apply m c t r j).trans g4.symm) ((b5_apply m c t r j).trans g5.symm)
    ((b6_apply m c t r j).trans g6.symm) ((b7_apply m c t r j).trans g7.symm) ((b8_apply m c t r j).trans g8.symm) n

end Cert.Kernel5Ideal.DilPrep

end
-- ==== Proof.DilPrepOut.lean ====
/- The gradient through the preparation of the dilated attention's queries, keys and values: each entry of the kernel's
   result in terms of the three gradients and the rotation's cosines and sines. -/
module

public import proofs.«01_k».proof.Proof.DilPrep

@[expose] public section

set_option maxRecDepth 16384

noncomputable section

namespace Cert.Kernel5Ideal.DilPrep

open Idealize.ShloMosaic Idealize.ShloMosaic.Pointwise Idealize.SL.Sem Cert.Kernel5Ideal Cert.Kernel5Ideal.Gen
open Idealize.ShloMosaic.Pipeline (Dat)

/-- A head's 64 entries turned back: the first sixteen in eight pairs. -/
abbrev turn (C S : Fin 8 → EReal) (x : Fin 64 → EReal) (e : Fin 64) : EReal :=
  if h : e.val < 8 then x e * C ⟨e.val, h⟩ + x ⟨e.val + 8, by omega⟩ * S ⟨e.val, h⟩
  else if h : e.val < 16 then x e * C ⟨e.val - 8, by omega⟩ + x ⟨e.val - 8, by omega⟩ * -S ⟨e.val - 8, by omega⟩
  else x e

/-- The head and the entry of the head that column `j` of the result belongs to. -/
abbrev headOf (j : Fin 4608) : Fin 24 := ⟨j.val / 1536 * 8 + j.val % 512 / 64, by omega⟩
abbrev entryOf (j : Fin 4608) : Fin 64 := ⟨j.val % 64, Nat.mod_lt _ (by omega)⟩

/-- Turning back by the tables and the two rotated copies is turning back by pairs. -/
theorem back_eq (C S : FVec Ideal S8192x8 .f32) (G : FVec Ideal S8192x24x64 .f32) (l : Fin 8192) (j : Fin 4608) {z : Fin 128} (hz : z.val = j.val % 128)
    (x : Fin 128 → EReal) (hx : ∀ e : Fin 128, x e = G (ix3 l ⟨j.val / 512 / 3 * 8 + (j.val % 512 / 128 * 128 + e.val) / 64, by omega⟩
      ⟨(j.val % 512 / 128 * 128 + e.val) % 64, Nat.mod_lt _ (by omega)⟩)) :
    back (tabC C (ix2 l z)) (tabA S (ix2 l z)) (tabB S (ix2 l z)) (x z) (x (on z)) (x (before z))
      = turn (fun k => C (ix2 l k)) (fun k => S (ix2 l k)) (fun e => G (ix3 l (headOf j) e)) (entryOf j) := by
  have e0 : z.val % 64 = j.val % 64 := by omega
  have at_eq : ∀ (e : Fin 128) (f : Fin 64), j.val % 512 / 128 * 128 + e.val = j.val % 512 / 64 * 64 + f.val → x e = G (ix3 l (headOf j) f) :=
    fun e f h => (hx e).trans (by
      refine congrArg G ?_
      have h1 : (⟨j.val / 512 / 3 * 8 + (j.val % 512 / 128 * 128 + e.val) / 64, by omega⟩ : Fin 24) = headOf j := Fin.ext (by dsimp only <;> omega)
      have h2 : (⟨(j.val % 512 / 128 * 128 + e.val) % 64, Nat.mod_lt _ (by omega)⟩ : Fin 64) = f := Fin.ext (by dsimp only <;> omega)
      rw [h1, h2])
  rw [tabC_apply, tabA_apply, tabB_apply, at_eq z (entryOf j) (by dsimp only <;> omega)]
  by_cases h8 : j.val % 64 < 8
  · rw [dif_pos (show z.val % 64 < 8 by omega), dif_pos (show z.val % 64 < 8 by omega), dif_neg (show ¬ (8 ≤ z.val % 64 ∧ z.val % 64 < 16) by omega)]
    refine Eq.trans ?_ (dif_pos h8).symm
    rw [at_eq (on z) ⟨j.val % 64 + 8, by omega⟩ (by dsimp only <;> omega)]
    show _ + _ * _ + _ * (0 : EReal) = _
    rw [mul_zero, add_zero]
    simp only [e0]
  · rw [dif_neg (show ¬ z.val % 64 < 8 by omega), dif_neg (show ¬ z.val % 64 < 8 by omega)]
    refine Eq.trans ?_ (dif_neg h8).symm
    by_cases h16 : j.val % 64 < 16
    · rw [dif_pos (show z.val % 64 < 16 by omega), dif_pos (show 8 ≤ z.val % 64 ∧ z.val % 64 < 16 by omega)]
      refine Eq.trans ?_ (dif_pos h16).symm
      rw [at_eq (before z) ⟨j.val % 64 - 8, by omega⟩ (by dsimp only <;> omega)]
      show _ + _ * (0 : EReal) + _ = _
      rw [mul_zero, add_zero]
      simp only [e0]
    · rw [dif_neg (show ¬ z.val % 64 < 16 by omega), dif_neg (show ¬ (8 ≤ z.val % 64 ∧ z.val % 64 < 16) by omega)]
      refine Eq.trans ?_ (dif_neg h16).symm
      show _ * (1 : EReal) + _ * (0 : EReal) + _ * (0 : EReal) = G _
      rw [mul_one, mul_zero, mul_zero, add_zero, add_zero]

/-! ## Scaling before and after -/

theorem turn_mul {s : EReal} (h0 : 0 ≤ s) (h1 : s ≠ ⊤) (C S : Fin 8 → EReal) (x : Fin 64 → EReal) (e : Fin 64) :
    turn C S x e * s = turn C S (fun k => x k * s) e := by
  unfold turn
  split_ifs
  · rw [EReal.right_distrib_of_nonneg_of_ne_top h0 h1, mul_right_comm, mul_right_comm (x _) (S _)]
  · rw [EReal.right_distrib_of_nonneg_of_ne_top h0 h1, mul_right_comm, mul_right_comm (x _) (-S _)]
  · rfl

theorem ln2_pos : (0 : ℝ) < Real.log 2 := Real.log_pos (by norm_num)

theorem div_ln2_mul (x : EReal) : Ideal.div x ln2 * ln2 = x := by
  have h : ln2 ≠ 0 := EReal.coe_ne_zero.2 ln2_pos.ne'
  rw [Ideal.div, if_neg h, mul_assoc, ← EReal.coe_inv, ← EReal.coe_mul, inv_mul_cancel₀ ln2_pos.ne', EReal.coe_one, mul_one]

/-! ## The result -/

/-- An entry of the result: a query's turned back and scaled, a key's turned back, a value's as it is. -/
def resultAt (C S : FVec Ideal S8192x8 .f32) (Q K V : FVec Ideal S8192x24x64 .f32) (l : Fin 8192) (j : Fin 4608) : EReal :=
  if j.val / 512 % 3 = 0 then
    turn (fun k => C (ix2 l k)) (fun k => S (ix2 l k)) (fun e => Q (ix3 l (headOf j) e) * eighth) (entryOf j)
  else if j.val / 512 % 3 = 1 then turn (fun k => C (ix2 l k)) (fun k => S (ix2 l k)) (fun e => K (ix3 l (headOf j) e)) (entryOf j)
  else V (ix3 l (headOf j) (entryOf j))

theorem eighth_eq : eighth = ((1 / 8 : ℝ) : EReal) := by
  simp [eighth, Ideal.ofBits, Ideal.ieee]
  rw [← EReal.coe_mul]
  exact congrArg _ (by norm_num)

theorem entry_eq (C S : FVec Ideal S8192x8 .f32) (Q K V : FVec Ideal S8192x24x64 .f32) (l : Fin 8192) (j : Fin 4608) {z : Fin 128}
    (hz : z.val = j.val % 128) (x : Fin 128 → EReal)
    (hx : ∀ e : Fin 128, x e = pick Q (scaledK K) V (j.val / 512 % 3) (ix3 l ⟨j.val / 512 / 3 * 8 + (j.val % 512 / 128 * 128 + e.val) / 64, by omega⟩
      ⟨(j.val % 512 / 128 * 128 + e.val) % 64, Nat.mod_lt _ (by omega)⟩)) :
    entry (j.val / 512 % 3) (tabC C (ix2 l z)) (tabA S (ix2 l z)) (tabB S (ix2 l z)) (x z) (x (on z)) (x (before z)) = resultAt C S Q K V l j := by
  unfold entry resultAt
  have h3 : j.val / 512 % 3 < 3 := Nat.mod_lt _ (by omega)
  generalize hk : j.val / 512 % 3 = k at hx h3
  match k, h3 with
  | 0, _ =>
    rw [if_pos rfl, if_pos rfl]
    exact (congrArg (· * eighth) (back_eq C S Q l j hz x hx)).trans
      (turn_mul (by rw [eighth_eq]; exact EReal.coe_nonneg.2 (by norm_num)) (by rw [eighth_eq]; exact EReal.coe_ne_top _) _ _ _ _)
  | 1, _ =>
    rw [if_neg (by omega), if_pos rfl, if_neg (by omega), if_pos rfl]
    refine (congrArg (· * ln2) (back_eq C S (scaledK K) l j hz x hx)).trans ?_
    refine (turn_mul (EReal.coe_nonneg.2 ln2_pos.le) (EReal.coe_ne_top _) _ _ _ _).trans ?_
    simp only [scaledK_apply, div_ln2_mul]
  | 2, _ =>
    rw [if_neg (by omega), if_neg (by omega), if_neg (by omega), if_neg (by omega), hx z]
    refine congrArg V ?_
    have e1 : (⟨j.val / 512 / 3 * 8 + (j.val % 512 / 128 * 128 + z.val) / 64, by omega⟩ : Fin 24) = headOf j := Fin.ext (by dsimp only <;> omega)
    have e2 : (⟨(j.val % 512 / 128 * 128 + z.val) % 64, Nat.mod_lt _ (by omega)⟩ : Fin 64) = entryOf j := Fin.ext (by dsimp only <;> omega)
    rw [e1, e2]

variable (m : (ℓ : Loc nD τ sig) → Buf (Elt Ideal) ℓ)

theorem res (c : Dev nD) (t : Fin cfg0.N) (r : Fin 512) (j : Fin 4608) :
    ((dats m 0 c).arrAt 12 cfg0.N (ix2 (row t r) j) : EReal)
      = resultAt (Host.cos angle) (Host.sin angle) (gq m c) (gk m c) (gv m c) (row t r) j := by
  rw [arr12]
  refine Eq.trans ?_ (entry_eq (Host.cos angle) (Host.sin angle) (gq m c) (gk m c) (gv m c) (row t r) j (z := ⟨j.val % 128, Nat.mod_lt _ (by omega)⟩) rfl
    (fun e => operands m c t ⟨j.val / 512, by omega⟩ (ix2 r ⟨j.val % 512 / 128 * 128 + e.val, by omega⟩))
    fun e => block_apply m c t r ⟨j.val / 512, by omega⟩ ⟨j.val % 512 / 128 * 128 + e.val, by omega⟩)
  rw [← V_v24 m c, ← V_v67 m c, ← V_v68 m c, ← x9_apply, ← x10_apply, ← x11_apply]
  rfl

end Cert.Kernel5Ideal.DilPrep

end
-- ==== Proof.DilPrepRef.lean ====
/- The reference of the preparation's gradient: its result array entry by entry, the same numbers as the kernel's. -/
module

public import proofs.«01_k».proof.Proof.Gen.Reference5Ideal.Run
public import proofs.«01_k».proof.Proof.DilPrepOut

@[expose] public section

set_option maxRecDepth 16384

noncomputable section

namespace Cert.Reference5Ideal.DilPrep

open Idealize.ShloMosaic Idealize.ShloMosaic.Pointwise Idealize.SL.Sem Cert.Reference5Ideal Cert.Reference5Ideal.Gen
open Cert.Kernel5Ideal.DilPrep (turn headOf entryOf resultAt eighth angle)

variable (C S : FVec Ideal S8192x8 .f32) (X Q K V : FVec Ideal S8192x24x64 .f32)

/-- A table of angles' cosines or sines, the same for every head. -/
abbrev pairs (T : FVec Ideal S8192x8 .f32) : FVec Ideal S8192x24x8 .f32 := broadcastInDim S8192x24x8 ![0, 1, 2] bcast_S8192x1x8_S8192x24x8_0_1_2 (broadcastInDim S8192x1x8 ![0, 2] bcast_S8192x8_S8192x1x8_0_2 T)

/-- The first and the second eight entries of each head. -/
abbrev lo : FVec Ideal S8192x24x8 .f32 := extractStridedSlice S8192x24x8 ![0, 0, 0] (extractStridedSlice S8192x24x16 ![0, 0, 0] X slices_S8192x24x64_S8192x24x16_0_0_0) slices_S8192x24x16_S8192x24x8_0_0_0
abbrev hi : FVec Ideal S8192x24x8 .f32 := extractStridedSlice S8192x24x8 ![0, 0, 8] (extractStridedSlice S8192x24x16 ![0, 0, 0] X slices_S8192x24x64_S8192x24x16_0_0_0) slices_S8192x24x16_S8192x24x8_0_0_8

def turned : FVec Ideal S8192x24x64 .f32 := addf (pad S8192x24x64 ![0, 0, 16] ![0, 0, 0] ![0, 0, 0] (extractStridedSlice S8192x24x48 ![0, 0, 16] X slices_S8192x24x64_S8192x24x48_0_0_16) (constant S_ .f32 0x00000000#32) pads_S8192x24x48_S8192x24x64_000_000_1600 h_S_) (pad S8192x24x64 ![0, 0, 0] ![0, 0, 48] ![0, 0, 0] (concatenate S8192x24x16 2 [⟨S8192x24x8, (addf (mulf (hi X) (pairs S)) (mulf (lo X) (pairs C)))⟩, ⟨S8192x24x8, (addf (mulf (hi X) (pairs C)) (mulf (Host.negf (lo X)) (pairs S)))⟩] concatenates_S8192x24x8_S8192x24x8_S8192x24x16_d2) (constant S_ .f32 0x00000000#32) pads_S8192x24x16_S8192x24x64_000_000_0480 h_S_)

theorem turn_lo (C S : Fin 8 → EReal) (x : Fin 64 → EReal) {e : Fin 64} (h : e.val < 8) :
    turn C S x e = x e * C ⟨e.val, h⟩ + x ⟨e.val + 8, by omega⟩ * S ⟨e.val, h⟩ := dif_pos h

theorem turn_mid (C S : Fin 8 → EReal) (x : Fin 64 → EReal) {e : Fin 64} (h : ¬ e.val < 8) (h' : e.val < 16) :
    turn C S x e = x e * C ⟨e.val - 8, by omega⟩ + x ⟨e.val - 8, by omega⟩ * -S ⟨e.val - 8, by omega⟩ := by
  unfold turn
  rw [dif_neg h, dif_pos h']

theorem turn_hi (C S : Fin 8 → EReal) (x : Fin 64 → EReal) {e : Fin 64} (h : ¬ e.val < 8) (h' : ¬ e.val < 16) : turn C S x e = x e := by
  unfold turn
  rw [dif_neg h, dif_neg h']

set_option maxHeartbeats 2000000 in
theorem turned_apply (l : Fin 8192) (h : Fin 24) (e : Fin 64) :
    (turned C S X (ix3 l h e) : EReal) = turn (fun k => C (ix2 l k)) (fun k => S (ix2 l k)) (fun e => X (ix3 l h e)) e := by
  pointwise [turned]
  by_cases h8 : e.val < 8
  · rw [dif_neg (show ¬ (16 ≤ e.val ∧ e.val - 16 < 48) by omega), dif_pos (show e.val < 16 by omega), dif_pos h8, zero_add, add_comm]
    refine Eq.trans ?_ (turn_lo _ _ _ h8).symm
    exact congrArg (fun a => _ + X (ix3 l h a) * _) (Fin.ext (by dsimp only <;> omega))
  by_cases h16 : e.val < 16
  · rw [dif_neg (show ¬ (16 ≤ e.val ∧ e.val - 16 < 48) by omega), dif_pos h16, dif_neg h8, zero_add]
    refine Eq.trans ?_ (turn_mid _ _ _ h8 h16).symm
    have e8 : (⟨8 + (e.val - 8), by omega⟩ : Fin 64) = e := Fin.ext (by dsimp only <;> omega)
    exact congrArg₂ (· + ·) (congrArg (fun a => X (ix3 l h a) * _) e8) ((EReal.neg_mul _ _).trans (mul_neg _ _).symm)
  · rw [dif_pos (show 16 ≤ e.val ∧ e.val - 16 < 48 by omega), dif_neg h16, add_zero]
    refine Eq.trans ?_ (turn_hi _ _ _ h8 h16).symm
    exact congrArg (fun a => X (ix3 l h a)) (Fin.ext (by dsimp only <;> omega))

/-- A gradient put at its place among the three kinds of columns, zeros elsewhere. -/
def place0 : FVec Ideal S8192x4608 .f32 := shapeCast S8192x4608 (pad S8192x3x3x512 ![0, 0, 0, 0] ![0, 0, 2, 0] ![0, 0, 0, 0] (broadcastInDim S8192x3x1x512 ![0, 1, 3] bcast_S8192x3x512_S8192x3x1x512_0_1_3 (shapeCast S8192x3x512 X shapeCasts_S8192x24x64_S8192x3x512)) (constant S_ .f32 0x00000000#32) pads_S8192x3x1x512_S8192x3x3x512_000_000_020_000 h_S_) shapeCasts_S8192x3x3x512_S8192x4608
def place1 : FVec Ideal S8192x4608 .f32 := shapeCast S8192x4608 (pad S8192x3x3x512 ![0, 0, 1, 0] ![0, 0, 1, 0] ![0, 0, 0, 0] (broadcastInDim S8192x3x1x512 ![0, 1, 3] bcast_S8192x3x512_S8192x3x1x512_0_1_3 (shapeCast S8192x3x512 X shapeCasts_S8192x24x64_S8192x3x512)) (constant S_ .f32 0x00000000#32) pads_S8192x3x1x512_S8192x3x3x512_000_000_110_000 h_S_) shapeCasts_S8192x3x3x512_S8192x4608
def place2 : FVec Ideal S8192x4608 .f32 := shapeCast S8192x4608 (pad S8192x3x3x512 ![0, 0, 2, 0] ![0, 0, 0, 0] ![0, 0, 0, 0] (broadcastInDim S8192x3x1x512 ![0, 1, 3] bcast_S8192x3x512_S8192x3x1x512_0_1_3 (shapeCast S8192x3x512 X shapeCasts_S8192x24x64_S8192x3x512)) (constant S_ .f32 0x00000000#32) pads_S8192x3x1x512_S8192x3x3x512_000_000_200_000 h_S_) shapeCasts_S8192x3x3x512_S8192x4608

theorem place0_apply (l : Fin 8192) (j : Fin 4608) :
    (place0 X (ix2 l j) : EReal) = if j.val / 512 % 3 = 0 then X (ix3 l (headOf j) (entryOf j)) else 0 := by
  pointwise [place0]
  by_cases h : j.val / 512 % 3 = 0
  · rw [dif_pos (show j.val / 1536 < 3 ∧ j.val / 512 % 3 < 1 ∧ j.val % 512 < 512 by omega), if_pos h]
    exact congrArg (fun a => X (ix3 l (headOf j) a)) (Fin.ext (by dsimp only <;> omega))
  · rw [dif_neg (show ¬ (j.val / 1536 < 3 ∧ j.val / 512 % 3 < 1 ∧ j.val % 512 < 512) by omega), if_neg h]

theorem place1_apply (l : Fin 8192) (j : Fin 4608) :
    (place1 X (ix2 l j) : EReal) = if j.val / 512 % 3 = 1 then X (ix3 l (headOf j) (entryOf j)) else 0 := by
  pointwise [place1]
  by_cases h : j.val / 512 % 3 = 1
  · rw [dif_pos (show j.val / 1536 < 3 ∧ (1 ≤ j.val / 512 % 3 ∧ j.val / 512 % 3 - 1 < 1) ∧ j.val % 512 < 512 by omega), if_pos h]
    exact congrArg (fun a => X (ix3 l (headOf j) a)) (Fin.ext (by dsimp only <;> omega))
  · rw [dif_neg (show ¬ (j.val / 1536 < 3 ∧ (1 ≤ j.val / 512 % 3 ∧ j.val / 512 % 3 - 1 < 1) ∧ j.val % 512 < 512) by omega), if_neg h]

theorem place2_apply (l : Fin 8192) (j : Fin 4608) :
    (place2 X (ix2 l j) : EReal) = if j.val / 512 % 3 = 2 then X (ix3 l (headOf j) (entryOf j)) else 0 := by
  pointwise [place2]
  by_cases h : j.val / 512 % 3 = 2
  · rw [dif_pos (show j.val / 1536 < 3 ∧ (2 ≤ j.val / 512 % 3 ∧ j.val / 512 % 3 - 2 < 1) ∧ j.val % 512 < 512 by omega), if_pos h]
    exact congrArg (fun a => X (ix3 l (headOf j) a)) (Fin.ext (by dsimp only <;> omega))
  · rw [dif_neg (show ¬ (j.val / 1536 < 3 ∧ (2 ≤ j.val / 512 % 3 ∧ j.val / 512 % 3 - 2 < 1) ∧ j.val % 512 < 512) by omega), if_neg h]

def ref : FVec Ideal S8192x4608 .bf16 := truncf .bf16 (addf (addf (place2 V) (place1 (turned C S K)))
  (place0 (turned C S (mulf Q (broadcastInDim S8192x24x64 ![] bcast_S_S8192x24x64 (constant S_ .f32 0x3E000000#32)))))) bitsLt_bf16_f32

theorem ref_apply (l : Fin 8192) (j : Fin 4608) : (ref C S Q K V (ix2 l j) : EReal) = resultAt C S Q K V l j := by
  have e : (ref C S Q K V (ix2 l j) : EReal) = place2 V (ix2 l j) + place1 (turned C S K) (ix2 l j)
      + place0 (turned C S (mulf Q (broadcastInDim S8192x24x64 ![] bcast_S_S8192x24x64 (constant S_ .f32 0x3E000000#32)))) (ix2 l j) := by
    unfold ref
    generalize place2 V = p
    generalize place1 _ = q
    generalize place0 _ = r
    pointwise []
  rw [e, place0_apply, place1_apply, place2_apply, turned_apply, turned_apply]
  unfold resultAt
  have h3 : j.val / 512 % 3 < 3 := Nat.mod_lt _ (by omega)
  generalize j.val / 512 % 3 = k at h3
  match k, h3 with
  | 0, _ =>
    simp only [zero_add, if_pos, if_neg (show ¬ 0 = 1 by omega), if_neg (show ¬ 0 = 2 by omega)]
    congr 1
  | 1, _ => simp
  | 2, _ => simp

theorem run_ref (m : (ℓ : Loc nD τ sig) → Buf (Elt Ideal) ℓ) (c : Dev nD) : Value.res_main_v124 (F := Ideal) m c
    = ref (Host.cos angle) (Host.sin angle) (m ((c.tc : Thread nD τ).loc main_arg0)) (m ((c.tc : Thread nD τ).loc main_arg1))
        (m ((c.tc : Thread nD τ).loc main_arg2)) := by
  unfold Value.res_main_v124
  rfl

end Cert.Reference5Ideal.DilPrep

end
-- ==== Proof.DilPrepClaims.lean ====
/- The preparation's gradient kernel against its reference: on all arguments the results are equal. -/
module

public import proofs.«01_k».proof.Defs
public import proofs.«01_k».proof.Proof.DilPrepRef

@[expose] public section

set_option maxRecDepth 16384

noncomputable section

namespace Cert.Proof.DilPrepClaims

open Idealize.ShloMosaic Idealize.ShloMosaic.Pointwise Idealize.SL.Sem
open Cert.Kernel5Ideal.DilPrep (row gq gk gv angle)
open Cert.Reference5Ideal.DilPrep (ref ref_apply run_ref)

variable {m : (ℓ : Loc Cert.Kernel5Ideal.nD Cert.Kernel5Ideal.τ Cert.Kernel5Ideal.sig) → Buf (Elt Ideal) ℓ}

/-- Every row is a row of some block. -/
theorem row_of (R : Fin 8192) : ∃ (t : Fin Cert.Kernel5Ideal.cfg0.N) (r : Fin 512), row t r = R := by
  have hN : Cert.Kernel5Ideal.cfg0.N = 16 := Cert.Kernel5Ideal.Gen.N_0
  exact ⟨⟨R.val / 512, by omega⟩, ⟨R.val % 512, by omega⟩, Fin.ext (by show R.val / 512 * 512 + R.val % 512 = R.val; omega)⟩

theorem eq12 (c : Dev Cert.Kernel5Ideal.nD) : (Cert.Kernel5Ideal.Gen.dats m 0 c).arrAt 12 Cert.Kernel5Ideal.cfg0.N
    = ref (Host.cos angle) (Host.sin angle) (gq m c) (gk m c) (gv m c) := funext fun i => by
  idx_vars i
  obtain ⟨t, r, rfl⟩ := row_of i0
  exact (Cert.Kernel5Ideal.DilPrep.res m c t r i1).trans (ref_apply _ _ _ _ _ (row t r) i1).symm

theorem algebraic : Cert.algebraic_Kernel5Ideal_Reference5Ideal := by
  intro m ρ m' ρ' _ hag
  refine ⟨fun c => (Cert.Kernel5Ideal.Gen.dats m 0 c).arrAt 12 Cert.Kernel5Ideal.cfg0.N, Cert.Kernel5Ideal.Value.run_blocks m ρ, ?_⟩
  refine (θ_run Cert.Reference5Ideal.defs _ _).mono (fun _ h c => ?_) (Cert.Reference5Ideal.Value.run (F := Ideal) m' ρ')
  obtain ⟨h0, hk⟩ := h c
  obtain ⟨a0, a1, a2⟩ := hag c
  refine ⟨(h0.trans (run_ref m' c)).trans ?_, hk⟩
  refine Eq.trans ?_ (eq12 c).symm
  rw [a0, a1, a2]

end Cert.Proof.DilPrepClaims

end
-- ==== Proof.MlaPrepRead.lean ====
/- What the kernel of the latent attention's preparation gradient stores, entry by entry. -/
module

public import proofs.«01_k».proof.Proof.Gen.Kernel6Ideal.Value
public import proofs.«01_k».proof.Proof.RmsMath
public import proofs.«01_k».proof.Proof.Blocks

@[expose] public section

set_option maxRecDepth 16384

noncomputable section

namespace Cert.Kernel6Ideal.MlaPrep

open Idealize.ShloMosaic Idealize.ShloMosaic.Tactic Idealize.ShloMosaic.Pointwise Idealize.SL.Sem Cert.Kernel6Ideal Cert.Kernel6Ideal.Gen Cert.Lift Cert.Rms

/-- The logarithm of 2 and the scale `96^(-1/2)`, as the kernel's named constants. -/
abbrev ln2 : EReal := ((Real.log 2 : ℝ) : EReal)
abbrev s96 : EReal := (((Real.sqrt 96)⁻¹ : ℝ) : EReal)

theorem ln2_named : (Named.named κ "ln2" 0x3F317218#32 : Ideal .f32) = ln2 :=
  IdealRules.named_const.ideal_named_scalar κ "ln2" _ _ rfl

theorem s96_named : (Named.named κ "s96" 0x3DD105EC#32 : Ideal .f32) = s96 :=
  IdealRules.named_const.ideal_named_scalar κ "s96" _ _ rfl

theorem hz : (![0, 0] : Fin 2 → Nat) = fun _ => 0 := funext fun a => by fin_cases a <;> rfl

/-- An entry turned back: `x` itself, `p` the entry sixteen lanes on, `q` the entry sixteen lanes before. -/
abbrev back (c a b x p q : EReal) : EReal := x * c + p * a + q * b

abbrev on (l : Fin 128) : Fin 128 := ⟨(l.val + 128 - 112) % 128, Nat.mod_lt _ (by omega)⟩
abbrev before (l : Fin 128) : Fin 128 := ⟨(l.val + 128 - 16) % 128, Nat.mod_lt _ (by omega)⟩

theorem tab (x : FVec Ideal S512x128 .f32) : k0_pay8 x = x ∧ k0_pay9 x = x ∧ k0_pay10 x = x := by
  refine ⟨funext fun i => ?_, funext fun i => ?_, funext fun i => ?_⟩ <;> idx_vars i
  · pointwise [k0_pay8]
  · pointwise [k0_pay9]
  · pointwise [k0_pay10]

theorem pay43_apply (c a b : FVec Ideal S512x128 .f32) (x : FVec Ideal S512x128 .bf16) (r : Fin 512) (l : Fin 128) :
    (k0_pay43 c a b x (ix2 r l) : EReal)
      = back (c (ix2 r l)) (a (ix2 r l)) (b (ix2 r l)) (x (ix2 r l)) (x (ix2 r (on l))) (x (ix2 r (before l))) * s96 := by
  rw [← s96_named]
  pointwise [k0_pay43]

theorem pay45_apply (x : FVec Ideal S512x128 .bf16) (r : Fin 512) (l : Fin 128) : (k0_pay45 (F := Ideal) x (ix2 r l) : EReal) = x (ix2 r l) * ln2 := by
  rw [← ln2_named]
  pointwise [k0_pay45, k0_pay44]

theorem pay44_apply (x : FVec Ideal S512x128 .bf16) (r : Fin 512) (l : Fin 128) : (k0_pay44 (F := Ideal) x (ix2 r l) : EReal) = x (ix2 r l) * ln2 := by
  rw [← ln2_named]
  pointwise [k0_pay44]

theorem pay46_apply (x : FVec Ideal S512x512 .bf16) (r : Fin 512) (l : Fin 512) : (k0_pay46 (F := Ideal) x (ix2 r l) : EReal) = x (ix2 r l) := by
  pointwise [k0_pay46]

/-! ## Blocks put together from pieces side by side -/

theorem emb_apply {N w o : ℕ} (h : ∀ i, (![0, o] : Fin 2 → ℕ) i + (![512, w] : Fin 2 → ℕ) i ≤ (⟨2, ![512, N]⟩ : Shape).size i) (r : Fin 512) (l : Fin w)
    (hl : o + l.val < N) : (Rect.unit (s := ⟨2, ![512, N]⟩) ![0, o] ![512, w] h).emb (ix2 r l) = ix2 r ⟨o + l.val, hl⟩ := funext fun k => Fin.ext <| by
  match k with
  | ⟨0, _⟩ => show 0 + 1 * r.val = r.val; omega
  | ⟨1, _⟩ => show o + 1 * l.val = o + l.val; omega

theorem ld_apply {N w o : ℕ} {e : EltTy} (x : Vec Ideal ⟨2, ![512, N]⟩ e) (h : ∀ i, (![0, o] : Fin 2 → ℕ) i + (![512, w] : Fin 2 → ℕ) i ≤ (⟨2, ![512, N]⟩ : Shape).size i)
    (r : Fin 512) (l : Fin w) (hl : o + l.val < N) :
    View.ld x (Rect.unit (s := ⟨2, ![512, N]⟩) ![0, o] ![512, w] h) (ix2 r l) = x (ix2 r ⟨o + l.val, hl⟩) :=
  congrArg x (emb_apply h r l hl)

section blocks
variable (c a b : Vec Ideal S512x128 .f32) (x0 x1 : Vec Ideal S512x1024 .bf16) (x2 : Vec Ideal S512x512 .bf16)

theorem in1024 (n : Fin 8) : ∀ i, (![0, n.val * 128] : Fin 2 → ℕ) i + S512x128.size i ≤ S512x1024.size i := fun i => by
  match i with
  | 0 => exact le_refl 512
  | 1 => show n.val * 128 + 128 ≤ 1024; omega
theorem in1536 (n : Fin 8) : ∀ i, (![0, n.val * 128] : Fin 2 → ℕ) i + S512x128.size i ≤ S512x1536.size i := fun i => by
  match i with
  | 0 => exact le_refl 512
  | 1 => show n.val * 128 + 128 ≤ 1536; omega

/-- The whole query block: each head's 128 columns turned back and scaled. -/
def qAt (r : Fin 512) (j : Fin 1024) : EReal :=
  let l : Fin 128 := ⟨j.val % 128, Nat.mod_lt _ (by omega)⟩
  let x : Fin 128 → EReal := fun e => x0 (ix2 r ⟨j.val / 128 * 128 + e.val, by omega⟩)
  (back (c (ix2 r l)) (a (ix2 r l)) (b (ix2 r l)) (x l) (x (on l)) (x (before l)) * s96 : EReal)
def qBlock : Vec Ideal S512x1024 .bf16 := fun y => qAt c a b x0 (y 0) (y 1)

/-- The whole key and value block. -/
def kAt (r : Fin 512) (j : Fin 1536) : EReal :=
  if h : j.val < 1024 then (x1 (ix2 r ⟨j.val, h⟩) * ln2 : EReal) else x2 (ix2 r ⟨j.val - 1024, by omega⟩)
def kBlock : Vec Ideal S512x1536 .bf16 := fun y => kAt x1 x2 (y 0) (y 1)

def qPiece (n : Fin 8) : View.Piece (Elt Ideal) S512x1024 .bf16 :=
  ⟨Rect.unit (s := S512x1024) ![0, n.val * 128] S512x128.size (in1024 n),
    k0_pay43 (k0_pay8 (View.ld c (Rect.unit (s := S512x128) ![0, 0] S512x128.size inb_S512x128_S512x128_0_0)))
      (k0_pay9 (View.ld a (Rect.unit (s := S512x128) ![0, 0] S512x128.size inb_S512x128_S512x128_0_0)))
      (k0_pay10 (View.ld b (Rect.unit (s := S512x128) ![0, 0] S512x128.size inb_S512x128_S512x128_0_0)))
      (View.ld x0 (Rect.unit (s := S512x1024) ![0, n.val * 128] S512x128.size (in1024 n)))⟩

def kPiece (n : Fin 8) : View.Piece (Elt Ideal) S512x1536 .bf16 :=
  ⟨Rect.unit (s := S512x1536) ![0, n.val * 128] S512x128.size (in1536 n), k0_pay45 (View.ld x1 (Rect.unit (s := S512x1024) ![0, n.val * 128] S512x128.size (in1024 n)))⟩

def qPieces : List (View.Piece (Elt Ideal) S512x1024 .bf16) :=
  [qPiece c a b x0 7, qPiece c a b x0 6, qPiece c a b x0 5, qPiece c a b x0 4, qPiece c a b x0 3, qPiece c a b x0 2, qPiece c a b x0 1, qPiece c a b x0 0]

def kPieces : List (View.Piece (Elt Ideal) S512x1536 .bf16) :=
  [⟨Rect.unit (s := S512x1536) ![0, 1024] S512x512.size inb_S512x1536_S512x512_0_1024,
      k0_pay46 (F := Ideal) (View.ld x2 (Rect.unit (s := S512x512) ![0, 0] S512x512.size inb_S512x512_S512x512_0_0))⟩,
    kPiece x1 7, kPiece x1 6, kPiece x1 5, kPiece x1 4, kPiece x1 3, kPiece x1 2, kPiece x1 1, kPiece x1 0]

theorem qPiece_eq (n : Fin 8) (x : S512x128.Idx) : (qPiece c a b x0 n).2 x = qBlock c a b x0 ((qPiece c a b x0 n).1.emb x) := by
  obtain ⟨r, l, rfl⟩ : ∃ (r : Fin 512) (l : Fin 128), x = ix2 r l := ⟨x 0, x 1, (ix2_eta x).symm⟩
  refine Eq.trans ?_ (congrArg (qBlock c a b x0) (emb_apply (N := 1024) (in1024 n) r l (by omega))).symm
  unfold qPiece
  dsimp only
  rw [(tab _).1, (tab _).2.1, (tab _).2.2, View.ld_unit_zero hz, View.ld_unit_zero hz, View.ld_unit_zero hz]
  refine (pay43_apply _ _ _ _ r l).trans ?_
  have e (e : Fin 128) := ld_apply (N := 1024) x0 (in1024 n) r e (by omega)
  refine (congrArg (fun f : Fin 128 → EReal => back (c (ix2 r l)) (a (ix2 r l)) (b (ix2 r l)) (f l) (f (on l)) (f (before l)) * s96) (funext e)).trans ?_
  have e5 : (n.val * 128 + l.val) % 128 = l.val := by omega
  have e6 : (n.val * 128 + l.val) / 128 * 128 = n.val * 128 := by omega
  show _ = qAt c a b x0 r ⟨n.val * 128 + l.val, _⟩
  unfold qAt
  dsimp only
  simp only [e5, e6]

theorem kPiece_eq (n : Fin 8) (x : S512x128.Idx) : (kPiece x1 n).2 x = kBlock x1 x2 ((kPiece x1 n).1.emb x) := by
  obtain ⟨r, l, rfl⟩ : ∃ (r : Fin 512) (l : Fin 128), x = ix2 r l := ⟨x 0, x 1, (ix2_eta x).symm⟩
  refine Eq.trans ?_ (congrArg (kBlock x1 x2) (emb_apply (N := 1536) (in1536 n) r l (by omega))).symm
  refine (pay45_apply _ r l).trans ?_
  refine (congrArg (· * ln2) (ld_apply (N := 1024) x1 (in1024 n) r l (by omega))).trans ?_
  show _ = kAt x1 x2 r ⟨n.val * 128 + l.val, _⟩
  unfold kAt
  rw [dif_pos (by dsimp only; omega)]

theorem canonQ : View.canon (qPieces c a b x0) = qBlock c a b x0 := funext fun y => by
  refine View.canon_apply_of_pieces (qBlock c a b x0) _ ?_ y (View.cover_of_tiledBy (qPieces c a b x0) ![512, 128] (by sl_kernel_rfl) y)
  unfold qPieces
  simp only [List.forall_mem_cons]
  exact ⟨qPiece_eq c a b x0 7, qPiece_eq c a b x0 6, qPiece_eq c a b x0 5, qPiece_eq c a b x0 4, qPiece_eq c a b x0 3, qPiece_eq c a b x0 2, qPiece_eq c a b x0 1,
    qPiece_eq c a b x0 0, List.forall_mem_nil _⟩

theorem canonK : View.canon (kPieces x1 x2) = kBlock x1 x2 := funext fun y => by
  refine View.canon_apply_of_pieces (kBlock x1 x2) _ ?_ y (View.cover_of_tiledBy (kPieces x1 x2) ![512, 128] (by sl_kernel_rfl) y)
  unfold kPieces
  simp only [List.forall_mem_cons]
  refine ⟨fun x => ?_, kPiece_eq x1 x2 7, kPiece_eq x1 x2 6, kPiece_eq x1 x2 5, kPiece_eq x1 x2 4, kPiece_eq x1 x2 3, kPiece_eq x1 x2 2, kPiece_eq x1 x2 1,
    kPiece_eq x1 x2 0, List.forall_mem_nil _⟩
  obtain ⟨r, l, rfl⟩ : ∃ (r : Fin 512) (l : Fin 512), x = ix2 r l := ⟨x 0, x 1, (ix2_eta x).symm⟩
  refine Eq.trans ?_ (congrArg (kBlock x1 x2) (emb_apply (N := 1536) inb_S512x1536_S512x512_0_1024 r l (by omega))).symm
  refine (pay46_apply _ r l).trans ?_
  rw [View.ld_unit_zero hz]
  show _ = kAt x1 x2 r ⟨1024 + l.val, _⟩
  unfold kAt
  rw [dif_neg (by dsimp only; omega)]
  exact congrArg (fun j => x2 (ix2 r j)) (Fin.ext (by show l.val = 1024 + l.val - 1024; omega))

theorem loadQ (v : View sig .tc .vmem S512x1024 .bf16) :
    v.readCov (qPieces c a b x0) (Rect.unit (s := S512x1024) ![0, 0] S512x1024.size inb_S512x1024_S512x1024_0_0).toLoadRect = qBlock c a b x0 := by
  rw [View.readCov_eq_canon_ld _ _ _ (View.cover_of_tiledBy (qPieces c a b x0) ![512, 128] (by sl_kernel_rfl)), canonQ, View.ld_unit_zero hz]

theorem loadK (v : View sig .tc .vmem S512x1536 .bf16) :
    v.readCov (kPieces x1 x2) (Rect.unit (s := S512x1536) ![0, 0] S512x1536.size inb_S512x1536_S512x1536_0_0).toLoadRect = kBlock x1 x2 := by
  rw [View.readCov_eq_canon_ld _ _ _ (View.cover_of_tiledBy (kPieces x1 x2) ![512, 128] (by sl_kernel_rfl)), canonK, View.ld_unit_zero hz]
end blocks

end Cert.Kernel6Ideal.MlaPrep

end
-- ==== Proof.MlaPrepPay.lean ====
/- The latent attention preparation gradient: the norms, and what one grid point stores. -/
module

public import proofs.«01_k».proof.Proof.MlaPrepRead

@[expose] public section

set_option maxRecDepth 16384

noncomputable section

namespace Cert.Kernel6Ideal.MlaPrep

open Idealize.ShloMosaic Idealize.ShloMosaic.Tactic Idealize.ShloMosaic.Pointwise Idealize.SL.Sem Cert.Kernel6Ideal Cert.Kernel6Ideal.Gen Cert.Lift Cert.Rms

/-! ## The norms' gradients -/

theorem bits_384 : Ideal.ofBits .f32 0x43C00000#32 = ((384 : ℝ) : EReal) := by
  simp [Ideal.ofBits, Ideal.ieee]
  rw [← EReal.coe_mul]; exact congrArg _ (by norm_num)
theorem bits_256 : Ideal.ofBits .f32 0x43800000#32 = ((256 : ℝ) : EReal) := by
  simp [Ideal.ofBits, Ideal.ieee]
  rw [← EReal.coe_mul]; exact congrArg _ (by norm_num)

section rows
variable {y x : FVec Ideal S512x384 .f32} {g : FVec Ideal S1x384 .f32} {Y X : Fin 512 → Fin 384 → ℝ} {G : Fin 384 → ℝ}

theorem pay52_real (hx : ∀ r d, (x (ix2 r d) : EReal) = (X r d : ℝ)) (r : Fin 512) : (k0_pay52 x (ix2 r 0) : EReal) = ((rs 384 (X r) : ℝ) : EReal) := by
  have e : (k0_pay52 x (ix2 r 0) : EReal)
      = Ideal.rsqrt (Ideal.div (∑ j : Fin 384, (x (ix2 r j) : EReal) * x (ix2 r j)) (Ideal.ofBits .f32 0x43C00000#32) + Ideal.ofBits .f32 0x358637BD#32) := by
    pointwise [k0_pay52]
  rw [e, bits_384, bits_eps]
  simp only [hx]
  exact rsqrt_ms (by norm_num) (X r)

theorem pay53_real (hx : ∀ r d, (x (ix2 r d) : EReal) = (X r d : ℝ)) (hy : ∀ r d, (y (ix2 r d) : EReal) = (Y r d : ℝ)) (hg : ∀ d, (g (ix2 0 d) : EReal) = (G d : ℝ))
    (r : Fin 512) (d : Fin 384) : (k0_pay53 y x g (ix2 r d) : EReal) = ((dRow 384 (X r) (fun j => Y r j * G j) d : ℝ) : EReal) := by
  have e : (k0_pay53 y x g (ix2 r d) : EReal)
      = k0_pay52 x (ix2 r 0) * (y (ix2 r d) * g (ix2 0 d))
        - x (ix2 r d) * (k0_pay52 x (ix2 r 0) * k0_pay52 x (ix2 r 0) * k0_pay52 x (ix2 r 0))
          * Ideal.div (∑ j : Fin 384, (y (ix2 r j) : EReal) * g (ix2 0 j) * x (ix2 r j)) (Ideal.ofBits .f32 0x43C00000#32) := by
    unfold k0_pay53
    generalize k0_pay52 x = s
    pointwise []
  rw [e, bits_384]
  simp only [pay52_real hx, hx, hy, hg, ← EReal.coe_mul, ← EReal.coe_sub, sum_coe, div_real _ (show (384 : ℝ) ≠ 0 by norm_num)]
  rfl

theorem pay54_real (hx : ∀ r d, (x (ix2 r d) : EReal) = (X r d : ℝ)) (hy : ∀ r d, (y (ix2 r d) : EReal) = (Y r d : ℝ)) (d : Fin 384) :
    (k0_pay54 y x (ix2 0 d) : EReal) = ((∑ r, Y r d * X r d * rs 384 (X r) : ℝ) : EReal) := by
  have e : (k0_pay54 y x (ix2 0 d) : EReal) = ∑ r : Fin 512, (y (ix2 r d) : EReal) * x (ix2 r d) * k0_pay52 x (ix2 r 0) := by
    unfold k0_pay54
    generalize k0_pay52 x = s
    pointwise []
  rw [e]
  simp only [pay52_real hx, hx, hy, ← EReal.coe_mul, sum_coe]

theorem pay6_apply (v o : FVec Ideal S1x384 .f32) (d : Fin 384) : (k0_pay6 v o (ix2 0 d) : EReal) = o (ix2 0 d) + v (ix2 0 d) := by pointwise [k0_pay6]
theorem pay50_apply (v : FVec Ideal S512x384 .bf16) (r : Fin 512) (d : Fin 384) : (k0_pay50 (F := Ideal) v (ix2 r d) : EReal) = v (ix2 r d) := by pointwise [k0_pay50]
theorem pay51_apply (v : FVec Ideal S1x384 .f32) (d : Fin 384) : (k0_pay51 (F := Ideal) v (ix2 0 d) : EReal) = v (ix2 0 d) := by pointwise [k0_pay51]
theorem pay2_apply (v : FVec Ideal S512x384 .f32) (r : Fin 512) (d : Fin 384) : (k0_pay2 (F := Ideal) v (ix2 r d) : EReal) = v (ix2 r d) := by pointwise [k0_pay2]
theorem pay48_apply (q : FVec Ideal S512x1024 .bf16) (w : FVec Ideal S1024x384 .bf16) (r : Fin 512) (d : Fin 384) :
    (k0_pay48 (F := Ideal) q w (ix2 r d) : EReal) = ∑ j : Fin 1024, (q (ix2 r j) : EReal) * w (ix2 j d) := by pointwise [k0_pay48]
end rows

section rows
variable {y : FVec Ideal S512x256 .f32} {x : FVec Ideal S512x256 .bf16} {g : FVec Ideal S1x256 .f32} {Y X : Fin 512 → Fin 256 → ℝ} {G : Fin 256 → ℝ}

theorem pay55_apply (v : FVec Ideal S512x256 .bf16) (r : Fin 512) (d : Fin 256) : (k0_pay55 (F := Ideal) v (ix2 r d) : EReal) = v (ix2 r d) := by pointwise [k0_pay55]

theorem pay56_real (hx : ∀ r d, (x (ix2 r d) : EReal) = (X r d : ℝ)) (r : Fin 512) : (k0_pay56 (F := Ideal) x (ix2 r 0) : EReal) = ((rs 256 (X r) : ℝ) : EReal) := by
  have e : (k0_pay56 (F := Ideal) x (ix2 r 0) : EReal)
      = Ideal.rsqrt (Ideal.div (∑ j : Fin 256, (x (ix2 r j) : EReal) * x (ix2 r j)) (Ideal.ofBits .f32 0x43800000#32) + Ideal.ofBits .f32 0x358637BD#32) := by
    pointwise [k0_pay56, k0_pay55]
  rw [e, bits_256, bits_eps]
  simp only [hx]
  exact rsqrt_ms (by norm_num) (X r)

/-- The gradient by the block's rows, as the kernel groups it. -/
def dxk (y : FVec Ideal S512x256 .f32) (x : FVec Ideal S512x256 .bf16) (g : FVec Ideal S1x256 .f32) : FVec Ideal S512x256 .bf16 :=
  k0_pay3 (k0_pay55 x) (k0_pay56 x) (k0_pay57 y g) (k0_pay58 y x g) (k0_pay59 x)

theorem dxk_real (hx : ∀ r d, (x (ix2 r d) : EReal) = (X r d : ℝ)) (hy : ∀ r d, (y (ix2 r d) : EReal) = (Y r d : ℝ)) (hg : ∀ d, (g (ix2 0 d) : EReal) = (G d : ℝ))
    (r : Fin 512) (d : Fin 256) : (dxk y x g (ix2 r d) : EReal) = ((dRow 256 (X r) (fun j => Y r j * G j) d : ℝ) : EReal) := by
  have e : (dxk y x g (ix2 r d) : EReal)
      = k0_pay56 (F := Ideal) x (ix2 r 0) * (y (ix2 r d) * g (ix2 0 d))
        - x (ix2 r d) * (k0_pay56 (F := Ideal) x (ix2 r 0) * k0_pay56 (F := Ideal) x (ix2 r 0) * k0_pay56 (F := Ideal) x (ix2 r 0))
          * Ideal.div (∑ j : Fin 256, (y (ix2 r j) : EReal) * g (ix2 0 j) * x (ix2 r j)) (Ideal.ofBits .f32 0x43800000#32) := by
    unfold dxk k0_pay3 k0_pay58 k0_pay59
    generalize k0_pay56 (F := Ideal) x = s
    pointwise [k0_pay55, k0_pay57]
  rw [e, bits_256]
  simp only [pay56_real hx, hx, hy, hg, ← EReal.coe_mul, ← EReal.coe_sub, sum_coe, div_real _ (show (256 : ℝ) ≠ 0 by norm_num)]
  rfl

/-- A block's share of the gain's gradient. -/
def dgk (y : FVec Ideal S512x256 .f32) (x : FVec Ideal S512x256 .bf16) : FVec Ideal S1x256 .f32 := k0_pay1 y (k0_pay55 x) (k0_pay56 x)

theorem dgk_real (hx : ∀ r d, (x (ix2 r d) : EReal) = (X r d : ℝ)) (hy : ∀ r d, (y (ix2 r d) : EReal) = (Y r d : ℝ)) (d : Fin 256) :
    (dgk y x (ix2 0 d) : EReal) = ((∑ r, Y r d * X r d * rs 256 (X r) : ℝ) : EReal) := by
  have e : (dgk y x (ix2 0 d) : EReal) = ∑ r : Fin 512, (y (ix2 r d) : EReal) * x (ix2 r d) * k0_pay56 (F := Ideal) x (ix2 r 0) := by
    unfold dgk k0_pay1
    generalize k0_pay56 (F := Ideal) x = s
    pointwise [k0_pay55]
  rw [e]
  simp only [pay56_real hx, hx, hy, ← EReal.coe_mul, sum_coe]

theorem pay7_apply (v : FVec Ideal S512x256 .f32) (w : FVec Ideal S512x256 .bf16) (o : FVec Ideal S1x256 .f32) (d : Fin 256) :
    (k0_pay7 v (k0_pay55 w) (k0_pay56 w) o (ix2 0 d) : EReal) = o (ix2 0 d) + dgk v w (ix2 0 d) := by
  unfold k0_pay7 dgk
  generalize k0_pay1 v (k0_pay55 w) (k0_pay56 w) = s
  pointwise []
theorem pay49_apply (q : FVec Ideal S512x1536 .bf16) (w : FVec Ideal S1536x256 .bf16) (r : Fin 512) (d : Fin 256) :
    (k0_pay49 (F := Ideal) q w (ix2 r d) : EReal) = ∑ j : Fin 1536, (q (ix2 r j) : EReal) * w (ix2 j d) := by pointwise [k0_pay49]
end rows

/-! ## The shared rotated part of the keys -/

/-- The loads of the keys' head `n`. -/
abbrev kl (x1 : Vec Ideal S512x1024 .bf16) (n : Fin 8) : Vec Ideal S512x128 .bf16 :=
  View.ld x1 (Rect.unit (s := S512x1024) ![0, n.val * 128] S512x128.size (in1024 n))

/-- The heads' sum turned back, on the rotated lanes. -/
def krBlock (c a b : Vec Ideal S512x128 .f32) (x1 : Vec Ideal S512x1024 .bf16) : FVec Ideal S512x128 .bf16 :=
  k0_pay4 (k0_pay47 (k0_pay8 (View.ld c (Rect.unit (s := S512x128) ![0, 0] S512x128.size inb_S512x128_S512x128_0_0)))
    (k0_pay9 (View.ld a (Rect.unit (s := S512x128) ![0, 0] S512x128.size inb_S512x128_S512x128_0_0)))
    (k0_pay10 (View.ld b (Rect.unit (s := S512x128) ![0, 0] S512x128.size inb_S512x128_S512x128_0_0)))
    (k0_pay42 (k0_pay35 (k0_pay28 (k0_pay21 (k0_pay14 (kl x1 0)) (kl x1 1)) (k0_pay23 (kl x1 2)) (kl x1 3)) (kl x1 4) (kl x1 5)) (kl x1 6)) (k0_pay44 (kl x1 7)))

/-- The heads' sum at a lane. -/
def krSum (x1 : Vec Ideal S512x1024 .bf16) (r : Fin 512) (l : Fin 128) : EReal :=
  ∑ h : Fin 8, (x1 (ix2 r ⟨h.val * 128 + l.val, by omega⟩) * ln2 : EReal)

theorem lanes : ∀ l : Fin 128, IntOp.andi (IntOp.cmpi CmpIPredicate.sge (BitVec.ofNat 32 l.val) 64#32) (IntOp.cmpi CmpIPredicate.slt (BitVec.ofNat 32 l.val) 96#32)
    = if 64 ≤ l.val ∧ l.val < 96 then 1#1 else 0#1 := by decide +kernel

theorem total_apply (x1 : Vec Ideal S512x1024 .bf16) (r : Fin 512) (l : Fin 128) :
    ((addf (k0_pay42 (k0_pay35 (k0_pay28 (k0_pay21 (k0_pay14 (kl x1 0)) (kl x1 1)) (k0_pay23 (kl x1 2)) (kl x1 3)) (kl x1 4) (kl x1 5)) (kl x1 6)) (k0_pay44 (kl x1 7)) :
      FVec Ideal S512x128 .f32) (ix2 r l) : EReal) = krSum x1 r l := by
  have e (n : Fin 8) : (kl x1 n (ix2 r l) : EReal) * ln2 = x1 (ix2 r ⟨n.val * 128 + l.val, by omega⟩) * ln2 :=
    congrArg (· * ln2) (ld_apply (N := 1024) x1 (in1024 n) r l (by omega))
  unfold krSum
  rw [Fin.sum_univ_eight, ← e 0, ← e 1, ← e 2, ← e 3, ← e 4, ← e 5, ← e 6, ← e 7, ← ln2_named]
  generalize kl x1 0 = k0, kl x1 1 = k1, kl x1 2 = k2, kl x1 3 = k3, kl x1 4 = k4, kl x1 5 = k5, kl x1 6 = k6, kl x1 7 = k7
  pointwise [k0_pay42, k0_pay40, k0_pay35, k0_pay30, k0_pay33, k0_pay28, k0_pay26, k0_pay21, k0_pay19, k0_pay14, k0_pay12, k0_pay23, k0_pay44]

theorem krBlock_apply (c a b : Vec Ideal S512x128 .f32) (x1 : Vec Ideal S512x1024 .bf16) (r : Fin 512) (l : Fin 128) :
    (krBlock c a b x1 (ix2 r l) : EReal) = if 64 ≤ l.val ∧ l.val < 96 then
      back (c (ix2 r l)) (a (ix2 r l)) (b (ix2 r l)) (krSum x1 r l) (krSum x1 r (on l)) (krSum x1 r (before l)) else 0 := by
  unfold krBlock k0_pay47
  rw [(tab _).1, (tab _).2.1, (tab _).2.2, View.ld_unit_zero hz, View.ld_unit_zero hz, View.ld_unit_zero hz]
  have e := total_apply x1 r
  generalize (addf (k0_pay42 _ _) _ : FVec Ideal S512x128 .f32) = s at e ⊢
  rw [← e l, ← e (on l), ← e (before l)]
  pointwise [k0_pay4]
  rw [lanes]
  by_cases h : 64 ≤ l.val ∧ l.val < 96
  · rw [if_pos h, if_pos h]
    rfl
  · rw [if_neg h, if_neg h]
    rfl

/-! ## The first result's block -/

section
variable (A : FVec Ideal S512x384 .bf16) (B : FVec Ideal S512x256 .bf16) (C : FVec Ideal S512x128 .bf16)

def pAt (r : Fin 512) (j : Fin 1024) : EReal :=
  if h : j.val < 384 then A (ix2 r ⟨j.val, h⟩)
  else if h : j.val < 640 then B (ix2 r ⟨j.val - 384, by omega⟩)
  else if h : j.val < 768 then C (ix2 r ⟨j.val - 640, by omega⟩)
  else 0
def pBlock : Vec Ideal S512x1024 .bf16 := fun y => pAt A B C (y 0) (y 1)

def pPieces : List (View.Piece (Elt Ideal) S512x1024 .bf16) :=
  [⟨Rect.unit (s := S512x1024) ![0, 768] S512x256.size inb_S512x1024_S512x256_0_768, k0_pay5 (F := Ideal)⟩,
   ⟨Rect.unit (s := S512x1024) ![0, 640] S512x128.size inb_S512x1024_S512x128_0_640, C⟩,
   ⟨Rect.unit (s := S512x1024) ![0, 384] S512x256.size inb_S512x1024_S512x256_0_384, B⟩,
   ⟨Rect.unit (s := S512x1024) ![0, 0] S512x384.size inb_S512x1024_S512x384_0_0, A⟩]

theorem pay5_apply (r : Fin 512) (d : Fin 256) : (k0_pay5 (F := Ideal) (ix2 r d) : EReal) = 0 := by pointwise [k0_pay5]

theorem canonP : View.canon (pPieces A B C) = pBlock A B C := funext fun y => by
  refine View.canon_apply_of_pieces (pBlock A B C) _ ?_ y (View.cover_of_tiledBy (pPieces A B C) ![512, 128] (by sl_kernel_rfl) y)
  unfold pPieces
  simp only [List.forall_mem_cons]
  refine ⟨fun x => ?_, fun x => ?_, fun x => ?_, fun x => ?_, List.forall_mem_nil _⟩
  · obtain ⟨r, l, rfl⟩ : ∃ (r : Fin 512) (l : Fin 256), x = ix2 r l := ⟨x 0, x 1, (ix2_eta x).symm⟩
    refine Eq.trans ?_ (congrArg (pBlock A B C) (emb_apply (N := 1024) inb_S512x1024_S512x256_0_768 r l (by omega))).symm
    refine (pay5_apply r l).trans ?_
    show _ = pAt A B C r ⟨768 + l.val, _⟩
    unfold pAt
    rw [dif_neg (by dsimp only; omega), dif_neg (by dsimp only; omega), dif_neg (by dsimp only; omega)]
  · obtain ⟨r, l, rfl⟩ : ∃ (r : Fin 512) (l : Fin 128), x = ix2 r l := ⟨x 0, x 1, (ix2_eta x).symm⟩
    refine Eq.trans ?_ (congrArg (pBlock A B C) (emb_apply (N := 1024) inb_S512x1024_S512x128_0_640 r l (by omega))).symm
    show _ = pAt A B C r ⟨640 + l.val, _⟩
    unfold pAt
    rw [dif_neg (by dsimp only; omega), dif_neg (by dsimp only; omega), dif_pos (by dsimp only; omega)]
    exact congrArg (fun j => C (ix2 r j)) (Fin.ext (by show l.val = 640 + l.val - 640; omega))
  · obtain ⟨r, l, rfl⟩ : ∃ (r : Fin 512) (l : Fin 256), x = ix2 r l := ⟨x 0, x 1, (ix2_eta x).symm⟩
    refine Eq.trans ?_ (congrArg (pBlock A B C) (emb_apply (N := 1024) inb_S512x1024_S512x256_0_384 r l (by omega))).symm
    show _ = pAt A B C r ⟨384 + l.val, _⟩
    unfold pAt
    rw [dif_neg (by dsimp only; omega), dif_pos (by dsimp only; omega)]
    exact congrArg (fun j => B (ix2 r j)) (Fin.ext (by show l.val = 384 + l.val - 384; omega))
  · obtain ⟨r, l, rfl⟩ : ∃ (r : Fin 512) (l : Fin 384), x = ix2 r l := ⟨x 0, x 1, (ix2_eta x).symm⟩
    refine Eq.trans ?_ (congrArg (pBlock A B C) (emb_apply (N := 1024) inb_S512x1024_S512x384_0_0 r l (by omega))).symm
    show _ = pAt A B C r ⟨0 + l.val, _⟩
    unfold pAt
    rw [dif_pos (by dsimp only; omega)]
    exact congrArg (fun j => A (ix2 r j)) (Fin.ext (by show l.val = 0 + l.val; omega))
end

/-! ## What one point of the grid leaves in each output's block -/

section point
variable (c : Dev nD) (i : grid0.Coords) (a1 : Memref sig .tc .vmem S512x1024 .bf16) (h1 : a1.IsWhole)
  (a2 : Memref sig .tc .vmem S512x1024 .bf16) (h2 : a2.IsWhole) (a3 : Memref sig .tc .vmem S512x512 .bf16) (h3 : a3.IsWhole)
  (a4 : Memref sig .tc .vmem S512x1024 .bf16) (h4 : a4.IsWhole) (a5 : Memref sig .tc .vmem S1x384 .f32) (h5 : a5.IsWhole)
  (a6 : Memref sig .tc .vmem S1x256 .f32) (h6 : a6.IsWhole) (a7 : Memref sig .tc .vmem S1024x384 .bf16) (h7 : a7.IsWhole)
  (a8 : Memref sig .tc .vmem S1536x256 .bf16) (h8 : a8.IsWhole) (a9 : Memref sig .tc .vmem S512x128 .f32) (h9 : a9.IsWhole)
  (a10 : Memref sig .tc .vmem S512x128 .f32) (h10 : a10.IsWhole) (a11 : Memref sig .tc .vmem S512x128 .f32) (h11 : a11.IsWhole)
  (a12 : Memref sig .tc .vmem S512x1024 .bf16) (h12 : a12.IsWhole) (a13 : Memref sig .tc .vmem S512x1024 .bf16) (h13 : a13.IsWhole)
  (a14 : Memref sig .tc .vmem S512x1536 .bf16) (h14 : a14.IsWhole) (a15 : Memref sig .tc .vmem S1x384 .f32) (h15 : a15.IsWhole)
  (a16 : Memref sig .tc .vmem S1x256 .f32) (h16 : a16.IsWhole)
  (x0 x1 : Vec Ideal S512x1024 .bf16) (x2 : Vec Ideal S512x512 .bf16) (x3 : Vec Ideal S512x1024 .bf16) (x4 : Vec Ideal S1x384 .f32)
  (x5 : Vec Ideal S1x256 .f32) (x6 : Vec Ideal S1024x384 .bf16) (x7 : Vec Ideal S1536x256 .bf16) (x8 x9 x10 : Vec Ideal S512x128 .f32)

/-- The block's compressed queries, and keys and values. -/
abbrev cq (x3 : Vec Ideal S512x1024 .bf16) : Vec Ideal S512x384 .bf16 := View.ld x3 (Rect.unit (s := S512x1024) ![0, 0] S512x384.size inb_S512x1024_S512x384_0_0)
abbrev ckv (x3 : Vec Ideal S512x1024 .bf16) : Vec Ideal S512x256 .bf16 := View.ld x3 (Rect.unit (s := S512x1024) ![0, 384] S512x256.size inb_S512x1024_S512x256_0_384)
/-- The cotangents of their normed rows. -/
abbrev yq (x0 : Vec Ideal S512x1024 .bf16) (x6 : Vec Ideal S1024x384 .bf16) (x8 x9 x10 : Vec Ideal S512x128 .f32) : FVec Ideal S512x384 .f32 := k0_pay48 (qBlock x8 x9 x10 x0) x6
abbrev ykv (x1 : Vec Ideal S512x1024 .bf16) (x2 : Vec Ideal S512x512 .bf16) (x7 : Vec Ideal S1536x256 .bf16) : FVec Ideal S512x256 .f32 := k0_pay49 (kBlock x1 x2) x7
abbrev dpBlock (x0 x1 : Vec Ideal S512x1024 .bf16) (x2 : Vec Ideal S512x512 .bf16) (x3 : Vec Ideal S512x1024 .bf16) (x4 : Vec Ideal S1x384 .f32)
    (x5 : Vec Ideal S1x256 .f32) (x6 : Vec Ideal S1024x384 .bf16) (x7 : Vec Ideal S1536x256 .bf16) (x8 x9 x10 : Vec Ideal S512x128 .f32) : Vec Ideal S512x1024 .bf16 :=
  pBlock (k0_pay2 (k0_pay53 (yq x0 x6 x8 x9 x10) (k0_pay50 (cq x3)) (k0_pay51 x4))) (dxk (ykv x1 x2 x7) (ckv x3) x5) (krBlock x8 x9 x10 x1)

theorem first11 (ha : cond0_0 i) (hb : ¬cond0_1 i) :
    out0_A_11 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 = dpBlock x0 x1 x2 x3 x4 x5 x6 x7 x8 x9 x10 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread,
    h9.read_unread, h10.read_unread, h11.read_unread, View.ld_unit_zero (S := S1x384) hz, View.ld_unit_zero (S := S1x256) hz,
    View.ld_unit_zero (S := S1024x384) hz, View.ld_unit_zero (S := S1536x256) hz]
  unfold dpBlock yq ykv
  rw [← loadQ x8 x9 x10 x0 a13.view, ← loadK x1 x2 a14.view]
  refine Eq.trans ?_ (canonP _ _ _)
  unfold pPieces
  refine congrArg View.canon (congrArg (List.cons _) (congrArg₂ List.cons (congrArg (Sigma.mk _) rfl) (congrArg₂ List.cons (congrArg (Sigma.mk _) ?_)
    (congrArg₂ List.cons (congrArg (Sigma.mk _) ?_) rfl))))
  · unfold dxk
    have e := congrArg (fun w => k0_pay49 w x7) (rfl : a14.view.readCov (kPieces x1 x2) (Rect.unit (s := S512x1536) ![0, 0] S512x1536.size inb_S512x1536_S512x1536_0_0).toLoadRect = _)
    exact congrArg (fun y => k0_pay3 (k0_pay55 (ckv x3)) (k0_pay56 (ckv x3)) (k0_pay57 y x5) (k0_pay58 y (ckv x3) x5) (k0_pay59 (ckv x3))) e.symm
  · exact congrArg (fun w => k0_pay2 (k0_pay53 (k0_pay48 w x6) (k0_pay50 (cq x3)) (k0_pay51 x4)))
      (rfl : _ = a13.view.readCov (qPieces x8 x9 x10 x0) (Rect.unit (s := S512x1024) ![0, 0] S512x1024.size inb_S512x1024_S512x1024_0_0).toLoadRect)

theorem first12 (ha : cond0_0 i) (hb : ¬cond0_1 i) :
    out0_A_12 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 = qBlock x8 x9 x10 x0 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread,
    h9.read_unread, h10.read_unread, h11.read_unread, View.ld_unit_zero (S := S1x384) hz, View.ld_unit_zero (S := S1x256) hz,
    View.ld_unit_zero (S := S1024x384) hz, View.ld_unit_zero (S := S1536x256) hz]
  exact canonQ x8 x9 x10 x0

theorem first13 (ha : cond0_0 i) (hb : ¬cond0_1 i) :
    out0_A_13 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 = kBlock x1 x2 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread,
    h9.read_unread, h10.read_unread, h11.read_unread, View.ld_unit_zero (S := S1x384) hz, View.ld_unit_zero (S := S1x256) hz,
    View.ld_unit_zero (S := S1024x384) hz, View.ld_unit_zero (S := S1536x256) hz]
  exact canonK x1 x2

theorem first14 (ha : cond0_0 i) (hb : ¬cond0_1 i) :
    out0_A_14 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 = k0_pay54 (yq x0 x6 x8 x9 x10) (k0_pay50 (cq x3)) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread,
    h9.read_unread, h10.read_unread, h11.read_unread, View.ld_unit_zero (S := S1x384) hz, View.ld_unit_zero (S := S1x256) hz,
    View.ld_unit_zero (S := S1024x384) hz, View.ld_unit_zero (S := S1536x256) hz]
  unfold yq
  rw [← loadQ x8 x9 x10 x0 a13.view]
  rfl

theorem first15 (ha : cond0_0 i) (hb : ¬cond0_1 i) :
    out0_A_15 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 = dgk (ykv x1 x2 x7) (ckv x3) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread,
    h9.read_unread, h10.read_unread, h11.read_unread, View.ld_unit_zero (S := S1x384) hz, View.ld_unit_zero (S := S1x256) hz,
    View.ld_unit_zero (S := S1024x384) hz, View.ld_unit_zero (S := S1536x256) hz]
  unfold ykv
  rw [← loadK x1 x2 a14.view]
  rfl

variable (o14 : Vec Ideal S1x384 .f32) (o15 : Vec Ideal S1x256 .f32)

theorem later11 (ha : ¬cond0_0 i) (hb : cond0_1 i) :
    out0_B_11 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 o14 o15 = dpBlock x0 x1 x2 x3 x4 x5 x6 x7 x8 x9 x10 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 o14 o15)]
  unfold kernelRun0_B
  dsimp only
  sl_unfold_words
  simp only [View.readAt_eq_ld, h1.read_unread, h2.read_unread, h3.read_unread, h4.read_unread, h5.read_unread, h6.read_unread, h7.read_unread, h8.read_unread,
    h9.read_unread, h10.read_unread, h11.read_unread, View.ld_unit_zero (S := S1x384) hz, View.ld_unit_zero (S := S1x256) hz,
    View.ld_unit_zero (S := S1024x384) hz, View.ld_unit_zero (S := S1536x256) hz]
  unfold dpBlock yq ykv
  rw [← loadQ x8 x9 x10 x0 a13.view, ← loadK x1 x2 a14.view]
  refine Eq.trans ?_ (canonP _ _ _)
  unfold pPieces
  refine congrArg View.canon (congrArg (List.cons _) (congrArg₂ List.cons (congrArg (Sigma.mk _) rfl) (congrArg₂ List.cons (congrArg (Sigma.mk _) ?_)
    (congrArg₂ List.cons (congrArg (Sigma.mk _) ?_) rfl))))
  · unfold dxk
    have e := congrArg (fun w => k0_pay49 w x7) (rfl : a14.view.readCov (kPieces x1 x2) (Rect.unit (s := S512x1536) ![0, 0] S512x1536.size inb_S512x1536_S512x1536_0_0).toLoadRect = _)
    exact congrArg (fun y => k0_pay3 (k0_pay55 (ckv x3)) (k0_pay56 (ckv x3)) (k0_pay57 y x5) (k0_pay58 y (ckv x3) x5) (k0_pay59 (ckv x3))) e.symm
  · exact congrArg (fun w => k0_pay2 (k0_pay53 (k0_pay48 w x6) (k0_pay50 (cq x3)) (k0_pay51 x4)))
      (rfl : _ = a13.view.readCov (qPieces x8 x9 x10 x0) (Rect.unit (s := S512x1024) ![0, 0] S512x1024.size inb_S512x1024_S512x1024_0_0).toLoadRect)

theorem later12 (ha : ¬cond0_0 i) (hb : cond0_1 i) :
    out0_B_12 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 o14 o15 = qBlock x8 x9 x10 x0 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 o14 o15)]
  unfold kernelRun0_B
  dsimp only
  sl_unfold_words
  simp only [View.readAt_eq_ld, h1.read_unread, h2.read_unread, h3.read_unread, h4.read_unread, h5.read_unread, h6.read_unread, h7.read_unread, h8.read_unread,
    h9.read_unread, h10.read_unread, h11.read_unread, View.ld_unit_zero (S := S1x384) hz, View.ld_unit_zero (S := S1x256) hz,
    View.ld_unit_zero (S := S1024x384) hz, View.ld_unit_zero (S := S1536x256) hz]
  exact canonQ x8 x9 x10 x0

theorem later13 (ha : ¬cond0_0 i) (hb : cond0_1 i) :
    out0_B_13 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 o14 o15 = kBlock x1 x2 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 o14 o15)]
  unfold kernelRun0_B
  dsimp only
  sl_unfold_words
  simp only [View.readAt_eq_ld, h1.read_unread, h2.read_unread, h3.read_unread, h4.read_unread, h5.read_unread, h6.read_unread, h7.read_unread, h8.read_unread,
    h9.read_unread, h10.read_unread, h11.read_unread, View.ld_unit_zero (S := S1x384) hz, View.ld_unit_zero (S := S1x256) hz,
    View.ld_unit_zero (S := S1024x384) hz, View.ld_unit_zero (S := S1536x256) hz]
  exact canonK x1 x2

theorem later14 (ha : ¬cond0_0 i) (hb : cond0_1 i) :
    out0_B_14 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 o14 o15 = k0_pay6 (k0_pay54 (yq x0 x6 x8 x9 x10) (k0_pay50 (cq x3))) o14 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 o14 o15)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread,
    h9.read_unread, h10.read_unread, h11.read_unread, h15.read_unread, h16.read_unread, View.ld_unit_zero (S := S1x384) hz, View.ld_unit_zero (S := S1x256) hz,
    View.ld_unit_zero (S := S1024x384) hz, View.ld_unit_zero (S := S1536x256) hz]
  unfold yq
  rw [← loadQ x8 x9 x10 x0 a13.view]
  rfl

theorem later15 (ha : ¬cond0_0 i) (hb : cond0_1 i) :
    out0_B_15 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 o14 o15 = k0_pay7 (ykv x1 x2 x7) (k0_pay55 (ckv x3)) (k0_pay56 (ckv x3)) o15 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 ha hb x0 x1 x2 x3 x4 x5 x6 x7 x8 x9 x10 o14 o15)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread,
    h9.read_unread, h10.read_unread, h11.read_unread, h15.read_unread, h16.read_unread, View.ld_unit_zero (S := S1x384) hz, View.ld_unit_zero (S := S1x256) hz,
    View.ld_unit_zero (S := S1024x384) hz, View.ld_unit_zero (S := S1536x256) hz]
  unfold ykv
  rw [← loadK x1 x2 a14.view]
  rfl

end point

end Cert.Kernel6Ideal.MlaPrep

end
-- ==== Proof.MlaPrep.lean ====
/- The gradient through the latent attention's preparation: what the host hands to the kernel, entry by entry, on real arguments. -/
module

public import proofs.«01_k».proof.Proof.MlaPrepPay

@[expose] public section

set_option maxRecDepth 16384

noncomputable section

namespace Cert.Kernel6Ideal.MlaPrep

open Idealize.ShloMosaic Idealize.ShloMosaic.Pointwise Idealize.SL.Sem Cert.Kernel6Ideal Cert.Kernel6Ideal.Gen Cert.Lift Cert.Rms

/-! ## The host's terms -/

/-- The rotation's angles, by row and pair. -/
def angle : FVec Ideal S8192x16 .f32 :=
  mulf (broadcastInDim S8192x16 ![0, 1] bcast_S8192x1_S8192x16_0_1 (broadcastInDim S8192x1 ![0] bcast_S8192_S8192x1_0 (sitofp .f32 (iotaInDim S8192 32 0))))
    (broadcastInDim S8192x16 ![0, 1] bcast_S1x16_S8192x16_0_1 (broadcastInDim S1x16 ![1] bcast_S16_S1x16_1
      (Host.divf (broadcastInDim S16 ![] bcast_S_S16 (constant S_ .f32 0x3F800000#32)) (Host.powf (broadcastInDim S16 ![] bcast_S_S16 (constant S_ .f32 0x48F42400#32))
        (Host.divf (addf (broadcastInDim S16 ![] bcast_S_S16 (constant S_ .f32 0x00000000#32))
          (mulf (broadcastInDim S16 ![] bcast_S_S16 (constant S_ .f32 0x40000000#32)) (sitofp .f32 (iotaInDim S16 32 0))))
          (broadcastInDim S16 ![] bcast_S_S16 (constant S_ .f32 0x42000000#32)))))))

variable (C S : FVec Ideal S8192x16 .f32)

/-- A table of 128 columns as the host passes it on. -/
abbrev tile (T : FVec Ideal S8192x128 .f32) : FVec Ideal S8192x128 .f32 :=
  shapeCast S8192x128 (broadcastInDim S1x8192x1x128 ![0, 1, 2, 3] bcast_S1x8192x1x128_S1x8192x1x128_0_1_2_3
    (shapeCast S1x8192x1x128 T shapeCasts_S8192x128_S1x8192x1x128)) shapeCasts_S1x8192x1x128_S8192x128

theorem tile_apply (T : FVec Ideal S8192x128 .f32) (l : Fin 8192) (j : Fin 128) : (tile T (ix2 l j) : EReal) = T (ix2 l j) := by
  pointwise []

def tabC : FVec Ideal S8192x128 .f32 := tile (concatenate S8192x128 1
  [⟨S8192x64, broadcastInDim S8192x64 ![] bcast_S_S8192x64 (constant S_ .f32 0x3F800000#32)⟩, ⟨S8192x16, C⟩, ⟨S8192x16, C⟩,
    ⟨S8192x32, broadcastInDim S8192x32 ![] bcast_S_S8192x32 (constant S_ .f32 0x3F800000#32)⟩] concatenates_S8192x64_S8192x16_S8192x16_S8192x32_S8192x128_d1)

def tabA : FVec Ideal S8192x128 .f32 := Host.negf (tile (concatenate S8192x128 1
  [⟨S8192x64, broadcastInDim S8192x64 ![] bcast_S_S8192x64 (constant S_ .f32 0x00000000#32)⟩, ⟨S8192x16, Host.negf S⟩,
    ⟨S8192x16, broadcastInDim S8192x16 ![] bcast_S_S8192x16 (constant S_ .f32 0x00000000#32)⟩,
    ⟨S8192x32, broadcastInDim S8192x32 ![] bcast_S_S8192x32 (constant S_ .f32 0x00000000#32)⟩] concatenates_S8192x64_S8192x16_S8192x16_S8192x32_S8192x128_d1))

def tabB : FVec Ideal S8192x128 .f32 := Host.negf (tile (concatenate S8192x128 1
  [⟨S8192x80, broadcastInDim S8192x80 ![] bcast_S_S8192x80 (constant S_ .f32 0x00000000#32)⟩, ⟨S8192x16, S⟩,
    ⟨S8192x32, broadcastInDim S8192x32 ![] bcast_S_S8192x32 (constant S_ .f32 0x00000000#32)⟩] concatenates_S8192x80_S8192x16_S8192x32_S8192x128_d1))

theorem tabC_apply (l : Fin 8192) (j : Fin 128) : (tabC C (ix2 l j) : EReal)
    = if h : 64 ≤ j.val ∧ j.val < 80 then C (ix2 l ⟨j.val - 64, by omega⟩) else if h : 80 ≤ j.val ∧ j.val < 96 then C (ix2 l ⟨j.val - 80, by omega⟩) else 1 := by
  pointwise [tabC]
  rcases (by omega : j.val < 64 ∨ (64 ≤ j.val ∧ j.val < 80) ∨ (80 ≤ j.val ∧ j.val < 96) ∨ 96 ≤ j.val) with k | k | k | k <;>
    simp (disch := omega) only [dif_pos, dif_neg] <;>
    exact congrArg C (congrArg _ (Fin.ext (by dsimp only <;> omega)))

theorem tabA_apply (l : Fin 8192) (j : Fin 128) : (tabA S (ix2 l j) : EReal)
    = if h : 64 ≤ j.val ∧ j.val < 80 then S (ix2 l ⟨j.val - 64, by omega⟩) else 0 := by
  pointwise [tabA]
  split_ifs <;> first | rfl | (exfalso; omega) | (simp; done) | (simp; intros; exfalso; omega)

theorem tabB_apply (l : Fin 8192) (j : Fin 128) : (tabB S (ix2 l j) : EReal)
    = if h : 80 ≤ j.val ∧ j.val < 96 then -S (ix2 l ⟨j.val - 80, by omega⟩) else 0 := by
  pointwise [tabB]
  split_ifs <;> first | rfl | (exfalso; omega) | (simp; done) | (simp; intros; exfalso; omega)

section terms
variable (x : FVec Ideal S8192x8x64 .f32) (y : FVec Ideal S8192x8x32 .f32)

/-- A head's two parts and its padding, side by side. -/
def wide : FVec Ideal S8192x1024 .f32 := shapeCast S8192x1024 (concatenate S8192x8x128 2
  [⟨S8192x8x64, x⟩, ⟨S8192x8x32, y⟩, ⟨S8192x8x32, broadcastInDim S8192x8x32 ![] bcast_S_S8192x8x32 (constant S_ .f32 0x00000000#32)⟩]
  concatenates_S8192x8x64_S8192x8x32_S8192x8x32_S8192x8x128_d2) shapeCasts_S8192x8x128_S8192x1024

abbrev headOf (j : Fin 1024) : Fin 8 := ⟨j.val / 128, by omega⟩

theorem wide_apply (l : Fin 8192) (j : Fin 1024) : (wide x y (ix2 l j) : EReal)
    = if h : j.val % 128 < 64 then x (ix3 l (headOf j) ⟨j.val % 128, h⟩)
      else if h : j.val % 128 < 96 then y (ix3 l (headOf j) ⟨j.val % 128 - 64, by omega⟩) else 0 := by
  pointwise [wide]
  by_cases h : j.val % 128 < 64
  · rw [dif_pos h, dif_pos h]
  · rw [dif_neg h, dif_neg h]
    by_cases h' : j.val % 128 < 96
    · rw [dif_pos (by omega), dif_pos h']
    · rw [dif_neg (by omega), dif_neg h']

def hK : FVec Ideal S8192x1024 .bf16 := truncf .bf16 (Host.divf (wide x y)
  (broadcastInDim S8192x1024 ![] bcast_S_S8192x1024 (id (Host.log (constant S_ .f32 0x40000000#32))))) bitsLt_bf16_f32

theorem log_two : Ideal.log (Ideal.ofBits .f32 0x40000000#32) = ln2 := by
  rw [bits_two]
  show (if (2 : ℝ) ≤ 0 then ⊥ else ((Real.log 2 : ℝ) : EReal)) = _
  rw [if_neg (by norm_num)]

theorem hK_apply (l : Fin 8192) (j : Fin 1024) : (hK x y (ix2 l j) : EReal) = Ideal.div (wide x y (ix2 l j)) ln2 := by
  unfold hK
  generalize wide x y = w
  rw [← log_two]
  show Ideal.div _ _ = _
  refine congrArg (Ideal.div _) ?_
  unfold id
  pointwise []

def hV : FVec Ideal S8192x512 .bf16 := truncf .bf16 (shapeCast S8192x512 x shapeCasts_S8192x8x64_S8192x512) bitsLt_bf16_f32

theorem hV_apply (l : Fin 8192) (j : Fin 512) : (hV x (ix2 l j) : EReal) = x (ix3 l ⟨j.val / 64, by omega⟩ ⟨j.val % 64, Nat.mod_lt _ (by omega)⟩) := by
  pointwise [hV]
end terms

section terms
variable (a : FVec Ideal S8192x384 .f32) (b : FVec Ideal S8192x256 .f32)

def hP : FVec Ideal S8192x1024 .bf16 := truncf .bf16 (concatenate S8192x1024 1
  [⟨S8192x384, a⟩, ⟨S8192x256, b⟩, ⟨S8192x384, broadcastInDim S8192x384 ![] bcast_S_S8192x384 (constant S_ .f32 0x00000000#32)⟩]
  concatenates_S8192x384_S8192x256_S8192x384_S8192x1024_d1) bitsLt_bf16_f32

theorem hP_left (l : Fin 8192) (j : Fin 1024) (h : j.val < 384) : (hP a b (ix2 l j) : EReal) = a (ix2 l ⟨j.val, h⟩) := by
  pointwise [hP]
  rw [dif_pos h]
theorem hP_right (l : Fin 8192) (j : Fin 1024) (h : 384 ≤ j.val) (h' : j.val < 640) : (hP a b (ix2 l j) : EReal) = b (ix2 l ⟨j.val - 384, by omega⟩) := by
  pointwise [hP]
  rw [dif_neg (by omega), dif_pos (by omega)]
end terms

def hWq (w : FVec Ideal S384x768 .f32) : FVec Ideal S1024x384 .bf16 := transpose S1024x384 [1, 0] (truncf .bf16 (shapeCast S384x1024 (concatenate S384x8x128 2
  [⟨S384x8x96, shapeCast S384x8x96 w shapeCasts_S384x768_S384x8x96⟩, ⟨S384x8x32, broadcastInDim S384x8x32 ![] bcast_S_S384x8x32 (constant S_ .f32 0x00000000#32)⟩]
  concatenates_S384x8x96_S384x8x32_S384x8x128_d2) shapeCasts_S384x8x128_S384x1024) bitsLt_bf16_f32) transposes_S384x1024_S1024x384_1_0

theorem hWq_apply (w : FVec Ideal S384x768 .f32) (j : Fin 1024) (d : Fin 384) : (hWq w (ix2 j d) : EReal)
    = if h : j.val % 128 < 96 then w (ix2 d ⟨j.val / 128 * 96 + j.val % 128, by omega⟩) else 0 := by
  pointwise [hWq]

abbrev heads (w : FVec Ideal S256x1024 .f32) : FVec Ideal S256x8x128 .f32 := shapeCast S256x8x128 w shapeCasts_S256x1024_S256x8x128

def hWk (w : FVec Ideal S256x1024 .f32) : FVec Ideal S1536x256 .bf16 := transpose S1536x256 [1, 0] (truncf .bf16 (concatenate S256x1536 1
  [⟨S256x1024, shapeCast S256x1024 (concatenate S256x8x128 2
      [⟨S256x8x64, extractStridedSlice S256x8x64 ![0, 0, 0] (heads w) slices_S256x8x128_S256x8x64_0_0_0⟩,
        ⟨S256x8x64, broadcastInDim S256x8x64 ![] bcast_S_S256x8x64 (constant S_ .f32 0x00000000#32)⟩]
      concatenates_S256x8x64_S256x8x64_S256x8x128_d2) shapeCasts_S256x8x128_S256x1024⟩,
    ⟨S256x512, shapeCast S256x512 (extractStridedSlice S256x8x64 ![0, 0, 64] (heads w) slices_S256x8x128_S256x8x64_0_0_64) shapeCasts_S256x8x64_S256x512⟩]
  concatenates_S256x1024_S256x512_S256x1536_d1) bitsLt_bf16_f32) transposes_S256x1536_S1536x256_1_0

theorem hWk_left (w : FVec Ideal S256x1024 .f32) (j : Fin 1536) (d : Fin 256) (hj : j.val < 1024) : (hWk w (ix2 j d) : EReal)
    = if j.val % 128 < 64 then w (ix2 d ⟨j.val, hj⟩) else 0 := by
  pointwise [hWk]
  rw [dif_pos hj]
  split_ifs with h
  · exact congrArg w (congrArg _ (Fin.ext (by dsimp only <;> omega)))
  · rfl
theorem hWk_right (w : FVec Ideal S256x1024 .f32) (j : Fin 1536) (d : Fin 256) (hj : 1024 ≤ j.val) : (hWk w (ix2 j d) : EReal)
    = w (ix2 d ⟨(j.val - 1024) / 64 * 128 + 64 + (j.val - 1024) % 64, by omega⟩) := by
  pointwise [hWk]
  rw [dif_neg (by omega)]
  exact congrArg w (congrArg _ (Fin.ext (by dsimp only <;> omega)))

/-! ## The kernel's operands -/

section args
variable (m : (ℓ : Loc nD τ sig) → Buf (Elt Ideal) ℓ) (c : Dev nD)
abbrev b0 : FVec Ideal S8192x8x64 .f32 := m ((c.tc : Thread nD τ).loc main_arg0)
abbrev b1 : FVec Ideal S8192x8x32 .f32 := m ((c.tc : Thread nD τ).loc main_arg1)
abbrev b2 : FVec Ideal S8192x8x64 .f32 := m ((c.tc : Thread nD τ).loc main_arg2)
abbrev b3 : FVec Ideal S8192x8x32 .f32 := m ((c.tc : Thread nD τ).loc main_arg3)
abbrev b4 : FVec Ideal S8192x8x64 .f32 := m ((c.tc : Thread nD τ).loc main_arg4)
abbrev b5 : FVec Ideal S8192x384 .f32 := m ((c.tc : Thread nD τ).loc main_arg5)
abbrev b6 : FVec Ideal S8192x256 .f32 := m ((c.tc : Thread nD τ).loc main_arg6)
abbrev b7 : FVec Ideal S384 .f32 := m ((c.tc : Thread nD τ).loc main_arg7)
abbrev b8 : FVec Ideal S256 .f32 := m ((c.tc : Thread nD τ).loc main_arg8)
abbrev b9 : FVec Ideal S384x768 .f32 := m ((c.tc : Thread nD τ).loc main_arg9)
abbrev b10 : FVec Ideal S256x1024 .f32 := m ((c.tc : Thread nD τ).loc main_arg10)

theorem V_v3 : (V m c main_v3 : FVec Ideal S8192x1024 .bf16) = truncf .bf16 (wide (b0 m c) (b1 m c)) bitsLt_bf16_f32 := by
  unfold V hostOps0
  after_results_simp
  rfl
theorem V_v10 : (V m c main_v10 : FVec Ideal S8192x1024 .bf16) = hK (b2 m c) (b3 m c) := by
  unfold V hostOps0
  after_results_simp
  rfl
theorem V_v70 : (V m c main_v70 : FVec Ideal S8192x512 .bf16) = hV (b4 m c) := by
  unfold V hostOps0
  after_results_simp
  rfl
theorem V_v13 : (V m c main_v13 : FVec Ideal S8192x1024 .bf16) = hP (b5 m c) (b6 m c) := by
  unfold V hostOps0
  after_results_simp
  rfl
theorem V_v71 : (V m c main_v71 : FVec Ideal S1x384 .f32) = broadcastInDim S1x384 ![1] bcast_S384_S1x384_1 (b7 m c) := by
  unfold V hostOps0
  after_results_simp
theorem V_v72 : (V m c main_v72 : FVec Ideal S1x256 .f32) = broadcastInDim S1x256 ![1] bcast_S256_S1x256_1 (b8 m c) := by
  unfold V hostOps0
  after_results_simp
theorem V_v19 : (V m c main_v19 : FVec Ideal S1024x384 .bf16) = hWq (b9 m c) := by
  unfold V hostOps0
  after_results_simp
  rfl
theorem V_v29 : (V m c main_v29 : FVec Ideal S1536x256 .bf16) = hWk (b10 m c) := by
  unfold V hostOps0
  after_results_simp
  rfl
theorem V_v54 : (V m c main_v54 : FVec Ideal S8192x128 .f32) = tabC (Host.cos angle) := by
  unfold V hostOps0
  after_results_simp
  rfl
theorem V_v73 : (V m c main_v73 : FVec Ideal S8192x128 .f32) = tabA (Host.sin angle) := by
  unfold V hostOps0
  after_results_simp
  rfl
theorem V_v74 : (V m c main_v74 : FVec Ideal S8192x128 .f32) = tabB (Host.sin angle) := by
  unfold V hostOps0
  after_results_simp
  rfl

theorem lt16 (t : Fin cfg0.N) : t.val < 16 := lt_of_lt_of_eq t.isLt N_0

/-- Row `r` of block `t` as a row of the whole array. -/
abbrev row (t : Fin cfg0.N) (r : Fin 512) : Fin 8192 := ⟨t.val * 512 + r.val, by have := lt16 t; omega⟩

/-- The row windows walk down the rows, all columns at once; the weights' and gains' stay. -/
theorem walks : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_14.index t 0 = 0 ∧ win0_14.index t 1 = 0) ∧ (win0_15.index t 0 = 0 ∧ win0_15.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_14.index t 0 = 0 ∧ win0_14.index t 1 = 0) ∧ (win0_15.index t 0 = 0 ∧ win0_15.index t 1 = 0))

theorem at_row {w : ℕ} {t : Fin cfg0.N} {r : Fin 512} {l : Fin w} {i : (⟨2, ![8192, w]⟩ : Shape).Idx} {a b : ℕ}
    (h0 : (i 0).val = a * 512 + 1 * r.val) (h1 : (i 1).val = b * w + 1 * l.val) (h : a = t.val ∧ b = 0) : i = ix2 (row t r) l := by
  obtain ⟨rfl, rfl⟩ := h
  refine funext fun k => Fin.ext ?_
  match k with
  | ⟨0, _⟩ => exact h0.trans (by show _ = t.val * 512 + r.val; omega)
  | ⟨1, _⟩ => exact h1.trans (by show _ = l.val; omega)

theorem at_all {v w : ℕ} {r : Fin v} {l : Fin w} {i : (⟨2, ![v, w]⟩ : Shape).Idx} {a b : ℕ}
    (h0 : (i 0).val = a * v + 1 * r.val) (h1 : (i 1).val = b * w + 1 * l.val) (h : a = 0 ∧ b = 0) : i = ix2 r l := by
  obtain ⟨rfl, rfl⟩ := h
  refine funext fun k => Fin.ext ?_
  match k with
  | ⟨0, _⟩ => exact h0.trans (by show _ = r.val; omega)
  | ⟨1, _⟩ => exact h1.trans (by show _ = l.val; omega)

variable (t : Fin cfg0.N)
theorem x0_apply (r : Fin 512) (l : Fin 1024) : (iblk m c 0 t (ix2 r l) : EReal) = (V m c main_v3 : FVec Ideal S8192x1024 .bf16) (ix2 (row t r) l) :=
  congrArg (V m c main_v3) (at_row rfl rfl (walks t).1)
theorem x1_apply (r : Fin 512) (l : Fin 1024) : (iblk m c 1 t (ix2 r l) : EReal) = (V m c main_v10 : FVec Ideal S8192x1024 .bf16) (ix2 (row t r) l) :=
  congrArg (V m c main_v10) (at_row rfl rfl (walks t).2.1)
theorem x2_apply (r : Fin 512) (l : Fin 512) : (iblk m c 2 t (ix2 r l) : EReal) = (V m c main_v70 : FVec Ideal S8192x512 .bf16) (ix2 (row t r) l) :=
  congrArg (V m c main_v70) (at_row rfl rfl (walks t).2.2.1)
theorem x3_apply (r : Fin 512) (l : Fin 1024) : (iblk m c 3 t (ix2 r l) : EReal) = (V m c main_v13 : FVec Ideal S8192x1024 .bf16) (ix2 (row t r) l) :=
  congrArg (V m c main_v13) (at_row rfl rfl (walks t).2.2.2.1)
theorem x4_apply (r : Fin 1) (l : Fin 384) : (iblk m c 4 t (ix2 r l) : EReal) = (V m c main_v71 : FVec Ideal S1x384 .f32) (ix2 r l) :=
  congrArg (V m c main_v71) (at_all rfl rfl (walks t).2.2.2.2.2.2.2.2.2.2.1)
theorem x5_apply (r : Fin 1) (l : Fin 256) : (iblk m c 5 t (ix2 r l) : EReal) = (V m c main_v72 : FVec Ideal S1x256 .f32) (ix2 r l) :=
  congrArg (V m c main_v72) (at_all rfl rfl (walks t).2.2.2.2.2.2.2.2.2.2.2.1)
theorem x6_apply (r : Fin 1024) (l : Fin 384) : (iblk m c 6 t (ix2 r l) : EReal) = (V m c main_v19 : FVec Ideal S1024x384 .bf16) (ix2 r l) :=
  congrArg (V m c main_v19) (at_all rfl rfl (walks t).2.2.2.2.2.2.2.2.2.2.2.2.1)
theorem x7_apply (r : Fin 1536) (l : Fin 256) : (iblk m c 7 t (ix2 r l) : EReal) = (V m c main_v29 : FVec Ideal S1536x256 .bf16) (ix2 r l) :=
  congrArg (V m c main_v29) (at_all rfl rfl (walks t).2.2.2.2.2.2.2.2.2.2.2.2.2.1)
theorem x8_apply (r : Fin 512) (l : Fin 128) : (iblk m c 8 t (ix2 r l) : EReal) = (V m c main_v54 : FVec Ideal S8192x128 .f32) (ix2 (row t r) l) :=
  congrArg (V m c main_v54) (at_row rfl rfl (walks t).2.2.2.2.1)
theorem x9_apply (r : Fin 512) (l : Fin 128) : (iblk m c 9 t (ix2 r l) : EReal) = (V m c main_v73 : FVec Ideal S8192x128 .f32) (ix2 (row t r) l) :=
  congrArg (V m c main_v73) (at_row rfl rfl (walks t).2.2.2.2.2.1)
theorem x10_apply (r : Fin 512) (l : Fin 128) : (iblk m c 10 t (ix2 r l) : EReal) = (V m c main_v74 : FVec Ideal S8192x128 .f32) (ix2 (row t r) l) :=
  congrArg (V m c main_v74) (at_row rfl rfl (walks t).2.2.2.2.2.2.1)
end args

end Cert.Kernel6Ideal.MlaPrep

end
-- ==== Proof.MlaPrepReal.lean ====
/- The gradient through the latent attention's preparation in real numbers: the kernel's operands and blocks on finite arguments. -/
module

public import proofs.«01_k».proof.Proof.MlaPrep

@[expose] public section

set_option maxRecDepth 16384

noncomputable section

namespace Cert.Kernel6Ideal.MlaPrep

open Idealize.ShloMosaic Idealize.ShloMosaic.Pointwise Idealize.SL.Sem Cert.Kernel6Ideal Cert.Kernel6Ideal.Gen Cert.Lift Cert.Rms

/-! ## The angles are real -/

theorem bits_base : Ideal.ofBits .f32 0x48F42400#32 = ((500000 : ℝ) : EReal) := by
  simp [Ideal.ofBits, Ideal.ieee]
  rw [← EReal.coe_mul]; exact congrArg _ (by norm_num)
theorem bits_32 : Ideal.ofBits .f32 0x42000000#32 = ((32 : ℝ) : EReal) := by
  simp [Ideal.ofBits, Ideal.ieee]
  rw [← EReal.coe_mul]; exact congrArg _ (by norm_num)

theorem angle_real (l : Fin 8192) (k : Fin 16) : ∃ θ : ℝ, (angle (ix2 l k) : EReal) = (θ : EReal) := by
  have e : (angle (ix2 l k) : EReal) = (((BitVec.ofNat 32 l.val).toInt : ℝ) : EReal) * Ideal.div ((1 : ℝ) : EReal) (Ideal.pow ((500000 : ℝ) : EReal)
      (Ideal.div (((2 : ℝ) : EReal) * (((BitVec.ofNat 32 k.val).toInt : ℝ) : EReal)) ((32 : ℝ) : EReal))) := by
    rw [← bits_base, ← bits_32, ← bits_two]
    pointwise [angle]
    rfl
  rw [e, ← EReal.coe_mul, div_real _ (show (32 : ℝ) ≠ 0 by norm_num)]
  generalize 2 * ((BitVec.ofNat 32 k.val).toInt : ℝ) / 32 = y
  show ∃ θ : ℝ, _ * Ideal.div ((1 : ℝ) : EReal) (((500000 : ℝ) ^ y : ℝ) : EReal) = (θ : EReal)
  rw [div_real _ (Real.rpow_pos_of_pos (by norm_num) _).ne', ← EReal.coe_mul]
  exact ⟨_, rfl⟩

/-! ## Sums over heads and their lanes -/

theorem sum_heads {w : ℕ} (f : Fin (8 * w) → ℝ) : ∑ j, f j = ∑ h : Fin 8, ∑ e : Fin w, f (finProdFinEquiv (h, e)) := by
  rw [← Fintype.sum_prod_type' (f := fun h e => f (finProdFinEquiv (h, e)))]
  exact (Fintype.sum_equiv finProdFinEquiv _ _ fun _ => rfl).symm

theorem sum_pad {a b : ℕ} (f : Fin (a + b) → ℝ) (g : Fin a → ℝ) (hl : ∀ e, f (Fin.castAdd b e) = g e) (hr : ∀ e, f (Fin.natAdd a e) = 0) :
    ∑ e, f e = ∑ e, g e := by
  rw [Fin.sum_univ_add, Finset.sum_congr rfl fun e _ => hl e, Finset.sum_eq_zero fun e _ => hr e, add_zero]

/-- A sum over 1024 columns, 96 of each head's 128 in use, is the sum over the 768 in use. -/
theorem sum_768 (f : Fin 1024 → ℝ) (g : Fin 768 → ℝ)
    (hl : ∀ (h : Fin 8) (e : Fin 96), f ⟨h.val * 128 + e.val, by omega⟩ = g ⟨h.val * 96 + e.val, by omega⟩)
    (hr : ∀ (h : Fin 8) (e : Fin 32), f ⟨h.val * 128 + 96 + e.val, by omega⟩ = 0) : ∑ j, f j = ∑ j, g j := by
  rw [sum_heads (w := 128) f, sum_heads (w := 96) g]
  refine Finset.sum_congr rfl fun h _ => sum_pad (a := 96) (b := 32) _ _ (fun e => ?_) fun e => ?_
  · refine Eq.trans (congrArg f (Fin.ext ?_)) ((hl h e).trans (congrArg g (Fin.ext ?_)))
    · show e.val + 128 * h.val = h.val * 128 + e.val; omega
    · show h.val * 96 + e.val = e.val + 96 * h.val; omega
  · refine Eq.trans (congrArg f (Fin.ext ?_)) (hr h e)
    show 96 + e.val + 128 * h.val = h.val * 128 + 96 + e.val; omega

/-- A sum over the padded key columns and the value columns is the sum over both, head by head. -/
theorem sum_1024 (f : Fin 1536 → ℝ) (g : Fin 1024 → ℝ)
    (hk : ∀ (h : Fin 8) (e : Fin 64), f ⟨h.val * 128 + e.val, by omega⟩ = g ⟨h.val * 128 + e.val, by omega⟩)
    (hz : ∀ (h : Fin 8) (e : Fin 64), f ⟨h.val * 128 + 64 + e.val, by omega⟩ = 0)
    (hv : ∀ (h : Fin 8) (e : Fin 64), f ⟨1024 + h.val * 64 + e.val, by omega⟩ = g ⟨h.val * 128 + 64 + e.val, by omega⟩) : ∑ j, f j = ∑ j, g j := by
  have e1 : ∑ j, f j = ∑ j : Fin 1024, f ⟨j.val, by omega⟩ + ∑ j : Fin 512, f ⟨1024 + j.val, by omega⟩ := Fin.sum_univ_add (a := 1024) (b := 512) f
  have e2 : ∑ j : Fin 1024, f ⟨j.val, by omega⟩ = ∑ h : Fin 8, ∑ e : Fin 64, g ⟨h.val * 128 + e.val, by omega⟩ := by
    rw [sum_heads (w := 128)]
    refine Finset.sum_congr rfl fun h _ => sum_pad (a := 64) (b := 64) _ _ (fun e => ?_) fun e => ?_
    · refine Eq.trans (congrArg f (Fin.ext ?_)) (hk h e)
      show e.val + 128 * h.val = h.val * 128 + e.val; omega
    · refine Eq.trans (congrArg f (Fin.ext ?_)) (hz h e)
      show 64 + e.val + 128 * h.val = h.val * 128 + 64 + e.val; omega
  have e3 : ∑ j : Fin 512, f ⟨1024 + j.val, by omega⟩ = ∑ h : Fin 8, ∑ e : Fin 64, g ⟨h.val * 128 + 64 + e.val, by omega⟩ := by
    rw [sum_heads (w := 64)]
    refine Finset.sum_congr rfl fun h _ => Finset.sum_congr rfl fun e _ => Eq.trans (congrArg f (Fin.ext ?_)) (hv h e)
    show 1024 + (e.val + 64 * h.val) = 1024 + h.val * 64 + e.val; omega
  rw [e1, e2, e3, sum_heads (w := 128) g, ← Finset.sum_add_distrib]
  refine Finset.sum_congr rfl fun h _ => ?_
  refine Eq.trans ?_ (Fin.sum_univ_add (a := 64) (b := 64) _).symm
  refine congrArg₂ (· + ·) (Finset.sum_congr rfl fun e _ => congrArg g (Fin.ext ?_)) (Finset.sum_congr rfl fun e _ => congrArg g (Fin.ext ?_))
  · show h.val * 128 + e.val = e.val + 128 * h.val; omega
  · show h.val * 128 + 64 + e.val = 64 + e.val + 128 * h.val; omega

/-! ## The real numbers the arguments stand for -/

structure Reals where
  cos : Fin 8192 → Fin 16 → ℝ
  sin : Fin 8192 → Fin 16 → ℝ
  q0 : Fin 8192 → Fin 8 → Fin 64 → ℝ
  q1 : Fin 8192 → Fin 8 → Fin 32 → ℝ
  k0 : Fin 8192 → Fin 8 → Fin 64 → ℝ
  k1 : Fin 8192 → Fin 8 → Fin 32 → ℝ
  v : Fin 8192 → Fin 8 → Fin 64 → ℝ
  cq : Fin 8192 → Fin 384 → ℝ
  ck : Fin 8192 → Fin 256 → ℝ
  gq : Fin 384 → ℝ
  gk : Fin 256 → ℝ
  wq : Fin 384 → Fin 768 → ℝ
  wk : Fin 256 → Fin 1024 → ℝ

structure Holds (R : Reals) (q0 : FVec Ideal S8192x8x64 .f32) (q1 : FVec Ideal S8192x8x32 .f32) (k0 : FVec Ideal S8192x8x64 .f32) (k1 : FVec Ideal S8192x8x32 .f32)
    (v : FVec Ideal S8192x8x64 .f32) (cq : FVec Ideal S8192x384 .f32) (ck : FVec Ideal S8192x256 .f32) (gq : FVec Ideal S384 .f32) (gk : FVec Ideal S256 .f32)
    (wq : FVec Ideal S384x768 .f32) (wk : FVec Ideal S256x1024 .f32) : Prop where
  cos : ∀ l k, (Host.cos angle (ix2 l k) : EReal) = (R.cos l k : ℝ)
  sin : ∀ l k, (Host.sin angle (ix2 l k) : EReal) = (R.sin l k : ℝ)
  q0 : ∀ l h e, (q0 (ix3 l h e) : EReal) = (R.q0 l h e : ℝ)
  q1 : ∀ l h e, (q1 (ix3 l h e) : EReal) = (R.q1 l h e : ℝ)
  k0 : ∀ l h e, (k0 (ix3 l h e) : EReal) = (R.k0 l h e : ℝ)
  k1 : ∀ l h e, (k1 (ix3 l h e) : EReal) = (R.k1 l h e : ℝ)
  v : ∀ l h e, (v (ix3 l h e) : EReal) = (R.v l h e : ℝ)
  cq : ∀ l d, (cq (ix2 l d) : EReal) = (R.cq l d : ℝ)
  ck : ∀ l d, (ck (ix2 l d) : EReal) = (R.ck l d : ℝ)
  gq : ∀ d, (gq (ix1 d) : EReal) = (R.gq d : ℝ)
  gk : ∀ d, (gk (ix1 d) : EReal) = (R.gk d : ℝ)
  wq : ∀ d j, (wq (ix2 d j) : EReal) = (R.wq d j : ℝ)
  wk : ∀ d j, (wk (ix2 d j) : EReal) = (R.wk d j : ℝ)

/-- The rotation's gradient: the cotangent turned back by the same angles. -/
def turned (C S : Fin 16 → ℝ) (x : Fin 32 → ℝ) (e : Fin 32) : ℝ :=
  if h : e.val < 16 then x e * C ⟨e.val, h⟩ + x ⟨e.val + 16, by omega⟩ * S ⟨e.val, h⟩
  else x e * C ⟨e.val - 16, by omega⟩ - x ⟨e.val - 16, by omega⟩ * S ⟨e.val - 16, by omega⟩

/-- A head of 128 lanes, the 32 from lane 64 on turned back. -/
def lane (C S : Fin 16 → ℝ) (x : Fin 128 → ℝ) (l : Fin 128) : ℝ :=
  if h : 64 ≤ l.val ∧ l.val < 96 then turned C S (fun e => x ⟨64 + e.val, by omega⟩) ⟨l.val - 64, by omega⟩ else x l

namespace Reals
variable (R : Reals)

/-- A head's two parts and zeros. -/
def qw (l : Fin 8192) (h : Fin 8) (e : Fin 128) : ℝ :=
  if k : e.val < 64 then R.q0 l h ⟨e.val, k⟩ else if k : e.val < 96 then R.q1 l h ⟨e.val - 64, by omega⟩ else 0
def kw (l : Fin 8192) (h : Fin 8) (e : Fin 128) : ℝ :=
  if k : e.val < 64 then R.k0 l h ⟨e.val, k⟩ else if k : e.val < 96 then R.k1 l h ⟨e.val - 64, by omega⟩ else 0

/-- The cotangents by the query projection's output, by the key and value projection's, and by the shared rotated key part. -/
def dq (l : Fin 8192) (h : Fin 8) (e : Fin 128) : ℝ := lane (R.cos l) (R.sin l) (R.qw l h) e * (Real.sqrt 96)⁻¹
def dkv (l : Fin 8192) (h : Fin 8) (e : Fin 128) : ℝ := if k : e.val < 64 then R.k0 l h ⟨e.val, k⟩ else R.v l h ⟨e.val - 64, by omega⟩
def kr (l : Fin 8192) (e : Fin 32) : ℝ := turned (R.cos l) (R.sin l) (fun e => ∑ h, R.k1 l h e) e

/-- The cotangents by the normed rows. -/
def yq (l : Fin 8192) (d : Fin 384) : ℝ := ∑ j : Fin 768, R.dq l ⟨j.val / 96, by omega⟩ ⟨j.val % 96, by omega⟩ * R.wq d j
def ykv (l : Fin 8192) (d : Fin 256) : ℝ := ∑ j : Fin 1024, R.dkv l ⟨j.val / 128, by omega⟩ ⟨j.val % 128, by omega⟩ * R.wk d j

/-- The five results. -/
def dp (l : Fin 8192) (j : Fin 1024) : ℝ :=
  if h : j.val < 384 then dRow 384 (R.cq l) (fun d => R.yq l d * R.gq d) ⟨j.val, h⟩
  else if h : j.val < 640 then dRow 256 (R.ck l) (fun d => R.ykv l d * R.gk d) ⟨j.val - 384, by omega⟩
  else if h : 704 ≤ j.val ∧ j.val < 736 then R.kr l ⟨j.val - 704, by omega⟩ else 0
def dqPre (l : Fin 8192) (j : Fin 1024) : ℝ := R.dq l ⟨j.val / 128, by omega⟩ ⟨j.val % 128, by omega⟩
def dkvPre (l : Fin 8192) (j : Fin 1536) : ℝ :=
  if h : j.val < 1024 then R.kw l ⟨j.val / 128, by omega⟩ ⟨j.val % 128, by omega⟩
  else R.v l ⟨(j.val - 1024) / 64, by omega⟩ ⟨(j.val - 1024) % 64, by omega⟩
def gainQ (d : Fin 384) (l : Fin 8192) : ℝ := R.yq l d * R.cq l d * rs 384 (R.cq l)
def gainK (d : Fin 256) (l : Fin 8192) : ℝ := R.ykv l d * R.ck l d * rs 256 (R.ck l)
end Reals

section host
variable {R : Reals} {q0 : FVec Ideal S8192x8x64 .f32} {q1 : FVec Ideal S8192x8x32 .f32} {k0 : FVec Ideal S8192x8x64 .f32} {k1 : FVec Ideal S8192x8x32 .f32}
  {v : FVec Ideal S8192x8x64 .f32} {cq : FVec Ideal S8192x384 .f32} {ck : FVec Ideal S8192x256 .f32} {gq : FVec Ideal S384 .f32} {gk : FVec Ideal S256 .f32}
  {wq : FVec Ideal S384x768 .f32} {wk : FVec Ideal S256x1024 .f32} (H : Holds R q0 q1 k0 k1 v cq ck gq gk wq wk)
include H

theorem wideQ (l : Fin 8192) (j : Fin 1024) : (wide q0 q1 (ix2 l j) : EReal) = (R.qw l (headOf j) ⟨j.val % 128, by omega⟩ : ℝ) := by
  rw [wide_apply]
  unfold Reals.qw
  dsimp only
  split_ifs
  · exact H.q0 _ _ _
  · exact H.q1 _ _ _
  · rfl

theorem wideK (l : Fin 8192) (j : Fin 1024) : (wide k0 k1 (ix2 l j) : EReal) = (R.kw l (headOf j) ⟨j.val % 128, by omega⟩ : ℝ) := by
  rw [wide_apply]
  unfold Reals.kw
  dsimp only
  split_ifs
  · exact H.k0 _ _ _
  · exact H.k1 _ _ _
  · rfl

/-- Dividing by the logarithm of 2 and multiplying by it again changes nothing. -/
theorem hK_mul (l : Fin 8192) (j : Fin 1024) : (hK k0 k1 (ix2 l j) * ln2 : EReal) = (R.kw l (headOf j) ⟨j.val % 128, by omega⟩ : ℝ) := by
  rw [hK_apply, wideK H, div_real _ (Real.log_pos (by norm_num : (1 : ℝ) < 2)).ne', ← EReal.coe_mul, div_mul_cancel₀ _ (Real.log_pos (by norm_num : (1 : ℝ) < 2)).ne']

/-- The tables turn a head back. -/
theorem back_real (l : Fin 8192) {x : Fin 128 → EReal} {X : Fin 128 → ℝ} (hx : ∀ k, x k = (X k : ℝ)) (k : Fin 128) :
    back (tabC (Host.cos angle) (ix2 l k)) (tabA (Host.sin angle) (ix2 l k)) (tabB (Host.sin angle) (ix2 l k)) (x k) (x (on k)) (x (before k))
      = (lane (R.cos l) (R.sin l) X k : ℝ) := by
  rw [tabC_apply, tabA_apply, tabB_apply, hx, hx, hx]
  unfold lane turned back
  rcases (by omega : k.val < 64 ∨ (64 ≤ k.val ∧ k.val < 80) ∨ (80 ≤ k.val ∧ k.val < 96) ∨ 96 ≤ k.val) with h | h | h | h
  · rw [dif_neg (by omega), dif_neg (by omega), dif_neg (by omega), dif_neg (by omega), dif_neg (by omega)]
    simp
  · rw [dif_pos h, dif_pos h, dif_neg (by omega), dif_pos (by omega), dif_pos (by dsimp only; omega), H.cos, H.sin, mul_zero, add_zero,
      ← EReal.coe_mul, ← EReal.coe_mul, ← EReal.coe_add]
    refine congrArg _ (congrArg₂ (· + ·) (congrArg (· * _) (congrArg X (Fin.ext ?_))) (congrArg (· * _) (congrArg X (Fin.ext ?_))))
    · dsimp only; omega
    · dsimp only; omega
  · rw [dif_neg (by omega), dif_pos h, dif_neg (by omega), dif_pos h, dif_pos (by omega), dif_neg (by dsimp only; omega), H.cos, H.sin, mul_zero, add_zero,
      ← EReal.coe_neg, ← EReal.coe_mul, ← EReal.coe_mul, ← EReal.coe_add, sub_eq_add_neg, ← mul_neg]
    refine congrArg _ (congrArg₂ (· + ·) (congrArg₂ (· * ·) (congrArg X (Fin.ext ?_)) (congrArg (R.cos l) (Fin.ext ?_)))
      (congrArg₂ (· * ·) (congrArg X (Fin.ext ?_)) (congrArg (fun a => -R.sin l a) (Fin.ext ?_)))) <;> dsimp only <;> omega
  · rw [dif_neg (by omega), dif_neg (by omega), dif_neg (by omega), dif_neg (by omega), dif_neg (by omega)]
    simp
end host

end Cert.Kernel6Ideal.MlaPrep

end
-- ==== Proof.MlaPrepOut.lean ====
/- What the kernel of the latent attention's preparation gradient leaves in its five result arrays. -/
module

public import proofs.«01_k».proof.Proof.MlaPrepReal

@[expose] public section

set_option maxRecDepth 16384

noncomputable section

namespace Cert.Kernel6Ideal.MlaPrep

open Idealize.ShloMosaic Idealize.ShloMosaic.TcCoe Idealize.ShloMosaic.Pointwise Idealize.SL.Sem Cert.Kernel6Ideal Cert.Kernel6Ideal.Gen Cert.Lift Cert.Rms
open Idealize.ShloMosaic.Pipeline (Dat)

variable {m : (ℓ : Loc nD τ sig) → Buf (Elt Ideal) ℓ} {c : Dev nD} {R : Reals}
  (H : Holds R (b0 m c) (b1 m c) (b2 m c) (b3 m c) (b4 m c) (b5 m c) (b6 m c) (b7 m c) (b8 m c) (b9 m c) (b10 m c))
include H

/-! ## One grid point -/

section point
variable (t : Fin cfg0.N) (r : Fin 512)

theorem q_real (j : Fin 1024) : (qBlock (iblk m c 8 t) (iblk m c 9 t) (iblk m c 10 t) (iblk m c 0 t) (ix2 r j) : EReal) = ((R.dqPre (row t r) j : ℝ) : EReal) := by
  show qAt (iblk m c 8 t) (iblk m c 9 t) (iblk m c 10 t) (iblk m c 0 t) r j = _
  unfold qAt
  dsimp only
  rw [x8_apply, x9_apply, x10_apply, V_v54, V_v73, V_v74]
  refine (congrArg (· * s96) (back_real H (row t r) (x := fun e => iblk m c 0 t (ix2 r ⟨j.val / 128 * 128 + e.val, by omega⟩))
    (X := R.qw (row t r) ⟨j.val / 128, by omega⟩) (fun e => ?_) ⟨j.val % 128, by omega⟩)).trans ?_
  · rw [x0_apply, V_v3]
    refine (wideQ H (row t r) _).trans (congrArg _ ?_)
    exact congrArg₂ (R.qw (row t r)) (Fin.ext (by dsimp only; omega)) (Fin.ext (by dsimp only; omega))
  · exact (EReal.coe_mul _ _).symm

theorem k_mul {x1 : Vec Ideal S512x1024 .bf16} (e : x1 = iblk m c 1 t) (j : Fin 1024) : (x1 (ix2 r j) * ln2 : EReal) = ((R.kw (row t r) (headOf j) ⟨j.val % 128, by omega⟩ : ℝ) : EReal) := by
  rw [e, x1_apply, V_v10]
  exact hK_mul H (row t r) j

theorem k_real (j : Fin 1536) : (kBlock (iblk m c 1 t) (iblk m c 2 t) (ix2 r j) : EReal) = ((R.dkvPre (row t r) j : ℝ) : EReal) := by
  show kAt (iblk m c 1 t) (iblk m c 2 t) r j = _
  unfold kAt Reals.dkvPre
  by_cases h : j.val < 1024
  · rw [dif_pos h, dif_pos h]
    exact k_mul H t r rfl ⟨j.val, h⟩
  · rw [dif_neg h, dif_neg h, x2_apply, V_v70, hV_apply]
    exact H.v _ _ _

theorem yq_real (d : Fin 384) : (yq (iblk m c 0 t) (iblk m c 6 t) (iblk m c 8 t) (iblk m c 9 t) (iblk m c 10 t) (ix2 r d) : EReal) = ((R.yq (row t r) d : ℝ) : EReal) := by
  have e (j : Fin 1024) : (qBlock (iblk m c 8 t) (iblk m c 9 t) (iblk m c 10 t) (iblk m c 0 t) (ix2 r j) * iblk m c 6 t (ix2 j d) : EReal)
      = ((R.dqPre (row t r) j * (if h : j.val % 128 < 96 then R.wq d ⟨j.val / 128 * 96 + j.val % 128, by omega⟩ else 0) : ℝ) : EReal) := by
    rw [q_real H, x6_apply, V_v19, hWq_apply, EReal.coe_mul]
    refine congrArg _ ?_
    split_ifs
    · exact H.wq _ _
    · rfl
  refine (pay48_apply _ _ r d).trans ?_
  rw [Finset.sum_congr rfl fun j _ => e j, sum_coe]
  refine congrArg _ (sum_768 _ _ (fun h e => ?_) fun h e => ?_)
  · unfold Reals.dqPre
    dsimp only
    rw [dif_pos (by omega)]
    exact congrArg₂ (· * ·) (congrArg₂ (R.dq (row t r)) (Fin.ext (by dsimp only; omega)) (Fin.ext (by dsimp only; omega))) (congrArg (R.wq d) (Fin.ext (by dsimp only; omega)))
  · dsimp only
    rw [dif_neg (by omega), mul_zero]

theorem ykv_real (d : Fin 256) : (ykv (iblk m c 1 t) (iblk m c 2 t) (iblk m c 7 t) (ix2 r d) : EReal) = ((R.ykv (row t r) d : ℝ) : EReal) := by
  have e (j : Fin 1536) : (kBlock (iblk m c 1 t) (iblk m c 2 t) (ix2 r j) * iblk m c 7 t (ix2 j d) : EReal)
      = ((R.dkvPre (row t r) j * (if h : j.val < 1024 then if j.val % 128 < 64 then R.wk d ⟨j.val, h⟩ else 0
        else R.wk d ⟨(j.val - 1024) / 64 * 128 + 64 + (j.val - 1024) % 64, by omega⟩) : ℝ) : EReal) := by
    rw [k_real H, x7_apply, V_v29, EReal.coe_mul]
    refine congrArg _ ?_
    by_cases h : j.val < 1024
    · rw [hWk_left _ _ _ h, dif_pos h]
      split_ifs
      · exact H.wk _ _
      · rfl
    · rw [hWk_right _ _ _ (by omega), dif_neg h]
      exact H.wk _ _
  refine (pay49_apply _ _ r d).trans ?_
  rw [Finset.sum_congr rfl fun j _ => e j, sum_coe]
  refine congrArg _ (sum_1024 _ _ (fun h e => ?_) (fun h e => ?_) fun h e => ?_)
  · unfold Reals.dkvPre Reals.kw Reals.dkv
    dsimp only
    rw [dif_pos (by omega), dif_pos (by omega), dif_pos (by omega), if_pos (by omega), dif_pos (by omega)]
  · dsimp only
    rw [dif_pos (by omega), if_neg (by omega), mul_zero]
  · unfold Reals.dkvPre Reals.dkv
    dsimp only
    rw [dif_neg (by omega), dif_neg (by omega), dif_neg (by omega)]
    exact congrArg₂ (· * ·) (congrArg₂ (R.v (row t r)) (Fin.ext (by dsimp only; omega)) (Fin.ext (by dsimp only; omega))) (congrArg (R.wk d) (Fin.ext (by dsimp only; omega)))

theorem cq_real (d : Fin 384) : (cq (iblk m c 3 t) (ix2 r d) : EReal) = ((R.cq (row t r) d : ℝ) : EReal) := by
  refine (ld_apply (N := 1024) (iblk m c 3 t) _ r d (by omega)).trans ?_
  rw [x3_apply, V_v13, hP_left _ _ _ _ (by dsimp only; omega)]
  refine (H.cq _ _).trans (congrArg (fun d => ((R.cq (row t r) d : ℝ) : EReal)) (Fin.ext (by dsimp only; omega)))

theorem ck_real (d : Fin 256) : (ckv (iblk m c 3 t) (ix2 r d) : EReal) = ((R.ck (row t r) d : ℝ) : EReal) := by
  refine (ld_apply (N := 1024) (iblk m c 3 t) _ r d (by omega)).trans ?_
  rw [x3_apply, V_v13, hP_right _ _ _ _ (by dsimp only; omega) (by dsimp only; omega)]
  refine (H.ck _ _).trans (congrArg (fun d => ((R.ck (row t r) d : ℝ) : EReal)) (Fin.ext (by dsimp only; omega)))

theorem gq_real (d : Fin 384) : (iblk m c 4 t (ix2 0 d) : EReal) = ((R.gq d : ℝ) : EReal) := by
  rw [x4_apply, V_v71]
  refine Eq.trans ?_ (H.gq d)
  pointwise []

theorem gk_real (d : Fin 256) : (iblk m c 5 t (ix2 0 d) : EReal) = ((R.gk d : ℝ) : EReal) := by
  rw [x5_apply, V_v72]
  refine Eq.trans ?_ (H.gk d)
  pointwise []

theorem kr_real (l : Fin 128) : (krBlock (iblk m c 8 t) (iblk m c 9 t) (iblk m c 10 t) (iblk m c 1 t) (ix2 r l) : EReal)
    = ((if h : 64 ≤ l.val ∧ l.val < 96 then R.kr (row t r) ⟨l.val - 64, by omega⟩ else 0 : ℝ) : EReal) := by
  rw [krBlock_apply]
  by_cases h : 64 ≤ l.val ∧ l.val < 96
  · rw [if_pos h, dif_pos h, x8_apply, x9_apply, x10_apply, V_v54, V_v73, V_v74]
    refine (back_real H (row t r) (x := krSum (iblk m c 1 t) r) (X := fun e => ∑ h, R.kw (row t r) h e) (fun e => ?_) l).trans ?_
    · unfold krSum
      rw [← sum_coe]
      refine Finset.sum_congr rfl fun h _ => (k_mul H t r rfl _).trans (congrArg _ ?_)
      exact congrArg₂ (R.kw (row t r)) (Fin.ext (by dsimp only; omega)) (Fin.ext (by dsimp only; omega))
    · unfold lane Reals.kr
      rw [dif_pos h]
      refine congrArg (fun x => ((turned (R.cos (row t r)) (R.sin (row t r)) x ⟨l.val - 64, by omega⟩ : ℝ) : EReal)) (funext fun e => Finset.sum_congr rfl fun h _ => ?_)
      unfold Reals.kw
      dsimp only
      rw [dif_neg (by omega), dif_pos (by omega)]
      exact congrArg (R.k1 (row t r) h) (Fin.ext (by dsimp only; omega))
  · rw [if_neg h, dif_neg h]
    rfl

theorem dp_real (j : Fin 1024) : (dpBlock (iblk m c 0 t) (iblk m c 1 t) (iblk m c 2 t) (iblk m c 3 t) (iblk m c 4 t) (iblk m c 5 t) (iblk m c 6 t) (iblk m c 7 t)
    (iblk m c 8 t) (iblk m c 9 t) (iblk m c 10 t) (ix2 r j) : EReal) = ((R.dp (row t r) j : ℝ) : EReal) := by
  show pAt _ _ _ r j = _
  unfold pAt Reals.dp
  by_cases h : j.val < 384
  · rw [dif_pos h, dif_pos h, pay2_apply]
    exact pay53_real (Y := fun r => R.yq (row t r)) (X := fun r => R.cq (row t r)) (G := R.gq) (fun r d => (pay50_apply _ r d).trans (cq_real H t r d))
      (fun r d => yq_real H t r d) (fun d => (pay51_apply _ d).trans (gq_real H t d)) r _
  rw [dif_neg h, dif_neg h]
  by_cases h : j.val < 640
  · rw [dif_pos h, dif_pos h]
    exact dxk_real (Y := fun r => R.ykv (row t r)) (X := fun r => R.ck (row t r)) (G := R.gk) (fun r d => ck_real H t r d) (fun r d => ykv_real H t r d) (fun d => gk_real H t d) r _
  rw [dif_neg h, dif_neg h]
  by_cases h : j.val < 768
  · rw [dif_pos h]
    refine (kr_real H t r _).trans (congrArg _ ?_)
    by_cases h' : 704 ≤ j.val ∧ j.val < 736
    · rw [dif_pos h', dif_pos (by dsimp only; omega)]
      exact congrArg (R.kr (row t r)) (Fin.ext (by dsimp only; omega))
    · rw [dif_neg h', dif_neg (by dsimp only; omega)]
  · rw [dif_neg h, dif_neg (by omega)]
    rfl

/-- A row block's shares of the two gains' gradients. -/
theorem gq_part (d : Fin 384) : (k0_pay54 (yq (iblk m c 0 t) (iblk m c 6 t) (iblk m c 8 t) (iblk m c 9 t) (iblk m c 10 t)) (k0_pay50 (cq (iblk m c 3 t))) (ix2 0 d) : EReal)
    = ((∑ r : Fin 512, R.gainQ d (row t r) : ℝ) : EReal) :=
  pay54_real (Y := fun r => R.yq (row t r)) (X := fun r => R.cq (row t r)) (fun r d => (pay50_apply _ r d).trans (cq_real H t r d)) (fun r d => yq_real H t r d) d

theorem gk_part (d : Fin 256) : (dgk (ykv (iblk m c 1 t) (iblk m c 2 t) (iblk m c 7 t)) (ckv (iblk m c 3 t)) (ix2 0 d) : EReal)
    = ((∑ r : Fin 512, R.gainK d (row t r) : ℝ) : EReal) :=
  dgk_real (Y := fun r => R.ykv (row t r)) (X := fun r => R.ck (row t r)) (fun r d => ck_real H t r d) (fun r d => ykv_real H t r d) d
end point

/-! ## All points up to one -/

theorem block_rows (n : ℕ) (h : n < cfg0.N) (F : Fin 8192 → ℝ) : psum F (n * 512) + ∑ r : Fin 512, F (row ⟨n, h⟩ r) = psum F ((n + 1) * 512) := by
  have hn : n < 16 := lt_of_lt_of_eq h N_0
  rw [psum_block F n 512 (by omega)]

theorem sums : ∀ (n : ℕ) (h : n < cfg0.N),
    (∀ d, ((outsAt0 m c n h).2.2.2.1 (ix2 0 d) : EReal) = ((psum (R.gainQ d) ((n + 1) * 512) : ℝ) : EReal))
    ∧ ∀ d, ((outsAt0 m c n h).2.2.2.2 (ix2 0 d) : EReal) = ((psum (R.gainK d) ((n + 1) * 512) : ℝ) : EReal)
  | 0, h => by
    have e := outsAt0_A m c ⟨0, h⟩ rfl (by simp)
    refine ⟨fun d => ?_, fun d => ?_⟩
    · refine (congrFun (congrArg (·.2.2.2.1) e) (ix2 0 d)).trans ?_
      dsimp only
      rw [first14]
      refine (gq_part H ⟨0, h⟩ d).trans (congrArg _ ?_)
      rw [← block_rows H 0 h, psum_start, zero_add]
    · refine (congrFun (congrArg (·.2.2.2.2) e) (ix2 0 d)).trans ?_
      dsimp only
      rw [first15]
      refine (gk_part H ⟨0, h⟩ d).trans (congrArg _ ?_)
      rw [← block_rows H 0 h, psum_start, zero_add]
  | n + 1, h => by
    have hn : n + 1 < 16 := lt_of_lt_of_eq h N_0
    obtain ⟨iq, ik⟩ := sums n (Nat.lt_of_succ_lt h)
    have e := outsAt0_B m c ⟨n + 1, h⟩ (by dsimp only; omega) (by dsimp only; omega)
    refine ⟨fun d => ?_, fun d => ?_⟩
    · refine (congrFun (congrArg (·.2.2.2.1) e) (ix2 0 d)).trans ?_
      dsimp only
      rw [later14, pay6_apply]
      refine (congrArg₂ (· + ·) (iq d) (gq_part H ⟨n + 1, h⟩ d)).trans ?_
      rw [← EReal.coe_add, block_rows H (n + 1) h]
    · refine (congrFun (congrArg (·.2.2.2.2) e) (ix2 0 d)).trans ?_
      dsimp only
      rw [later15, pay7_apply]
      refine (congrArg₂ (· + ·) (ik d) (gk_part H ⟨n + 1, h⟩ d)).trans ?_
      rw [← EReal.coe_add, block_rows H (n + 1) h]

theorem blocks (t : Fin cfg0.N) (r : Fin 512) :
    (∀ j, ((outsAt0 m c t.val t.isLt).1 (ix2 r j) : EReal) = (R.dp (row t r) j : ℝ))
    ∧ (∀ j, ((outsAt0 m c t.val t.isLt).2.1 (ix2 r j) : EReal) = (R.dqPre (row t r) j : ℝ))
    ∧ ∀ j, ((outsAt0 m c t.val t.isLt).2.2.1 (ix2 r j) : EReal) = ((R.dkvPre (row t r) j : ℝ) : EReal) := by
  have := lt16 t
  by_cases h : t.val % 16 = 0
  · have e := outsAt0_A m c t h (by omega)
    refine ⟨fun j => ?_, fun j => ?_, fun j => ?_⟩
    · refine (congrFun (congrArg (·.1) e) (ix2 r j)).trans ?_
      dsimp only
      rw [first11]
      exact dp_real H t r j
    · refine (congrFun (congrArg (·.2.1) e) (ix2 r j)).trans ?_
      dsimp only
      rw [first12]
      exact q_real H t r j
    · refine (congrFun (congrArg (·.2.2.1) e) (ix2 r j)).trans ?_
      dsimp only
      rw [first13]
      exact k_real H t r j
  · have e := outsAt0_B m c t h (by omega)
    refine ⟨fun j => ?_, fun j => ?_, fun j => ?_⟩
    · refine (congrFun (congrArg (·.1) e) (ix2 r j)).trans ?_
      dsimp only
      rw [later11]
      exact dp_real H t r j
    · refine (congrFun (congrArg (·.2.1) e) (ix2 r j)).trans ?_
      dsimp only
      rw [later12]
      exact q_real H t r j
    · refine (congrFun (congrArg (·.2.2.1) e) (ix2 r j)).trans ?_
      dsimp only
      rw [later13]
      exact k_real H t r j

/-! ## The result arrays -/

/-- The point whose block holds a row, and the row within it. -/
abbrev pt (l : Fin 8192) : Fin cfg0.N := ⟨l.val / 512, lt_of_lt_of_eq (by omega : _ < 16) N_0.symm⟩
abbrev at_ (l : Fin 8192) : Fin 512 := ⟨l.val % 512, by omega⟩
omit H in
theorem row_pt (l : Fin 8192) : row (pt l) (at_ l) = l := Fin.ext (by dsimp only; omega)
abbrev last : Fin cfg0.N := ⟨15, lt_of_lt_of_eq (by decide : 15 < 16) N_0.symm⟩

omit H in
theorem once11 : ∀ t t' : Fin cfg0.N, (cfg0.win 11).flush t = true → (cfg0.win 11).flush t' = true → t ≠ t' →
    Disjoint ((cfg0.win 11).blk t).view.set ((cfg0.win 11).blk t').view.set := fun t t' _ _ hne => by
  refine (cfg0.win 11).disjoint_blk fun e => hne (Fin.ext ?_)
  have e0 : win0_11.index t 0 = win0_11.index t' 0 := congrFun e 0
  rwa [(walks t).2.2.2.2.2.2.2.1.1, (walks t').2.2.2.2.2.2.2.1.1] at e0

theorem res11 (l : Fin 8192) (j : Fin 1024) : ((dats m 0 c).arrAt 11 cfg0.N (ix2 l j) : EReal) = ((R.dp l j : ℝ) : EReal) := by
  have h := congrFun ((dats m 0 c).read_blk_arrAt_eq_flushed 11 once11 cfg0.N (pt l) (pt l).isLt (flush0_11 (pt l))) (ix2 (at_ l) j)
  rw [Value.flushed11] at h
  refine Eq.trans ?_ (h.trans (((blocks H (pt l) (at_ l)).1 j).trans ?_))
  · exact congrArg ((dats m 0 c).arrAt 11 cfg0.N) ((congrArg (fun l => ix2 l j) (row_pt l)).symm.trans (at_row rfl rfl (walks (pt l)).2.2.2.2.2.2.2.1).symm)
  · rw [row_pt]

omit H in
theorem once12 : ∀ t t' : Fin cfg0.N, (cfg0.win 12).flush t = true → (cfg0.win 12).flush t' = true → t ≠ t' →
    Disjoint ((cfg0.win 12).blk t).view.set ((cfg0.win 12).blk t').view.set := fun t t' _ _ hne => by
  refine (cfg0.win 12).disjoint_blk fun e => hne (Fin.ext ?_)
  have e0 : win0_12.index t 0 = win0_12.index t' 0 := congrFun e 0
  rwa [(walks t).2.2.2.2.2.2.2.2.1.1, (walks t').2.2.2.2.2.2.2.2.1.1] at e0

theorem res12 (l : Fin 8192) (j : Fin 1024) : ((dats m 0 c).arrAt 12 cfg0.N (ix2 l j) : EReal) = ((R.dqPre l j : ℝ) : EReal) := by
  have h := congrFun ((dats m 0 c).read_blk_arrAt_eq_flushed 12 once12 cfg0.N (pt l) (pt l).isLt (flush0_12 (pt l))) (ix2 (at_ l) j)
  rw [Value.flushed12] at h
  refine Eq.trans ?_ (h.trans (((blocks H (pt l) (at_ l)).2.1 j).trans ?_))
  · exact congrArg ((dats m 0 c).arrAt 12 cfg0.N) ((congrArg (fun l => ix2 l j) (row_pt l)).symm.trans (at_row rfl rfl (walks (pt l)).2.2.2.2.2.2.2.2.1).symm)
  · rw [row_pt]

omit H in
theorem once13 : ∀ t t' : Fin cfg0.N, (cfg0.win 13).flush t = true → (cfg0.win 13).flush t' = true → t ≠ t' →
    Disjoint ((cfg0.win 13).blk t).view.set ((cfg0.win 13).blk t').view.set := fun t t' _ _ hne => by
  refine (cfg0.win 13).disjoint_blk fun e => hne (Fin.ext ?_)
  have e0 : win0_13.index t 0 = win0_13.index t' 0 := congrFun e 0
  rwa [(walks t).2.2.2.2.2.2.2.2.2.1.1, (walks t').2.2.2.2.2.2.2.2.2.1.1] at e0

theorem res13 (l : Fin 8192) (j : Fin 1536) : ((dats m 0 c).arrAt 13 cfg0.N (ix2 l j) : EReal) = ((R.dkvPre l j : ℝ) : EReal) := by
  have h := congrFun ((dats m 0 c).read_blk_arrAt_eq_flushed 13 once13 cfg0.N (pt l) (pt l).isLt (flush0_13 (pt l))) (ix2 (at_ l) j)
  rw [Value.flushed13] at h
  refine Eq.trans ?_ (h.trans (((blocks H (pt l) (at_ l)).2.2 j).trans ?_))
  · exact congrArg ((dats m 0 c).arrAt 13 cfg0.N) ((congrArg (fun l => ix2 l j) (row_pt l)).symm.trans (at_row rfl rfl (walks (pt l)).2.2.2.2.2.2.2.2.2.1).symm)
  · rw [row_pt]

omit H in
theorem once14 : ∀ t t' : Fin cfg0.N, (cfg0.win 14).flush t = true → (cfg0.win 14).flush t' = true → t ≠ t' →
    Disjoint ((cfg0.win 14).blk t).view.set ((cfg0.win 14).blk t').view.set := fun t t' h h' hne => by
  have := (flush0_14 t).1 h
  have := (flush0_14 t').1 h'
  have := lt16 t
  have := lt16 t'
  exact absurd (Fin.ext (by omega)) hne

theorem res14 (d : Fin 384) : ((dats m 0 c).arrAt 14 cfg0.N (ix2 0 d) : EReal) = ((∑ l, R.gainQ d l : ℝ) : EReal) := by
  have h := congrFun ((dats m 0 c).read_blk_arrAt_eq_flushed 14 once14 cfg0.N last last.isLt ((flush0_14 last).2 rfl)) (ix2 0 d)
  rw [Value.flushed14] at h
  refine Eq.trans ?_ (h.trans (((sums H 15 last.isLt).1 d).trans ?_))
  · exact congrArg ((dats m 0 c).arrAt 14 cfg0.N) (at_all rfl rfl (walks last).2.2.2.2.2.2.2.2.2.2.2.2.2.2.1).symm
  · rw [show (15 + 1) * 512 = 8192 from rfl, psum_all]

omit H in
theorem once15 : ∀ t t' : Fin cfg0.N, (cfg0.win 15).flush t = true → (cfg0.win 15).flush t' = true → t ≠ t' →
    Disjoint ((cfg0.win 15).blk t).view.set ((cfg0.win 15).blk t').view.set := fun t t' h h' hne => by
  have := (flush0_15 t).1 h
  have := (flush0_15 t').1 h'
  have := lt16 t
  have := lt16 t'
  exact absurd (Fin.ext (by omega)) hne

theorem res15 (d : Fin 256) : ((dats m 0 c).arrAt 15 cfg0.N (ix2 0 d) : EReal) = ((∑ l, R.gainK d l : ℝ) : EReal) := by
  have h := congrFun ((dats m 0 c).read_blk_arrAt_eq_flushed 15 once15 cfg0.N last last.isLt ((flush0_15 last).2 rfl)) (ix2 0 d)
  rw [Value.flushed15] at h
  refine Eq.trans ?_ (h.trans (((sums H 15 last.isLt).2 d).trans ?_))
  · exact congrArg ((dats m 0 c).arrAt 15 cfg0.N) (at_all rfl rfl (walks last).2.2.2.2.2.2.2.2.2.2.2.2.2.2.2).symm
  · rw [show (15 + 1) * 512 = 8192 from rfl, psum_all]

end Cert.Kernel6Ideal.MlaPrep

end
-- ==== Proof.MlaPrepRef.lean ====
/- The reference of the latent attention's preparation gradient: its host terms, and their values on real arguments. -/
module

public import proofs.«01_k».proof.Proof.Gen.Reference6Ideal.Run
public import proofs.«01_k».proof.Proof.MlaPrepOut

@[expose] public section

set_option maxRecDepth 16384

noncomputable section

namespace Cert.Reference6Ideal.MlaPrep

open Idealize.ShloMosaic Idealize.ShloMosaic.Pointwise Idealize.SL.Sem Cert.Reference6Ideal Cert.Reference6Ideal.Gen Cert.Lift Cert.Rms
open Cert.Kernel6Ideal.MlaPrep (angle Reals Holds turned lane bits_384 bits_256)

/-! ## The rotation's gradient -/

section turn
variable (C S : FVec Ideal S8192x16 .f32) (X : FVec Ideal S8192x8x32 .f32)

/-- A table of the angles' cosines or sines, for one head and for all. -/
abbrev one (T : FVec Ideal S8192x16 .f32) : FVec Ideal S8192x1x16 .f32 := broadcastInDim S8192x1x16 ![0, 2] bcast_S8192x16_S8192x1x16_0_2 T
abbrev every (T : FVec Ideal S8192x16 .f32) : FVec Ideal S8192x8x16 .f32 := broadcastInDim S8192x8x16 ![0, 1, 2] bcast_S8192x1x16_S8192x8x16_0_1_2 (one T)

abbrev lo : FVec Ideal S8192x8x16 .f32 := extractStridedSlice S8192x8x16 ![0, 0, 0] X slices_S8192x8x32_S8192x8x16_0_0_0
abbrev hi : FVec Ideal S8192x8x16 .f32 := extractStridedSlice S8192x8x16 ![0, 0, 16] X slices_S8192x8x32_S8192x8x16_0_0_16

def turn8 : FVec Ideal S8192x8x32 .f32 := concatenate S8192x8x32 2
  [⟨S8192x8x16, addf (mulf (hi X) (every S)) (mulf (lo X) (every C))⟩, ⟨S8192x8x16, addf (mulf (hi X) (every C)) (mulf (Host.negf (lo X)) (every S))⟩]
  concatenates_S8192x8x16_S8192x8x16_S8192x8x32_d2

theorem turn8_apply (l : Fin 8192) (h : Fin 8) (e : Fin 32) : (turn8 C S X (ix3 l h e) : EReal)
    = if k : e.val < 16 then X (ix3 l h ⟨e.val + 16, by omega⟩) * S (ix2 l ⟨e.val, k⟩) + X (ix3 l h e) * C (ix2 l ⟨e.val, k⟩)
      else X (ix3 l h e) * C (ix2 l ⟨e.val - 16, by omega⟩) + -X (ix3 l h ⟨e.val - 16, by omega⟩) * S (ix2 l ⟨e.val - 16, by omega⟩) := by
  pointwise [turn8]
  by_cases k : e.val < 16
  · rw [dif_pos k, dif_pos k]
    exact congrArg (fun i => X (ix3 l h i) * _ + _) (Fin.ext (by dsimp only; omega))
  · rw [dif_neg k, dif_neg k]
    exact congrArg (fun i => X (ix3 l h i) * _ + _) (Fin.ext (by dsimp only; omega))

/-- The shared rotated key part: the heads' sum turned back. -/
def rSum : FVec Ideal S8192x1x32 .f32 := broadcastInDim S8192x1x32 ![0, 2] bcast_S8192x32_S8192x1x32_0_2
  (Host.reduceAdd X (constant S_ .f32 0x00000000#32) reducesTo_S8192x8x32_S8192x32_d1 h_S_)
abbrev lo1 (Y : FVec Ideal S8192x1x32 .f32) : FVec Ideal S8192x1x16 .f32 := extractStridedSlice S8192x1x16 ![0, 0, 0] Y slices_S8192x1x32_S8192x1x16_0_0_0
abbrev hi1 (Y : FVec Ideal S8192x1x32 .f32) : FVec Ideal S8192x1x16 .f32 := extractStridedSlice S8192x1x16 ![0, 0, 16] Y slices_S8192x1x32_S8192x1x16_0_0_16

def turn1 (Y : FVec Ideal S8192x1x32 .f32) : FVec Ideal S8192x32 .f32 := Host.reduceAdd (concatenate S8192x1x32 2
  [⟨S8192x1x16, addf (mulf (hi1 Y) (one S)) (mulf (lo1 Y) (one C))⟩, ⟨S8192x1x16, addf (mulf (hi1 Y) (one C)) (mulf (Host.negf (lo1 Y)) (one S))⟩]
  concatenates_S8192x1x16_S8192x1x16_S8192x1x32_d2) (constant S_ .f32 0x00000000#32) reducesTo_S8192x1x32_S8192x32_d1 h_S_

theorem rSum_apply (l : Fin 8192) (e : Fin 32) : (rSum X (ix3 l 0 e) : EReal) = ∑ h : Fin 8, (X (ix3 l h e) : EReal) := by
  pointwise [rSum]

theorem turn1_apply (Y : FVec Ideal S8192x1x32 .f32) (l : Fin 8192) (e : Fin 32) : (turn1 C S Y (ix2 l e) : EReal)
    = if k : e.val < 16 then Y (ix3 l 0 ⟨e.val + 16, by omega⟩) * S (ix2 l ⟨e.val, k⟩) + Y (ix3 l 0 e) * C (ix2 l ⟨e.val, k⟩)
      else Y (ix3 l 0 e) * C (ix2 l ⟨e.val - 16, by omega⟩) + -Y (ix3 l 0 ⟨e.val - 16, by omega⟩) * S (ix2 l ⟨e.val - 16, by omega⟩) := by
  pointwise [turn1]
  refine (Fin.sum_univ_one _).trans ?_
  by_cases k : e.val < 16
  · rw [dif_pos k, dif_pos k]
    exact congrArg (fun i => Y (ix3 l 0 i) * _ + _) (Fin.ext (by dsimp only; omega))
  · rw [dif_neg k, dif_neg k]
    exact congrArg (fun i => Y (ix3 l 0 i) * _ + _) (Fin.ext (by dsimp only; omega))

end turn

/-! ## The cotangents of the two projections -/

def place (T : FVec Ideal S8192x8x32 .f32) (U : FVec Ideal S8192x8x64 .f32) : FVec Ideal S8192x768 .f32 := shapeCast S8192x768 (addf
  (pad S8192x8x96 ![0, 0, 64] ![0, 0, 0] ![0, 0, 0] T (constant S_ .f32 0x00000000#32) pads_S8192x8x32_S8192x8x96_000_000_6400 h_S_)
  (pad S8192x8x96 ![0, 0, 0] ![0, 0, 32] ![0, 0, 0] U (constant S_ .f32 0x00000000#32) pads_S8192x8x64_S8192x8x96_000_000_0320 h_S_)) shapeCasts_S8192x8x96_S8192x768

theorem place_apply (T : FVec Ideal S8192x8x32 .f32) (U : FVec Ideal S8192x8x64 .f32) (l : Fin 8192) (j : Fin 768) : (place T U (ix2 l j) : EReal)
    = if h : j.val % 96 < 64 then U (ix3 l ⟨j.val / 96, by omega⟩ ⟨j.val % 96, h⟩) else T (ix3 l ⟨j.val / 96, by omega⟩ ⟨j.val % 96 - 64, by omega⟩) := by
  pointwise [place]
  by_cases h : j.val % 96 < 64
  · simp (disch := omega) only [dif_pos, dif_neg, zero_add, add_zero]
  · simp (disch := omega) only [dif_pos, dif_neg, zero_add, add_zero]

def placeKv (V K : FVec Ideal S8192x8x64 .f32) : FVec Ideal S8192x1024 .f32 := shapeCast S8192x1024 (addf
  (pad S8192x8x128 ![0, 0, 64] ![0, 0, 0] ![0, 0, 0] V (constant S_ .f32 0x00000000#32) pads_S8192x8x64_S8192x8x128_000_000_6400 h_S_)
  (pad S8192x8x128 ![0, 0, 0] ![0, 0, 64] ![0, 0, 0] K (constant S_ .f32 0x00000000#32) pads_S8192x8x64_S8192x8x128_000_000_0640 h_S_)) shapeCasts_S8192x8x128_S8192x1024

theorem placeKv_apply (V K : FVec Ideal S8192x8x64 .f32) (l : Fin 8192) (j : Fin 1024) : (placeKv V K (ix2 l j) : EReal)
    = if h : j.val % 128 < 64 then K (ix3 l ⟨j.val / 128, by omega⟩ ⟨j.val % 128, h⟩) else V (ix3 l ⟨j.val / 128, by omega⟩ ⟨j.val % 128 - 64, by omega⟩) := by
  pointwise [placeKv]
  by_cases h : j.val % 128 < 64
  · simp (disch := omega) only [dif_pos, dif_neg, zero_add, add_zero]
  · simp (disch := omega) only [dif_pos, dif_neg, zero_add, add_zero]

abbrev sc : FVec Ideal S_ .f32 := id (Host.rsqrt (constant S_ .f32 0x42C00000#32))

theorem bits_96 : Ideal.ofBits .f32 0x42C00000#32 = ((96 : ℝ) : EReal) := by
  simp [Ideal.ofBits, Ideal.ieee]
  rw [← EReal.coe_mul]; exact congrArg _ (by norm_num)

theorem sc_real (i : S_.Idx) : (sc i : EReal) = (((Real.sqrt 96)⁻¹ : ℝ) : EReal) := by
  show Ideal.rsqrt (Ideal.ofBits .f32 0x42C00000#32) = _
  rw [bits_96]
  exact rsqrt_coe (by norm_num)

def q1s (q1 : FVec Ideal S8192x8x32 .f32) : FVec Ideal S8192x8x32 .f32 := mulf q1 (broadcastInDim S8192x8x32 ![] bcast_S_S8192x8x32 sc)
def q0s (q0 : FVec Ideal S8192x8x64 .f32) : FVec Ideal S8192x8x64 .f32 := mulf q0 (broadcastInDim S8192x8x64 ![] bcast_S_S8192x8x64 sc)

/-! ## The norms' gradients -/

section normQ
abbrev MatQ : Type := FVec Ideal S8192x384 .f32
def uQ (x : MatQ) : FVec Ideal S8192x1 .f32 :=
  addf (Host.divf (broadcastInDim S8192x1 ![0] bcast_S8192_S8192x1_0 (Host.reduceAdd (mulf x x) (constant S_ .f32 0x00000000#32) reducesTo_S8192x384_S8192_d1 h_S_))
    (broadcastInDim S8192x1 ![] bcast_S_S8192x1 (constant S_ .f32 0x43C00000#32))) (broadcastInDim S8192x1 ![] bcast_S_S8192x1 (constant S_ .f32 0x358637BD#32))
def nQ (x : MatQ) (r : FVec Ideal S8192x1 .f32) : MatQ := mulf x (broadcastInDim S8192x384 ![0, 1] bcast_S8192x1_S8192x384_0_1 r)
def yQ (k : MatQ) (g : FVec Ideal S384 .f32) : MatQ :=
  mulf k (broadcastInDim S8192x384 ![0, 1] bcast_S1x384_S8192x384_0_1 (broadcastInDim S1x384 ![1] bcast_S384_S1x384_1 g))
def cQ (p : FVec Ideal S8192x768 .f32) (w : FVec Ideal S384x768 .f32) : MatQ := Host.dotGeneral dot_S8192x768_S384x768_S8192x384_1_1_0_0_n_n none p w
def gQ (n k : MatQ) : FVec Ideal S1x384 .f32 :=
  broadcastInDim S1x384 ![1] bcast_S384_S1x384_1 (Host.reduceAdd (shapeCast S1x384
    (Host.reduceAdd (mulf n k) (constant S_ .f32 0x00000000#32) reducesTo_S8192x384_S384_d0 h_S_) shapeCasts_S384_S1x384)
    (constant S_ .f32 0x00000000#32) reducesTo_S1x384_S384_d0 h_S_)
def wQ (x y : MatQ) (u r : FVec Ideal S8192x1 .f32) : MatQ :=
  broadcastInDim S8192x384 ![0] bcast_S8192_S8192x384_0 (Host.reduceAdd (Host.divf (mulf (shapeCast S8192x1
      (Host.reduceAdd (mulf x y) (constant S_ .f32 0x00000000#32) reducesTo_S8192x384_S8192_d1 h_S_) shapeCasts_S8192_S8192x1)
      (mulf (broadcastInDim S8192x1 ![] bcast_S_S8192x1 (constant S_ .f32 0xBF000000#32)) (Host.divf r u)))
    (broadcastInDim S8192x1 ![] bcast_S_S8192x1 (constant S_ .f32 0x43C00000#32))) (constant S_ .f32 0x00000000#32) reducesTo_S8192x1_S8192_d1 h_S_)
def xQ (x y w : MatQ) (r : FVec Ideal S8192x1 .f32) : MatQ :=
  addf (addf (mulf y (broadcastInDim S8192x384 ![0, 1] bcast_S8192x1_S8192x384_0_1 r)) (mulf x w)) (mulf w x)
abbrev dxQ (x k : MatQ) (g : FVec Ideal S384 .f32) : MatQ := xQ x (yQ k g) (wQ x (yQ k g) (uQ x) (Host.rsqrt (uQ x))) (Host.rsqrt (uQ x))

variable {x k : MatQ} {g : FVec Ideal S384 .f32} {X K : Fin 8192 → Fin 384 → ℝ} {G : Fin 384 → ℝ} (hx : ∀ l d, (x (ix2 l d) : EReal) = (X l d : ℝ))
  (hk : ∀ l d, (k (ix2 l d) : EReal) = (K l d : ℝ)) (hg : ∀ d, (g (ix1 d) : EReal) = (G d : ℝ))
include hx

theorem uQ_real (l : Fin 8192) : (uQ x (ix2 l 0) : EReal) = (ms 384 (X l) : ℝ) := by
  have e : (uQ x (ix2 l 0) : EReal) = Ideal.div (∑ d : Fin 384, (x (ix2 l d) : EReal) * x (ix2 l d)) (Ideal.ofBits .f32 0x43C00000#32) + Ideal.ofBits .f32 0x358637BD#32 := by
    pointwise [uQ]
  rw [e, bits_384, bits_eps]
  simp only [hx, ← EReal.coe_mul, sum_coe, div_real _ (show (384 : ℝ) ≠ 0 by norm_num), ← EReal.coe_add]
  rfl

theorem rQ_real (l : Fin 8192) : (Host.rsqrt (uQ x) (ix2 l 0) : EReal) = (rs 384 (X l) : ℝ) := by
  show Ideal.rsqrt (uQ x (ix2 l 0)) = _
  rw [uQ_real hx]
  exact rsqrt_coe (ms_pos (by norm_num) _)

include hk
theorem gQ_real (d : Fin 384) : (gQ (nQ x (Host.rsqrt (uQ x))) k (ix2 0 d) : EReal) = ((∑ l, K l d * X l d * rs 384 (X l) : ℝ) : EReal) := by
  have e (n k : MatQ) : (gQ n k (ix2 0 d) : EReal) = ∑ l : Fin 8192, (n (ix2 l d) : EReal) * k (ix2 l d) := by
    pointwise [gQ]
    exact Fin.sum_univ_one _
  have f (l : Fin 8192) (r : FVec Ideal S8192x1 .f32) : (nQ x r (ix2 l d) : EReal) = x (ix2 l d) * r (ix2 l 0) := by pointwise [nQ]
  refine (e _ _).trans ?_
  simp only [f, rQ_real hx, hx, hk, ← EReal.coe_mul, sum_coe]
  exact congrArg _ (Finset.sum_congr rfl fun l _ => by ring)

include hg
theorem dxQ_real (l : Fin 8192) (d : Fin 384) : (dxQ x k g (ix2 l d) : EReal) = (dRow 384 (X l) (fun j => K l j * G j) d : ℝ) := by
  have a (l : Fin 8192) (d : Fin 384) : (yQ k g (ix2 l d) : EReal) = ((K l d * G d : ℝ) : EReal) := by
    have e : (yQ k g (ix2 l d) : EReal) = k (ix2 l d) * g (ix1 d) := by pointwise [yQ]
    rw [e, hk, hg, ← EReal.coe_mul]
  have e (y v : MatQ) (r : FVec Ideal S8192x1 .f32) : (xQ x y v r (ix2 l d) : EReal)
      = y (ix2 l d) * r (ix2 l 0) + x (ix2 l d) * v (ix2 l d) + v (ix2 l d) * x (ix2 l d) := by
    pointwise [xQ]
  have f (y : MatQ) (u r : FVec Ideal S8192x1 .f32) : (wQ x y u r (ix2 l d) : EReal) = Ideal.div ((∑ j : Fin 384, (x (ix2 l j) : EReal) * y (ix2 l j))
      * (Ideal.ofBits .f32 0xBF000000#32 * Ideal.div (r (ix2 l 0)) (u (ix2 l 0)))) (Ideal.ofBits .f32 0x43C00000#32) := by
    pointwise [wQ]
    exact Fin.sum_univ_one _
  refine (e _ _ _).trans ?_
  rw [f, a, rQ_real hx, uQ_real hx, hx, bits_neg_half, bits_384]
  simp only [a, hx, ← EReal.coe_mul, sum_coe, div_real _ (ms_pos (show (0 : ℝ) < 384 by norm_num) (X l)).ne',
    div_real _ (show (384 : ℝ) ≠ 0 by norm_num), ← EReal.coe_add]
  refine congrArg _ ?_
  exact dRow_chain (show (0 : ℝ) < 384 by norm_num) (X l) (fun j => K l j * G j) d
end normQ

section normK
abbrev MatK : Type := FVec Ideal S8192x256 .f32
def uK (x : MatK) : FVec Ideal S8192x1 .f32 :=
  addf (Host.divf (broadcastInDim S8192x1 ![0] bcast_S8192_S8192x1_0 (Host.reduceAdd (mulf x x) (constant S_ .f32 0x00000000#32) reducesTo_S8192x256_S8192_d1 h_S_))
    (broadcastInDim S8192x1 ![] bcast_S_S8192x1 (constant S_ .f32 0x43800000#32))) (broadcastInDim S8192x1 ![] bcast_S_S8192x1 (constant S_ .f32 0x358637BD#32))
def nK (x : MatK) (r : FVec Ideal S8192x1 .f32) : MatK := mulf x (broadcastInDim S8192x256 ![0, 1] bcast_S8192x1_S8192x256_0_1 r)
def yK (k : MatK) (g : FVec Ideal S256 .f32) : MatK :=
  mulf k (broadcastInDim S8192x256 ![0, 1] bcast_S1x256_S8192x256_0_1 (broadcastInDim S1x256 ![1] bcast_S256_S1x256_1 g))
def cK (p : FVec Ideal S8192x1024 .f32) (w : FVec Ideal S256x1024 .f32) : MatK := Host.dotGeneral dot_S8192x1024_S256x1024_S8192x256_1_1_0_0_n_n none p w
def gK (n k : MatK) : FVec Ideal S1x256 .f32 :=
  broadcastInDim S1x256 ![1] bcast_S256_S1x256_1 (Host.reduceAdd (shapeCast S1x256
    (Host.reduceAdd (mulf n k) (constant S_ .f32 0x00000000#32) reducesTo_S8192x256_S256_d0 h_S_) shapeCasts_S256_S1x256)
    (constant S_ .f32 0x00000000#32) reducesTo_S1x256_S256_d0 h_S_)
def wK (x y : MatK) (u r : FVec Ideal S8192x1 .f32) : MatK :=
  broadcastInDim S8192x256 ![0] bcast_S8192_S8192x256_0 (Host.reduceAdd (Host.divf (mulf (shapeCast S8192x1
      (Host.reduceAdd (mulf x y) (constant S_ .f32 0x00000000#32) reducesTo_S8192x256_S8192_d1 h_S_) shapeCasts_S8192_S8192x1)
      (mulf (broadcastInDim S8192x1 ![] bcast_S_S8192x1 (constant S_ .f32 0xBF000000#32)) (Host.divf r u)))
    (broadcastInDim S8192x1 ![] bcast_S_S8192x1 (constant S_ .f32 0x43800000#32))) (constant S_ .f32 0x00000000#32) reducesTo_S8192x1_S8192_d1 h_S_)
def xK (x y w : MatK) (r : FVec Ideal S8192x1 .f32) : MatK :=
  addf (addf (mulf y (broadcastInDim S8192x256 ![0, 1] bcast_S8192x1_S8192x256_0_1 r)) (mulf x w)) (mulf w x)
abbrev dxK (x k : MatK) (g : FVec Ideal S256 .f32) : MatK := xK x (yK k g) (wK x (yK k g) (uK x) (Host.rsqrt (uK x))) (Host.rsqrt (uK x))

variable {x k : MatK} {g : FVec Ideal S256 .f32} {X K : Fin 8192 → Fin 256 → ℝ} {G : Fin 256 → ℝ} (hx : ∀ l d, (x (ix2 l d) : EReal) = (X l d : ℝ))
  (hk : ∀ l d, (k (ix2 l d) : EReal) = (K l d : ℝ)) (hg : ∀ d, (g (ix1 d) : EReal) = (G d : ℝ))
include hx

theorem uK_real (l : Fin 8192) : (uK x (ix2 l 0) : EReal) = (ms 256 (X l) : ℝ) := by
  have e : (uK x (ix2 l 0) : EReal) = Ideal.div (∑ d : Fin 256, (x (ix2 l d) : EReal) * x (ix2 l d)) (Ideal.ofBits .f32 0x43800000#32) + Ideal.ofBits .f32 0x358637BD#32 := by
    pointwise [uK]
  rw [e, bits_256, bits_eps]
  simp only [hx, ← EReal.coe_mul, sum_coe, div_real _ (show (256 : ℝ) ≠ 0 by norm_num), ← EReal.coe_add]
  rfl

theorem rK_real (l : Fin 8192) : (Host.rsqrt (uK x) (ix2 l 0) : EReal) = (rs 256 (X l) : ℝ) := by
  show Ideal.rsqrt (uK x (ix2 l 0)) = _
  rw [uK_real hx]
  exact rsqrt_coe (ms_pos (by norm_num) _)

include hk
theorem gK_real (d : Fin 256) : (gK (nK x (Host.rsqrt (uK x))) k (ix2 0 d) : EReal) = ((∑ l, K l d * X l d * rs 256 (X l) : ℝ) : EReal) := by
  have e (n k : MatK) : (gK n k (ix2 0 d) : EReal) = ∑ l : Fin 8192, (n (ix2 l d) : EReal) * k (ix2 l d) := by
    pointwise [gK]
    exact Fin.sum_univ_one _
  have f (l : Fin 8192) (r : FVec Ideal S8192x1 .f32) : (nK x r (ix2 l d) : EReal) = x (ix2 l d) * r (ix2 l 0) := by pointwise [nK]
  refine (e _ _).trans ?_
  simp only [f, rK_real hx, hx, hk, ← EReal.coe_mul, sum_coe]
  exact congrArg _ (Finset.sum_congr rfl fun l _ => by ring)

include hg
theorem dxK_real (l : Fin 8192) (d : Fin 256) : (dxK x k g (ix2 l d) : EReal) = (dRow 256 (X l) (fun j => K l j * G j) d : ℝ) := by
  have a (l : Fin 8192) (d : Fin 256) : (yK k g (ix2 l d) : EReal) = ((K l d * G d : ℝ) : EReal) := by
    have e : (yK k g (ix2 l d) : EReal) = k (ix2 l d) * g (ix1 d) := by pointwise [yK]
    rw [e, hk, hg, ← EReal.coe_mul]
  have e (y v : MatK) (r : FVec Ideal S8192x1 .f32) : (xK x y v r (ix2 l d) : EReal)
      = y (ix2 l d) * r (ix2 l 0) + x (ix2 l d) * v (ix2 l d) + v (ix2 l d) * x (ix2 l d) := by
    pointwise [xK]
  have f (y : MatK) (u r : FVec Ideal S8192x1 .f32) : (wK x y u r (ix2 l d) : EReal) = Ideal.div ((∑ j : Fin 256, (x (ix2 l j) : EReal) * y (ix2 l j))
      * (Ideal.ofBits .f32 0xBF000000#32 * Ideal.div (r (ix2 l 0)) (u (ix2 l 0)))) (Ideal.ofBits .f32 0x43800000#32) := by
    pointwise [wK]
    exact Fin.sum_univ_one _
  refine (e _ _ _).trans ?_
  rw [f, a, rK_real hx, uK_real hx, hx, bits_neg_half, bits_256]
  simp only [a, hx, ← EReal.coe_mul, sum_coe, div_real _ (ms_pos (show (0 : ℝ) < 256 by norm_num) (X l)).ne',
    div_real _ (show (256 : ℝ) ≠ 0 by norm_num), ← EReal.coe_add]
  refine congrArg _ ?_
  exact dRow_chain (show (0 : ℝ) < 256 by norm_num) (X l) (fun j => K l j * G j) d
end normK

/-! ## The five results -/

section results
variable (q0 : FVec Ideal S8192x8x64 .f32) (q1 : FVec Ideal S8192x8x32 .f32) (k0 : FVec Ideal S8192x8x64 .f32) (k1 : FVec Ideal S8192x8x32 .f32)
  (v : FVec Ideal S8192x8x64 .f32) (cq : FVec Ideal S8192x384 .f32) (ck : FVec Ideal S8192x256 .f32) (gq : FVec Ideal S384 .f32) (gk : FVec Ideal S256 .f32)
  (wq : FVec Ideal S384x768 .f32) (wk : FVec Ideal S256x1024 .f32)

abbrev cosT : FVec Ideal S8192x16 .f32 := Host.cos angle
abbrev sinT : FVec Ideal S8192x16 .f32 := Host.sin angle
abbrev rDq : FVec Ideal S8192x768 .f32 := place (turn8 cosT sinT (q1s q1)) (q0s q0)
abbrev rYq : MatQ := cQ (rDq q0 q1) wq
abbrev rYkv : MatK := cK (placeKv v k0) wk

abbrev zeros : FVec Ideal S8192x8x32 .f32 := broadcastInDim S8192x8x32 ![] bcast_S_S8192x8x32 (constant S_ .f32 0x00000000#32)
abbrev zero : FVec Ideal S8192x1024 .f32 := broadcastInDim S8192x1024 ![] bcast_S_S8192x1024 (constant S_ .f32 0x00000000#32)

def joinP (A : FVec Ideal S8192x384 .f32) (B : FVec Ideal S8192x256 .f32) (D : FVec Ideal S8192x32 .f32) : FVec Ideal S8192x1024 .bf16 := truncf .bf16 (concatenate S8192x1024 1
  [⟨S8192x384, A⟩, ⟨S8192x256, B⟩, ⟨S8192x64, extractStridedSlice S8192x64 ![0, 0] zero slices_S8192x1024_S8192x64_0_0⟩, ⟨S8192x32, D⟩,
    ⟨S8192x288, extractStridedSlice S8192x288 ![0, 0] zero slices_S8192x1024_S8192x288_0_0⟩]
  concatenates_S8192x384_S8192x256_S8192x64_S8192x32_S8192x288_S8192x1024_d1) bitsLt_bf16_f32

def joinQ (D : FVec Ideal S8192x768 .f32) : FVec Ideal S8192x1024 .bf16 := truncf .bf16 (shapeCast S8192x1024 (concatenate S8192x8x128 2
  [⟨S8192x8x96, shapeCast S8192x8x96 D shapeCasts_S8192x768_S8192x8x96⟩, ⟨S8192x8x32, zeros⟩] concatenates_S8192x8x96_S8192x8x32_S8192x8x128_d2)
  shapeCasts_S8192x8x128_S8192x1024) bitsLt_bf16_f32

abbrev heads (D : FVec Ideal S8192x1024 .f32) : FVec Ideal S8192x8x128 .f32 := shapeCast S8192x8x128 D shapeCasts_S8192x1024_S8192x8x128

def joinKv (D : FVec Ideal S8192x1024 .f32) (k1 : FVec Ideal S8192x8x32 .f32) : FVec Ideal S8192x1536 .bf16 := truncf .bf16 (concatenate S8192x1536 1
  [⟨S8192x1024, shapeCast S8192x1024 (concatenate S8192x8x128 2
      [⟨S8192x8x64, extractStridedSlice S8192x8x64 ![0, 0, 0] (heads D) slices_S8192x8x128_S8192x8x64_0_0_0⟩, ⟨S8192x8x32, k1⟩, ⟨S8192x8x32, zeros⟩]
      concatenates_S8192x8x64_S8192x8x32_S8192x8x32_S8192x8x128_d2) shapeCasts_S8192x8x128_S8192x1024⟩,
    ⟨S8192x512, shapeCast S8192x512 (extractStridedSlice S8192x8x64 ![0, 0, 64] (heads D) slices_S8192x8x128_S8192x8x64_0_0_64) shapeCasts_S8192x8x64_S8192x512⟩]
  concatenates_S8192x1024_S8192x512_S8192x1536_d1) bitsLt_bf16_f32

abbrev eP : FVec Ideal S8192x1024 .bf16 := joinP (dxQ cq (rYq q0 q1 wq) gq) (dxK ck (rYkv k0 v wk) gk) (turn1 cosT sinT (rSum k1))
abbrev eQ : FVec Ideal S8192x1024 .bf16 := joinQ (rDq q0 q1)
abbrev eKv : FVec Ideal S8192x1536 .bf16 := joinKv (placeKv v k0) k1
abbrev eGq : FVec Ideal S1x384 .f32 := gQ (nQ cq (Host.rsqrt (uQ cq))) (rYq q0 q1 wq)
abbrev eGk : FVec Ideal S1x256 .f32 := gK (nK ck (Host.rsqrt (uK ck))) (rYkv k0 v wk)

variable (A : FVec Ideal S8192x384 .f32) (B : FVec Ideal S8192x256 .f32) (D : FVec Ideal S8192x32 .f32)

theorem joinP_apply (l : Fin 8192) (j : Fin 1024) : (joinP A B D (ix2 l j) : EReal)
    = if h : j.val < 384 then A (ix2 l ⟨j.val, h⟩) else if h : j.val < 640 then B (ix2 l ⟨j.val - 384, by omega⟩)
      else if h : 704 ≤ j.val ∧ j.val < 736 then D (ix2 l ⟨j.val - 704, by omega⟩) else 0 := by
  pointwise [joinP]
  rcases (by omega : j.val < 384 ∨ (384 ≤ j.val ∧ j.val < 640) ∨ (640 ≤ j.val ∧ j.val < 704) ∨ (704 ≤ j.val ∧ j.val < 736) ∨ 736 ≤ j.val) with k | k | k | k | k <;>
    simp (disch := omega) only [dif_pos, dif_neg] <;>
    exact congrArg D (congrArg _ (Fin.ext (by dsimp only <;> omega)))

theorem joinQ_apply (D : FVec Ideal S8192x768 .f32) (l : Fin 8192) (j : Fin 1024) : (joinQ D (ix2 l j) : EReal)
    = if h : j.val % 128 < 96 then D (ix2 l ⟨j.val / 128 * 96 + j.val % 128, by omega⟩) else 0 := by
  pointwise [joinQ]

theorem joinKv_left (D : FVec Ideal S8192x1024 .f32) (l : Fin 8192) (j : Fin 1536) (h : j.val < 1024) : (joinKv D k1 (ix2 l j) : EReal)
    = if k : j.val % 128 < 64 then D (ix2 l ⟨j.val, h⟩)
      else if k : j.val % 128 < 96 then k1 (ix3 l ⟨j.val / 128, by omega⟩ ⟨j.val % 128 - 64, by omega⟩) else 0 := by
  pointwise [joinKv]
  rw [dif_pos h]
  by_cases k : j.val % 128 < 64
  · rw [dif_pos k, dif_pos k]
    exact congrArg D (congrArg _ (Fin.ext (by dsimp only <;> omega)))
  · rw [dif_neg k, dif_neg k]
    by_cases k' : j.val % 128 < 96
    · rw [dif_pos (by omega), dif_pos k']
    · rw [dif_neg (by omega), dif_neg k']

theorem joinKv_right (D : FVec Ideal S8192x1024 .f32) (l : Fin 8192) (j : Fin 1536) (h : 1024 ≤ j.val) : (joinKv D k1 (ix2 l j) : EReal)
    = D (ix2 l ⟨(j.val - 1024) / 64 * 128 + 64 + (j.val - 1024) % 64, by omega⟩) := by
  pointwise [joinKv]
  rw [dif_neg (by omega)]
  exact congrArg D (congrArg _ (Fin.ext (by dsimp only <;> omega)))
end results

section real
variable {R : Reals} {q0 : FVec Ideal S8192x8x64 .f32} {q1 : FVec Ideal S8192x8x32 .f32} {k0 : FVec Ideal S8192x8x64 .f32} {k1 : FVec Ideal S8192x8x32 .f32}
  {v : FVec Ideal S8192x8x64 .f32} {cq : FVec Ideal S8192x384 .f32} {ck : FVec Ideal S8192x256 .f32} {gq : FVec Ideal S384 .f32} {gk : FVec Ideal S256 .f32}
  {wq : FVec Ideal S384x768 .f32} {wk : FVec Ideal S256x1024 .f32} (H : Holds R q0 q1 k0 k1 v cq ck gq gk wq wk)
include H

theorem dq_real (l : Fin 8192) (j : Fin 768) : (rDq q0 q1 (ix2 l j) : EReal) = ((R.dq l ⟨j.val / 96, by omega⟩ ⟨j.val % 96, by omega⟩ : ℝ) : EReal) := by
  have e1 (h : Fin 8) (e : Fin 32) : (q1s q1 (ix3 l h e) : EReal) = ((R.q1 l h e * (Real.sqrt 96)⁻¹ : ℝ) : EReal) := by
    have e : (q1s q1 (ix3 l h e) : EReal) = q1 (ix3 l h e) * sc ix0 := by
      unfold q1s
      generalize sc = s
      pointwise []
    rw [e, sc_real, H.q1, ← EReal.coe_mul]
  have e0 (h : Fin 8) (e : Fin 64) : (q0s q0 (ix3 l h e) : EReal) = ((R.q0 l h e * (Real.sqrt 96)⁻¹ : ℝ) : EReal) := by
    have e : (q0s q0 (ix3 l h e) : EReal) = q0 (ix3 l h e) * sc ix0 := by
      unfold q0s
      generalize sc = s
      pointwise []
    rw [e, sc_real, H.q0, ← EReal.coe_mul]
  refine (place_apply _ _ l j).trans ?_
  unfold Reals.dq lane
  by_cases h : j.val % 96 < 64
  · rw [dif_pos h, e0, dif_neg (by dsimp only; omega)]
    unfold Reals.qw
    rw [dif_pos h]
  · have hq (e : Fin 32) : R.qw l ⟨j.val / 96, by omega⟩ ⟨64 + e.val, by omega⟩ = R.q1 l ⟨j.val / 96, by omega⟩ e := by
      unfold Reals.qw
      dsimp only
      rw [dif_neg (by omega), dif_pos (by omega)]
      exact congrArg (R.q1 l _) (Fin.ext (by dsimp only; omega))
    rw [dif_neg h, dif_pos (by dsimp only; omega), turn8_apply, funext hq]
    unfold turned
    dsimp only
    unfold cosT sinT
    split_ifs <;> rw [e1, e1, H.cos, H.sin]
    · rw [← EReal.coe_mul, ← EReal.coe_mul, ← EReal.coe_add]
      exact congrArg _ (by ring)
    · rw [← EReal.coe_neg, ← EReal.coe_mul, ← EReal.coe_mul, ← EReal.coe_add]
      exact congrArg _ (by ring)

theorem dkv_real (l : Fin 8192) (j : Fin 1024) : (placeKv v k0 (ix2 l j) : EReal) = ((R.dkv l ⟨j.val / 128, by omega⟩ ⟨j.val % 128, by omega⟩ : ℝ) : EReal) := by
  rw [placeKv_apply]
  unfold Reals.dkv
  dsimp only
  split_ifs
  · exact H.k0 _ _ _
  · exact H.v _ _ _

theorem yq_real (l : Fin 8192) (d : Fin 384) : (rYq q0 q1 wq (ix2 l d) : EReal) = ((R.yq l d : ℝ) : EReal) := by
  have e (p : FVec Ideal S8192x768 .f32) : (cQ p wq (ix2 l d) : EReal) = ∑ j : Fin 768, (p (ix2 l j) : EReal) * wq (ix2 d j) := by pointwise [cQ]
  refine (e _).trans ?_
  simp only [dq_real H, H.wq, ← EReal.coe_mul, sum_coe]
  rfl

theorem ykv_real (l : Fin 8192) (d : Fin 256) : (rYkv k0 v wk (ix2 l d) : EReal) = ((R.ykv l d : ℝ) : EReal) := by
  have e (p : FVec Ideal S8192x1024 .f32) : (cK p wk (ix2 l d) : EReal) = ∑ j : Fin 1024, (p (ix2 l j) : EReal) * wk (ix2 d j) := by pointwise [cK]
  refine (e _).trans ?_
  simp only [dkv_real H, H.wk, ← EReal.coe_mul, sum_coe]
  rfl

theorem kr_real (l : Fin 8192) (e : Fin 32) : (turn1 cosT sinT (rSum k1) (ix2 l e) : EReal) = ((R.kr l e : ℝ) : EReal) := by
  have s (e : Fin 32) : (rSum k1 (ix3 l 0 e) : EReal) = ((∑ h, R.k1 l h e : ℝ) : EReal) := by
    rw [rSum_apply]
    simp only [H.k1, sum_coe]
  rw [turn1_apply]
  unfold Reals.kr turned
  dsimp only
  unfold cosT sinT
  split_ifs <;> rw [s, s, H.cos, H.sin]
  · rw [← EReal.coe_mul, ← EReal.coe_mul, ← EReal.coe_add, add_comm]
  · rw [← EReal.coe_neg, ← EReal.coe_mul, ← EReal.coe_mul, ← EReal.coe_add, neg_mul, ← sub_eq_add_neg]

theorem p_real (l : Fin 8192) (j : Fin 1024) : (eP q0 q1 k0 k1 v cq ck gq gk wq wk (ix2 l j) : EReal) = ((R.dp l j : ℝ) : EReal) := by
  refine (joinP_apply _ _ _ l j).trans ?_
  unfold Reals.dp
  split_ifs
  · exact dxQ_real H.cq (yq_real H) H.gq l _
  · exact dxK_real H.ck (ykv_real H) H.gk l _
  · exact kr_real H l _
  · rfl

theorem q_real (l : Fin 8192) (j : Fin 1024) : (eQ q0 q1 (ix2 l j) : EReal) = ((R.dqPre l j : ℝ) : EReal) := by
  refine (joinQ_apply _ l j).trans ?_
  unfold Reals.dqPre
  split_ifs with h
  · refine (dq_real H l _).trans (congrArg _ (congrArg₂ (R.dq l) (Fin.ext (by dsimp only; omega)) (Fin.ext (by dsimp only; omega))))
  · unfold Reals.dq lane Reals.qw
    rw [dif_neg (by dsimp only; omega), dif_neg (by dsimp only; omega), dif_neg (by dsimp only; omega), zero_mul]
    rfl

theorem kv_real (l : Fin 8192) (j : Fin 1536) : (eKv k0 k1 v (ix2 l j) : EReal) = ((R.dkvPre l j : ℝ) : EReal) := by
  unfold Reals.dkvPre
  by_cases h : j.val < 1024
  · refine (joinKv_left k1 _ l j h).trans ?_
    rw [dif_pos h]
    unfold Reals.kw
    dsimp only
    split_ifs with k
    · refine (dkv_real H l _).trans ?_
      unfold Reals.dkv
      rw [dif_pos k]
    · exact H.k1 _ _ _
    · rfl
  · refine (joinKv_right k1 _ l j (by omega)).trans ?_
    rw [dif_neg h]
    refine (dkv_real H l _).trans ?_
    unfold Reals.dkv
    rw [dif_neg (by dsimp only; omega)]
    exact congrArg _ (congrArg₂ (R.v l) (Fin.ext (by dsimp only; omega)) (Fin.ext (by dsimp only; omega)))

theorem gq_real (d : Fin 384) : (eGq q0 q1 cq wq (ix2 0 d) : EReal) = ((∑ l, R.gainQ d l : ℝ) : EReal) := gQ_real H.cq (yq_real H) d

theorem gk_real (d : Fin 256) : (eGk k0 v ck wk (ix2 0 d) : EReal) = ((∑ l, R.gainK d l : ℝ) : EReal) := gK_real H.ck (ykv_real H) d
end real

/-! ## The reference's results in these terms -/

section stages
open Cert.Reference6Ideal.Value
variable (V : Valuation τ sig (Elt Ideal))
abbrev v0 : FVec Ideal S8192x8x64 .f32 := V (Proc.devRef .tc main_arg0)
abbrev v1 : FVec Ideal S8192x8x32 .f32 := V (Proc.devRef .tc main_arg1)
abbrev v2 : FVec Ideal S8192x8x64 .f32 := V (Proc.devRef .tc main_arg2)
abbrev v3 : FVec Ideal S8192x8x32 .f32 := V (Proc.devRef .tc main_arg3)
abbrev v4 : FVec Ideal S8192x8x64 .f32 := V (Proc.devRef .tc main_arg4)
abbrev v5 : FVec Ideal S8192x384 .f32 := V (Proc.devRef .tc main_arg5)
abbrev v6 : FVec Ideal S8192x256 .f32 := V (Proc.devRef .tc main_arg6)
abbrev v7 : FVec Ideal S384 .f32 := V (Proc.devRef .tc main_arg7)
abbrev v8 : FVec Ideal S256 .f32 := V (Proc.devRef .tc main_arg8)
abbrev v9 : FVec Ideal S384x768 .f32 := V (Proc.devRef .tc main_arg9)
abbrev v10 : FVec Ideal S256x1024 .f32 := V (Proc.devRef .tc main_arg10)

theorem s16 : res_main_v16 V = angle := by unfold res_main_v16 angle; rfl
theorem s28 : res_main_v28 V = one cosT := by unfold res_main_v28 res_main_v17; rw [s16]
theorem s29 : res_main_v29 V = one sinT := by unfold res_main_v29 res_main_v18; rw [s16]
theorem s45 : res_main_v45 V = one cosT := by unfold res_main_v45 res_main_v17; rw [s16]
theorem s46 : res_main_v46 V = one sinT := by unfold res_main_v46 res_main_v18; rw [s16]
theorem s67 : res_main_v67 V = q1s (v1 V) := by unfold res_main_v67 res_main_v58 res_main_v24; rfl
theorem s101 : res_main_v101 V = rDq (v0 V) (v1 V) := by
  unfold res_main_v101 res_main_v68 res_main_v69; rw [s67, s45, s46]; unfold res_main_v39 res_main_v24; rfl
theorem s100 : res_main_v100 V = placeKv (v4 V) (v2 V) := by unfold res_main_v100; rfl
theorem s88 : res_main_v88 V = rSum (v3 V) := by unfold res_main_v88; rfl
theorem s157 : res_main_v157 V = rYq (v0 V) (v1 V) (v9 V) := by unfold res_main_v157; rw [s101]; rfl
theorem s136 : res_main_v136 V = rYkv (v2 V) (v4 V) (v10 V) := by unfold res_main_v136; rw [s100]; rfl
theorem s108 : res_main_v108 V = uQ (v5 V) := by unfold res_main_v108; rfl
theorem s109 : res_main_v109 V = Host.rsqrt (uQ (v5 V)) := by unfold res_main_v109; rw [s108]
theorem s114 : res_main_v114 V = nQ (v5 V) (Host.rsqrt (uQ (v5 V))) := by unfold res_main_v114; rw [s109]; rfl
theorem s162 : res_main_v162 V = yQ (rYq (v0 V) (v1 V) (v9 V)) (v7 V) := by unfold res_main_v162 res_main_v115; rw [s157]; rfl
theorem s173 : res_main_v173 V = wQ (v5 V) (yQ (rYq (v0 V) (v1 V) (v9 V)) (v7 V)) (uQ (v5 V)) (Host.rsqrt (uQ (v5 V))) := by
  unfold res_main_v173; rw [s162, s109, s108]; rfl
theorem s125 : res_main_v125 V = uK (v6 V) := by unfold res_main_v125; rfl
theorem s126 : res_main_v126 V = Host.rsqrt (uK (v6 V)) := by unfold res_main_v126; rw [s125]
theorem s131 : res_main_v131 V = nK (v6 V) (Host.rsqrt (uK (v6 V))) := by unfold res_main_v131; rw [s126]; rfl
theorem s141 : res_main_v141 V = yK (rYkv (v2 V) (v4 V) (v10 V)) (v8 V) := by unfold res_main_v141 res_main_v132; rw [s136]; rfl
theorem s152 : res_main_v152 V = wK (v6 V) (yK (rYkv (v2 V) (v4 V) (v10 V)) (v8 V)) (uK (v6 V)) (Host.rsqrt (uK (v6 V))) := by
  unfold res_main_v152; rw [s141, s126, s125]; rfl
theorem s179 : res_main_v179 V = heads (placeKv (v4 V) (v2 V)) := by unfold res_main_v179; rw [s100]; rfl

theorem sP : truncf .bf16 ((concatenate S8192x1024 1 [⟨S8192x384, ((addf (addf (mulf (res_main_v162 V) (broadcastInDim S8192x384 ![0, 1] bcast_S8192x1_S8192x384_0_1 (res_main_v109 V))) (mulf (V (Proc.devRef .tc main_arg5)) (res_main_v173 V))) (mulf (res_main_v173 V) (V (Proc.devRef .tc main_arg5)))) : (⟨S8192x384, .f32⟩ : BufTy).Contents (Elt Ideal))⟩, ⟨S8192x256, ((addf (addf (mulf (res_main_v141 V) (broadcastInDim S8192x256 ![0, 1] bcast_S8192x1_S8192x256_0_1 (res_main_v126 V))) (mulf (V (Proc.devRef .tc main_arg6)) (res_main_v152 V))) (mulf (res_main_v152 V) (V (Proc.devRef .tc main_arg6)))) : (⟨S8192x256, .f32⟩ : BufTy).Contents (Elt Ideal))⟩, ⟨S8192x64, ((extractStridedSlice S8192x64 ![0, 0] (res_main_v19 V) slices_S8192x1024_S8192x64_0_0) : (⟨S8192x64, .f32⟩ : BufTy).Contents (Elt Ideal))⟩, ⟨S8192x32, ((Host.reduceAdd (concatenate S8192x1x32 2 [⟨S8192x1x16, (addf (mulf (res_main_v90 V) (res_main_v29 V)) (mulf (res_main_v89 V) (res_main_v28 V)))⟩, ⟨S8192x1x16, (addf (mulf (res_main_v90 V) (res_main_v28 V)) (mulf (Host.negf (res_main_v89 V)) (res_main_v29 V)))⟩] concatenates_S8192x1x16_S8192x1x16_S8192x1x32_d2) (constant S_ .f32 0x00000000#32) reducesTo_S8192x1x32_S8192x32_d1 h_S_) : (⟨S8192x32, .f32⟩ : BufTy).Contents (Elt Ideal))⟩, ⟨S8192x288, ((extractStridedSlice S8192x288 ![0, 0] (res_main_v19 V) slices_S8192x1024_S8192x288_0_0) : (⟨S8192x288, .f32⟩ : BufTy).Contents (Elt Ideal))⟩] concatenates_S8192x384_S8192x256_S8192x64_S8192x32_S8192x288_S8192x1024_d1 : (⟨S8192x1024, .f32⟩ : BufTy).Contents (Elt Ideal))) bitsLt_bf16_f32
    = eP (v0 V) (v1 V) (v2 V) (v3 V) (v4 V) (v5 V) (v6 V) (v7 V) (v8 V) (v9 V) (v10 V) := by
  rw [s162, s109, s173, s141, s126, s152]
  unfold res_main_v89 res_main_v90 res_main_v19
  rw [s88, s28, s29]
  rfl

theorem sQ : truncf .bf16 (shapeCast _ (concatenate S8192x8x128 2 [⟨S8192x8x96, (shapeCast _ (res_main_v101 V) shapeCasts_S8192x768_S8192x8x96)⟩, ⟨S8192x8x32, (res_main_v178 V)⟩] concatenates_S8192x8x96_S8192x8x32_S8192x8x128_d2) shapeCasts_S8192x8x128_S8192x1024) bitsLt_bf16_f32
    = eQ (v0 V) (v1 V) := by
  rw [s101]
  unfold res_main_v178
  rfl

theorem sKv : truncf .bf16 (concatenate S8192x1536 1 [⟨S8192x1024, (shapeCast _ ((concatenate S8192x8x128 2 [⟨S8192x8x64, ((extractStridedSlice S8192x8x64 ![0, 0, 0] (res_main_v179 V) slices_S8192x8x128_S8192x8x64_0_0_0) : (⟨S8192x8x64, .f32⟩ : BufTy).Contents (Elt Ideal))⟩, ⟨S8192x8x32, ((V (Proc.devRef .tc main_arg3)) : (⟨S8192x8x32, .f32⟩ : BufTy).Contents (Elt Ideal))⟩, ⟨S8192x8x32, ((res_main_v178 V) : (⟨S8192x8x32, .f32⟩ : BufTy).Contents (Elt Ideal))⟩] concatenates_S8192x8x64_S8192x8x32_S8192x8x32_S8192x8x128_d2 : (⟨S8192x8x128, .f32⟩ : BufTy).Contents (Elt Ideal))) shapeCasts_S8192x8x128_S8192x1024)⟩, ⟨S8192x512, (shapeCast _ (extractStridedSlice S8192x8x64 ![0, 0, 64] (res_main_v179 V) slices_S8192x8x128_S8192x8x64_0_0_64) shapeCasts_S8192x8x64_S8192x512)⟩] concatenates_S8192x1024_S8192x512_S8192x1536_d1) bitsLt_bf16_f32
    = eKv (v2 V) (v3 V) (v4 V) := by
  rw [s179]
  unfold res_main_v178
  rfl

theorem sGq : broadcastInDim S1x384 ![1] bcast_S384_S1x384_1 (Host.reduceAdd (shapeCast _ (Host.reduceAdd (mulf (res_main_v114 V) (res_main_v157 V)) (constant S_ .f32 0x00000000#32) reducesTo_S8192x384_S384_d0 h_S_) shapeCasts_S384_S1x384) (constant S_ .f32 0x00000000#32) reducesTo_S1x384_S384_d0 h_S_)
    = eGq (v0 V) (v1 V) (v5 V) (v9 V) := by
  rw [s114, s157]
  rfl

theorem sGk : broadcastInDim S1x256 ![1] bcast_S256_S1x256_1 (Host.reduceAdd (shapeCast _ (Host.reduceAdd (mulf (res_main_v131 V) (res_main_v136 V)) (constant S_ .f32 0x00000000#32) reducesTo_S8192x256_S256_d0 h_S_) shapeCasts_S256_S1x256) (constant S_ .f32 0x00000000#32) reducesTo_S1x256_S256_d0 h_S_)
    = eGk (v2 V) (v4 V) (v6 V) (v10 V) := by
  rw [s131, s136]
  rfl
end stages

end Cert.Reference6Ideal.MlaPrep

end
-- ==== Proof.MlaPrepClaims.lean ====
/- The latent attention's preparation gradient against its reference: on finite arguments the five results are equal. -/
module

public import proofs.«01_k».proof.Defs
public import proofs.«01_k».proof.Proof.Gen.Pre_finite6
public import proofs.«01_k».proof.Proof.Gen.Kernel6Ideal.Value
public import proofs.«01_k».proof.Proof.MlaPrepOut
public import proofs.«01_k».proof.Proof.MlaPrepRef

@[expose] public section

set_option maxRecDepth 16384

noncomputable section

namespace Cert.Proof.MlaPrepClaims

open Idealize.ShloMosaic Idealize.ShloMosaic.Pointwise Idealize.SL.Sem
open Cert.Kernel6Ideal.MlaPrep (Reals Holds angle angle_real b0 b1 b2 b3 b4 b5 b6 b7 b8 b9 b10 res11 res12 res13 res14 res15)
open Cert.Reference6Ideal.MlaPrep (eP eQ eKv eGq eGk v0 v1 v2 v3 v4 v5 v6 v7 v8 v9 v10 sP sQ sKv sGq sGk)
open Cert.Pre_finite6 (S8192x8x64 S8192x8x32 S8192x384 S8192x256 S384 S256 S384x768 S256x1024)

theorem pre_real {x0 : FVec Ideal S8192x8x64 .f32} {x1 : FVec Ideal S8192x8x32 .f32} {x2 : FVec Ideal S8192x8x64 .f32} {x3 : FVec Ideal S8192x8x32 .f32}
    {x4 : FVec Ideal S8192x8x64 .f32} {x5 : FVec Ideal S8192x384 .f32} {x6 : FVec Ideal S8192x256 .f32} {x7 : FVec Ideal S384 .f32} {x8 : FVec Ideal S256 .f32}
    {x9 : FVec Ideal S384x768 .f32} {x10 : FVec Ideal S256x1024 .f32} (h : Cert.Pre_finite6.fn x0 x1 x2 x3 x4 x5 x6 x7 x8 x9 x10 = fun _ => 1#1) :
    ((∀ i, ∃ q : ℝ, x0 i = q) ∧ (∀ i, ∃ q : ℝ, x1 i = q) ∧ (∀ i, ∃ q : ℝ, x2 i = q) ∧ (∀ i, ∃ q : ℝ, x3 i = q) ∧ (∀ i, ∃ q : ℝ, x4 i = q))
      ∧ (∀ i, ∃ q : ℝ, x5 i = q) ∧ (∀ i, ∃ q : ℝ, x6 i = q) ∧ (∀ i, ∃ q : ℝ, x7 i = q) ∧ (∀ i, ∃ q : ℝ, x8 i = q) ∧ (∀ i, ∃ q : ℝ, x9 i = q) ∧ (∀ i, ∃ q : ℝ, x10 i = q) := by
  have : Subsingleton Cert.Pre_finite6.S_.Idx := ⟨fun a b => funext fun i => i.elim0⟩
  have h0 := congrFun h (fun a => a.elim0)
  unfold Cert.Pre_finite6.fn Cert.Pre_finite6.fn_part1 Cert.Pre_finite6.fn_part2 Cert.Pre_finite6.fn_part3 at h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨⟨Lift.real_of_all (fun _ => Lift.bits_inf) h0, Lift.real_of_all (fun _ => Lift.bits_inf) h1, Lift.real_of_all (fun _ => Lift.bits_inf) h2,
    Lift.real_of_all (fun _ => Lift.bits_inf) h3, Lift.real_of_all (fun _ => Lift.bits_inf) h4⟩, Lift.real_of_all (fun _ => Lift.bits_inf) h5,
    Lift.real_of_all (fun _ => Lift.bits_inf) h6, Lift.real_of_all (fun _ => Lift.bits_inf) h7, Lift.real_of_all (fun _ => Lift.bits_inf) h8,
    Lift.real_of_all (fun _ => Lift.bits_inf) h9, Lift.real_of_all (fun _ => Lift.bits_inf) h10⟩

/-- The tables of cosines and sines hold real numbers. -/
theorem tables_real : ∃ C S : Fin 8192 → Fin 16 → ℝ, ∀ l k, (Host.cos angle (ix2 l k) : EReal) = ((C l k : ℝ) : EReal)
    ∧ (Host.sin angle (ix2 l k) : EReal) = ((S l k : ℝ) : EReal) := by
  choose A hA using angle_real
  refine ⟨fun l k => Real.cos (A l k), fun l k => Real.sin (A l k), fun l k => ⟨?_, ?_⟩⟩
  · show Ideal.cos (angle (ix2 l k)) = _
    rw [hA]; rfl
  · show Ideal.sin (angle (ix2 l k)) = _
    rw [hA]; rfl

/-- Finite arguments hold real numbers. -/
theorem holds_of {m : (ℓ : Loc Cert.Kernel6Ideal.nD Cert.Kernel6Ideal.τ Cert.Kernel6Ideal.sig) → Buf (Elt Ideal) ℓ}
    (h : Cert.Pre_Kernel6Ideal_finite6 m) (c : Dev Cert.Kernel6Ideal.nD) :
    ∃ R : Reals, Holds R (b0 m c) (b1 m c) (b2 m c) (b3 m c) (b4 m c) (b5 m c) (b6 m c) (b7 m c) (b8 m c) (b9 m c) (b10 m c) := by
  obtain ⟨⟨h0, h1, h2, h3, h4⟩, h5, h6, h7, h8, h9, h10⟩ := pre_real (h c)
  obtain ⟨C, S, hT⟩ := tables_real
  choose q0 e0 using h0
  choose q1 e1 using h1
  choose q2 e2 using h2
  choose q3 e3 using h3
  choose q4 e4 using h4
  choose q5 e5 using h5
  choose q6 e6 using h6
  choose q7 e7 using h7
  choose q8 e8 using h8
  choose q9 e9 using h9
  choose q10 e10 using h10
  exact ⟨⟨C, S, fun l h e => q0 (ix3 l h e), fun l h e => q1 (ix3 l h e), fun l h e => q2 (ix3 l h e), fun l h e => q3 (ix3 l h e), fun l h e => q4 (ix3 l h e),
      fun l d => q5 (ix2 l d), fun l d => q6 (ix2 l d), fun d => q7 (ix1 d), fun d => q8 (ix1 d), fun d j => q9 (ix2 d j), fun d j => q10 (ix2 d j)⟩,
    fun l k => (hT l k).1, fun l k => (hT l k).2, fun _ _ _ => e0 _, fun _ _ _ => e1 _, fun _ _ _ => e2 _, fun _ _ _ => e3 _, fun _ _ _ => e4 _,
    fun _ _ => e5 _, fun _ _ => e6 _, fun _ => e7 _, fun _ => e8 _, fun _ _ => e9 _, fun _ _ => e10 _⟩

variable {m : (ℓ : Loc Cert.Kernel6Ideal.nD Cert.Kernel6Ideal.τ Cert.Kernel6Ideal.sig) → Buf (Elt Ideal) ℓ} (c : Dev Cert.Kernel6Ideal.nD)

theorem eq11 (h : Cert.Pre_Kernel6Ideal_finite6 m) : (Cert.Kernel6Ideal.Gen.dats m 0 c).arrAt 11 Cert.Kernel6Ideal.cfg0.N
    = eP (b0 m c) (b1 m c) (b2 m c) (b3 m c) (b4 m c) (b5 m c) (b6 m c) (b7 m c) (b8 m c) (b9 m c) (b10 m c) := by
  obtain ⟨R, H⟩ := holds_of h c
  refine funext fun i => ?_
  idx_vars i
  exact (res11 H i0 i1).trans (Reference6Ideal.MlaPrep.p_real H i0 i1).symm

theorem eq12 (h : Cert.Pre_Kernel6Ideal_finite6 m) : (Cert.Kernel6Ideal.Gen.dats m 0 c).arrAt 12 Cert.Kernel6Ideal.cfg0.N = eQ (b0 m c) (b1 m c) := by
  obtain ⟨R, H⟩ := holds_of h c
  refine funext fun i => ?_
  idx_vars i
  exact (res12 H i0 i1).trans (Reference6Ideal.MlaPrep.q_real H i0 i1).symm

theorem eq13 (h : Cert.Pre_Kernel6Ideal_finite6 m) : (Cert.Kernel6Ideal.Gen.dats m 0 c).arrAt 13 Cert.Kernel6Ideal.cfg0.N = eKv (b2 m c) (b3 m c) (b4 m c) := by
  obtain ⟨R, H⟩ := holds_of h c
  refine funext fun i => ?_
  idx_vars i
  exact (res13 H i0 i1).trans (Reference6Ideal.MlaPrep.kv_real H i0 i1).symm

theorem eq14 (h : Cert.Pre_Kernel6Ideal_finite6 m) : (Cert.Kernel6Ideal.Gen.dats m 0 c).arrAt 14 Cert.Kernel6Ideal.cfg0.N = eGq (b0 m c) (b1 m c) (b5 m c) (b9 m c) := by
  obtain ⟨R, H⟩ := holds_of h c
  refine funext fun i => ?_
  idx_vars i
  obtain rfl : i0 = 0 := Subsingleton.elim _ _
  exact (res14 H i1).trans (Reference6Ideal.MlaPrep.gq_real H i1).symm

theorem eq15 (h : Cert.Pre_Kernel6Ideal_finite6 m) : (Cert.Kernel6Ideal.Gen.dats m 0 c).arrAt 15 Cert.Kernel6Ideal.cfg0.N = eGk (b2 m c) (b4 m c) (b6 m c) (b10 m c) := by
  obtain ⟨R, H⟩ := holds_of h c
  refine funext fun i => ?_
  idx_vars i
  obtain rfl : i0 = 0 := Subsingleton.elim _ _
  exact (res15 H i1).trans (Reference6Ideal.MlaPrep.gk_real H i1).symm

set_option maxHeartbeats 4000000 in
theorem algebraic : Cert.algebraic_Kernel6Ideal_Reference6Ideal_pre_finite6 := by
  intro m ρ m' ρ' hpre hag
  refine ⟨fun c => (Cert.Kernel6Ideal.Gen.dats m 0 c).arrAt 11 Cert.Kernel6Ideal.cfg0.N, fun c => (Cert.Kernel6Ideal.Gen.dats m 0 c).arrAt 12 Cert.Kernel6Ideal.cfg0.N,
    fun c => (Cert.Kernel6Ideal.Gen.dats m 0 c).arrAt 13 Cert.Kernel6Ideal.cfg0.N, fun c => (Cert.Kernel6Ideal.Gen.dats m 0 c).arrAt 14 Cert.Kernel6Ideal.cfg0.N,
    fun c => (Cert.Kernel6Ideal.Gen.dats m 0 c).arrAt 15 Cert.Kernel6Ideal.cfg0.N, Cert.Kernel6Ideal.Value.run_blocks m ρ, ?_⟩
  refine (θ_run Cert.Reference6Ideal.defs _ _).mono (fun _ h c => ?_) (Cert.Reference6Ideal.Value.run (F := Ideal) m' ρ')
  obtain ⟨h0, h1, h2, h3, h4, hk⟩ := h c
  obtain ⟨a0, a1, a2, a3, a4, a5, a6, a7, a8, a9, a10⟩ := hag c
  have a0 : v0 (StableHlo.launchContents m' c) = b0 m c := a0
  have a1 : v1 (StableHlo.launchContents m' c) = b1 m c := a1
  have a2 : v2 (StableHlo.launchContents m' c) = b2 m c := a2
  have a3 : v3 (StableHlo.launchContents m' c) = b3 m c := a3
  have a4 : v4 (StableHlo.launchContents m' c) = b4 m c := a4
  have a5 : v5 (StableHlo.launchContents m' c) = b5 m c := a5
  have a6 : v6 (StableHlo.launchContents m' c) = b6 m c := a6
  have a7 : v7 (StableHlo.launchContents m' c) = b7 m c := a7
  have a8 : v8 (StableHlo.launchContents m' c) = b8 m c := a8
  have a9 : v9 (StableHlo.launchContents m' c) = b9 m c := a9
  have a10 : v10 (StableHlo.launchContents m' c) = b10 m c := a10
  have h0 := h0.trans (sP _)
  rw [a0, a1, a2, a3, a4, a5, a6, a7, a8, a9, a10] at h0
  have h1 := h1.trans (sQ _)
  rw [a0, a1] at h1
  have h2 := h2.trans (sKv _)
  rw [a2, a3, a4] at h2
  have h3 := h3.trans (sGq _)
  rw [a0, a1, a5, a9] at h3
  have h4 := h4.trans (sGk _)
  rw [a2, a4, a6, a10] at h4
  exact ⟨h0.trans (eq11 c hpre).symm, h1.trans (eq12 c hpre).symm, h2.trans (eq13 c hpre).symm, h3.trans (eq14 c hpre).symm, h4.trans (eq15 c hpre).symm, hk⟩

end Cert.Proof.MlaPrepClaims

end
-- ==== Proof.OnlineMath.lean ====
/- The softmax taken block by block: a running maximum, the sum of the exponentials below it and their weighted sums. -/
module

public import proofs.«01_k».proof.Proof.MlaMath

@[expose] public section

noncomputable section

namespace Cert.Online

open Idealize.ShloMosaic Cert.Lift

/-- Two to the power of a score less a bound. -/
def pw (M x : ℝ) : ℝ := Real.exp ((x - M) * Real.log 2)

theorem exp2_sub (M x : ℝ) : Ideal.exp2 ((x : EReal) - (M : EReal)) = (pw M x : ℝ) := by
  rw [← EReal.coe_sub, exp2_coe]; rfl
theorem pw_pos (M x : ℝ) : 0 < pw M x := Real.exp_pos _
theorem pw_mul (M N x : ℝ) : pw N M * pw M x = pw N x := by
  unfold pw
  rw [← Real.exp_add]
  congr 1
  ring
theorem exp2_bot (M : ℝ) : Ideal.exp2 ((⊥ : EReal) - (M : EReal)) = 0 := by
  rw [EReal.bot_sub]; rfl

/-- A bound, the sum of the powers below it and their sums weighted by the rows of `u`. -/
def St {n w : ℕ} (f : Fin n → ℝ) (u : Fin w → Fin n → ℝ) (m l : EReal) (a : Fin w → EReal) : Prop :=
  ∃ M : ℝ, m = M ∧ l = ((∑ k, pw M (f k) : ℝ) : EReal) ∧ ∀ e, a e = ((∑ k, u e k * pw M (f k) : ℝ) : EReal)

section steps
variable {n w : ℕ} [NeZero n] (f : Fin n → ℝ) (u : Fin w → Fin n → ℝ)

/-- The first block, from nothing. -/
theorem first {m l : EReal} {a : Fin w → EReal}
    (hm : m = max ⊥ (Finset.univ.fold max (⊥ : EReal) fun k => ((f k : ℝ) : EReal)))
    (hl : l = Ideal.exp2 (⊥ - m) * 0 + ∑ k, Ideal.exp2 ((f k : EReal) - m))
    (ha : ∀ e, a e = Ideal.exp2 (⊥ - m) * 0 + ∑ k, ((u e k : ℝ) : EReal) * Ideal.exp2 ((f k : EReal) - m)) : St f u m l a := by
  obtain ⟨M, hM⟩ := max_real f
  rw [hM, max_eq_right bot_le] at hm
  subst hm
  refine ⟨M, rfl, ?_, fun e => ?_⟩
  · rw [hl]
    simp only [exp2_bot, exp2_sub, mul_zero, zero_add, sum_coe]
  · rw [ha]
    simp only [exp2_bot, exp2_sub, mul_zero, zero_add, ← EReal.coe_mul, sum_coe]

/-- One block more. -/
theorem next {p : ℕ} (g : Fin p → ℝ) (v : Fin w → Fin p → ℝ) (F : Fin (p + n) → ℝ) (V : Fin w → Fin (p + n) → ℝ)
    (hF0 : ∀ k : Fin p, F (Fin.castAdd n k) = g k) (hF1 : ∀ k : Fin n, F (Fin.natAdd p k) = f k)
    (hV0 : ∀ e, ∀ k : Fin p, V e (Fin.castAdd n k) = v e k) (hV1 : ∀ e, ∀ k : Fin n, V e (Fin.natAdd p k) = u e k)
    {m0 l0 m l : EReal} {a0 a : Fin w → EReal} (h : St g v m0 l0 a0)
    (hm : m = max m0 (Finset.univ.fold max (⊥ : EReal) fun k => ((f k : ℝ) : EReal)))
    (hl : l = Ideal.exp2 (m0 - m) * l0 + ∑ k, Ideal.exp2 ((f k : EReal) - m))
    (ha : ∀ e, a e = Ideal.exp2 (m0 - m) * a0 e + ∑ k, ((u e k : ℝ) : EReal) * Ideal.exp2 ((f k : EReal) - m)) : St F V m l a := by
  obtain ⟨M0, rfl, rfl, h2⟩ := h
  obtain ⟨M1, hM⟩ := max_real f
  rw [hM, show max (M0 : EReal) (M1 : EReal) = ((max M0 M1 : ℝ) : EReal) from (EReal.coe_strictMono.monotone.map_max (a := M0) (b := M1)).symm] at hm
  generalize max M0 M1 = M at hm
  subst hm
  refine ⟨M, rfl, ?_, fun e => ?_⟩
  · rw [hl]
    simp only [exp2_sub, sum_coe, ← EReal.coe_mul, ← EReal.coe_add]
    refine congrArg _ ?_
    rw [Fin.sum_univ_add, Finset.mul_sum]
    simp only [hF0, hF1, pw_mul]
  · rw [ha, h2]
    simp only [exp2_sub, sum_coe, ← EReal.coe_mul, ← EReal.coe_add]
    refine congrArg _ ?_
    rw [Fin.sum_univ_add, Finset.mul_sum]
    simp only [hF0, hF1, hV0, hV1]
    refine congrArg₂ (· + ·) (Finset.sum_congr rfl fun k _ => ?_) rfl
    rw [mul_left_comm, pw_mul]
end steps

/-! ## The result -/

section result
variable {n w : ℕ} [NeZero n] {f : Fin n → ℝ} {u : Fin w → Fin n → ℝ} {m l : EReal} {a : Fin w → EReal} (h : St f u m l a) {s : Fin n → ℝ}
  (hs : ∀ k, f k * Real.log 2 = s k)
include h hs

/-- The weighted mean, whatever bound it was taken with. -/
theorem mean (N : ℝ) (e : Fin w) : Ideal.div (a e) l = ((∑ k, u e k * (Real.exp (s k - N) / ∑ j, Real.exp (s j - N)) : ℝ) : EReal) := by
  obtain ⟨M, -, rfl, ha⟩ := h
  have p : ∀ k, pw M (f k) = Real.exp (N - M * Real.log 2) * Real.exp (s k - N) := fun k => by
    unfold pw
    rw [← Real.exp_add, sub_mul, hs]
    congr 1
    ring
  have hz : (∑ j, Real.exp (s j - N)) ≠ 0 := (Finset.sum_pos (fun _ _ => Real.exp_pos _) ⟨0, Finset.mem_univ _⟩).ne'
  have he := (Real.exp_pos (N - M * Real.log 2)).ne'
  rw [ha, div_real _ (Finset.sum_pos (fun _ _ => pw_pos _ _) ⟨0, Finset.mem_univ _⟩).ne']
  refine congrArg _ ?_
  simp only [p, ← Finset.mul_sum, mul_left_comm (u e _)]
  rw [mul_div_mul_left _ _ he, Finset.sum_div]
  exact Finset.sum_congr rfl fun k _ => mul_div_assoc _ _ _

/-- The logarithm of the sum, whatever bound it was taken with. -/
theorem logsum (N : ℝ) : m + Ideal.log l * (((Real.log 2)⁻¹ : ℝ) : EReal) = (((N + Real.log (∑ j, Real.exp (s j - N))) / Real.log 2 : ℝ) : EReal) := by
  obtain ⟨M, rfl, rfl, -⟩ := h
  have p : ∀ k, pw M (f k) = Real.exp (N - M * Real.log 2) * Real.exp (s k - N) := fun k => by
    unfold pw
    rw [← Real.exp_add, sub_mul, hs]
    congr 1
    ring
  have hz : (∑ j, Real.exp (s j - N)) ≠ 0 := (Finset.sum_pos (fun _ _ => Real.exp_pos _) ⟨0, Finset.mem_univ _⟩).ne'
  have he := (Real.exp_pos (N - M * Real.log 2)).ne'
  rw [log_coe (Finset.sum_pos (fun _ _ => pw_pos _ _) ⟨0, Finset.mem_univ _⟩), ← EReal.coe_mul, ← EReal.coe_add]
  refine congrArg _ ?_
  simp only [p, ← Finset.mul_sum]
  rw [Real.log_mul he hz, Real.log_exp]
  have := log_two_ne
  field_simp
  ring
end result

end Cert.Online

end
-- ==== Proof.MlaFwdPay.lean ====
/- What one point of the attention's forward grid leaves in its outputs and in the carried maxima, sums and weighted rows. -/
module

public import proofs.«01_k».proof.Proof.Gen.Kernel7Ideal.Value
public import proofs.«01_k».proof.Proof.OnlineMath

@[expose] public section

set_option maxRecDepth 16384

noncomputable section

namespace Cert.Kernel7Ideal.MlaF

open Idealize.ShloMosaic Idealize.ShloMosaic.TcCoe Idealize.ShloMosaic.Tactic Idealize.ShloMosaic.Pointwise Idealize.SL.Sem Cert.Kernel7Ideal Cert.Kernel7Ideal.Gen Cert.Lift Cert.Online

theorem hz : (![0, 0] : Fin 2 → Nat) = fun _ => 0 := funext fun a => by fin_cases a <;> rfl
theorem hz3 : (![0, 0, 0] : Fin 3 → Nat) = fun _ => 0 := funext fun a => by fin_cases a <;> rfl

/-! ## The stored terms, entry by entry -/

theorem mask_bot : (Named.named (F := Ideal) κ "mask" 0xF149F2CA#32 : Ideal .f32) = (⊥ : EReal) := IdealRules.named_const.ideal_named_scalar κ "mask" _ _ rfl
theorem log2e_inv : (Named.named (F := Ideal) κ "log2e" 0x3FB8AA3B#32 : Ideal .f32) = (((Real.log 2)⁻¹ : ℝ) : EReal) := IdealRules.named_const.ideal_named_scalar κ "log2e" _ _ rfl

section pays
variable (s : FVec Ideal S4096x512 .f32) (m l : FVec Ideal S1x512 .f32) (v : FVec Ideal S64x4096 .bf16) (a : FVec Ideal S64x512 .f32)

theorem pay4_apply (r : Fin 512) : (k0_pay4 (F := Ideal) (ix2 0 r) : EReal) = ⊥ :=
  Eq.trans (by pointwise [k0_pay4]) mask_bot
theorem pay5_apply (r : Fin 512) : (k0_pay5 (F := Ideal) (ix2 0 r) : EReal) = 0 := by pointwise [k0_pay5]
theorem pay6_apply (e : Fin 64) (r : Fin 512) : (k0_pay6 (F := Ideal) (ix2 e r) : EReal) = 0 := by pointwise [k0_pay6]
theorem pay10_apply (k : FVec Ideal S4096x128 .bf16) (q : FVec Ideal S512x128 .bf16) (y : Fin 4096) (r : Fin 512) :
    (k0_pay10 (F := Ideal) k q (ix2 y r) : EReal) = ∑ d : Fin 128, (k (ix2 y d) : EReal) * q (ix2 r d) := by pointwise [k0_pay10]
theorem pay18_apply (r : Fin 512) : (k0_pay18 (F := Ideal) s m (ix2 0 r) : EReal)
    = max (m (ix2 0 r)) (Finset.univ.fold max (Ideal.ofBits .f32 0xFF800000#32) fun y : Fin 4096 => (s (ix2 y r) : EReal)) := by
  pointwise [k0_pay18]
theorem pay22_apply (r : Fin 512) : (k0_pay22 (F := Ideal) s m (ix2 0 r) : EReal) = k0_pay18 (F := Ideal) s m (ix2 0 r) := by
  unfold k0_pay22
  generalize k0_pay18 s m = x
  pointwise []
theorem pay19_apply (r : Fin 512) : (k0_pay19 (F := Ideal) s m (ix2 0 r) : EReal) = Ideal.exp2 (m (ix2 0 r) - k0_pay18 (F := Ideal) s m (ix2 0 r)) := by
  unfold k0_pay19
  generalize k0_pay18 s m = x
  pointwise []
  rfl
theorem pay20_apply (y : Fin 4096) (r : Fin 512) : (k0_pay20 (F := Ideal) s m (ix2 y r) : EReal) = Ideal.exp2 (s (ix2 y r) - k0_pay18 (F := Ideal) s m (ix2 0 r)) := by
  unfold k0_pay20
  generalize k0_pay18 s m = x
  pointwise []
  rfl
theorem pay21_apply (r : Fin 512) : (k0_pay21 (F := Ideal) s m l (ix2 0 r) : EReal)
    = k0_pay19 (F := Ideal) s m (ix2 0 r) * l (ix2 0 r) + ∑ y : Fin 4096, (k0_pay20 (F := Ideal) s m (ix2 y r) : EReal) := by
  unfold k0_pay21
  generalize k0_pay19 s m = x
  generalize k0_pay20 s m = z
  pointwise []
theorem pay23_apply (e : Fin 64) (r : Fin 512) : (k0_pay23 (F := Ideal) s m v (ix2 e r) : EReal)
    = ∑ y : Fin 4096, (v (ix2 e y) : EReal) * k0_pay20 (F := Ideal) s m (ix2 y r) := by
  unfold k0_pay23
  generalize k0_pay20 s m = z
  pointwise []
theorem pay1_apply (x : FVec Ideal S1x512 .f32) (z : FVec Ideal S64x512 .f32) (e : Fin 64) (r : Fin 512) :
    (k0_pay1 (F := Ideal) x z a (ix2 e r) : EReal) = x (ix2 0 r) * a (ix2 e r) + z (ix2 e r) := by pointwise [k0_pay1]

/-- The weighted rows a point leaves. -/
def acc : FVec Ideal S64x512 .f32 := k0_pay1 (F := Ideal) (k0_pay19 s m) (k0_pay23 s m v) a

theorem pay2_apply (a0 a1 : FVec Ideal S64x512 .f32) (l0 l1 : FVec Ideal S1x512 .f32) (r : Fin 512) (f : Fin 128) : (k0_pay2 (F := Ideal) a0 l0 a1 l1 (ix2 r f) : EReal)
    = if h : f.val < 64 then Ideal.div (a0 (ix2 ⟨f.val, h⟩ r)) (l0 (ix2 0 r)) else Ideal.div (a1 (ix2 ⟨f.val - 64, by omega⟩ r)) (l1 (ix2 0 r)) := by
  have hf := f.isLt
  pointwise [k0_pay2]
theorem pay3_apply (m0 l0 m1 l1 : FVec Ideal S1x512 .f32) (h : Fin 2) (r : Fin 512) : (k0_pay3 (F := Ideal) m0 l0 m1 l1 (ix3 0 h r) : EReal)
    = if h.val < 1 then m0 (ix2 0 r) + Ideal.log (l0 (ix2 0 r)) * (((Real.log 2)⁻¹ : ℝ) : EReal) else m1 (ix2 0 r) + Ideal.log (l1 (ix2 0 r)) * (((Real.log 2)⁻¹ : ℝ) : EReal) := by
  have hf := h.isLt
  rw [← log2e_inv]
  pointwise [k0_pay3]
  match h with
  | ⟨0, _⟩ => rfl
  | ⟨1, _⟩ => rfl
end pays

/-! ## A tile's step of the running softmax -/

section tile
variable {s : FVec Ideal S4096x512 .f32} {v : FVec Ideal S64x4096 .bf16} {r : Fin 512} {f : Fin 4096 → ℝ} {u : Fin 64 → Fin 4096 → ℝ}
  (hs : ∀ y, (s (ix2 y r) : EReal) = (f y : ℝ)) (hv : ∀ e y, (v (ix2 e y) : EReal) = (u e y : ℝ))
include hs hv

theorem tile_first : St f u (k0_pay22 (F := Ideal) s (k0_pay4 (F := Ideal)) (ix2 0 r)) (k0_pay21 (F := Ideal) s (k0_pay4 (F := Ideal)) (k0_pay5 (F := Ideal)) (ix2 0 r))
    (fun e => acc s k0_pay4 v k0_pay6 (ix2 e r)) := by
  refine first f u ?_ ?_ fun e => ?_
  · rw [pay22_apply, pay18_apply, pay4_apply, bits_bot]
    simp only [hs]
  · rw [pay21_apply, pay19_apply, pay22_apply, pay4_apply, pay5_apply]
    simp only [pay20_apply, hs]
  · unfold acc
    rw [pay1_apply, pay23_apply, pay19_apply, pay22_apply, pay4_apply, pay6_apply]
    simp only [pay20_apply, hs, hv]

theorem tile_next {g : Fin 4096 → ℝ} {w : Fin 64 → Fin 4096 → ℝ} {F : Fin 8192 → ℝ} {W : Fin 64 → Fin 8192 → ℝ}
    (hF0 : ∀ k : Fin 4096, F ⟨k.val, by omega⟩ = g k) (hF1 : ∀ k : Fin 4096, F ⟨4096 + k.val, by omega⟩ = f k)
    (hV0 : ∀ e, ∀ k : Fin 4096, W e ⟨k.val, by omega⟩ = w e k) (hV1 : ∀ e, ∀ k : Fin 4096, W e ⟨4096 + k.val, by omega⟩ = u e k)
    {m l : FVec Ideal S1x512 .f32} {a : FVec Ideal S64x512 .f32} (h : St g w (m (ix2 0 r)) (l (ix2 0 r)) (fun e => a (ix2 e r))) :
    St F W (k0_pay22 (F := Ideal) s m (ix2 0 r)) (k0_pay21 (F := Ideal) s m l (ix2 0 r)) (fun e => acc s m v a (ix2 e r)) := by
  refine next (p := 4096) f u g w F W hF0 hF1 hV0 hV1 h ?_ ?_ fun e => ?_
  · rw [pay22_apply, pay18_apply, bits_bot]
    simp only [hs]
  · rw [pay21_apply, pay19_apply, pay22_apply]
    simp only [pay20_apply, hs]
  · unfold acc
    rw [pay1_apply, pay23_apply, pay19_apply, pay22_apply]
    simp only [pay20_apply, hs, hv]
end tile

end Cert.Kernel7Ideal.MlaF

end
-- ==== Proof.MlaFwdPoint.lean ====
/- What one point of the attention's forward grid leaves: the carried maxima, sums and weighted rows, and the outputs' blocks. -/
module

public import proofs.«01_k».proof.Proof.MlaFwdPay

@[expose] public section

set_option maxRecDepth 16384

noncomputable section

namespace Cert.Kernel7Ideal.MlaF

open Idealize.ShloMosaic Idealize.ShloMosaic.TcCoe Idealize.ShloMosaic.Tactic Idealize.ShloMosaic.Pointwise Idealize.SL.Sem Cert.Kernel7Ideal Cert.Kernel7Ideal.Gen Cert.Lift Cert.Online

section point
variable (c : Dev nD) (i : grid0.Coords)
  (a3 : Memref sig .tc .vmem S512x256 .bf16) (h3 : a3.IsWhole)
  (a4 : Memref sig .tc .vmem S4096x256 .bf16) (h4 : a4.IsWhole)
  (a5 : Memref sig .tc .vmem S128x4096 .bf16) (h5 : a5.IsWhole)
  (a6 : Memref sig .tc .vmem S512x128 .f32) (h6 : a6.IsWhole)
  (a7 : Memref sig .tc .vmem S1x2x512 .f32) (h7 : a7.IsWhole)
  (a8 : Memref sig .tc .vmem S1x512 .f32) (h8 : a8.IsWhole)
  (a9 : Memref sig .tc .vmem S1x512 .f32) (h9 : a9.IsWhole)
  (a10 : Memref sig .tc .vmem S64x512 .f32) (h10 : a10.IsWhole)
  (a11 : Memref sig .tc .vmem S1x512 .f32) (h11 : a11.IsWhole)
  (a12 : Memref sig .tc .vmem S1x512 .f32) (h12 : a12.IsWhole)
  (a13 : Memref sig .tc .vmem S64x512 .f32) (h13 : a13.IsWhole)
  (x0 : Vec Ideal S512x256 .bf16) (x1 : Vec Ideal S4096x256 .bf16) (x2 : Vec Ideal S128x4096 .bf16)

/-- The scores of the pair's first and second head, and the two heads' rows of the values. -/
abbrev s0 : FVec Ideal S4096x512 .f32 := k0_pay10 (View.ld x1 (Rect.unit (s := S4096x256) ![0, 0] S4096x128.size inb_S4096x256_S4096x128_0_0)) (View.ld x0 (Rect.unit (s := S512x256) ![0, 0] S512x128.size inb_S512x256_S512x128_0_0))
abbrev s1 : FVec Ideal S4096x512 .f32 := k0_pay10 (View.ld x1 (Rect.unit (s := S4096x256) ![0, 128] S4096x128.size inb_S4096x256_S4096x128_0_128)) (View.ld x0 (Rect.unit (s := S512x256) ![0, 128] S512x128.size inb_S512x256_S512x128_0_128))
abbrev v0 : Vec Ideal S64x4096 .bf16 := View.ld x2 (Rect.unit (s := S128x4096) ![0, 0] S64x4096.size inb_S128x4096_S64x4096_0_0)
abbrev v1 : Vec Ideal S64x4096 .bf16 := View.ld x2 (Rect.unit (s := S128x4096) ![64, 0] S64x4096.size inb_S128x4096_S64x4096_64_0)

theorem A_m0 (ha : cond0_0 i) (hb : ¬cond0_1 i) :
    sout0_A_0 c i a3 h3 a4 h4 a5 h5 a6 h6 a7 h7 a8 h8 a9 h9 a10 h10 a11 h11 a12 h12 a13 h13 ha hb x0 x1 x2 = k0_pay22 (F := Ideal) (s0 x0 x1) (k0_pay4 (F := Ideal)) := by
  unfold sout0_A_0
  rw [View.read_writes_eq_canon _ _ _ (scover0_A_0 c i a3 h3 a4 h4 a5 h5 a6 h6 a7 h7 a8 h8 a9 h9 a10 h10 a11 h11 a12 h12 a13 h13 ha hb x0 x1 x2)]
  unfold kernelRun0_A
  dsimp only
  sl_unfold_words
  refine (View.canon_cons_unit_zero (S := S1x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem A_l0 (ha : cond0_0 i) (hb : ¬cond0_1 i) :
    sout0_A_1 c i a3 h3 a4 h4 a5 h5 a6 h6 a7 h7 a8 h8 a9 h9 a10 h10 a11 h11 a12 h12 a13 h13 ha hb x0 x1 x2 = k0_pay21 (F := Ideal) (s0 x0 x1) (k0_pay4 (F := Ideal)) (k0_pay5 (F := Ideal)) := by
  unfold sout0_A_1
  rw [View.read_writes_eq_canon _ _ _ (scover0_A_1 c i a3 h3 a4 h4 a5 h5 a6 h6 a7 h7 a8 h8 a9 h9 a10 h10 a11 h11 a12 h12 a13 h13 ha hb x0 x1 x2)]
  unfold kernelRun0_A
  dsimp only
  sl_unfold_words
  refine (View.canon_cons_unit_zero (S := S1x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem A_a0 (ha : cond0_0 i) (hb : ¬cond0_1 i) :
    sout0_A_2 c i a3 h3 a4 h4 a5 h5 a6 h6 a7 h7 a8 h8 a9 h9 a10 h10 a11 h11 a12 h12 a13 h13 ha hb x0 x1 x2 = acc (s0 x0 x1) (k0_pay4 (F := Ideal)) (v0 x2) (k0_pay6 (F := Ideal)) := by
  unfold sout0_A_2
  rw [View.read_writes_eq_canon _ _ _ (scover0_A_2 c i a3 h3 a4 h4 a5 h5 a6 h6 a7 h7 a8 h8 a9 h9 a10 h10 a11 h11 a12 h12 a13 h13 ha hb x0 x1 x2)]
  unfold kernelRun0_A
  dsimp only
  sl_unfold_words
  refine (View.canon_cons_unit_zero (S := S64x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem A_m1 (ha : cond0_0 i) (hb : ¬cond0_1 i) :
    sout0_A_3 c i a3 h3 a4 h4 a5 h5 a6 h6 a7 h7 a8 h8 a9 h9 a10 h10 a11 h11 a12 h12 a13 h13 ha hb x0 x1 x2 = k0_pay22 (F := Ideal) (s1 x0 x1) (k0_pay4 (F := Ideal)) := by
  unfold sout0_A_3
  rw [View.read_writes_eq_canon _ _ _ (scover0_A_3 c i a3 h3 a4 h4 a5 h5 a6 h6 a7 h7 a8 h8 a9 h9 a10 h10 a11 h11 a12 h12 a13 h13 ha hb x0 x1 x2)]
  unfold kernelRun0_A
  dsimp only
  sl_unfold_words
  refine (View.canon_cons_unit_zero (S := S1x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem A_l1 (ha : cond0_0 i) (hb : ¬cond0_1 i) :
    sout0_A_4 c i a3 h3 a4 h4 a5 h5 a6 h6 a7 h7 a8 h8 a9 h9 a10 h10 a11 h11 a12 h12 a13 h13 ha hb x0 x1 x2 = k0_pay21 (F := Ideal) (s1 x0 x1) (k0_pay4 (F := Ideal)) (k0_pay5 (F := Ideal)) := by
  unfold sout0_A_4
  rw [View.read_writes_eq_canon _ _ _ (scover0_A_4 c i a3 h3 a4 h4 a5 h5 a6 h6 a7 h7 a8 h8 a9 h9 a10 h10 a11 h11 a12 h12 a13 h13 ha hb x0 x1 x2)]
  unfold kernelRun0_A
  dsimp only
  sl_unfold_words
  refine (View.canon_cons_unit_zero (S := S1x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem A_a1 (ha : cond0_0 i) (hb : ¬cond0_1 i) :
    sout0_A_5 c i a3 h3 a4 h4 a5 h5 a6 h6 a7 h7 a8 h8 a9 h9 a10 h10 a11 h11 a12 h12 a13 h13 ha hb x0 x1 x2 = acc (s1 x0 x1) (k0_pay4 (F := Ideal)) (v1 x2) (k0_pay6 (F := Ideal)) := by
  unfold sout0_A_5
  rw [View.read_writes_eq_canon _ _ _ (scover0_A_5 c i a3 h3 a4 h4 a5 h5 a6 h6 a7 h7 a8 h8 a9 h9 a10 h10 a11 h11 a12 h12 a13 h13 ha hb x0 x1 x2)]
  unfold kernelRun0_A
  dsimp only
  sl_unfold_words
  refine (View.canon_cons_unit_zero (S := S64x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl

variable (m0 l0 : Vec Ideal S1x512 .f32) (w0 : Vec Ideal S64x512 .f32) (m1 l1 : Vec Ideal S1x512 .f32) (w1 : Vec Ideal S64x512 .f32)

theorem B_m0 (ha : ¬cond0_0 i) (hb : cond0_1 i) :
    sout0_B_0 c i a3 h3 a4 h4 a5 h5 a6 h6 a7 h7 a8 h8 a9 h9 a10 h10 a11 h11 a12 h12 a13 h13 ha hb x0 x1 x2 m0 l0 w0 m1 l1 w1 = k0_pay22 (F := Ideal) (s0 x0 x1) m0 := by
  unfold sout0_B_0
  rw [View.read_writes_eq_canon _ _ _ (scover0_B_0 c i a3 h3 a4 h4 a5 h5 a6 h6 a7 h7 a8 h8 a9 h9 a10 h10 a11 h11 a12 h12 a13 h13 ha hb x0 x1 x2 m0 l0 w0 m1 l1 w1)]
  unfold kernelRun0_B
  dsimp only
  sl_unfold_words
  refine (View.canon_cons_unit_zero (S := S1x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem B_l0 (ha : ¬cond0_0 i) (hb : cond0_1 i) :
    sout0_B_1 c i a3 h3 a4 h4 a5 h5 a6 h6 a7 h7 a8 h8 a9 h9 a10 h10 a11 h11 a12 h12 a13 h13 ha hb x0 x1 x2 m0 l0 w0 m1 l1 w1 = k0_pay21 (F := Ideal) (s0 x0 x1) m0 l0 := by
  unfold sout0_B_1
  rw [View.read_writes_eq_canon _ _ _ (scover0_B_1 c i a3 h3 a4 h4 a5 h5 a6 h6 a7 h7 a8 h8 a9 h9 a10 h10 a11 h11 a12 h12 a13 h13 ha hb x0 x1 x2 m0 l0 w0 m1 l1 w1)]
  unfold kernelRun0_B
  dsimp only
  sl_unfold_words
  refine (View.canon_cons_unit_zero (S := S1x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem B_a0 (ha : ¬cond0_0 i) (hb : cond0_1 i) :
    sout0_B_2 c i a3 h3 a4 h4 a5 h5 a6 h6 a7 h7 a8 h8 a9 h9 a10 h10 a11 h11 a12 h12 a13 h13 ha hb x0 x1 x2 m0 l0 w0 m1 l1 w1 = acc (s0 x0 x1) m0 (v0 x2) w0 := by
  unfold sout0_B_2
  rw [View.read_writes_eq_canon _ _ _ (scover0_B_2 c i a3 h3 a4 h4 a5 h5 a6 h6 a7 h7 a8 h8 a9 h9 a10 h10 a11 h11 a12 h12 a13 h13 ha hb x0 x1 x2 m0 l0 w0 m1 l1 w1)]
  unfold kernelRun0_B
  dsimp only
  sl_unfold_words
  refine (View.canon_cons_unit_zero (S := S64x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem B_m1 (ha : ¬cond0_0 i) (hb : cond0_1 i) :
    sout0_B_3 c i a3 h3 a4 h4 a5 h5 a6 h6 a7 h7 a8 h8 a9 h9 a10 h10 a11 h11 a12 h12 a13 h13 ha hb x0 x1 x2 m0 l0 w0 m1 l1 w1 = k0_pay22 (F := Ideal) (s1 x0 x1) m1 := by
  unfold sout0_B_3
  rw [View.read_writes_eq_canon _ _ _ (scover0_B_3 c i a3 h3 a4 h4 a5 h5 a6 h6 a7 h7 a8 h8 a9 h9 a10 h10 a11 h11 a12 h12 a13 h13 ha hb x0 x1 x2 m0 l0 w0 m1 l1 w1)]
  unfold kernelRun0_B
  dsimp only
  sl_unfold_words
  refine (View.canon_cons_unit_zero (S := S1x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem B_l1 (ha : ¬cond0_0 i) (hb : cond0_1 i) :
    sout0_B_4 c i a3 h3 a4 h4 a5 h5 a6 h6 a7 h7 a8 h8 a9 h9 a10 h10 a11 h11 a12 h12 a13 h13 ha hb x0 x1 x2 m0 l0 w0 m1 l1 w1 = k0_pay21 (F := Ideal) (s1 x0 x1) m1 l1 := by
  unfold sout0_B_4
  rw [View.read_writes_eq_canon _ _ _ (scover0_B_4 c i a3 h3 a4 h4 a5 h5 a6 h6 a7 h7 a8 h8 a9 h9 a10 h10 a11 h11 a12 h12 a13 h13 ha hb x0 x1 x2 m0 l0 w0 m1 l1 w1)]
  unfold kernelRun0_B
  dsimp only
  sl_unfold_words
  refine (View.canon_cons_unit_zero (S := S1x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem B_a1 (ha : ¬cond0_0 i) (hb : cond0_1 i) :
    sout0_B_5 c i a3 h3 a4 h4 a5 h5 a6 h6 a7 h7 a8 h8 a9 h9 a10 h10 a11 h11 a12 h12 a13 h13 ha hb x0 x1 x2 m0 l0 w0 m1 l1 w1 = acc (s1 x0 x1) m1 (v1 x2) w1 := by
  unfold sout0_B_5
  rw [View.read_writes_eq_canon _ _ _ (scover0_B_5 c i a3 h3 a4 h4 a5 h5 a6 h6 a7 h7 a8 h8 a9 h9 a10 h10 a11 h11 a12 h12 a13 h13 ha hb x0 x1 x2 m0 l0 w0 m1 l1 w1)]
  unfold kernelRun0_B
  dsimp only
  sl_unfold_words
  refine (View.canon_cons_unit_zero (S := S64x512) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem B_o (ha : ¬cond0_0 i) (hb : cond0_1 i) :
    out0_B_3 c i a3 h3 a4 h4 a5 h5 a6 h6 a7 h7 a8 h8 a9 h9 a10 h10 a11 h11 a12 h12 a13 h13 ha hb x0 x1 x2 m0 l0 w0 m1 l1 w1 = k0_pay2 (F := Ideal) (acc (s0 x0 x1) m0 (v0 x2) w0) (k0_pay21 (F := Ideal) (s0 x0 x1) m0 l0) (acc (s1 x0 x1) m1 (v1 x2) w1) (k0_pay21 (F := Ideal) (s1 x0 x1) m1 l1) := by
  unfold out0_B_3
  rw [View.read_writes_eq_canon _ _ _ (cover0_B_3 c i a3 h3 a4 h4 a5 h5 a6 h6 a7 h7 a8 h8 a9 h9 a10 h10 a11 h11 a12 h12 a13 h13 ha hb x0 x1 x2 m0 l0 w0 m1 l1 w1)]
  unfold kernelRun0_B
  dsimp only
  sl_unfold_words
  refine (View.canon_cons_unit_zero (S := S512x128) hz _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
theorem B_lse (ha : ¬cond0_0 i) (hb : cond0_1 i) :
    out0_B_4 c i a3 h3 a4 h4 a5 h5 a6 h6 a7 h7 a8 h8 a9 h9 a10 h10 a11 h11 a12 h12 a13 h13 ha hb x0 x1 x2 m0 l0 w0 m1 l1 w1 = k0_pay3 (F := Ideal) (k0_pay22 (F := Ideal) (s0 x0 x1) m0) (k0_pay21 (F := Ideal) (s0 x0 x1) m0 l0) (k0_pay22 (F := Ideal) (s1 x0 x1) m1) (k0_pay21 (F := Ideal) (s1 x0 x1) m1 l1) := by
  unfold out0_B_4
  rw [View.read_writes_eq_canon _ _ _ (cover0_B_4 c i a3 h3 a4 h4 a5 h5 a6 h6 a7 h7 a8 h8 a9 h9 a10 h10 a11 h11 a12 h12 a13 h13 ha hb x0 x1 x2 m0 l0 w0 m1 l1 w1)]
  unfold kernelRun0_B
  dsimp only
  sl_unfold_words
  refine (View.canon_cons_unit_zero (S := S1x2x512) hz3 _ _ _).trans ?_
  simp only [View.readAt_eq_ld, h3.read_unread, h4.read_unread, h5.read_unread, h8.read_unread, h9.read_unread, h10.read_unread, h11.read_unread, h12.read_unread, h13.read_unread,
    View.readCov_unit_zero (S := S1x512) _ hz, View.readCov_unit_zero (S := S64x512) _ hz, View.ld_unit_zero (S := S1x512) hz, View.ld_unit_zero (S := S64x512) hz]
  rfl
end point

end Cert.Kernel7Ideal.MlaF

end
-- ==== Proof.MlaFwdRead.lean ====
/- The attention's forward program: the arrays its host prepares and the blocks its kernel reads, entry by entry. -/
module

public import proofs.«01_k».proof.Proof.Gen.Kernel7Ideal.Value
public import proofs.«01_k».proof.Proof.MlaValue

@[expose] public section

set_option maxRecDepth 16384

noncomputable section

namespace Cert.Kernel7Ideal.MlaF

open Idealize.ShloMosaic Idealize.ShloMosaic.Tactic Idealize.ShloMosaic.Pointwise Idealize.SL.Sem Cert.Kernel7Ideal Cert.Kernel7Ideal.Gen Cert.Lift
open Cert.Kernel2Ideal.Mla (hQ hK col hd hOf Holds qLane kLane q_real k_real)

variable (m : (ℓ : Loc nD τ sig) → Buf (Elt Ideal) ℓ) (c : Dev nD)

abbrev b0 : FVec Ideal S8192x8x64 .f32 := m ((c.tc : Thread nD τ).loc main_arg0)
abbrev b1 : FVec Ideal S8192x8x32 .f32 := m ((c.tc : Thread nD τ).loc main_arg1)
abbrev b2 : FVec Ideal S8192x8x64 .f32 := m ((c.tc : Thread nD τ).loc main_arg2)
abbrev b3 : FVec Ideal S8192x32 .f32 := m ((c.tc : Thread nD τ).loc main_arg3)
abbrev b4 : FVec Ideal S8192x8x64 .f32 := m ((c.tc : Thread nD τ).loc main_arg4)

theorem V_q : (V m c main_v11 : FVec Ideal S8192x1024 .bf16) = hQ (b0 m c) (b1 m c) := by
  unfold V hostOps0
  after_results_simp
  rfl
theorem V_k : (V m c main_v14 : FVec Ideal S8192x1024 .bf16) = hK (b2 m c) (b3 m c) := by
  unfold V hostOps0
  after_results_simp
  rfl
theorem V_v : (V m c main_v17 : FVec Ideal S512x8192 .bf16)
    = transpose S512x8192 [1, 0] (truncf .bf16 (shapeCast S8192x512 (b4 m c) shapeCasts_S8192x8x64_S8192x512) bitsLt_bf16_f32) transposes_S8192x512_S512x8192_1_0 := by
  unfold V hostOps0
  after_results_simp
  rfl

theorem v_apply (h : Fin 8) (e : Fin 64) (k : Fin 8192) : ((V m c main_v17 : FVec Ideal S512x8192 .bf16) (ix2 (hd h e) k) : EReal) = b4 m c (ix3 k h e) := by
  have e1 : (h.val * 64 + e.val) % 64 = e.val := by omega
  have e2 : (h.val * 64 + e.val) / 64 = h.val := by omega
  rw [V_v]
  pointwise []

/-! ## The grid: four pairs of heads, sixteen blocks of queries, two halves of the keys -/

theorem lt128 (t : Fin cfg0.N) : t.val < 128 := lt_of_lt_of_eq t.isLt N_0
/-- The pair of heads of a point. -/
abbrev pair (t : Fin cfg0.N) : Fin 4 := ⟨t.val / 32, by have := lt128 t; omega⟩
/-- The query of row `r` of a point's block. -/
abbrev qrow (t : Fin cfg0.N) (r : Fin 512) : Fin 8192 := ⟨t.val / 2 % 16 * 512 + r.val, by omega⟩
/-- The key of row `y` of a point's block. -/
abbrev krow (t : Fin cfg0.N) (y : Fin 4096) : Fin 8192 := ⟨t.val % 2 * 4096 + y.val, by omega⟩

theorem walks : ∀ t : Fin cfg0.N, (win0_0.index t 0 = t.val / 2 % 16 ∧ win0_0.index t 1 = t.val / 32) ∧ (win0_1.index t 0 = t.val % 2 ∧ win0_1.index t 1 = t.val / 32)
    ∧ (win0_2.index t 0 = t.val / 32 ∧ win0_2.index t 1 = t.val % 2) ∧ (win0_3.index t 0 = t.val / 2 % 16 ∧ win0_3.index t 1 = t.val / 32)
    ∧ (win0_4.index t 0 = t.val / 32 ∧ win0_4.index t 1 = 0 ∧ win0_4.index t 2 = t.val / 2 % 16) :=
  (by decide +kernel : ∀ t : Fin grid0.N, (win0_0.index t 0 = t.val / 2 % 16 ∧ win0_0.index t 1 = t.val / 32) ∧ (win0_1.index t 0 = t.val % 2 ∧ win0_1.index t 1 = t.val / 32)
    ∧ (win0_2.index t 0 = t.val / 32 ∧ win0_2.index t 1 = t.val % 2) ∧ (win0_3.index t 0 = t.val / 2 % 16 ∧ win0_3.index t 1 = t.val / 32)
    ∧ (win0_4.index t 0 = t.val / 32 ∧ win0_4.index t 1 = 0 ∧ win0_4.index t 2 = t.val / 2 % 16))

theorem at2 {M N a b p q : ℕ} {i : (⟨2, ![M, N]⟩ : Shape).Idx} (v w r l : ℕ) (x : Fin M) (y : Fin N) (h : a = p ∧ b = q) (h0 : (i 0).val = a * v + 1 * r)
    (h1 : (i 1).val = b * w + 1 * l) (hx : p * v + 1 * r = x.val) (hy : q * w + 1 * l = y.val) : i = ix2 x y := by
  obtain ⟨rfl, rfl⟩ := h
  refine funext fun k => Fin.ext ?_
  match k with
  | ⟨0, _⟩ => exact h0.trans hx
  | ⟨1, _⟩ => exact h1.trans hy

variable (t : Fin cfg0.N)
theorem x0_apply (r : Fin 512) (h : Fin 2) (d : Fin 128) : (iblk m c 0 t (ix2 r ⟨h.val * 128 + d.val, by omega⟩) : EReal) = hQ (b0 m c) (b1 m c) (ix2 (qrow t r) (col (hOf (pair t) h) d)) := by
  rw [← V_q]
  exact congrArg (V m c main_v11) (at2 512 256 r.val (h.val * 128 + d.val) _ _ (walks t).1 rfl rfl (by dsimp only; omega) (by dsimp only; omega))
theorem x1_apply (y : Fin 4096) (h : Fin 2) (d : Fin 128) : (iblk m c 1 t (ix2 y ⟨h.val * 128 + d.val, by omega⟩) : EReal) = hK (b2 m c) (b3 m c) (ix2 (krow t y) (col (hOf (pair t) h) d)) := by
  rw [← V_k]
  exact congrArg (V m c main_v14) (at2 4096 256 y.val (h.val * 128 + d.val) _ _ (walks t).2.1 rfl rfl (by dsimp only; omega) (by dsimp only; omega))
theorem x2_apply (h : Fin 2) (e : Fin 64) (y : Fin 4096) : (iblk m c 2 t (ix2 ⟨h.val * 64 + e.val, by omega⟩ y) : EReal) = b4 m c (ix3 (krow t y) (hOf (pair t) h) e) := by
  rw [← v_apply]
  exact congrArg (V m c main_v17) (at2 128 4096 (h.val * 64 + e.val) y.val _ _ (walks t).2.2.1 rfl rfl (by dsimp only; omega) (by dsimp only; omega))

/-! ## The loads of a head's lanes -/

theorem ld2 {M N v w o p : ℕ} {e : EltTy} (x : Vec Ideal ⟨2, ![M, N]⟩ e) (h : ∀ i, (![o, p] : Fin 2 → ℕ) i + (![v, w] : Fin 2 → ℕ) i ≤ (⟨2, ![M, N]⟩ : Shape).size i)
    (r : Fin v) (l : Fin w) (hr : o + r.val < M) (hl : p + l.val < N) :
    View.ld x (Rect.unit (s := ⟨2, ![M, N]⟩) ![o, p] ![v, w] h) (ix2 r l) = x (ix2 ⟨o + r.val, hr⟩ ⟨p + l.val, hl⟩) :=
  congrArg x (funext fun k => Fin.ext <| by
    match k with
    | ⟨0, _⟩ => show o + 1 * r.val = o + r.val; omega
    | ⟨1, _⟩ => show p + 1 * l.val = p + l.val; omega)

end Cert.Kernel7Ideal.MlaF

end
-- ==== Proof.MlaFwdOut.lean ====
/- What the attention's forward kernel leaves in its two result arrays: the weighted values and the rows' log-sums. -/
module

public import proofs.«01_k».proof.Proof.MlaFwdPoint
public import proofs.«01_k».proof.Proof.MlaFwdRead

@[expose] public section

set_option maxRecDepth 16384

noncomputable section

namespace Cert.Kernel7Ideal.MlaF

open Idealize.ShloMosaic Idealize.ShloMosaic.Tactic Idealize.ShloMosaic.Pointwise Idealize.SL.Sem Cert.Kernel7Ideal Cert.Kernel7Ideal.Gen Cert.Lift Cert.Online Cert.Attn
open Cert.Kernel2Ideal.Mla (hQ hK col hd hOf Holds qLane kLane q_real k_real lanes)
open Idealize.ShloMosaic.Pipeline (Dat)

variable {m : (ℓ : Loc nD τ sig) → Buf (Elt Ideal) ℓ} {c : Dev nD}
  {Q0 : Fin 8192 → Fin 8 → Fin 64 → ℝ} {Q1 : Fin 8192 → Fin 8 → Fin 32 → ℝ} {K0 : Fin 8192 → Fin 8 → Fin 64 → ℝ}
  {K1 : Fin 8192 → Fin 32 → ℝ} {U : Fin 8192 → Fin 8 → Fin 64 → ℝ} {G : Fin 8192 → Fin 512 → ℝ} {g : FVec Ideal S8192x512 .f32}

/-- A score in base two. -/
def sb (Q0 : Fin 8192 → Fin 8 → Fin 64 → ℝ) (Q1 : Fin 8192 → Fin 8 → Fin 32 → ℝ) (K0 : Fin 8192 → Fin 8 → Fin 64 → ℝ) (K1 : Fin 8192 → Fin 32 → ℝ)
    (h : Fin 8) (l k : Fin 8192) : ℝ := ∑ d, kLane K0 K1 h k d * qLane Q0 Q1 h l d

theorem sb_sc (h : Fin 8) (l k : Fin 8192) : sb Q0 Q1 K0 K1 h l k * Real.log 2 = sc Q0 Q1 K0 K1 h l k := by
  have e : sb Q0 Q1 K0 K1 h l k = ∑ d, qLane Q0 Q1 h l d * kLane K0 K1 h k d := Finset.sum_congr rfl fun d _ => mul_comm _ _
  have := log_two_ne
  rw [e, lanes]
  unfold sc
  field_simp

section run
variable (H : Holds Q0 Q1 K0 K1 U G (b0 m c) (b1 m c) (b2 m c) (b3 m c) (b4 m c) g)
include H

/-! ## A point's scores and values -/

theorem s0_real (t : Fin cfg0.N) (y : Fin 4096) (r : Fin 512) :
    (s0 (iblk m c 0 t) (iblk m c 1 t) (ix2 y r) : EReal) = (sb Q0 Q1 K0 K1 (hOf (pair t) 0) (qrow t r) (krow t y) : ℝ) := by
  refine (pay10_apply _ _ y r).trans ?_
  unfold sb
  rw [← sum_coe]
  refine Finset.sum_congr rfl fun d _ => ?_
  rw [EReal.coe_mul, ← k_real Q0 Q1 K0 K1 U G H, ← q_real Q0 Q1 K0 K1 U G H, ← x0_apply, ← x1_apply]
  refine congrArg₂ (· * ·) ((ld2 (M := 4096) (N := 256) (iblk m c 1 t) _ y d (by omega) (by omega)).trans ?_) ((ld2 (M := 512) (N := 256) (iblk m c 0 t) _ r d (by omega) (by omega)).trans ?_)
  · exact congrArg₂ (fun a b => iblk m c 1 t (ix2 a b)) (Fin.ext (Nat.zero_add _)) (Fin.ext (by show 0 + d.val = 0 * 128 + d.val; omega))
  · exact congrArg₂ (fun a b => iblk m c 0 t (ix2 a b)) (Fin.ext (Nat.zero_add _)) (Fin.ext (by show 0 + d.val = 0 * 128 + d.val; omega))
theorem s1_real (t : Fin cfg0.N) (y : Fin 4096) (r : Fin 512) :
    (s1 (iblk m c 0 t) (iblk m c 1 t) (ix2 y r) : EReal) = (sb Q0 Q1 K0 K1 (hOf (pair t) 1) (qrow t r) (krow t y) : ℝ) := by
  refine (pay10_apply _ _ y r).trans ?_
  unfold sb
  rw [← sum_coe]
  refine Finset.sum_congr rfl fun d _ => ?_
  rw [EReal.coe_mul, ← k_real Q0 Q1 K0 K1 U G H, ← q_real Q0 Q1 K0 K1 U G H, ← x0_apply, ← x1_apply]
  refine congrArg₂ (· * ·) ((ld2 (M := 4096) (N := 256) (iblk m c 1 t) _ y d (by omega) (by omega)).trans ?_) ((ld2 (M := 512) (N := 256) (iblk m c 0 t) _ r d (by omega) (by omega)).trans ?_)
  · exact congrArg₂ (fun a b => iblk m c 1 t (ix2 a b)) (Fin.ext (Nat.zero_add _)) (Fin.ext (by show 128 + d.val = 1 * 128 + d.val; omega))
  · exact congrArg₂ (fun a b => iblk m c 0 t (ix2 a b)) (Fin.ext (Nat.zero_add _)) (Fin.ext (by show 128 + d.val = 1 * 128 + d.val; omega))
theorem v0_real (t : Fin cfg0.N) (e : Fin 64) (y : Fin 4096) : (v0 (iblk m c 2 t) (ix2 e y) : EReal) = (U (krow t y) (hOf (pair t) 0) e : ℝ) := by
  refine (ld2 (M := 128) (N := 4096) (iblk m c 2 t) _ e y (by omega) (by omega)).trans (Eq.trans ?_ ((x2_apply m c t 0 e y).trans (H.u _ _ _)))
  exact congrArg₂ (fun a b => iblk m c 2 t (ix2 a b)) (Fin.ext (by show 0 + e.val = 0 * 64 + e.val; omega)) (Fin.ext (Nat.zero_add _))
theorem v1_real (t : Fin cfg0.N) (e : Fin 64) (y : Fin 4096) : (v1 (iblk m c 2 t) (ix2 e y) : EReal) = (U (krow t y) (hOf (pair t) 1) e : ℝ) := by
  refine (ld2 (M := 128) (N := 4096) (iblk m c 2 t) _ e y (by omega) (by omega)).trans (Eq.trans ?_ ((x2_apply m c t 1 e y).trans (H.u _ _ _)))
  exact congrArg₂ (fun a b => iblk m c 2 t (ix2 a b)) (Fin.ext (by show 64 + e.val = 1 * 64 + e.val; omega)) (Fin.ext (Nat.zero_add _))

/-! ## The carried state after a block's first point -/

theorem half0 (t : Fin cfg0.N) (hp : t.val % 2 = 0) (r : Fin 512) :
    St (fun y => sb Q0 Q1 K0 K1 (hOf (pair t) 0) (qrow t r) (krow t y)) (fun e y => U (krow t y) (hOf (pair t) 0) e)
      ((outsAt0 m c t.val t.isLt).2.2.1 (ix2 0 r)) ((outsAt0 m c t.val t.isLt).2.2.2.1 (ix2 0 r)) (fun e => (outsAt0 m c t.val t.isLt).2.2.2.2.1 (ix2 e r)) := by
  rw [outsAt0_A m c t hp (by omega)]
  dsimp only
  rw [A_m0, A_l0, A_a0]
  exact tile_first (fun y => s0_real H t y r) (v0_real H t)
theorem half1 (t : Fin cfg0.N) (hp : t.val % 2 = 0) (r : Fin 512) :
    St (fun y => sb Q0 Q1 K0 K1 (hOf (pair t) 1) (qrow t r) (krow t y)) (fun e y => U (krow t y) (hOf (pair t) 1) e)
      ((outsAt0 m c t.val t.isLt).2.2.2.2.2.1 (ix2 0 r)) ((outsAt0 m c t.val t.isLt).2.2.2.2.2.2.1 (ix2 0 r)) (fun e => (outsAt0 m c t.val t.isLt).2.2.2.2.2.2.2 (ix2 e r)) := by
  rw [outsAt0_A m c t hp (by omega)]
  dsimp only
  rw [A_m1, A_l1, A_a1]
  exact tile_first (fun y => s1_real H t y r) (v1_real H t)

/-! ## The outputs' blocks after its second point -/

section second
variable (n : ℕ) (h : n + 1 < cfg0.N) (hp : (n + 1) % 2 = 1) (r : Fin 512)
include hp

theorem full0 : ∀ {m0 l0 : FVec Ideal S1x512 .f32} {a0 : FVec Ideal S64x512 .f32},
    m0 = (outsAt0 m c n (Nat.lt_of_succ_lt h)).2.2.1 → l0 = (outsAt0 m c n (Nat.lt_of_succ_lt h)).2.2.2.1 → a0 = (outsAt0 m c n (Nat.lt_of_succ_lt h)).2.2.2.2.1 →
    St (fun k => sb Q0 Q1 K0 K1 (hOf (pair ⟨n + 1, h⟩) 0) (qrow ⟨n + 1, h⟩ r) k) (fun e k => U k (hOf (pair ⟨n + 1, h⟩) 0) e)
      (k0_pay22 (F := Ideal) (s0 (iblk m c 0 ⟨n + 1, h⟩) (iblk m c 1 ⟨n + 1, h⟩)) m0 (ix2 0 r))
      (k0_pay21 (F := Ideal) (s0 (iblk m c 0 ⟨n + 1, h⟩) (iblk m c 1 ⟨n + 1, h⟩)) m0 l0 (ix2 0 r))
      (fun e => acc (s0 (iblk m c 0 ⟨n + 1, h⟩) (iblk m c 1 ⟨n + 1, h⟩)) m0 (v0 (iblk m c 2 ⟨n + 1, h⟩)) a0 (ix2 e r)) := by
  rintro _ _ _ rfl rfl rfl
  have k0 : ∀ y : Fin 4096, krow ⟨n, Nat.lt_of_succ_lt h⟩ y = ⟨y.val, by omega⟩ := fun y => Fin.ext (by show n % 2 * 4096 + y.val = y.val; omega)
  have k1 : ∀ y : Fin 4096, krow ⟨n + 1, h⟩ y = ⟨4096 + y.val, by omega⟩ := fun y => Fin.ext (by show (n + 1) % 2 * 4096 + y.val = 4096 + y.val; omega)
  have e := half0 H ⟨n, Nat.lt_of_succ_lt h⟩ (by dsimp only; omega) r
  rw [show pair ⟨n, Nat.lt_of_succ_lt h⟩ = pair ⟨n + 1, h⟩ from Fin.ext (by show n / 32 = (n + 1) / 32; omega),
    show qrow ⟨n, Nat.lt_of_succ_lt h⟩ r = qrow ⟨n + 1, h⟩ r from Fin.ext (by show n / 2 % 16 * 512 + r.val = (n + 1) / 2 % 16 * 512 + r.val; omega)] at e
  exact tile_next (fun y => s0_real H ⟨n + 1, h⟩ y r) (v0_real H ⟨n + 1, h⟩) (fun y => by rw [k0]) (fun y => by rw [k1]) (fun _ y => by rw [k0]) (fun _ y => by rw [k1]) e
theorem full1 : ∀ {m0 l0 : FVec Ideal S1x512 .f32} {a0 : FVec Ideal S64x512 .f32},
    m0 = (outsAt0 m c n (Nat.lt_of_succ_lt h)).2.2.2.2.2.1 → l0 = (outsAt0 m c n (Nat.lt_of_succ_lt h)).2.2.2.2.2.2.1 → a0 = (outsAt0 m c n (Nat.lt_of_succ_lt h)).2.2.2.2.2.2.2 →
    St (fun k => sb Q0 Q1 K0 K1 (hOf (pair ⟨n + 1, h⟩) 1) (qrow ⟨n + 1, h⟩ r) k) (fun e k => U k (hOf (pair ⟨n + 1, h⟩) 1) e)
      (k0_pay22 (F := Ideal) (s1 (iblk m c 0 ⟨n + 1, h⟩) (iblk m c 1 ⟨n + 1, h⟩)) m0 (ix2 0 r))
      (k0_pay21 (F := Ideal) (s1 (iblk m c 0 ⟨n + 1, h⟩) (iblk m c 1 ⟨n + 1, h⟩)) m0 l0 (ix2 0 r))
      (fun e => acc (s1 (iblk m c 0 ⟨n + 1, h⟩) (iblk m c 1 ⟨n + 1, h⟩)) m0 (v1 (iblk m c 2 ⟨n + 1, h⟩)) a0 (ix2 e r)) := by
  rintro _ _ _ rfl rfl rfl
  have k0 : ∀ y : Fin 4096, krow ⟨n, Nat.lt_of_succ_lt h⟩ y = ⟨y.val, by omega⟩ := fun y => Fin.ext (by show n % 2 * 4096 + y.val = y.val; omega)
  have k1 : ∀ y : Fin 4096, krow ⟨n + 1, h⟩ y = ⟨4096 + y.val, by omega⟩ := fun y => Fin.ext (by show (n + 1) % 2 * 4096 + y.val = 4096 + y.val; omega)
  have e := half1 H ⟨n, Nat.lt_of_succ_lt h⟩ (by dsimp only; omega) r
  rw [show pair ⟨n, Nat.lt_of_succ_lt h⟩ = pair ⟨n + 1, h⟩ from Fin.ext (by show n / 32 = (n + 1) / 32; omega),
    show qrow ⟨n, Nat.lt_of_succ_lt h⟩ r = qrow ⟨n + 1, h⟩ r from Fin.ext (by show n / 2 % 16 * 512 + r.val = (n + 1) / 2 % 16 * 512 + r.val; omega)] at e
  exact tile_next (fun y => s1_real H ⟨n + 1, h⟩ y r) (v1_real H ⟨n + 1, h⟩) (fun y => by rw [k0]) (fun y => by rw [k1]) (fun _ y => by rw [k0]) (fun _ y => by rw [k1]) e

theorem block3 (i : Fin 2) (e : Fin 64) : ((outsAt0 m c (n + 1) h).1 (ix2 r ⟨i.val * 64 + e.val, by omega⟩) : EReal)
    = ((∑ k, U k (hOf (pair ⟨n + 1, h⟩) i) e * yy Q0 Q1 K0 K1 (hOf (pair ⟨n + 1, h⟩) i) (qrow ⟨n + 1, h⟩ r) k : ℝ) : EReal) := by
  refine (congrFun (congrArg (·.1) (outsAt0_B m c ⟨n + 1, h⟩ (by dsimp only; omega) hp)) _).trans ?_
  dsimp only
  rw [B_o, pay2_apply]
  match i with
  | ⟨0, _⟩ =>
    rw [dif_pos (by show 0 * 64 + e.val < 64; omega)]
    refine Eq.trans ?_ (mean (full0 H n h hp r rfl rfl rfl) (fun k => sb_sc _ _ k) (mx Q0 Q1 K0 K1 (hOf (pair ⟨n + 1, h⟩) 0) (qrow ⟨n + 1, h⟩ r)) e)
    exact congrArg (fun x => Ideal.div (acc _ _ _ _ (ix2 x r)) _) (Fin.ext (by show 0 * 64 + e.val = e.val; omega))
  | ⟨1, _⟩ =>
    rw [dif_neg (by show ¬(1 * 64 + e.val < 64); omega)]
    refine Eq.trans ?_ (mean (full1 H n h hp r rfl rfl rfl) (fun k => sb_sc _ _ k) (mx Q0 Q1 K0 K1 (hOf (pair ⟨n + 1, h⟩) 1) (qrow ⟨n + 1, h⟩ r)) e)
    exact congrArg (fun x => Ideal.div (acc _ _ _ _ (ix2 x r)) _) (Fin.ext (by show 1 * 64 + e.val - 64 = e.val; omega))
theorem block4 (i : Fin 2) : ((outsAt0 m c (n + 1) h).2.1 (ix3 0 i r) : EReal)
    = (((mx Q0 Q1 K0 K1 (hOf (pair ⟨n + 1, h⟩) i) (qrow ⟨n + 1, h⟩ r) + Real.log (zz Q0 Q1 K0 K1 (hOf (pair ⟨n + 1, h⟩) i) (qrow ⟨n + 1, h⟩ r))) / Real.log 2 : ℝ) : EReal) := by
  refine (congrFun (congrArg (·.2.1) (outsAt0_B m c ⟨n + 1, h⟩ (by dsimp only; omega) hp)) _).trans ?_
  dsimp only
  rw [B_lse, pay3_apply]
  match i with
  | ⟨0, _⟩ =>
    rw [if_pos (by show 0 < 1; omega)]
    exact logsum (full0 H n h hp r rfl rfl rfl) (fun k => sb_sc _ _ k) (mx Q0 Q1 K0 K1 (hOf (pair ⟨n + 1, h⟩) 0) (qrow ⟨n + 1, h⟩ r))
  | ⟨1, _⟩ =>
    rw [if_neg (by show ¬(1 < 1); omega)]
    exact logsum (full1 H n h hp r rfl rfl rfl) (fun k => sb_sc _ _ k) (mx Q0 Q1 K0 K1 (hOf (pair ⟨n + 1, h⟩) 1) (qrow ⟨n + 1, h⟩ r))
end second

/-! ## The result arrays -/

omit H in
theorem once3 : ∀ t t' : Fin cfg0.N, (cfg0.win 3).flush t = true → (cfg0.win 3).flush t' = true → t ≠ t' →
    Disjoint ((cfg0.win 3).blk t).view.set ((cfg0.win 3).blk t').view.set := fun t t' h h' hne => by
  have := (flush0_3 t).1 h
  have := (flush0_3 t').1 h'
  have := lt128 t
  have := lt128 t'
  refine (cfg0.win 3).disjoint_blk fun e => hne (Fin.ext ?_)
  have e0 : win0_3.index t 0 = win0_3.index t' 0 := congrFun e 0
  have e1 : win0_3.index t 1 = win0_3.index t' 1 := congrFun e 1
  rw [(walks t).2.2.2.1.1, (walks t').2.2.2.1.1] at e0
  rw [(walks t).2.2.2.1.2, (walks t').2.2.2.1.2] at e1
  omega
omit H in
theorem once4 : ∀ t t' : Fin cfg0.N, (cfg0.win 4).flush t = true → (cfg0.win 4).flush t' = true → t ≠ t' →
    Disjoint ((cfg0.win 4).blk t).view.set ((cfg0.win 4).blk t').view.set := fun t t' h h' hne => by
  have := (flush0_4 t).1 h
  have := (flush0_4 t').1 h'
  have := lt128 t
  have := lt128 t'
  refine (cfg0.win 4).disjoint_blk fun e => hne (Fin.ext ?_)
  have e0 : win0_4.index t 0 = win0_4.index t' 0 := congrFun e 0
  have e1 : win0_4.index t 2 = win0_4.index t' 2 := congrFun e 2
  rw [(walks t).2.2.2.2.1, (walks t').2.2.2.2.1] at e0
  rw [(walks t).2.2.2.2.2.2, (walks t').2.2.2.2.2.2] at e1
  omega

omit H in
/-- The point that writes pair `p`'s rows `l`. -/
theorem point_lt (p : Fin 4) (l : Fin 8192) : p.val * 32 + l.val / 512 * 2 + 1 < cfg0.N := lt_of_lt_of_eq (by omega : _ < 128) N_0.symm

theorem res3 (l : Fin 8192) (h : Fin 8) (e : Fin 64) : ((dats m 0 c).arrAt 3 cfg0.N (ix2 l (hd h e)) : EReal)
    = ((∑ k, U k h e * yy Q0 Q1 K0 K1 h l k : ℝ) : EReal) := by
  have hn := point_lt ⟨h.val / 2, by omega⟩ l
  dsimp only at hn
  generalize en : h.val / 2 * 32 + l.val / 512 * 2 = n at hn
  have hp : (n + 1) % 2 = 1 := by omega
  have hh : hOf (pair ⟨n + 1, hn⟩) ⟨h.val % 2, by omega⟩ = h := Fin.ext (by show (n + 1) / 32 * 2 + h.val % 2 = h.val; omega)
  have hl : qrow ⟨n + 1, hn⟩ ⟨l.val % 512, by omega⟩ = l := Fin.ext (by show (n + 1) / 2 % 16 * 512 + l.val % 512 = l.val; omega)
  have x := congrFun ((dats m 0 c).read_blk_arrAt_eq_flushed 3 once3 cfg0.N ⟨n + 1, hn⟩ hn ((flush0_3 ⟨n + 1, hn⟩).2 hp)) (ix2 ⟨l.val % 512, by omega⟩ ⟨h.val % 2 * 64 + e.val, by omega⟩)
  rw [Value.flushed3] at x
  refine Eq.trans ?_ (x.trans ((block3 H n hn hp ⟨l.val % 512, by omega⟩ ⟨h.val % 2, by omega⟩ e).trans (by rw [hh, hl])))
  exact congrArg ((dats m 0 c).arrAt 3 cfg0.N) (at2 512 128 (l.val % 512) (h.val % 2 * 64 + e.val) _ _ (walks ⟨n + 1, hn⟩).2.2.2.1 rfl rfl (by dsimp only; omega) (by dsimp only; omega)).symm

theorem res4 (p : Fin 4) (i : Fin 2) (l : Fin 8192) : ((dats m 0 c).arrAt 4 cfg0.N (ix3 p i l) : EReal)
    = (((mx Q0 Q1 K0 K1 (hOf p i) l + Real.log (zz Q0 Q1 K0 K1 (hOf p i) l)) / Real.log 2 : ℝ) : EReal) := by
  have hn := point_lt p l
  generalize en : p.val * 32 + l.val / 512 * 2 = n at hn
  have hp : (n + 1) % 2 = 1 := by omega
  have hh : pair ⟨n + 1, hn⟩ = p := Fin.ext (by show (n + 1) / 32 = p.val; omega)
  have hl : qrow ⟨n + 1, hn⟩ ⟨l.val % 512, by omega⟩ = l := Fin.ext (by show (n + 1) / 2 % 16 * 512 + l.val % 512 = l.val; omega)
  have x := congrFun ((dats m 0 c).read_blk_arrAt_eq_flushed 4 once4 cfg0.N ⟨n + 1, hn⟩ hn ((flush0_4 ⟨n + 1, hn⟩).2 hp)) (ix3 0 i ⟨l.val % 512, by omega⟩)
  rw [Value.flushed4] at x
  refine Eq.trans ?_ (x.trans ((block4 H n hn hp ⟨l.val % 512, by omega⟩ i).trans (by rw [hh, hl])))
  obtain ⟨w0, w1, w2⟩ := (walks ⟨n + 1, hn⟩).2.2.2.2
  dsimp only at w0 w2
  refine congrArg ((dats m 0 c).arrAt 4 cfg0.N) (funext fun a => Fin.ext ?_)
  match a with
  | ⟨0, _⟩ => show p.val = win0_4.index ⟨n + 1, hn⟩ 0 * 1 + 1 * 0; rw [w0]; omega
  | ⟨1, _⟩ => show i.val = win0_4.index ⟨n + 1, hn⟩ 1 * 2 + 1 * i.val; rw [w1]; omega
  | ⟨2, _⟩ => show l.val = win0_4.index ⟨n + 1, hn⟩ 2 * 512 + 1 * (l.val % 512); rw [w2]; omega
end run

end Cert.Kernel7Ideal.MlaF

end
-- ==== Proof.MlaFwdRef.lean ====
/- The attention's reference results: the weighted values and the rows' log-sums, entry by entry. -/
module

public import proofs.«01_k».proof.Proof.Gen.Reference7Ideal.Run
public import proofs.«01_k».proof.Proof.MlaValue

@[expose] public section

set_option maxRecDepth 16384

noncomputable section

namespace Cert.Reference7Ideal.MlaF

open Idealize.ShloMosaic Idealize.ShloMosaic.Pointwise Idealize.SL.Sem Cert.Reference7Ideal Cert.Reference7Ideal.Gen Cert.Lift Cert.Attn
open Cert.Kernel2Ideal.Mla (Holds hScore hTop hExp hSum hSoft hLn eLn hd hOf score_real top_real sum_real soft_real)

variable (a0 : FVec Ideal S8192x8x64 .f32) (a1 : FVec Ideal S8192x8x32 .f32) (a2 : FVec Ideal S8192x8x64 .f32)
  (a3 : FVec Ideal S8192x32 .f32) (a4 : FVec Ideal S8192x8x64 .f32)

/-- The weighted values of weights `y`. -/
def rOut (y : FVec Ideal S8x8192x8192 .f32) : FVec Ideal S8192x512 .f32 :=
  shapeCast S8192x512 (transpose S8192x8x64 [2, 0, 1] (Host.dotGeneral dot_S8192x8x64_S8x8192x8192_S8x64x8192_0_2_2_1_1_0 none a4 y)
    transposes_S8x64x8192_S8192x8x64_2_0_1) shapeCasts_S8192x8x64_S8192x512
/-- The log-sums in base two, of the rows' largest scores `t` and sums `z`. -/
def rLog (t z : FVec Ideal S8x8192 .f32) : FVec Ideal S4x2x8192 .f32 :=
  shapeCast S4x2x8192 (Host.divf (addf t (Host.log z)) (broadcastInDim S8x8192 ![] bcast_S_S8x8192 hLn)) shapeCasts_S8x8192_S4x2x8192

abbrev eOut : FVec Ideal S8192x512 .f32 := rOut a4 (hSoft (hScore a0 a1 a2 a3))
abbrev eLog : FVec Ideal S4x2x8192 .f32 := rLog (hTop (hScore a0 a1 a2 a3)) (hSum (hExp (hScore a0 a1 a2 a3) (hTop (hScore a0 a1 a2 a3))))

theorem rOut_apply (y : FVec Ideal S8x8192x8192 .f32) (l : Fin 8192) (h : Fin 8) (e : Fin 64) :
    (rOut a4 y (ix2 l (hd h e)) : EReal) = ∑ k : Fin 8192, a4 (ix3 k h e) * y (ix3 h l k) := by
  have e1 : (h.val * 64 + e.val) % 64 = e.val := by omega
  have e2 : (h.val * 64 + e.val) / 64 = h.val := by omega
  pointwise [rOut]
  simp only [e1, e2, Fin.eta]
theorem rLog_apply (t z : FVec Ideal S8x8192 .f32) (p : Fin 4) (i : Fin 2) (l : Fin 8192) :
    (rLog t z (ix3 p i l) : EReal) = Ideal.div (t (ix2 (hOf p i) l) + Ideal.log (z (ix2 (hOf p i) l))) eLn := by
  pointwise [rLog, hLn]

section real
variable {a0 a1 a2 a3 a4} (Q0 : Fin 8192 → Fin 8 → Fin 64 → ℝ) (Q1 : Fin 8192 → Fin 8 → Fin 32 → ℝ) (K0 : Fin 8192 → Fin 8 → Fin 64 → ℝ)
  (K1 : Fin 8192 → Fin 32 → ℝ) (U : Fin 8192 → Fin 8 → Fin 64 → ℝ) (G : Fin 8192 → Fin 512 → ℝ) {a5 : FVec Ideal S8192x512 .f32}
  (H : Holds Q0 Q1 K0 K1 U G a0 a1 a2 a3 a4 a5)
include H

theorem out_real (l : Fin 8192) (h : Fin 8) (e : Fin 64) : (eOut a0 a1 a2 a3 a4 (ix2 l (hd h e)) : EReal)
    = ((∑ k, U k h e * yy Q0 Q1 K0 K1 h l k : ℝ) : EReal) := by
  unfold eOut
  rw [rOut_apply, ← sum_coe]
  refine Finset.sum_congr rfl fun k _ => ?_
  rw [EReal.coe_mul]
  exact congrArg₂ (· * ·) (H.u k h e) (soft_real Q0 Q1 K0 K1 U G H h l k)
theorem log_real (p : Fin 4) (i : Fin 2) (l : Fin 8192) : (eLog a0 a1 a2 a3 (ix3 p i l) : EReal)
    = (((mx Q0 Q1 K0 K1 (hOf p i) l + Real.log (zz Q0 Q1 K0 K1 (hOf p i) l)) / Real.log 2 : ℝ) : EReal) := by
  have hs := score_real Q0 Q1 K0 K1 U G H (hOf p i) l
  have ht := top_real Q0 Q1 K0 K1 U G H (hOf p i) l
  unfold eLog
  rw [rLog_apply]
  refine (congrArg₂ (fun x y => Ideal.div (x + Ideal.log y) eLn) ht (sum_real Q0 Q1 K0 K1 hs ht)).trans ?_
  show Ideal.div (_ + Ideal.log _) (Ideal.log (Ideal.ofBits .f32 0x40000000#32)) = _
  rw [log_coe (zz_pos Q0 Q1 K0 K1 _ l), log_two, ← EReal.coe_add, div_real _ log_two_ne]
end real

end Cert.Reference7Ideal.MlaF

end
-- ==== Proof.MlaFwdClaims.lean ====
/- The attention's forward kernel against its reference: on finite arguments the values and the log-sums are equal. -/
module

public import proofs.«01_k».proof.Defs
public import proofs.«01_k».proof.Proof.Gen.Pre_finite7
public import proofs.«01_k».proof.Proof.Gen.Kernel7Ideal.Value
public import proofs.«01_k».proof.Proof.MlaFwdOut
public import proofs.«01_k».proof.Proof.MlaFwdRef

@[expose] public section

set_option maxRecDepth 16384

noncomputable section

namespace Cert.Proof.MlaFwdClaims

open Idealize.ShloMosaic Idealize.ShloMosaic.Pointwise Idealize.SL.Sem
open Cert.Kernel2Ideal.Mla (Holds hd)
open Cert.Kernel7Ideal.MlaF (b0 b1 b2 b3 b4 res3 res4)
open Cert.Reference7Ideal.MlaF (eOut eLog out_real log_real)

/-! ## The precondition -/

theorem pre_real {x0 : FVec Ideal Cert.Pre_finite7.S8192x8x64 .f32} {x1 : FVec Ideal Cert.Pre_finite7.S8192x8x32 .f32}
    {x2 : FVec Ideal Cert.Pre_finite7.S8192x8x64 .f32} {x3 : FVec Ideal Cert.Pre_finite7.S8192x32 .f32}
    {x4 : FVec Ideal Cert.Pre_finite7.S8192x8x64 .f32}
    (h : Cert.Pre_finite7.fn x0 x1 x2 x3 x4 = fun _ => 1#1) :
    (∀ i, ∃ q : ℝ, x0 i = q) ∧ (∀ i, ∃ q : ℝ, x1 i = q) ∧ (∀ i, ∃ q : ℝ, x2 i = q) ∧ (∀ i, ∃ q : ℝ, x3 i = q) ∧ (∀ i, ∃ q : ℝ, x4 i = q) := by
  have : Subsingleton Cert.Pre_finite7.S_.Idx := ⟨fun a b => funext fun i => i.elim0⟩
  have h0 := congrFun h (fun a => a.elim0)
  unfold Cert.Pre_finite7.fn Cert.Pre_finite7.fn_part1 at h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨Lift.real_of_all (fun _ => Lift.bits_inf) h1, Lift.real_of_all (fun _ => Lift.bits_inf) h2,
    Lift.real_of_all (fun _ => Lift.bits_inf) h3, Lift.real_of_all (fun _ => Lift.bits_inf) h4, Lift.real_of_all (fun _ => Lift.bits_inf) h5⟩

/-- Finite arguments hold real numbers. -/
theorem holds_of {m : (ℓ : Loc Cert.Kernel7Ideal.nD Cert.Kernel7Ideal.τ Cert.Kernel7Ideal.sig) → Buf (Elt Ideal) ℓ}
    (h : Cert.Pre_Kernel7Ideal_finite7 m) (c : Dev Cert.Kernel7Ideal.nD) :
    ∃ Q0 Q1 K0 K1 U, Holds Q0 Q1 K0 K1 U (fun _ _ => 0) (b0 m c) (b1 m c) (b2 m c) (b3 m c) (b4 m c) (fun _ => ((0 : ℝ) : EReal)) := by
  obtain ⟨h0, h1, h2, h3, h4⟩ := pre_real (h c)
  choose q0 e0 using h0
  choose q1 e1 using h1
  choose q2 e2 using h2
  choose q3 e3 using h3
  choose q4 e4 using h4
  exact ⟨fun l h d => q0 (ix3 l h d), fun l h d => q1 (ix3 l h d), fun l h d => q2 (ix3 l h d), fun l d => q3 (ix2 l d),
    fun l h d => q4 (ix3 l h d), fun l h d => e0 (ix3 l h d), fun l h d => e1 (ix3 l h d), fun l h d => e2 (ix3 l h d), fun l d => e3 (ix2 l d),
    fun l h d => e4 (ix3 l h d), fun _ _ => rfl⟩

/-! ## The two runs side by side -/

variable {m : (ℓ : Loc Cert.Kernel7Ideal.nD Cert.Kernel7Ideal.τ Cert.Kernel7Ideal.sig) → Buf (Elt Ideal) ℓ} (c : Dev Cert.Kernel7Ideal.nD)

theorem eq3 (h : Cert.Pre_Kernel7Ideal_finite7 m) : (Cert.Kernel7Ideal.Gen.dats m 0 c).arrAt 3 Cert.Kernel7Ideal.cfg0.N
    = eOut (b0 m c) (b1 m c) (b2 m c) (b3 m c) (b4 m c) := by
  obtain ⟨Q0, Q1, K0, K1, U, H⟩ := holds_of h c
  refine funext fun i => ?_
  idx_vars i
  have e : i1 = hd ⟨i1.val / 64, by omega⟩ ⟨i1.val % 64, by omega⟩ := Fin.ext (by show i1.val = i1.val / 64 * 64 + i1.val % 64; omega)
  rw [e]
  exact (res3 H i0 _ _).trans (out_real Q0 Q1 K0 K1 U _ H i0 _ _).symm

theorem eq4 (h : Cert.Pre_Kernel7Ideal_finite7 m) : (Cert.Kernel7Ideal.Gen.dats m 0 c).arrAt 4 Cert.Kernel7Ideal.cfg0.N
    = eLog (b0 m c) (b1 m c) (b2 m c) (b3 m c) := by
  obtain ⟨Q0, Q1, K0, K1, U, H⟩ := holds_of h c
  refine funext fun i => ?_
  idx_vars i
  exact (res4 H i0 i1 i2).trans (log_real Q0 Q1 K0 K1 U _ H i0 i1 i2).symm

set_option maxHeartbeats 4000000 in
theorem algebraic : Cert.algebraic_Kernel7Ideal_Reference7Ideal_pre_finite7 := by
  intro m ρ m' ρ' hpre hag
  refine ⟨fun c => (Cert.Kernel7Ideal.Gen.dats m 0 c).arrAt 3 Cert.Kernel7Ideal.cfg0.N, fun c => (Cert.Kernel7Ideal.Gen.dats m 0 c).arrAt 4 Cert.Kernel7Ideal.cfg0.N,
    Cert.Kernel7Ideal.Value.run_blocks m ρ, ?_⟩
  refine (θ_run Cert.Reference7Ideal.defs _ _).mono (fun _ h c => ?_) (Cert.Reference7Ideal.Value.run (F := Ideal) m' ρ')
  obtain ⟨h0, h1, hk⟩ := h c
  obtain ⟨a0, a1, a2, a3, a4⟩ := hag c
  rw [a0, a1, a2, a3, a4] at h0
  rw [a0, a1, a2, a3] at h1
  have h0 := h0.trans (show _ = eOut (b0 m c) (b1 m c) (b2 m c) (b3 m c) (b4 m c) from rfl)
  have h1 := h1.trans (show _ = eLog (b0 m c) (b1 m c) (b2 m c) (b3 m c) from rfl)
  exact ⟨h0.trans (eq3 c hpre).symm, h1.trans (eq4 c hpre).symm, hk⟩

end Cert.Proof.MlaFwdClaims

end
-- ==== Proof.RmsFwdClaims.lean ====
/- The row norm's forward kernel against its reference: the normed rows are equal. -/
module

public import proofs.«01_k».proof.Defs
public import proofs.«01_k».proof.Proof.Gen.Kernel11Ideal.Value
public import proofs.«01_k».proof.Proof.Gen.Reference11Ideal.Run
public import Idealize.ShloMosaic.Lib.IdealHost
public import Idealize.ShloMosaic.Lib.Pointwise

@[expose] public section

set_option maxRecDepth 16384

noncomputable section

/-! ## The kernel's result, entry by entry -/

namespace Cert.Kernel11Ideal.RmsFwd

open Idealize.ShloMosaic Idealize.ShloMosaic.Pointwise Idealize.SL.Sem Cert.Kernel11Ideal Cert.Kernel11Ideal.Gen

/-- A row's entry, normed: the entry times the reciprocal root of the mean square, times the gain. -/
def normed (x : Fin 1024 → EReal) (g : EReal) (d : Fin 1024) : EReal :=
  x d * Ideal.rsqrt (Ideal.div (∑ k, x k * x k) (Ideal.ofBits .f32 0x44800000#32) + Ideal.ofBits .f32 0x358637BD#32) * g

theorem hz : (![0, 0] : Fin 2 → Nat) = fun _ => 0 := funext fun a => by fin_cases a <;> rfl

theorem pay1_apply (v0 : Vec Ideal S512x1024 .f32) (v1 : Vec Ideal S1x1024 .f32) (r : Fin 512) (d : Fin 1024) :
    (k0_pay1 v0 v1 (ix2 r d) : EReal) = normed (fun k => v0 (ix2 r k)) (v1 (ix2 0 d)) d := by
  pointwise [k0_pay1, normed]

variable (m : (ℓ : Loc nD τ sig) → Buf (Elt Ideal) ℓ) (c : Dev nD)

abbrev b0 : FVec Ideal S8192x1024 .f32 := m ((c.tc : Thread nD τ).loc main_arg0)
abbrev b1 : FVec Ideal S1024 .f32 := m ((c.tc : Thread nD τ).loc main_arg1)

theorem lt16 (t : Fin cfg0.N) : t.val < 16 := lt_of_lt_of_eq t.isLt N_0
/-- The array's row of row `r` of block `t`. -/
abbrev row (t : Fin cfg0.N) (r : Fin 512) : Fin 8192 := ⟨t.val * 512 + r.val, by have := lt16 t; omega⟩

theorem walks : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0))

theorem x0_apply (t : Fin cfg0.N) (r : Fin 512) (l : Fin 1024) : iblk m c 0 t (ix2 r l) = b0 m c (ix2 (row t r) l) := by
  rw [show b0 m c = V m c main_arg0 from (V_main_arg0 m c).symm]
  show V m c main_arg0 _ = _
  refine congrArg _ (funext fun a => Fin.ext ?_)
  match a with
  | ⟨0, _⟩ => show win0_0.index t 0 * 512 + 1 * r.val = t.val * 512 + r.val; rw [(walks t).1.1]; omega
  | ⟨1, _⟩ => show win0_0.index t 1 * 1024 + 1 * l.val = l.val; rw [(walks t).1.2]; omega

theorem V_gain : (V m c main_v0 : FVec Ideal S1x1024 .f32) = broadcastInDim S1x1024 ![1] bcast_S1024_S1x1024_1 (b1 m c) := by
  unfold V hostOps0
  after_results_simp

theorem x1_apply (t : Fin cfg0.N) (l : Fin 1024) : iblk m c 1 t (ix2 0 l) = b1 m c (ix1 l) := by
  have e : iblk m c 1 t (ix2 0 l) = (V m c main_v0 : FVec Ideal S1x1024 .f32) (ix2 0 l) := by
    show V m c main_v0 _ = _
    refine congrArg _ (funext fun a => Fin.ext ?_)
    match a with
    | ⟨0, _⟩ => show win0_1.index t 0 * 1 + 1 * 0 = 0; rw [(walks t).2.1.1]
    | ⟨1, _⟩ => show win0_1.index t 1 * 1024 + 1 * l.val = l.val; rw [(walks t).2.1.2]; omega
  rw [e, V_gain]
  generalize b1 m c = b
  pointwise []

theorem block (t : Fin cfg0.N) (r : Fin 512) (d : Fin 1024) :
    ((dats m 0 c).arrAt 2 cfg0.N (ix2 (row t r) d) : EReal) = normed (fun k => b0 m c (ix2 (row t r) k)) (b1 m c (ix1 d)) d := by
  have h := congrFun (Value.blocks2 m c t (flush0_2 t)) (ix2 r d)
  refine Eq.trans ?_ (h.trans ?_)
  · show (dats m 0 c).arrAt 2 cfg0.N _ = (dats m 0 c).arrAt 2 cfg0.N _
    refine congrArg _ (funext fun a => Fin.ext ?_)
    match a with
    | ⟨0, _⟩ => show t.val * 512 + r.val = win0_2.index t 0 * 512 + 1 * r.val; rw [(walks t).2.2.1]; omega
    | ⟨1, _⟩ => show d.val = win0_2.index t 1 * 1024 + 1 * d.val; rw [(walks t).2.2.2]; omega
  · rw [Value.flushed2]
    show out0_2 (iblk m c 0 t) (iblk m c 1 t) (ix2 r d) = _
    unfold out0_2
    rw [View.canon_unit_zero hz, View.ld_unit_zero hz, View.ld_unit_zero hz]
    refine (pay1_apply _ _ r d).trans ?_
    exact congrArg₂ (fun x y => normed x y d) (funext fun k => x0_apply m c t r k) (x1_apply m c t d)

theorem res (l : Fin 8192) (d : Fin 1024) :
    ((dats m 0 c).arrAt 2 cfg0.N (ix2 l d) : EReal) = normed (fun k => b0 m c (ix2 l k)) (b1 m c (ix1 d)) d := by
  have e : l = row ⟨l.val / 512, lt_of_lt_of_eq (by omega : l.val / 512 < 16) N_0.symm⟩ ⟨l.val % 512, by omega⟩ :=
    Fin.ext (by show l.val = l.val / 512 * 512 + l.val % 512; omega)
  rw [e]
  exact block m c _ _ d

end Cert.Kernel11Ideal.RmsFwd

/-! ## The reference's result -/

namespace Cert.Reference11Ideal.RmsFwd

open Idealize.ShloMosaic Idealize.ShloMosaic.Pointwise Idealize.SL.Sem Cert.Reference11Ideal Cert.Reference11Ideal.Gen
open Cert.Kernel11Ideal.RmsFwd (normed)

/-- The normed rows on the host. -/
def rNorm (x : FVec Ideal S8192x1024 .f32) (g : FVec Ideal S1024 .f32) : FVec Ideal S8192x1024 .bf16 :=
  truncf .bf16 (mulf (mulf x (broadcastInDim S8192x1024 ![0, 1] bcast_S8192x1_S8192x1024_0_1
    (Host.rsqrt (addf (Host.divf (broadcastInDim S8192x1 ![0] bcast_S8192_S8192x1_0
      (Host.reduceAdd (mulf x x) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))) bitsLt_bf16_f32

theorem rNorm_apply (x : FVec Ideal S8192x1024 .f32) (g : FVec Ideal S1024 .f32) (l : Fin 8192) (d : Fin 1024) :
    (rNorm x g (ix2 l d) : EReal) = normed (fun k => x (ix2 l k)) (g (ix1 d)) d := by
  pointwise [rNorm, normed]

end Cert.Reference11Ideal.RmsFwd

namespace Cert.Proof.RmsFwdClaims

open Idealize.ShloMosaic Idealize.ShloMosaic.Pointwise Idealize.SL.Sem
open Cert.Kernel11Ideal.RmsFwd (b0 b1 res)
open Cert.Reference11Ideal.RmsFwd (rNorm rNorm_apply)

theorem eq2 (m : (ℓ : Loc Cert.Kernel11Ideal.nD Cert.Kernel11Ideal.τ Cert.Kernel11Ideal.sig) → Buf (Elt Ideal) ℓ) (c : Dev Cert.Kernel11Ideal.nD) :
    (Cert.Kernel11Ideal.Gen.dats m 0 c).arrAt 2 Cert.Kernel11Ideal.cfg0.N = rNorm (b0 m c) (b1 m c) := by
  refine funext fun i => ?_
  idx_vars i
  exact (res m c i0 i1).trans (rNorm_apply _ _ i0 i1).symm

theorem algebraic : Cert.algebraic_Kernel11Ideal_Reference11Ideal := by
  intro m ρ m' ρ' _ hag
  refine ⟨fun c => (Cert.Kernel11Ideal.Gen.dats m 0 c).arrAt 2 Cert.Kernel11Ideal.cfg0.N, Cert.Kernel11Ideal.Value.run_blocks m ρ, ?_⟩
  refine (θ_run Cert.Reference11Ideal.defs _ _).mono (fun _ h c => ?_) (Cert.Reference11Ideal.Value.run (F := Ideal) m' ρ')
  obtain ⟨h0, hk⟩ := h c
  obtain ⟨a0, a1⟩ := hag c
  rw [a0, a1] at h0
  exact ⟨(h0.trans (show _ = rNorm (b0 m c) (b1 m c) from rfl)).trans (eq2 m c).symm, hk⟩

end Cert.Proof.RmsFwdClaims

end
-- ==== Proof.MergeRead.lean ====
/- The blocks the merge kernel reads and the values it computes of them, at an index. -/
module

public import proofs.«01_k».proof.Proof.GateRead
public import proofs.«01_k».proof.Proof.MlaMath
public import proofs.«01_k».proof.Proof.MlaFwdRead
public import proofs.«01_k».proof.Proof.Gen.Kernel12Ideal.Value

@[expose] public section

set_option maxRecDepth 16384

noncomputable section

namespace Cert.Kernel12Ideal.Merge

open Idealize.ShloMosaic Idealize.ShloMosaic.Pointwise Idealize.SL.Sem Cert.Kernel12Ideal Cert.Kernel12Ideal.Gen
open Idealize.ShloMosaic.Pipeline (Dat)
open Cert.KernelIdeal.Gate (sg col)
open Cert.Kernel7Ideal.MlaF (at2)

theorem log2e_inv : (Named.named (F := Ideal) κ "log2e" 0x3FB8AA3B#32 : Ideal .f32) = (((Real.log 2)⁻¹ : ℝ) : EReal) := IdealRules.named_const.ideal_named_scalar κ "log2e" _ _ rfl

/-! ## The values of a block -/

section
variable (a b c o1 o2 o3 : S512x512.Idx → EReal)

theorem pay5_apply (r l : Fin 512) : (k0_pay5 (F := Ideal) a b c (ix2 r l) : EReal) = max (max (a (ix2 r l)) (b (ix2 r l))) (c (ix2 r l)) := by
  pointwise [k0_pay5, k0_pay4, k0_pay3, k0_pay2]

theorem pay6_apply (r l : Fin 512) : (k0_pay6 (F := Ideal) a b c (ix2 r l) : EReal)
    = Ideal.exp2 (a (ix2 r l) - max (max (a (ix2 r l)) (b (ix2 r l))) (c (ix2 r l))) := by
  pointwise [k0_pay6, k0_pay5, k0_pay4, k0_pay3, k0_pay2]
  rfl

theorem pay7_apply (r l : Fin 512) : (k0_pay7 (F := Ideal) a b c (ix2 r l) : EReal)
    = Ideal.exp2 (b (ix2 r l) - max (max (a (ix2 r l)) (b (ix2 r l))) (c (ix2 r l))) := by
  pointwise [k0_pay7, k0_pay5, k0_pay4, k0_pay3, k0_pay2]
  rfl

theorem pay8_apply (r l : Fin 512) : (k0_pay8 (F := Ideal) a b c (ix2 r l) : EReal)
    = Ideal.exp2 (c (ix2 r l) - max (max (a (ix2 r l)) (b (ix2 r l))) (c (ix2 r l))) := by
  pointwise [k0_pay8, k0_pay5, k0_pay4, k0_pay3, k0_pay2]
  rfl

theorem pay9_apply (r l : Fin 512) : (k0_pay9 (F := Ideal) a b c (ix2 r l) : EReal)
    = k0_pay6 (F := Ideal) a b c (ix2 r l) + k0_pay7 (F := Ideal) a b c (ix2 r l) + k0_pay8 (F := Ideal) a b c (ix2 r l) := rfl

theorem pay10_apply (r l : Fin 512) : (k0_pay10 (F := Ideal) a b c o1 o2 o3 (ix2 r l) : EReal)
    = Ideal.div ((k0_pay6 (F := Ideal) a b c (ix2 r l) : EReal) * o1 (ix2 r l) + k0_pay7 (F := Ideal) a b c (ix2 r l) * o2 (ix2 r l)
        + k0_pay8 (F := Ideal) a b c (ix2 r l) * o3 (ix2 r l)) (k0_pay9 (F := Ideal) a b c (ix2 r l)) := by
  unfold k0_pay10
  pointwise []

theorem pay11_apply (r l : Fin 512) : (k0_pay11 (F := Ideal) a b c (ix2 r l) : EReal)
    = k0_pay5 (F := Ideal) a b c (ix2 r l) + Ideal.log (k0_pay9 (F := Ideal) a b c (ix2 r l)) * (((Real.log 2)⁻¹ : ℝ) : EReal) := by
  unfold k0_pay11
  pointwise [log2e_inv]

theorem pay17_apply (r l : Fin 512) : (k0_pay17 (F := Ideal) a b (ix2 r l) : EReal) = b (ix2 r l) * (a (ix2 r l) * sg (a (ix2 r l))) := by
  pointwise [k0_pay17, sg, zero_sub]

theorem pay1_apply (r l : Fin 512) : (k0_pay1 (F := Ideal) b (k0_pay16 a) (k0_pay18 a) k0_pay19 (ix2 r l) : EReal)
    = b (ix2 r l) * (a (ix2 r l) * sg (a (ix2 r l))) := by
  pointwise [k0_pay1, k0_pay16, k0_pay18, k0_pay19, sg, zero_sub]
end

/-! ## The column of a head's first entry -/

/-- Whether column `x` is the first of head `h`. -/
abbrev firstBit (x : Fin 512) (h : Fin 8) : BitVec 1 := IntOp.cmpi .eq (BitVec.ofNat 32 x.val) (BitVec.ofNat 32 h.val * 64#32)

theorem firstBit_eq : ∀ (h : Fin 8) (x : Fin 512), firstBit x h = if x = col h 0 then 1#1 else 0#1 := by
  decide +kernel

theorem pick (f : Fin 512 → EReal) (h : Fin 8) : ∑ x : Fin 512, Scalar.select (firstBit x h) (f x) 0 = f (col h 0) := by
  rw [Finset.sum_eq_single_of_mem (col h 0) (Finset.mem_univ _) fun x _ hx => by rw [firstBit_eq, if_neg hx]; rfl, firstBit_eq, if_pos rfl]
  rfl

/-- On a block of real numbers the three products pick the first entry of a head: what the rounding left over is zero. -/
theorem three (f : Fin 512 → EReal) (hf : ∀ x, ∃ q : ℝ, f x = q) (h : Fin 8) :
    ∑ x : Fin 512, Scalar.select (firstBit x h) (f x) 0
      + ∑ x : Fin 512, Scalar.select (firstBit x h) (f x - f x) 0
      + ∑ x : Fin 512, Scalar.select (firstBit x h) (f x - f x - (f x - f x)) 0 = f (col h 0) := by
  have e : ∀ x, f x - f x = 0 := fun x => by
    obtain ⟨q, hq⟩ := hf x
    rw [hq, ← EReal.coe_sub, sub_self, EReal.coe_zero]
  have z : (fun x : Fin 512 => Scalar.select (firstBit x h) (0 : EReal) 0) = fun _ => 0 := funext fun x => by
    rw [firstBit_eq]; split <;> rfl
  simp only [e, sub_zero, z, Finset.sum_const_zero, add_zero]
  exact pick f h

theorem pay15_apply (v : FVec Ideal S512x512 .f32) (r : Fin 512) (hv : ∀ x, ∃ q : ℝ, v (ix2 r x) = q) (h : Fin 8) :
    (k0_pay15 (F := Ideal) v k0_pay12 k0_pay13 k0_pay14 (ix2 r h) : EReal) = v (ix2 r (col h 0)) := by
  pointwise [k0_pay15, k0_pay12, k0_pay13, k0_pay14]
  exact three (fun x => v (ix2 r x)) hv h

/-! ## The blocks -/

variable (m : (ℓ : Loc nD τ sig) → Buf (Elt Ideal) ℓ)

abbrev oa (c : Dev nD) : FVec Ideal S8192x512 .f32 := m ((c.tc : Thread nD τ).loc main_arg0)
abbrev prj (c : Dev nD) : FVec Ideal S8192x6304 .f32 := m ((c.tc : Thread nD τ).loc main_arg1)
abbrev outs (c : Dev nD) : FVec Ideal S3x8192x8x64 .f32 := m ((c.tc : Thread nD τ).loc main_arg2)
abbrev lses (c : Dev nD) : FVec Ideal S3x8192x8 .f32 := m ((c.tc : Thread nD τ).loc main_arg3)

theorem lt16 (t : Fin cfg0.N) : t.val < 16 := lt_of_lt_of_eq t.isLt N_0

/-- Row `r` of block `t` as a row of the whole array. -/
abbrev row (t : Fin cfg0.N) (r : Fin 512) : Fin 8192 := ⟨t.val * 512 + r.val, by have := lt16 t; omega⟩
/-- The head of a column, and its place in the head. -/
abbrev hd (x : Fin 512) : Fin 8 := ⟨x.val / 64, by omega⟩
abbrev pl (x : Fin 512) : Fin 64 := ⟨x.val % 64, by omega⟩

/-- The log-sum of branch `g` divided by log 2. -/
abbrev lg (c : Dev nD) (g : Fin 3) (l : Fin 8192) (h : Fin 8) : EReal := Ideal.div (lses m c (ix3 g l h)) (Ideal.log (Ideal.ofBits .f32 0x40000000#32))

theorem walks : ∀ t : Fin cfg0.N, ((win0_0.index t 0 = t.val ∧ win0_0.index t 1 = 0) ∧ (win0_1.index t 0 = t.val ∧ win0_1.index t 1 = 2) ∧ (win0_2.index t 0 = t.val ∧ win0_2.index t 1 = 3))
    ∧ ((win0_3.index t 0 = t.val ∧ win0_3.index t 1 = 0) ∧ (win0_4.index t 0 = t.val ∧ win0_4.index t 1 = 0) ∧ (win0_5.index t 0 = t.val ∧ win0_5.index t 1 = 0))
    ∧ ((win0_6.index t 0 = t.val ∧ win0_6.index t 1 = 0) ∧ (win0_7.index t 0 = t.val ∧ win0_7.index t 1 = 0) ∧ (win0_8.index t 0 = t.val ∧ win0_8.index t 1 = 0))
    ∧ (win0_9.index t 0 = t.val ∧ win0_9.index t 1 = 0) ∧ (win0_10.index t 0 = t.val ∧ win0_10.index t 1 = 0) ∧ (win0_11.index t 0 = t.val ∧ win0_11.index t 1 = 0) :=
  (by decide +kernel : ∀ t : Fin grid0.N, ((win0_0.index t 0 = t.val ∧ win0_0.index t 1 = 0) ∧ (win0_1.index t 0 = t.val ∧ win0_1.index t 1 = 2) ∧ (win0_2.index t 0 = t.val ∧ win0_2.index t 1 = 3))
    ∧ ((win0_3.index t 0 = t.val ∧ win0_3.index t 1 = 0) ∧ (win0_4.index t 0 = t.val ∧ win0_4.index t 1 = 0) ∧ (win0_5.index t 0 = t.val ∧ win0_5.index t 1 = 0))
    ∧ ((win0_6.index t 0 = t.val ∧ win0_6.index t 1 = 0) ∧ (win0_7.index t 0 = t.val ∧ win0_7.index t 1 = 0) ∧ (win0_8.index t 0 = t.val ∧ win0_8.index t 1 = 0))
    ∧ (win0_9.index t 0 = t.val ∧ win0_9.index t 1 = 0) ∧ (win0_10.index t 0 = t.val ∧ win0_10.index t 1 = 0) ∧ (win0_11.index t 0 = t.val ∧ win0_11.index t 1 = 0))

variable (c : Dev nD) (t : Fin cfg0.N) (r l : Fin 512)

theorem x0_apply : iblk m c 0 t (ix2 r l) = oa m c (ix2 (row t r) l) := by
  rw [show oa m c = V m c main_arg0 from (V_main_arg0 m c).symm]
  show V m c main_arg0 _ = _
  exact congrArg _ (at2 512 512 r.val l.val (row t r) l (walks t).1.1 rfl rfl (by show t.val * 512 + 1 * r.val = t.val * 512 + r.val; omega) (by omega))

/-- The padded projection at the kernel. -/
theorem V_v17 : (V m c main_v17 : FVec Ideal S8192x6656 .bf16) = truncf .bf16 (concatenate S8192x6656 1
    [⟨S8192x640, extractStridedSlice S8192x640 ![0, 0] (prj m c) slices_S8192x6304_S8192x640_0_0⟩,
     ⟨S8192x64, broadcastInDim S8192x64 ![] bcast_S_S8192x64 (constant S_ .f32 0x00000000#32)⟩,
     ⟨S8192x32, extractStridedSlice S8192x32 ![0, 640] (prj m c) slices_S8192x6304_S8192x32_0_640⟩,
     ⟨S8192x32, broadcastInDim S8192x32 ![] bcast_S_S8192x32 (constant S_ .f32 0x00000000#32)⟩,
     ⟨S8192x256, broadcastInDim S8192x256 ![] bcast_S_S8192x256 (constant S_ .f32 0x00000000#32)⟩,
     ⟨S8192x512, extractStridedSlice S8192x512 ![0, 672] (prj m c) slices_S8192x6304_S8192x512_0_672⟩,
     ⟨S8192x512, extractStridedSlice S8192x512 ![0, 5792] (prj m c) slices_S8192x6304_S8192x512_0_5792⟩,
     ⟨S8192x4608, extractStridedSlice S8192x4608 ![0, 1184] (prj m c) slices_S8192x6304_S8192x4608_0_1184⟩]
    concatenates_S8192x640_S8192x64_S8192x32_S8192x32_S8192x256_S8192x512_S8192x512_S8192x4608_S8192x6656_d1) bitsLt_bf16_f32 := by
  unfold V hostOps0
  after_results_simp
  rfl

theorem x1_apply : (iblk m c 1 t (ix2 r l) : EReal) = prj m c (ix2 (row t r) ⟨672 + l.val, by omega⟩) := by
  have e : iblk m c 1 t (ix2 r l) = (V m c main_v17 : FVec Ideal S8192x6656 .bf16) (ix2 (row t r) ⟨1024 + l.val, by omega⟩) := by
    show V m c main_v17 _ = _
    exact congrArg _ (at2 512 512 r.val l.val (row t r) _ (walks t).1.2.1 rfl rfl (by show t.val * 512 + 1 * r.val = t.val * 512 + r.val; omega) (by show 2 * 512 + 1 * l.val = 1024 + l.val; omega))
  rw [e, V_v17]
  pointwise []
  rw [dif_neg (by omega), dif_neg (by omega), dif_neg (by omega), dif_neg (by omega), dif_neg (by omega), dif_pos (by omega)]
  refine congrArg _ (congrArg _ (Fin.ext ?_))
  show 672 + _ = 672 + l.val
  omega

theorem x2_apply : (iblk m c 2 t (ix2 r l) : EReal) = prj m c (ix2 (row t r) ⟨5792 + l.val, by omega⟩) := by
  have e : iblk m c 2 t (ix2 r l) = (V m c main_v17 : FVec Ideal S8192x6656 .bf16) (ix2 (row t r) ⟨1536 + l.val, by omega⟩) := by
    show V m c main_v17 _ = _
    exact congrArg _ (at2 512 512 r.val l.val (row t r) _ (walks t).1.2.2 rfl rfl (by show t.val * 512 + 1 * r.val = t.val * 512 + r.val; omega) (by show 3 * 512 + 1 * l.val = 1536 + l.val; omega))
  rw [e, V_v17]
  pointwise []
  rw [dif_neg (by omega), dif_neg (by omega), dif_neg (by omega), dif_neg (by omega), dif_neg (by omega), dif_neg (by omega), dif_pos (by omega)]
  refine congrArg _ (congrArg _ (Fin.ext ?_))
  show 5792 + _ = 5792 + l.val
  omega

/-- The outputs with a head's columns side by side. -/
abbrev outs2 : FVec Ideal S3x8192x512 .f32 := shapeCast S3x8192x512 (outs m c) shapeCasts_S3x8192x8x64_S3x8192x512
/-- The log-sums in base 2, one copy for each column of a head. -/
abbrev wide : FVec Ideal S3x8192x512 .f32 :=
  shapeCast S3x8192x512 (broadcastInDim S3x8192x8x64 ![0, 1, 2, 3] bcast_S3x8192x8x1_S3x8192x8x64_0_1_2_3
    (broadcastInDim S3x8192x8x1 ![0, 1, 2] bcast_S3x8192x8_S3x8192x8x1_0_1_2
      (Host.divf (lses m c) (broadcastInDim S3x8192x8 ![] bcast_S_S3x8192x8 (id (Host.log (constant S_ .f32 0x40000000#32))))))) shapeCasts_S3x8192x8x64_S3x8192x512

theorem outs2_apply (g : Fin 3) (y : Fin 8192) (x : Fin 512) : outs2 m c (ix3 g y x) = outs m c (ix4 g y (hd x) (pl x)) := by
  pointwise []
theorem wide_apply (g : Fin 3) (y : Fin 8192) (x : Fin 512) : (wide m c (ix3 g y x) : EReal) = lg m c g y (hd x) := by
  pointwise [lg]
  rfl

theorem ix3_at {i : S3x8192x512.Idx} {g : Fin 3} {y : Fin 8192} {x : Fin 512} (h0 : (i 0).val = g.val) (h1 : (i 1).val = y.val) (h2 : (i 2).val = x.val) :
    i = ix3 g y x := by
  refine funext fun k => Fin.ext ?_
  match k with
  | ⟨0, _⟩ => exact h0
  | ⟨1, _⟩ => exact h1
  | ⟨2, _⟩ => exact h2

theorem V_v19 : (V m c main_v19 : FVec Ideal S8192x512 .f32)
    = shapeCast S8192x512 (extractStridedSlice S1x8192x512 ![0, 0, 0] (outs2 m c) slices_S3x8192x512_S1x8192x512_0_0_0) shapeCasts_S1x8192x512_S8192x512 := by
  unfold V hostOps0
  after_results_simp
  rfl
theorem x3_apply : (iblk m c 3 t (ix2 r l) : EReal) = outs m c (ix4 0 (row t r) (hd l) (pl l)) := by
  have e : iblk m c 3 t (ix2 r l) = (V m c main_v19 : FVec Ideal S8192x512 .f32) (ix2 (row t r) l) := by
    show V m c main_v19 _ = _
    exact congrArg _ (at2 512 512 r.val l.val (row t r) l (walks t).2.1.1 rfl rfl (by show t.val * 512 + 1 * r.val = t.val * 512 + r.val; omega) (by omega))
  rw [e, V_v19, ← outs2_apply]
  generalize outs2 m c = u
  pointwise []

theorem V_v21 : (V m c main_v21 : FVec Ideal S8192x512 .f32)
    = shapeCast S8192x512 (extractStridedSlice S1x8192x512 ![1, 0, 0] (outs2 m c) slices_S3x8192x512_S1x8192x512_1_0_0) shapeCasts_S1x8192x512_S8192x512 := by
  unfold V hostOps0
  after_results_simp
  rfl
theorem x4_apply : (iblk m c 4 t (ix2 r l) : EReal) = outs m c (ix4 1 (row t r) (hd l) (pl l)) := by
  have e : iblk m c 4 t (ix2 r l) = (V m c main_v21 : FVec Ideal S8192x512 .f32) (ix2 (row t r) l) := by
    show V m c main_v21 _ = _
    exact congrArg _ (at2 512 512 r.val l.val (row t r) l (walks t).2.1.2.1 rfl rfl (by show t.val * 512 + 1 * r.val = t.val * 512 + r.val; omega) (by omega))
  rw [e, V_v21, ← outs2_apply]
  generalize outs2 m c = u
  pointwise []

theorem V_v23 : (V m c main_v23 : FVec Ideal S8192x512 .f32)
    = shapeCast S8192x512 (extractStridedSlice S1x8192x512 ![2, 0, 0] (outs2 m c) slices_S3x8192x512_S1x8192x512_2_0_0) shapeCasts_S1x8192x512_S8192x512 := by
  unfold V hostOps0
  after_results_simp
  rfl
theorem x5_apply : (iblk m c 5 t (ix2 r l) : EReal) = outs m c (ix4 2 (row t r) (hd l) (pl l)) := by
  have e : iblk m c 5 t (ix2 r l) = (V m c main_v23 : FVec Ideal S8192x512 .f32) (ix2 (row t r) l) := by
    show V m c main_v23 _ = _
    exact congrArg _ (at2 512 512 r.val l.val (row t r) l (walks t).2.1.2.2 rfl rfl (by show t.val * 512 + 1 * r.val = t.val * 512 + r.val; omega) (by omega))
  rw [e, V_v23, ← outs2_apply]
  generalize outs2 m c = u
  pointwise []

theorem V_v25 : (V m c main_v25 : FVec Ideal S8192x512 .f32)
    = shapeCast S8192x512 (extractStridedSlice S1x8192x512 ![0, 0, 0] (wide m c) slices_S3x8192x512_S1x8192x512_0_0_0) shapeCasts_S1x8192x512_S8192x512 := by
  unfold V hostOps0
  after_results_simp
  rfl
theorem x6_apply : (iblk m c 6 t (ix2 r l) : EReal) = lg m c 0 (row t r) (hd l) := by
  have e : iblk m c 6 t (ix2 r l) = (V m c main_v25 : FVec Ideal S8192x512 .f32) (ix2 (row t r) l) := by
    show V m c main_v25 _ = _
    exact congrArg _ (at2 512 512 r.val l.val (row t r) l (walks t).2.2.1.1 rfl rfl (by show t.val * 512 + 1 * r.val = t.val * 512 + r.val; omega) (by omega))
  rw [e, V_v25, ← wide_apply]
  generalize wide m c = u
  pointwise []

theorem V_v27 : (V m c main_v27 : FVec Ideal S8192x512 .f32)
    = shapeCast S8192x512 (extractStridedSlice S1x8192x512 ![1, 0, 0] (wide m c) slices_S3x8192x512_S1x8192x512_1_0_0) shapeCasts_S1x8192x512_S8192x512 := by
  unfold V hostOps0
  after_results_simp
  rfl
theorem x7_apply : (iblk m c 7 t (ix2 r l) : EReal) = lg m c 1 (row t r) (hd l) := by
  have e : iblk m c 7 t (ix2 r l) = (V m c main_v27 : FVec Ideal S8192x512 .f32) (ix2 (row t r) l) := by
    show V m c main_v27 _ = _
    exact congrArg _ (at2 512 512 r.val l.val (row t r) l (walks t).2.2.1.2.1 rfl rfl (by show t.val * 512 + 1 * r.val = t.val * 512 + r.val; omega) (by omega))
  rw [e, V_v27, ← wide_apply]
  generalize wide m c = u
  pointwise []

theorem V_v29 : (V m c main_v29 : FVec Ideal S8192x512 .f32)
    = shapeCast S8192x512 (extractStridedSlice S1x8192x512 ![2, 0, 0] (wide m c) slices_S3x8192x512_S1x8192x512_2_0_0) shapeCasts_S1x8192x512_S8192x512 := by
  unfold V hostOps0
  after_results_simp
  rfl
theorem x8_apply : (iblk m c 8 t (ix2 r l) : EReal) = lg m c 2 (row t r) (hd l) := by
  have e : iblk m c 8 t (ix2 r l) = (V m c main_v29 : FVec Ideal S8192x512 .f32) (ix2 (row t r) l) := by
    show V m c main_v29 _ = _
    exact congrArg _ (at2 512 512 r.val l.val (row t r) l (walks t).2.2.1.2.2 rfl rfl (by show t.val * 512 + 1 * r.val = t.val * 512 + r.val; omega) (by omega))
  rw [e, V_v29, ← wide_apply]
  generalize wide m c = u
  pointwise []

end Cert.Kernel12Ideal.Merge
-- ==== Proof.MergeClaims.lean ====
/- The merge of the three branches: what kernel and reference compute at one element, and the two whole results. -/
module

public import proofs.«01_k».proof.Proof.MergeRead
public import proofs.«01_k».proof.Proof.Gate
public import proofs.«01_k».proof.Defs
public import proofs.«01_k».proof.Proof.Gen.Pre_finite12
public import proofs.«01_k».proof.Proof.Gen.Reference12Ideal.Run

@[expose] public section

set_option maxRecDepth 16384

noncomputable section

/-! ## One element: `L` the three log-sums, `o` the three outputs -/

namespace Cert.Merge

open Idealize.ShloMosaic

/-- The largest log-sum. -/
def top (L : Fin 3 → ℝ) : ℝ := max (max (L 0) (L 1)) (L 2)
/-- The sum of the weights before they are normed. -/
def zz (L : Fin 3 → ℝ) : ℝ := ∑ g, Real.exp (L g - top L)
/-- The merged output. -/
def mrg (L : Fin 3 → ℝ) (o : Fin 3 → EReal) : EReal := ∑ g, ((Real.exp (L g - top L) / zz L : ℝ) : EReal) * o g
/-- The merged log-sum in base 2. -/
def total (L : Fin 3 → ℝ) : ℝ := (top L + Real.log (zz L)) / Real.log 2

theorem zz_pos (L : Fin 3 → ℝ) : 0 < zz L := Finset.sum_pos (fun g _ => Real.exp_pos _) Finset.univ_nonempty

theorem top_max (L : Fin 3 → ℝ) : max (max (L 0 : EReal) (L 1)) (L 2) = (top L : ℝ) := by
  rw [show max (L 0 : EReal) (L 1) = ((max (L 0) (L 1) : ℝ) : EReal) from (EReal.coe_strictMono.monotone.map_max (a := L 0) (b := L 1)).symm]
  exact (EReal.coe_strictMono.monotone.map_max (a := max (L 0) (L 1)) (b := L 2)).symm

theorem top_scaled (L : Fin 3 → ℝ) : max (max ((L 0 / Real.log 2 : ℝ) : EReal) (L 1 / Real.log 2 : ℝ)) (L 2 / Real.log 2 : ℝ) = (top L / Real.log 2 : ℝ) := by
  have h := (Real.log_pos (by norm_num : (1 : ℝ) < 2)).le
  refine (top_max fun g => L g / Real.log 2).trans (congrArg _ ?_)
  show max (max (L 0 / Real.log 2) (L 1 / Real.log 2)) (L 2 / Real.log 2) = _
  rw [max_div_div_right h, max_div_div_right h]
  rfl

theorem weight (a b : ℝ) : Ideal.exp2 (((a / Real.log 2 : ℝ) : EReal) - (b / Real.log 2 : ℝ)) = (Real.exp (a - b) : ℝ) := by
  rw [← EReal.coe_sub, Lift.exp2_coe, ← sub_div, div_mul_cancel₀ _ Lift.log_two_ne]

theorem over (L : Fin 3 → ℝ) (x : EReal) : Ideal.div x (zz L : ℝ) = x * (((zz L)⁻¹ : ℝ) : EReal) := by
  rw [Ideal.div_coe (zz_pos L).ne', one_div]

/-- The quotient of the weighted sum is the sum with the quotients as weights. -/
theorem merged (L : Fin 3 → ℝ) (o : Fin 3 → EReal) :
    Ideal.div ((Real.exp (L 0 - top L) : ℝ) * o 0 + (Real.exp (L 1 - top L) : ℝ) * o 1 + (Real.exp (L 2 - top L) : ℝ) * o 2) (zz L : ℝ) = mrg L o := by
  have p : (0 : EReal) ≤ (((zz L)⁻¹ : ℝ) : EReal) := EReal.coe_nonneg.mpr (inv_nonneg.mpr (zz_pos L).le)
  have q : (((zz L)⁻¹ : ℝ) : EReal) ≠ ⊤ := EReal.coe_ne_top _
  have w : ∀ g, (((zz L)⁻¹ : ℝ) : EReal) * ((Real.exp (L g - top L) : ℝ) * o g) = ((Real.exp (L g - top L) / zz L : ℝ) : EReal) * o g := fun g => by
    rw [← mul_assoc, ← EReal.coe_mul, mul_comm, div_eq_mul_inv, mul_comm (zz L)⁻¹, mul_comm]
  rw [over, mul_comm, EReal.left_distrib_of_nonneg_of_ne_top p q, EReal.left_distrib_of_nonneg_of_ne_top p q, w, w, w]
  exact (Fin.sum_univ_three fun g => ((Real.exp (L g - top L) / zz L : ℝ) : EReal) * o g).symm

end Cert.Merge

/-! ## The kernel's results -/

namespace Cert.Kernel12Ideal.Merge

open Idealize.ShloMosaic Idealize.ShloMosaic.Pointwise Idealize.SL.Sem Cert.Kernel12Ideal Cert.Kernel12Ideal.Gen Cert.Merge
open Idealize.ShloMosaic.Pipeline (Dat)
open Cert.KernelIdeal.Gate (sg col hz)
open Cert.Kernel7Ideal.MlaF (at2)

section
variable {a b c : S512x512.Idx → EReal} {r l : Fin 512} {L : Fin 3 → ℝ} (ha : a (ix2 r l) = (L 0 / Real.log 2 : ℝ))
  (hb : b (ix2 r l) = (L 1 / Real.log 2 : ℝ)) (hc : c (ix2 r l) = (L 2 / Real.log 2 : ℝ))
include ha hb hc

theorem pay6_real : (k0_pay6 (F := Ideal) a b c (ix2 r l) : EReal) = (Real.exp (L 0 - top L) : ℝ) := by
  rw [pay6_apply, ha, hb, hc, top_scaled, weight]
theorem pay7_real : (k0_pay7 (F := Ideal) a b c (ix2 r l) : EReal) = (Real.exp (L 1 - top L) : ℝ) := by
  rw [pay7_apply, ha, hb, hc, top_scaled, weight]
theorem pay8_real : (k0_pay8 (F := Ideal) a b c (ix2 r l) : EReal) = (Real.exp (L 2 - top L) : ℝ) := by
  rw [pay8_apply, ha, hb, hc, top_scaled, weight]
theorem pay9_real : (k0_pay9 (F := Ideal) a b c (ix2 r l) : EReal) = (zz L : ℝ) := by
  rw [pay9_apply, pay6_real ha hb hc, pay7_real ha hb hc, pay8_real ha hb hc, ← EReal.coe_add, ← EReal.coe_add]
  exact congrArg Real.toEReal (Fin.sum_univ_three fun g => Real.exp (L g - top L)).symm
theorem pay10_real (o1 o2 o3 : S512x512.Idx → EReal) : (k0_pay10 (F := Ideal) a b c o1 o2 o3 (ix2 r l) : EReal)
    = mrg L ![o1 (ix2 r l), o2 (ix2 r l), o3 (ix2 r l)] := by
  rw [pay10_apply, pay6_real ha hb hc, pay7_real ha hb hc, pay8_real ha hb hc, pay9_real ha hb hc]
  exact merged L ![o1 (ix2 r l), o2 (ix2 r l), o3 (ix2 r l)]
theorem pay11_real : (k0_pay11 (F := Ideal) a b c (ix2 r l) : EReal) = (total L : ℝ) := by
  rw [pay11_apply, pay9_real ha hb hc, pay5_apply, ha, hb, hc, top_scaled, Lift.log_coe (zz_pos L), ← EReal.coe_mul, ← EReal.coe_add]
  exact congrArg _ (by rw [total, add_div, div_eq_mul_inv (Real.log (zz L))])
end

variable (m : (ℓ : Loc nD τ sig) → Buf (Elt Ideal) ℓ) (c : Dev nD) (L : Fin 8192 → Fin 8 → Fin 3 → ℝ)

/-- The three outputs that meet in one element. -/
abbrev three3 (l : Fin 8192) (x : Fin 512) : Fin 3 → EReal := fun g => outs m c (ix4 g l (hd x) (pl x))
/-- The gate's factor at a value. -/
abbrev gt (g : EReal) : EReal := g * sg g

theorem arr9 (t : Fin cfg0.N) (r : Fin 512) (l : Fin 1024) :
    (dats m 0 c).arrAt 9 cfg0.N (ix2 (row t r) l)
      = out0_9 (iblk m c 0 t) (iblk m c 1 t) (iblk m c 2 t) (iblk m c 3 t) (iblk m c 4 t) (iblk m c 5 t) (iblk m c 6 t) (iblk m c 7 t) (iblk m c 8 t) (ix2 r l) := by
  have h := congrFun (Value.blocks9 m c t (flush0_9 t)) (ix2 r l)
  rw [Value.flushed9] at h
  refine Eq.trans ?_ h
  show (dats m 0 c).arrAt 9 cfg0.N _ = (dats m 0 c).arrAt 9 cfg0.N _
  exact congrArg _ (at2 512 1024 r.val l.val (row t r) l (walks t).2.2.2.1 rfl rfl (by show t.val * 512 + 1 * r.val = t.val * 512 + r.val; omega) (by omega)).symm

theorem arr10 (t : Fin cfg0.N) (r : Fin 512) (l : Fin 512) :
    (dats m 0 c).arrAt 10 cfg0.N (ix2 (row t r) l)
      = out0_10 (iblk m c 0 t) (iblk m c 1 t) (iblk m c 2 t) (iblk m c 3 t) (iblk m c 4 t) (iblk m c 5 t) (iblk m c 6 t) (iblk m c 7 t) (iblk m c 8 t) (ix2 r l) := by
  have h := congrFun (Value.blocks10 m c t (flush0_10 t)) (ix2 r l)
  rw [Value.flushed10] at h
  refine Eq.trans ?_ h
  show (dats m 0 c).arrAt 10 cfg0.N _ = (dats m 0 c).arrAt 10 cfg0.N _
  exact congrArg _ (at2 512 512 r.val l.val (row t r) l (walks t).2.2.2.2.1 rfl rfl (by show t.val * 512 + 1 * r.val = t.val * 512 + r.val; omega) (by omega)).symm

theorem arr11 (t : Fin cfg0.N) (r : Fin 512) (l : Fin 8) :
    (dats m 0 c).arrAt 11 cfg0.N (ix2 (row t r) l)
      = out0_11 (iblk m c 0 t) (iblk m c 1 t) (iblk m c 2 t) (iblk m c 3 t) (iblk m c 4 t) (iblk m c 5 t) (iblk m c 6 t) (iblk m c 7 t) (iblk m c 8 t) (ix2 r l) := by
  have h := congrFun (Value.blocks11 m c t (flush0_11 t)) (ix2 r l)
  rw [Value.flushed11] at h
  refine Eq.trans ?_ h
  show (dats m 0 c).arrAt 11 cfg0.N _ = (dats m 0 c).arrAt 11 cfg0.N _
  exact congrArg _ (at2 512 8 r.val l.val (row t r) l (walks t).2.2.2.2.2 rfl rfl (by show t.val * 512 + 1 * r.val = t.val * 512 + r.val; omega) (by omega)).symm

variable {m c L} (hL : ∀ g l h, lses m c (ix3 g l h) = (L l h g : ℝ))
include hL

theorem lg_real (g : Fin 3) (l : Fin 8192) (h : Fin 8) : lg m c g l h = (L l h g / Real.log 2 : ℝ) := by
  rw [lg, hL, Lift.log_two, Lift.div_real _ Lift.log_two_ne]

variable (t : Fin cfg0.N) (r : Fin 512)

theorem bm_block (l : Fin 512) : (k0_pay10 (F := Ideal) (iblk m c 6 t) (iblk m c 7 t) (iblk m c 8 t) (iblk m c 3 t) (iblk m c 4 t) (iblk m c 5 t) (ix2 r l) : EReal)
    = mrg (L (row t r) (hd l)) (three3 m c (row t r) l) := by
  refine (pay10_real (L := L (row t r) (hd l)) ((x6_apply m c t r l).trans (lg_real hL ..)) ((x7_apply m c t r l).trans (lg_real hL ..))
    ((x8_apply m c t r l).trans (lg_real hL ..)) _ _ _).trans (congrArg _ (funext fun g => ?_))
  match g with
  | 0 => exact x3_apply m c t r l
  | 1 => exact x4_apply m c t r l
  | 2 => exact x5_apply m c t r l

theorem lt_block (l : Fin 512) : (k0_pay11 (F := Ideal) (iblk m c 6 t) (iblk m c 7 t) (iblk m c 8 t) (ix2 r l) : EReal) = (total (L (row t r) (hd l)) : ℝ) :=
  pay11_real (L := L (row t r) (hd l)) ((x6_apply m c t r l).trans (lg_real hL ..)) ((x7_apply m c t r l).trans (lg_real hL ..)) ((x8_apply m c t r l).trans (lg_real hL ..))

theorem block10 (l : Fin 512) : ((dats m 0 c).arrAt 10 cfg0.N (ix2 (row t r) l) : EReal) = mrg (L (row t r) (hd l)) (three3 m c (row t r) l) := by
  rw [arr10]
  unfold out0_10
  rw [View.canon_unit_zero hz, View.ld_unit_zero hz, View.ld_unit_zero hz, View.ld_unit_zero hz, View.ld_unit_zero hz, View.ld_unit_zero hz, View.ld_unit_zero hz]
  exact bm_block hL t r l

theorem block11 (h : Fin 8) : ((dats m 0 c).arrAt 11 cfg0.N (ix2 (row t r) h) : EReal) = ((total (L (row t r) h) : ℝ) : EReal) := by
  rw [arr11]
  unfold out0_11
  rw [View.canon_unit_zero hz, View.ld_unit_zero hz, View.ld_unit_zero hz, View.ld_unit_zero hz]
  refine (pay15_apply _ r (fun x => ⟨_, lt_block hL t r x⟩) h).trans ((lt_block hL t r _).trans ?_)
  rw [show hd (col h 0) = h from Fin.ext (by show (h.val * 64 + 0) / 64 = h.val; omega)]

/-- The gated output: the left half the full attention, the right half the merged branches. -/
theorem block9 (l : Fin 1024) : ((dats m 0 c).arrAt 9 cfg0.N (ix2 (row t r) l) : EReal)
    = if h : l.val < 512 then oa m c (ix2 (row t r) ⟨l.val, h⟩) * gt (prj m c (ix2 (row t r) ⟨672 + l.val, by omega⟩))
      else mrg (L (row t r) (hd ⟨l.val - 512, by omega⟩)) (three3 m c (row t r) ⟨l.val - 512, by omega⟩)
        * gt (prj m c (ix2 (row t r) ⟨5792 + (l.val - 512), by omega⟩)) := by
  rw [arr9]
  unfold out0_9
  rw [View.ld_unit_zero hz, View.ld_unit_zero hz, View.ld_unit_zero hz, View.ld_unit_zero hz, View.ld_unit_zero hz, View.ld_unit_zero hz, View.ld_unit_zero hz, View.ld_unit_zero hz, View.ld_unit_zero hz]
  refine View.canon_apply_of_pieces (Val := Elt Ideal) (S := S512x1024) (e := .bf16) (fun y : S512x1024.Idx =>
    if h : (y 1).val < 512 then oa m c (ix2 (row t (y 0)) ⟨(y 1).val, h⟩) * gt (prj m c (ix2 (row t (y 0)) ⟨672 + (y 1).val, by omega⟩))
      else mrg (L (row t (y 0)) (hd ⟨(y 1).val - 512, by have : (y 1).val < 1024 := (y 1).isLt; omega⟩))
        (three3 m c (row t (y 0)) ⟨(y 1).val - 512, by have : (y 1).val < 1024 := (y 1).isLt; omega⟩)
        * gt (prj m c (ix2 (row t (y 0)) ⟨5792 + ((y 1).val - 512), by have : (y 1).val < 1024 := (y 1).isLt; omega⟩))) _ ?_ (ix2 r l) (cover0_9 _ _ _)
  intro p hp x
  rcases List.mem_cons.mp hp with rfl | hp
  · idx_vars x
    refine (pay1_apply _ _ x0 x1).trans ?_
    rw [bm_block hL, x2_apply]
    have e0 : r0_3.emb (ix2 x0 x1) = ix2 x0 ⟨512 + x1.val, by omega⟩ := funext fun a => Fin.ext <| by
      match a with
      | ⟨0, _⟩ => show 0 + 1 * x0.val = x0.val; omega
      | ⟨1, _⟩ => show 512 + 1 * x1.val = 512 + x1.val; omega
    have e1 : (⟨512 + x1.val - 512, by omega⟩ : Fin 512) = x1 := Fin.ext (by show 512 + x1.val - 512 = x1.val; omega)
    have e2 : (⟨5792 + (512 + x1.val - 512), by omega⟩ : Fin 6304) = ⟨5792 + x1.val, by omega⟩ := Fin.ext (by show 5792 + (512 + x1.val - 512) = 5792 + x1.val; omega)
    rw [e0]
    refine Eq.trans ?_ (dif_neg (show ¬ 512 + x1.val < 512 by omega)).symm
    show _ = mrg (L (row t x0) (hd ⟨512 + x1.val - 512, _⟩)) (three3 m c (row t x0) ⟨512 + x1.val - 512, _⟩)
        * gt (prj m c (ix2 (row t x0) ⟨5792 + (512 + x1.val - 512), _⟩))
    rw [e1, e2]
  rcases List.mem_cons.mp hp with rfl | hp
  · idx_vars x
    refine (pay17_apply _ _ x0 x1).trans ?_
    rw [x0_apply, x1_apply]
    have e0 : r0_2.emb (ix2 x0 x1) = ix2 x0 ⟨x1.val, by omega⟩ := funext fun a => Fin.ext <| by
      match a with
      | ⟨0, _⟩ => show 0 + 1 * x0.val = x0.val; omega
      | ⟨1, _⟩ => show 0 + 1 * x1.val = x1.val; omega
    rw [e0]
    refine Eq.trans ?_ (dif_pos (show x1.val < 512 from x1.isLt)).symm
    rfl
  nomatch hp

omit hL in
theorem row_at (l : Fin 8192) : l = row ⟨l.val / 512, lt_of_lt_of_eq (by omega : l.val / 512 < 16) N_0.symm⟩ ⟨l.val % 512, by omega⟩ :=
  Fin.ext (by show l.val = l.val / 512 * 512 + l.val % 512; omega)

end Cert.Kernel12Ideal.Merge

/-! ## The reference's results -/

namespace Cert.Reference12Ideal.Merge

open Idealize.ShloMosaic Idealize.ShloMosaic.Pointwise Idealize.SL.Sem Cert.Reference12Ideal Cert.Reference12Ideal.Gen Cert.Merge
open Cert.Kernel12Ideal.Merge (hd pl gt)
open Cert.KernelIdeal.Gate (sg)

/-- The largest log-sum of a row and head. -/
def rTop (L : FVec Ideal S3x8192x8 .f32) : FVec Ideal S8192x8 .f32 :=
  Host.reduce FloatOps.maximumf L (constant S_ .f32 0xFF800000#32) reducesTo_S3x8192x8_S8192x8_d0 h_S_
/-- One copy of a row's value for each branch. -/
def rEach (v : FVec Ideal S8192x8 .f32) : FVec Ideal S3x8192x8 .f32 :=
  broadcastInDim S3x8192x8 ![0, 1, 2] bcast_S1x8192x8_S3x8192x8_0_1_2 (broadcastInDim S1x8192x8 ![1, 2] bcast_S8192x8_S1x8192x8_1_2 v)
/-- The exponentials over a row's value. -/
def rExp (L : FVec Ideal S3x8192x8 .f32) (v : FVec Ideal S8192x8 .f32) : FVec Ideal S3x8192x8 .f32 := Host.exp (subf L (rEach v))
def rSum (e : FVec Ideal S3x8192x8 .f32) : FVec Ideal S8192x8 .f32 := Host.reduceAdd e (constant S_ .f32 0x00000000#32) reducesTo_S3x8192x8_S8192x8_d0 h_S_
/-- The base the softmax subtracts. -/
def rBase (L : FVec Ideal S3x8192x8 .f32) : FVec Ideal S8192x8 .f32 := maximumf (broadcastInDim S8192x8 ![] bcast_S_S8192x8 (constant S_ .f32 0xFF800000#32)) (rTop L)
/-- The softmax of the log-sums. -/
def rSoft (L : FVec Ideal S3x8192x8 .f32) : FVec Ideal S3x8192x8 .f32 := Host.divf (rExp L (rBase L)) (rEach (rSum (rExp L (rBase L))))
def rBm (o : FVec Ideal S3x8192x8x64 .f32) (L : FVec Ideal S3x8192x8 .f32) : FVec Ideal S8192x512 .f32 :=
  shapeCast _ (Host.reduceAdd (mulf (broadcastInDim S3x8192x8x64 ![0, 1, 2, 3] bcast_S3x8192x8x1_S3x8192x8x64_0_1_2_3
    (broadcastInDim S3x8192x8x1 ![0, 1, 2] bcast_S3x8192x8_S3x8192x8x1_0_1_2 (rSoft L))) o) (constant S_ .f32 0x00000000#32) reducesTo_S3x8192x8x64_S8192x8x64_d0 h_S_)
    shapeCasts_S8192x8x64_S8192x512
def rLt (L : FVec Ideal S3x8192x8 .f32) : FVec Ideal S8192x8 .f32 :=
  Host.divf (addf (rTop L) (Host.log (rSum (rExp L (rTop L))))) (broadcastInDim S8192x8 ![] bcast_S_S8192x8 (id (Host.log (constant S_ .f32 0x40000000#32))))
/-- A block of the projection through the gate's function. -/
def rGt (g : FVec Ideal S8192x512 .f32) : FVec Ideal S8192x512 .f32 :=
  mulf g (Host.divf (broadcastInDim S8192x512 ![] bcast_S_S8192x512 (constant S_ .f32 0x3F800000#32))
    (addf (broadcastInDim S8192x512 ![] bcast_S_S8192x512 (constant S_ .f32 0x3F800000#32)) (Host.exp (Host.negf g))))
def rAb (a : FVec Ideal S8192x512 .f32) (p : FVec Ideal S8192x6304 .f32) (b : FVec Ideal S8192x512 .f32) : FVec Ideal S8192x1024 .bf16 :=
  truncf .bf16 (concatenate S8192x1024 1
    [⟨S8192x512, mulf a (rGt (extractStridedSlice S8192x512 ![0, 672] p slices_S8192x6304_S8192x512_0_672))⟩,
     ⟨S8192x512, mulf b (rGt (extractStridedSlice S8192x512 ![0, 5792] p slices_S8192x6304_S8192x512_0_5792))⟩]
    concatenates_S8192x512_S8192x512_S8192x1024_d1) bitsLt_bf16_f32

theorem rGt_apply (g : FVec Ideal S8192x512 .f32) (l : Fin 8192) (x : Fin 512) : (rGt g (ix2 l x) : EReal) = gt (g (ix2 l x)) := by
  pointwise [rGt, gt, sg]

theorem rAb_apply (a : FVec Ideal S8192x512 .f32) (p : FVec Ideal S8192x6304 .f32) (b : FVec Ideal S8192x512 .f32) (l : Fin 8192) (x : Fin 1024) :
    (rAb a p b (ix2 l x) : EReal) = if h : x.val < 512 then (a (ix2 l ⟨x.val, h⟩) : EReal) * gt (p (ix2 l ⟨672 + x.val, by omega⟩))
      else b (ix2 l ⟨x.val - 512, by omega⟩) * gt (p (ix2 l ⟨5792 + (x.val - 512), by omega⟩)) := by
  unfold rAb
  pointwise [rGt_apply]

section
variable {L : FVec Ideal S3x8192x8 .f32} {N : Fin 8192 → Fin 8 → Fin 3 → ℝ} (hL : ∀ g l h, L (ix3 g l h) = (N l h g : ℝ)) (l : Fin 8192) (h : Fin 8) (g : Fin 3)
include hL

theorem rTop_apply : (rTop L (ix2 l h) : EReal) = (top (N l h) : ℝ) := by
  have e : (rTop L (ix2 l h) : EReal) = Finset.univ.fold max (⊥ : EReal) fun g : Fin 3 => (L (ix3 g l h) : EReal) := by
    pointwise [rTop]
    rw [Lift.bits_bot]
  rw [e]
  show max (L (ix3 0 l h) : EReal) (max (L (ix3 1 l h)) (max (L (ix3 2 l h)) ⊥)) = _
  rw [max_bot_right, hL, hL, hL, ← max_assoc, top_max]

theorem rBase_apply : (rBase L (ix2 l h) : EReal) = (top (N l h) : ℝ) := by
  have e : (rBase L (ix2 l h) : EReal) = max (Ideal.ofBits .f32 0xFF800000#32) (rTop L (ix2 l h)) := by
    generalize hq : rTop L = q
    pointwise [rBase, hq]
  rw [e, rTop_apply hL, Lift.bits_bot, max_bot_left]

omit hL in
theorem rEach_apply (v : FVec Ideal S8192x8 .f32) : rEach v (ix3 g l h) = v (ix2 l h) := by pointwise [rEach]

theorem rExp_apply {v : FVec Ideal S8192x8 .f32} (hv : v (ix2 l h) = (top (N l h) : ℝ)) : (rExp L v (ix3 g l h) : EReal) = (Real.exp (N l h g - top (N l h)) : ℝ) := by
  have e : (rExp L v (ix3 g l h) : EReal) = Ideal.exp (L (ix3 g l h) - v (ix2 l h)) := by pointwise [rExp, rEach]
  rw [e, hL, hv, ← EReal.coe_sub, Lift.exp_coe]

theorem rSum_apply {v : FVec Ideal S8192x8 .f32} (hv : v (ix2 l h) = (top (N l h) : ℝ)) : (rSum (rExp L v) (ix2 l h) : EReal) = (zz (N l h) : ℝ) := by
  have e : (rSum (rExp L v) (ix2 l h) : EReal) = ∑ g : Fin 3, (rExp L v (ix3 g l h) : EReal) := by
    generalize rExp L v = q
    pointwise [rSum]
  rw [e, Finset.sum_congr rfl fun g _ => rExp_apply hL l h g hv, Lift.sum_coe]
  rfl

theorem rSoft_apply : (rSoft L (ix3 g l h) : EReal) = (Real.exp (N l h g - top (N l h)) / zz (N l h) : ℝ) := by
  show Ideal.div (rExp L (rBase L) (ix3 g l h)) (rEach (rSum (rExp L (rBase L))) (ix3 g l h)) = _
  rw [rEach_apply, rExp_apply hL l h g (rBase_apply hL l h), rSum_apply hL l h (rBase_apply hL l h), Lift.div_real _ (zz_pos _).ne']

theorem rBm_apply (o : FVec Ideal S3x8192x8x64 .f32) (x : Fin 512) :
    (rBm o L (ix2 l x) : EReal) = mrg (N l (hd x)) fun g => o (ix4 g l (hd x) (pl x)) := by
  have e : (rBm o L (ix2 l x) : EReal) = ∑ g : Fin 3, (rSoft L (ix3 g l (hd x)) : EReal) * o (ix4 g l (hd x) (pl x)) := by
    unfold rBm
    generalize rSoft L = q
    pointwise []
  rw [e]
  exact Finset.sum_congr rfl fun g _ => by rw [rSoft_apply hL]

theorem rLt_apply : (rLt L (ix2 l h) : EReal) = (total (N l h) : ℝ) := by
  have e : (rLt L (ix2 l h) : EReal) = Ideal.div (rTop L (ix2 l h) + Ideal.log (rSum (rExp L (rTop L)) (ix2 l h))) (Ideal.log (Ideal.ofBits .f32 0x40000000#32)) := by
    unfold rLt
    generalize rTop L = q
    generalize rSum (rExp L q) = s
    pointwise []
    rfl
  rw [e, rSum_apply hL l h (rTop_apply hL l h), rTop_apply hL, Lift.log_coe (zz_pos _), Lift.log_two, ← EReal.coe_add, Lift.div_real _ Lift.log_two_ne]
  rfl
end

end Cert.Reference12Ideal.Merge

/-! ## The claim -/

namespace Cert.Proof.MergeClaims

open Idealize.ShloMosaic Idealize.ShloMosaic.Pointwise Idealize.SL.Sem Cert.Merge
open Cert.Kernel12Ideal.Merge
open Cert.Reference12Ideal.Merge

theorem pre_real {x0 : FVec Ideal Cert.Pre_finite12.S8192x512 .f32} {x1 : FVec Ideal Cert.Pre_finite12.S8192x6304 .f32}
    {x2 : FVec Ideal Cert.Pre_finite12.S3x8192x8x64 .f32} {x3 : FVec Ideal Cert.Pre_finite12.S3x8192x8 .f32}
    (h : Cert.Pre_finite12.fn x0 x1 x2 x3 = fun _ => 1#1) : ∀ i, ∃ q : ℝ, x3 i = q := by
  have : Subsingleton Cert.Pre_finite12.S_.Idx := ⟨fun a b => funext fun i => i.elim0⟩
  have h0 := congrFun h (fun a => a.elim0)
  unfold Cert.Pre_finite12.fn at h0
  exact Lift.real_of_all (fun _ => Lift.bits_inf) h0

variable (m : (ℓ : Loc Cert.Kernel12Ideal.nD Cert.Kernel12Ideal.τ Cert.Kernel12Ideal.sig) → Buf (Elt Ideal) ℓ) (c : Dev Cert.Kernel12Ideal.nD)
  {L : Fin 8192 → Fin 8 → Fin 3 → ℝ} (hL : ∀ g l h, lses m c (ix3 g l h) = (L l h g : ℝ))
include hL

theorem eq10 : (Cert.Kernel12Ideal.Gen.dats m 0 c).arrAt 10 Cert.Kernel12Ideal.cfg0.N = rBm (outs m c) (lses m c) := by
  refine funext fun i => ?_
  idx_vars i
  refine Eq.trans ?_ (rBm_apply hL i0 (outs m c) i1).symm
  rw [row_at i0]
  exact block10 hL _ _ i1

theorem eq11 : (Cert.Kernel12Ideal.Gen.dats m 0 c).arrAt 11 Cert.Kernel12Ideal.cfg0.N = rLt (lses m c) := by
  refine funext fun i => ?_
  idx_vars i
  refine Eq.trans ?_ (rLt_apply hL i0 i1).symm
  rw [row_at i0]
  exact block11 hL _ _ i1

theorem eq9 : (Cert.Kernel12Ideal.Gen.dats m 0 c).arrAt 9 Cert.Kernel12Ideal.cfg0.N = rAb (oa m c) (prj m c) (rBm (outs m c) (lses m c)) := by
  refine funext fun i => ?_
  idx_vars i
  refine Eq.trans ?_ (rAb_apply _ _ _ i0 i1).symm
  rw [row_at i0]
  refine (block9 hL _ _ i1).trans ?_
  split
  · rfl
  · rw [rBm_apply hL]

omit hL in
theorem algebraic : Cert.algebraic_Kernel12Ideal_Reference12Ideal_pre_finite12 := by
  intro m ρ m' ρ' hpre hag
  have hr : ∀ c, ∃ L : Fin 8192 → Fin 8 → Fin 3 → ℝ, ∀ g l h, lses m c (ix3 g l h) = (L l h g : ℝ) := fun c => by
    choose q e using pre_real (hpre c)
    exact ⟨fun l h g => q (ix3 g l h), fun g l h => e (ix3 g l h)⟩
  refine ⟨fun c => (Cert.Kernel12Ideal.Gen.dats m 0 c).arrAt 9 Cert.Kernel12Ideal.cfg0.N, fun c => (Cert.Kernel12Ideal.Gen.dats m 0 c).arrAt 10 Cert.Kernel12Ideal.cfg0.N,
    fun c => (Cert.Kernel12Ideal.Gen.dats m 0 c).arrAt 11 Cert.Kernel12Ideal.cfg0.N, Cert.Kernel12Ideal.Value.run_blocks m ρ, ?_⟩
  refine (θ_run Cert.Reference12Ideal.defs _ _).mono (fun _ h c => ?_) (Cert.Reference12Ideal.Value.run (F := Ideal) m' ρ')
  obtain ⟨h0, h1, h2, hk⟩ := h c
  obtain ⟨a0, a1, a2, a3⟩ := hag c
  obtain ⟨L, hL⟩ := hr c
  rw [a0, a1, a2, a3] at h0
  rw [a2, a3] at h1
  rw [a3] at h2
  exact ⟨(h0.trans (show _ = rAb (oa m c) (prj m c) (rBm (outs m c) (lses m c)) from rfl)).trans (eq9 m c hL).symm,
    (h1.trans (show _ = rBm (outs m c) (lses m c) from rfl)).trans (eq10 m c hL).symm,
    (h2.trans (show _ = rLt (lses m c) from rfl)).trans (eq11 m c hL).symm, hk⟩

end Cert.Proof.MergeClaims
-- ==== Proof.DilFwdPrepRead.lean ====
/- The preparation of the dilated attention's operands: queries and keys turned by the rotation, queries scaled. What one block of each
result holds, entry by entry. -/
module

public import proofs.«01_k».proof.Proof.GateRead
public import proofs.«01_k».proof.Proof.MlaMath
public import proofs.«01_k».proof.Proof.MlaFwdRead
public import proofs.«01_k».proof.Proof.Gen.Kernel13Ideal.Value

@[expose] public section

set_option maxRecDepth 16384

noncomputable section

namespace Cert.Turn

open Idealize.ShloMosaic

/-- An entry of a head with its first sixteen entries turned: `x` the head's entries, `C` and `S` the cosines and sines. -/
def turn (x : Fin 64 → EReal) (C S : Fin 8 → EReal) (d : Fin 64) : EReal :=
  if h : d.val < 8 then x d * C ⟨d.val, h⟩ - x ⟨d.val + 8, by omega⟩ * S ⟨d.val, h⟩
  else if h : d.val < 16 then x ⟨d.val - 8, by omega⟩ * S ⟨d.val - 8, by omega⟩ + x d * C ⟨d.val - 8, by omega⟩ else x d

/-- The queries' scale: one over eight times the logarithm of 2. -/
abbrev qs : EReal := (((Real.log 256)⁻¹ : ℝ) : EReal)

/-- An entry of a result: kind 0 a query, 1 a key, 2 a value. -/
def entry (k : Fin 3) (x : Fin 64 → EReal) (C S : Fin 8 → EReal) (d : Fin 64) : EReal :=
  if k = 0 then turn x C S d * qs else if k = 1 then turn x C S d else x d

end Cert.Turn

namespace Cert.Kernel13Ideal.DilFwdPrep

open Idealize.ShloMosaic Idealize.ShloMosaic.Pointwise Idealize.SL.Sem Cert.Kernel13Ideal Cert.Kernel13Ideal.Gen Cert.Turn
open Idealize.ShloMosaic.Pipeline (Dat)

theorem qscale_named : (Named.named κ "qscale" 0x3E38AA3B#32 : Ideal .f32) = qs := IdealRules.named_const.ideal_named_scalar κ "qscale" _ _ rfl

theorem hz : (![0, 0] : Fin 2 → Nat) = fun _ => 0 := funext fun a => by fin_cases a <;> rfl

abbrev on (l : Fin 128) : Fin 128 := ⟨(l.val + 128 - 120) % 128, Nat.mod_lt _ (by omega)⟩
abbrev before (l : Fin 128) : Fin 128 := ⟨(l.val + 128 - 8) % 128, Nat.mod_lt _ (by omega)⟩

/-! ## The three kinds of stored value -/

section
variable (c a b : FVec Ideal S512x128 .f32) (x : FVec Ideal S512x128 .bf16) (r : Fin 512) (l : Fin 128)

theorem pay9_apply : (k0_pay9 c a b x (ix2 r l) : EReal)
    = ((x (ix2 r l) : EReal) * c (ix2 r l) + x (ix2 r (on l)) * a (ix2 r l) + x (ix2 r (before l)) * b (ix2 r l)) * qs := by
  rw [← qscale_named]
  pointwise [k0_pay9]
theorem pay11_apply : (k0_pay11 c a b x (ix2 r l) : EReal)
    = (x (ix2 r l) : EReal) * c (ix2 r l) + x (ix2 r (on l)) * a (ix2 r l) + x (ix2 r (before l)) * b (ix2 r l) := by
  pointwise [k0_pay11]
theorem pay15_apply : (k0_pay15 (F := Ideal) x (ix2 r l) : EReal) = x (ix2 r l) := by pointwise [k0_pay15]
theorem pay4_eq : k0_pay4 c = c := funext fun i => by idx_vars i; pointwise [k0_pay4]
theorem pay5_eq : k0_pay5 c = c := funext fun i => by idx_vars i; pointwise [k0_pay5]
theorem pay6_eq : k0_pay6 c = c := funext fun i => by idx_vars i; pointwise [k0_pay6]
end

/-! ## A block of a result -/

section
variable (X : Vec Ideal S512x512 .bf16) (c a b : Vec Ideal S512x128 .f32)

/-- The turned entry at a column, by the lanes of its group of 128. -/
def turned (r j : Fin 512) : EReal :=
  let l : Fin 128 := ⟨j.val % 128, Nat.mod_lt _ (by omega)⟩
  let x : Fin 128 → EReal := fun e => X (ix2 r ⟨j.val / 128 * 128 + e.val, by omega⟩)
  x l * c (ix2 r l) + x (on l) * a (ix2 r l) + x (before l) * b (ix2 r l)

theorem ld_at (cb : Fin 4) (h : ∀ i, (![0, cb.val * 128] : Fin 2 → ℕ) i + S512x128.size i ≤ S512x512.size i) (r : Fin 512) (l : Fin 128) :
    View.ld X (Rect.unit (s := S512x512) ![0, cb.val * 128] S512x128.size h) (ix2 r l) = X (ix2 r ⟨cb.val * 128 + l.val, by omega⟩) := by
  refine congrArg X (funext fun k => Fin.ext ?_)
  match k with
  | ⟨0, _⟩ => show 0 + 1 * r.val = r.val; omega
  | ⟨1, _⟩ => show cb.val * 128 + 1 * l.val = cb.val * 128 + l.val; omega

theorem emb_at (cb : Fin 4) (h : ∀ i, (![0, cb.val * 128] : Fin 2 → ℕ) i + S512x128.size i ≤ S512x512.size i) (r : Fin 512) (l : Fin 128) :
    (Rect.unit (s := S512x512) ![0, cb.val * 128] S512x128.size h).emb (ix2 r l) = ix2 r ⟨cb.val * 128 + l.val, by omega⟩ := funext fun k => Fin.ext <| by
  match k with
  | ⟨0, _⟩ => show 0 + 1 * r.val = r.val; omega
  | ⟨1, _⟩ => show cb.val * 128 + 1 * l.val = cb.val * 128 + l.val; omega

theorem turned_at (cb : Fin 4) (r : Fin 512) (l : Fin 128) : turned X c a b r ⟨cb.val * 128 + l.val, by omega⟩
    = (X (ix2 r ⟨cb.val * 128 + l.val, by omega⟩) : EReal) * c (ix2 r l) + X (ix2 r ⟨cb.val * 128 + (on l).val, by have := (on l).isLt; omega⟩) * a (ix2 r l)
      + X (ix2 r ⟨cb.val * 128 + (before l).val, by have := (before l).isLt; omega⟩) * b (ix2 r l) := by
  have e5 : (cb.val * 128 + l.val) % 128 = l.val := by omega
  have e6 : (cb.val * 128 + l.val) / 128 * 128 = cb.val * 128 := by omega
  unfold turned
  dsimp only
  simp only [e5, e6]

variable {o : ℕ}

theorem piece_q (cb : Fin 4) (ho : o = cb.val * 128) (h : ∀ i, (![0, o] : Fin 2 → ℕ) i + S512x128.size i ≤ S512x512.size i) (x : S512x128.Idx) :
    (k0_pay9 (k0_pay4 (View.ld c r0_0)) (k0_pay5 (View.ld a r0_0)) (k0_pay6 (View.ld b r0_0)) (View.ld X (Rect.unit (s := S512x512) ![0, o] S512x128.size h)) x : EReal)
      = (fun y : S512x512.Idx => turned X c a b (y 0) (y 1) * qs) ((Rect.unit (s := S512x512) ![0, o] S512x128.size h).emb x) := by
  subst ho
  idx_vars x
  rw [pay4_eq, pay5_eq, pay6_eq, View.ld_unit_zero hz, View.ld_unit_zero hz, View.ld_unit_zero hz, emb_at]
  refine (pay9_apply _ _ _ _ x0 x1).trans ?_
  rw [ld_at, ld_at, ld_at]
  exact congrArg (· * qs) (turned_at X c a b cb x0 x1).symm

theorem piece_k (cb : Fin 4) (ho : o = cb.val * 128) (h : ∀ i, (![0, o] : Fin 2 → ℕ) i + S512x128.size i ≤ S512x512.size i) (x : S512x128.Idx) :
    (k0_pay11 (k0_pay4 (View.ld c r0_0)) (k0_pay5 (View.ld a r0_0)) (k0_pay6 (View.ld b r0_0)) (View.ld X (Rect.unit (s := S512x512) ![0, o] S512x128.size h)) x : EReal)
      = (fun y : S512x512.Idx => turned X c a b (y 0) (y 1)) ((Rect.unit (s := S512x512) ![0, o] S512x128.size h).emb x) := by
  subst ho
  idx_vars x
  rw [pay4_eq, pay5_eq, pay6_eq, View.ld_unit_zero hz, View.ld_unit_zero hz, View.ld_unit_zero hz, emb_at]
  refine (pay11_apply _ _ _ _ x0 x1).trans ?_
  rw [ld_at, ld_at, ld_at]
  exact (turned_at X c a b cb x0 x1).symm

theorem piece_v (cb : Fin 4) (ho : o = cb.val * 128) (h : ∀ i, (![0, o] : Fin 2 → ℕ) i + S512x128.size i ≤ S512x512.size i) (x : S512x128.Idx) :
    (k0_pay15 (F := Ideal) (View.ld X (Rect.unit (s := S512x512) ![0, o] S512x128.size h)) x : EReal)
      = (fun y : S512x512.Idx => (X y : EReal)) ((Rect.unit (s := S512x512) ![0, o] S512x128.size h).emb x) := by
  subst ho
  idx_vars x
  rw [emb_at]
  exact (pay15_apply _ x0 x1).trans (ld_at X cb h x0 x1)
end

section
variable (x0 x1 x2 x3 x4 x5 x6 x7 x8 : Vec Ideal S512x512 .bf16) (c a b : Vec Ideal S512x128 .f32) (y : S512x512.Idx)

theorem out12_apply : (out0_12 x0 x1 x2 x3 x4 x5 x6 x7 x8 c a b y : EReal) = turned x0 c a b (y 0) (y 1) * qs := by
  refine View.canon_apply_of_pieces (Val := Elt Ideal) (S := S512x512) (e := .bf16) (fun y : S512x512.Idx => (turned x0 c a b (y 0) (y 1) * qs : EReal)) _ ?_ y (cover0_12 _ _ _ _ y)
  simp only [List.forall_mem_cons]
  exact ⟨piece_q x0 c a b 3 rfl _, piece_q x0 c a b 2 rfl _, piece_q x0 c a b 1 rfl _, piece_q x0 c a b 0 rfl _, List.forall_mem_nil _⟩
theorem out13_apply : (out0_13 x0 x1 x2 x3 x4 x5 x6 x7 x8 c a b y : EReal) = turned x1 c a b (y 0) (y 1) := by
  refine View.canon_apply_of_pieces (Val := Elt Ideal) (S := S512x512) (e := .bf16) (fun y : S512x512.Idx => (turned x1 c a b (y 0) (y 1) : EReal)) _ ?_ y (cover0_13 _ _ _ _ y)
  simp only [List.forall_mem_cons]
  exact ⟨piece_k x1 c a b 3 rfl _, piece_k x1 c a b 2 rfl _, piece_k x1 c a b 1 rfl _, piece_k x1 c a b 0 rfl _, List.forall_mem_nil _⟩
theorem out14_apply : (out0_14 x0 x1 x2 x3 x4 x5 x6 x7 x8 c a b y : EReal) = x2 y := by
  refine View.canon_apply_of_pieces (Val := Elt Ideal) (S := S512x512) (e := .bf16) (fun y : S512x512.Idx => (x2 y : EReal)) _ ?_ y (cover0_14 _ _ _ _ y)
  simp only [List.forall_mem_cons]
  exact ⟨piece_v x2 3 rfl _, piece_v x2 2 rfl _, piece_v x2 1 rfl _, piece_v x2 0 rfl _, List.forall_mem_nil _⟩
theorem out15_apply : (out0_15 x0 x1 x2 x3 x4 x5 x6 x7 x8 c a b y : EReal) = turned x3 c a b (y 0) (y 1) * qs := by
  refine View.canon_apply_of_pieces (Val := Elt Ideal) (S := S512x512) (e := .bf16) (fun y : S512x512.Idx => (turned x3 c a b (y 0) (y 1) * qs : EReal)) _ ?_ y (cover0_15 _ _ _ _ y)
  simp only [List.forall_mem_cons]
  exact ⟨piece_q x3 c a b 3 rfl _, piece_q x3 c a b 2 rfl _, piece_q x3 c a b 1 rfl _, piece_q x3 c a b 0 rfl _, List.forall_mem_nil _⟩
theorem out16_apply : (out0_16 x0 x1 x2 x3 x4 x5 x6 x7 x8 c a b y : EReal) = turned x4 c a b (y 0) (y 1) := by
  refine View.canon_apply_of_pieces (Val := Elt Ideal) (S := S512x512) (e := .bf16) (fun y : S512x512.Idx => (turned x4 c a b (y 0) (y 1) : EReal)) _ ?_ y (cover0_16 _ _ _ _ y)
  simp only [List.forall_mem_cons]
  exact ⟨piece_k x4 c a b 3 rfl _, piece_k x4 c a b 2 rfl _, piece_k x4 c a b 1 rfl _, piece_k x4 c a b 0 rfl _, List.forall_mem_nil _⟩
theorem out17_apply : (out0_17 x0 x1 x2 x3 x4 x5 x6 x7 x8 c a b y : EReal) = x5 y := by
  refine View.canon_apply_of_pieces (Val := Elt Ideal) (S := S512x512) (e := .bf16) (fun y : S512x512.Idx => (x5 y : EReal)) _ ?_ y (cover0_17 _ _ _ _ y)
  simp only [List.forall_mem_cons]
  exact ⟨piece_v x5 3 rfl _, piece_v x5 2 rfl _, piece_v x5 1 rfl _, piece_v x5 0 rfl _, List.forall_mem_nil _⟩
theorem out18_apply : (out0_18 x0 x1 x2 x3 x4 x5 x6 x7 x8 c a b y : EReal) = turned x6 c a b (y 0) (y 1) * qs := by
  refine View.canon_apply_of_pieces (Val := Elt Ideal) (S := S512x512) (e := .bf16) (fun y : S512x512.Idx => (turned x6 c a b (y 0) (y 1) * qs : EReal)) _ ?_ y (cover0_18 _ _ _ _ y)
  simp only [List.forall_mem_cons]
  exact ⟨piece_q x6 c a b 3 rfl _, piece_q x6 c a b 2 rfl _, piece_q x6 c a b 1 rfl _, piece_q x6 c a b 0 rfl _, List.forall_mem_nil _⟩
theorem out19_apply : (out0_19 x0 x1 x2 x3 x4 x5 x6 x7 x8 c a b y : EReal) = turned x7 c a b (y 0) (y 1) := by
  refine View.canon_apply_of_pieces (Val := Elt Ideal) (S := S512x512) (e := .bf16) (fun y : S512x512.Idx => (turned x7 c a b (y 0) (y 1) : EReal)) _ ?_ y (cover0_19 _ _ _ _ y)
  simp only [List.forall_mem_cons]
  exact ⟨piece_k x7 c a b 3 rfl _, piece_k x7 c a b 2 rfl _, piece_k x7 c a b 1 rfl _, piece_k x7 c a b 0 rfl _, List.forall_mem_nil _⟩
theorem out20_apply : (out0_20 x0 x1 x2 x3 x4 x5 x6 x7 x8 c a b y : EReal) = x8 y := by
  refine View.canon_apply_of_pieces (Val := Elt Ideal) (S := S512x512) (e := .bf16) (fun y : S512x512.Idx => (x8 y : EReal)) _ ?_ y (cover0_20 _ _ _ _ y)
  simp only [List.forall_mem_cons]
  exact ⟨piece_v x8 3 rfl _, piece_v x8 2 rfl _, piece_v x8 1 rfl _, piece_v x8 0 rfl _, List.forall_mem_nil _⟩
end

end Cert.Kernel13Ideal.DilFwdPrep
-- ==== Proof.DilFwdPrep.lean ====
/- The preparation of the dilated attention's operands: what the host hands to the kernel, and the nine whole result arrays entry by
entry. -/
module

public import proofs.«01_k».proof.Proof.DilPrep
public import proofs.«01_k».proof.Proof.DilFwdPrepRead

@[expose] public section

set_option maxRecDepth 16384

noncomputable section

namespace Cert.Kernel13Ideal.DilFwdPrep

open Idealize.ShloMosaic Idealize.ShloMosaic.Pointwise Idealize.SL.Sem Cert.Kernel13Ideal Cert.Kernel13Ideal.Gen Cert.Turn
open Idealize.ShloMosaic.Pipeline (Dat)
open Cert.Kernel5Ideal.DilPrep (angle)
open Cert.Kernel7Ideal.MlaF (at2)

/-! ## The host's lines -/

/-- The projection with the columns this call reads at their places. -/
def padded (P : FVec Ideal S8192x6304 .f32) : FVec Ideal S8192x6656 .bf16 := truncf .bf16 (concatenate S8192x6656 1
  [⟨S8192x2048, broadcastInDim S8192x2048 ![] bcast_S_S8192x2048 (constant S_ .f32 0x00000000#32)⟩,
    ⟨S8192x4608, extractStridedSlice S8192x4608 ![0, 1184] P slices_S8192x6304_S8192x4608_0_1184⟩]
  concatenates_S8192x2048_S8192x4608_S8192x6656_d1) bitsLt_bf16_f32

theorem padded_apply (P : FVec Ideal S8192x6304 .f32) (l : Fin 8192) (n : Fin 9) (j : Fin 512) :
    (padded P (ix2 l ⟨(4 + n.val) * 512 + j.val, by omega⟩) : EReal) = P (ix2 l ⟨1184 + n.val * 512 + j.val, by omega⟩) := by
  pointwise [padded]
  rw [dif_neg (by omega)]
  refine congrArg P (congrArg (ix2 l) (Fin.ext ?_))
  show 1184 + _ = 1184 + n.val * 512 + j.val
  omega

section
variable (C S : FVec Ideal S8192x8 .f32)

/-- A table of 64 columns repeated for the two heads of 128 lanes. -/
abbrev tile (T : FVec Ideal S8192x64 .f32) : FVec Ideal S8192x128 .f32 :=
  shapeCast S8192x128 (broadcastInDim S1x8192x2x64 ![0, 1, 2, 3] bcast_S1x8192x1x64_S1x8192x2x64_0_1_2_3
    (shapeCast S1x8192x1x64 T shapeCasts_S8192x64_S1x8192x1x64)) shapeCasts_S1x8192x2x64_S8192x128

def tabC : FVec Ideal S8192x128 .f32 := tile (concatenate S8192x64 1
  [⟨S8192x0, broadcastInDim S8192x0 ![] bcast_S_S8192x0 (constant S_ .f32 0x3F800000#32)⟩, ⟨S8192x8, C⟩, ⟨S8192x8, C⟩,
    ⟨S8192x48, broadcastInDim S8192x48 ![] bcast_S_S8192x48 (constant S_ .f32 0x3F800000#32)⟩] concatenates_S8192x0_S8192x8_S8192x8_S8192x48_S8192x64_d1)

def tabA : FVec Ideal S8192x128 .f32 := tile (concatenate S8192x64 1
  [⟨S8192x0, broadcastInDim S8192x0 ![] bcast_S_S8192x0 (constant S_ .f32 0x00000000#32)⟩, ⟨S8192x8, Host.negf S⟩,
    ⟨S8192x8, broadcastInDim S8192x8 ![] bcast_S_S8192x8 (constant S_ .f32 0x00000000#32)⟩,
    ⟨S8192x48, broadcastInDim S8192x48 ![] bcast_S_S8192x48 (constant S_ .f32 0x00000000#32)⟩] concatenates_S8192x0_S8192x8_S8192x8_S8192x48_S8192x64_d1)

def tabB : FVec Ideal S8192x128 .f32 := tile (concatenate S8192x64 1
  [⟨S8192x8, broadcastInDim S8192x8 ![] bcast_S_S8192x8 (constant S_ .f32 0x00000000#32)⟩, ⟨S8192x8, S⟩,
    ⟨S8192x48, broadcastInDim S8192x48 ![] bcast_S_S8192x48 (constant S_ .f32 0x00000000#32)⟩] concatenates_S8192x8_S8192x8_S8192x48_S8192x64_d1)

theorem tabC_apply (l : Fin 8192) (j : Fin 128) : (tabC C (ix2 l j) : EReal)
    = if h : j.val % 64 < 8 then C (ix2 l ⟨j.val % 64, h⟩) else if h : j.val % 64 < 16 then C (ix2 l ⟨j.val % 64 - 8, by omega⟩) else 1 := by
  pointwise [tabC]
  split_ifs <;> first | rfl | (exfalso; omega) | (simp; done) | (simp; intros; exfalso; omega)

theorem tabA_apply (l : Fin 8192) (j : Fin 128) : (tabA S (ix2 l j) : EReal)
    = if h : j.val % 64 < 8 then -S (ix2 l ⟨j.val % 64, h⟩) else 0 := by
  pointwise [tabA]
  split_ifs <;> first | rfl | (exfalso; omega) | (simp; done) | (simp; intros; exfalso; omega)

theorem tabB_apply (l : Fin 8192) (j : Fin 128) : (tabB S (ix2 l j) : EReal)
    = if h : 8 ≤ j.val % 64 ∧ j.val % 64 < 16 then S (ix2 l ⟨j.val % 64 - 8, by omega⟩) else 0 := by
  pointwise [tabB]
  split_ifs <;> first | rfl | (exfalso; omega) | (simp; done) | (simp; intros; exfalso; omega)

/-- The head's first column among the columns of a group, and the entry of the head. -/
abbrev inHead (j : Fin 512) (e : Fin 64) : Fin 512 := ⟨j.val / 64 * 64 + e.val, by omega⟩
abbrev entryOf (j : Fin 512) : Fin 64 := ⟨j.val % 64, Nat.mod_lt _ (by omega)⟩

/-- Turning by the tables and the two rotated copies is turning by pairs. -/
theorem turned_eq (X : Vec Ideal S512x512 .bf16) (c a b : Vec Ideal S512x128 .f32) (r j : Fin 512) (l : Fin 8192)
    (hc : ∀ z, (c (ix2 r z) : EReal) = tabC C (ix2 l z)) (ha : ∀ z, (a (ix2 r z) : EReal) = tabA S (ix2 l z))
    (hb : ∀ z, (b (ix2 r z) : EReal) = tabB S (ix2 l z)) :
    turned X c a b r j = turn (fun e => X (ix2 r (inHead j e))) (fun k => C (ix2 l k)) (fun k => S (ix2 l k)) (entryOf j) := by
  unfold turned turn
  dsimp only
  rw [hc, ha, hb, tabC_apply, tabA_apply, tabB_apply]
  have e0 : j.val % 128 % 64 = j.val % 64 := by omega
  have ex : ∀ (z : ℕ) (hz : z < 512) (e : Fin 64), z = j.val / 64 * 64 + e.val → (X (ix2 r ⟨z, hz⟩) : EReal) = X (ix2 r (inHead j e)) :=
    fun z hz e h => congrArg (fun q => X (ix2 r q)) (Fin.ext h)
  rw [ex (j.val / 128 * 128 + j.val % 128) _ (entryOf j) (by dsimp only <;> omega)]
  by_cases h8 : j.val % 64 < 8
  · rw [dif_pos (show j.val % 128 % 64 < 8 by omega), dif_pos (show j.val % 128 % 64 < 8 by omega),
      dif_neg (show ¬ (8 ≤ j.val % 128 % 64 ∧ j.val % 128 % 64 < 16) by omega), dif_pos h8,
      ex (j.val / 128 * 128 + (j.val % 128 + 128 - 120) % 128) _ ⟨j.val % 64 + 8, by omega⟩ (by dsimp only <;> omega)]
    refine (congrArg (_ + ·) (mul_zero _)).trans ((add_zero _).trans ?_)
    rw [sub_eq_add_neg]
    refine congrArg₂ (· + ·) ?_ ((mul_neg _ _).trans (congrArg Neg.neg ?_)) <;> simp only [e0]
  · rw [dif_neg (show ¬ j.val % 128 % 64 < 8 by omega), dif_neg (show ¬ j.val % 128 % 64 < 8 by omega), dif_neg h8]
    by_cases h16 : j.val % 64 < 16
    · rw [dif_pos (show j.val % 128 % 64 < 16 by omega), dif_pos (show 8 ≤ j.val % 128 % 64 ∧ j.val % 128 % 64 < 16 by omega), dif_pos h16,
        ex (j.val / 128 * 128 + (j.val % 128 + 128 - 8) % 128) _ ⟨j.val % 64 - 8, by omega⟩ (by dsimp only <;> omega), mul_zero, add_zero]
      refine (add_comm _ _).trans ?_
      simp only [e0]
    · rw [dif_neg (show ¬ j.val % 128 % 64 < 16 by omega), dif_neg (show ¬ (8 ≤ j.val % 128 % 64 ∧ j.val % 128 % 64 < 16) by omega), dif_neg h16,
        mul_zero, mul_zero, add_zero, add_zero, mul_one]
end

variable (m : (ℓ : Loc nD τ sig) → Buf (Elt Ideal) ℓ)

abbrev proj (c : Dev nD) : FVec Ideal S8192x6304 .f32 := m ((c.tc : Thread nD τ).loc main_arg0)

theorem V_v3 (c : Dev nD) : (V m c main_v3 : FVec Ideal S8192x6656 .bf16) = padded (proj m c) := by
  unfold V hostOps0
  after_results_simp
  rfl
theorem V_v28 (c : Dev nD) : (V m c main_v28 : FVec Ideal S8192x128 .f32) = tabC (Host.cos angle) := by
  unfold V hostOps0
  after_results_simp
  rfl
theorem V_v36 (c : Dev nD) : (V m c main_v36 : FVec Ideal S8192x128 .f32) = tabA (Host.sin angle) := by
  unfold V hostOps0
  after_results_simp
  rfl
theorem V_v42 (c : Dev nD) : (V m c main_v42 : FVec Ideal S8192x128 .f32) = tabB (Host.sin angle) := by
  unfold V hostOps0
  after_results_simp
  rfl

/-! ## The blocks -/

theorem lt16 (t : Fin cfg0.N) : t.val < 16 := lt_of_lt_of_eq t.isLt N_0

/-- Row `r` of block `t` as a row of the whole array. -/
abbrev row (t : Fin cfg0.N) (r : Fin 512) : Fin 8192 := ⟨t.val * 512 + r.val, by have := lt16 t; omega⟩

/-- Every window walks down the rows; the first nine stay each in its own group of columns. -/
theorem walks : ∀ t : Fin cfg0.N, (win0_0.index t 0 = t.val ∧ win0_0.index t 1 = 4) ∧ (win0_1.index t 0 = t.val ∧ win0_1.index t 1 = 5) ∧ (win0_2.index t 0 = t.val ∧ win0_2.index t 1 = 6) ∧ (win0_3.index t 0 = t.val ∧ win0_3.index t 1 = 7) ∧ (win0_4.index t 0 = t.val ∧ win0_4.index t 1 = 8) ∧ (win0_5.index t 0 = t.val ∧ win0_5.index t 1 = 9) ∧ (win0_6.index t 0 = t.val ∧ win0_6.index t 1 = 10) ∧ (win0_7.index t 0 = t.val ∧ win0_7.index t 1 = 11) ∧ (win0_8.index t 0 = t.val ∧ win0_8.index t 1 = 12) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) ∧ (win0_14.index t 0 = t.val ∧ win0_14.index t 1 = 0) ∧ (win0_15.index t 0 = t.val ∧ win0_15.index t 1 = 0) ∧ (win0_16.index t 0 = t.val ∧ win0_16.index t 1 = 0) ∧ (win0_17.index t 0 = t.val ∧ win0_17.index t 1 = 0) ∧ (win0_18.index t 0 = t.val ∧ win0_18.index t 1 = 0) ∧ (win0_19.index t 0 = t.val ∧ win0_19.index t 1 = 0) ∧ (win0_20.index t 0 = t.val ∧ win0_20.index t 1 = 0) :=
  (by decide +kernel : ∀ t : Fin grid0.N, (win0_0.index t 0 = t.val ∧ win0_0.index t 1 = 4) ∧ (win0_1.index t 0 = t.val ∧ win0_1.index t 1 = 5) ∧ (win0_2.index t 0 = t.val ∧ win0_2.index t 1 = 6) ∧ (win0_3.index t 0 = t.val ∧ win0_3.index t 1 = 7) ∧ (win0_4.index t 0 = t.val ∧ win0_4.index t 1 = 8) ∧ (win0_5.index t 0 = t.val ∧ win0_5.index t 1 = 9) ∧ (win0_6.index t 0 = t.val ∧ win0_6.index t 1 = 10) ∧ (win0_7.index t 0 = t.val ∧ win0_7.index t 1 = 11) ∧ (win0_8.index t 0 = t.val ∧ win0_8.index t 1 = 12) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) ∧ (win0_14.index t 0 = t.val ∧ win0_14.index t 1 = 0) ∧ (win0_15.index t 0 = t.val ∧ win0_15.index t 1 = 0) ∧ (win0_16.index t 0 = t.val ∧ win0_16.index t 1 = 0) ∧ (win0_17.index t 0 = t.val ∧ win0_17.index t 1 = 0) ∧ (win0_18.index t 0 = t.val ∧ win0_18.index t 1 = 0) ∧ (win0_19.index t 0 = t.val ∧ win0_19.index t 1 = 0) ∧ (win0_20.index t 0 = t.val ∧ win0_20.index t 1 = 0))

theorem x0_apply (c : Dev nD) (t : Fin cfg0.N) (r j : Fin 512) :
    (iblk m c 0 t (ix2 r j) : EReal) = proj m c (ix2 (row t r) ⟨1184 + 0 * 512 + j.val, by omega⟩) :=
  (congrArg (V m c main_v3) (at2 512 512 r.val j.val (row t r) ⟨(4) * 512 + j.val, by omega⟩ (walks t).1 rfl rfl
    (by show t.val * 512 + 1 * r.val = t.val * 512 + r.val; omega) (by show 4 * 512 + 1 * j.val = 4 * 512 + j.val; omega))).trans
    ((congrFun (V_v3 m c) _).trans (padded_apply (proj m c) (row t r) 0 j))
theorem x1_apply (c : Dev nD) (t : Fin cfg0.N) (r j : Fin 512) :
    (iblk m c 1 t (ix2 r j) : EReal) = proj m c (ix2 (row t r) ⟨1184 + 1 * 512 + j.val, by omega⟩) :=
  (congrArg (V m c main_v3) (at2 512 512 r.val j.val (row t r) ⟨(5) * 512 + j.val, by omega⟩ (walks t).2.1 rfl rfl
    (by show t.val * 512 + 1 * r.val = t.val * 512 + r.val; omega) (by show 5 * 512 + 1 * j.val = 5 * 512 + j.val; omega))).trans
    ((congrFun (V_v3 m c) _).trans (padded_apply (proj m c) (row t r) 1 j))
theorem x2_apply (c : Dev nD) (t : Fin cfg0.N) (r j : Fin 512) :
    (iblk m c 2 t (ix2 r j) : EReal) = proj m c (ix2 (row t r) ⟨1184 + 2 * 512 + j.val, by omega⟩) :=
  (congrArg (V m c main_v3) (at2 512 512 r.val j.val (row t r) ⟨(6) * 512 + j.val, by omega⟩ (walks t).2.2.1 rfl rfl
    (by show t.val * 512 + 1 * r.val = t.val * 512 + r.val; omega) (by show 6 * 512 + 1 * j.val = 6 * 512 + j.val; omega))).trans
    ((congrFun (V_v3 m c) _).trans (padded_apply (proj m c) (row t r) 2 j))
theorem x3_apply (c : Dev nD) (t : Fin cfg0.N) (r j : Fin 512) :
    (iblk m c 3 t (ix2 r j) : EReal) = proj m c (ix2 (row t r) ⟨1184 + 3 * 512 + j.val, by omega⟩) :=
  (congrArg (V m c main_v3) (at2 512 512 r.val j.val (row t r) ⟨(7) * 512 + j.val, by omega⟩ (walks t).2.2.2.1 rfl rfl
    (by show t.val * 512 + 1 * r.val = t.val * 512 + r.val; omega) (by show 7 * 512 + 1 * j.val = 7 * 512 + j.val; omega))).trans
    ((congrFun (V_v3 m c) _).trans (padded_apply (proj m c) (row t r) 3 j))
theorem x4_apply (c : Dev nD) (t : Fin cfg0.N) (r j : Fin 512) :
    (iblk m c 4 t (ix2 r j) : EReal) = proj m c (ix2 (row t r) ⟨1184 + 4 * 512 + j.val, by omega⟩) :=
  (congrArg (V m c main_v3) (at2 512 512 r.val j.val (row t r) ⟨(8) * 512 + j.val, by omega⟩ (walks t).2.2.2.2.1 rfl rfl
    (by show t.val * 512 + 1 * r.val = t.val * 512 + r.val; omega) (by show 8 * 512 + 1 * j.val = 8 * 512 + j.val; omega))).trans
    ((congrFun (V_v3 m c) _).trans (padded_apply (proj m c) (row t r) 4 j))
theorem x5_apply (c : Dev nD) (t : Fin cfg0.N) (r j : Fin 512) :
    (iblk m c 5 t (ix2 r j) : EReal) = proj m c (ix2 (row t r) ⟨1184 + 5 * 512 + j.val, by omega⟩) :=
  (congrArg (V m c main_v3) (at2 512 512 r.val j.val (row t r) ⟨(9) * 512 + j.val, by omega⟩ (walks t).2.2.2.2.2.1 rfl rfl
    (by show t.val * 512 + 1 * r.val = t.val * 512 + r.val; omega) (by show 9 * 512 + 1 * j.val = 9 * 512 + j.val; omega))).trans
    ((congrFun (V_v3 m c) _).trans (padded_apply (proj m c) (row t r) 5 j))
theorem x6_apply (c : Dev nD) (t : Fin cfg0.N) (r j : Fin 512) :
    (iblk m c 6 t (ix2 r j) : EReal) = proj m c (ix2 (row t r) ⟨1184 + 6 * 512 + j.val, by omega⟩) :=
  (congrArg (V m c main_v3) (at2 512 512 r.val j.val (row t r) ⟨(10) * 512 + j.val, by omega⟩ (walks t).2.2.2.2.2.2.1 rfl rfl
    (by show t.val * 512 + 1 * r.val = t.val * 512 + r.val; omega) (by show 10 * 512 + 1 * j.val = 10 * 512 + j.val; omega))).trans
    ((congrFun (V_v3 m c) _).trans (padded_apply (proj m c) (row t r) 6 j))
theorem x7_apply (c : Dev nD) (t : Fin cfg0.N) (r j : Fin 512) :
    (iblk m c 7 t (ix2 r j) : EReal) = proj m c (ix2 (row t r) ⟨1184 + 7 * 512 + j.val, by omega⟩) :=
  (congrArg (V m c main_v3) (at2 512 512 r.val j.val (row t r) ⟨(11) * 512 + j.val, by omega⟩ (walks t).2.2.2.2.2.2.2.1 rfl rfl
    (by show t.val * 512 + 1 * r.val = t.val * 512 + r.val; omega) (by show 11 * 512 + 1 * j.val = 11 * 512 + j.val; omega))).trans
    ((congrFun (V_v3 m c) _).trans (padded_apply (proj m c) (row t r) 7 j))
theorem x8_apply (c : Dev nD) (t : Fin cfg0.N) (r j : Fin 512) :
    (iblk m c 8 t (ix2 r j) : EReal) = proj m c (ix2 (row t r) ⟨1184 + 8 * 512 + j.val, by omega⟩) :=
  (congrArg (V m c main_v3) (at2 512 512 r.val j.val (row t r) ⟨(12) * 512 + j.val, by omega⟩ (walks t).2.2.2.2.2.2.2.2.1 rfl rfl
    (by show t.val * 512 + 1 * r.val = t.val * 512 + r.val; omega) (by show 12 * 512 + 1 * j.val = 12 * 512 + j.val; omega))).trans
    ((congrFun (V_v3 m c) _).trans (padded_apply (proj m c) (row t r) 8 j))
theorem x9_apply (c : Dev nD) (t : Fin cfg0.N) (r : Fin 512) (z : Fin 128) :
    (iblk m c 9 t (ix2 r z) : EReal) = tabC (Host.cos angle) (ix2 (row t r) z) :=
  (congrArg (V m c main_v28) (at2 512 128 r.val z.val (row t r) z (walks t).2.2.2.2.2.2.2.2.2.1 rfl rfl
    (by show t.val * 512 + 1 * r.val = t.val * 512 + r.val; omega) (by omega))).trans (congrFun (V_v28 m c) _)
theorem x10_apply (c : Dev nD) (t : Fin cfg0.N) (r : Fin 512) (z : Fin 128) :
    (iblk m c 10 t (ix2 r z) : EReal) = tabA (Host.sin angle) (ix2 (row t r) z) :=
  (congrArg (V m c main_v36) (at2 512 128 r.val z.val (row t r) z (walks t).2.2.2.2.2.2.2.2.2.2.1 rfl rfl
    (by show t.val * 512 + 1 * r.val = t.val * 512 + r.val; omega) (by omega))).trans (congrFun (V_v36 m c) _)
theorem x11_apply (c : Dev nD) (t : Fin cfg0.N) (r : Fin 512) (z : Fin 128) :
    (iblk m c 11 t (ix2 r z) : EReal) = tabB (Host.sin angle) (ix2 (row t r) z) :=
  (congrArg (V m c main_v42) (at2 512 128 r.val z.val (row t r) z (walks t).2.2.2.2.2.2.2.2.2.2.2.1 rfl rfl
    (by show t.val * 512 + 1 * r.val = t.val * 512 + r.val; omega) (by omega))).trans (congrFun (V_v42 m c) _)

/-- Group `n` of the nine results: kind `k` made from the columns of group `n`. -/
def spec (P : FVec Ideal S8192x6304 .f32) (n : Fin 9) (k : Fin 3) : FVec Ideal S8192x512 .bf16 := fun i =>
  entry k (fun e => P (ix2 (i 0) ⟨1184 + n.val * 512 + (inHead (i 1) e).val, by have := (inHead (i 1) e).isLt; omega⟩))
    (fun k => (Host.cos angle : FVec Ideal S8192x8 .f32) (ix2 (i 0) k)) (fun k => (Host.sin angle : FVec Ideal S8192x8 .f32) (ix2 (i 0) k)) (entryOf (i 1))

theorem turned_row (c : Dev nD) (t : Fin cfg0.N) (r j : Fin 512) (n : Fin 9) (X : Vec Ideal S512x512 .bf16)
    (hX : ∀ j, (X (ix2 r j) : EReal) = proj m c (ix2 (row t r) ⟨1184 + n.val * 512 + j.val, by omega⟩)) :
    turned X (iblk m c 9 t) (iblk m c 10 t) (iblk m c 11 t) r j
      = turn (fun e => proj m c (ix2 (row t r) ⟨1184 + n.val * 512 + (inHead j e).val, by have := (inHead j e).isLt; omega⟩))
        (fun k => (Host.cos angle : FVec Ideal S8192x8 .f32) (ix2 (row t r) k)) (fun k => (Host.sin angle : FVec Ideal S8192x8 .f32) (ix2 (row t r) k)) (entryOf j) :=
  (turned_eq (Host.cos angle) (Host.sin angle) X _ _ _ r j (row t r) (x9_apply m c t r) (x10_apply m c t r) (x11_apply m c t r)).trans
    (congrArg (fun x => turn x _ _ _) (funext fun e => hX (inHead j e)))

/-- Every row is a row of some block. -/
theorem row_of (R : Fin 8192) : ∃ (t : Fin cfg0.N) (r : Fin 512), row t r = R := by
  have hN : cfg0.N = 16 := N_0
  exact ⟨⟨R.val / 512, by omega⟩, ⟨R.val % 512, by omega⟩, Fin.ext (by show R.val / 512 * 512 + R.val % 512 = R.val; omega)⟩

theorem res12 (c : Dev nD) : (dats m 0 c).arrAt 12 cfg0.N = spec (proj m c) 0 0 := funext fun i => by
  idx_vars i
  obtain ⟨t, r, rfl⟩ := row_of i0
  have h := congrFun (Value.blocks12 m c t (flush0_12 t)) (ix2 r i1)
  rw [Value.flushed12] at h
  refine Eq.trans (congrArg ((dats m 0 c).arrAt 12 cfg0.N) (at2 512 512 r.val i1.val (row t r) i1 (walks t).2.2.2.2.2.2.2.2.2.2.2.2.1 rfl rfl
    (by show t.val * 512 + 1 * r.val = t.val * 512 + r.val; omega) (by omega)).symm) (h.trans ((out12_apply _ _ _ _ _ _ _ _ _ _ _ _ (ix2 r i1)).trans ?_))
  exact (congrArg (· * qs) (turned_row m c t r i1 0 _ (x0_apply m c t r)))
theorem res13 (c : Dev nD) : (dats m 0 c).arrAt 13 cfg0.N = spec (proj m c) 1 1 := funext fun i => by
  idx_vars i
  obtain ⟨t, r, rfl⟩ := row_of i0
  have h := congrFun (Value.blocks13 m c t (flush0_13 t)) (ix2 r i1)
  rw [Value.flushed13] at h
  refine Eq.trans (congrArg ((dats m 0 c).arrAt 13 cfg0.N) (at2 512 512 r.val i1.val (row t r) i1 (walks t).2.2.2.2.2.2.2.2.2.2.2.2.2.1 rfl rfl
    (by show t.val * 512 + 1 * r.val = t.val * 512 + r.val; omega) (by omega)).symm) (h.trans ((out13_apply _ _ _ _ _ _ _ _ _ _ _ _ (ix2 r i1)).trans ?_))
  exact (turned_row m c t r i1 1 _ (x1_apply m c t r))
theorem res14 (c : Dev nD) : (dats m 0 c).arrAt 14 cfg0.N = spec (proj m c) 2 2 := funext fun i => by
  idx_vars i
  obtain ⟨t, r, rfl⟩ := row_of i0
  have h := congrFun (Value.blocks14 m c t (flush0_14 t)) (ix2 r i1)
  rw [Value.flushed14] at h
  refine Eq.trans (congrArg ((dats m 0 c).arrAt 14 cfg0.N) (at2 512 512 r.val i1.val (row t r) i1 (walks t).2.2.2.2.2.2.2.2.2.2.2.2.2.2.1 rfl rfl
    (by show t.val * 512 + 1 * r.val = t.val * 512 + r.val; omega) (by omega)).symm) (h.trans ((out14_apply _ _ _ _ _ _ _ _ _ _ _ _ (ix2 r i1)).trans ?_))
  refine (x2_apply m c t r i1).trans (congrArg (fun q => proj m c (ix2 (row t r) q)) (Fin.ext ?_))
  show 1184 + 2 * 512 + i1.val = 1184 + 2 * 512 + (i1.val / 64 * 64 + i1.val % 64)
  omega
theorem res15 (c : Dev nD) : (dats m 0 c).arrAt 15 cfg0.N = spec (proj m c) 3 0 := funext fun i => by
  idx_vars i
  obtain ⟨t, r, rfl⟩ := row_of i0
  have h := congrFun (Value.blocks15 m c t (flush0_15 t)) (ix2 r i1)
  rw [Value.flushed15] at h
  refine Eq.trans (congrArg ((dats m 0 c).arrAt 15 cfg0.N) (at2 512 512 r.val i1.val (row t r) i1 (walks t).2.2.2.2.2.2.2.2.2.2.2.2.2.2.2.1 rfl rfl
    (by show t.val * 512 + 1 * r.val = t.val * 512 + r.val; omega) (by omega)).symm) (h.trans ((out15_apply _ _ _ _ _ _ _ _ _ _ _ _ (ix2 r i1)).trans ?_))
  exact (congrArg (· * qs) (turned_row m c t r i1 3 _ (x3_apply m c t r)))
theorem res16 (c : Dev nD) : (dats m 0 c).arrAt 16 cfg0.N = spec (proj m c) 4 1 := funext fun i => by
  idx_vars i
  obtain ⟨t, r, rfl⟩ := row_of i0
  have h := congrFun (Value.blocks16 m c t (flush0_16 t)) (ix2 r i1)
  rw [Value.flushed16] at h
  refine Eq.trans (congrArg ((dats m 0 c).arrAt 16 cfg0.N) (at2 512 512 r.val i1.val (row t r) i1 (walks t).2.2.2.2.2.2.2.2.2.2.2.2.2.2.2.2.1 rfl rfl
    (by show t.val * 512 + 1 * r.val = t.val * 512 + r.val; omega) (by omega)).symm) (h.trans ((out16_apply _ _ _ _ _ _ _ _ _ _ _ _ (ix2 r i1)).trans ?_))
  exact (turned_row m c t r i1 4 _ (x4_apply m c t r))
theorem res17 (c : Dev nD) : (dats m 0 c).arrAt 17 cfg0.N = spec (proj m c) 5 2 := funext fun i => by
  idx_vars i
  obtain ⟨t, r, rfl⟩ := row_of i0
  have h := congrFun (Value.blocks17 m c t (flush0_17 t)) (ix2 r i1)
  rw [Value.flushed17] at h
  refine Eq.trans (congrArg ((dats m 0 c).arrAt 17 cfg0.N) (at2 512 512 r.val i1.val (row t r) i1 (walks t).2.2.2.2.2.2.2.2.2.2.2.2.2.2.2.2.2.1 rfl rfl
    (by show t.val * 512 + 1 * r.val = t.val * 512 + r.val; omega) (by omega)).symm) (h.trans ((out17_apply _ _ _ _ _ _ _ _ _ _ _ _ (ix2 r i1)).trans ?_))
  refine (x5_apply m c t r i1).trans (congrArg (fun q => proj m c (ix2 (row t r) q)) (Fin.ext ?_))
  show 1184 + 5 * 512 + i1.val = 1184 + 5 * 512 + (i1.val / 64 * 64 + i1.val % 64)
  omega
theorem res18 (c : Dev nD) : (dats m 0 c).arrAt 18 cfg0.N = spec (proj m c) 6 0 := funext fun i => by
  idx_vars i
  obtain ⟨t, r, rfl⟩ := row_of i0
  have h := congrFun (Value.blocks18 m c t (flush0_18 t)) (ix2 r i1)
  rw [Value.flushed18] at h
  refine Eq.trans (congrArg ((dats m 0 c).arrAt 18 cfg0.N) (at2 512 512 r.val i1.val (row t r) i1 (walks t).2.2.2.2.2.2.2.2.2.2.2.2.2.2.2.2.2.2.1 rfl rfl
    (by show t.val * 512 + 1 * r.val = t.val * 512 + r.val; omega) (by omega)).symm) (h.trans ((out18_apply _ _ _ _ _ _ _ _ _ _ _ _ (ix2 r i1)).trans ?_))
  exact (congrArg (· * qs) (turned_row m c t r i1 6 _ (x6_apply m c t r)))
theorem res19 (c : Dev nD) : (dats m 0 c).arrAt 19 cfg0.N = spec (proj m c) 7 1 := funext fun i => by
  idx_vars i
  obtain ⟨t, r, rfl⟩ := row_of i0
  have h := congrFun (Value.blocks19 m c t (flush0_19 t)) (ix2 r i1)
  rw [Value.flushed19] at h
  refine Eq.trans (congrArg ((dats m 0 c).arrAt 19 cfg0.N) (at2 512 512 r.val i1.val (row t r) i1 (walks t).2.2.2.2.2.2.2.2.2.2.2.2.2.2.2.2.2.2.2.1 rfl rfl
    (by show t.val * 512 + 1 * r.val = t.val * 512 + r.val; omega) (by omega)).symm) (h.trans ((out19_apply _ _ _ _ _ _ _ _ _ _ _ _ (ix2 r i1)).trans ?_))
  exact (turned_row m c t r i1 7 _ (x7_apply m c t r))
theorem res20 (c : Dev nD) : (dats m 0 c).arrAt 20 cfg0.N = spec (proj m c) 8 2 := funext fun i => by
  idx_vars i
  obtain ⟨t, r, rfl⟩ := row_of i0
  have h := congrFun (Value.blocks20 m c t (flush0_20 t)) (ix2 r i1)
  rw [Value.flushed20] at h
  refine Eq.trans (congrArg ((dats m 0 c).arrAt 20 cfg0.N) (at2 512 512 r.val i1.val (row t r) i1 (walks t).2.2.2.2.2.2.2.2.2.2.2.2.2.2.2.2.2.2.2.2 rfl rfl
    (by show t.val * 512 + 1 * r.val = t.val * 512 + r.val; omega) (by omega)).symm) (h.trans ((out20_apply _ _ _ _ _ _ _ _ _ _ _ _ (ix2 r i1)).trans ?_))
  refine (x8_apply m c t r i1).trans (congrArg (fun q => proj m c (ix2 (row t r) q)) (Fin.ext ?_))
  show 1184 + 8 * 512 + i1.val = 1184 + 8 * 512 + (i1.val / 64 * 64 + i1.val % 64)
  omega

end Cert.Kernel13Ideal.DilFwdPrep

end
-- ==== Proof.DilFwdPrepClaims.lean ====
/- The reference of the preparation, entry by entry, and the kernel against it: on all arguments the nine results are equal. -/
module

public import proofs.«01_k».proof.Defs
public import proofs.«01_k».proof.Proof.Gen.Reference13Ideal.Run
public import proofs.«01_k».proof.Proof.DilFwdPrep
public import proofs.«01_k».proof.Proof.DilPrepOut

@[expose] public section

set_option maxRecDepth 16384

noncomputable section

namespace Cert.Reference13Ideal.DilFwdPrep

open Idealize.ShloMosaic Idealize.ShloMosaic.Pointwise Idealize.SL.Sem Cert.Reference13Ideal Cert.Reference13Ideal.Gen Cert.Turn
open Cert.Kernel5Ideal.DilPrep (angle)
open Cert.Kernel13Ideal.DilFwdPrep (spec inHead entryOf)

/-- The dilated columns of the projection by group, kind, head and entry. -/
def columns (P : FVec Ideal S8192x6304 .f32) : FVec Ideal S8192x3x3x8x64 .f32 :=
  shapeCast _ (extractStridedSlice S8192x4608 ![0, 1184] P slices_S8192x6304_S8192x4608_0_1184) shapeCasts_S8192x4608_S8192x3x3x8x64

/-- Kind `k` of group `g`. -/
def part (g k : ℕ) (h : S8192x3x3x8x64.Slices ![0, g, k, 0, 0] S8192x1x1x8x64) (P : FVec Ideal S8192x6304 .f32) : FVec Ideal S8192x8x64 .f32 :=
  shapeCast _ (extractStridedSlice S8192x1x1x8x64 ![0, g, k, 0, 0] (columns P) h) shapeCasts_S8192x1x1x8x64_S8192x8x64

section
variable (C S : FVec Ideal S8192x8 .f32) (X : FVec Ideal S8192x8x64 .f32)

abbrev pairs (T : FVec Ideal S8192x8 .f32) : FVec Ideal S8192x8x8 .f32 :=
  broadcastInDim S8192x8x8 ![0, 1, 2] bcast_S8192x1x8_S8192x8x8_0_1_2 (broadcastInDim S8192x1x8 ![0, 2] bcast_S8192x8_S8192x1x8_0_2 T)
abbrev lo : FVec Ideal S8192x8x8 .f32 := extractStridedSlice S8192x8x8 ![0, 0, 0] (extractStridedSlice S8192x8x16 ![0, 0, 0] X slices_S8192x8x64_S8192x8x16_0_0_0) slices_S8192x8x16_S8192x8x8_0_0_0
abbrev hi : FVec Ideal S8192x8x8 .f32 := extractStridedSlice S8192x8x8 ![0, 0, 8] (extractStridedSlice S8192x8x16 ![0, 0, 0] X slices_S8192x8x64_S8192x8x16_0_0_0) slices_S8192x8x16_S8192x8x8_0_0_8

/-- The first sixteen entries of each head turned in eight pairs. -/
def turnedR : FVec Ideal S8192x8x64 .f32 := concatenate S8192x8x64 2
  [⟨S8192x8x16, (concatenate S8192x8x16 2 [⟨S8192x8x8, (subf (mulf (lo X) (pairs C)) (mulf (hi X) (pairs S)))⟩,
      ⟨S8192x8x8, (addf (mulf (lo X) (pairs S)) (mulf (hi X) (pairs C)))⟩] concatenates_S8192x8x8_S8192x8x8_S8192x8x16_d2)⟩,
    ⟨S8192x8x48, (extractStridedSlice S8192x8x48 ![0, 0, 16] X slices_S8192x8x64_S8192x8x48_0_0_16)⟩] concatenates_S8192x8x16_S8192x8x48_S8192x8x64_d2

theorem turnedR_apply (l : Fin 8192) (h : Fin 8) (e : Fin 64) :
    (turnedR C S X (ix3 l h e) : EReal) = turn (fun e => X (ix3 l h e)) (fun k => C (ix2 l k)) (fun k => S (ix2 l k)) e := by
  pointwise [turnedR]
  unfold turn
  by_cases h8 : e.val < 8
  · rw [dif_pos (show e.val < 16 by omega), dif_pos h8, dif_pos h8]
    exact congrArg (fun a => _ - X (ix3 l h a) * _) (Fin.ext (by dsimp only <;> omega))
  by_cases h16 : e.val < 16
  · rw [dif_pos h16, dif_neg h8, dif_neg h8, dif_pos h16]
    exact congrArg (fun a => _ + X (ix3 l h a) * _) (Fin.ext (by dsimp only <;> omega))
  · rw [dif_neg h16, dif_neg h8, dif_neg h16]
    exact congrArg (fun a => X (ix3 l h a)) (Fin.ext (by dsimp only <;> omega))

/-- The three kinds of result. -/
def resQ : FVec Ideal S8192x512 .bf16 := truncf .bf16 (shapeCast _ (Host.divf (mulf (turnedR C S X)
  (broadcastInDim S8192x8x64 ![] bcast_S_S8192x8x64 (constant S_ .f32 0x3E000000#32)))
  (broadcastInDim S8192x8x64 ![] bcast_S_S8192x8x64 (id (Host.log (constant S_ .f32 0x40000000#32))))) shapeCasts_S8192x8x64_S8192x512) bitsLt_bf16_f32
def resK : FVec Ideal S8192x512 .bf16 := truncf .bf16 (shapeCast _ (turnedR C S X) shapeCasts_S8192x8x64_S8192x512) bitsLt_bf16_f32
def resV : FVec Ideal S8192x512 .bf16 := truncf .bf16 (shapeCast _ X shapeCasts_S8192x8x64_S8192x512) bitsLt_bf16_f32

abbrev headOf (j : Fin 512) : Fin 8 := ⟨j.val / 64, by omega⟩

theorem scale (x : EReal) : Ideal.div (x * Ideal.ofBits .f32 0x3E000000#32) (Ideal.log (Ideal.ofBits .f32 0x40000000#32)) = x * qs := by
  rw [Cert.Kernel5Ideal.DilPrep.log_two]
  refine (congrArg (fun s => Ideal.div (x * s) _) Cert.Kernel5Ideal.DilPrep.eighth_eq).trans ?_
  have h : ((Real.log 2 : ℝ) : EReal) ≠ 0 := EReal.coe_ne_zero.2 Cert.Kernel5Ideal.DilPrep.ln2_pos.ne'
  rw [Ideal.div, if_neg h, mul_assoc, ← EReal.coe_inv, ← EReal.coe_mul]
  refine congrArg (fun s : ℝ => x * (s : EReal)) ?_
  rw [show (256 : ℝ) = 2 ^ 8 by norm_num, Real.log_pow, mul_inv]
  norm_num

theorem resQ_apply (l : Fin 8192) (j : Fin 512) : (resQ C S X (ix2 l j) : EReal)
    = turn (fun e => X (ix3 l (headOf j) e)) (fun k => C (ix2 l k)) (fun k => S (ix2 l k)) (entryOf j) * qs := by
  rw [← turnedR_apply, ← scale]
  unfold resQ
  generalize turnedR C S X = T
  pointwise []
  rfl
theorem resK_apply (l : Fin 8192) (j : Fin 512) : (resK C S X (ix2 l j) : EReal)
    = turn (fun e => X (ix3 l (headOf j) e)) (fun k => C (ix2 l k)) (fun k => S (ix2 l k)) (entryOf j) := by
  rw [← turnedR_apply]
  unfold resK
  generalize turnedR C S X = T
  pointwise []
theorem resV_apply (l : Fin 8192) (j : Fin 512) : (resV X (ix2 l j) : EReal) = X (ix3 l (headOf j) (entryOf j)) := by
  pointwise [resV]
end

variable (P : FVec Ideal S8192x6304 .f32)

/-- The columns of group `n` of nine, by head and entry. -/
def Holds (X : FVec Ideal S8192x8x64 .f32) (n : Fin 9) : Prop := ∀ (l : Fin 8192) (j : Fin 512) (e : Fin 64),
  (X (ix3 l (headOf j) e) : EReal) = P (ix2 l ⟨1184 + n.val * 512 + (inHead j e).val, by have := (inHead j e).isLt; omega⟩)

abbrev part0 : FVec Ideal S8192x8x64 .f32 := part 0 0 slices_S8192x3x3x8x64_S8192x1x1x8x64_0_0_0_0_0 P
theorem holds0 : Holds P (part0 P) 0 := fun l j e => by
  pointwise [part, columns]
abbrev part1 : FVec Ideal S8192x8x64 .f32 := part 0 1 slices_S8192x3x3x8x64_S8192x1x1x8x64_0_0_1_0_0 P
theorem holds1 : Holds P (part1 P) 1 := fun l j e => by
  pointwise [part, columns]
  refine congrArg P (congrArg (ix2 l) (Fin.ext ?_))
  show _ = 1184 + 1 * 512 + (j.val / 64 * 64 + e.val)
  dsimp only <;> omega
abbrev part2 : FVec Ideal S8192x8x64 .f32 := part 0 2 slices_S8192x3x3x8x64_S8192x1x1x8x64_0_0_2_0_0 P
theorem holds2 : Holds P (part2 P) 2 := fun l j e => by
  pointwise [part, columns]
  refine congrArg P (congrArg (ix2 l) (Fin.ext ?_))
  show _ = 1184 + 2 * 512 + (j.val / 64 * 64 + e.val)
  dsimp only <;> omega
abbrev part3 : FVec Ideal S8192x8x64 .f32 := part 1 0 slices_S8192x3x3x8x64_S8192x1x1x8x64_0_1_0_0_0 P
theorem holds3 : Holds P (part3 P) 3 := fun l j e => by
  pointwise [part, columns]
  refine congrArg P (congrArg (ix2 l) (Fin.ext ?_))
  show _ = 1184 + 3 * 512 + (j.val / 64 * 64 + e.val)
  dsimp only <;> omega
abbrev part4 : FVec Ideal S8192x8x64 .f32 := part 1 1 slices_S8192x3x3x8x64_S8192x1x1x8x64_0_1_1_0_0 P
theorem holds4 : Holds P (part4 P) 4 := fun l j e => by
  pointwise [part, columns]
  refine congrArg P (congrArg (ix2 l) (Fin.ext ?_))
  show _ = 1184 + 4 * 512 + (j.val / 64 * 64 + e.val)
  dsimp only <;> omega
abbrev part5 : FVec Ideal S8192x8x64 .f32 := part 1 2 slices_S8192x3x3x8x64_S8192x1x1x8x64_0_1_2_0_0 P
theorem holds5 : Holds P (part5 P) 5 := fun l j e => by
  pointwise [part, columns]
  refine congrArg P (congrArg (ix2 l) (Fin.ext ?_))
  show _ = 1184 + 5 * 512 + (j.val / 64 * 64 + e.val)
  dsimp only <;> omega
abbrev part6 : FVec Ideal S8192x8x64 .f32 := part 2 0 slices_S8192x3x3x8x64_S8192x1x1x8x64_0_2_0_0_0 P
theorem holds6 : Holds P (part6 P) 6 := fun l j e => by
  pointwise [part, columns]
  refine congrArg P (congrArg (ix2 l) (Fin.ext ?_))
  show _ = 1184 + 6 * 512 + (j.val / 64 * 64 + e.val)
  dsimp only <;> omega
abbrev part7 : FVec Ideal S8192x8x64 .f32 := part 2 1 slices_S8192x3x3x8x64_S8192x1x1x8x64_0_2_1_0_0 P
theorem holds7 : Holds P (part7 P) 7 := fun l j e => by
  pointwise [part, columns]
  refine congrArg P (congrArg (ix2 l) (Fin.ext ?_))
  show _ = 1184 + 7 * 512 + (j.val / 64 * 64 + e.val)
  dsimp only <;> omega
abbrev part8 : FVec Ideal S8192x8x64 .f32 := part 2 2 slices_S8192x3x3x8x64_S8192x1x1x8x64_0_2_2_0_0 P
theorem holds8 : Holds P (part8 P) 8 := fun l j e => by
  pointwise [part, columns]
  refine congrArg P (congrArg (ix2 l) (Fin.ext ?_))
  show _ = 1184 + 8 * 512 + (j.val / 64 * 64 + e.val)
  dsimp only <;> omega

variable {P} {X : FVec Ideal S8192x8x64 .f32} {n : Fin 9}

theorem eqQ (h : Holds P X n) : resQ (Host.cos angle) (Host.sin angle) X = spec P n 0 := funext fun i => by
  idx_vars i
  exact (resQ_apply _ _ X i0 i1).trans (congrArg (fun x => turn x _ _ _ * qs) (funext fun e => h i0 i1 e))
theorem eqK (h : Holds P X n) : resK (Host.cos angle) (Host.sin angle) X = spec P n 1 := funext fun i => by
  idx_vars i
  exact (resK_apply _ _ X i0 i1).trans (congrArg (fun x => turn x _ _ _) (funext fun e => h i0 i1 e))
theorem eqV (h : Holds P X n) : resV X = spec P n 2 := funext fun i => by
  idx_vars i
  exact (resV_apply X i0 i1).trans (h i0 i1 (entryOf i1))

end Cert.Reference13Ideal.DilFwdPrep

namespace Cert.Proof.DilFwdPrepClaims

open Idealize.ShloMosaic Idealize.ShloMosaic.Pointwise Idealize.SL.Sem
open Cert.Kernel13Ideal.Gen (dats)
open Cert.Kernel13Ideal (cfg0)
open Cert.Kernel13Ideal.DilFwdPrep (spec)
open Cert.Kernel5Ideal.DilPrep (angle)
open Cert.Reference13Ideal.DilFwdPrep

set_option maxHeartbeats 4000000 in
theorem algebraic : Cert.algebraic_Kernel13Ideal_Reference13Ideal := by
  intro m ρ m' ρ' _ hag
  refine ⟨fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N, Cert.Kernel13Ideal.Value.run_blocks m ρ, ?_⟩
  refine (θ_run Cert.Reference13Ideal.defs _ _).mono (fun _ h c => ?_) (Cert.Reference13Ideal.Value.run (F := Ideal) m' ρ')
  obtain ⟨h0, h1, h2, h3, h4, h5, h6, h7, h8, hk⟩ := h c
  have a0 := hag c
  have e0 := (h0.trans (show _ = resQ (Host.cos angle) (Host.sin angle) (part0 (m' ((c.tc : Thread Cert.Reference13Ideal.nD Cert.Reference13Ideal.τ).loc Cert.Reference13Ideal.main_arg0))) from rfl)).trans (eqQ (holds0 _))
  have e1 := (h1.trans (show _ = resK (Host.cos angle) (Host.sin angle) (part1 (m' ((c.tc : Thread Cert.Reference13Ideal.nD Cert.Reference13Ideal.τ).loc Cert.Reference13Ideal.main_arg0))) from rfl)).trans (eqK (holds1 _))
  have e2 := (h2.trans (show _ = resV (part2 (m' ((c.tc : Thread Cert.Reference13Ideal.nD Cert.Reference13Ideal.τ).loc Cert.Reference13Ideal.main_arg0))) from rfl)).trans (eqV (holds2 _))
  have e3 := (h3.trans (show _ = resQ (Host.cos angle) (Host.sin angle) (part3 (m' ((c.tc : Thread Cert.Reference13Ideal.nD Cert.Reference13Ideal.τ).loc Cert.Reference13Ideal.main_arg0))) from rfl)).trans (eqQ (holds3 _))
  have e4 := (h4.trans (show _ = resK (Host.cos angle) (Host.sin angle) (part4 (m' ((c.tc : Thread Cert.Reference13Ideal.nD Cert.Reference13Ideal.τ).loc Cert.Reference13Ideal.main_arg0))) from rfl)).trans (eqK (holds4 _))
  have e5 := (h5.trans (show _ = resV (part5 (m' ((c.tc : Thread Cert.Reference13Ideal.nD Cert.Reference13Ideal.τ).loc Cert.Reference13Ideal.main_arg0))) from rfl)).trans (eqV (holds5 _))
  have e6 := (h6.trans (show _ = resQ (Host.cos angle) (Host.sin angle) (part6 (m' ((c.tc : Thread Cert.Reference13Ideal.nD Cert.Reference13Ideal.τ).loc Cert.Reference13Ideal.main_arg0))) from rfl)).trans (eqQ (holds6 _))
  have e7 := (h7.trans (show _ = resK (Host.cos angle) (Host.sin angle) (part7 (m' ((c.tc : Thread Cert.Reference13Ideal.nD Cert.Reference13Ideal.τ).loc Cert.Reference13Ideal.main_arg0))) from rfl)).trans (eqK (holds7 _))
  have e8 := (h8.trans (show _ = resV (part8 (m' ((c.tc : Thread Cert.Reference13Ideal.nD Cert.Reference13Ideal.τ).loc Cert.Reference13Ideal.main_arg0))) from rfl)).trans (eqV (holds8 _))
  rw [a0] at e0 e1 e2 e3 e4 e5 e6 e7 e8
  exact ⟨e0.trans (Cert.Kernel13Ideal.DilFwdPrep.res12 m c).symm, e1.trans (Cert.Kernel13Ideal.DilFwdPrep.res13 m c).symm, e2.trans (Cert.Kernel13Ideal.DilFwdPrep.res14 m c).symm, e3.trans (Cert.Kernel13Ideal.DilFwdPrep.res15 m c).symm, e4.trans (Cert.Kernel13Ideal.DilFwdPrep.res16 m c).symm, e5.trans (Cert.Kernel13Ideal.DilFwdPrep.res17 m c).symm, e6.trans (Cert.Kernel13Ideal.DilFwdPrep.res18 m c).symm, e7.trans (Cert.Kernel13Ideal.DilFwdPrep.res19 m c).symm, e8.trans (Cert.Kernel13Ideal.DilFwdPrep.res20 m c).symm, hk⟩

end Cert.Proof.DilFwdPrepClaims

end
-- ==== Proof.MlaFwdPrepRead.lean ====
/- The preparation of the latent attention's operands: the row norms, the two up-projections, the rotation. What one block of each result
holds, entry by entry. -/
module

public import proofs.«01_k».proof.Proof.MlaMath
public import proofs.«01_k».proof.Proof.Gen.Kernel14Ideal.Value

@[expose] public section

set_option maxRecDepth 16384

noncomputable section

namespace Cert.Kernel14Ideal.MlaFwdPrep

open Idealize.ShloMosaic Idealize.ShloMosaic.Pointwise Idealize.SL.Sem Cert.Kernel14Ideal Cert.Kernel14Ideal.Gen
open Idealize.ShloMosaic.Pipeline (Dat)

/-- The queries' scale: one over the root of 96 times the logarithm of 2. -/
abbrev qs : EReal := (((Real.sqrt 96 * Real.log 2)⁻¹ : ℝ) : EReal)

theorem qscale_named : (Named.named κ "qscale" 0x3E16C740#32 : Ideal .f32) = qs := IdealRules.named_const.ideal_named_scalar κ "qscale" _ _ rfl

/-- An entry of a normed row: `n` the row's length as a number, `g` the gain. -/
def nrm {N : ℕ} (n : EReal) (x g : Fin N → EReal) (d : Fin N) : EReal :=
  x d * Ideal.rsqrt (Ideal.div (∑ j, x j * x j) n + Ideal.ofBits .f32 0x358637BD#32) * g d

abbrev n384 : EReal := Ideal.ofBits .f32 0x43C00000#32
abbrev n256 : EReal := Ideal.ofBits .f32 0x43800000#32

/-- An entry turned by three tables: itself, the entry sixteen lanes on and the entry sixteen lanes before. -/
def rot (x c a b : Fin 128 → EReal) (l : Fin 128) : EReal :=
  x l * c l + x ⟨(l.val + 128 - 112) % 128, Nat.mod_lt _ (by omega)⟩ * a l + x ⟨(l.val + 128 - 16) % 128, Nat.mod_lt _ (by omega)⟩ * b l

theorem hz : (![0, 0] : Fin 2 → Nat) = fun _ => 0 := funext fun a => by fin_cases a <;> rfl

/-! ## The stored values -/

section
variable (c a b s : FVec Ideal S512x128 .f32) (r : Fin 512) (l : Fin 128)

/-- A block of 128 columns turned. -/
def turned : FVec Ideal S512x128 .f32 := addf (addf (mulf s c) (mulf (dynamicRotate 1 112#32 none s rotates_S512x128_d1) a))
  (mulf (dynamicRotate 1 16#32 none s rotates_S512x128_d1) b)

theorem turned_apply : (turned c a b s (ix2 r l) : EReal) = rot (fun e => s (ix2 r e)) (fun e => c (ix2 r e)) (fun e => a (ix2 r e)) (fun e => b (ix2 r e)) l := by
  pointwise [turned]
  rfl

/-- A head's queries: turned and scaled. -/
def qhead : FVec Ideal S512x128 .bf16 := truncf .bf16 (mulf (turned c a b s) (broadcast S512x128 (Named.named κ "qscale" 0x3E16C740#32))) bitsLt_bf16_f32

theorem qhead_apply : (qhead c a b s (ix2 r l) : EReal) = turned c a b s (ix2 r l) * qs := by
  rw [← qscale_named]
  unfold qhead
  generalize turned c a b s = T
  pointwise []

/-- A head's keys: the projected part and the part common to all heads. -/
def khead : FVec Ideal S512x128 .bf16 := truncf .bf16 (addf c s) bitsLt_bf16_f32

theorem khead_apply : (khead c s (ix2 r l) : EReal) = c (ix2 r l) + s (ix2 r l) := by pointwise [khead]
end

theorem pay6_apply (v : FVec Ideal S512x384 .bf16) (g : FVec Ideal S1x384 .f32) (r : Fin 512) (d : Fin 384) :
    (k0_pay6 (F := Ideal) v g (ix2 r d) : EReal) = nrm n384 (fun j => v (ix2 r j)) (fun j => g (ix2 0 j)) d := by
  unfold nrm
  pointwise [k0_pay6]
theorem pay8_apply (v : FVec Ideal S512x256 .bf16) (g : FVec Ideal S1x256 .f32) (r : Fin 512) (d : Fin 256) :
    (k0_pay8 (F := Ideal) (k0_pay4 v) (k0_pay7 v) g (ix2 r d) : EReal) = nrm n256 (fun j => v (ix2 r j)) (fun j => g (ix2 0 j)) d := by
  unfold nrm
  pointwise [k0_pay8, k0_pay7, k0_pay4]
theorem pay9_apply (v : FVec Ideal S512x384 .bf16) (w : FVec Ideal S384x1024 .bf16) (r : Fin 512) (d : Fin 1024) :
    (k0_pay9 (F := Ideal) v w (ix2 r d) : EReal) = ∑ i : Fin 384, (v (ix2 r i) : EReal) * w (ix2 i d) := by pointwise [k0_pay9]
theorem pay10_apply (x s : FVec Ideal S512x256 .f32) (g : FVec Ideal S1x256 .f32) (w : FVec Ideal S256x1536 .bf16) (r : Fin 512) (d : Fin 1536) :
    (k0_pay10 (F := Ideal) x s g w (ix2 r d) : EReal) = ∑ i : Fin 256, (k0_pay8 x s g (ix2 r i) : EReal) * w (ix2 i d) := by
  unfold k0_pay10
  generalize k0_pay8 x s g = T
  pointwise []
theorem pay31_apply (v : FVec Ideal S512x1536 .f32) (r d : Fin 512) : (k0_pay31 v (ix2 r d) : EReal) = v (ix2 r ⟨1024 + d.val, by omega⟩) := by
  pointwise [k0_pay31]
theorem pay5_apply (v : FVec Ideal S512x128 .bf16) (r : Fin 512) (d : Fin 128) : (k0_pay5 (F := Ideal) v (ix2 r d) : EReal) = v (ix2 r d) := by pointwise [k0_pay5]
theorem pay1_eq (c : FVec Ideal S512x128 .f32) : k0_pay1 c = c := funext fun i => by idx_vars i; pointwise [k0_pay1]
theorem pay2_eq (c : FVec Ideal S512x128 .f32) : k0_pay2 c = c := funext fun i => by idx_vars i; pointwise [k0_pay2]
theorem pay3_eq (c : FVec Ideal S512x128 .f32) : k0_pay3 c = c := funext fun i => by idx_vars i; pointwise [k0_pay3]

/-! ## Cutting out columns -/

section
variable {N M o : ℕ} {e : EltTy}

theorem ld_cols (X : Vec Ideal ⟨2, ![512, N]⟩ e)
    (h : ∀ i, (![0, o] : Fin 2 → ℕ) i + (⟨2, ![512, M]⟩ : Shape).size i ≤ (⟨2, ![512, N]⟩ : Shape).size i) (r : Fin 512) (l : Fin M) (hl : o + l.val < N) :
    View.ld X (Rect.unit (s := ⟨2, ![512, N]⟩) ![0, o] (⟨2, ![512, M]⟩ : Shape).size h) (ix2 r l) = X (ix2 r ⟨o + l.val, hl⟩) := by
  refine congrArg X (funext fun k => Fin.ext ?_)
  match k with
  | ⟨0, _⟩ => show 0 + 1 * r.val = r.val; omega
  | ⟨1, _⟩ => show o + 1 * l.val = o + l.val; omega

theorem emb_cols (h : ∀ i, (![0, o] : Fin 2 → ℕ) i + (⟨2, ![512, M]⟩ : Shape).size i ≤ (⟨2, ![512, N]⟩ : Shape).size i) (r : Fin 512) (l : Fin M) (hl : o + l.val < N) :
    (Rect.unit (s := ⟨2, ![512, N]⟩) ![0, o] (⟨2, ![512, M]⟩ : Shape).size h).emb (ix2 r l) = ix2 r ⟨o + l.val, hl⟩ := funext fun k => Fin.ext <| by
  match k with
  | ⟨0, _⟩ => show 0 + 1 * r.val = r.val; omega
  | ⟨1, _⟩ => show o + 1 * l.val = o + l.val; omega

theorem slice_cols (Q : FVec Ideal ⟨2, ![512, N]⟩ .f32) (h : (⟨2, ![512, N]⟩ : Shape).Slices ![0, o] ⟨2, ![512, M]⟩) (r : Fin 512) (l : Fin M) (hl : o + l.val < N) :
    (extractStridedSlice ⟨2, ![512, M]⟩ ![0, o] Q h (ix2 r l) : EReal) = Q (ix2 r ⟨o + l.val, hl⟩) := by
  refine congrArg Q (funext fun k => Fin.ext ?_)
  match k with
  | ⟨0, _⟩ => show 0 + r.val = r.val; omega
  | ⟨1, _⟩ => rfl
end

/-! ## The blocks -/

section
variable (c a b : FVec Ideal S512x128 .f32) (y : S512x1024.Idx)

/-- A block of queries from the projected block, a block of keys from the projected block and the common part. -/
def qblock (Q : FVec Ideal S512x1024 .f32) : EReal :=
  rot (fun e => Q (ix2 (y 0) ⟨(y 1).val / 128 * 128 + e.val, by have : (y 1).val < 1024 := (y 1).isLt; omega⟩)) (fun e => c (ix2 (y 0) e)) (fun e => a (ix2 (y 0) e))
    (fun e => b (ix2 (y 0) e)) ⟨(y 1).val % 128, Nat.mod_lt _ (by omega)⟩ * qs
def kblock (K : FVec Ideal S512x1536 .f32) (R : FVec Ideal S512x128 .f32) : EReal :=
  K (ix2 (y 0) ⟨(y 1).val, by have : (y 1).val < 1024 := (y 1).isLt; omega⟩) + R (ix2 (y 0) ⟨(y 1).val % 128, Nat.mod_lt _ (by omega)⟩)

variable {o : ℕ}

theorem piece_q (cb : Fin 8) (ho : o = cb.val * 128) (h : ∀ i, (![0, o] : Fin 2 → ℕ) i + S512x128.size i ≤ S512x1024.size i)
    (hs : S512x1024.Slices ![0, o] S512x128) (Q : FVec Ideal S512x1024 .f32) (x : S512x128.Idx) :
    (qhead c a b (extractStridedSlice S512x128 ![0, o] Q hs) x : EReal) = (fun y => qblock c a b y Q) ((Rect.unit (s := S512x1024) ![0, o] S512x128.size h).emb x) := by
  subst ho
  idx_vars x
  rw [qhead_apply, turned_apply]
  refine (congrArg (· * qs) ?_).trans (congrArg (fun y => qblock c a b y Q) (emb_cols (M := 128) (N := 1024) h x0 x1 (by omega)).symm)
  have e5 : (cb.val * 128 + x1.val) % 128 = x1.val := by omega
  have e6 : (cb.val * 128 + x1.val) / 128 * 128 = cb.val * 128 := by omega
  refine congrArg₂ (fun x l => rot x _ _ _ l) (funext fun e => (slice_cols (M := 128) (N := 1024) Q hs x0 e (by omega)).trans ?_) (Fin.ext e5.symm)
  exact congrArg (fun q => Q (ix2 x0 q)) (Fin.ext (congrArg (· + e.val) e6.symm))

theorem piece_k (cb : Fin 8) (ho : o = cb.val * 128) (h : ∀ i, (![0, o] : Fin 2 → ℕ) i + S512x128.size i ≤ S512x1024.size i)
    (hs : S512x1536.Slices ![0, o] S512x128) (K : FVec Ideal S512x1536 .f32) (R : FVec Ideal S512x128 .f32) (x : S512x128.Idx) :
    (khead (extractStridedSlice S512x128 ![0, o] K hs) R x : EReal) = (fun y => kblock y K R) ((Rect.unit (s := S512x1024) ![0, o] S512x128.size h).emb x) := by
  subst ho
  idx_vars x
  rw [khead_apply]
  refine Eq.trans ?_ (congrArg (fun y => kblock y K R) (emb_cols (M := 128) (N := 1024) h x0 x1 (by omega)).symm)
  have e5 : (cb.val * 128 + x1.val) % 128 = x1.val := by omega
  exact congrArg₂ (· + ·) (slice_cols (M := 128) (N := 1536) K hs x0 x1 (by omega)) (congrArg (fun q => R (ix2 x0 q)) (Fin.ext e5.symm))
end

section
variable (p : Vec Ideal S512x1024 .bf16) (g : Vec Ideal S1x384 .f32) (g' : Vec Ideal S1x256 .f32) (w : Vec Ideal S384x1024 .bf16) (w' : Vec Ideal S256x1536 .bf16)
  (c a b : Vec Ideal S512x128 .f32)

/-- The projected queries, the projected keys and values, and the keys' common part. -/
def qproj : FVec Ideal S512x1024 .f32 := k0_pay39 p g g' w w' c a b
def kvproj : FVec Ideal S512x1536 .f32 := k0_pay40 p g g' w w' c a b
def common : FVec Ideal S512x128 .f32 := k0_pay41 p g g' w w' c a b

theorem out8_apply (y : S512x1024.Idx) : (out0_8 p g g' w w' c a b y : EReal) = qblock c a b y (qproj p g g' w w' c a b) := by
  have ec : k0_pay32 p g g' w w' c a b = c := (pay1_eq _).trans (View.ld_unit_zero hz _ _)
  have ea : k0_pay33 p g g' w w' c a b = a := (pay2_eq _).trans (View.ld_unit_zero hz _ _)
  have eb : k0_pay34 p g g' w w' c a b = b := (pay3_eq _).trans (View.ld_unit_zero hz _ _)
  refine View.canon_apply_of_pieces (Val := Elt Ideal) (S := S512x1024) (e := .bf16) (fun y => qblock c a b y (qproj p g g' w w' c a b)) _ ?_ y (cover0_8 _ _ _ _ _ _ _ _ y)
  rw [ec, ea, eb]
  simp only [List.forall_mem_cons]
  exact ⟨piece_q c a b 7 rfl _ _ _, piece_q c a b 6 rfl _ _ _, piece_q c a b 5 rfl _ _ _, piece_q c a b 4 rfl _ _ _, piece_q c a b 3 rfl _ slices_S512x1024_o0_384_S512x128 _,
    piece_q c a b 2 rfl _ _ _, piece_q c a b 1 rfl _ _ _, piece_q c a b 0 rfl _ _ _, List.forall_mem_nil _⟩

theorem out9_apply (y : S512x1024.Idx) : (out0_9 p g g' w w' c a b y : EReal) = kblock y (kvproj p g g' w w' c a b) (common p g g' w w' c a b) := by
  refine View.canon_apply_of_pieces (Val := Elt Ideal) (S := S512x1024) (e := .bf16) (fun y => kblock y (kvproj p g g' w w' c a b) (common p g g' w w' c a b)) _ ?_ y
    (cover0_9 _ _ _ _ _ _ _ _ y)
  simp only [List.forall_mem_cons]
  exact ⟨piece_k 7 rfl _ _ _ _, piece_k 6 rfl _ _ _ _, piece_k 5 rfl _ _ _ _, piece_k 4 rfl _ _ _ _, piece_k 3 rfl _ _ _ _,
    piece_k 2 rfl _ _ _ _, piece_k 1 rfl _ _ _ _, piece_k 0 rfl _ _ _ _, List.forall_mem_nil _⟩

theorem out10_apply (r d : Fin 512) : (out0_10 p g g' w w' c a b (ix2 r d) : EReal) = kvproj p g g' w w' c a b (ix2 r ⟨1024 + d.val, by omega⟩) := by
  unfold out0_10
  rw [View.canon_unit_zero hz]
  exact pay31_apply _ r d

theorem out11_apply (r : Fin 512) (d : Fin 384) : (out0_11 p g g' w w' c a b (ix2 r d) : EReal)
    = nrm n384 (fun j => p (ix2 r ⟨0 + j.val, by omega⟩)) (fun j => g (ix2 0 j)) d := by
  unfold out0_11 k0_pay37
  rw [View.canon_unit_zero hz, View.ld_unit_zero hz]
  refine (pay6_apply _ g r d).trans (congrArg (fun x => nrm n384 x _ d) (funext fun j => ?_))
  exact ld_cols (M := 384) (N := 1024) p _ r j (by omega)

theorem out12_apply (r : Fin 512) (d : Fin 256) : (out0_12 p g g' w w' c a b (ix2 r d) : EReal)
    = nrm n256 (fun j => p (ix2 r ⟨384 + j.val, by omega⟩)) (fun j => g' (ix2 0 j)) d := by
  unfold out0_12 k0_pay38 k0_pay35
  rw [View.canon_unit_zero hz, View.ld_unit_zero hz]
  refine (pay8_apply _ g' r d).trans (congrArg (fun x => nrm n256 x _ d) (funext fun j => ?_))
  exact ld_cols (M := 256) (N := 1024) p _ r j (by omega)

theorem qproj_apply (r : Fin 512) (d : Fin 1024) : (qproj p g g' w w' c a b (ix2 r d) : EReal)
    = ∑ i : Fin 384, nrm n384 (fun j => p (ix2 r ⟨0 + j.val, by omega⟩)) (fun j => g (ix2 0 j)) i * w (ix2 i d) := by
  unfold qproj k0_pay39 k0_pay37
  rw [View.ld_unit_zero hz, View.ld_unit_zero hz]
  refine (pay9_apply _ w r d).trans (Finset.sum_congr rfl fun i _ => congrArg (· * _) ?_)
  refine (pay6_apply _ g r i).trans (congrArg (fun x => nrm n384 x _ i) (funext fun j => ?_))
  exact ld_cols (M := 384) (N := 1024) p _ r j (by omega)

theorem kvproj_apply (r : Fin 512) (d : Fin 1536) : (kvproj p g g' w w' c a b (ix2 r d) : EReal)
    = ∑ i : Fin 256, nrm n256 (fun j => p (ix2 r ⟨384 + j.val, by omega⟩)) (fun j => g' (ix2 0 j)) i * w' (ix2 i d) := by
  unfold kvproj k0_pay40 k0_pay38 k0_pay35
  rw [View.ld_unit_zero hz, View.ld_unit_zero hz]
  refine (pay10_apply _ _ g' w' r d).trans (Finset.sum_congr rfl fun i _ => congrArg (· * _) ?_)
  refine (pay8_apply _ g' r i).trans (congrArg (fun x => nrm n256 x _ i) (funext fun j => ?_))
  exact ld_cols (M := 256) (N := 1024) p _ r j (by omega)

theorem common_apply (r : Fin 512) (l : Fin 128) : (common p g g' w w' c a b (ix2 r l) : EReal)
    = rot (fun e => p (ix2 r ⟨640 + e.val, by omega⟩)) (fun e => c (ix2 r e)) (fun e => a (ix2 r e)) (fun e => b (ix2 r e)) l := by
  unfold common k0_pay41 k0_pay32 k0_pay33 k0_pay34 k0_pay36
  rw [pay1_eq, pay2_eq, pay3_eq, View.ld_unit_zero hz, View.ld_unit_zero hz, View.ld_unit_zero hz]
  refine (turned_apply c a b _ r l).trans (congrArg (fun x => rot x _ _ _ l) (funext fun e => (pay5_apply _ r e).trans ?_))
  exact ld_cols (M := 128) (N := 1024) p _ r e (by omega)
end

end Cert.Kernel14Ideal.MlaFwdPrep

end
-- ==== Proof.MlaFwdPrep.lean ====
/- The preparation of the latent attention's operands: what the host hands to the kernel, and the five whole result arrays entry by
entry. -/
module

public import proofs.«01_k».proof.Proof.MlaPrep
public import proofs.«01_k».proof.Proof.MlaFwdPrepRead

@[expose] public section

set_option maxRecDepth 16384

noncomputable section

namespace Cert.Kernel14Ideal.MlaFwdPrep

open Idealize.ShloMosaic Idealize.ShloMosaic.Pointwise Idealize.SL.Sem Cert.Kernel14Ideal Cert.Kernel14Ideal.Gen
open Idealize.ShloMosaic.Pipeline (Dat)
open Cert.Kernel6Ideal.MlaPrep (angle tabC tabA tabB tabC_apply tabA_apply tabB_apply hWq hWq_apply hWk hWk_left hWk_right at_all)

/-! ## The mathematics -/

/-- A head's 128 entries, those from 64 to 95 turned in sixteen pairs. -/
def rope (x : Fin 128 → EReal) (C S : Fin 16 → EReal) (d : Fin 128) : EReal :=
  if d.val < 64 then x d
  else if h : d.val < 80 then x d * C ⟨d.val - 64, by omega⟩ - x ⟨d.val + 16, by omega⟩ * S ⟨d.val - 64, by omega⟩
  else if h : d.val < 96 then x ⟨d.val - 16, by omega⟩ * S ⟨d.val - 80, by omega⟩ + x d * C ⟨d.val - 80, by omega⟩
  else x d

abbrev cosT : FVec Ideal S8192x16 .f32 := Host.cos angle
abbrev sinT : FVec Ideal S8192x16 .f32 := Host.sin angle

/-- Turning by the tables and the two rotated copies is turning by pairs. -/
theorem rot_tables (x c a b : Fin 128 → EReal) (l : Fin 8192) (hc : ∀ z, c z = tabC cosT (ix2 l z)) (ha : ∀ z, a z = -(tabA sinT (ix2 l z) : EReal))
    (hb : ∀ z, b z = -(tabB sinT (ix2 l z) : EReal)) (d : Fin 128) : rot x c a b d = rope x (fun k => cosT (ix2 l k)) (fun k => sinT (ix2 l k)) d := by
  unfold rot rope
  rw [hc, ha, hb, tabC_apply, tabA_apply, tabB_apply]
  by_cases h1 : d.val < 64
  · rw [dif_neg (by omega), dif_neg (by omega), dif_neg (by omega), dif_neg (by omega), if_pos h1, neg_zero, mul_zero, mul_zero, add_zero, add_zero, mul_one]
  rw [if_neg h1]
  by_cases h2 : d.val < 80
  · rw [dif_pos (by omega), dif_pos (by omega), dif_neg (by omega), dif_pos h2, neg_zero, mul_zero, add_zero, mul_neg, ← sub_eq_add_neg]
    exact congrArg (fun q => _ - x q * _) (Fin.ext (by dsimp only <;> omega))
  rw [dif_neg h2]
  by_cases h3 : d.val < 96
  · rw [dif_neg (by omega), dif_pos (by omega), dif_neg (by omega), dif_pos (by omega), dif_pos h3, neg_zero, mul_zero, add_zero, neg_neg, add_comm]
    exact congrArg (fun q => x q * _ + _) (Fin.ext (by dsimp only <;> omega))
  · rw [dif_neg (by omega), dif_neg (by omega), dif_neg (by omega), dif_neg (by omega), dif_neg h3, neg_zero, mul_zero, mul_zero, add_zero, add_zero, mul_one]

section
variable (A0 : FVec Ideal S8192x384 .f32) (A1 : FVec Ideal S8192x256 .f32) (A2 : FVec Ideal S8192x32 .f32) (A3 : FVec Ideal S384 .f32) (A4 : FVec Ideal S256 .f32)
  (A5 : FVec Ideal S384x768 .f32) (A6 : FVec Ideal S256x1024 .f32) (l : Fin 8192)

def cq (d : Fin 384) : EReal := nrm n384 (fun j => A0 (ix2 l j)) (fun j => A3 (ix1 j)) d
def ckv (d : Fin 256) : EReal := nrm n256 (fun j => A1 (ix2 l j)) (fun j => A4 (ix1 j)) d
def qrow (h : Fin 8) (e : Fin 128) : EReal := if he : e.val < 96 then ∑ i, cq A0 A3 l i * A5 (ix2 i ⟨h.val * 96 + e.val, by omega⟩) else 0
def kvrow (j : Fin 1024) : EReal := ∑ i, ckv A1 A4 l i * A6 (ix2 i j)
def krow (e : Fin 128) : EReal := if he : 64 ≤ e.val ∧ e.val < 96 then A2 (ix2 l ⟨e.val - 64, by omega⟩) else 0

abbrev entry (j : Fin 1024) : Fin 128 := ⟨j.val % 128, Nat.mod_lt _ (by omega)⟩
abbrev turn (x : Fin 128 → EReal) : Fin 128 → EReal := rope x (fun k => cosT (ix2 l k)) (fun k => sinT (ix2 l k))

def specQ : FVec Ideal S8192x1024 .bf16 := fun i => turn (i 0) (qrow A0 A3 A5 (i 0) ⟨(i 1).val / 128, by have : (i 1).val < 1024 := (i 1).isLt; omega⟩) (entry (i 1)) * qs
def specK : FVec Ideal S8192x1024 .bf16 := fun i =>
  (if (i 1).val % 128 < 64 then kvrow A1 A4 A6 (i 0) (i 1) else 0) + turn (i 0) (krow A2 (i 0)) (entry (i 1))
def specV : FVec Ideal S8192x512 .bf16 := fun i =>
  kvrow A1 A4 A6 (i 0) ⟨(i 1).val / 64 * 128 + 64 + (i 1).val % 64, by have : (i 1).val < 512 := (i 1).isLt; omega⟩
def specCq : FVec Ideal S8192x384 .bf16 := fun i => cq A0 A3 (i 0) (i 1)
def specCkv : FVec Ideal S8192x256 .bf16 := fun i => ckv A1 A4 (i 0) (i 1)

/-! ## The host's lines -/

/-- The three compressed parts side by side, padded to 1024 columns. -/
def packed : FVec Ideal S8192x1024 .bf16 := truncf .bf16 (concatenate S8192x1024 1
  [⟨S8192x384, A0⟩, ⟨S8192x256, A1⟩, ⟨S8192x64, broadcastInDim S8192x64 ![] bcast_S_S8192x64 (constant S_ .f32 0x00000000#32)⟩, ⟨S8192x32, A2⟩,
    ⟨S8192x288, broadcastInDim S8192x288 ![] bcast_S_S8192x288 (constant S_ .f32 0x00000000#32)⟩]
  concatenates_S8192x384_S8192x256_S8192x64_S8192x32_S8192x288_S8192x1024_d1) bitsLt_bf16_f32

theorem packed_q (j : Fin 384) : (packed A0 A1 A2 (ix2 l ⟨0 + j.val, by omega⟩) : EReal) = A0 (ix2 l j) := by
  pointwise [packed]
theorem packed_kv (j : Fin 256) : (packed A0 A1 A2 (ix2 l ⟨384 + j.val, by omega⟩) : EReal) = A1 (ix2 l j) := by
  pointwise [packed]
theorem packed_r (e : Fin 128) : (packed A0 A1 A2 (ix2 l ⟨640 + e.val, by omega⟩) : EReal) = krow A2 l e := by
  pointwise [packed]
  unfold krow
  rw [dif_neg (by omega), dif_neg (by omega)]
  rcases (by omega : e.val < 64 ∨ (64 ≤ e.val ∧ e.val < 96) ∨ 96 ≤ e.val) with k | k | k
  · rw [dif_pos (by omega), dif_neg (by omega)]
  · rw [dif_neg (by omega), dif_pos (by omega), dif_pos k]
    exact congrArg A2 (congrArg _ (Fin.ext (by dsimp only <;> omega)))
  · rw [dif_neg (by omega), dif_neg (by omega), dif_neg (by omega)]
end

section
variable (m : (ℓ : Loc nD τ sig) → Buf (Elt Ideal) ℓ) (c : Dev nD)
abbrev a0 : FVec Ideal S8192x384 .f32 := m ((c.tc : Thread nD τ).loc main_arg0)
abbrev a1 : FVec Ideal S8192x256 .f32 := m ((c.tc : Thread nD τ).loc main_arg1)
abbrev a2 : FVec Ideal S8192x32 .f32 := m ((c.tc : Thread nD τ).loc main_arg2)
abbrev a3 : FVec Ideal S384 .f32 := m ((c.tc : Thread nD τ).loc main_arg3)
abbrev a4 : FVec Ideal S256 .f32 := m ((c.tc : Thread nD τ).loc main_arg4)
abbrev a5 : FVec Ideal S384x768 .f32 := m ((c.tc : Thread nD τ).loc main_arg5)
abbrev a6 : FVec Ideal S256x1024 .f32 := m ((c.tc : Thread nD τ).loc main_arg6)

theorem V_v3 : (V m c main_v3 : FVec Ideal S8192x1024 .bf16) = packed (a0 m c) (a1 m c) (a2 m c) := by
  unfold V hostOps0
  after_results_simp
  rfl
theorem V_v18 : (V m c main_v18 : FVec Ideal S1x384 .f32) = broadcastInDim S1x384 ![1] bcast_S384_S1x384_1 (a3 m c) := by
  unfold V hostOps0
  after_results_simp
theorem V_v19 : (V m c main_v19 : FVec Ideal S1x256 .f32) = broadcastInDim S1x256 ![1] bcast_S256_S1x256_1 (a4 m c) := by
  unfold V hostOps0
  after_results_simp
theorem V_v8 : transpose Cert.Kernel6Ideal.S1024x384 [1, 0] (V m c main_v8 : FVec Ideal S384x1024 .bf16) Cert.Kernel6Ideal.Facts₀.transposes_S384x1024_S1024x384_1_0 = hWq (a5 m c) := by
  unfold V hostOps0
  after_results_simp
  rfl
theorem V_v17 : transpose Cert.Kernel6Ideal.S1536x256 [1, 0] (V m c main_v17 : FVec Ideal S256x1536 .bf16) Cert.Kernel6Ideal.Facts₀.transposes_S256x1536_S1536x256_1_0 = hWk (a6 m c) := by
  unfold V hostOps0
  after_results_simp
  rfl
theorem V_v44 : (V m c main_v44 : FVec Ideal S8192x128 .f32) = tabC cosT := by
  unfold V hostOps0
  after_results_simp
  rfl
theorem V_v52 : Host.negf (V m c main_v52 : FVec Ideal S8192x128 .f32) = tabA sinT := by
  unfold V hostOps0
  after_results_simp
  rfl
theorem V_v58 : Host.negf (V m c main_v58 : FVec Ideal S8192x128 .f32) = tabB sinT := by
  unfold V hostOps0
  after_results_simp
  rfl

/-! ## The blocks -/

theorem lt16 (t : Fin cfg0.N) : t.val < 16 := lt_of_lt_of_eq t.isLt N_0

/-- Row `r` of block `t` as a row of the whole array. -/
abbrev row (t : Fin cfg0.N) (r : Fin 512) : Fin 8192 := ⟨t.val * 512 + r.val, by have := lt16 t; omega⟩

/-- The row windows walk down the rows, all columns at once; the weights' and gains' stay. -/
abbrev Walks (t : Fin grid0.N) : Prop := (win0_0.index t 0 = t.val ∧ win0_0.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0)
theorem walks : ∀ t : Fin grid0.N, Walks t := by decide +kernel

theorem at_row {w : ℕ} {t : Fin cfg0.N} {r : Fin 512} {l : Fin w} {i : (⟨2, ![8192, w]⟩ : Shape).Idx} {a b : ℕ}
    (h0 : (i 0).val = a * 512 + 1 * r.val) (h1 : (i 1).val = b * w + 1 * l.val) (h : a = t.val ∧ b = 0) : i = ix2 (row t r) l := by
  obtain ⟨rfl, rfl⟩ := h
  refine funext fun k => Fin.ext ?_
  match k with
  | ⟨0, _⟩ => exact h0.trans (by show _ = t.val * 512 + r.val; omega)
  | ⟨1, _⟩ => exact h1.trans (by show _ = l.val; omega)

/-- Every row is a row of some block. -/
theorem row_of (R : Fin 8192) : ∃ (t : Fin cfg0.N) (r : Fin 512), row t r = R := by
  have hN : cfg0.N = 16 := N_0
  exact ⟨⟨R.val / 512, by omega⟩, ⟨R.val % 512, by omega⟩, Fin.ext (by show R.val / 512 * 512 + R.val % 512 = R.val; omega)⟩

variable (t : Fin cfg0.N) (r : Fin 512)

theorem x0_apply (k : Fin 1024) : (iblk m c 0 t (ix2 r k) : EReal) = packed (a0 m c) (a1 m c) (a2 m c) (ix2 (row t r) k) :=
  (congrArg (V m c main_v3) (at_row rfl rfl (walks t).1)).trans (congrFun (V_v3 m c) _)
theorem x1_apply (d : Fin 384) : (iblk m c 1 t (ix2 0 d) : EReal) = a3 m c (ix1 d) := by
  refine (congrArg (V m c main_v18) (at_all rfl rfl (walks t).2.2.2.2.2.2.2.2.2.1)).trans ((congrFun (V_v18 m c) _).trans ?_)
  pointwise []
theorem x2_apply (d : Fin 256) : (iblk m c 2 t (ix2 0 d) : EReal) = a4 m c (ix1 d) := by
  refine (congrArg (V m c main_v19) (at_all rfl rfl (walks t).2.2.2.2.2.2.2.2.2.2.1)).trans ((congrFun (V_v19 m c) _).trans ?_)
  pointwise []
theorem x3_apply (i : Fin 384) (d : Fin 1024) : (iblk m c 3 t (ix2 i d) : EReal) = hWq (a5 m c) (ix2 d i) := by
  refine (congrArg (V m c main_v8) (at_all rfl rfl (walks t).2.2.2.2.2.2.2.2.2.2.2.1)).trans (Eq.trans ?_ (congrFun (V_v8 m c) (ix2 d i)))
  generalize V m c main_v8 = T
  pointwise []
theorem x4_apply (i : Fin 256) (d : Fin 1536) : (iblk m c 4 t (ix2 i d) : EReal) = hWk (a6 m c) (ix2 d i) := by
  refine (congrArg (V m c main_v17) (at_all rfl rfl (walks t).2.2.2.2.2.2.2.2.2.2.2.2)).trans (Eq.trans ?_ (congrFun (V_v17 m c) (ix2 d i)))
  generalize V m c main_v17 = T
  pointwise []
theorem x5_apply (z : Fin 128) : (iblk m c 5 t (ix2 r z) : EReal) = tabC cosT (ix2 (row t r) z) :=
  (congrArg (V m c main_v44) (at_row rfl rfl (walks t).2.1)).trans (congrFun (V_v44 m c) _)
theorem x6_apply (z : Fin 128) : (iblk m c 6 t (ix2 r z) : EReal) = -(tabA sinT (ix2 (row t r) z) : EReal) :=
  (congrArg (V m c main_v52) (at_row rfl rfl (walks t).2.2.1)).trans ((neg_neg (_ : EReal)).symm.trans (congrArg (- · : EReal → EReal) (congrFun (V_v52 m c) _)))
theorem x7_apply (z : Fin 128) : (iblk m c 7 t (ix2 r z) : EReal) = -(tabB sinT (ix2 (row t r) z) : EReal) :=
  (congrArg (V m c main_v58) (at_row rfl rfl (walks t).2.2.2.1)).trans ((neg_neg (_ : EReal)).symm.trans (congrArg (- · : EReal → EReal) (congrFun (V_v58 m c) _)))

/-! ## The results' blocks -/

theorem cq_block (d : Fin 384) : nrm n384 (fun j => (iblk m c 0 t (ix2 r ⟨0 + j.val, by omega⟩) : EReal)) (fun j => (iblk m c 1 t (ix2 0 j) : EReal)) d
    = cq (a0 m c) (a3 m c) (row t r) d :=
  congrArg₂ (fun x g => nrm n384 x g d) (funext fun j => (x0_apply m c t r _).trans (packed_q _ _ _ _ j)) (funext fun j => x1_apply m c t j)
theorem ckv_block (d : Fin 256) : nrm n256 (fun j => (iblk m c 0 t (ix2 r ⟨384 + j.val, by omega⟩) : EReal)) (fun j => (iblk m c 2 t (ix2 0 j) : EReal)) d
    = ckv (a1 m c) (a4 m c) (row t r) d :=
  congrArg₂ (fun x g => nrm n256 x g d) (funext fun j => (x0_apply m c t r _).trans (packed_kv _ _ _ _ j)) (funext fun j => x2_apply m c t j)

abbrev atBlock {α : Type} (f : Vec Ideal S512x1024 .bf16 → Vec Ideal S1x384 .f32 → Vec Ideal S1x256 .f32 → Vec Ideal S384x1024 .bf16 → Vec Ideal S256x1536 .bf16 →
    Vec Ideal S512x128 .f32 → Vec Ideal S512x128 .f32 → Vec Ideal S512x128 .f32 → α) : α :=
  f (iblk m c 0 t) (iblk m c 1 t) (iblk m c 2 t) (iblk m c 3 t) (iblk m c 4 t) (iblk m c 5 t) (iblk m c 6 t) (iblk m c 7 t)

theorem q_block (h : Fin 8) (e : Fin 128) (d : Fin 1024) (hd : d.val = h.val * 128 + e.val) :
    (atBlock m c t qproj (ix2 r d) : EReal) = qrow (a0 m c) (a3 m c) (a5 m c) (row t r) h e := by
  refine (qproj_apply _ _ _ _ _ _ _ _ r d).trans ?_
  unfold qrow
  split_ifs with he
  · refine Finset.sum_congr rfl fun i _ => congrArg₂ (· * ·) (cq_block m c t r i) ((x3_apply m c t i d).trans ((hWq_apply _ d i).trans ?_))
    rw [dif_pos (by omega)]
    exact congrArg (a5 m c) (congrArg _ (Fin.ext (by dsimp only <;> omega)))
  · refine Finset.sum_eq_zero fun i _ => (congrArg (_ * ·) ((x3_apply m c t i d).trans ((hWq_apply _ d i).trans ?_))).trans (mul_zero _)
    rw [dif_neg (by omega)]

theorem k_block (d : Fin 1536) (hd : d.val < 1024) :
    (atBlock m c t kvproj (ix2 r d) : EReal) = if d.val % 128 < 64 then kvrow (a1 m c) (a4 m c) (a6 m c) (row t r) ⟨d.val, hd⟩ else 0 := by
  refine (kvproj_apply _ _ _ _ _ _ _ _ r d).trans ?_
  split_ifs with he
  · refine Finset.sum_congr rfl fun i _ => congrArg₂ (· * ·) (ckv_block m c t r i) ((x4_apply m c t i d).trans ((hWk_left _ d i hd).trans ?_))
    rw [if_pos he]
  · refine Finset.sum_eq_zero fun i _ => (congrArg (_ * ·) ((x4_apply m c t i d).trans ((hWk_left _ d i hd).trans ?_))).trans (mul_zero _)
    rw [if_neg he]

theorem v_block (d : Fin 512) : (atBlock m c t kvproj (ix2 r ⟨1024 + d.val, by omega⟩) : EReal)
    = kvrow (a1 m c) (a4 m c) (a6 m c) (row t r) ⟨d.val / 64 * 128 + 64 + d.val % 64, by omega⟩ := by
  refine (kvproj_apply _ _ _ _ _ _ _ _ r _).trans ?_
  refine Finset.sum_congr rfl fun i _ => congrArg₂ (· * ·) (ckv_block m c t r i) ((x4_apply m c t i _).trans ((hWk_right _ _ i (by dsimp only <;> omega)).trans ?_))
  exact congrArg (a6 m c) (congrArg _ (Fin.ext (by dsimp only <;> omega)))

theorem common_block (e : Fin 128) : (atBlock m c t common (ix2 r e) : EReal) = turn (row t r) (krow (a2 m c) (row t r)) e :=
  (common_apply _ _ _ _ _ _ _ _ r e).trans ((rot_tables _ _ _ _ (row t r) (x5_apply m c t r) (x6_apply m c t r) (x7_apply m c t r) e).trans
    (congrArg (fun x => turn (row t r) x e) (funext fun z => (x0_apply m c t r _).trans (packed_r _ _ _ _ z))))
end

/-! ## The result arrays -/

section
variable (m : (ℓ : Loc nD τ sig) → Buf (Elt Ideal) ℓ) (c : Dev nD)
theorem res8 : (dats m 0 c).arrAt 8 cfg0.N = specQ (a0 m c) (a3 m c) (a5 m c) := funext fun i => by
  idx_vars i
  obtain ⟨t, r, rfl⟩ := row_of i0
  have h := congrFun (Value.blocks8 m c t (flush0_8 t)) (ix2 r i1)
  rw [Value.flushed8] at h
  refine Eq.trans (congrArg ((dats m 0 c).arrAt 8 cfg0.N) (at_row rfl rfl (walks t).2.2.2.2.1).symm) (h.trans ((out8_apply _ _ _ _ _ _ _ _ (ix2 r i1)).trans ?_))
  refine congrArg (· * qs) ((rot_tables _ _ _ _ (row t r) (x5_apply m c t r) (x6_apply m c t r) (x7_apply m c t r) _).trans ?_)
  exact congrArg (fun x => turn (row t r) x (entry i1)) (funext fun e => q_block m c t r ⟨i1.val / 128, by omega⟩ e _ rfl)
theorem res9 : (dats m 0 c).arrAt 9 cfg0.N = specK (a1 m c) (a2 m c) (a4 m c) (a6 m c) := funext fun i => by
  idx_vars i
  obtain ⟨t, r, rfl⟩ := row_of i0
  have h := congrFun (Value.blocks9 m c t (flush0_9 t)) (ix2 r i1)
  rw [Value.flushed9] at h
  refine Eq.trans (congrArg ((dats m 0 c).arrAt 9 cfg0.N) (at_row rfl rfl (walks t).2.2.2.2.2.1).symm) (h.trans ((out9_apply _ _ _ _ _ _ _ _ (ix2 r i1)).trans ?_))
  exact congrArg₂ (· + ·) (k_block m c t r ⟨i1.val, by omega⟩ i1.isLt) (common_block m c t r (entry i1))
theorem res10 : (dats m 0 c).arrAt 10 cfg0.N = specV (a1 m c) (a4 m c) (a6 m c) := funext fun i => by
  idx_vars i
  obtain ⟨t, r, rfl⟩ := row_of i0
  have h := congrFun (Value.blocks10 m c t (flush0_10 t)) (ix2 r i1)
  rw [Value.flushed10] at h
  refine Eq.trans (congrArg ((dats m 0 c).arrAt 10 cfg0.N) (at_row rfl rfl (walks t).2.2.2.2.2.2.1).symm) (h.trans ((out10_apply _ _ _ _ _ _ _ _ r i1).trans ?_))
  exact v_block m c t r i1
theorem res11 : (dats m 0 c).arrAt 11 cfg0.N = specCq (a0 m c) (a3 m c) := funext fun i => by
  idx_vars i
  obtain ⟨t, r, rfl⟩ := row_of i0
  have h := congrFun (Value.blocks11 m c t (flush0_11 t)) (ix2 r i1)
  rw [Value.flushed11] at h
  refine Eq.trans (congrArg ((dats m 0 c).arrAt 11 cfg0.N) (at_row rfl rfl (walks t).2.2.2.2.2.2.2.1).symm) (h.trans ((out11_apply _ _ _ _ _ _ _ _ r i1).trans ?_))
  exact cq_block m c t r i1
theorem res12 : (dats m 0 c).arrAt 12 cfg0.N = specCkv (a1 m c) (a4 m c) := funext fun i => by
  idx_vars i
  obtain ⟨t, r, rfl⟩ := row_of i0
  have h := congrFun (Value.blocks12 m c t (flush0_12 t)) (ix2 r i1)
  rw [Value.flushed12] at h
  refine Eq.trans (congrArg ((dats m 0 c).arrAt 12 cfg0.N) (at_row rfl rfl (walks t).2.2.2.2.2.2.2.2.1).symm) (h.trans ((out12_apply _ _ _ _ _ _ _ _ r i1).trans ?_))
  exact ckv_block m c t r i1
end

end Cert.Kernel14Ideal.MlaFwdPrep

end
-- ==== Proof.MlaFwdPrepClaims.lean ====
/- The reference of the latent attention's preparation, entry by entry, and the kernel against it: on all arguments the five results are
equal. -/
module

public import proofs.«01_k».proof.Defs
public import proofs.«01_k».proof.Proof.Gen.Reference14Ideal.Run
public import proofs.«01_k».proof.Proof.MlaFwdPrep

@[expose] public section

set_option maxRecDepth 16384

noncomputable section

namespace Cert.Reference14Ideal.MlaFwdPrep

open Idealize.ShloMosaic Idealize.ShloMosaic.Pointwise Idealize.SL.Sem Cert.Reference14Ideal Cert.Reference14Ideal.Gen
open Cert.Kernel6Ideal.MlaPrep (wide wide_apply hV hV_apply)
open Cert.Kernel14Ideal.MlaFwdPrep

section
variable (A0 : FVec Ideal S8192x384 .f32) (A1 : FVec Ideal S8192x256 .f32) (A2 : FVec Ideal S8192x32 .f32) (A3 : FVec Ideal S384 .f32) (A4 : FVec Ideal S256 .f32)
  (A5 : FVec Ideal S384x768 .f32) (A6 : FVec Ideal S256x1024 .f32) (C S : FVec Ideal S8192x16 .f32) (l : Fin 8192) (h : Fin 8)

/-! ## The norms and the projections -/

def normQ : FVec Ideal S8192x384 .f32 := mulf (mulf A0 (broadcastInDim S8192x384 ![0, 1] bcast_S8192x1_S8192x384_0_1 (Host.rsqrt (addf (Host.divf
  (broadcastInDim S8192x1 ![0] bcast_S8192_S8192x1_0 (Host.reduceAdd (mulf A0 A0) (constant S_ .f32 0x00000000#32) reducesTo_S8192x384_S8192_d1 h_S_))
  (broadcastInDim S8192x1 ![] bcast_S_S8192x1 (constant S_ .f32 0x43C00000#32))) (broadcastInDim S8192x1 ![] bcast_S_S8192x1 (constant S_ .f32 0x358637BD#32))))))
  (broadcastInDim S8192x384 ![0, 1] bcast_S1x384_S8192x384_0_1 (broadcastInDim S1x384 ![1] bcast_S384_S1x384_1 A3))
def normKV : FVec Ideal S8192x256 .f32 := mulf (mulf A1 (broadcastInDim S8192x256 ![0, 1] bcast_S8192x1_S8192x256_0_1 (Host.rsqrt (addf (Host.divf
  (broadcastInDim S8192x1 ![0] bcast_S8192_S8192x1_0 (Host.reduceAdd (mulf A1 A1) (constant S_ .f32 0x00000000#32) reducesTo_S8192x256_S8192_d1 h_S_))
  (broadcastInDim S8192x1 ![] bcast_S_S8192x1 (constant S_ .f32 0x43800000#32))) (broadcastInDim S8192x1 ![] bcast_S_S8192x1 (constant S_ .f32 0x358637BD#32))))))
  (broadcastInDim S8192x256 ![0, 1] bcast_S1x256_S8192x256_0_1 (broadcastInDim S1x256 ![1] bcast_S256_S1x256_1 A4))

theorem normQ_apply (d : Fin 384) : (normQ A0 A3 (ix2 l d) : EReal) = cq A0 A3 l d := by
  unfold cq nrm
  pointwise [normQ]
theorem normKV_apply (d : Fin 256) : (normKV A1 A4 (ix2 l d) : EReal) = ckv A1 A4 l d := by
  unfold ckv nrm
  pointwise [normKV]

def projQ : FVec Ideal S8192x8x96 .f32 := shapeCast _ (Host.dotGeneral dot_S8192x384_S384x768_S8192x768_1_0_0_1_n_n none (normQ A0 A3) A5) shapeCasts_S8192x768_S8192x8x96
def projKV : FVec Ideal S8192x8x128 .f32 := shapeCast _ (Host.dotGeneral dot_S8192x256_S256x1024_S8192x1024_1_0_0_1_n_n none (normKV A1 A4) A6) shapeCasts_S8192x1024_S8192x8x128

theorem projQ_apply (e : Fin 96) : (projQ A0 A3 A5 (ix3 l h e) : EReal) = qrow A0 A3 A5 l h ⟨e.val, by omega⟩ := by
  unfold qrow
  rw [dif_pos e.isLt]
  refine Eq.trans ?_ (Finset.sum_congr rfl fun i _ => congrArg (· * _) (normQ_apply A0 A3 l i))
  unfold projQ
  generalize normQ A0 A3 = T
  pointwise []
theorem projKV_apply (e : Fin 128) : (projKV A1 A4 A6 (ix3 l h e) : EReal) = kvrow A1 A4 A6 l ⟨h.val * 128 + e.val, by omega⟩ := by
  unfold kvrow
  refine Eq.trans ?_ (Finset.sum_congr rfl fun i _ => congrArg (· * _) (normKV_apply A1 A4 l i))
  unfold projKV
  generalize normKV A1 A4 = T
  pointwise []

/-! ## The rotation -/

section
variable (X : FVec Ideal S8192x8x32 .f32) (Y : FVec Ideal S8192x1x32 .f32)

abbrev one (T : FVec Ideal S8192x16 .f32) : FVec Ideal S8192x1x16 .f32 := broadcastInDim S8192x1x16 ![0, 2] bcast_S8192x16_S8192x1x16_0_2 T
abbrev all (T : FVec Ideal S8192x16 .f32) : FVec Ideal S8192x8x16 .f32 := broadcastInDim S8192x8x16 ![0, 1, 2] bcast_S8192x1x16_S8192x8x16_0_1_2 (one T)
abbrev lo : FVec Ideal S8192x8x16 .f32 := extractStridedSlice S8192x8x16 ![0, 0, 0] X slices_S8192x8x32_S8192x8x16_0_0_0
abbrev hi : FVec Ideal S8192x8x16 .f32 := extractStridedSlice S8192x8x16 ![0, 0, 16] X slices_S8192x8x32_S8192x8x16_0_0_16
abbrev lo1 : FVec Ideal S8192x1x16 .f32 := extractStridedSlice S8192x1x16 ![0, 0, 0] Y slices_S8192x1x32_S8192x1x16_0_0_0
abbrev hi1 : FVec Ideal S8192x1x16 .f32 := extractStridedSlice S8192x1x16 ![0, 0, 16] Y slices_S8192x1x32_S8192x1x16_0_0_16

def ropeR : FVec Ideal S8192x8x32 .f32 := concatenate S8192x8x32 2 [⟨S8192x8x16, subf (mulf (lo X) (all C)) (mulf (hi X) (all S))⟩,
  ⟨S8192x8x16, addf (mulf (lo X) (all S)) (mulf (hi X) (all C))⟩] concatenates_S8192x8x16_S8192x8x16_S8192x8x32_d2
def ropeK : FVec Ideal S8192x8x32 .f32 := broadcastInDim S8192x8x32 ![0, 1, 2] bcast_S8192x1x32_S8192x8x32_0_1_2
  (concatenate S8192x1x32 2 [⟨S8192x1x16, subf (mulf (lo1 Y) (one C)) (mulf (hi1 Y) (one S))⟩,
    ⟨S8192x1x16, addf (mulf (lo1 Y) (one S)) (mulf (hi1 Y) (one C))⟩] concatenates_S8192x1x16_S8192x1x16_S8192x1x32_d2)

theorem ropeR_apply (e : Fin 32) (x : Fin 128 → EReal) (hx : ∀ e : Fin 32, (X (ix3 l h e) : EReal) = x ⟨64 + e.val, by omega⟩) (d : Fin 128) (hd : d.val = 64 + e.val) :
    (ropeR C S X (ix3 l h e) : EReal) = rope x (fun k => C (ix2 l k)) (fun k => S (ix2 l k)) d := by
  rw [show d = ⟨64 + e.val, by omega⟩ from Fin.ext hd]
  pointwise [ropeR]
  unfold rope
  rw [if_neg (show ¬ (64 + e.val < 64) by omega)]
  by_cases k : e.val < 16
  · rw [dif_pos k, dif_pos (by dsimp only; omega), hx, hx]
    refine congrArg₂ (· - ·) (congrArg₂ (· * ·) (congrArg x (Fin.ext ?_)) (congrArg C (congrArg _ (Fin.ext ?_))))
      (congrArg₂ (· * ·) (congrArg x (Fin.ext ?_)) (congrArg S (congrArg _ (Fin.ext ?_)))) <;> dsimp only <;> omega
  · rw [dif_neg k, dif_neg (by dsimp only; omega), dif_pos (by dsimp only; omega), hx, hx]
    refine congrArg₂ (· + ·) (congrArg₂ (· * ·) (congrArg x (Fin.ext ?_)) (congrArg S (congrArg _ (Fin.ext ?_))))
      (congrArg₂ (· * ·) (congrArg x (Fin.ext ?_)) (congrArg C (congrArg _ (Fin.ext ?_)))) <;> dsimp only <;> omega

theorem ropeK_eq : ropeK C S Y = ropeR C S (broadcastInDim S8192x8x32 ![0, 1, 2] bcast_S8192x1x32_S8192x8x32_0_1_2 Y) := funext fun i => by
  idx_vars i
  pointwise [ropeK, ropeR]
end

/-! ## The results -/

abbrev scaleR : FVec Ideal S_ .f32 := id (Host.divf (Host.rsqrt (constant S_ .f32 0x42C00000#32)) (Host.log (constant S_ .f32 0x40000000#32)))

theorem scale : Ideal.div (Ideal.rsqrt (Ideal.ofBits .f32 0x42C00000#32)) (Ideal.log (Ideal.ofBits .f32 0x40000000#32)) = qs := by
  rw [Cert.Lift.rsqrt_96, Cert.Lift.log_two, Cert.Lift.div_real _ Cert.Lift.log_two_ne]
  refine congrArg (fun x : ℝ => (x : EReal)) ?_
  rw [mul_inv, div_eq_mul_inv]

def q64 : FVec Ideal S8192x8x64 .f32 := mulf (extractStridedSlice S8192x8x64 ![0, 0, 0] (projQ A0 A3 A5) slices_S8192x8x96_S8192x8x64_0_0_0)
  (broadcastInDim S8192x8x64 ![] bcast_S_S8192x8x64 scaleR)
def q32 : FVec Ideal S8192x8x32 .f32 := mulf (ropeR C S (extractStridedSlice S8192x8x32 ![0, 0, 64] (projQ A0 A3 A5) slices_S8192x8x96_S8192x8x32_0_0_64))
  (broadcastInDim S8192x8x32 ![] bcast_S_S8192x8x32 scaleR)
def resQ : FVec Ideal S8192x1024 .bf16 := truncf .bf16 (wide (q64 A0 A3 A5) (q32 A0 A3 A5 C S)) bitsLt_bf16_f32

def k64 : FVec Ideal S8192x8x64 .f32 := extractStridedSlice S8192x8x64 ![0, 0, 0] (projKV A1 A4 A6) slices_S8192x8x128_S8192x8x64_0_0_0
def v64 : FVec Ideal S8192x8x64 .f32 := extractStridedSlice S8192x8x64 ![0, 0, 64] (projKV A1 A4 A6) slices_S8192x8x128_S8192x8x64_0_0_64
def k32 : FVec Ideal S8192x8x32 .f32 := ropeK C S (broadcastInDim S8192x1x32 ![0, 2] bcast_S8192x32_S8192x1x32_0_2 A2)
def resK : FVec Ideal S8192x1024 .bf16 := truncf .bf16 (wide (k64 A1 A4 A6) (k32 A2 C S)) bitsLt_bf16_f32

theorem q64_apply (e : Fin 64) : (q64 A0 A3 A5 (ix3 l h e) : EReal) = qrow A0 A3 A5 l h ⟨e.val, by omega⟩ * qs := by
  rw [← scale]
  refine Eq.trans ?_ (congrArg (· * _) (projQ_apply A0 A3 A5 l h ⟨e.val, by omega⟩))
  unfold q64
  generalize projQ A0 A3 A5 = T
  pointwise []
  rfl
theorem q32_apply (e : Fin 32) (d : Fin 128) (hd : d.val = 64 + e.val) : (q32 A0 A3 A5 C S (ix3 l h e) : EReal)
    = rope (qrow A0 A3 A5 l h) (fun k => C (ix2 l k)) (fun k => S (ix2 l k)) d * qs := by
  rw [← scale]
  refine Eq.trans ?_ (congrArg (· * _) (ropeR_apply C S l h (extractStridedSlice S8192x8x32 ![0, 0, 64] (projQ A0 A3 A5) slices_S8192x8x96_S8192x8x32_0_0_64) e
    (qrow A0 A3 A5 l h) (fun e => ?_) d hd))
  · unfold q32
    generalize ropeR C S _ = T
    pointwise []
    rfl
  · refine Eq.trans ?_ (projQ_apply A0 A3 A5 l h ⟨64 + e.val, by omega⟩)
    generalize projQ A0 A3 A5 = T
    pointwise []
theorem k64_apply (e : Fin 64) : (k64 A1 A4 A6 (ix3 l h e) : EReal) = kvrow A1 A4 A6 l ⟨h.val * 128 + e.val, by omega⟩ := by
  refine Eq.trans ?_ (projKV_apply A1 A4 A6 l h ⟨e.val, by omega⟩)
  unfold k64
  generalize projKV A1 A4 A6 = T
  pointwise []
theorem v64_apply (e : Fin 64) : (v64 A1 A4 A6 (ix3 l h e) : EReal) = kvrow A1 A4 A6 l ⟨h.val * 128 + (64 + e.val), by omega⟩ := by
  refine Eq.trans ?_ (projKV_apply A1 A4 A6 l h ⟨64 + e.val, by omega⟩)
  unfold v64
  generalize projKV A1 A4 A6 = T
  pointwise []
theorem k32_apply (e : Fin 32) (d : Fin 128) (hd : d.val = 64 + e.val) : (k32 A2 C S (ix3 l h e) : EReal)
    = rope (krow A2 l) (fun k => C (ix2 l k)) (fun k => S (ix2 l k)) d := by
  unfold k32
  rw [ropeK_eq]
  refine ropeR_apply C S l h _ e (krow A2 l) (fun e => ?_) d hd
  pointwise []
  unfold krow
  rw [dif_pos (by dsimp only; omega)]
  exact congrArg A2 (congrArg _ (Fin.ext (by dsimp only <;> omega)))
end

variable (A0 : FVec Ideal S8192x384 .f32) (A1 : FVec Ideal S8192x256 .f32) (A2 : FVec Ideal S8192x32 .f32) (A3 : FVec Ideal S384 .f32) (A4 : FVec Ideal S256 .f32)
  (A5 : FVec Ideal S384x768 .f32) (A6 : FVec Ideal S256x1024 .f32)

theorem eqQ : resQ A0 A3 A5 cosT sinT = specQ A0 A3 A5 := funext fun i => by
  idx_vars i
  refine (wide_apply _ _ i0 i1).trans ?_
  unfold specQ
  by_cases k : i1.val % 128 < 64
  · rw [dif_pos k, q64_apply]
    refine congrArg (· * qs) ?_
    unfold turn rope
    rw [if_pos (by show i1.val % 128 < 64; exact k)]
    rfl
  rw [dif_neg k]
  by_cases k' : i1.val % 128 < 96
  · rw [dif_pos k', q32_apply A0 A3 A5 cosT sinT i0 _ _ (entry i1) (by show i1.val % 128 = 64 + (i1.val % 128 - 64); omega)]
    rfl
  · rw [dif_neg k']
    refine (zero_mul qs).symm.trans (congrArg (· * qs) ?_)
    unfold turn rope qrow
    rw [if_neg (by show ¬ i1.val % 128 < 64; omega), dif_neg (by show ¬ i1.val % 128 < 80; omega), dif_neg (by show ¬ i1.val % 128 < 96; omega),
      dif_neg (by show ¬ i1.val % 128 < 96; omega)]

theorem eqK : resK A1 A2 A4 A6 cosT sinT = specK A1 A2 A4 A6 := funext fun i => by
  idx_vars i
  refine (wide_apply _ _ i0 i1).trans ?_
  show _ = (if i1.val % 128 < 64 then kvrow A1 A4 A6 i0 i1 else 0) + turn i0 (krow A2 i0) (entry i1)
  by_cases k : i1.val % 128 < 64
  · rw [dif_pos k, if_pos k, k64_apply]
    refine Eq.trans ?_ (congrArg (_ + ·) (show (0 : EReal) = _ from ?_))
    · refine (congrArg (kvrow A1 A4 A6 i0) (Fin.ext ?_)).trans (add_zero _).symm
      show i1.val / 128 * 128 + i1.val % 128 = i1.val
      omega
    · unfold turn rope krow
      rw [if_pos (by show i1.val % 128 < 64; exact k), dif_neg (by show ¬ (64 ≤ i1.val % 128 ∧ _); omega)]
  rw [dif_neg k, if_neg k, zero_add]
  by_cases k' : i1.val % 128 < 96
  · rw [dif_pos k', k32_apply A2 cosT sinT i0 _ _ (entry i1) (by show i1.val % 128 = 64 + (i1.val % 128 - 64); omega)]
  · rw [dif_neg k']
    unfold turn rope krow
    rw [if_neg (by show ¬ i1.val % 128 < 64; omega), dif_neg (by show ¬ i1.val % 128 < 80; omega), dif_neg (by show ¬ i1.val % 128 < 96; omega),
      dif_neg (by show ¬ (_ ∧ i1.val % 128 < 96); omega)]

theorem eqV : hV (v64 A1 A4 A6) = specV A1 A4 A6 := funext fun i => by
  idx_vars i
  refine (hV_apply _ i0 i1).trans ((v64_apply A1 A4 A6 i0 _ _).trans (congrArg (kvrow A1 A4 A6 i0) (Fin.ext ?_)))
  show i1.val / 64 * 128 + (64 + i1.val % 64) = i1.val / 64 * 128 + 64 + i1.val % 64
  omega
theorem eqCq : truncf .bf16 (normQ A0 A3) bitsLt_bf16_f32 = specCq A0 A3 := funext fun i => by
  idx_vars i
  exact normQ_apply A0 A3 i0 i1
theorem eqCkv : truncf .bf16 (normKV A1 A4) bitsLt_bf16_f32 = specCkv A1 A4 := funext fun i => by
  idx_vars i
  exact normKV_apply A1 A4 i0 i1

/-- The reference's memory and its arguments. -/
abbrev Mem := (ℓ : Loc nD τ sig) → Buf (Elt Ideal) ℓ
section
variable (m : Mem) (c : Dev nD)
abbrev r0 : FVec Ideal S8192x384 .f32 := m ((c.tc : Thread nD τ).loc main_arg0)
abbrev r1 : FVec Ideal S8192x256 .f32 := m ((c.tc : Thread nD τ).loc main_arg1)
abbrev r2 : FVec Ideal S8192x32 .f32 := m ((c.tc : Thread nD τ).loc main_arg2)
abbrev r3 : FVec Ideal S384 .f32 := m ((c.tc : Thread nD τ).loc main_arg3)
abbrev r4 : FVec Ideal S256 .f32 := m ((c.tc : Thread nD τ).loc main_arg4)
abbrev r5 : FVec Ideal S384x768 .f32 := m ((c.tc : Thread nD τ).loc main_arg5)
abbrev r6 : FVec Ideal S256x1024 .f32 := m ((c.tc : Thread nD τ).loc main_arg6)

theorem out_q : Value.res_main_v91 m c = specQ (r0 m c) (r3 m c) (r5 m c) :=
  (show _ = resQ (r0 m c) (r3 m c) (r5 m c) cosT sinT from rfl).trans (eqQ _ _ _)
theorem out_k : Value.res_main_v95 m c = specK (r1 m c) (r2 m c) (r4 m c) (r6 m c) :=
  (show _ = resK (r1 m c) (r2 m c) (r4 m c) (r6 m c) cosT sinT from rfl).trans (eqK _ _ _ _)
end

end Cert.Reference14Ideal.MlaFwdPrep

namespace Cert.Proof.MlaFwdPrepClaims

open Idealize.ShloMosaic Idealize.ShloMosaic.Pointwise Idealize.SL.Sem
open Cert.Kernel14Ideal.Gen (dats)
open Cert.Kernel14Ideal (cfg0)
open Cert.Kernel14Ideal.MlaFwdPrep
open Cert.Reference14Ideal.MlaFwdPrep

set_option maxHeartbeats 4000000 in
theorem algebraic : Cert.algebraic_Kernel14Ideal_Reference14Ideal := by
  intro m ρ m' ρ' _ hag
  refine ⟨fun c => (dats m 0 c).arrAt 8 cfg0.N, fun c => (dats m 0 c).arrAt 9 cfg0.N, fun c => (dats m 0 c).arrAt 10 cfg0.N, fun c => (dats m 0 c).arrAt 11 cfg0.N,
    fun c => (dats m 0 c).arrAt 12 cfg0.N, Cert.Kernel14Ideal.Value.run_blocks m ρ, ?_⟩
  refine (θ_run Cert.Reference14Ideal.defs _ _).mono (fun _ h c => ?_) (Cert.Reference14Ideal.Value.run (F := Ideal) m' ρ')
  obtain ⟨h0, h1, h2, h3, h4, hk⟩ := h c
  obtain ⟨g0, g1, g2, g3, g4, g5, g6⟩ := hag c
  have e0 := h0.trans (out_q m' c)
  have e1 := h1.trans (out_k m' c)
  have e2 := (h2.trans (show _ = Cert.Kernel6Ideal.MlaPrep.hV (v64 (r1 m' c) (r4 m' c) (r6 m' c)) from rfl)).trans (eqV _ _ _)
  have e3 := h3.trans (eqCq (r0 m' c) (r3 m' c))
  have e4 := h4.trans (eqCkv (r1 m' c) (r4 m' c))
  rw [show r0 m' c = _ from g0, show r3 m' c = _ from g3, show r5 m' c = _ from g5] at e0
  rw [show r1 m' c = _ from g1, show r2 m' c = _ from g2, show r4 m' c = _ from g4, show r6 m' c = _ from g6] at e1
  rw [show r1 m' c = _ from g1, show r4 m' c = _ from g4, show r6 m' c = _ from g6] at e2
  rw [show r0 m' c = _ from g0, show r3 m' c = _ from g3] at e3
  rw [show r1 m' c = _ from g1, show r4 m' c = _ from g4] at e4
  exact ⟨e0.trans (res8 m c).symm, e1.trans (res9 m c).symm, e2.trans (res10 m c).symm, e3.trans (res11 m c).symm, e4.trans (res12 m c).symm, hk⟩

end Cert.Proof.MlaFwdPrepClaims

end
-- ==== Proof.MmClaims.lean ====
/- The input projection's product against its reference: the products, in the packed order of columns, are equal. -/
module

public import proofs.«01_k».proof.Defs
public import proofs.«01_k».proof.Proof.Gen.Kernel18Ideal.Value
public import proofs.«01_k».proof.Proof.Gen.Reference18Ideal.Run
public import Idealize.ShloMosaic.Lib.IdealHost
public import Idealize.ShloMosaic.Lib.Pointwise

@[expose] public section

set_option maxRecDepth 16384

noncomputable section

/-- Values of the 6304 columns in the packed order: zeros in the two paddings, and the last 512 columns ahead of the 4608 before them. -/
def Cert.packed (f : Fin 6304 → EReal) (j : Fin 6656) : EReal :=
  if h : j.val < 640 then f ⟨j.val, by omega⟩
  else if j.val < 704 then 0
  else if h : j.val < 736 then f ⟨j.val - 64, by omega⟩
  else if j.val < 1024 then 0
  else if h : j.val < 1536 then f ⟨j.val - 352, by omega⟩
  else if h : j.val < 2048 then f ⟨j.val + 4256, by omega⟩
  else f ⟨j.val - 864, by omega⟩

/-- A row times packed columns is the packed row of the products. -/
theorem Cert.sum_packed (x : Fin 1024 → EReal) (w : Fin 1024 → Fin 6304 → EReal) (j : Fin 6656) :
    ∑ k, x k * Cert.packed (w k) j = Cert.packed (fun n => ∑ k, x k * w k n) j := by
  unfold Cert.packed
  split_ifs <;> simp only [mul_zero, Finset.sum_const_zero]

/-! ## The kernel's result, entry by entry -/

namespace Cert.Kernel18Ideal.Mm

open Idealize.ShloMosaic Idealize.ShloMosaic.Pointwise Idealize.SL.Sem Cert.Kernel18Ideal Cert.Kernel18Ideal.Gen

theorem hz : (![0, 0] : Fin 2 → Nat) = fun _ => 0 := funext fun a => by fin_cases a <;> rfl

theorem pay1_apply (v0 : Vec Ideal S1024x1024 .f32) (v2 : Vec Ideal S1024x3328 .f32) (r : Fin 1024) (d : Fin 3328) :
    (k0_pay1 v0 v2 (ix2 r d) : EReal) = ∑ k, (v0 (ix2 r k) : EReal) * v2 (ix2 k d) := by
  pointwise [k0_pay1]

variable (m : (ℓ : Loc nD τ sig) → Buf (Elt Ideal) ℓ) (c : Dev nD)

abbrev b0 : FVec Ideal S8192x1024 .f32 := m ((c.tc : Thread nD τ).loc main_arg0)
abbrev b1 : FVec Ideal S1024x6304 .f32 := m ((c.tc : Thread nD τ).loc main_arg1)

/-- The weights in the packed order. -/
def hW (a : FVec Ideal S1024x6304 .f32) : FVec Ideal S1024x6656 .f32 :=
  concatenate S1024x6656 1 [⟨S1024x640, extractStridedSlice S1024x640 ![0, 0] a slices_S1024x6304_S1024x640_0_0⟩,
    ⟨S1024x64, broadcastInDim S1024x64 ![] bcast_S_S1024x64 (constant S_ .f32 0x00000000#32)⟩,
    ⟨S1024x32, extractStridedSlice S1024x32 ![0, 640] a slices_S1024x6304_S1024x32_0_640⟩,
    ⟨S1024x32, broadcastInDim S1024x32 ![] bcast_S_S1024x32 (constant S_ .f32 0x00000000#32)⟩,
    ⟨S1024x256, broadcastInDim S1024x256 ![] bcast_S_S1024x256 (constant S_ .f32 0x00000000#32)⟩,
    ⟨S1024x512, extractStridedSlice S1024x512 ![0, 672] a slices_S1024x6304_S1024x512_0_672⟩,
    ⟨S1024x512, extractStridedSlice S1024x512 ![0, 5792] a slices_S1024x6304_S1024x512_0_5792⟩,
    ⟨S1024x4608, extractStridedSlice S1024x4608 ![0, 1184] a slices_S1024x6304_S1024x4608_0_1184⟩]
    concatenates_S1024x640_S1024x64_S1024x32_S1024x32_S1024x256_S1024x512_S1024x512_S1024x4608_S1024x6656_d1

theorem hW_apply (a : FVec Ideal S1024x6304 .f32) (k : Fin 1024) (j : Fin 6656) :
    (hW a (ix2 k j) : EReal) = Cert.packed (fun n => a (ix2 k n)) j := by
  have hj := j.isLt
  unfold hW Cert.packed
  pointwise []
  rcases (by omega : j.val < 640 ∨ (640 ≤ j.val ∧ j.val < 704) ∨ (704 ≤ j.val ∧ j.val < 736) ∨ (736 ≤ j.val ∧ j.val < 768) ∨ (768 ≤ j.val ∧ j.val < 1024)
    ∨ (1024 ≤ j.val ∧ j.val < 1536) ∨ (1536 ≤ j.val ∧ j.val < 2048) ∨ 2048 ≤ j.val) with k | k | k | k | k | k | k | k <;>
  · simp (disch := omega) only [dif_pos, dif_neg, if_pos, if_neg]
    try exact congrArg a (congrArg _ (Fin.ext (by dsimp only <;> omega)))

theorem V_w : (V m c main_v8 : FVec Ideal S1024x6656 .f32) = hW (b1 m c) := by
  unfold V hostOps0
  after_results_simp
  rfl

theorem lt16 (t : Fin cfg0.N) : t.val < 16 := lt_of_lt_of_eq t.isLt N_0
/-- The array's row of row `r`, and its column of column `d`, of block `t`. -/
abbrev row (t : Fin cfg0.N) (r : Fin 1024) : Fin 8192 := ⟨t.val / 2 * 1024 + r.val, by have := lt16 t; omega⟩
abbrev col (t : Fin cfg0.N) (d : Fin 3328) : Fin 6656 := ⟨t.val % 2 * 3328 + d.val, by omega⟩

abbrev Walks (t : Fin grid0.N) : Prop :=
  (win0_0.index t 0 = t.val / 2 ∧ win0_0.index t 1 = 0) ∧ (win0_1.index t 0 = 0 ∧ win0_1.index t 1 = t.val % 2)
    ∧ (win0_2.index t 0 = t.val / 2 ∧ win0_2.index t 1 = t.val % 2)
theorem walks : ∀ t : Fin grid0.N, Walks t := by decide +kernel

theorem x0_apply (t : Fin cfg0.N) (r k : Fin 1024) : iblk m c 0 t (ix2 r k) = b0 m c (ix2 (row t r) k) := by
  rw [show b0 m c = V m c main_arg0 from (V_main_arg0 m c).symm]
  show V m c main_arg0 _ = _
  refine congrArg _ (funext fun a => Fin.ext ?_)
  match a with
  | ⟨0, _⟩ => show win0_0.index t 0 * 1024 + 1 * r.val = t.val / 2 * 1024 + r.val; rw [(walks t).1.1]; omega
  | ⟨1, _⟩ => show win0_0.index t 1 * 1024 + 1 * k.val = k.val; rw [(walks t).1.2]; omega

theorem x1_apply (t : Fin cfg0.N) (k : Fin 1024) (d : Fin 3328) :
    (iblk m c 1 t (ix2 k d) : EReal) = Cert.packed (fun n => b1 m c (ix2 k n)) (col t d) := by
  rw [← hW_apply, ← V_w]
  show V m c main_v8 _ = _
  refine congrArg _ (funext fun a => Fin.ext ?_)
  match a with
  | ⟨0, _⟩ => show win0_1.index t 0 * 1024 + 1 * k.val = k.val; rw [(walks t).2.1.1]; omega
  | ⟨1, _⟩ => show win0_1.index t 1 * 3328 + 1 * d.val = t.val % 2 * 3328 + d.val; rw [(walks t).2.1.2]; omega

/-- The product's entry. -/
abbrev prod (x : FVec Ideal S8192x1024 .f32) (w : FVec Ideal S1024x6304 .f32) (l : Fin 8192) (n : Fin 6304) : EReal :=
  ∑ k, (x (ix2 l k) : EReal) * w (ix2 k n)

theorem block (t : Fin cfg0.N) (r : Fin 1024) (d : Fin 3328) :
    ((dats m 0 c).arrAt 2 cfg0.N (ix2 (row t r) (col t d)) : EReal) = Cert.packed (prod (b0 m c) (b1 m c) (row t r)) (col t d) := by
  have h := congrFun (Value.blocks2 m c t (flush0_2 t)) (ix2 r d)
  refine Eq.trans ?_ (h.trans ?_)
  · show (dats m 0 c).arrAt 2 cfg0.N _ = (dats m 0 c).arrAt 2 cfg0.N _
    refine congrArg _ (funext fun a => Fin.ext ?_)
    match a with
    | ⟨0, _⟩ => show t.val / 2 * 1024 + r.val = win0_2.index t 0 * 1024 + 1 * r.val; rw [(walks t).2.2.1]; omega
    | ⟨1, _⟩ => show t.val % 2 * 3328 + d.val = win0_2.index t 1 * 3328 + 1 * d.val; rw [(walks t).2.2.2]; omega
  · rw [Value.flushed2]
    show out0_2 (iblk m c 0 t) (iblk m c 1 t) (ix2 r d) = _
    unfold out0_2
    rw [View.canon_unit_zero hz, View.ld_unit_zero hz, View.ld_unit_zero hz]
    refine (pay1_apply _ _ r d).trans (Eq.trans ?_ (Cert.sum_packed _ _ _))
    exact Finset.sum_congr rfl fun k _ => congrArg₂ (· * ·) (x0_apply m c t r k) (x1_apply m c t k d)

theorem res (l : Fin 8192) (d : Fin 6656) :
    ((dats m 0 c).arrAt 2 cfg0.N (ix2 l d) : EReal) = Cert.packed (prod (b0 m c) (b1 m c) l) d := by
  have e : ∃ t r j, l = row t r ∧ d = col t j := by
    refine ⟨⟨l.val / 1024 * 2 + d.val / 3328, lt_of_lt_of_eq (by omega : l.val / 1024 * 2 + d.val / 3328 < 16) N_0.symm⟩, ⟨l.val % 1024, by omega⟩,
      ⟨d.val % 3328, by omega⟩, Fin.ext ?_, Fin.ext ?_⟩
    · show l.val = (l.val / 1024 * 2 + d.val / 3328) / 2 * 1024 + l.val % 1024; omega
    · show d.val = (l.val / 1024 * 2 + d.val / 3328) % 2 * 3328 + d.val % 3328; omega
  obtain ⟨t, r, j, hl, hd⟩ := e
  rw [hl, hd]
  exact block m c t r j

end Cert.Kernel18Ideal.Mm

/-! ## The reference's result -/

namespace Cert.Reference18Ideal.Mm

open Idealize.ShloMosaic Idealize.ShloMosaic.Pointwise Idealize.SL.Sem Cert.Reference18Ideal Cert.Reference18Ideal.Gen
open Cert.Kernel18Ideal.Mm (prod)

/-- A projection's columns in the packed order. -/
def packRows (p : FVec Ideal S8192x6304 .f32) : FVec Ideal S8192x6656 .bf16 :=
  truncf .bf16 (concatenate S8192x6656 1 [⟨S8192x384, extractStridedSlice S8192x384 ![0, 0] p slices_S8192x6304_S8192x384_0_0⟩,
    ⟨S8192x256, extractStridedSlice S8192x256 ![0, 384] p slices_S8192x6304_S8192x256_0_384⟩,
    ⟨S8192x64, broadcastInDim S8192x64 ![] bcast_S_S8192x64 (constant S_ .f32 0x00000000#32)⟩,
    ⟨S8192x32, extractStridedSlice S8192x32 ![0, 640] p slices_S8192x6304_S8192x32_0_640⟩,
    ⟨S8192x288, broadcastInDim S8192x288 ![] bcast_S_S8192x288 (constant S_ .f32 0x00000000#32)⟩,
    ⟨S8192x512, extractStridedSlice S8192x512 ![0, 672] p slices_S8192x6304_S8192x512_0_672⟩,
    ⟨S8192x512, extractStridedSlice S8192x512 ![0, 5792] p slices_S8192x6304_S8192x512_0_5792⟩,
    ⟨S8192x4608, extractStridedSlice S8192x4608 ![0, 1184] p slices_S8192x6304_S8192x4608_0_1184⟩]
    concatenates_S8192x384_S8192x256_S8192x64_S8192x32_S8192x288_S8192x512_S8192x512_S8192x4608_S8192x6656_d1 : FVec Ideal S8192x6656 .f32) bitsLt_bf16_f32

theorem packRows_apply (p : FVec Ideal S8192x6304 .f32) (l : Fin 8192) (j : Fin 6656) :
    (packRows p (ix2 l j) : EReal) = Cert.packed (fun n => p (ix2 l n)) j := by
  have hj := j.isLt
  unfold packRows Cert.packed
  pointwise []
  rcases (by omega : j.val < 384 ∨ (384 ≤ j.val ∧ j.val < 640) ∨ (640 ≤ j.val ∧ j.val < 704) ∨ (704 ≤ j.val ∧ j.val < 736) ∨ (736 ≤ j.val ∧ j.val < 1024)
    ∨ (1024 ≤ j.val ∧ j.val < 1536) ∨ (1536 ≤ j.val ∧ j.val < 2048) ∨ 2048 ≤ j.val) with k | k | k | k | k | k | k | k <;>
  · simp (disch := omega) only [dif_pos, dif_neg, if_pos, if_neg]
    try exact congrArg p (congrArg _ (Fin.ext (by dsimp only <;> omega)))

/-- The projection on the host. -/
def proj (x : FVec Ideal S8192x1024 .f32) (w : FVec Ideal S1024x6304 .f32) : FVec Ideal S8192x6304 .f32 :=
  Host.dotGeneral dot_S8192x1024_S1024x6304_S8192x6304_1_0_0_1_n_n none x w

theorem proj_apply (x : FVec Ideal S8192x1024 .f32) (w : FVec Ideal S1024x6304 .f32) (l : Fin 8192) (n : Fin 6304) :
    (proj x w (ix2 l n) : EReal) = prod x w l n := by
  pointwise [proj]

end Cert.Reference18Ideal.Mm

namespace Cert.Proof.MmClaims

open Idealize.ShloMosaic Idealize.ShloMosaic.Pointwise Idealize.SL.Sem
open Cert.Kernel18Ideal.Mm (b0 b1 res)
open Cert.Reference18Ideal.Mm

theorem eq2 (m : (ℓ : Loc Cert.Kernel18Ideal.nD Cert.Kernel18Ideal.τ Cert.Kernel18Ideal.sig) → Buf (Elt Ideal) ℓ) (c : Dev Cert.Kernel18Ideal.nD) :
    (Cert.Kernel18Ideal.Gen.dats m 0 c).arrAt 2 Cert.Kernel18Ideal.cfg0.N = packRows (proj (b0 m c) (b1 m c)) := by
  refine funext fun i => ?_
  idx_vars i
  exact (res m c i0 i1).trans ((congrArg (Cert.packed · i1) (funext fun n => (proj_apply _ _ i0 n).symm)).trans (packRows_apply _ i0 i1).symm)

theorem algebraic : Cert.algebraic_Kernel18Ideal_Reference18Ideal := by
  intro m ρ m' ρ' _ hag
  refine ⟨fun c => (Cert.Kernel18Ideal.Gen.dats m 0 c).arrAt 2 Cert.Kernel18Ideal.cfg0.N, Cert.Kernel18Ideal.Value.run_blocks m ρ, ?_⟩
  refine (θ_run Cert.Reference18Ideal.defs _ _).mono (fun _ h c => ?_) (Cert.Reference18Ideal.Value.run (F := Ideal) m' ρ')
  obtain ⟨h0, hk⟩ := h c
  obtain ⟨a0, a1⟩ := hag c
  rw [a0, a1] at h0
  exact ⟨(h0.trans (show _ = packRows (proj (b0 m c) (b1 m c)) from rfl)).trans (eq2 m c).symm, hk⟩

end Cert.Proof.MmClaims

end
-- ==== Proof.AdamClaims.lean ====
/- The optimiser's step against its reference: the weights' changes and both moments are equal. -/
module

public import proofs.«01_k».proof.Defs
public import proofs.«01_k».proof.Proof.Gen.Kernel19Ideal.Value
public import proofs.«01_k».proof.Proof.Gen.Reference19Ideal.Run
public import Idealize.ShloMosaic.Lib.IdealHost
public import Idealize.ShloMosaic.Lib.Pointwise

@[expose] public section

set_option maxRecDepth 16384

noncomputable section

/-! ## The kernel's results, entry by entry -/

namespace Cert.Kernel19Ideal.Adam

open Idealize.ShloMosaic Idealize.ShloMosaic.Pointwise Idealize.SL.Sem Cert.Kernel19Ideal Cert.Kernel19Ideal.Gen

/-- The first and second moments after the step, and the weight's change. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

theorem hz : (![0, 0] : Fin 2 → Nat) = fun _ => 0 := funext fun a => by fin_cases a <;> rfl

section
variable (g m v w : Vec Ideal S256x1576 .f32) (r : Fin 256) (d : Fin 1576)
theorem pay1_apply : (k0_pay1 g m (ix2 r d) : EReal) = first (g (ix2 r d)) (m (ix2 r d)) := by pointwise [k0_pay1, first]
theorem pay2_apply : (k0_pay2 g v (ix2 r d) : EReal) = second (g (ix2 r d)) (v (ix2 r d)) := by pointwise [k0_pay2, second]
theorem pay3_apply : (k0_pay3 g m v w (ix2 r d) : EReal) = change (w (ix2 r d)) (g (ix2 r d)) (m (ix2 r d)) (v (ix2 r d)) := by
  unfold change
  rw [← pay1_apply g m r d, ← pay2_apply g v r d]
  unfold k0_pay3
  generalize k0_pay1 g m = a, k0_pay2 g v = b
  pointwise []
end

variable (m : (ℓ : Loc nD τ sig) → Buf (Elt Ideal) ℓ) (c : Dev nD)

abbrev b0 : FVec Ideal S4x1024x1576 .f32 := m ((c.tc : Thread nD τ).loc main_arg0)
abbrev b1 : FVec Ideal S4096x1576 .f32 := m ((c.tc : Thread nD τ).loc main_arg1)
abbrev b2 : FVec Ideal S4x1024x1576 .f32 := m ((c.tc : Thread nD τ).loc main_arg2)
abbrev b3 : FVec Ideal S4x1024x1576 .f32 := m ((c.tc : Thread nD τ).loc main_arg3)

/-- The four layers' rows one after the other. -/
def flat (a : FVec Ideal S4x1024x1576 .f32) : FVec Ideal S4096x1576 .f32 := shapeCast _ a shapeCasts_S4x1024x1576_S4096x1576

theorem V_w : (V m c main_v0 : FVec Ideal S4096x1576 .f32) = flat (b0 m c) := by
  unfold V hostOps0
  after_results_simp
  rfl
theorem V_m : (V m c main_v1 : FVec Ideal S4096x1576 .f32) = flat (b2 m c) := by
  unfold V hostOps0
  after_results_simp
  rfl
theorem V_v : (V m c main_v2 : FVec Ideal S4096x1576 .f32) = flat (b3 m c) := by
  unfold V hostOps0
  after_results_simp
  rfl

theorem lt16 (t : Fin cfg0.N) : t.val < 16 := lt_of_lt_of_eq t.isLt N_0
/-- The array's row of row `r` of block `t`. -/
abbrev row (t : Fin cfg0.N) (r : Fin 256) : Fin 4096 := ⟨t.val * 256 + r.val, by have := lt16 t; omega⟩

abbrev Walks (t : Fin grid0.N) : Prop :=
  (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) ∧ (win0_6.index t 0 = t.val ∧ win0_6.index t 1 = 0)
theorem walks : ∀ t : Fin grid0.N, Walks t := by decide +kernel

/-- Where entry `(r, d)` of a window's block lies in the array, the window walking down the rows. -/
theorem place (t : Fin cfg0.N) (r : Fin 256) (d : Fin 1576) {i : Fin 2 → ℕ} (hi : i 0 = t.val ∧ i 1 = 0) (j : S4096x1576.Idx)
    (h0 : (j 0).val = i 0 * 256 + 1 * r.val) (h1 : (j 1).val = i 1 * 1576 + 1 * d.val) : j = ix2 (row t r) d := by
  refine funext fun a => Fin.ext ?_
  match a with
  | ⟨0, _⟩ => exact h0.trans (by rw [hi.1]; show _ = t.val * 256 + r.val; omega)
  | ⟨1, _⟩ => exact h1.trans (by rw [hi.2]; show _ = d.val; omega)

theorem x0_apply (t : Fin cfg0.N) (r : Fin 256) (d : Fin 1576) : iblk m c 0 t (ix2 r d) = flat (b0 m c) (ix2 (row t r) d) := by
  rw [← V_w]
  exact congrArg (V m c main_v0) (place t r d (walks t).1 _ rfl rfl)
theorem x1_apply (t : Fin cfg0.N) (r : Fin 256) (d : Fin 1576) : iblk m c 1 t (ix2 r d) = b1 m c (ix2 (row t r) d) := by
  rw [show b1 m c = V m c main_arg1 from (V_main_arg1 m c).symm]
  exact congrArg (V m c main_arg1) (place t r d (walks t).2.1 _ rfl rfl)
theorem x2_apply (t : Fin cfg0.N) (r : Fin 256) (d : Fin 1576) : iblk m c 2 t (ix2 r d) = flat (b2 m c) (ix2 (row t r) d) := by
  rw [← V_m]
  exact congrArg (V m c main_v1) (place t r d (walks t).2.2.1 _ rfl rfl)
theorem x3_apply (t : Fin cfg0.N) (r : Fin 256) (d : Fin 1576) : iblk m c 3 t (ix2 r d) = flat (b3 m c) (ix2 (row t r) d) := by
  rw [← V_v]
  exact congrArg (V m c main_v2) (place t r d (walks t).2.2.2.1 _ rfl rfl)

theorem block4 (t : Fin cfg0.N) (r : Fin 256) (d : Fin 1576) :
    ((dats m 0 c).arrAt 4 cfg0.N (ix2 (row t r) d) : EReal) = change (flat (b0 m c) (ix2 (row t r) d)) (b1 m c (ix2 (row t r) d)) (flat (b2 m c) (ix2 (row t r) d)) (flat (b3 m c) (ix2 (row t r) d)) := by
  have h := congrFun (Value.blocks4 m c t (flush0_4 t)) (ix2 r d)
  refine (congrArg ((dats m 0 c).arrAt 4 cfg0.N) (place t r d (walks t).2.2.2.2.1 _ rfl rfl).symm).trans (h.trans ?_)
  rw [Value.flushed4]
  show out0_4 (iblk m c 0 t) (iblk m c 1 t) (iblk m c 2 t) (iblk m c 3 t) (ix2 r d) = _
  unfold out0_4
  rw [View.canon_unit_zero hz]
  simp only [View.ld_unit_zero (S := S256x1576) hz]
  refine (pay3_apply _ _ _ _ r d).trans ?_
  rw [x0_apply, x1_apply, x2_apply, x3_apply]

theorem block5 (t : Fin cfg0.N) (r : Fin 256) (d : Fin 1576) :
    ((dats m 0 c).arrAt 5 cfg0.N (ix2 (row t r) d) : EReal) = first (b1 m c (ix2 (row t r) d)) (flat (b2 m c) (ix2 (row t r) d)) := by
  have h := congrFun (Value.blocks5 m c t (flush0_5 t)) (ix2 r d)
  refine (congrArg ((dats m 0 c).arrAt 5 cfg0.N) (place t r d (walks t).2.2.2.2.2.1 _ rfl rfl).symm).trans (h.trans ?_)
  rw [Value.flushed5]
  show out0_5 (iblk m c 0 t) (iblk m c 1 t) (iblk m c 2 t) (iblk m c 3 t) (ix2 r d) = _
  unfold out0_5
  rw [View.canon_unit_zero hz]
  simp only [View.ld_unit_zero (S := S256x1576) hz]
  refine (pay1_apply _ _ r d).trans ?_
  rw [x1_apply, x2_apply]

theorem block6 (t : Fin cfg0.N) (r : Fin 256) (d : Fin 1576) :
    ((dats m 0 c).arrAt 6 cfg0.N (ix2 (row t r) d) : EReal) = second (b1 m c (ix2 (row t r) d)) (flat (b3 m c) (ix2 (row t r) d)) := by
  have h := congrFun (Value.blocks6 m c t (flush0_6 t)) (ix2 r d)
  refine (congrArg ((dats m 0 c).arrAt 6 cfg0.N) (place t r d (walks t).2.2.2.2.2.2 _ rfl rfl).symm).trans (h.trans ?_)
  rw [Value.flushed6]
  show out0_6 (iblk m c 0 t) (iblk m c 1 t) (iblk m c 2 t) (iblk m c 3 t) (ix2 r d) = _
  unfold out0_6
  rw [View.canon_unit_zero hz]
  simp only [View.ld_unit_zero (S := S256x1576) hz]
  refine (pay2_apply _ _ r d).trans ?_
  rw [x1_apply, x3_apply]

/-- Every row is a row of some block. -/
theorem all_rows (l : Fin 4096) : ∃ t r, l = row t r :=
  ⟨⟨l.val / 256, lt_of_lt_of_eq (by omega : l.val / 256 < 16) N_0.symm⟩, ⟨l.val % 256, by omega⟩,
    Fin.ext (by show l.val = l.val / 256 * 256 + l.val % 256; omega)⟩

end Cert.Kernel19Ideal.Adam

/-! ## The reference's results -/

namespace Cert.Reference19Ideal.Adam

open Idealize.ShloMosaic Idealize.ShloMosaic.Pointwise Idealize.SL.Sem Cert.Reference19Ideal Cert.Reference19Ideal.Gen
open Cert.Kernel19Ideal.Adam (first second change flat)

/-- A scalar at every entry, and the gradient by layers. -/
abbrev all (b : BitVec 32) : FVec Ideal S4x1024x1576 .f32 := broadcastInDim S4x1024x1576 ![] bcast_S_S4x1024x1576 (constant S_ .f32 b)
abbrev layers (g : FVec Ideal S4096x1576 .f32) : FVec Ideal S4x1024x1576 .f32 := shapeCast _ g shapeCasts_S4096x1576_S4x1024x1576

def rFirst (g : FVec Ideal S4096x1576 .f32) (m : FVec Ideal S4x1024x1576 .f32) : FVec Ideal S4x1024x1576 .f32 :=
  addf (mulf (all 0x3F666666#32) m) (mulf (all 0x3DCCCCCD#32) (layers g))
def rSecond (g : FVec Ideal S4096x1576 .f32) (v : FVec Ideal S4x1024x1576 .f32) : FVec Ideal S4x1024x1576 .f32 :=
  addf (mulf (all 0x3F7FBE77#32) v) (mulf (all 0x3A83126F#32) (mulf (layers g) (layers g)))
def rChange (w : FVec Ideal S4x1024x1576 .f32) (g : FVec Ideal S4096x1576 .f32) (m v : FVec Ideal S4x1024x1576 .f32) : FVec Ideal S4x1024x1576 .f32 :=
  mulf (all 0xBA83126F#32) (addf (Host.divf (Host.divf (rFirst g m) (all 0x3F26BD02#32))
    (addf (Host.sqrt (Host.divf (rSecond g v) (all 0x3C231ACC#32))) (all 0x322BCC77#32))) (mulf (all 0x3C23D70A#32) w))

variable (w m v : FVec Ideal S4x1024x1576 .f32) (g : FVec Ideal S4096x1576 .f32) (l : Fin 4096) (d : Fin 1576)

/-- The layers of the gradient, laid out again, are the gradient. -/
theorem flat_layers : flat (layers g) = g := shapeCast_shapeCast g _ _

theorem first_apply : (flat (rFirst g m) (ix2 l d) : EReal) = first (g (ix2 l d)) (flat m (ix2 l d)) := by
  conv_rhs => rw [← flat_layers g]
  rfl
theorem second_apply : (flat (rSecond g v) (ix2 l d) : EReal) = second (g (ix2 l d)) (flat v (ix2 l d)) := by
  conv_rhs => rw [← flat_layers g]
  rfl
theorem change_apply : (flat (rChange w g m v) (ix2 l d) : EReal) = change (flat w (ix2 l d)) (g (ix2 l d)) (flat m (ix2 l d)) (flat v (ix2 l d)) := by
  conv_rhs => rw [← flat_layers g]
  rfl

end Cert.Reference19Ideal.Adam

namespace Cert.Proof.AdamClaims

open Idealize.ShloMosaic Idealize.ShloMosaic.Pointwise Idealize.SL.Sem
open Cert.Kernel19Ideal.Adam Cert.Reference19Ideal.Adam

variable (m : (ℓ : Loc Cert.Kernel19Ideal.nD Cert.Kernel19Ideal.τ Cert.Kernel19Ideal.sig) → Buf (Elt Ideal) ℓ) (c : Dev Cert.Kernel19Ideal.nD)

/-- What the kernel leaves in its `w`-th array. -/
abbrev out (w : Fin 7) := (Cert.Kernel19Ideal.Gen.dats m 0 c).arrAt w Cert.Kernel19Ideal.cfg0.N

theorem eq4 : out m c 4 = flat (rChange (b0 m c) (b1 m c) (b2 m c) (b3 m c)) := by
  refine funext fun i => ?_
  idx_vars i
  refine Eq.trans ?_ (change_apply _ _ _ _ i0 i1).symm
  obtain ⟨t, r, e⟩ := all_rows i0
  rw [e]
  exact block4 m c t r i1
theorem eq5 : out m c 5 = flat (rFirst (b1 m c) (b2 m c)) := by
  refine funext fun i => ?_
  idx_vars i
  refine Eq.trans ?_ (first_apply _ _ i0 i1).symm
  obtain ⟨t, r, e⟩ := all_rows i0
  rw [e]
  exact block5 m c t r i1
theorem eq6 : out m c 6 = flat (rSecond (b1 m c) (b3 m c)) := by
  refine funext fun i => ?_
  idx_vars i
  refine Eq.trans ?_ (second_apply _ _ i0 i1).symm
  obtain ⟨t, r, e⟩ := all_rows i0
  rw [e]
  exact block6 m c t r i1

theorem algebraic : Cert.algebraic_Kernel19Ideal_Reference19Ideal := by
  intro m ρ m' ρ' _ hag
  refine ⟨fun c => out m c 4, fun c => out m c 5, fun c => out m c 6, Cert.Kernel19Ideal.Value.run_blocks m ρ, ?_⟩
  refine (θ_run Cert.Reference19Ideal.defs _ _).mono (fun _ h c => ?_) (Cert.Reference19Ideal.Value.run (F := Ideal) m' ρ')
  obtain ⟨h0, h1, h2, hk⟩ := h c
  obtain ⟨a0, a1, a2, a3⟩ := hag c
  rw [a0, a1, a2, a3] at h0
  rw [a1, a2] at h1
  rw [a1, a3] at h2
  exact ⟨(h0.trans (show _ = flat (rChange (b0 m c) (b1 m c) (b2 m c) (b3 m c)) from rfl)).trans (eq4 m c).symm,
    (h1.trans (show _ = flat (rFirst (b1 m c) (b2 m c)) from rfl)).trans (eq5 m c).symm,
    (h2.trans (show _ = flat (rSecond (b1 m c) (b3 m c)) from rfl)).trans (eq6 m c).symm, hk⟩

end Cert.Proof.AdamClaims

end
-- ==== Proof.AddClaims.lean ====
/- The pair sum of the gradients against its reference: the sums are equal. -/
module

public import proofs.«01_k».proof.Defs
public import proofs.«01_k».proof.Proof.Gen.Kernel20Ideal.Value
public import proofs.«01_k».proof.Proof.Gen.Reference20Ideal.Run
public import Idealize.ShloMosaic.Lib.IdealHost
public import Idealize.ShloMosaic.Lib.Pointwise

@[expose] public section

set_option maxRecDepth 16384

noncomputable section

namespace Cert.Proof.AddClaims

open Idealize.ShloMosaic Idealize.ShloMosaic.Pointwise Idealize.SL.Sem

theorem algebraic : Cert.algebraic_Kernel20Ideal_Reference20Ideal := by
  intro m ρ m' ρ' _ hag
  refine ⟨_, Cert.Kernel20Ideal.Value.run m ρ, ?_⟩
  refine (θ_run Cert.Reference20Ideal.defs _ _).mono (fun _ h c => ?_) (Cert.Reference20Ideal.Value.run (F := Ideal) m' ρ')
  obtain ⟨h0, hk⟩ := h c
  obtain ⟨a0, a1⟩ := hag c
  rw [a0, a1] at h0
  exact ⟨h0.trans rfl, hk⟩

end Cert.Proof.AddClaims

end
-- ==== Proof.AddChipClaims.lean ====
/- The sum of the four chips' gradients against its reference: the sums are equal. -/
module

public import proofs.«01_k».proof.Defs
public import proofs.«01_k».proof.Proof.Gen.Kernel21Ideal.Value
public import proofs.«01_k».proof.Proof.Gen.Reference21Ideal.Run
public import Idealize.ShloMosaic.Lib.IdealHost
public import Idealize.ShloMosaic.Lib.Pointwise

@[expose] public section

set_option maxRecDepth 16384

noncomputable section

/-! ## The kernel's result, entry by entry -/

namespace Cert.Kernel21Ideal.AddChip

open Idealize.ShloMosaic Idealize.ShloMosaic.Pointwise Idealize.SL.Sem Cert.Kernel21Ideal Cert.Kernel21Ideal.Gen

theorem hz : (![0, 0] : Fin 2 → Nat) = fun _ => 0 := funext fun a => by fin_cases a <;> rfl

theorem pay1_apply (v0 v3 v7 v11 : Vec Ideal S1x64x1576 .bf16) (r : Fin 64) (d : Fin 1576) :
    (k0_pay1 v0 v3 v7 v11 (ix2 r d) : EReal) = v0 (ix3 0 r d) + v3 (ix3 0 r d) + v7 (ix3 0 r d) + v11 (ix3 0 r d) := by
  pointwise [k0_pay1]

variable (m : (ℓ : Loc nD τ sig) → Buf (Elt Ideal) ℓ) (c : Dev nD)

abbrev b0 : FVec Ideal S4x2048x1576 .bf16 := m ((c.tc : Thread nD τ).loc main_arg0)

theorem lt32 (t : Fin cfg0.N) : t.val < 32 := lt_of_lt_of_eq t.isLt N_0
/-- The array's row of row `r` of block `t`. -/
abbrev row (t : Fin cfg0.N) (r : Fin 64) : Fin 2048 := ⟨t.val * 64 + r.val, by have := lt32 t; omega⟩

abbrev Walks (t : Fin grid0.N) : Prop :=
  (win0_0.index t 0 = 0 ∧ win0_0.index t 1 = t.val ∧ win0_0.index t 2 = 0) ∧ (win0_1.index t 0 = t.val ∧ win0_1.index t 1 = 0)
theorem walks : ∀ t : Fin grid0.N, Walks t := by decide +kernel

theorem x0_apply (t : Fin cfg0.N) (p : Fin 4) (r : Fin 64) (d : Fin 1576) : iblk m c 0 t (ix3 p r d) = b0 m c (ix3 p (row t r) d) := by
  show V m c main_arg0 _ = _
  refine congrArg (b0 m c) (funext fun a => Fin.ext ?_)
  match a with
  | ⟨0, _⟩ => show win0_0.index t 0 * 4 + 1 * p.val = p.val; rw [(walks t).1.1]; omega
  | ⟨1, _⟩ => show win0_0.index t 1 * 64 + 1 * r.val = t.val * 64 + r.val; rw [(walks t).1.2.1]; omega
  | ⟨2, _⟩ => show win0_0.index t 2 * 1576 + 1 * d.val = d.val; rw [(walks t).1.2.2]; omega

/-- One chip's rows of a block. -/
theorem ld_chip (x : Vec Ideal S4x64x1576 .bf16) (p : Fin 4) (hin) (r : Fin 64) (d : Fin 1576) :
    View.ld x (Rect.unit (s := S4x64x1576) ![p.val, 0, 0] S1x64x1576.size hin) (ix3 0 r d) = x (ix3 p r d) := by
  refine congrArg x (funext fun a => Fin.ext ?_)
  match a with
  | ⟨0, _⟩ => show p.val + 1 * 0 = p.val; omega
  | ⟨1, _⟩ => show 0 + 1 * r.val = r.val; omega
  | ⟨2, _⟩ => show 0 + 1 * d.val = d.val; omega

theorem block (t : Fin cfg0.N) (r : Fin 64) (d : Fin 1576) :
    ((dats m 0 c).arrAt 1 cfg0.N (ix2 (row t r) d) : EReal) = ∑ p, (b0 m c (ix3 p (row t r) d) : EReal) := by
  have h := congrFun (Value.blocks1 m c t (flush0_1 t)) (ix2 r d)
  refine Eq.trans ?_ (h.trans ?_)
  · show (dats m 0 c).arrAt 1 cfg0.N _ = (dats m 0 c).arrAt 1 cfg0.N _
    refine congrArg _ (funext fun a => Fin.ext ?_)
    match a with
    | ⟨0, _⟩ => show t.val * 64 + r.val = win0_1.index t 0 * 64 + 1 * r.val; rw [(walks t).2.1]; omega
    | ⟨1, _⟩ => show d.val = win0_1.index t 1 * 1576 + 1 * d.val; rw [(walks t).2.2]; omega
  · rw [Value.flushed1]
    show out0_1 (iblk m c 0 t) (ix2 r d) = _
    unfold out0_1
    rw [View.canon_unit_zero hz]
    refine (pay1_apply _ _ _ _ r d).trans ?_
    rw [Fin.sum_univ_four, ← x0_apply, ← x0_apply, ← x0_apply, ← x0_apply]
    exact congrArg₂ (· + ·) (congrArg₂ (· + ·) (congrArg₂ (· + ·) (ld_chip _ 0 _ r d) (ld_chip _ 1 _ r d)) (ld_chip _ 2 _ r d)) (ld_chip _ 3 _ r d)

theorem res (l : Fin 2048) (d : Fin 1576) :
    ((dats m 0 c).arrAt 1 cfg0.N (ix2 l d) : EReal) = ∑ p, (b0 m c (ix3 p l d) : EReal) := by
  have e : l = row ⟨l.val / 64, lt_of_lt_of_eq (by omega : l.val / 64 < 32) N_0.symm⟩ ⟨l.val % 64, by omega⟩ :=
    Fin.ext (by show l.val = l.val / 64 * 64 + l.val % 64; omega)
  rw [e]
  exact block m c _ _ d

end Cert.Kernel21Ideal.AddChip

namespace Cert.Proof.AddChipClaims

open Idealize.ShloMosaic Idealize.ShloMosaic.Pointwise Idealize.SL.Sem Cert.Reference21Ideal Cert.Reference21Ideal.Gen
open Cert.Kernel21Ideal.AddChip (b0 res)

/-- The sum over the chips on the host. -/
def rSum (x : FVec Ideal S4x2048x1576 .bf16) : FVec Ideal S2048x1576 .f32 :=
  Host.reduceAdd (extf .f32 x bitsLt_bf16_f32) (constant S_ .f32 0x00000000#32) reducesTo_S4x2048x1576_S2048x1576_d0 h_S_

theorem rSum_apply (x : FVec Ideal S4x2048x1576 .bf16) (l : Fin 2048) (d : Fin 1576) : (rSum x (ix2 l d) : EReal) = ∑ p, (x (ix3 p l d) : EReal) := by
  pointwise [rSum]

theorem eq1 (m : (ℓ : Loc Cert.Kernel21Ideal.nD Cert.Kernel21Ideal.τ Cert.Kernel21Ideal.sig) → Buf (Elt Ideal) ℓ) (c : Dev Cert.Kernel21Ideal.nD) :
    (Cert.Kernel21Ideal.Gen.dats m 0 c).arrAt 1 Cert.Kernel21Ideal.cfg0.N = rSum (b0 m c) := by
  refine funext fun i => ?_
  idx_vars i
  exact (res m c i0 i1).trans (rSum_apply _ i0 i1).symm

theorem algebraic : Cert.algebraic_Kernel21Ideal_Reference21Ideal := by
  intro m ρ m' ρ' _ hag
  refine ⟨fun c => (Cert.Kernel21Ideal.Gen.dats m 0 c).arrAt 1 Cert.Kernel21Ideal.cfg0.N, Cert.Kernel21Ideal.Value.run_blocks m ρ, ?_⟩
  refine (θ_run Cert.Reference21Ideal.defs _ _).mono (fun _ h c => ?_) (Cert.Reference21Ideal.Value.run (F := Ideal) m' ρ')
  obtain ⟨h0, hk⟩ := h c
  have a0 := hag c
  rw [a0] at h0
  exact ⟨(h0.trans (show _ = rSum (b0 m c) from rfl)).trans (eq1 m c).symm, hk⟩

end Cert.Proof.AddChipClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Pre_finite12
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.GateClaims
public import proofs.«01_k».proof.Proof.MlaClaims
public import proofs.«01_k».proof.Proof.LossClaims
public import proofs.«01_k».proof.Proof.DgradClaims
public import proofs.«01_k».proof.Proof.DilPrepClaims
public import proofs.«01_k».proof.Proof.MlaPrepClaims
public import proofs.«01_k».proof.Proof.MlaFwdClaims
public import proofs.«01_k».proof.Proof.RmsFwdClaims
public import proofs.«01_k».proof.Proof.MergeClaims
public import proofs.«01_k».proof.Proof.DilFwdPrepClaims
public import proofs.«01_k».proof.Proof.MlaFwdPrepClaims
public import proofs.«01_k».proof.Proof.MmClaims
public import proofs.«01_k».proof.Proof.AdamClaims
public import proofs.«01_k».proof.Proof.AddClaims
public import proofs.«01_k».proof.Proof.AddChipClaims

@[expose] public section

noncomputable section

namespace Cert.Proof

open Idealize.ShloMosaic Idealize.SL.Sem Cert.Kernel

theorem frame_k : Cert.quiescent_Kernel := fun m ρ _ => Cert.Kernel.Gen.frame m ρ
theorem frame_ki : Cert.quiescent_KernelIdeal := fun m ρ _ => Cert.KernelIdeal.Gen.frame m ρ
theorem frame_ki_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => ((h c).2.2.2.2.2), sem_eq_zero_of_no_sems (by decide) r.2⟩)
    (Cert.ReferenceIdeal.Value.run (F := Ideal) m ρ)
theorem frame_ri_finite : Cert.quiescent_ReferenceIdeal_pre_finite := fun m ρ _ =>
  (θ_run Cert.ReferenceIdeal.defs _ _).mono (fun r h => ⟨fun c => ((h c).2.2.2.2.2), sem_eq_zero_of_no_sems (by decide) r.2⟩)
    (Cert.ReferenceIdeal.Value.run (F := Ideal) m ρ)

theorem frame_k2 : Cert.quiescent_Kernel2 := fun m ρ _ => Cert.Kernel2Ideal.Mla.frame_bits m ρ
theorem frame_k2i : Cert.quiescent_Kernel2Ideal := fun m ρ _ => Cert.Kernel2Ideal.Mla.frame m ρ
theorem frame_k2i_finite : Cert.quiescent_Kernel2Ideal_pre_finite2 := fun m ρ _ => Cert.Kernel2Ideal.Mla.frame m ρ
theorem frame_r2i : Cert.quiescent_Reference2Ideal := fun m ρ _ => MlaClaims.frame_ri m ρ trivial
theorem frame_r2i_finite : Cert.quiescent_Reference2Ideal_pre_finite2 := fun m ρ _ => MlaClaims.frame_ri m ρ trivial

theorem frame_k3 : Cert.quiescent_Kernel3 := fun m ρ _ => Cert.Kernel3.Gen.frame m ρ
theorem frame_k3i : Cert.quiescent_Kernel3Ideal := fun m ρ _ => Cert.Kernel3Ideal.Gen.frame m ρ
theorem frame_k3i_finite : Cert.quiescent_Kernel3Ideal_pre_finite3 := fun m ρ _ => Cert.Kernel3Ideal.Gen.frame m ρ
theorem frame_r3i : Cert.quiescent_Reference3Ideal := fun m ρ _ =>
  (θ_run Cert.Reference3Ideal.defs _ _).mono (fun r h => ⟨fun c => ((h c).2.2.2), sem_eq_zero_of_no_sems (by decide) r.2⟩)
    (Cert.Reference3Ideal.Value.run (F := Ideal) m ρ)
theorem frame_r3i_finite : Cert.quiescent_Reference3Ideal_pre_finite3 := fun m ρ _ =>
  (θ_run Cert.Reference3Ideal.defs _ _).mono (fun r h => ⟨fun c => ((h c).2.2.2), sem_eq_zero_of_no_sems (by decide) r.2⟩)
    (Cert.Reference3Ideal.Value.run (F := Ideal) m ρ)

theorem frame_k4 : Cert.quiescent_Kernel4 := fun m ρ _ => Cert.Kernel4.Gen.frame m ρ
theorem frame_k4i : Cert.quiescent_Kernel4Ideal := fun m ρ _ => Cert.Kernel4Ideal.Gen.frame m ρ
theorem frame_k4i_finite : Cert.quiescent_Kernel4Ideal_pre_finite4 := fun m ρ _ => Cert.Kernel4Ideal.Gen.frame m ρ
theorem frame_r4i : Cert.quiescent_Reference4Ideal := fun m ρ _ =>
  (θ_run Cert.Reference4Ideal.defs _ _).mono (fun r h => ⟨fun c => ((h c).2.2), sem_eq_zero_of_no_sems (by decide) r.2⟩)
    (Cert.Reference4Ideal.Value.run (F := Ideal) m ρ)
theorem frame_r4i_finite : Cert.quiescent_Reference4Ideal_pre_finite4 := fun m ρ _ =>
  (θ_run Cert.Reference4Ideal.defs _ _).mono (fun r h => ⟨fun c => ((h c).2.2), sem_eq_zero_of_no_sems (by decide) r.2⟩)
    (Cert.Reference4Ideal.Value.run (F := Ideal) m ρ)

theorem frame_k5 : Cert.quiescent_Kernel5 := fun m ρ _ => Cert.Kernel5.Gen.frame m ρ
theorem frame_k5i : Cert.quiescent_Kernel5Ideal := fun m ρ _ => Cert.Kernel5Ideal.Gen.frame m ρ
theorem frame_r5i : Cert.quiescent_Reference5Ideal := fun m ρ _ =>
  (θ_run Cert.Reference5Ideal.defs _ _).mono (fun r h => ⟨fun c => ((h c).2), sem_eq_zero_of_no_sems (by decide) r.2⟩)
    (Cert.Reference5Ideal.Value.run (F := Ideal) m ρ)

theorem frame_k6 : Cert.quiescent_Kernel6 := fun m ρ _ => Cert.Kernel6.Gen.frame m ρ
theorem frame_k6i : Cert.quiescent_Kernel6Ideal := fun m ρ _ => Cert.Kernel6Ideal.Gen.frame m ρ
theorem frame_k6i_finite : Cert.quiescent_Kernel6Ideal_pre_finite6 := fun m ρ _ => Cert.Kernel6Ideal.Gen.frame m ρ
theorem frame_r6i : Cert.quiescent_Reference6Ideal := fun m ρ _ =>
  (θ_run Cert.Reference6Ideal.defs _ _).mono (fun r h => ⟨fun c => ((h c).2.2.2.2.2), sem_eq_zero_of_no_sems (by decide) r.2⟩)
    (Cert.Reference6Ideal.Value.run (F := Ideal) m ρ)
theorem frame_r6i_finite : Cert.quiescent_Reference6Ideal_pre_finite6 := fun m ρ _ =>
  (θ_run Cert.Reference6Ideal.defs _ _).mono (fun r h => ⟨fun c => ((h c).2.2.2.2.2), sem_eq_zero_of_no_sems (by decide) r.2⟩)
    (Cert.Reference6Ideal.Value.run (F := Ideal) m ρ)

theorem frame_k7 : Cert.quiescent_Kernel7 := fun m ρ _ => Cert.Kernel7.Gen.frame m ρ
theorem frame_k7i : Cert.quiescent_Kernel7Ideal := fun m ρ _ => Cert.Kernel7Ideal.Gen.frame m ρ
theorem frame_k7i_finite : Cert.quiescent_Kernel7Ideal_pre_finite7 := fun m ρ _ => Cert.Kernel7Ideal.Gen.frame m ρ
theorem frame_r7i : Cert.quiescent_Reference7Ideal := fun m ρ _ =>
  (θ_run Cert.Reference7Ideal.defs _ _).mono (fun r h => ⟨fun c => ((h c).2.2), sem_eq_zero_of_no_sems (by decide) r.2⟩)
    (Cert.Reference7Ideal.Value.run (F := Ideal) m ρ)
theorem frame_r7i_finite : Cert.quiescent_Reference7Ideal_pre_finite7 := fun m ρ _ =>
  (θ_run Cert.Reference7Ideal.defs _ _).mono (fun r h => ⟨fun c => ((h c).2.2), sem_eq_zero_of_no_sems (by decide) r.2⟩)
    (Cert.Reference7Ideal.Value.run (F := Ideal) m ρ)

theorem frame_k8 : Cert.quiescent_Kernel8 := fun m ρ _ => Cert.Kernel8.Gen.frame m ρ
theorem frame_k8i : Cert.quiescent_Kernel8Ideal := fun m ρ _ => Cert.Kernel8Ideal.Gen.frame m ρ
theorem frame_r8i : Cert.quiescent_Reference8Ideal := fun m ρ _ =>
  (θ_run Cert.Reference8Ideal.defs _ _).mono (fun r h => ⟨fun c => ((h c).2.2.2), sem_eq_zero_of_no_sems (by decide) r.2⟩)
    (Cert.Reference8Ideal.Value.run (F := Ideal) m ρ)

theorem frame_k9 : Cert.quiescent_Kernel9 := fun m ρ _ => Cert.Kernel9.Gen.frame m ρ
theorem frame_k9i : Cert.quiescent_Kernel9Ideal := fun m ρ _ => Cert.Kernel9Ideal.Gen.frame m ρ
theorem frame_r9i : Cert.quiescent_Reference9Ideal := fun m ρ _ =>
  (θ_run Cert.Reference9Ideal.defs _ _).mono (fun r h => ⟨fun c => ((h c).2.2.2), sem_eq_zero_of_no_sems (by decide) r.2⟩)
    (Cert.Reference9Ideal.Value.run (F := Ideal) m ρ)

theorem frame_k11 : Cert.quiescent_Kernel11 := fun m ρ _ => Cert.Kernel11.Gen.frame m ρ
theorem frame_k11i : Cert.quiescent_Kernel11Ideal := fun m ρ _ => Cert.Kernel11Ideal.Gen.frame m ρ
theorem frame_r11i : Cert.quiescent_Reference11Ideal := fun m ρ _ =>
  (θ_run Cert.Reference11Ideal.defs _ _).mono (fun r h => ⟨fun c => ((h c).2), sem_eq_zero_of_no_sems (by decide) r.2⟩)
    (Cert.Reference11Ideal.Value.run (F := Ideal) m ρ)

theorem frame_k12 : Cert.quiescent_Kernel12 := fun m ρ _ => Cert.Kernel12.Gen.frame m ρ
theorem frame_k12i : Cert.quiescent_Kernel12Ideal := fun m ρ _ => Cert.Kernel12Ideal.Gen.frame m ρ
theorem frame_k12i_finite : Cert.quiescent_Kernel12Ideal_pre_finite12 := fun m ρ _ => Cert.Kernel12Ideal.Gen.frame m ρ
theorem frame_r12i : Cert.quiescent_Reference12Ideal := fun m ρ _ =>
  (θ_run Cert.Reference12Ideal.defs _ _).mono (fun r h => ⟨fun c => ((h c).2.2.2), sem_eq_zero_of_no_sems (by decide) r.2⟩)
    (Cert.Reference12Ideal.Value.run (F := Ideal) m ρ)
theorem frame_r12i_finite : Cert.quiescent_Reference12Ideal_pre_finite12 := fun m ρ _ =>
  (θ_run Cert.Reference12Ideal.defs _ _).mono (fun r h => ⟨fun c => ((h c).2.2.2), sem_eq_zero_of_no_sems (by decide) r.2⟩)
    (Cert.Reference12Ideal.Value.run (F := Ideal) m ρ)

theorem frame_k13 : Cert.quiescent_Kernel13 := fun m ρ _ => Cert.Kernel13.Gen.frame m ρ
theorem frame_k13i : Cert.quiescent_Kernel13Ideal := fun m ρ _ => Cert.Kernel13Ideal.Gen.frame m ρ
theorem frame_r13i : Cert.quiescent_Reference13Ideal := fun m ρ _ =>
  (θ_run Cert.Reference13Ideal.defs _ _).mono (fun r h => ⟨fun c => ((h c).2.2.2.2.2.2.2.2.2), sem_eq_zero_of_no_sems (by decide) r.2⟩)
    (Cert.Reference13Ideal.Value.run (F := Ideal) m ρ)

theorem frame_k14 : Cert.quiescent_Kernel14 := fun m ρ _ => Cert.Kernel14.Gen.frame m ρ
theorem frame_k14i : Cert.quiescent_Kernel14Ideal := fun m ρ _ => Cert.Kernel14Ideal.Gen.frame m ρ
theorem frame_r14i : Cert.quiescent_Reference14Ideal := fun m ρ _ =>
  (θ_run Cert.Reference14Ideal.defs _ _).mono (fun r h => ⟨fun c => ((h c).2.2.2.2.2), sem_eq_zero_of_no_sems (by decide) r.2⟩)
    (Cert.Reference14Ideal.Value.run (F := Ideal) m ρ)

theorem frame_k15 : Cert.quiescent_Kernel15 := fun m ρ _ => Cert.Kernel15.Gen.frame m ρ
theorem frame_k15i : Cert.quiescent_Kernel15Ideal := fun m ρ _ => Cert.Kernel15Ideal.Gen.frame m ρ
theorem frame_r15i : Cert.quiescent_Reference15Ideal := fun m ρ _ =>
  (θ_run Cert.Reference15Ideal.defs _ _).mono (fun r h => ⟨fun c => ((h c).2.2), sem_eq_zero_of_no_sems (by decide) r.2⟩)
    (Cert.Reference15Ideal.Value.run (F := Ideal) m ρ)

theorem frame_k16 : Cert.quiescent_Kernel16 := fun m ρ _ => Cert.Kernel16.Gen.frame m ρ
theorem frame_k16i : Cert.quiescent_Kernel16Ideal := fun m ρ _ => Cert.Kernel16Ideal.Gen.frame m ρ
theorem frame_r16i : Cert.quiescent_Reference16Ideal := fun m ρ _ =>
  (θ_run Cert.Reference16Ideal.defs _ _).mono (fun r h => ⟨fun c => ((h c).2.2), sem_eq_zero_of_no_sems (by decide) r.2⟩)
    (Cert.Reference16Ideal.Value.run (F := Ideal) m ρ)

theorem frame_k17 : Cert.quiescent_Kernel17 := fun m ρ _ => Cert.Kernel17.Gen.frame m ρ
theorem frame_k17i : Cert.quiescent_Kernel17Ideal := fun m ρ _ => Cert.Kernel17Ideal.Gen.frame m ρ
theorem frame_r17i : Cert.quiescent_Reference17Ideal := fun m ρ _ =>
  (θ_run Cert.Reference17Ideal.defs _ _).mono (fun r h => ⟨fun c => ((h c).2.2), sem_eq_zero_of_no_sems (by decide) r.2⟩)
    (Cert.Reference17Ideal.Value.run (F := Ideal) m ρ)

theorem frame_k18 : Cert.quiescent_Kernel18 := fun m ρ _ => Cert.Kernel18.Gen.frame m ρ
theorem frame_k18i : Cert.quiescent_Kernel18Ideal := fun m ρ _ => Cert.Kernel18Ideal.Gen.frame m ρ
theorem frame_r18i : Cert.quiescent_Reference18Ideal := fun m ρ _ =>
  (θ_run Cert.Reference18Ideal.defs _ _).mono (fun r h => ⟨fun c => ((h c).2), sem_eq_zero_of_no_sems (by decide) r.2⟩)
    (Cert.Reference18Ideal.Value.run (F := Ideal) m ρ)

theorem frame_k19 : Cert.quiescent_Kernel19 := fun m ρ _ => Cert.Kernel19.Gen.frame m ρ
theorem frame_k19i : Cert.quiescent_Kernel19Ideal := fun m ρ _ => Cert.Kernel19Ideal.Gen.frame m ρ
theorem frame_r19i : Cert.quiescent_Reference19Ideal := fun m ρ _ =>
  (θ_run Cert.Reference19Ideal.defs _ _).mono (fun r h => ⟨fun c => ((h c).2.2.2), sem_eq_zero_of_no_sems (by decide) r.2⟩)
    (Cert.Reference19Ideal.Value.run (F := Ideal) m ρ)

theorem frame_k20 : Cert.quiescent_Kernel20 := fun m ρ _ => Cert.Kernel20.Gen.frame m ρ
theorem frame_k20i : Cert.quiescent_Kernel20Ideal := fun m ρ _ => Cert.Kernel20Ideal.Gen.frame m ρ
theorem frame_r20i : Cert.quiescent_Reference20Ideal := fun m ρ _ =>
  (θ_run Cert.Reference20Ideal.defs _ _).mono (fun r h => ⟨fun c => ((h c).2), sem_eq_zero_of_no_sems (by decide) r.2⟩)
    (Cert.Reference20Ideal.Value.run (F := Ideal) m ρ)

theorem frame_k21 : Cert.quiescent_Kernel21 := fun m ρ _ => Cert.Kernel21.Gen.frame m ρ
theorem frame_k21i : Cert.quiescent_Kernel21Ideal := fun m ρ _ => Cert.Kernel21Ideal.Gen.frame m ρ
theorem frame_r21i : Cert.quiescent_Reference21Ideal := fun m ρ _ =>
  (θ_run Cert.Reference21Ideal.defs _ _).mono (fun r h => ⟨fun c => ((h c).2), sem_eq_zero_of_no_sems (by decide) r.2⟩)
    (Cert.Reference21Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts,
  Cert.Pre_finite.Gen.facts, Cert.Pre_finite2.Gen.facts, Cert.Pre_finite3.Gen.facts, Cert.Pre_finite4.Gen.facts, Cert.Pre_finite6.Gen.facts, Cert.Pre_finite7.Gen.facts, Cert.Pre_finite12.Gen.facts,
  frame_k, frame_ki, frame_ki_finite, frame_ri, frame_ri_finite, frame_k2, frame_k2i, frame_k2i_finite, frame_r2i, frame_r2i_finite, frame_k3, frame_k3i, frame_k3i_finite, frame_r3i, frame_r3i_finite, frame_k4, frame_k4i, frame_k4i_finite, frame_r4i, frame_r4i_finite, frame_k5, frame_k5i, frame_r5i, frame_k6, frame_k6i, frame_k6i_finite, frame_r6i, frame_r6i_finite, frame_k7, frame_k7i, frame_k7i_finite, frame_r7i, frame_r7i_finite, frame_k8, frame_k8i, frame_r8i, frame_k9, frame_k9i, frame_r9i, frame_k11, frame_k11i, frame_r11i, frame_k12, frame_k12i, frame_k12i_finite, frame_r12i, frame_r12i_finite, frame_k13, frame_k13i, frame_r13i, frame_k14, frame_k14i, frame_r14i, frame_k15, frame_k15i, frame_r15i, frame_k16, frame_k16i, frame_r16i, frame_k17, frame_k17i, frame_r17i, frame_k18, frame_k18i, frame_r18i, frame_k19, frame_k19i, frame_r19i, frame_k20, frame_k20i, frame_r20i, frame_k21, frame_k21i, frame_r21i,
  trivial,
  GateClaims.algebraic,
  trivial,
  MlaClaims.algebraic,
  trivial,
  LossClaims.algebraic,
  trivial,
  DgradClaims.algebraic,
  IdealRules.named_const.statement _ _ _ _ _ rfl,
  DilPrepClaims.algebraic,
  ⟨IdealRules.named_const.statement _ _ _ _ _ rfl, IdealRules.named_const.statement _ _ _ _ _ rfl⟩,
  MlaPrepClaims.algebraic,
  ⟨IdealRules.named_const.statement _ _ _ _ _ rfl, IdealRules.named_const.statement _ _ _ _ _ rfl⟩,
  MlaFwdClaims.algebraic,
  IdealRules.named_const.statement _ _ _ _ _ rfl,
  IdealRules.named_const.statement _ _ _ _ _ rfl,
  trivial,
  RmsFwdClaims.algebraic,
  IdealRules.named_const.statement _ _ _ _ _ rfl,
  MergeClaims.algebraic,
  IdealRules.named_const.statement _ _ _ _ _ rfl,
  DilFwdPrepClaims.algebraic,
  IdealRules.named_const.statement _ _ _ _ _ rfl,
  MlaFwdPrepClaims.algebraic,
  ⟨IdealRules.named_const.statement _ _ _ _ _ rfl, IdealRules.named_const.statement _ _ _ _ _ rfl⟩,
  ⟨IdealRules.named_const.statement _ _ _ _ _ rfl, IdealRules.named_const.statement _ _ _ _ _ rfl⟩,
  ⟨IdealRules.named_const.statement _ _ _ _ _ rfl, IdealRules.named_const.statement _ _ _ _ _ rfl⟩,
  trivial,
  MmClaims.algebraic,
  trivial,
  AdamClaims.algebraic,
  trivial,
  AddClaims.algebraic,
  trivial,
  AddChipClaims.algebraic⟩

end Cert.Proof

end
